-- ==== Defs.lean ====
def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Glob (m : (ℓ : Loc Cert.Glob.nD Cert.Glob.τ Cert.Glob.sig) → Buf (Elt Bits) ℓ) : Prop :=
  True

def Pre_GlobIdeal (m : (ℓ : Loc Cert.GlobIdeal.nD Cert.GlobIdeal.τ Cert.GlobIdeal.sig) → Buf (Elt Ideal) ℓ) : Prop :=
  True

def Pre_GlobIdeal_glob_finite [hPre_glob_finite : Cert.Pre_glob_finite.Facts] (m : (ℓ : Loc Cert.GlobIdeal.nD Cert.GlobIdeal.τ Cert.GlobIdeal.sig) → Buf (Elt Ideal) ℓ) : Prop :=
  ∀ c : Dev Cert.GlobIdeal.nD,
    (Cert.Pre_glob_finite.fn (F := Ideal) (m ((c.tc : Thread Cert.GlobIdeal.nD Cert.GlobIdeal.τ).loc Cert.GlobIdeal.main_arg0)) (m ((c.tc : Thread Cert.GlobIdeal.nD Cert.GlobIdeal.τ).loc Cert.GlobIdeal.main_arg1)) (m ((c.tc : Thread Cert.GlobIdeal.nD Cert.GlobIdeal.τ).loc Cert.GlobIdeal.main_arg2)) (m ((c.tc : Thread Cert.GlobIdeal.nD Cert.GlobIdeal.τ).loc Cert.GlobIdeal.main_arg3)) (m ((c.tc : Thread Cert.GlobIdeal.nD Cert.GlobIdeal.τ).loc Cert.GlobIdeal.main_arg4)) (m ((c.tc : Thread Cert.GlobIdeal.nD Cert.GlobIdeal.τ).loc Cert.GlobIdeal.main_arg5))) = (fun _ => 1#1)

def Pre_GlobRefIdeal (m : (ℓ : Loc Cert.GlobRefIdeal.nD Cert.GlobRefIdeal.τ Cert.GlobRefIdeal.sig) → Buf (Elt Ideal) ℓ) : Prop :=
  True

def Pre_GlobRefIdeal_glob_finite [hPre_glob_finite : Cert.Pre_glob_finite.Facts] (m : (ℓ : Loc Cert.GlobRefIdeal.nD Cert.GlobRefIdeal.τ Cert.GlobRefIdeal.sig) → Buf (Elt Ideal) ℓ) : Prop :=
  ∀ c : Dev Cert.GlobRefIdeal.nD,
    (Cert.Pre_glob_finite.fn (F := Ideal) (m ((c.tc : Thread Cert.GlobRefIdeal.nD Cert.GlobRefIdeal.τ).loc Cert.GlobRefIdeal.main_arg0)) (m ((c.tc : Thread Cert.GlobRefIdeal.nD Cert.GlobRefIdeal.τ).loc Cert.GlobRefIdeal.main_arg1)) (m ((c.tc : Thread Cert.GlobRefIdeal.nD Cert.GlobRefIdeal.τ).loc Cert.GlobRefIdeal.main_arg2)) (m ((c.tc : Thread Cert.GlobRefIdeal.nD Cert.GlobRefIdeal.τ).loc Cert.GlobRefIdeal.main_arg3)) (m ((c.tc : Thread Cert.GlobRefIdeal.nD Cert.GlobRefIdeal.τ).loc Cert.GlobRefIdeal.main_arg4)) (m ((c.tc : Thread Cert.GlobRefIdeal.nD Cert.GlobRefIdeal.τ).loc Cert.GlobRefIdeal.main_arg5))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7)) (m ((c.tc : Thread Cert.UpIdeal.nD Cert.UpIdeal.τ).loc Cert.UpIdeal.main_arg8))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7)) (m ((c.tc : Thread Cert.UpRefIdeal.nD Cert.UpRefIdeal.τ).loc Cert.UpRefIdeal.main_arg8))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5)) (m ((c.tc : Thread Cert.DownIdeal.nD Cert.DownIdeal.τ).loc Cert.DownIdeal.main_arg6))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_finite [hPre_down_finite : Cert.Pre_down_finite.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_finite.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5)) (m ((c.tc : Thread Cert.DownRefIdeal.nD Cert.DownRefIdeal.τ).loc Cert.DownRefIdeal.main_arg6))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9)) (m ((c.tc : Thread Cert.PrepIdeal.nD Cert.PrepIdeal.τ).loc Cert.PrepIdeal.main_arg10)) (m ((c.tc : Thread Cert.PrepIdeal.nD Cert.PrepIdeal.τ).loc Cert.PrepIdeal.main_arg11)) (m ((c.tc : Thread Cert.PrepIdeal.nD Cert.PrepIdeal.τ).loc Cert.PrepIdeal.main_arg12)) (m ((c.tc : Thread Cert.PrepIdeal.nD Cert.PrepIdeal.τ).loc Cert.PrepIdeal.main_arg13))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9)) (m ((c.tc : Thread Cert.PrepRefIdeal.nD Cert.PrepRefIdeal.τ).loc Cert.PrepRefIdeal.main_arg10)) (m ((c.tc : Thread Cert.PrepRefIdeal.nD Cert.PrepRefIdeal.τ).loc Cert.PrepRefIdeal.main_arg11)) (m ((c.tc : Thread Cert.PrepRefIdeal.nD Cert.PrepRefIdeal.τ).loc Cert.PrepRefIdeal.main_arg12)) (m ((c.tc : Thread Cert.PrepRefIdeal.nD Cert.PrepRefIdeal.τ).loc Cert.PrepRefIdeal.main_arg13))) = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3)) (m ((c.tc : Thread Cert.ActIdeal.nD Cert.ActIdeal.τ).loc Cert.ActIdeal.main_arg4))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3)) (m ((c.tc : Thread Cert.ActRefIdeal.nD Cert.ActRefIdeal.τ).loc Cert.ActRefIdeal.main_arg4))) = (fun _ => 1#1)

def Pre_DwMod (m : (ℓ : Loc Cert.DwMod.nD Cert.DwMod.τ Cert.DwMod.sig) → Buf (Elt Bits) ℓ) : Prop :=
  True

def Pre_DwModIdeal (m : (ℓ : Loc Cert.DwModIdeal.nD Cert.DwModIdeal.τ Cert.DwModIdeal.sig) → Buf (Elt Ideal) ℓ) : Prop :=
  True

def Pre_DwModIdeal_dwmod_finite [hPre_dwmod_finite : Cert.Pre_dwmod_finite.Facts] (m : (ℓ : Loc Cert.DwModIdeal.nD Cert.DwModIdeal.τ Cert.DwModIdeal.sig) → Buf (Elt Ideal) ℓ) : Prop :=
  ∀ c : Dev Cert.DwModIdeal.nD,
    (Cert.Pre_dwmod_finite.fn (F := Ideal) (m ((c.tc : Thread Cert.DwModIdeal.nD Cert.DwModIdeal.τ).loc Cert.DwModIdeal.main_arg0)) (m ((c.tc : Thread Cert.DwModIdeal.nD Cert.DwModIdeal.τ).loc Cert.DwModIdeal.main_arg1))) = (fun _ => 1#1)

def Pre_DwModRefIdeal (m : (ℓ : Loc Cert.DwModRefIdeal.nD Cert.DwModRefIdeal.τ Cert.DwModRefIdeal.sig) → Buf (Elt Ideal) ℓ) : Prop :=
  True

def Pre_DwModRefIdeal_dwmod_finite [hPre_dwmod_finite : Cert.Pre_dwmod_finite.Facts] (m : (ℓ : Loc Cert.DwModRefIdeal.nD Cert.DwModRefIdeal.τ Cert.DwModRefIdeal.sig) → Buf (Elt Ideal) ℓ) : Prop :=
  ∀ c : Dev Cert.DwModRefIdeal.nD,
    (Cert.Pre_dwmod_finite.fn (F := Ideal) (m ((c.tc : Thread Cert.DwModRefIdeal.nD Cert.DwModRefIdeal.τ).loc Cert.DwModRefIdeal.main_arg0)) (m ((c.tc : Thread Cert.DwModRefIdeal.nD Cert.DwModRefIdeal.τ).loc Cert.DwModRefIdeal.main_arg1))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwCtx (m : (ℓ : Loc Cert.DwCtx.nD Cert.DwCtx.τ Cert.DwCtx.sig) → Buf (Elt Bits) ℓ) : Prop :=
  True

def Pre_DwCtxIdeal (m : (ℓ : Loc Cert.DwCtxIdeal.nD Cert.DwCtxIdeal.τ Cert.DwCtxIdeal.sig) → Buf (Elt Ideal) ℓ) : Prop :=
  True

def Pre_DwCtxRefIdeal (m : (ℓ : Loc Cert.DwCtxRefIdeal.nD Cert.DwCtxRefIdeal.τ Cert.DwCtxRefIdeal.sig) → Buf (Elt Ideal) ℓ) : Prop :=
  True

def Pre_ModCtx (m : (ℓ : Loc Cert.ModCtx.nD Cert.ModCtx.τ Cert.ModCtx.sig) → Buf (Elt Bits) ℓ) : Prop :=
  True

def Pre_ModCtxIdeal (m : (ℓ : Loc Cert.ModCtxIdeal.nD Cert.ModCtxIdeal.τ Cert.ModCtxIdeal.sig) → Buf (Elt Ideal) ℓ) : Prop :=
  True

def Pre_ModCtxRefIdeal (m : (ℓ : Loc Cert.ModCtxRefIdeal.nD Cert.ModCtxRefIdeal.τ Cert.ModCtxRefIdeal.sig) → Buf (Elt Ideal) ℓ) : Prop :=
  True

def Pre_CCtx (m : (ℓ : Loc Cert.CCtx.nD Cert.CCtx.τ Cert.CCtx.sig) → Buf (Elt Bits) ℓ) : Prop :=
  True

def Pre_CCtxIdeal (m : (ℓ : Loc Cert.CCtxIdeal.nD Cert.CCtxIdeal.τ Cert.CCtxIdeal.sig) → Buf (Elt Ideal) ℓ) : Prop :=
  True

def Pre_CCtxIdeal_cctx_finite [hPre_cctx_finite : Cert.Pre_cctx_finite.Facts] (m : (ℓ : Loc Cert.CCtxIdeal.nD Cert.CCtxIdeal.τ Cert.CCtxIdeal.sig) → Buf (Elt Ideal) ℓ) : Prop :=
  ∀ c : Dev Cert.CCtxIdeal.nD,
    (Cert.Pre_cctx_finite.fn (F := Ideal) (m ((c.tc : Thread Cert.CCtxIdeal.nD Cert.CCtxIdeal.τ).loc Cert.CCtxIdeal.main_arg0)) (m ((c.tc : Thread Cert.CCtxIdeal.nD Cert.CCtxIdeal.τ).loc Cert.CCtxIdeal.main_arg1)) (m ((c.tc : Thread Cert.CCtxIdeal.nD Cert.CCtxIdeal.τ).loc Cert.CCtxIdeal.main_arg2))) = (fun _ => 1#1)

def Pre_CCtxRefIdeal (m : (ℓ : Loc Cert.CCtxRefIdeal.nD Cert.CCtxRefIdeal.τ Cert.CCtxRefIdeal.sig) → Buf (Elt Ideal) ℓ) : Prop :=
  True

def Pre_CCtxRefIdeal_cctx_finite [hPre_cctx_finite : Cert.Pre_cctx_finite.Facts] (m : (ℓ : Loc Cert.CCtxRefIdeal.nD Cert.CCtxRefIdeal.τ Cert.CCtxRefIdeal.sig) → Buf (Elt Ideal) ℓ) : Prop :=
  ∀ c : Dev Cert.CCtxRefIdeal.nD,
    (Cert.Pre_cctx_finite.fn (F := Ideal) (m ((c.tc : Thread Cert.CCtxRefIdeal.nD Cert.CCtxRefIdeal.τ).loc Cert.CCtxRefIdeal.main_arg0)) (m ((c.tc : Thread Cert.CCtxRefIdeal.nD Cert.CCtxRefIdeal.τ).loc Cert.CCtxRefIdeal.main_arg1)) (m ((c.tc : Thread Cert.CCtxRefIdeal.nD Cert.CCtxRefIdeal.τ).loc Cert.CCtxRefIdeal.main_arg2))) = (fun _ => 1#1)

def Pre_PrepCtx (m : (ℓ : Loc Cert.PrepCtx.nD Cert.PrepCtx.τ Cert.PrepCtx.sig) → Buf (Elt Bits) ℓ) : Prop :=
  True

def Pre_PrepCtxIdeal (m : (ℓ : Loc Cert.PrepCtxIdeal.nD Cert.PrepCtxIdeal.τ Cert.PrepCtxIdeal.sig) → Buf (Elt Ideal) ℓ) : Prop :=
  True

def Pre_PrepCtxRefIdeal (m : (ℓ : Loc Cert.PrepCtxRefIdeal.nD Cert.PrepCtxRefIdeal.τ Cert.PrepCtxRefIdeal.sig) → Buf (Elt Ideal) ℓ) : Prop :=
  True

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Glob [hGlob : Cert.Glob.Facts] : Prop :=
  ∀ (m : (ℓ : Loc Cert.Glob.nD Cert.Glob.τ Cert.Glob.sig) → Buf (Elt Bits) ℓ) (g : Dev Cert.Glob.nD → PrngReg), Pre_Glob m →
    θ_run (Cert.Glob.defs (F := Bits)) (onTc (τ := Cert.Glob.τ) (Cert.Glob.main (F := Bits))) ⟨m, fun _ => 0, g⟩ (fun r => (∀ c : Dev Cert.Glob.nD,
      r.2.mem ((c.tc : Thread Cert.Glob.nD Cert.Glob.τ).loc Cert.Glob.main_arg0) = m ((c.tc : Thread Cert.Glob.nD Cert.Glob.τ).loc Cert.Glob.main_arg0)
      ∧ r.2.mem ((c.tc : Thread Cert.Glob.nD Cert.Glob.τ).loc Cert.Glob.main_arg1) = m ((c.tc : Thread Cert.Glob.nD Cert.Glob.τ).loc Cert.Glob.main_arg1)
      ∧ r.2.mem ((c.tc : Thread Cert.Glob.nD Cert.Glob.τ).loc Cert.Glob.main_arg2) = m ((c.tc : Thread Cert.Glob.nD Cert.Glob.τ).loc Cert.Glob.main_arg2)
      ∧ r.2.mem ((c.tc : Thread Cert.Glob.nD Cert.Glob.τ).loc Cert.Glob.main_arg3) = m ((c.tc : Thread Cert.Glob.nD Cert.Glob.τ).loc Cert.Glob.main_arg3)
      ∧ r.2.mem ((c.tc : Thread Cert.Glob.nD Cert.Glob.τ).loc Cert.Glob.main_arg4) = m ((c.tc : Thread Cert.Glob.nD Cert.Glob.τ).loc Cert.Glob.main_arg4)
      ∧ r.2.mem ((c.tc : Thread Cert.Glob.nD Cert.Glob.τ).loc Cert.Glob.main_arg5) = m ((c.tc : Thread Cert.Glob.nD Cert.Glob.τ).loc Cert.Glob.main_arg5))
      ∧ r.2.sem = fun _ => 0)

def quiescent_GlobIdeal [hGlobIdeal : Cert.GlobIdeal.Facts] : Prop :=
  ∀ (m : (ℓ : Loc Cert.GlobIdeal.nD Cert.GlobIdeal.τ Cert.GlobIdeal.sig) → Buf (Elt Ideal) ℓ) (g : Dev Cert.GlobIdeal.nD → PrngReg), Pre_GlobIdeal m →
    θ_run (Cert.GlobIdeal.defs (F := Ideal)) (onTc (τ := Cert.GlobIdeal.τ) (Cert.GlobIdeal.main (F := Ideal))) ⟨m, fun _ => 0, g⟩ (fun r => (∀ c : Dev Cert.GlobIdeal.nD,
      r.2.mem ((c.tc : Thread Cert.GlobIdeal.nD Cert.GlobIdeal.τ).loc Cert.GlobIdeal.main_arg0) = m ((c.tc : Thread Cert.GlobIdeal.nD Cert.GlobIdeal.τ).loc Cert.GlobIdeal.main_arg0)
      ∧ r.2.mem ((c.tc : Thread Cert.GlobIdeal.nD Cert.GlobIdeal.τ).loc Cert.GlobIdeal.main_arg1) = m ((c.tc : Thread Cert.GlobIdeal.nD Cert.GlobIdeal.τ).loc Cert.GlobIdeal.main_arg1)
      ∧ r.2.mem ((c.tc : Thread Cert.GlobIdeal.nD Cert.GlobIdeal.τ).loc Cert.GlobIdeal.main_arg2) = m ((c.tc : Thread Cert.GlobIdeal.nD Cert.GlobIdeal.τ).loc Cert.GlobIdeal.main_arg2)
      ∧ r.2.mem ((c.tc : Thread Cert.GlobIdeal.nD Cert.GlobIdeal.τ).loc Cert.GlobIdeal.main_arg3) = m ((c.tc : Thread Cert.GlobIdeal.nD Cert.GlobIdeal.τ).loc Cert.GlobIdeal.main_arg3)
      ∧ r.2.mem ((c.tc : Thread Cert.GlobIdeal.nD Cert.GlobIdeal.τ).loc Cert.GlobIdeal.main_arg4) = m ((c.tc : Thread Cert.GlobIdeal.nD Cert.GlobIdeal.τ).loc Cert.GlobIdeal.main_arg4)
      ∧ r.2.mem ((c.tc : Thread Cert.GlobIdeal.nD Cert.GlobIdeal.τ).loc Cert.GlobIdeal.main_arg5) = m ((c.tc : Thread Cert.GlobIdeal.nD Cert.GlobIdeal.τ).loc Cert.GlobIdeal.main_arg5))
      ∧ r.2.sem = fun _ => 0)

def quiescent_GlobIdeal_pre_glob_finite [hGlobIdeal : Cert.GlobIdeal.Facts] [hPre_glob_finite : Cert.Pre_glob_finite.Facts] : Prop :=
  ∀ (m : (ℓ : Loc Cert.GlobIdeal.nD Cert.GlobIdeal.τ Cert.GlobIdeal.sig) → Buf (Elt Ideal) ℓ) (g : Dev Cert.GlobIdeal.nD → PrngReg), Pre_GlobIdeal_glob_finite m →
    θ_run (Cert.GlobIdeal.defs (F := Ideal)) (onTc (τ := Cert.GlobIdeal.τ) (Cert.GlobIdeal.main (F := Ideal))) ⟨m, fun _ => 0, g⟩ (fun r => (∀ c : Dev Cert.GlobIdeal.nD,
      r.2.mem ((c.tc : Thread Cert.GlobIdeal.nD Cert.GlobIdeal.τ).loc Cert.GlobIdeal.main_arg0) = m ((c.tc : Thread Cert.GlobIdeal.nD Cert.GlobIdeal.τ).loc Cert.GlobIdeal.main_arg0)
      ∧ r.2.mem ((c.tc : Thread Cert.GlobIdeal.nD Cert.GlobIdeal.τ).loc Cert.GlobIdeal.main_arg1) = m ((c.tc : Thread Cert.GlobIdeal.nD Cert.GlobIdeal.τ).loc Cert.GlobIdeal.main_arg1)
      ∧ r.2.mem ((c.tc : Thread Cert.GlobIdeal.nD Cert.GlobIdeal.τ).loc Cert.GlobIdeal.main_arg2) = m ((c.tc : Thread Cert.GlobIdeal.nD Cert.GlobIdeal.τ).loc Cert.GlobIdeal.main_arg2)
      ∧ r.2.mem ((c.tc : Thread Cert.GlobIdeal.nD Cert.GlobIdeal.τ).loc Cert.GlobIdeal.main_arg3) = m ((c.tc : Thread Cert.GlobIdeal.nD Cert.GlobIdeal.τ).loc Cert.GlobIdeal.main_arg3)
      ∧ r.2.mem ((c.tc : Thread Cert.GlobIdeal.nD Cert.GlobIdeal.τ).loc Cert.GlobIdeal.main_arg4) = m ((c.tc : Thread Cert.GlobIdeal.nD Cert.GlobIdeal.τ).loc Cert.GlobIdeal.main_arg4)
      ∧ r.2.mem ((c.tc : Thread Cert.GlobIdeal.nD Cert.GlobIdeal.τ).loc Cert.GlobIdeal.main_arg5) = m ((c.tc : Thread Cert.GlobIdeal.nD Cert.GlobIdeal.τ).loc Cert.GlobIdeal.main_arg5))
      ∧ r.2.sem = fun _ => 0)

def quiescent_GlobRefIdeal [hGlobRefIdeal : Cert.GlobRefIdeal.Facts] : Prop :=
  ∀ (m : (ℓ : Loc Cert.GlobRefIdeal.nD Cert.GlobRefIdeal.τ Cert.GlobRefIdeal.sig) → Buf (Elt Ideal) ℓ) (g : Dev Cert.GlobRefIdeal.nD → PrngReg), Pre_GlobRefIdeal m →
    θ_run (Cert.GlobRefIdeal.defs (F := Ideal)) (onTc (τ := Cert.GlobRefIdeal.τ) (Cert.GlobRefIdeal.main (F := Ideal))) ⟨m, fun _ => 0, g⟩ (fun r => (∀ c : Dev Cert.GlobRefIdeal.nD,
      r.2.mem ((c.tc : Thread Cert.GlobRefIdeal.nD Cert.GlobRefIdeal.τ).loc Cert.GlobRefIdeal.main_arg0) = m ((c.tc : Thread Cert.GlobRefIdeal.nD Cert.GlobRefIdeal.τ).loc Cert.GlobRefIdeal.main_arg0)
      ∧ r.2.mem ((c.tc : Thread Cert.GlobRefIdeal.nD Cert.GlobRefIdeal.τ).loc Cert.GlobRefIdeal.main_arg1) = m ((c.tc : Thread Cert.GlobRefIdeal.nD Cert.GlobRefIdeal.τ).loc Cert.GlobRefIdeal.main_arg1)
      ∧ r.2.mem ((c.tc : Thread Cert.GlobRefIdeal.nD Cert.GlobRefIdeal.τ).loc Cert.GlobRefIdeal.main_arg2) = m ((c.tc : Thread Cert.GlobRefIdeal.nD Cert.GlobRefIdeal.τ).loc Cert.GlobRefIdeal.main_arg2)
      ∧ r.2.mem ((c.tc : Thread Cert.GlobRefIdeal.nD Cert.GlobRefIdeal.τ).loc Cert.GlobRefIdeal.main_arg3) = m ((c.tc : Thread Cert.GlobRefIdeal.nD Cert.GlobRefIdeal.τ).loc Cert.GlobRefIdeal.main_arg3)
      ∧ r.2.mem ((c.tc : Thread Cert.GlobRefIdeal.nD Cert.GlobRefIdeal.τ).loc Cert.GlobRefIdeal.main_arg4) = m ((c.tc : Thread Cert.GlobRefIdeal.nD Cert.GlobRefIdeal.τ).loc Cert.GlobRefIdeal.main_arg4)
      ∧ r.2.mem ((c.tc : Thread Cert.GlobRefIdeal.nD Cert.GlobRefIdeal.τ).loc Cert.GlobRefIdeal.main_arg5) = m ((c.tc : Thread Cert.GlobRefIdeal.nD Cert.GlobRefIdeal.τ).loc Cert.GlobRefIdeal.main_arg5))
      ∧ r.2.sem = fun _ => 0)

def quiescent_GlobRefIdeal_pre_glob_finite [hGlobRefIdeal : Cert.GlobRefIdeal.Facts] [hPre_glob_finite : Cert.Pre_glob_finite.Facts] : Prop :=
  ∀ (m : (ℓ : Loc Cert.GlobRefIdeal.nD Cert.GlobRefIdeal.τ Cert.GlobRefIdeal.sig) → Buf (Elt Ideal) ℓ) (g : Dev Cert.GlobRefIdeal.nD → PrngReg), Pre_GlobRefIdeal_glob_finite m →
    θ_run (Cert.GlobRefIdeal.defs (F := Ideal)) (onTc (τ := Cert.GlobRefIdeal.τ) (Cert.GlobRefIdeal.main (F := Ideal))) ⟨m, fun _ => 0, g⟩ (fun r => (∀ c : Dev Cert.GlobRefIdeal.nD,
      r.2.mem ((c.tc : Thread Cert.GlobRefIdeal.nD Cert.GlobRefIdeal.τ).loc Cert.GlobRefIdeal.main_arg0) = m ((c.tc : Thread Cert.GlobRefIdeal.nD Cert.GlobRefIdeal.τ).loc Cert.GlobRefIdeal.main_arg0)
      ∧ r.2.mem ((c.tc : Thread Cert.GlobRefIdeal.nD Cert.GlobRefIdeal.τ).loc Cert.GlobRefIdeal.main_arg1) = m ((c.tc : Thread Cert.GlobRefIdeal.nD Cert.GlobRefIdeal.τ).loc Cert.GlobRefIdeal.main_arg1)
      ∧ r.2.mem ((c.tc : Thread Cert.GlobRefIdeal.nD Cert.GlobRefIdeal.τ).loc Cert.GlobRefIdeal.main_arg2) = m ((c.tc : Thread Cert.GlobRefIdeal.nD Cert.GlobRefIdeal.τ).loc Cert.GlobRefIdeal.main_arg2)
      ∧ r.2.mem ((c.tc : Thread Cert.GlobRefIdeal.nD Cert.GlobRefIdeal.τ).loc Cert.GlobRefIdeal.main_arg3) = m ((c.tc : Thread Cert.GlobRefIdeal.nD Cert.GlobRefIdeal.τ).loc Cert.GlobRefIdeal.main_arg3)
      ∧ r.2.mem ((c.tc : Thread Cert.GlobRefIdeal.nD Cert.GlobRefIdeal.τ).loc Cert.GlobRefIdeal.main_arg4) = m ((c.tc : Thread Cert.GlobRefIdeal.nD Cert.GlobRefIdeal.τ).loc Cert.GlobRefIdeal.main_arg4)
      ∧ r.2.mem ((c.tc : Thread Cert.GlobRefIdeal.nD Cert.GlobRefIdeal.τ).loc Cert.GlobRefIdeal.main_arg5) = m ((c.tc : Thread Cert.GlobRefIdeal.nD Cert.GlobRefIdeal.τ).loc Cert.GlobRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3)
      ∧ r.2.mem ((c.tc : Thread Cert.Mod.nD Cert.Mod.τ).loc Cert.Mod.main_arg4) = m ((c.tc : Thread Cert.Mod.nD Cert.Mod.τ).loc Cert.Mod.main_arg4))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
      ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3)
      ∧ r.2.mem ((c.tc : Thread Cert.ModRefIdeal.nD Cert.ModRefIdeal.τ).loc Cert.ModRefIdeal.main_arg4) = m ((c.tc : Thread Cert.ModRefIdeal.nD Cert.ModRefIdeal.τ).loc Cert.ModRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7)
      ∧ r.2.mem ((c.tc : Thread Cert.Up.nD Cert.Up.τ).loc Cert.Up.main_arg8) = m ((c.tc : Thread Cert.Up.nD Cert.Up.τ).loc Cert.Up.main_arg8))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
      ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
      ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7)
      ∧ r.2.mem ((c.tc : Thread Cert.UpRefIdeal.nD Cert.UpRefIdeal.τ).loc Cert.UpRefIdeal.main_arg8) = m ((c.tc : Thread Cert.UpRefIdeal.nD Cert.UpRefIdeal.τ).loc Cert.UpRefIdeal.main_arg8))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7)
      ∧ r.2.mem ((c.tc : Thread Cert.UpRefIdeal.nD Cert.UpRefIdeal.τ).loc Cert.UpRefIdeal.main_arg8) = m ((c.tc : Thread Cert.UpRefIdeal.nD Cert.UpRefIdeal.τ).loc Cert.UpRefIdeal.main_arg8))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_DownRefIdeal_pre_down_finite [hDownRefIdeal : Cert.DownRefIdeal.Facts] [hPre_down_finite : Cert.Pre_down_finite.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_finite m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3)
      ∧ r.2.mem ((c.tc : Thread Cert.Act.nD Cert.Act.τ).loc Cert.Act.main_arg4) = m ((c.tc : Thread Cert.Act.nD Cert.Act.τ).loc Cert.Act.main_arg4))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
      ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3)
      ∧ r.2.mem ((c.tc : Thread Cert.ActRefIdeal.nD Cert.ActRefIdeal.τ).loc Cert.ActRefIdeal.main_arg4) = m ((c.tc : Thread Cert.ActRefIdeal.nD Cert.ActRefIdeal.τ).loc Cert.ActRefIdeal.main_arg4))
      ∧ r.2.sem = fun _ => 0)

def quiescent_DwMod [hDwMod : Cert.DwMod.Facts] : Prop :=
  ∀ (m : (ℓ : Loc Cert.DwMod.nD Cert.DwMod.τ Cert.DwMod.sig) → Buf (Elt Bits) ℓ) (g : Dev Cert.DwMod.nD → PrngReg), Pre_DwMod m →
    θ_run (Cert.DwMod.defs (F := Bits)) (onTc (τ := Cert.DwMod.τ) (Cert.DwMod.main (F := Bits))) ⟨m, fun _ => 0, g⟩ (fun r => (∀ c : Dev Cert.DwMod.nD,
      r.2.mem ((c.tc : Thread Cert.DwMod.nD Cert.DwMod.τ).loc Cert.DwMod.main_arg0) = m ((c.tc : Thread Cert.DwMod.nD Cert.DwMod.τ).loc Cert.DwMod.main_arg0)
      ∧ r.2.mem ((c.tc : Thread Cert.DwMod.nD Cert.DwMod.τ).loc Cert.DwMod.main_arg1) = m ((c.tc : Thread Cert.DwMod.nD Cert.DwMod.τ).loc Cert.DwMod.main_arg1))
      ∧ r.2.sem = fun _ => 0)

def quiescent_DwModIdeal [hDwModIdeal : Cert.DwModIdeal.Facts] : Prop :=
  ∀ (m : (ℓ : Loc Cert.DwModIdeal.nD Cert.DwModIdeal.τ Cert.DwModIdeal.sig) → Buf (Elt Ideal) ℓ) (g : Dev Cert.DwModIdeal.nD → PrngReg), Pre_DwModIdeal m →
    θ_run (Cert.DwModIdeal.defs (F := Ideal)) (onTc (τ := Cert.DwModIdeal.τ) (Cert.DwModIdeal.main (F := Ideal))) ⟨m, fun _ => 0, g⟩ (fun r => (∀ c : Dev Cert.DwModIdeal.nD,
      r.2.mem ((c.tc : Thread Cert.DwModIdeal.nD Cert.DwModIdeal.τ).loc Cert.DwModIdeal.main_arg0) = m ((c.tc : Thread Cert.DwModIdeal.nD Cert.DwModIdeal.τ).loc Cert.DwModIdeal.main_arg0)
      ∧ r.2.mem ((c.tc : Thread Cert.DwModIdeal.nD Cert.DwModIdeal.τ).loc Cert.DwModIdeal.main_arg1) = m ((c.tc : Thread Cert.DwModIdeal.nD Cert.DwModIdeal.τ).loc Cert.DwModIdeal.main_arg1))
      ∧ r.2.sem = fun _ => 0)

def quiescent_DwModIdeal_pre_dwmod_finite [hDwModIdeal : Cert.DwModIdeal.Facts] [hPre_dwmod_finite : Cert.Pre_dwmod_finite.Facts] : Prop :=
  ∀ (m : (ℓ : Loc Cert.DwModIdeal.nD Cert.DwModIdeal.τ Cert.DwModIdeal.sig) → Buf (Elt Ideal) ℓ) (g : Dev Cert.DwModIdeal.nD → PrngReg), Pre_DwModIdeal_dwmod_finite m →
    θ_run (Cert.DwModIdeal.defs (F := Ideal)) (onTc (τ := Cert.DwModIdeal.τ) (Cert.DwModIdeal.main (F := Ideal))) ⟨m, fun _ => 0, g⟩ (fun r => (∀ c : Dev Cert.DwModIdeal.nD,
      r.2.mem ((c.tc : Thread Cert.DwModIdeal.nD Cert.DwModIdeal.τ).loc Cert.DwModIdeal.main_arg0) = m ((c.tc : Thread Cert.DwModIdeal.nD Cert.DwModIdeal.τ).loc Cert.DwModIdeal.main_arg0)
      ∧ r.2.mem ((c.tc : Thread Cert.DwModIdeal.nD Cert.DwModIdeal.τ).loc Cert.DwModIdeal.main_arg1) = m ((c.tc : Thread Cert.DwModIdeal.nD Cert.DwModIdeal.τ).loc Cert.DwModIdeal.main_arg1))
      ∧ r.2.sem = fun _ => 0)

def quiescent_DwModRefIdeal [hDwModRefIdeal : Cert.DwModRefIdeal.Facts] : Prop :=
  ∀ (m : (ℓ : Loc Cert.DwModRefIdeal.nD Cert.DwModRefIdeal.τ Cert.DwModRefIdeal.sig) → Buf (Elt Ideal) ℓ) (g : Dev Cert.DwModRefIdeal.nD → PrngReg), Pre_DwModRefIdeal m →
    θ_run (Cert.DwModRefIdeal.defs (F := Ideal)) (onTc (τ := Cert.DwModRefIdeal.τ) (Cert.DwModRefIdeal.main (F := Ideal))) ⟨m, fun _ => 0, g⟩ (fun r => (∀ c : Dev Cert.DwModRefIdeal.nD,
      r.2.mem ((c.tc : Thread Cert.DwModRefIdeal.nD Cert.DwModRefIdeal.τ).loc Cert.DwModRefIdeal.main_arg0) = m ((c.tc : Thread Cert.DwModRefIdeal.nD Cert.DwModRefIdeal.τ).loc Cert.DwModRefIdeal.main_arg0)
      ∧ r.2.mem ((c.tc : Thread Cert.DwModRefIdeal.nD Cert.DwModRefIdeal.τ).loc Cert.DwModRefIdeal.main_arg1) = m ((c.tc : Thread Cert.DwModRefIdeal.nD Cert.DwModRefIdeal.τ).loc Cert.DwModRefIdeal.main_arg1))
      ∧ r.2.sem = fun _ => 0)

def quiescent_DwModRefIdeal_pre_dwmod_finite [hDwModRefIdeal : Cert.DwModRefIdeal.Facts] [hPre_dwmod_finite : Cert.Pre_dwmod_finite.Facts] : Prop :=
  ∀ (m : (ℓ : Loc Cert.DwModRefIdeal.nD Cert.DwModRefIdeal.τ Cert.DwModRefIdeal.sig) → Buf (Elt Ideal) ℓ) (g : Dev Cert.DwModRefIdeal.nD → PrngReg), Pre_DwModRefIdeal_dwmod_finite m →
    θ_run (Cert.DwModRefIdeal.defs (F := Ideal)) (onTc (τ := Cert.DwModRefIdeal.τ) (Cert.DwModRefIdeal.main (F := Ideal))) ⟨m, fun _ => 0, g⟩ (fun r => (∀ c : Dev Cert.DwModRefIdeal.nD,
      r.2.mem ((c.tc : Thread Cert.DwModRefIdeal.nD Cert.DwModRefIdeal.τ).loc Cert.DwModRefIdeal.main_arg0) = m ((c.tc : Thread Cert.DwModRefIdeal.nD Cert.DwModRefIdeal.τ).loc Cert.DwModRefIdeal.main_arg0)
      ∧ r.2.mem ((c.tc : Thread Cert.DwModRefIdeal.nD Cert.DwModRefIdeal.τ).loc Cert.DwModRefIdeal.main_arg1) = m ((c.tc : Thread Cert.DwModRefIdeal.nD Cert.DwModRefIdeal.τ).loc Cert.DwModRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2)
      ∧ r.2.mem ((c.tc : Thread Cert.DwUp.nD Cert.DwUp.τ).loc Cert.DwUp.main_arg3) = m ((c.tc : Thread Cert.DwUp.nD Cert.DwUp.τ).loc Cert.DwUp.main_arg3))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
      ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2)
      ∧ r.2.mem ((c.tc : Thread Cert.DwUpRefIdeal.nD Cert.DwUpRefIdeal.τ).loc Cert.DwUpRefIdeal.main_arg3) = m ((c.tc : Thread Cert.DwUpRefIdeal.nD Cert.DwUpRefIdeal.τ).loc Cert.DwUpRefIdeal.main_arg3))
      ∧ r.2.sem = fun _ => 0)

def quiescent_DwCtx [hDwCtx : Cert.DwCtx.Facts] : Prop :=
  ∀ (m : (ℓ : Loc Cert.DwCtx.nD Cert.DwCtx.τ Cert.DwCtx.sig) → Buf (Elt Bits) ℓ) (g : Dev Cert.DwCtx.nD → PrngReg), Pre_DwCtx m →
    θ_run (Cert.DwCtx.defs (F := Bits)) (onTc (τ := Cert.DwCtx.τ) (Cert.DwCtx.main (F := Bits))) ⟨m, fun _ => 0, g⟩ (fun r => (∀ c : Dev Cert.DwCtx.nD,
      r.2.mem ((c.tc : Thread Cert.DwCtx.nD Cert.DwCtx.τ).loc Cert.DwCtx.main_arg0) = m ((c.tc : Thread Cert.DwCtx.nD Cert.DwCtx.τ).loc Cert.DwCtx.main_arg0)
      ∧ r.2.mem ((c.tc : Thread Cert.DwCtx.nD Cert.DwCtx.τ).loc Cert.DwCtx.main_arg1) = m ((c.tc : Thread Cert.DwCtx.nD Cert.DwCtx.τ).loc Cert.DwCtx.main_arg1)
      ∧ r.2.mem ((c.tc : Thread Cert.DwCtx.nD Cert.DwCtx.τ).loc Cert.DwCtx.main_arg2) = m ((c.tc : Thread Cert.DwCtx.nD Cert.DwCtx.τ).loc Cert.DwCtx.main_arg2)
      ∧ r.2.mem ((c.tc : Thread Cert.DwCtx.nD Cert.DwCtx.τ).loc Cert.DwCtx.main_arg3) = m ((c.tc : Thread Cert.DwCtx.nD Cert.DwCtx.τ).loc Cert.DwCtx.main_arg3)
      ∧ r.2.mem ((c.tc : Thread Cert.DwCtx.nD Cert.DwCtx.τ).loc Cert.DwCtx.main_arg4) = m ((c.tc : Thread Cert.DwCtx.nD Cert.DwCtx.τ).loc Cert.DwCtx.main_arg4))
      ∧ r.2.sem = fun _ => 0)

def quiescent_DwCtxIdeal [hDwCtxIdeal : Cert.DwCtxIdeal.Facts] : Prop :=
  ∀ (m : (ℓ : Loc Cert.DwCtxIdeal.nD Cert.DwCtxIdeal.τ Cert.DwCtxIdeal.sig) → Buf (Elt Ideal) ℓ) (g : Dev Cert.DwCtxIdeal.nD → PrngReg), Pre_DwCtxIdeal m →
    θ_run (Cert.DwCtxIdeal.defs (F := Ideal)) (onTc (τ := Cert.DwCtxIdeal.τ) (Cert.DwCtxIdeal.main (F := Ideal))) ⟨m, fun _ => 0, g⟩ (fun r => (∀ c : Dev Cert.DwCtxIdeal.nD,
      r.2.mem ((c.tc : Thread Cert.DwCtxIdeal.nD Cert.DwCtxIdeal.τ).loc Cert.DwCtxIdeal.main_arg0) = m ((c.tc : Thread Cert.DwCtxIdeal.nD Cert.DwCtxIdeal.τ).loc Cert.DwCtxIdeal.main_arg0)
      ∧ r.2.mem ((c.tc : Thread Cert.DwCtxIdeal.nD Cert.DwCtxIdeal.τ).loc Cert.DwCtxIdeal.main_arg1) = m ((c.tc : Thread Cert.DwCtxIdeal.nD Cert.DwCtxIdeal.τ).loc Cert.DwCtxIdeal.main_arg1)
      ∧ r.2.mem ((c.tc : Thread Cert.DwCtxIdeal.nD Cert.DwCtxIdeal.τ).loc Cert.DwCtxIdeal.main_arg2) = m ((c.tc : Thread Cert.DwCtxIdeal.nD Cert.DwCtxIdeal.τ).loc Cert.DwCtxIdeal.main_arg2)
      ∧ r.2.mem ((c.tc : Thread Cert.DwCtxIdeal.nD Cert.DwCtxIdeal.τ).loc Cert.DwCtxIdeal.main_arg3) = m ((c.tc : Thread Cert.DwCtxIdeal.nD Cert.DwCtxIdeal.τ).loc Cert.DwCtxIdeal.main_arg3)
      ∧ r.2.mem ((c.tc : Thread Cert.DwCtxIdeal.nD Cert.DwCtxIdeal.τ).loc Cert.DwCtxIdeal.main_arg4) = m ((c.tc : Thread Cert.DwCtxIdeal.nD Cert.DwCtxIdeal.τ).loc Cert.DwCtxIdeal.main_arg4))
      ∧ r.2.sem = fun _ => 0)

def quiescent_DwCtxRefIdeal [hDwCtxRefIdeal : Cert.DwCtxRefIdeal.Facts] : Prop :=
  ∀ (m : (ℓ : Loc Cert.DwCtxRefIdeal.nD Cert.DwCtxRefIdeal.τ Cert.DwCtxRefIdeal.sig) → Buf (Elt Ideal) ℓ) (g : Dev Cert.DwCtxRefIdeal.nD → PrngReg), Pre_DwCtxRefIdeal m →
    θ_run (Cert.DwCtxRefIdeal.defs (F := Ideal)) (onTc (τ := Cert.DwCtxRefIdeal.τ) (Cert.DwCtxRefIdeal.main (F := Ideal))) ⟨m, fun _ => 0, g⟩ (fun r => (∀ c : Dev Cert.DwCtxRefIdeal.nD,
      r.2.mem ((c.tc : Thread Cert.DwCtxRefIdeal.nD Cert.DwCtxRefIdeal.τ).loc Cert.DwCtxRefIdeal.main_arg0) = m ((c.tc : Thread Cert.DwCtxRefIdeal.nD Cert.DwCtxRefIdeal.τ).loc Cert.DwCtxRefIdeal.main_arg0)
      ∧ r.2.mem ((c.tc : Thread Cert.DwCtxRefIdeal.nD Cert.DwCtxRefIdeal.τ).loc Cert.DwCtxRefIdeal.main_arg1) = m ((c.tc : Thread Cert.DwCtxRefIdeal.nD Cert.DwCtxRefIdeal.τ).loc Cert.DwCtxRefIdeal.main_arg1)
      ∧ r.2.mem ((c.tc : Thread Cert.DwCtxRefIdeal.nD Cert.DwCtxRefIdeal.τ).loc Cert.DwCtxRefIdeal.main_arg2) = m ((c.tc : Thread Cert.DwCtxRefIdeal.nD Cert.DwCtxRefIdeal.τ).loc Cert.DwCtxRefIdeal.main_arg2)
      ∧ r.2.mem ((c.tc : Thread Cert.DwCtxRefIdeal.nD Cert.DwCtxRefIdeal.τ).loc Cert.DwCtxRefIdeal.main_arg3) = m ((c.tc : Thread Cert.DwCtxRefIdeal.nD Cert.DwCtxRefIdeal.τ).loc Cert.DwCtxRefIdeal.main_arg3)
      ∧ r.2.mem ((c.tc : Thread Cert.DwCtxRefIdeal.nD Cert.DwCtxRefIdeal.τ).loc Cert.DwCtxRefIdeal.main_arg4) = m ((c.tc : Thread Cert.DwCtxRefIdeal.nD Cert.DwCtxRefIdeal.τ).loc Cert.DwCtxRefIdeal.main_arg4))
      ∧ r.2.sem = fun _ => 0)

def quiescent_ModCtx [hModCtx : Cert.ModCtx.Facts] : Prop :=
  ∀ (m : (ℓ : Loc Cert.ModCtx.nD Cert.ModCtx.τ Cert.ModCtx.sig) → Buf (Elt Bits) ℓ) (g : Dev Cert.ModCtx.nD → PrngReg), Pre_ModCtx m →
    θ_run (Cert.ModCtx.defs (F := Bits)) (onTc (τ := Cert.ModCtx.τ) (Cert.ModCtx.main (F := Bits))) ⟨m, fun _ => 0, g⟩ (fun r => (∀ c : Dev Cert.ModCtx.nD,
      r.2.mem ((c.tc : Thread Cert.ModCtx.nD Cert.ModCtx.τ).loc Cert.ModCtx.main_arg0) = m ((c.tc : Thread Cert.ModCtx.nD Cert.ModCtx.τ).loc Cert.ModCtx.main_arg0)
      ∧ r.2.mem ((c.tc : Thread Cert.ModCtx.nD Cert.ModCtx.τ).loc Cert.ModCtx.main_arg1) = m ((c.tc : Thread Cert.ModCtx.nD Cert.ModCtx.τ).loc Cert.ModCtx.main_arg1)
      ∧ r.2.mem ((c.tc : Thread Cert.ModCtx.nD Cert.ModCtx.τ).loc Cert.ModCtx.main_arg2) = m ((c.tc : Thread Cert.ModCtx.nD Cert.ModCtx.τ).loc Cert.ModCtx.main_arg2)
      ∧ r.2.mem ((c.tc : Thread Cert.ModCtx.nD Cert.ModCtx.τ).loc Cert.ModCtx.main_arg3) = m ((c.tc : Thread Cert.ModCtx.nD Cert.ModCtx.τ).loc Cert.ModCtx.main_arg3))
      ∧ r.2.sem = fun _ => 0)

def quiescent_ModCtxIdeal [hModCtxIdeal : Cert.ModCtxIdeal.Facts] : Prop :=
  ∀ (m : (ℓ : Loc Cert.ModCtxIdeal.nD Cert.ModCtxIdeal.τ Cert.ModCtxIdeal.sig) → Buf (Elt Ideal) ℓ) (g : Dev Cert.ModCtxIdeal.nD → PrngReg), Pre_ModCtxIdeal m →
    θ_run (Cert.ModCtxIdeal.defs (F := Ideal)) (onTc (τ := Cert.ModCtxIdeal.τ) (Cert.ModCtxIdeal.main (F := Ideal))) ⟨m, fun _ => 0, g⟩ (fun r => (∀ c : Dev Cert.ModCtxIdeal.nD,
      r.2.mem ((c.tc : Thread Cert.ModCtxIdeal.nD Cert.ModCtxIdeal.τ).loc Cert.ModCtxIdeal.main_arg0) = m ((c.tc : Thread Cert.ModCtxIdeal.nD Cert.ModCtxIdeal.τ).loc Cert.ModCtxIdeal.main_arg0)
      ∧ r.2.mem ((c.tc : Thread Cert.ModCtxIdeal.nD Cert.ModCtxIdeal.τ).loc Cert.ModCtxIdeal.main_arg1) = m ((c.tc : Thread Cert.ModCtxIdeal.nD Cert.ModCtxIdeal.τ).loc Cert.ModCtxIdeal.main_arg1)
      ∧ r.2.mem ((c.tc : Thread Cert.ModCtxIdeal.nD Cert.ModCtxIdeal.τ).loc Cert.ModCtxIdeal.main_arg2) = m ((c.tc : Thread Cert.ModCtxIdeal.nD Cert.ModCtxIdeal.τ).loc Cert.ModCtxIdeal.main_arg2)
      ∧ r.2.mem ((c.tc : Thread Cert.ModCtxIdeal.nD Cert.ModCtxIdeal.τ).loc Cert.ModCtxIdeal.main_arg3) = m ((c.tc : Thread Cert.ModCtxIdeal.nD Cert.ModCtxIdeal.τ).loc Cert.ModCtxIdeal.main_arg3))
      ∧ r.2.sem = fun _ => 0)

def quiescent_ModCtxRefIdeal [hModCtxRefIdeal : Cert.ModCtxRefIdeal.Facts] : Prop :=
  ∀ (m : (ℓ : Loc Cert.ModCtxRefIdeal.nD Cert.ModCtxRefIdeal.τ Cert.ModCtxRefIdeal.sig) → Buf (Elt Ideal) ℓ) (g : Dev Cert.ModCtxRefIdeal.nD → PrngReg), Pre_ModCtxRefIdeal m →
    θ_run (Cert.ModCtxRefIdeal.defs (F := Ideal)) (onTc (τ := Cert.ModCtxRefIdeal.τ) (Cert.ModCtxRefIdeal.main (F := Ideal))) ⟨m, fun _ => 0, g⟩ (fun r => (∀ c : Dev Cert.ModCtxRefIdeal.nD,
      r.2.mem ((c.tc : Thread Cert.ModCtxRefIdeal.nD Cert.ModCtxRefIdeal.τ).loc Cert.ModCtxRefIdeal.main_arg0) = m ((c.tc : Thread Cert.ModCtxRefIdeal.nD Cert.ModCtxRefIdeal.τ).loc Cert.ModCtxRefIdeal.main_arg0)
      ∧ r.2.mem ((c.tc : Thread Cert.ModCtxRefIdeal.nD Cert.ModCtxRefIdeal.τ).loc Cert.ModCtxRefIdeal.main_arg1) = m ((c.tc : Thread Cert.ModCtxRefIdeal.nD Cert.ModCtxRefIdeal.τ).loc Cert.ModCtxRefIdeal.main_arg1)
      ∧ r.2.mem ((c.tc : Thread Cert.ModCtxRefIdeal.nD Cert.ModCtxRefIdeal.τ).loc Cert.ModCtxRefIdeal.main_arg2) = m ((c.tc : Thread Cert.ModCtxRefIdeal.nD Cert.ModCtxRefIdeal.τ).loc Cert.ModCtxRefIdeal.main_arg2)
      ∧ r.2.mem ((c.tc : Thread Cert.ModCtxRefIdeal.nD Cert.ModCtxRefIdeal.τ).loc Cert.ModCtxRefIdeal.main_arg3) = m ((c.tc : Thread Cert.ModCtxRefIdeal.nD Cert.ModCtxRefIdeal.τ).loc Cert.ModCtxRefIdeal.main_arg3))
      ∧ r.2.sem = fun _ => 0)

def quiescent_CCtx [hCCtx : Cert.CCtx.Facts] : Prop :=
  ∀ (m : (ℓ : Loc Cert.CCtx.nD Cert.CCtx.τ Cert.CCtx.sig) → Buf (Elt Bits) ℓ) (g : Dev Cert.CCtx.nD → PrngReg), Pre_CCtx m →
    θ_run (Cert.CCtx.defs (F := Bits)) (onTc (τ := Cert.CCtx.τ) (Cert.CCtx.main (F := Bits))) ⟨m, fun _ => 0, g⟩ (fun r => (∀ c : Dev Cert.CCtx.nD,
      r.2.mem ((c.tc : Thread Cert.CCtx.nD Cert.CCtx.τ).loc Cert.CCtx.main_arg0) = m ((c.tc : Thread Cert.CCtx.nD Cert.CCtx.τ).loc Cert.CCtx.main_arg0)
      ∧ r.2.mem ((c.tc : Thread Cert.CCtx.nD Cert.CCtx.τ).loc Cert.CCtx.main_arg1) = m ((c.tc : Thread Cert.CCtx.nD Cert.CCtx.τ).loc Cert.CCtx.main_arg1)
      ∧ r.2.mem ((c.tc : Thread Cert.CCtx.nD Cert.CCtx.τ).loc Cert.CCtx.main_arg2) = m ((c.tc : Thread Cert.CCtx.nD Cert.CCtx.τ).loc Cert.CCtx.main_arg2))
      ∧ r.2.sem = fun _ => 0)

def quiescent_CCtxIdeal [hCCtxIdeal : Cert.CCtxIdeal.Facts] : Prop :=
  ∀ (m : (ℓ : Loc Cert.CCtxIdeal.nD Cert.CCtxIdeal.τ Cert.CCtxIdeal.sig) → Buf (Elt Ideal) ℓ) (g : Dev Cert.CCtxIdeal.nD → PrngReg), Pre_CCtxIdeal m →
    θ_run (Cert.CCtxIdeal.defs (F := Ideal)) (onTc (τ := Cert.CCtxIdeal.τ) (Cert.CCtxIdeal.main (F := Ideal))) ⟨m, fun _ => 0, g⟩ (fun r => (∀ c : Dev Cert.CCtxIdeal.nD,
      r.2.mem ((c.tc : Thread Cert.CCtxIdeal.nD Cert.CCtxIdeal.τ).loc Cert.CCtxIdeal.main_arg0) = m ((c.tc : Thread Cert.CCtxIdeal.nD Cert.CCtxIdeal.τ).loc Cert.CCtxIdeal.main_arg0)
      ∧ r.2.mem ((c.tc : Thread Cert.CCtxIdeal.nD Cert.CCtxIdeal.τ).loc Cert.CCtxIdeal.main_arg1) = m ((c.tc : Thread Cert.CCtxIdeal.nD Cert.CCtxIdeal.τ).loc Cert.CCtxIdeal.main_arg1)
      ∧ r.2.mem ((c.tc : Thread Cert.CCtxIdeal.nD Cert.CCtxIdeal.τ).loc Cert.CCtxIdeal.main_arg2) = m ((c.tc : Thread Cert.CCtxIdeal.nD Cert.CCtxIdeal.τ).loc Cert.CCtxIdeal.main_arg2))
      ∧ r.2.sem = fun _ => 0)

def quiescent_CCtxIdeal_pre_cctx_finite [hCCtxIdeal : Cert.CCtxIdeal.Facts] [hPre_cctx_finite : Cert.Pre_cctx_finite.Facts] : Prop :=
  ∀ (m : (ℓ : Loc Cert.CCtxIdeal.nD Cert.CCtxIdeal.τ Cert.CCtxIdeal.sig) → Buf (Elt Ideal) ℓ) (g : Dev Cert.CCtxIdeal.nD → PrngReg), Pre_CCtxIdeal_cctx_finite m →
    θ_run (Cert.CCtxIdeal.defs (F := Ideal)) (onTc (τ := Cert.CCtxIdeal.τ) (Cert.CCtxIdeal.main (F := Ideal))) ⟨m, fun _ => 0, g⟩ (fun r => (∀ c : Dev Cert.CCtxIdeal.nD,
      r.2.mem ((c.tc : Thread Cert.CCtxIdeal.nD Cert.CCtxIdeal.τ).loc Cert.CCtxIdeal.main_arg0) = m ((c.tc : Thread Cert.CCtxIdeal.nD Cert.CCtxIdeal.τ).loc Cert.CCtxIdeal.main_arg0)
      ∧ r.2.mem ((c.tc : Thread Cert.CCtxIdeal.nD Cert.CCtxIdeal.τ).loc Cert.CCtxIdeal.main_arg1) = m ((c.tc : Thread Cert.CCtxIdeal.nD Cert.CCtxIdeal.τ).loc Cert.CCtxIdeal.main_arg1)
      ∧ r.2.mem ((c.tc : Thread Cert.CCtxIdeal.nD Cert.CCtxIdeal.τ).loc Cert.CCtxIdeal.main_arg2) = m ((c.tc : Thread Cert.CCtxIdeal.nD Cert.CCtxIdeal.τ).loc Cert.CCtxIdeal.main_arg2))
      ∧ r.2.sem = fun _ => 0)

def quiescent_CCtxRefIdeal [hCCtxRefIdeal : Cert.CCtxRefIdeal.Facts] : Prop :=
  ∀ (m : (ℓ : Loc Cert.CCtxRefIdeal.nD Cert.CCtxRefIdeal.τ Cert.CCtxRefIdeal.sig) → Buf (Elt Ideal) ℓ) (g : Dev Cert.CCtxRefIdeal.nD → PrngReg), Pre_CCtxRefIdeal m →
    θ_run (Cert.CCtxRefIdeal.defs (F := Ideal)) (onTc (τ := Cert.CCtxRefIdeal.τ) (Cert.CCtxRefIdeal.main (F := Ideal))) ⟨m, fun _ => 0, g⟩ (fun r => (∀ c : Dev Cert.CCtxRefIdeal.nD,
      r.2.mem ((c.tc : Thread Cert.CCtxRefIdeal.nD Cert.CCtxRefIdeal.τ).loc Cert.CCtxRefIdeal.main_arg0) = m ((c.tc : Thread Cert.CCtxRefIdeal.nD Cert.CCtxRefIdeal.τ).loc Cert.CCtxRefIdeal.main_arg0)
      ∧ r.2.mem ((c.tc : Thread Cert.CCtxRefIdeal.nD Cert.CCtxRefIdeal.τ).loc Cert.CCtxRefIdeal.main_arg1) = m ((c.tc : Thread Cert.CCtxRefIdeal.nD Cert.CCtxRefIdeal.τ).loc Cert.CCtxRefIdeal.main_arg1)
      ∧ r.2.mem ((c.tc : Thread Cert.CCtxRefIdeal.nD Cert.CCtxRefIdeal.τ).loc Cert.CCtxRefIdeal.main_arg2) = m ((c.tc : Thread Cert.CCtxRefIdeal.nD Cert.CCtxRefIdeal.τ).loc Cert.CCtxRefIdeal.main_arg2))
      ∧ r.2.sem = fun _ => 0)

def quiescent_CCtxRefIdeal_pre_cctx_finite [hCCtxRefIdeal : Cert.CCtxRefIdeal.Facts] [hPre_cctx_finite : Cert.Pre_cctx_finite.Facts] : Prop :=
  ∀ (m : (ℓ : Loc Cert.CCtxRefIdeal.nD Cert.CCtxRefIdeal.τ Cert.CCtxRefIdeal.sig) → Buf (Elt Ideal) ℓ) (g : Dev Cert.CCtxRefIdeal.nD → PrngReg), Pre_CCtxRefIdeal_cctx_finite m →
    θ_run (Cert.CCtxRefIdeal.defs (F := Ideal)) (onTc (τ := Cert.CCtxRefIdeal.τ) (Cert.CCtxRefIdeal.main (F := Ideal))) ⟨m, fun _ => 0, g⟩ (fun r => (∀ c : Dev Cert.CCtxRefIdeal.nD,
      r.2.mem ((c.tc : Thread Cert.CCtxRefIdeal.nD Cert.CCtxRefIdeal.τ).loc Cert.CCtxRefIdeal.main_arg0) = m ((c.tc : Thread Cert.CCtxRefIdeal.nD Cert.CCtxRefIdeal.τ).loc Cert.CCtxRefIdeal.main_arg0)
      ∧ r.2.mem ((c.tc : Thread Cert.CCtxRefIdeal.nD Cert.CCtxRefIdeal.τ).loc Cert.CCtxRefIdeal.main_arg1) = m ((c.tc : Thread Cert.CCtxRefIdeal.nD Cert.CCtxRefIdeal.τ).loc Cert.CCtxRefIdeal.main_arg1)
      ∧ r.2.mem ((c.tc : Thread Cert.CCtxRefIdeal.nD Cert.CCtxRefIdeal.τ).loc Cert.CCtxRefIdeal.main_arg2) = m ((c.tc : Thread Cert.CCtxRefIdeal.nD Cert.CCtxRefIdeal.τ).loc Cert.CCtxRefIdeal.main_arg2))
      ∧ r.2.sem = fun _ => 0)

def quiescent_PrepCtx [hPrepCtx : Cert.PrepCtx.Facts] : Prop :=
  ∀ (m : (ℓ : Loc Cert.PrepCtx.nD Cert.PrepCtx.τ Cert.PrepCtx.sig) → Buf (Elt Bits) ℓ) (g : Dev Cert.PrepCtx.nD → PrngReg), Pre_PrepCtx m →
    θ_run (Cert.PrepCtx.defs (F := Bits)) (onTc (τ := Cert.PrepCtx.τ) (Cert.PrepCtx.main (F := Bits))) ⟨m, fun _ => 0, g⟩ (fun r => (∀ c : Dev Cert.PrepCtx.nD,
      r.2.mem ((c.tc : Thread Cert.PrepCtx.nD Cert.PrepCtx.τ).loc Cert.PrepCtx.main_arg0) = m ((c.tc : Thread Cert.PrepCtx.nD Cert.PrepCtx.τ).loc Cert.PrepCtx.main_arg0)
      ∧ r.2.mem ((c.tc : Thread Cert.PrepCtx.nD Cert.PrepCtx.τ).loc Cert.PrepCtx.main_arg1) = m ((c.tc : Thread Cert.PrepCtx.nD Cert.PrepCtx.τ).loc Cert.PrepCtx.main_arg1)
      ∧ r.2.mem ((c.tc : Thread Cert.PrepCtx.nD Cert.PrepCtx.τ).loc Cert.PrepCtx.main_arg2) = m ((c.tc : Thread Cert.PrepCtx.nD Cert.PrepCtx.τ).loc Cert.PrepCtx.main_arg2)
      ∧ r.2.mem ((c.tc : Thread Cert.PrepCtx.nD Cert.PrepCtx.τ).loc Cert.PrepCtx.main_arg3) = m ((c.tc : Thread Cert.PrepCtx.nD Cert.PrepCtx.τ).loc Cert.PrepCtx.main_arg3)
      ∧ r.2.mem ((c.tc : Thread Cert.PrepCtx.nD Cert.PrepCtx.τ).loc Cert.PrepCtx.main_arg4) = m ((c.tc : Thread Cert.PrepCtx.nD Cert.PrepCtx.τ).loc Cert.PrepCtx.main_arg4)
      ∧ r.2.mem ((c.tc : Thread Cert.PrepCtx.nD Cert.PrepCtx.τ).loc Cert.PrepCtx.main_arg5) = m ((c.tc : Thread Cert.PrepCtx.nD Cert.PrepCtx.τ).loc Cert.PrepCtx.main_arg5)
      ∧ r.2.mem ((c.tc : Thread Cert.PrepCtx.nD Cert.PrepCtx.τ).loc Cert.PrepCtx.main_arg6) = m ((c.tc : Thread Cert.PrepCtx.nD Cert.PrepCtx.τ).loc Cert.PrepCtx.main_arg6)
      ∧ r.2.mem ((c.tc : Thread Cert.PrepCtx.nD Cert.PrepCtx.τ).loc Cert.PrepCtx.main_arg7) = m ((c.tc : Thread Cert.PrepCtx.nD Cert.PrepCtx.τ).loc Cert.PrepCtx.main_arg7)
      ∧ r.2.mem ((c.tc : Thread Cert.PrepCtx.nD Cert.PrepCtx.τ).loc Cert.PrepCtx.main_arg8) = m ((c.tc : Thread Cert.PrepCtx.nD Cert.PrepCtx.τ).loc Cert.PrepCtx.main_arg8)
      ∧ r.2.mem ((c.tc : Thread Cert.PrepCtx.nD Cert.PrepCtx.τ).loc Cert.PrepCtx.main_arg9) = m ((c.tc : Thread Cert.PrepCtx.nD Cert.PrepCtx.τ).loc Cert.PrepCtx.main_arg9)
      ∧ r.2.mem ((c.tc : Thread Cert.PrepCtx.nD Cert.PrepCtx.τ).loc Cert.PrepCtx.main_arg10) = m ((c.tc : Thread Cert.PrepCtx.nD Cert.PrepCtx.τ).loc Cert.PrepCtx.main_arg10))
      ∧ r.2.sem = fun _ => 0)

def quiescent_PrepCtxIdeal [hPrepCtxIdeal : Cert.PrepCtxIdeal.Facts] : Prop :=
  ∀ (m : (ℓ : Loc Cert.PrepCtxIdeal.nD Cert.PrepCtxIdeal.τ Cert.PrepCtxIdeal.sig) → Buf (Elt Ideal) ℓ) (g : Dev Cert.PrepCtxIdeal.nD → PrngReg), Pre_PrepCtxIdeal m →
    θ_run (Cert.PrepCtxIdeal.defs (F := Ideal)) (onTc (τ := Cert.PrepCtxIdeal.τ) (Cert.PrepCtxIdeal.main (F := Ideal))) ⟨m, fun _ => 0, g⟩ (fun r => (∀ c : Dev Cert.PrepCtxIdeal.nD,
      r.2.mem ((c.tc : Thread Cert.PrepCtxIdeal.nD Cert.PrepCtxIdeal.τ).loc Cert.PrepCtxIdeal.main_arg0) = m ((c.tc : Thread Cert.PrepCtxIdeal.nD Cert.PrepCtxIdeal.τ).loc Cert.PrepCtxIdeal.main_arg0)
      ∧ r.2.mem ((c.tc : Thread Cert.PrepCtxIdeal.nD Cert.PrepCtxIdeal.τ).loc Cert.PrepCtxIdeal.main_arg1) = m ((c.tc : Thread Cert.PrepCtxIdeal.nD Cert.PrepCtxIdeal.τ).loc Cert.PrepCtxIdeal.main_arg1)
      ∧ r.2.mem ((c.tc : Thread Cert.PrepCtxIdeal.nD Cert.PrepCtxIdeal.τ).loc Cert.PrepCtxIdeal.main_arg2) = m ((c.tc : Thread Cert.PrepCtxIdeal.nD Cert.PrepCtxIdeal.τ).loc Cert.PrepCtxIdeal.main_arg2)
      ∧ r.2.mem ((c.tc : Thread Cert.PrepCtxIdeal.nD Cert.PrepCtxIdeal.τ).loc Cert.PrepCtxIdeal.main_arg3) = m ((c.tc : Thread Cert.PrepCtxIdeal.nD Cert.PrepCtxIdeal.τ).loc Cert.PrepCtxIdeal.main_arg3)
      ∧ r.2.mem ((c.tc : Thread Cert.PrepCtxIdeal.nD Cert.PrepCtxIdeal.τ).loc Cert.PrepCtxIdeal.main_arg4) = m ((c.tc : Thread Cert.PrepCtxIdeal.nD Cert.PrepCtxIdeal.τ).loc Cert.PrepCtxIdeal.main_arg4)
      ∧ r.2.mem ((c.tc : Thread Cert.PrepCtxIdeal.nD Cert.PrepCtxIdeal.τ).loc Cert.PrepCtxIdeal.main_arg5) = m ((c.tc : Thread Cert.PrepCtxIdeal.nD Cert.PrepCtxIdeal.τ).loc Cert.PrepCtxIdeal.main_arg5)
      ∧ r.2.mem ((c.tc : Thread Cert.PrepCtxIdeal.nD Cert.PrepCtxIdeal.τ).loc Cert.PrepCtxIdeal.main_arg6) = m ((c.tc : Thread Cert.PrepCtxIdeal.nD Cert.PrepCtxIdeal.τ).loc Cert.PrepCtxIdeal.main_arg6)
      ∧ r.2.mem ((c.tc : Thread Cert.PrepCtxIdeal.nD Cert.PrepCtxIdeal.τ).loc Cert.PrepCtxIdeal.main_arg7) = m ((c.tc : Thread Cert.PrepCtxIdeal.nD Cert.PrepCtxIdeal.τ).loc Cert.PrepCtxIdeal.main_arg7)
      ∧ r.2.mem ((c.tc : Thread Cert.PrepCtxIdeal.nD Cert.PrepCtxIdeal.τ).loc Cert.PrepCtxIdeal.main_arg8) = m ((c.tc : Thread Cert.PrepCtxIdeal.nD Cert.PrepCtxIdeal.τ).loc Cert.PrepCtxIdeal.main_arg8)
      ∧ r.2.mem ((c.tc : Thread Cert.PrepCtxIdeal.nD Cert.PrepCtxIdeal.τ).loc Cert.PrepCtxIdeal.main_arg9) = m ((c.tc : Thread Cert.PrepCtxIdeal.nD Cert.PrepCtxIdeal.τ).loc Cert.PrepCtxIdeal.main_arg9)
      ∧ r.2.mem ((c.tc : Thread Cert.PrepCtxIdeal.nD Cert.PrepCtxIdeal.τ).loc Cert.PrepCtxIdeal.main_arg10) = m ((c.tc : Thread Cert.PrepCtxIdeal.nD Cert.PrepCtxIdeal.τ).loc Cert.PrepCtxIdeal.main_arg10))
      ∧ r.2.sem = fun _ => 0)

def quiescent_PrepCtxRefIdeal [hPrepCtxRefIdeal : Cert.PrepCtxRefIdeal.Facts] : Prop :=
  ∀ (m : (ℓ : Loc Cert.PrepCtxRefIdeal.nD Cert.PrepCtxRefIdeal.τ Cert.PrepCtxRefIdeal.sig) → Buf (Elt Ideal) ℓ) (g : Dev Cert.PrepCtxRefIdeal.nD → PrngReg), Pre_PrepCtxRefIdeal m →
    θ_run (Cert.PrepCtxRefIdeal.defs (F := Ideal)) (onTc (τ := Cert.PrepCtxRefIdeal.τ) (Cert.PrepCtxRefIdeal.main (F := Ideal))) ⟨m, fun _ => 0, g⟩ (fun r => (∀ c : Dev Cert.PrepCtxRefIdeal.nD,
      r.2.mem ((c.tc : Thread Cert.PrepCtxRefIdeal.nD Cert.PrepCtxRefIdeal.τ).loc Cert.PrepCtxRefIdeal.main_arg0) = m ((c.tc : Thread Cert.PrepCtxRefIdeal.nD Cert.PrepCtxRefIdeal.τ).loc Cert.PrepCtxRefIdeal.main_arg0)
      ∧ r.2.mem ((c.tc : Thread Cert.PrepCtxRefIdeal.nD Cert.PrepCtxRefIdeal.τ).loc Cert.PrepCtxRefIdeal.main_arg1) = m ((c.tc : Thread Cert.PrepCtxRefIdeal.nD Cert.PrepCtxRefIdeal.τ).loc Cert.PrepCtxRefIdeal.main_arg1)
      ∧ r.2.mem ((c.tc : Thread Cert.PrepCtxRefIdeal.nD Cert.PrepCtxRefIdeal.τ).loc Cert.PrepCtxRefIdeal.main_arg2) = m ((c.tc : Thread Cert.PrepCtxRefIdeal.nD Cert.PrepCtxRefIdeal.τ).loc Cert.PrepCtxRefIdeal.main_arg2)
      ∧ r.2.mem ((c.tc : Thread Cert.PrepCtxRefIdeal.nD Cert.PrepCtxRefIdeal.τ).loc Cert.PrepCtxRefIdeal.main_arg3) = m ((c.tc : Thread Cert.PrepCtxRefIdeal.nD Cert.PrepCtxRefIdeal.τ).loc Cert.PrepCtxRefIdeal.main_arg3)
      ∧ r.2.mem ((c.tc : Thread Cert.PrepCtxRefIdeal.nD Cert.PrepCtxRefIdeal.τ).loc Cert.PrepCtxRefIdeal.main_arg4) = m ((c.tc : Thread Cert.PrepCtxRefIdeal.nD Cert.PrepCtxRefIdeal.τ).loc Cert.PrepCtxRefIdeal.main_arg4)
      ∧ r.2.mem ((c.tc : Thread Cert.PrepCtxRefIdeal.nD Cert.PrepCtxRefIdeal.τ).loc Cert.PrepCtxRefIdeal.main_arg5) = m ((c.tc : Thread Cert.PrepCtxRefIdeal.nD Cert.PrepCtxRefIdeal.τ).loc Cert.PrepCtxRefIdeal.main_arg5)
      ∧ r.2.mem ((c.tc : Thread Cert.PrepCtxRefIdeal.nD Cert.PrepCtxRefIdeal.τ).loc Cert.PrepCtxRefIdeal.main_arg6) = m ((c.tc : Thread Cert.PrepCtxRefIdeal.nD Cert.PrepCtxRefIdeal.τ).loc Cert.PrepCtxRefIdeal.main_arg6)
      ∧ r.2.mem ((c.tc : Thread Cert.PrepCtxRefIdeal.nD Cert.PrepCtxRefIdeal.τ).loc Cert.PrepCtxRefIdeal.main_arg7) = m ((c.tc : Thread Cert.PrepCtxRefIdeal.nD Cert.PrepCtxRefIdeal.τ).loc Cert.PrepCtxRefIdeal.main_arg7)
      ∧ r.2.mem ((c.tc : Thread Cert.PrepCtxRefIdeal.nD Cert.PrepCtxRefIdeal.τ).loc Cert.PrepCtxRefIdeal.main_arg8) = m ((c.tc : Thread Cert.PrepCtxRefIdeal.nD Cert.PrepCtxRefIdeal.τ).loc Cert.PrepCtxRefIdeal.main_arg8)
      ∧ r.2.mem ((c.tc : Thread Cert.PrepCtxRefIdeal.nD Cert.PrepCtxRefIdeal.τ).loc Cert.PrepCtxRefIdeal.main_arg9) = m ((c.tc : Thread Cert.PrepCtxRefIdeal.nD Cert.PrepCtxRefIdeal.τ).loc Cert.PrepCtxRefIdeal.main_arg9)
      ∧ r.2.mem ((c.tc : Thread Cert.PrepCtxRefIdeal.nD Cert.PrepCtxRefIdeal.τ).loc Cert.PrepCtxRefIdeal.main_arg10) = m ((c.tc : Thread Cert.PrepCtxRefIdeal.nD Cert.PrepCtxRefIdeal.τ).loc Cert.PrepCtxRefIdeal.main_arg10))
      ∧ r.2.sem = fun _ => 0)

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v4)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v4) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v49) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v43_0)) (v1 : (c : Dev Cert.MergeIdeal.nD) → Buf (Elt Ideal) ((c.tc : Thread Cert.MergeIdeal.nD Cert.MergeIdeal.τ).loc Cert.MergeIdeal.main_v43_1)) (v2 : (c : Dev Cert.MergeIdeal.nD) → Buf (Elt Ideal) ((c.tc : Thread Cert.MergeIdeal.nD Cert.MergeIdeal.τ).loc Cert.MergeIdeal.main_v43_2)) (v3 : (c : Dev Cert.MergeIdeal.nD) → Buf (Elt Ideal) ((c.tc : Thread Cert.MergeIdeal.nD Cert.MergeIdeal.τ).loc Cert.MergeIdeal.main_v43_3)) (v4 : (c : Dev Cert.MergeIdeal.nD) → Buf (Elt Ideal) ((c.tc : Thread Cert.MergeIdeal.nD Cert.MergeIdeal.τ).loc Cert.MergeIdeal.main_v43_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v43_0) = v0 c
          ∧ r.2.mem ((c.tc : Thread Cert.MergeIdeal.nD Cert.MergeIdeal.τ).loc Cert.MergeIdeal.main_v43_1) = v1 c
          ∧ r.2.mem ((c.tc : Thread Cert.MergeIdeal.nD Cert.MergeIdeal.τ).loc Cert.MergeIdeal.main_v43_2) = v2 c
          ∧ r.2.mem ((c.tc : Thread Cert.MergeIdeal.nD Cert.MergeIdeal.τ).loc Cert.MergeIdeal.main_v43_3) = v3 c
          ∧ r.2.mem ((c.tc : Thread Cert.MergeIdeal.nD Cert.MergeIdeal.τ).loc Cert.MergeIdeal.main_v43_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v34) = v0 c
          ∧ r.2.mem ((c.tc : Thread Cert.MergeRefIdeal.nD Cert.MergeRefIdeal.τ).loc Cert.MergeRefIdeal.main_v42) = v1 c
          ∧ r.2.mem ((c.tc : Thread Cert.MergeRefIdeal.nD Cert.MergeRefIdeal.τ).loc Cert.MergeRefIdeal.main_v50) = v2 c
          ∧ r.2.mem ((c.tc : Thread Cert.MergeRefIdeal.nD Cert.MergeRefIdeal.τ).loc Cert.MergeRefIdeal.main_v56) = v3 c
          ∧ r.2.mem ((c.tc : Thread Cert.MergeRefIdeal.nD Cert.MergeRefIdeal.τ).loc Cert.MergeRefIdeal.main_v62) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Glob_GlobIdeal : Prop :=
  True

def algebraic_GlobIdeal_GlobRefIdeal_pre_glob_finite [hGlobIdeal : Cert.GlobIdeal.Facts] [hGlobRefIdeal : Cert.GlobRefIdeal.Facts] [hPre_glob_finite : Cert.Pre_glob_finite.Facts] : Prop :=
  ∀ (m : (ℓ : Loc Cert.GlobIdeal.nD Cert.GlobIdeal.τ Cert.GlobIdeal.sig) → Buf (Elt Ideal) ℓ) (g : Dev Cert.GlobIdeal.nD → PrngReg)
    (m' : (ℓ : Loc Cert.GlobRefIdeal.nD Cert.GlobRefIdeal.τ Cert.GlobRefIdeal.sig) → Buf (Elt Ideal) ℓ) (g' : Dev Cert.GlobRefIdeal.nD → PrngReg), Pre_GlobIdeal_glob_finite m →
    (∀ c : Dev Cert.GlobIdeal.nD,
      m' ((c.tc : Thread Cert.GlobRefIdeal.nD Cert.GlobRefIdeal.τ).loc Cert.GlobRefIdeal.main_arg0) = m ((c.tc : Thread Cert.GlobIdeal.nD Cert.GlobIdeal.τ).loc Cert.GlobIdeal.main_arg0)
      ∧ m' ((c.tc : Thread Cert.GlobRefIdeal.nD Cert.GlobRefIdeal.τ).loc Cert.GlobRefIdeal.main_arg1) = m ((c.tc : Thread Cert.GlobIdeal.nD Cert.GlobIdeal.τ).loc Cert.GlobIdeal.main_arg1)
      ∧ m' ((c.tc : Thread Cert.GlobRefIdeal.nD Cert.GlobRefIdeal.τ).loc Cert.GlobRefIdeal.main_arg2) = m ((c.tc : Thread Cert.GlobIdeal.nD Cert.GlobIdeal.τ).loc Cert.GlobIdeal.main_arg2)
      ∧ m' ((c.tc : Thread Cert.GlobRefIdeal.nD Cert.GlobRefIdeal.τ).loc Cert.GlobRefIdeal.main_arg3) = m ((c.tc : Thread Cert.GlobIdeal.nD Cert.GlobIdeal.τ).loc Cert.GlobIdeal.main_arg3)
      ∧ m' ((c.tc : Thread Cert.GlobRefIdeal.nD Cert.GlobRefIdeal.τ).loc Cert.GlobRefIdeal.main_arg4) = m ((c.tc : Thread Cert.GlobIdeal.nD Cert.GlobIdeal.τ).loc Cert.GlobIdeal.main_arg4)
      ∧ m' ((c.tc : Thread Cert.GlobRefIdeal.nD Cert.GlobRefIdeal.τ).loc Cert.GlobRefIdeal.main_arg5) = m ((c.tc : Thread Cert.GlobIdeal.nD Cert.GlobIdeal.τ).loc Cert.GlobIdeal.main_arg5)) →
    ∃ (v0 : (c : Dev Cert.GlobIdeal.nD) → Buf (Elt Ideal) ((c.tc : Thread Cert.GlobIdeal.nD Cert.GlobIdeal.τ).loc Cert.GlobIdeal.main_v103)) (v1 : (c : Dev Cert.GlobIdeal.nD) → Buf (Elt Ideal) ((c.tc : Thread Cert.GlobIdeal.nD Cert.GlobIdeal.τ).loc Cert.GlobIdeal.main_v95_1)) (v2 : (c : Dev Cert.GlobIdeal.nD) → Buf (Elt Ideal) ((c.tc : Thread Cert.GlobIdeal.nD Cert.GlobIdeal.τ).loc Cert.GlobIdeal.main_v95_2)) (v3 : (c : Dev Cert.GlobIdeal.nD) → Buf (Elt Ideal) ((c.tc : Thread Cert.GlobIdeal.nD Cert.GlobIdeal.τ).loc Cert.GlobIdeal.main_v95_3)) (v4 : (c : Dev Cert.GlobIdeal.nD) → Buf (Elt Ideal) ((c.tc : Thread Cert.GlobIdeal.nD Cert.GlobIdeal.τ).loc Cert.GlobIdeal.main_v95_4)),
      θ_run (Cert.GlobIdeal.defs (F := Ideal)) (onTc (τ := Cert.GlobIdeal.τ) (Cert.GlobIdeal.main (F := Ideal))) ⟨m, fun _ => 0, g⟩ (fun r => ∀ c : Dev Cert.GlobIdeal.nD,
          r.2.mem ((c.tc : Thread Cert.GlobIdeal.nD Cert.GlobIdeal.τ).loc Cert.GlobIdeal.main_v103) = v0 c
          ∧ r.2.mem ((c.tc : Thread Cert.GlobIdeal.nD Cert.GlobIdeal.τ).loc Cert.GlobIdeal.main_v95_1) = v1 c
          ∧ r.2.mem ((c.tc : Thread Cert.GlobIdeal.nD Cert.GlobIdeal.τ).loc Cert.GlobIdeal.main_v95_2) = v2 c
          ∧ r.2.mem ((c.tc : Thread Cert.GlobIdeal.nD Cert.GlobIdeal.τ).loc Cert.GlobIdeal.main_v95_3) = v3 c
          ∧ r.2.mem ((c.tc : Thread Cert.GlobIdeal.nD Cert.GlobIdeal.τ).loc Cert.GlobIdeal.main_v95_4) = v4 c
          ∧ r.2.mem ((c.tc : Thread Cert.GlobIdeal.nD Cert.GlobIdeal.τ).loc Cert.GlobIdeal.main_arg0) = m ((c.tc : Thread Cert.GlobIdeal.nD Cert.GlobIdeal.τ).loc Cert.GlobIdeal.main_arg0)
          ∧ r.2.mem ((c.tc : Thread Cert.GlobIdeal.nD Cert.GlobIdeal.τ).loc Cert.GlobIdeal.main_arg1) = m ((c.tc : Thread Cert.GlobIdeal.nD Cert.GlobIdeal.τ).loc Cert.GlobIdeal.main_arg1)
          ∧ r.2.mem ((c.tc : Thread Cert.GlobIdeal.nD Cert.GlobIdeal.τ).loc Cert.GlobIdeal.main_arg2) = m ((c.tc : Thread Cert.GlobIdeal.nD Cert.GlobIdeal.τ).loc Cert.GlobIdeal.main_arg2)
          ∧ r.2.mem ((c.tc : Thread Cert.GlobIdeal.nD Cert.GlobIdeal.τ).loc Cert.GlobIdeal.main_arg3) = m ((c.tc : Thread Cert.GlobIdeal.nD Cert.GlobIdeal.τ).loc Cert.GlobIdeal.main_arg3)
          ∧ r.2.mem ((c.tc : Thread Cert.GlobIdeal.nD Cert.GlobIdeal.τ).loc Cert.GlobIdeal.main_arg4) = m ((c.tc : Thread Cert.GlobIdeal.nD Cert.GlobIdeal.τ).loc Cert.GlobIdeal.main_arg4)
          ∧ r.2.mem ((c.tc : Thread Cert.GlobIdeal.nD Cert.GlobIdeal.τ).loc Cert.GlobIdeal.main_arg5) = m ((c.tc : Thread Cert.GlobIdeal.nD Cert.GlobIdeal.τ).loc Cert.GlobIdeal.main_arg5))
      ∧ θ_run (Cert.GlobRefIdeal.defs (F := Ideal)) (onTc (τ := Cert.GlobRefIdeal.τ) (Cert.GlobRefIdeal.main (F := Ideal))) ⟨m', fun _ => 0, g'⟩ (fun r => ∀ c : Dev Cert.GlobRefIdeal.nD,
          r.2.mem ((c.tc : Thread Cert.GlobRefIdeal.nD Cert.GlobRefIdeal.τ).loc Cert.GlobRefIdeal.main_v68) = v0 c
          ∧ r.2.mem ((c.tc : Thread Cert.GlobRefIdeal.nD Cert.GlobRefIdeal.τ).loc Cert.GlobRefIdeal.main_v70) = v1 c
          ∧ r.2.mem ((c.tc : Thread Cert.GlobRefIdeal.nD Cert.GlobRefIdeal.τ).loc Cert.GlobRefIdeal.main_v72) = v2 c
          ∧ r.2.mem ((c.tc : Thread Cert.GlobRefIdeal.nD Cert.GlobRefIdeal.τ).loc Cert.GlobRefIdeal.main_v74) = v3 c
          ∧ r.2.mem ((c.tc : Thread Cert.GlobRefIdeal.nD Cert.GlobRefIdeal.τ).loc Cert.GlobRefIdeal.main_v76) = v4 c
          ∧ r.2.mem ((c.tc : Thread Cert.GlobRefIdeal.nD Cert.GlobRefIdeal.τ).loc Cert.GlobRefIdeal.main_arg0) = m' ((c.tc : Thread Cert.GlobRefIdeal.nD Cert.GlobRefIdeal.τ).loc Cert.GlobRefIdeal.main_arg0)
          ∧ r.2.mem ((c.tc : Thread Cert.GlobRefIdeal.nD Cert.GlobRefIdeal.τ).loc Cert.GlobRefIdeal.main_arg1) = m' ((c.tc : Thread Cert.GlobRefIdeal.nD Cert.GlobRefIdeal.τ).loc Cert.GlobRefIdeal.main_arg1)
          ∧ r.2.mem ((c.tc : Thread Cert.GlobRefIdeal.nD Cert.GlobRefIdeal.τ).loc Cert.GlobRefIdeal.main_arg2) = m' ((c.tc : Thread Cert.GlobRefIdeal.nD Cert.GlobRefIdeal.τ).loc Cert.GlobRefIdeal.main_arg2)
          ∧ r.2.mem ((c.tc : Thread Cert.GlobRefIdeal.nD Cert.GlobRefIdeal.τ).loc Cert.GlobRefIdeal.main_arg3) = m' ((c.tc : Thread Cert.GlobRefIdeal.nD Cert.GlobRefIdeal.τ).loc Cert.GlobRefIdeal.main_arg3)
          ∧ r.2.mem ((c.tc : Thread Cert.GlobRefIdeal.nD Cert.GlobRefIdeal.τ).loc Cert.GlobRefIdeal.main_arg4) = m' ((c.tc : Thread Cert.GlobRefIdeal.nD Cert.GlobRefIdeal.τ).loc Cert.GlobRefIdeal.main_arg4)
          ∧ r.2.mem ((c.tc : Thread Cert.GlobRefIdeal.nD Cert.GlobRefIdeal.τ).loc Cert.GlobRefIdeal.main_arg5) = m' ((c.tc : Thread Cert.GlobRefIdeal.nD Cert.GlobRefIdeal.τ).loc Cert.GlobRefIdeal.main_arg5))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)
      ∧ m' ((c.tc : Thread Cert.ModRefIdeal.nD Cert.ModRefIdeal.τ).loc Cert.ModRefIdeal.main_arg4) = m ((c.tc : Thread Cert.ModIdeal.nD Cert.ModIdeal.τ).loc Cert.ModIdeal.main_arg4)) →
    ∃ (v0 : (c : Dev Cert.ModIdeal.nD) → Buf (Elt Ideal) ((c.tc : Thread Cert.ModIdeal.nD Cert.ModIdeal.τ).loc Cert.ModIdeal.main_v3_0)) (v1 : (c : Dev Cert.ModIdeal.nD) → Buf (Elt Ideal) ((c.tc : Thread Cert.ModIdeal.nD Cert.ModIdeal.τ).loc Cert.ModIdeal.main_v3_1)) (v2 : (c : Dev Cert.ModIdeal.nD) → Buf (Elt Ideal) ((c.tc : Thread Cert.ModIdeal.nD Cert.ModIdeal.τ).loc Cert.ModIdeal.main_v3_2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v3_0) = v0 c
          ∧ r.2.mem ((c.tc : Thread Cert.ModIdeal.nD Cert.ModIdeal.τ).loc Cert.ModIdeal.main_v3_1) = v1 c
          ∧ r.2.mem ((c.tc : Thread Cert.ModIdeal.nD Cert.ModIdeal.τ).loc Cert.ModIdeal.main_v3_2) = v2 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3)
          ∧ r.2.mem ((c.tc : Thread Cert.ModIdeal.nD Cert.ModIdeal.τ).loc Cert.ModIdeal.main_arg4) = m ((c.tc : Thread Cert.ModIdeal.nD Cert.ModIdeal.τ).loc Cert.ModIdeal.main_arg4))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v17) = v0 c
          ∧ r.2.mem ((c.tc : Thread Cert.ModRefIdeal.nD Cert.ModRefIdeal.τ).loc Cert.ModRefIdeal.main_v14) = v1 c
          ∧ r.2.mem ((c.tc : Thread Cert.ModRefIdeal.nD Cert.ModRefIdeal.τ).loc Cert.ModRefIdeal.main_v11) = v2 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3)
          ∧ r.2.mem ((c.tc : Thread Cert.ModRefIdeal.nD Cert.ModRefIdeal.τ).loc Cert.ModRefIdeal.main_arg4) = m' ((c.tc : Thread Cert.ModRefIdeal.nD Cert.ModRefIdeal.τ).loc Cert.ModRefIdeal.main_arg4))

def preserves_Up_UpIdeal : Prop :=
  True

def algebraic_UpIdeal_UpRefIdeal_pre_up_finite [hUpIdeal : Cert.UpIdeal.Facts] [hUpRefIdeal : Cert.UpRefIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_up_finite m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)
      ∧ m' ((c.tc : Thread Cert.UpRefIdeal.nD Cert.UpRefIdeal.τ).loc Cert.UpRefIdeal.main_arg7) = m ((c.tc : Thread Cert.UpIdeal.nD Cert.UpIdeal.τ).loc Cert.UpIdeal.main_arg7)
      ∧ m' ((c.tc : Thread Cert.UpRefIdeal.nD Cert.UpRefIdeal.τ).loc Cert.UpRefIdeal.main_arg8) = m ((c.tc : Thread Cert.UpIdeal.nD Cert.UpIdeal.τ).loc Cert.UpIdeal.main_arg8)) →
    ∃ (v0 : (c : Dev Cert.UpIdeal.nD) → Buf (Elt Ideal) ((c.tc : Thread Cert.UpIdeal.nD Cert.UpIdeal.τ).loc Cert.UpIdeal.main_v30_0)) (v1 : (c : Dev Cert.UpIdeal.nD) → Buf (Elt Ideal) ((c.tc : Thread Cert.UpIdeal.nD Cert.UpIdeal.τ).loc Cert.UpIdeal.main_v30_1)) (v2 : (c : Dev Cert.UpIdeal.nD) → Buf (Elt Ideal) ((c.tc : Thread Cert.UpIdeal.nD Cert.UpIdeal.τ).loc Cert.UpIdeal.main_v30_2)) (v3 : (c : Dev Cert.UpIdeal.nD) → Buf (Elt Ideal) ((c.tc : Thread Cert.UpIdeal.nD Cert.UpIdeal.τ).loc Cert.UpIdeal.main_v30_3)) (v4 : (c : Dev Cert.UpIdeal.nD) → Buf (Elt Ideal) ((c.tc : Thread Cert.UpIdeal.nD Cert.UpIdeal.τ).loc Cert.UpIdeal.main_v30_4)) (v5 : (c : Dev Cert.UpIdeal.nD) → Buf (Elt Ideal) ((c.tc : Thread Cert.UpIdeal.nD Cert.UpIdeal.τ).loc Cert.UpIdeal.main_v30_5)) (v6 : (c : Dev Cert.UpIdeal.nD) → Buf (Elt Ideal) ((c.tc : Thread Cert.UpIdeal.nD Cert.UpIdeal.τ).loc Cert.UpIdeal.main_v30_6)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v30_0) = v0 c
          ∧ r.2.mem ((c.tc : Thread Cert.UpIdeal.nD Cert.UpIdeal.τ).loc Cert.UpIdeal.main_v30_1) = v1 c
          ∧ r.2.mem ((c.tc : Thread Cert.UpIdeal.nD Cert.UpIdeal.τ).loc Cert.UpIdeal.main_v30_2) = v2 c
          ∧ r.2.mem ((c.tc : Thread Cert.UpIdeal.nD Cert.UpIdeal.τ).loc Cert.UpIdeal.main_v30_3) = v3 c
          ∧ r.2.mem ((c.tc : Thread Cert.UpIdeal.nD Cert.UpIdeal.τ).loc Cert.UpIdeal.main_v30_4) = v4 c
          ∧ r.2.mem ((c.tc : Thread Cert.UpIdeal.nD Cert.UpIdeal.τ).loc Cert.UpIdeal.main_v30_5) = v5 c
          ∧ r.2.mem ((c.tc : Thread Cert.UpIdeal.nD Cert.UpIdeal.τ).loc Cert.UpIdeal.main_v30_6) = v6 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7)
          ∧ r.2.mem ((c.tc : Thread Cert.UpIdeal.nD Cert.UpIdeal.τ).loc Cert.UpIdeal.main_arg8) = m ((c.tc : Thread Cert.UpIdeal.nD Cert.UpIdeal.τ).loc Cert.UpIdeal.main_arg8))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v88) = v0 c
          ∧ r.2.mem ((c.tc : Thread Cert.UpRefIdeal.nD Cert.UpRefIdeal.τ).loc Cert.UpRefIdeal.main_v89) = v1 c
          ∧ r.2.mem ((c.tc : Thread Cert.UpRefIdeal.nD Cert.UpRefIdeal.τ).loc Cert.UpRefIdeal.main_v46) = v2 c
          ∧ r.2.mem ((c.tc : Thread Cert.UpRefIdeal.nD Cert.UpRefIdeal.τ).loc Cert.UpRefIdeal.main_v43) = v3 c
          ∧ r.2.mem ((c.tc : Thread Cert.UpRefIdeal.nD Cert.UpRefIdeal.τ).loc Cert.UpRefIdeal.main_v55) = v4 c
          ∧ r.2.mem ((c.tc : Thread Cert.UpRefIdeal.nD Cert.UpRefIdeal.τ).loc Cert.UpRefIdeal.main_v52) = v5 c
          ∧ r.2.mem ((c.tc : Thread Cert.UpRefIdeal.nD Cert.UpRefIdeal.τ).loc Cert.UpRefIdeal.main_v86) = v6 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6)
          ∧ r.2.mem ((c.tc : Thread Cert.UpRefIdeal.nD Cert.UpRefIdeal.τ).loc Cert.UpRefIdeal.main_arg7) = m' ((c.tc : Thread Cert.UpRefIdeal.nD Cert.UpRefIdeal.τ).loc Cert.UpRefIdeal.main_arg7)
          ∧ r.2.mem ((c.tc : Thread Cert.UpRefIdeal.nD Cert.UpRefIdeal.τ).loc Cert.UpRefIdeal.main_arg8) = m' ((c.tc : Thread Cert.UpRefIdeal.nD Cert.UpRefIdeal.τ).loc Cert.UpRefIdeal.main_arg8))

def preserves_Down_DownIdeal : Prop :=
  True

def algebraic_DownIdeal_DownRefIdeal_pre_down_finite [hDownIdeal : Cert.DownIdeal.Facts] [hDownRefIdeal : Cert.DownRefIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_down_finite m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)) (v2 : (c : Dev Cert.DownIdeal.nD) → Buf (Elt Ideal) ((c.tc : Thread Cert.DownIdeal.nD Cert.DownIdeal.τ).loc Cert.DownIdeal.main_v1_2)) (v3 : (c : Dev Cert.DownIdeal.nD) → Buf (Elt Ideal) ((c.tc : Thread Cert.DownIdeal.nD Cert.DownIdeal.τ).loc Cert.DownIdeal.main_v1_3)) (v4 : (c : Dev Cert.DownIdeal.nD) → Buf (Elt Ideal) ((c.tc : Thread Cert.DownIdeal.nD Cert.DownIdeal.τ).loc Cert.DownIdeal.main_v1_4)) (v5 : (c : Dev Cert.DownIdeal.nD) → Buf (Elt Ideal) ((c.tc : Thread Cert.DownIdeal.nD Cert.DownIdeal.τ).loc Cert.DownIdeal.main_v1_5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_v1_2) = v2 c
          ∧ r.2.mem ((c.tc : Thread Cert.DownIdeal.nD Cert.DownIdeal.τ).loc Cert.DownIdeal.main_v1_3) = v3 c
          ∧ r.2.mem ((c.tc : Thread Cert.DownIdeal.nD Cert.DownIdeal.τ).loc Cert.DownIdeal.main_v1_4) = v4 c
          ∧ r.2.mem ((c.tc : Thread Cert.DownIdeal.nD Cert.DownIdeal.τ).loc Cert.DownIdeal.main_v1_5) = v5 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v91) = v0 c
          ∧ r.2.mem ((c.tc : Thread Cert.DownRefIdeal.nD Cert.DownRefIdeal.τ).loc Cert.DownRefIdeal.main_v92) = v1 c
          ∧ r.2.mem ((c.tc : Thread Cert.DownRefIdeal.nD Cert.DownRefIdeal.τ).loc Cert.DownRefIdeal.main_v87) = v2 c
          ∧ r.2.mem ((c.tc : Thread Cert.DownRefIdeal.nD Cert.DownRefIdeal.τ).loc Cert.DownRefIdeal.main_v54) = v3 c
          ∧ r.2.mem ((c.tc : Thread Cert.DownRefIdeal.nD Cert.DownRefIdeal.τ).loc Cert.DownRefIdeal.main_v51) = v4 c
          ∧ r.2.mem ((c.tc : Thread Cert.DownRefIdeal.nD Cert.DownRefIdeal.τ).loc Cert.DownRefIdeal.main_v85) = v5 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)
      ∧ m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13)) →
    ∃ (v0 : (c : Dev Cert.PrepIdeal.nD) → Buf (Elt Ideal) ((c.tc : Thread Cert.PrepIdeal.nD Cert.PrepIdeal.τ).loc Cert.PrepIdeal.main_v16_0)) (v1 : (c : Dev Cert.PrepIdeal.nD) → Buf (Elt Ideal) ((c.tc : Thread Cert.PrepIdeal.nD Cert.PrepIdeal.τ).loc Cert.PrepIdeal.main_v16_1)) (v2 : (c : Dev Cert.PrepIdeal.nD) → Buf (Elt Ideal) ((c.tc : Thread Cert.PrepIdeal.nD Cert.PrepIdeal.τ).loc Cert.PrepIdeal.main_v16_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v16_0) = v0 c
          ∧ r.2.mem ((c.tc : Thread Cert.PrepIdeal.nD Cert.PrepIdeal.τ).loc Cert.PrepIdeal.main_v16_1) = v1 c
          ∧ r.2.mem ((c.tc : Thread Cert.PrepIdeal.nD Cert.PrepIdeal.τ).loc Cert.PrepIdeal.main_v16_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v365) = v0 c
          ∧ r.2.mem ((c.tc : Thread Cert.PrepRefIdeal.nD Cert.PrepRefIdeal.τ).loc Cert.PrepRefIdeal.main_v366) = v1 c
          ∧ r.2.mem ((c.tc : Thread Cert.PrepRefIdeal.nD Cert.PrepRefIdeal.τ).loc Cert.PrepRefIdeal.main_v367) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12)
          ∧ r.2.mem ((c.tc : Thread Cert.PrepRefIdeal.nD Cert.PrepRefIdeal.τ).loc Cert.PrepRefIdeal.main_arg13) = m' ((c.tc : Thread Cert.PrepRefIdeal.nD Cert.PrepRefIdeal.τ).loc Cert.PrepRefIdeal.main_arg13))

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)
      ∧ m' ((c.tc : Thread Cert.ActRefIdeal.nD Cert.ActRefIdeal.τ).loc Cert.ActRefIdeal.main_arg4) = m ((c.tc : Thread Cert.ActIdeal.nD Cert.ActIdeal.τ).loc Cert.ActIdeal.main_arg4)) →
    ∃ (v0 : (c : Dev Cert.ActIdeal.nD) → Buf (Elt Ideal) ((c.tc : Thread Cert.ActIdeal.nD Cert.ActIdeal.τ).loc Cert.ActIdeal.main_v6_0)) (v1 : (c : Dev Cert.ActIdeal.nD) → Buf (Elt Ideal) ((c.tc : Thread Cert.ActIdeal.nD Cert.ActIdeal.τ).loc Cert.ActIdeal.main_v6_1)) (v2 : (c : Dev Cert.ActIdeal.nD) → Buf (Elt Ideal) ((c.tc : Thread Cert.ActIdeal.nD Cert.ActIdeal.τ).loc Cert.ActIdeal.main_v6_2)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v6_0) = v0 c
          ∧ r.2.mem ((c.tc : Thread Cert.ActIdeal.nD Cert.ActIdeal.τ).loc Cert.ActIdeal.main_v6_1) = v1 c
          ∧ r.2.mem ((c.tc : Thread Cert.ActIdeal.nD Cert.ActIdeal.τ).loc Cert.ActIdeal.main_v6_2) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3)
          ∧ r.2.mem ((c.tc : Thread Cert.ActIdeal.nD Cert.ActIdeal.τ).loc Cert.ActIdeal.main_arg4) = m ((c.tc : Thread Cert.ActIdeal.nD Cert.ActIdeal.τ).loc Cert.ActIdeal.main_arg4))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v60) = v0 c
          ∧ r.2.mem ((c.tc : Thread Cert.ActRefIdeal.nD Cert.ActRefIdeal.τ).loc Cert.ActRefIdeal.main_v62) = v1 c
          ∧ r.2.mem ((c.tc : Thread Cert.ActRefIdeal.nD Cert.ActRefIdeal.τ).loc Cert.ActRefIdeal.main_v64) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3)
          ∧ r.2.mem ((c.tc : Thread Cert.ActRefIdeal.nD Cert.ActRefIdeal.τ).loc Cert.ActRefIdeal.main_arg4) = m' ((c.tc : Thread Cert.ActRefIdeal.nD Cert.ActRefIdeal.τ).loc Cert.ActRefIdeal.main_arg4))

def preserves_DwMod_DwModIdeal : Prop :=
  True

def algebraic_DwModIdeal_DwModRefIdeal_pre_dwmod_finite [hDwModIdeal : Cert.DwModIdeal.Facts] [hDwModRefIdeal : Cert.DwModRefIdeal.Facts] [hPre_dwmod_finite : Cert.Pre_dwmod_finite.Facts] : Prop :=
  ∀ (m : (ℓ : Loc Cert.DwModIdeal.nD Cert.DwModIdeal.τ Cert.DwModIdeal.sig) → Buf (Elt Ideal) ℓ) (g : Dev Cert.DwModIdeal.nD → PrngReg)
    (m' : (ℓ : Loc Cert.DwModRefIdeal.nD Cert.DwModRefIdeal.τ Cert.DwModRefIdeal.sig) → Buf (Elt Ideal) ℓ) (g' : Dev Cert.DwModRefIdeal.nD → PrngReg), Pre_DwModIdeal_dwmod_finite m →
    (∀ c : Dev Cert.DwModIdeal.nD,
      m' ((c.tc : Thread Cert.DwModRefIdeal.nD Cert.DwModRefIdeal.τ).loc Cert.DwModRefIdeal.main_arg0) = m ((c.tc : Thread Cert.DwModIdeal.nD Cert.DwModIdeal.τ).loc Cert.DwModIdeal.main_arg0)
      ∧ m' ((c.tc : Thread Cert.DwModRefIdeal.nD Cert.DwModRefIdeal.τ).loc Cert.DwModRefIdeal.main_arg1) = m ((c.tc : Thread Cert.DwModIdeal.nD Cert.DwModIdeal.τ).loc Cert.DwModIdeal.main_arg1)) →
    ∃ (v0 : (c : Dev Cert.DwModIdeal.nD) → Buf (Elt Ideal) ((c.tc : Thread Cert.DwModIdeal.nD Cert.DwModIdeal.τ).loc Cert.DwModIdeal.main_v0)),
      θ_run (Cert.DwModIdeal.defs (F := Ideal)) (onTc (τ := Cert.DwModIdeal.τ) (Cert.DwModIdeal.main (F := Ideal))) ⟨m, fun _ => 0, g⟩ (fun r => ∀ c : Dev Cert.DwModIdeal.nD,
          r.2.mem ((c.tc : Thread Cert.DwModIdeal.nD Cert.DwModIdeal.τ).loc Cert.DwModIdeal.main_v0) = v0 c
          ∧ r.2.mem ((c.tc : Thread Cert.DwModIdeal.nD Cert.DwModIdeal.τ).loc Cert.DwModIdeal.main_arg0) = m ((c.tc : Thread Cert.DwModIdeal.nD Cert.DwModIdeal.τ).loc Cert.DwModIdeal.main_arg0)
          ∧ r.2.mem ((c.tc : Thread Cert.DwModIdeal.nD Cert.DwModIdeal.τ).loc Cert.DwModIdeal.main_arg1) = m ((c.tc : Thread Cert.DwModIdeal.nD Cert.DwModIdeal.τ).loc Cert.DwModIdeal.main_arg1))
      ∧ θ_run (Cert.DwModRefIdeal.defs (F := Ideal)) (onTc (τ := Cert.DwModRefIdeal.τ) (Cert.DwModRefIdeal.main (F := Ideal))) ⟨m', fun _ => 0, g'⟩ (fun r => ∀ c : Dev Cert.DwModRefIdeal.nD,
          r.2.mem ((c.tc : Thread Cert.DwModRefIdeal.nD Cert.DwModRefIdeal.τ).loc Cert.DwModRefIdeal.main_v4) = v0 c
          ∧ r.2.mem ((c.tc : Thread Cert.DwModRefIdeal.nD Cert.DwModRefIdeal.τ).loc Cert.DwModRefIdeal.main_arg0) = m' ((c.tc : Thread Cert.DwModRefIdeal.nD Cert.DwModRefIdeal.τ).loc Cert.DwModRefIdeal.main_arg0)
          ∧ r.2.mem ((c.tc : Thread Cert.DwModRefIdeal.nD Cert.DwModRefIdeal.τ).loc Cert.DwModRefIdeal.main_arg1) = m' ((c.tc : Thread Cert.DwModRefIdeal.nD Cert.DwModRefIdeal.τ).loc Cert.DwModRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)) →
    ∃ (v0 : (c : Dev Cert.DwInIdeal.nD) → Buf (Elt Ideal) ((c.tc : Thread Cert.DwInIdeal.nD Cert.DwInIdeal.τ).loc Cert.DwInIdeal.main_v0_0)) (v1 : (c : Dev Cert.DwInIdeal.nD) → Buf (Elt Ideal) ((c.tc : Thread Cert.DwInIdeal.nD Cert.DwInIdeal.τ).loc Cert.DwInIdeal.main_v0_1)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0_0) = v0 c
          ∧ r.2.mem ((c.tc : Thread Cert.DwInIdeal.nD Cert.DwInIdeal.τ).loc Cert.DwInIdeal.main_v0_1) = v1 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v24) = v0 c
          ∧ r.2.mem ((c.tc : Thread Cert.DwInRefIdeal.nD Cert.DwInRefIdeal.τ).loc Cert.DwInRefIdeal.main_v27) = v1 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)
      ∧ m' ((c.tc : Thread Cert.DwUpRefIdeal.nD Cert.DwUpRefIdeal.τ).loc Cert.DwUpRefIdeal.main_arg3) = m ((c.tc : Thread Cert.DwUpIdeal.nD Cert.DwUpIdeal.τ).loc Cert.DwUpIdeal.main_arg3)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
          ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v19) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2)
          ∧ r.2.mem ((c.tc : Thread Cert.DwUpRefIdeal.nD Cert.DwUpRefIdeal.τ).loc Cert.DwUpRefIdeal.main_arg3) = m' ((c.tc : Thread Cert.DwUpRefIdeal.nD Cert.DwUpRefIdeal.τ).loc Cert.DwUpRefIdeal.main_arg3))

def preserves_DwCtx_DwCtxIdeal : Prop :=
  True

def algebraic_DwCtxIdeal_DwCtxRefIdeal [hDwCtxIdeal : Cert.DwCtxIdeal.Facts] [hDwCtxRefIdeal : Cert.DwCtxRefIdeal.Facts] : Prop :=
  ∀ (m : (ℓ : Loc Cert.DwCtxIdeal.nD Cert.DwCtxIdeal.τ Cert.DwCtxIdeal.sig) → Buf (Elt Ideal) ℓ) (g : Dev Cert.DwCtxIdeal.nD → PrngReg)
    (m' : (ℓ : Loc Cert.DwCtxRefIdeal.nD Cert.DwCtxRefIdeal.τ Cert.DwCtxRefIdeal.sig) → Buf (Elt Ideal) ℓ) (g' : Dev Cert.DwCtxRefIdeal.nD → PrngReg), Pre_DwCtxIdeal m →
    (∀ c : Dev Cert.DwCtxIdeal.nD,
      m' ((c.tc : Thread Cert.DwCtxRefIdeal.nD Cert.DwCtxRefIdeal.τ).loc Cert.DwCtxRefIdeal.main_arg0) = m ((c.tc : Thread Cert.DwCtxIdeal.nD Cert.DwCtxIdeal.τ).loc Cert.DwCtxIdeal.main_arg0)
      ∧ m' ((c.tc : Thread Cert.DwCtxRefIdeal.nD Cert.DwCtxRefIdeal.τ).loc Cert.DwCtxRefIdeal.main_arg1) = m ((c.tc : Thread Cert.DwCtxIdeal.nD Cert.DwCtxIdeal.τ).loc Cert.DwCtxIdeal.main_arg1)
      ∧ m' ((c.tc : Thread Cert.DwCtxRefIdeal.nD Cert.DwCtxRefIdeal.τ).loc Cert.DwCtxRefIdeal.main_arg2) = m ((c.tc : Thread Cert.DwCtxIdeal.nD Cert.DwCtxIdeal.τ).loc Cert.DwCtxIdeal.main_arg2)
      ∧ m' ((c.tc : Thread Cert.DwCtxRefIdeal.nD Cert.DwCtxRefIdeal.τ).loc Cert.DwCtxRefIdeal.main_arg3) = m ((c.tc : Thread Cert.DwCtxIdeal.nD Cert.DwCtxIdeal.τ).loc Cert.DwCtxIdeal.main_arg3)
      ∧ m' ((c.tc : Thread Cert.DwCtxRefIdeal.nD Cert.DwCtxRefIdeal.τ).loc Cert.DwCtxRefIdeal.main_arg4) = m ((c.tc : Thread Cert.DwCtxIdeal.nD Cert.DwCtxIdeal.τ).loc Cert.DwCtxIdeal.main_arg4)) →
    ∃ (v0 : (c : Dev Cert.DwCtxIdeal.nD) → Buf (Elt Ideal) ((c.tc : Thread Cert.DwCtxIdeal.nD Cert.DwCtxIdeal.τ).loc Cert.DwCtxIdeal.main_v2_0)) (v1 : (c : Dev Cert.DwCtxIdeal.nD) → Buf (Elt Ideal) ((c.tc : Thread Cert.DwCtxIdeal.nD Cert.DwCtxIdeal.τ).loc Cert.DwCtxIdeal.main_v2_1)),
      θ_run (Cert.DwCtxIdeal.defs (F := Ideal)) (onTc (τ := Cert.DwCtxIdeal.τ) (Cert.DwCtxIdeal.main (F := Ideal))) ⟨m, fun _ => 0, g⟩ (fun r => ∀ c : Dev Cert.DwCtxIdeal.nD,
          r.2.mem ((c.tc : Thread Cert.DwCtxIdeal.nD Cert.DwCtxIdeal.τ).loc Cert.DwCtxIdeal.main_v2_0) = v0 c
          ∧ r.2.mem ((c.tc : Thread Cert.DwCtxIdeal.nD Cert.DwCtxIdeal.τ).loc Cert.DwCtxIdeal.main_v2_1) = v1 c
          ∧ r.2.mem ((c.tc : Thread Cert.DwCtxIdeal.nD Cert.DwCtxIdeal.τ).loc Cert.DwCtxIdeal.main_arg0) = m ((c.tc : Thread Cert.DwCtxIdeal.nD Cert.DwCtxIdeal.τ).loc Cert.DwCtxIdeal.main_arg0)
          ∧ r.2.mem ((c.tc : Thread Cert.DwCtxIdeal.nD Cert.DwCtxIdeal.τ).loc Cert.DwCtxIdeal.main_arg1) = m ((c.tc : Thread Cert.DwCtxIdeal.nD Cert.DwCtxIdeal.τ).loc Cert.DwCtxIdeal.main_arg1)
          ∧ r.2.mem ((c.tc : Thread Cert.DwCtxIdeal.nD Cert.DwCtxIdeal.τ).loc Cert.DwCtxIdeal.main_arg2) = m ((c.tc : Thread Cert.DwCtxIdeal.nD Cert.DwCtxIdeal.τ).loc Cert.DwCtxIdeal.main_arg2)
          ∧ r.2.mem ((c.tc : Thread Cert.DwCtxIdeal.nD Cert.DwCtxIdeal.τ).loc Cert.DwCtxIdeal.main_arg3) = m ((c.tc : Thread Cert.DwCtxIdeal.nD Cert.DwCtxIdeal.τ).loc Cert.DwCtxIdeal.main_arg3)
          ∧ r.2.mem ((c.tc : Thread Cert.DwCtxIdeal.nD Cert.DwCtxIdeal.τ).loc Cert.DwCtxIdeal.main_arg4) = m ((c.tc : Thread Cert.DwCtxIdeal.nD Cert.DwCtxIdeal.τ).loc Cert.DwCtxIdeal.main_arg4))
      ∧ θ_run (Cert.DwCtxRefIdeal.defs (F := Ideal)) (onTc (τ := Cert.DwCtxRefIdeal.τ) (Cert.DwCtxRefIdeal.main (F := Ideal))) ⟨m', fun _ => 0, g'⟩ (fun r => ∀ c : Dev Cert.DwCtxRefIdeal.nD,
          r.2.mem ((c.tc : Thread Cert.DwCtxRefIdeal.nD Cert.DwCtxRefIdeal.τ).loc Cert.DwCtxRefIdeal.main_v25) = v0 c
          ∧ r.2.mem ((c.tc : Thread Cert.DwCtxRefIdeal.nD Cert.DwCtxRefIdeal.τ).loc Cert.DwCtxRefIdeal.main_v28) = v1 c
          ∧ r.2.mem ((c.tc : Thread Cert.DwCtxRefIdeal.nD Cert.DwCtxRefIdeal.τ).loc Cert.DwCtxRefIdeal.main_arg0) = m' ((c.tc : Thread Cert.DwCtxRefIdeal.nD Cert.DwCtxRefIdeal.τ).loc Cert.DwCtxRefIdeal.main_arg0)
          ∧ r.2.mem ((c.tc : Thread Cert.DwCtxRefIdeal.nD Cert.DwCtxRefIdeal.τ).loc Cert.DwCtxRefIdeal.main_arg1) = m' ((c.tc : Thread Cert.DwCtxRefIdeal.nD Cert.DwCtxRefIdeal.τ).loc Cert.DwCtxRefIdeal.main_arg1)
          ∧ r.2.mem ((c.tc : Thread Cert.DwCtxRefIdeal.nD Cert.DwCtxRefIdeal.τ).loc Cert.DwCtxRefIdeal.main_arg2) = m' ((c.tc : Thread Cert.DwCtxRefIdeal.nD Cert.DwCtxRefIdeal.τ).loc Cert.DwCtxRefIdeal.main_arg2)
          ∧ r.2.mem ((c.tc : Thread Cert.DwCtxRefIdeal.nD Cert.DwCtxRefIdeal.τ).loc Cert.DwCtxRefIdeal.main_arg3) = m' ((c.tc : Thread Cert.DwCtxRefIdeal.nD Cert.DwCtxRefIdeal.τ).loc Cert.DwCtxRefIdeal.main_arg3)
          ∧ r.2.mem ((c.tc : Thread Cert.DwCtxRefIdeal.nD Cert.DwCtxRefIdeal.τ).loc Cert.DwCtxRefIdeal.main_arg4) = m' ((c.tc : Thread Cert.DwCtxRefIdeal.nD Cert.DwCtxRefIdeal.τ).loc Cert.DwCtxRefIdeal.main_arg4))

def preserves_ModCtx_ModCtxIdeal : Prop :=
  True

def algebraic_ModCtxIdeal_ModCtxRefIdeal [hModCtxIdeal : Cert.ModCtxIdeal.Facts] [hModCtxRefIdeal : Cert.ModCtxRefIdeal.Facts] : Prop :=
  ∀ (m : (ℓ : Loc Cert.ModCtxIdeal.nD Cert.ModCtxIdeal.τ Cert.ModCtxIdeal.sig) → Buf (Elt Ideal) ℓ) (g : Dev Cert.ModCtxIdeal.nD → PrngReg)
    (m' : (ℓ : Loc Cert.ModCtxRefIdeal.nD Cert.ModCtxRefIdeal.τ Cert.ModCtxRefIdeal.sig) → Buf (Elt Ideal) ℓ) (g' : Dev Cert.ModCtxRefIdeal.nD → PrngReg), Pre_ModCtxIdeal m →
    (∀ c : Dev Cert.ModCtxIdeal.nD,
      m' ((c.tc : Thread Cert.ModCtxRefIdeal.nD Cert.ModCtxRefIdeal.τ).loc Cert.ModCtxRefIdeal.main_arg0) = m ((c.tc : Thread Cert.ModCtxIdeal.nD Cert.ModCtxIdeal.τ).loc Cert.ModCtxIdeal.main_arg0)
      ∧ m' ((c.tc : Thread Cert.ModCtxRefIdeal.nD Cert.ModCtxRefIdeal.τ).loc Cert.ModCtxRefIdeal.main_arg1) = m ((c.tc : Thread Cert.ModCtxIdeal.nD Cert.ModCtxIdeal.τ).loc Cert.ModCtxIdeal.main_arg1)
      ∧ m' ((c.tc : Thread Cert.ModCtxRefIdeal.nD Cert.ModCtxRefIdeal.τ).loc Cert.ModCtxRefIdeal.main_arg2) = m ((c.tc : Thread Cert.ModCtxIdeal.nD Cert.ModCtxIdeal.τ).loc Cert.ModCtxIdeal.main_arg2)
      ∧ m' ((c.tc : Thread Cert.ModCtxRefIdeal.nD Cert.ModCtxRefIdeal.τ).loc Cert.ModCtxRefIdeal.main_arg3) = m ((c.tc : Thread Cert.ModCtxIdeal.nD Cert.ModCtxIdeal.τ).loc Cert.ModCtxIdeal.main_arg3)) →
    ∃ (v0 : (c : Dev Cert.ModCtxIdeal.nD) → Buf (Elt Ideal) ((c.tc : Thread Cert.ModCtxIdeal.nD Cert.ModCtxIdeal.τ).loc Cert.ModCtxIdeal.main_v4_0)) (v1 : (c : Dev Cert.ModCtxIdeal.nD) → Buf (Elt Ideal) ((c.tc : Thread Cert.ModCtxIdeal.nD Cert.ModCtxIdeal.τ).loc Cert.ModCtxIdeal.main_v4_1)) (v2 : (c : Dev Cert.ModCtxIdeal.nD) → Buf (Elt Ideal) ((c.tc : Thread Cert.ModCtxIdeal.nD Cert.ModCtxIdeal.τ).loc Cert.ModCtxIdeal.main_v4_2)),
      θ_run (Cert.ModCtxIdeal.defs (F := Ideal)) (onTc (τ := Cert.ModCtxIdeal.τ) (Cert.ModCtxIdeal.main (F := Ideal))) ⟨m, fun _ => 0, g⟩ (fun r => ∀ c : Dev Cert.ModCtxIdeal.nD,
          r.2.mem ((c.tc : Thread Cert.ModCtxIdeal.nD Cert.ModCtxIdeal.τ).loc Cert.ModCtxIdeal.main_v4_0) = v0 c
          ∧ r.2.mem ((c.tc : Thread Cert.ModCtxIdeal.nD Cert.ModCtxIdeal.τ).loc Cert.ModCtxIdeal.main_v4_1) = v1 c
          ∧ r.2.mem ((c.tc : Thread Cert.ModCtxIdeal.nD Cert.ModCtxIdeal.τ).loc Cert.ModCtxIdeal.main_v4_2) = v2 c
          ∧ r.2.mem ((c.tc : Thread Cert.ModCtxIdeal.nD Cert.ModCtxIdeal.τ).loc Cert.ModCtxIdeal.main_arg0) = m ((c.tc : Thread Cert.ModCtxIdeal.nD Cert.ModCtxIdeal.τ).loc Cert.ModCtxIdeal.main_arg0)
          ∧ r.2.mem ((c.tc : Thread Cert.ModCtxIdeal.nD Cert.ModCtxIdeal.τ).loc Cert.ModCtxIdeal.main_arg1) = m ((c.tc : Thread Cert.ModCtxIdeal.nD Cert.ModCtxIdeal.τ).loc Cert.ModCtxIdeal.main_arg1)
          ∧ r.2.mem ((c.tc : Thread Cert.ModCtxIdeal.nD Cert.ModCtxIdeal.τ).loc Cert.ModCtxIdeal.main_arg2) = m ((c.tc : Thread Cert.ModCtxIdeal.nD Cert.ModCtxIdeal.τ).loc Cert.ModCtxIdeal.main_arg2)
          ∧ r.2.mem ((c.tc : Thread Cert.ModCtxIdeal.nD Cert.ModCtxIdeal.τ).loc Cert.ModCtxIdeal.main_arg3) = m ((c.tc : Thread Cert.ModCtxIdeal.nD Cert.ModCtxIdeal.τ).loc Cert.ModCtxIdeal.main_arg3))
      ∧ θ_run (Cert.ModCtxRefIdeal.defs (F := Ideal)) (onTc (τ := Cert.ModCtxRefIdeal.τ) (Cert.ModCtxRefIdeal.main (F := Ideal))) ⟨m', fun _ => 0, g'⟩ (fun r => ∀ c : Dev Cert.ModCtxRefIdeal.nD,
          r.2.mem ((c.tc : Thread Cert.ModCtxRefIdeal.nD Cert.ModCtxRefIdeal.τ).loc Cert.ModCtxRefIdeal.main_v16) = v0 c
          ∧ r.2.mem ((c.tc : Thread Cert.ModCtxRefIdeal.nD Cert.ModCtxRefIdeal.τ).loc Cert.ModCtxRefIdeal.main_v14) = v1 c
          ∧ r.2.mem ((c.tc : Thread Cert.ModCtxRefIdeal.nD Cert.ModCtxRefIdeal.τ).loc Cert.ModCtxRefIdeal.main_v11) = v2 c
          ∧ r.2.mem ((c.tc : Thread Cert.ModCtxRefIdeal.nD Cert.ModCtxRefIdeal.τ).loc Cert.ModCtxRefIdeal.main_arg0) = m' ((c.tc : Thread Cert.ModCtxRefIdeal.nD Cert.ModCtxRefIdeal.τ).loc Cert.ModCtxRefIdeal.main_arg0)
          ∧ r.2.mem ((c.tc : Thread Cert.ModCtxRefIdeal.nD Cert.ModCtxRefIdeal.τ).loc Cert.ModCtxRefIdeal.main_arg1) = m' ((c.tc : Thread Cert.ModCtxRefIdeal.nD Cert.ModCtxRefIdeal.τ).loc Cert.ModCtxRefIdeal.main_arg1)
          ∧ r.2.mem ((c.tc : Thread Cert.ModCtxRefIdeal.nD Cert.ModCtxRefIdeal.τ).loc Cert.ModCtxRefIdeal.main_arg2) = m' ((c.tc : Thread Cert.ModCtxRefIdeal.nD Cert.ModCtxRefIdeal.τ).loc Cert.ModCtxRefIdeal.main_arg2)
          ∧ r.2.mem ((c.tc : Thread Cert.ModCtxRefIdeal.nD Cert.ModCtxRefIdeal.τ).loc Cert.ModCtxRefIdeal.main_arg3) = m' ((c.tc : Thread Cert.ModCtxRefIdeal.nD Cert.ModCtxRefIdeal.τ).loc Cert.ModCtxRefIdeal.main_arg3))

def preserves_CCtx_CCtxIdeal : Prop :=
  True

def algebraic_CCtxIdeal_CCtxRefIdeal_pre_cctx_finite [hCCtxIdeal : Cert.CCtxIdeal.Facts] [hCCtxRefIdeal : Cert.CCtxRefIdeal.Facts] [hPre_cctx_finite : Cert.Pre_cctx_finite.Facts] : Prop :=
  ∀ (m : (ℓ : Loc Cert.CCtxIdeal.nD Cert.CCtxIdeal.τ Cert.CCtxIdeal.sig) → Buf (Elt Ideal) ℓ) (g : Dev Cert.CCtxIdeal.nD → PrngReg)
    (m' : (ℓ : Loc Cert.CCtxRefIdeal.nD Cert.CCtxRefIdeal.τ Cert.CCtxRefIdeal.sig) → Buf (Elt Ideal) ℓ) (g' : Dev Cert.CCtxRefIdeal.nD → PrngReg), Pre_CCtxIdeal_cctx_finite m →
    (∀ c : Dev Cert.CCtxIdeal.nD,
      m' ((c.tc : Thread Cert.CCtxRefIdeal.nD Cert.CCtxRefIdeal.τ).loc Cert.CCtxRefIdeal.main_arg0) = m ((c.tc : Thread Cert.CCtxIdeal.nD Cert.CCtxIdeal.τ).loc Cert.CCtxIdeal.main_arg0)
      ∧ m' ((c.tc : Thread Cert.CCtxRefIdeal.nD Cert.CCtxRefIdeal.τ).loc Cert.CCtxRefIdeal.main_arg1) = m ((c.tc : Thread Cert.CCtxIdeal.nD Cert.CCtxIdeal.τ).loc Cert.CCtxIdeal.main_arg1)
      ∧ m' ((c.tc : Thread Cert.CCtxRefIdeal.nD Cert.CCtxRefIdeal.τ).loc Cert.CCtxRefIdeal.main_arg2) = m ((c.tc : Thread Cert.CCtxIdeal.nD Cert.CCtxIdeal.τ).loc Cert.CCtxIdeal.main_arg2)) →
    ∃ (v0 : (c : Dev Cert.CCtxIdeal.nD) → Buf (Elt Ideal) ((c.tc : Thread Cert.CCtxIdeal.nD Cert.CCtxIdeal.τ).loc Cert.CCtxIdeal.main_v27)),
      θ_run (Cert.CCtxIdeal.defs (F := Ideal)) (onTc (τ := Cert.CCtxIdeal.τ) (Cert.CCtxIdeal.main (F := Ideal))) ⟨m, fun _ => 0, g⟩ (fun r => ∀ c : Dev Cert.CCtxIdeal.nD,
          r.2.mem ((c.tc : Thread Cert.CCtxIdeal.nD Cert.CCtxIdeal.τ).loc Cert.CCtxIdeal.main_v27) = v0 c
          ∧ r.2.mem ((c.tc : Thread Cert.CCtxIdeal.nD Cert.CCtxIdeal.τ).loc Cert.CCtxIdeal.main_arg0) = m ((c.tc : Thread Cert.CCtxIdeal.nD Cert.CCtxIdeal.τ).loc Cert.CCtxIdeal.main_arg0)
          ∧ r.2.mem ((c.tc : Thread Cert.CCtxIdeal.nD Cert.CCtxIdeal.τ).loc Cert.CCtxIdeal.main_arg1) = m ((c.tc : Thread Cert.CCtxIdeal.nD Cert.CCtxIdeal.τ).loc Cert.CCtxIdeal.main_arg1)
          ∧ r.2.mem ((c.tc : Thread Cert.CCtxIdeal.nD Cert.CCtxIdeal.τ).loc Cert.CCtxIdeal.main_arg2) = m ((c.tc : Thread Cert.CCtxIdeal.nD Cert.CCtxIdeal.τ).loc Cert.CCtxIdeal.main_arg2))
      ∧ θ_run (Cert.CCtxRefIdeal.defs (F := Ideal)) (onTc (τ := Cert.CCtxRefIdeal.τ) (Cert.CCtxRefIdeal.main (F := Ideal))) ⟨m', fun _ => 0, g'⟩ (fun r => ∀ c : Dev Cert.CCtxRefIdeal.nD,
          r.2.mem ((c.tc : Thread Cert.CCtxRefIdeal.nD Cert.CCtxRefIdeal.τ).loc Cert.CCtxRefIdeal.main_v4) = v0 c
          ∧ r.2.mem ((c.tc : Thread Cert.CCtxRefIdeal.nD Cert.CCtxRefIdeal.τ).loc Cert.CCtxRefIdeal.main_arg0) = m' ((c.tc : Thread Cert.CCtxRefIdeal.nD Cert.CCtxRefIdeal.τ).loc Cert.CCtxRefIdeal.main_arg0)
          ∧ r.2.mem ((c.tc : Thread Cert.CCtxRefIdeal.nD Cert.CCtxRefIdeal.τ).loc Cert.CCtxRefIdeal.main_arg1) = m' ((c.tc : Thread Cert.CCtxRefIdeal.nD Cert.CCtxRefIdeal.τ).loc Cert.CCtxRefIdeal.main_arg1)
          ∧ r.2.mem ((c.tc : Thread Cert.CCtxRefIdeal.nD Cert.CCtxRefIdeal.τ).loc Cert.CCtxRefIdeal.main_arg2) = m' ((c.tc : Thread Cert.CCtxRefIdeal.nD Cert.CCtxRefIdeal.τ).loc Cert.CCtxRefIdeal.main_arg2))

def preserves_PrepCtx_PrepCtxIdeal : Prop :=
  True

def Claim : Prop :=
  ∃ (hConvIn : Cert.ConvIn.Facts) (hConvInIdeal : Cert.ConvInIdeal.Facts) (hConvInRefIdeal : Cert.ConvInRefIdeal.Facts) (hMerge : Cert.Merge.Facts) (hMergeIdeal : Cert.MergeIdeal.Facts) (hMergeRefIdeal : Cert.MergeRefIdeal.Facts) (hGlob : Cert.Glob.Facts) (hGlobIdeal : Cert.GlobIdeal.Facts) (hGlobRefIdeal : Cert.GlobRefIdeal.Facts) (hMod : Cert.Mod.Facts) (hModIdeal : Cert.ModIdeal.Facts) (hModRefIdeal : Cert.ModRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPrep : Cert.Prep.Facts) (hPrepIdeal : Cert.PrepIdeal.Facts) (hPrepRefIdeal : Cert.PrepRefIdeal.Facts) (hAct : Cert.Act.Facts) (hActIdeal : Cert.ActIdeal.Facts) (hActRefIdeal : Cert.ActRefIdeal.Facts) (hDwMod : Cert.DwMod.Facts) (hDwModIdeal : Cert.DwModIdeal.Facts) (hDwModRefIdeal : Cert.DwModRefIdeal.Facts) (hDwIn : Cert.DwIn.Facts) (hDwInIdeal : Cert.DwInIdeal.Facts) (hDwInRefIdeal : Cert.DwInRefIdeal.Facts) (hDwUp : Cert.DwUp.Facts) (hDwUpIdeal : Cert.DwUpIdeal.Facts) (hDwUpRefIdeal : Cert.DwUpRefIdeal.Facts) (hDwCtx : Cert.DwCtx.Facts) (hDwCtxIdeal : Cert.DwCtxIdeal.Facts) (hDwCtxRefIdeal : Cert.DwCtxRefIdeal.Facts) (hModCtx : Cert.ModCtx.Facts) (hModCtxIdeal : Cert.ModCtxIdeal.Facts) (hModCtxRefIdeal : Cert.ModCtxRefIdeal.Facts) (hCCtx : Cert.CCtx.Facts) (hCCtxIdeal : Cert.CCtxIdeal.Facts) (hCCtxRefIdeal : Cert.CCtxRefIdeal.Facts) (hPrepCtx : Cert.PrepCtx.Facts) (hPrepCtxIdeal : Cert.PrepCtxIdeal.Facts) (hPrepCtxRefIdeal : Cert.PrepCtxRefIdeal.Facts) (hPre_glob_finite : Cert.Pre_glob_finite.Facts) (hPre_up_finite : Cert.Pre_up_finite.Facts) (hPre_down_finite : Cert.Pre_down_finite.Facts) (hPre_prep_finite : Cert.Pre_prep_finite.Facts) (hPre_act_finite : Cert.Pre_act_finite.Facts) (hPre_dwmod_finite : Cert.Pre_dwmod_finite.Facts) (hPre_cctx_finite : Cert.Pre_cctx_finite.Facts),
    quiescent_ConvIn (hConvIn := hConvIn)
    ∧ quiescent_ConvInIdeal (hConvInIdeal := hConvInIdeal)
    ∧ quiescent_ConvInRefIdeal (hConvInRefIdeal := hConvInRefIdeal)
    ∧ quiescent_Merge (hMerge := hMerge)
    ∧ quiescent_MergeIdeal (hMergeIdeal := hMergeIdeal)
    ∧ quiescent_MergeRefIdeal (hMergeRefIdeal := hMergeRefIdeal)
    ∧ quiescent_Glob (hGlob := hGlob)
    ∧ quiescent_GlobIdeal (hGlobIdeal := hGlobIdeal)
    ∧ quiescent_GlobIdeal_pre_glob_finite (hGlobIdeal := hGlobIdeal) (hPre_glob_finite := hPre_glob_finite)
    ∧ quiescent_GlobRefIdeal (hGlobRefIdeal := hGlobRefIdeal)
    ∧ quiescent_GlobRefIdeal_pre_glob_finite (hGlobRefIdeal := hGlobRefIdeal) (hPre_glob_finite := hPre_glob_finite)
    ∧ quiescent_Mod (hMod := hMod)
    ∧ quiescent_ModIdeal (hModIdeal := hModIdeal)
    ∧ quiescent_ModRefIdeal (hModRefIdeal := hModRefIdeal)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_Down (hDown := hDown)
    ∧ quiescent_DownIdeal (hDownIdeal := hDownIdeal)
    ∧ quiescent_DownIdeal_pre_down_finite (hDownIdeal := hDownIdeal) (hPre_down_finite := hPre_down_finite)
    ∧ quiescent_DownRefIdeal (hDownRefIdeal := hDownRefIdeal)
    ∧ quiescent_DownRefIdeal_pre_down_finite (hDownRefIdeal := hDownRefIdeal) (hPre_down_finite := hPre_down_finite)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_DwMod (hDwMod := hDwMod)
    ∧ quiescent_DwModIdeal (hDwModIdeal := hDwModIdeal)
    ∧ quiescent_DwModIdeal_pre_dwmod_finite (hDwModIdeal := hDwModIdeal) (hPre_dwmod_finite := hPre_dwmod_finite)
    ∧ quiescent_DwModRefIdeal (hDwModRefIdeal := hDwModRefIdeal)
    ∧ quiescent_DwModRefIdeal_pre_dwmod_finite (hDwModRefIdeal := hDwModRefIdeal) (hPre_dwmod_finite := hPre_dwmod_finite)
    ∧ quiescent_DwIn (hDwIn := hDwIn)
    ∧ quiescent_DwInIdeal (hDwInIdeal := hDwInIdeal)
    ∧ quiescent_DwInRefIdeal (hDwInRefIdeal := hDwInRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwCtx (hDwCtx := hDwCtx)
    ∧ quiescent_DwCtxIdeal (hDwCtxIdeal := hDwCtxIdeal)
    ∧ quiescent_DwCtxRefIdeal (hDwCtxRefIdeal := hDwCtxRefIdeal)
    ∧ quiescent_ModCtx (hModCtx := hModCtx)
    ∧ quiescent_ModCtxIdeal (hModCtxIdeal := hModCtxIdeal)
    ∧ quiescent_ModCtxRefIdeal (hModCtxRefIdeal := hModCtxRefIdeal)
    ∧ quiescent_CCtx (hCCtx := hCCtx)
    ∧ quiescent_CCtxIdeal (hCCtxIdeal := hCCtxIdeal)
    ∧ quiescent_CCtxIdeal_pre_cctx_finite (hCCtxIdeal := hCCtxIdeal) (hPre_cctx_finite := hPre_cctx_finite)
    ∧ quiescent_CCtxRefIdeal (hCCtxRefIdeal := hCCtxRefIdeal)
    ∧ quiescent_CCtxRefIdeal_pre_cctx_finite (hCCtxRefIdeal := hCCtxRefIdeal) (hPre_cctx_finite := hPre_cctx_finite)
    ∧ quiescent_PrepCtx (hPrepCtx := hPrepCtx)
    ∧ quiescent_PrepCtxIdeal (hPrepCtxIdeal := hPrepCtxIdeal)
    ∧ quiescent_PrepCtxRefIdeal (hPrepCtxRefIdeal := hPrepCtxRefIdeal)
    ∧ preserves_ConvIn_ConvInIdeal
    ∧ algebraic_ConvInIdeal_ConvInRefIdeal (hConvInIdeal := hConvInIdeal) (hConvInRefIdeal := hConvInRefIdeal)
    ∧ preserves_Merge_MergeIdeal
    ∧ algebraic_MergeIdeal_MergeRefIdeal (hMergeIdeal := hMergeIdeal) (hMergeRefIdeal := hMergeRefIdeal)
    ∧ preserves_Glob_GlobIdeal
    ∧ algebraic_GlobIdeal_GlobRefIdeal_pre_glob_finite (hGlobIdeal := hGlobIdeal) (hGlobRefIdeal := hGlobRefIdeal) (hPre_glob_finite := hPre_glob_finite)
    ∧ preserves_Mod_ModIdeal
    ∧ algebraic_ModIdeal_ModRefIdeal (hModIdeal := hModIdeal) (hModRefIdeal := hModRefIdeal)
    ∧ preserves_Up_UpIdeal
    ∧ algebraic_UpIdeal_UpRefIdeal_pre_up_finite (hUpIdeal := hUpIdeal) (hUpRefIdeal := hUpRefIdeal) (hPre_up_finite := hPre_up_finite)
    ∧ preserves_Down_DownIdeal
    ∧ algebraic_DownIdeal_DownRefIdeal_pre_down_finite (hDownIdeal := hDownIdeal) (hDownRefIdeal := hDownRefIdeal) (hPre_down_finite := hPre_down_finite)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_Act_ActIdeal
    ∧ algebraic_ActIdeal_ActRefIdeal_pre_act_finite (hActIdeal := hActIdeal) (hActRefIdeal := hActRefIdeal) (hPre_act_finite := hPre_act_finite)
    ∧ preserves_DwMod_DwModIdeal
    ∧ algebraic_DwModIdeal_DwModRefIdeal_pre_dwmod_finite (hDwModIdeal := hDwModIdeal) (hDwModRefIdeal := hDwModRefIdeal) (hPre_dwmod_finite := hPre_dwmod_finite)
    ∧ preserves_DwIn_DwInIdeal
    ∧ algebraic_DwInIdeal_DwInRefIdeal (hDwInIdeal := hDwInIdeal) (hDwInRefIdeal := hDwInRefIdeal)
    ∧ preserves_DwUp_DwUpIdeal
    ∧ algebraic_DwUpIdeal_DwUpRefIdeal (hDwUpIdeal := hDwUpIdeal) (hDwUpRefIdeal := hDwUpRefIdeal)
    ∧ preserves_DwCtx_DwCtxIdeal
    ∧ algebraic_DwCtxIdeal_DwCtxRefIdeal (hDwCtxIdeal := hDwCtxIdeal) (hDwCtxRefIdeal := hDwCtxRefIdeal)
    ∧ preserves_ModCtx_ModCtxIdeal
    ∧ algebraic_ModCtxIdeal_ModCtxRefIdeal (hModCtxIdeal := hModCtxIdeal) (hModCtxRefIdeal := hModCtxRefIdeal)
    ∧ preserves_CCtx_CCtxIdeal
    ∧ algebraic_CCtxIdeal_CCtxRefIdeal_pre_cctx_finite (hCCtxIdeal := hCCtxIdeal) (hCCtxRefIdeal := hCCtxRefIdeal) (hPre_cctx_finite := hPre_cctx_finite)
    ∧ preserves_PrepCtx_PrepCtxIdeal
-- ==== Pre_act_finite.lean ====
abbrev S16384x1024 : Shape := ⟨2, ![16384, 1024]⟩
abbrev S2816x1024 : Shape := ⟨2, ![2816, 1024]⟩
abbrev S16384x5632 : Shape := ⟨2, ![16384, 5632]⟩
abbrev S3x5632 : Shape := ⟨2, ![3, 5632]⟩
abbrev S1x5632 : Shape := ⟨2, ![1, 5632]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x5632 : S_.BroadcastsInDim S16384x5632 (![] : Fin 0 → Fin S16384x5632.rank)
  reducesTo_S16384x5632_S_d0_1 : S16384x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_arg4 : FVec F S1x5632 .f32) (main_v4 : IVec S_ 1) (main_v8 : IVec S_ 1) (main_v13 : IVec S_ 1) (main_v16 : IVec S3x5632 1) : IVec S_ 1 :=
  let main_c_5 : IVec S_ 1 := constantI S_ 1 1#1
  let main_v17 : IVec S_ 1 := (fun x v => Host.reduce IntOp.andi x v reducesTo_S3x5632_S_d0_1 h_S_) main_v16 main_c_5
  let main_v18 : FVec F S1x5632 .f32 := Host.absf main_arg4
  let main_cst_6 : FVec F S_ .f32 := constant S_ .f32 0x7F800000#32
  let main_v19 : FVec F S1x5632 .f32 := broadcastInDim S1x5632 ![] bcast_S_S1x5632 main_cst_6
  let main_v20 : IVec S1x5632 1 := cmpf .olt main_v18 main_v19
  let main_c_7 : IVec S_ 1 := constantI S_ 1 1#1
  let main_v21 : IVec S_ 1 := (fun x v => Host.reduce IntOp.andi x v reducesTo_S1x5632_S_d0_1 h_S_) main_v20 main_c_7
  let main_v22 : IVec S_ 1 := andi main_v4 main_v8
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S16384x1024 .bf16) (main_arg1 : FVec F S2816x1024 .f32) (main_arg2 : FVec F S16384x5632 .bf16) (main_arg3 : FVec F S3x5632 .f32) (main_arg4 : FVec F S1x5632 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : FVec F S16384x5632 .f32 := (extf .f32 · bitsLt_bf16_f32) main_arg2
  let main_v10 : FVec F S16384x5632 .f32 := Host.absf main_v9
  let main_cst_2 : FVec F S_ .f32 := constant S_ .f32 0x7F800000#32
  let main_v11 : FVec F S16384x5632 .f32 := broadcastInDim S16384x5632 ![] bcast_S_S16384x5632 main_cst_2
  let main_v12 : IVec S16384x5632 1 := cmpf .olt main_v10 main_v11
  let main_c_3 : IVec S_ 1 := constantI S_ 1 1#1
  let main_v13 : IVec S_ 1 := (fun x v => Host.reduce IntOp.andi x v reducesTo_S16384x5632_S_d0_1 h_S_) main_v12 main_c_3
  let main_v14 : FVec F S3x5632 .f32 := Host.absf main_arg3
  let main_cst_4 : FVec F S_ .f32 := constant S_ .f32 0x7F800000#32
  let main_v15 : FVec F S3x5632 .f32 := broadcastInDim S3x5632 ![] bcast_S_S3x5632 main_cst_4
  let main_v16 : IVec S3x5632 1 := cmpf .olt main_v14 main_v15
  fn_part1 (F := F) main_arg4 main_v4 main_v8 main_v13 main_v16
-- ==== Pre_cctx_finite.lean ====
abbrev S1x2048 : Shape := ⟨2, ![1, 2048]⟩
abbrev S1024x6144 : Shape := ⟨2, ![1024, 6144]⟩
abbrev S1x1024 : Shape := ⟨2, ![1, 1024]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S1x2048 .f32) (main_arg1 : FVec F S1024x6144 .f32) (main_arg2 : FVec F S1x1024 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v3 main_v7
  let main_v13 : IVec S_ 1 := andi main_v12 main_v11
  main_v13
-- ==== Pre_down_finite.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  reducesTo_S16384x2816_S_d0_1 : S16384x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v28 : IVec S_ 1) (main_v33 : IVec S_ 1) : IVec S_ 1 :=
  let main_v34 : IVec S_ 1 := andi main_v33 main_v28
  main_v34

def fn_part1 {F : FTy → Type} [FloatOps F] (main_arg4 : FVec F S1x1024 .f32) (main_arg5 : FVec F S1x1024 .f32) (main_arg6 : FVec F S1x1024 .f32) (main_v4 : IVec S_ 1) (main_v8 : IVec S_ 1) (main_v12 : IVec S_ 1) (main_v15 : IVec S16384x1024 1) (main_c_5 : IVec S_ 1) : IVec S_ 1 :=
  let main_v16 : IVec S_ 1 := (fun x v => Host.reduce IntOp.andi x v reducesTo_S16384x1024_S_d0_1 h_S_) main_v15 main_c_5
  let main_v17 : FVec F S1x1024 .f32 := Host.absf main_arg4
  let main_cst_6 : FVec F S_ .f32 := constant S_ .f32 0x7F800000#32
  let main_v18 : FVec F S1x1024 .f32 := broadcastInDim S1x1024 ![] bcast_S_S1x1024 main_cst_6
  let main_v19 : IVec S1x1024 1 := cmpf .olt main_v17 main_v18
  let main_c_7 : IVec S_ 1 := constantI S_ 1 1#1
  let main_v20 : IVec S_ 1 := (fun x v => Host.reduce IntOp.andi x v reducesTo_S1x1024_S_d0_1 h_S_) main_v19 main_c_7
  let main_v21 : FVec F S1x1024 .f32 := Host.absf main_arg5
  let main_cst_8 : FVec F S_ .f32 := constant S_ .f32 0x7F800000#32
  let main_v22 : FVec F S1x1024 .f32 := broadcastInDim S1x1024 ![] bcast_S_S1x1024 main_cst_8
  let main_v23 : IVec S1x1024 1 := cmpf .olt main_v21 main_v22
  let main_c_9 : IVec S_ 1 := constantI S_ 1 1#1
  let main_v24 : IVec S_ 1 := (fun x v => Host.reduce IntOp.andi x v reducesTo_S1x1024_S_d0_1 h_S_) main_v23 main_c_9
  let main_v25 : FVec F S1x1024 .f32 := Host.absf main_arg6
  let main_cst_10 : FVec F S_ .f32 := constant S_ .f32 0x7F800000#32
  let main_v26 : FVec F S1x1024 .f32 := broadcastInDim S1x1024 ![] bcast_S_S1x1024 main_cst_10
  let main_v27 : IVec S1x1024 1 := cmpf .olt main_v25 main_v26
  let main_c_11 : IVec S_ 1 := constantI S_ 1 1#1
  let main_v28 : IVec S_ 1 := (fun x v => Host.reduce IntOp.andi x v reducesTo_S1x1024_S_d0_1 h_S_) main_v27 main_c_11
  let main_v29 : IVec S_ 1 := andi main_v4 main_v8
  let main_v30 : IVec S_ 1 := andi main_v29 main_v12
  let main_v31 : IVec S_ 1 := andi main_v30 main_v16
  let main_v32 : IVec S_ 1 := andi main_v31 main_v20
  let main_v33 : IVec S_ 1 := andi main_v32 main_v24
  fn_part2 (F := F) main_v28 main_v33

def fn {F : FTy → Type} [FloatOps F] (main_arg0 : FVec F S16384x2816 .bf16) (main_arg1 : FVec F S2816x1024 .f32) (main_arg2 : FVec F S16384x1024 .f32) (main_arg3 : FVec F S16384x1024 .f32) (main_arg4 : FVec F S1x1024 .f32) (main_arg5 : FVec F S1x1024 .f32) (main_arg6 : FVec F S1x1024 .f32) : IVec S_ 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_c : IVec S_ 1 := constantI S_ 1 1#1
  let main_v4 : IVec S_ 1 := (fun x v => Host.reduce IntOp.andi x v reducesTo_S16384x2816_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : FVec F S16384x1024 .f32 := Host.absf main_arg3
  let main_cst_4 : FVec F S_ .f32 := constant S_ .f32 0x7F800000#32
  let main_v14 : FVec F S16384x1024 .f32 := broadcastInDim S16384x1024 ![] bcast_S_S16384x1024 main_cst_4
  let main_v15 : IVec S16384x1024 1 := cmpf .olt main_v13 main_v14
  let main_c_5 : IVec S_ 1 := constantI S_ 1 1#1
  fn_part1 (F := F) main_arg4 main_arg5 main_arg6 main_v4 main_v8 main_v12 main_v15 main_c_5
-- ==== Pre_dwmod_finite.lean ====
abbrev S16x1024 : Shape := ⟨2, ![16, 1024]⟩
abbrev S16x1536 : Shape := ⟨2, ![16, 1536]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S16x1536 : S_.BroadcastsInDim S16x1536 (![] : Fin 0 → Fin S16x1536.rank)
  reducesTo_S16x1536_S_d0_1 : S16x1536.ReducesTo [0, 1] S_

variable [Facts]

def fn {F : FTy → Type} [FloatOps F] (main_arg0 : FVec F S16x1024 .f32) (main_arg1 : FVec F S16x1536 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S16x1536 .f32 := Host.absf main_arg1
  let main_cst_0 : FVec F S_ .f32 := constant S_ .f32 0x7F800000#32
  let main_v5 : FVec F S16x1536 .f32 := broadcastInDim S16x1536 ![] bcast_S_S16x1536 main_cst_0
  let main_v6 : IVec S16x1536 1 := cmpf .olt main_v4 main_v5
  let main_c_1 : IVec S_ 1 := constantI S_ 1 1#1
  let main_v7 : IVec S_ 1 := (fun x v => Host.reduce IntOp.andi x v reducesTo_S16x1536_S_d0_1 h_S_) main_v6 main_c_1
  let main_v8 : IVec S_ 1 := andi main_v3 main_v7
  main_v8
-- ==== Pre_glob_finite.lean ====
abbrev S16384x8x64 : Shape := ⟨3, ![16384, 8, 64]⟩
abbrev S16384x2x64 : Shape := ⟨3, ![16384, 2, 64]⟩
abbrev S256x2x64 : Shape := ⟨3, ![256, 2, 64]⟩
abbrev S_ : Shape := ⟨0, ![]⟩

class Facts : Prop where
  bitsLt_bf16_f32 : FTy.bits .bf16 < FTy.bits .f32
  bcast_S_S16384x8x64 : S_.BroadcastsInDim S16384x8x64 (![] : Fin 0 → Fin S16384x8x64.rank)
  reducesTo_S16384x8x64_S_d0_1_2 : S16384x8x64.ReducesTo [0, 1, 2] S_
  h_S_ : 0 < S_.numel
  bcast_S_S16384x2x64 : S_.BroadcastsInDim S16384x2x64 (![] : Fin 0 → Fin S16384x2x64.rank)
  reducesTo_S16384x2x64_S_d0_1_2 : S16384x2x64.ReducesTo [0, 1, 2] S_
  bcast_S_S256x2x64 : S_.BroadcastsInDim S256x2x64 (![] : Fin 0 → Fin S256x2x64.rank)
  reducesTo_S256x2x64_S_d0_1_2 : S256x2x64.ReducesTo [0, 1, 2] S_

variable [Facts]

def fn_part1 {F : FTy → Type} [FloatOps F] (main_arg4 : FVec F S256x2x64 .f32) (main_arg5 : FVec F S256x2x64 .f32) (main_v4 : IVec S_ 1) (main_v8 : IVec S_ 1) (main_v12 : IVec S_ 1) (main_v15 : IVec S16384x2x64 1) (main_c_5 : IVec S_ 1) : IVec S_ 1 :=
  let main_v16 : IVec S_ 1 := (fun x v => Host.reduce IntOp.andi x v reducesTo_S16384x2x64_S_d0_1_2 h_S_) main_v15 main_c_5
  let main_v17 : FVec F S256x2x64 .f32 := Host.absf main_arg4
  let main_cst_6 : FVec F S_ .f32 := constant S_ .f32 0x7F800000#32
  let main_v18 : FVec F S256x2x64 .f32 := broadcastInDim S256x2x64 ![] bcast_S_S256x2x64 main_cst_6
  let main_v19 : IVec S256x2x64 1 := cmpf .olt main_v17 main_v18
  let main_c_7 : IVec S_ 1 := constantI S_ 1 1#1
  let main_v20 : IVec S_ 1 := (fun x v => Host.reduce IntOp.andi x v reducesTo_S256x2x64_S_d0_1_2 h_S_) main_v19 main_c_7
  let main_v21 : FVec F S256x2x64 .f32 := Host.absf main_arg5
  let main_cst_8 : FVec F S_ .f32 := constant S_ .f32 0x7F800000#32
  let main_v22 : FVec F S256x2x64 .f32 := broadcastInDim S256x2x64 ![] bcast_S_S256x2x64 main_cst_8
  let main_v23 : IVec S256x2x64 1 := cmpf .olt main_v21 main_v22
  let main_c_9 : IVec S_ 1 := constantI S_ 1 1#1
  let main_v24 : IVec S_ 1 := (fun x v => Host.reduce IntOp.andi x v reducesTo_S256x2x64_S_d0_1_2 h_S_) main_v23 main_c_9
  let main_v25 : IVec S_ 1 := andi main_v4 main_v8
  let main_v26 : IVec S_ 1 := andi main_v25 main_v12
  let main_v27 : IVec S_ 1 := andi main_v26 main_v16
  let main_v28 : IVec S_ 1 := andi main_v27 main_v20
  let main_v29 : IVec S_ 1 := andi main_v28 main_v24
  main_v29

def fn {F : FTy → Type} [FloatOps F] (main_arg0 : FVec F S16384x8x64 .bf16) (main_arg1 : FVec F S16384x8x64 .f32) (main_arg2 : FVec F S16384x2x64 .f32) (main_arg3 : FVec F S16384x2x64 .f32) (main_arg4 : FVec F S256x2x64 .f32) (main_arg5 : FVec F S256x2x64 .f32) : IVec S_ 1 :=
  let main_v0 : FVec F S16384x8x64 .f32 := (extf .f32 · bitsLt_bf16_f32) main_arg0
  let main_v1 : FVec F S16384x8x64 .f32 := Host.absf main_v0
  let main_cst : FVec F S_ .f32 := constant S_ .f32 0x7F800000#32
  let main_v2 : FVec F S16384x8x64 .f32 := broadcastInDim S16384x8x64 ![] bcast_S_S16384x8x64 main_cst
  let main_v3 : IVec S16384x8x64 1 := cmpf .olt main_v1 main_v2
  let main_c : IVec S_ 1 := constantI S_ 1 1#1
  let main_v4 : IVec S_ 1 := (fun x v => Host.reduce IntOp.andi x v reducesTo_S16384x8x64_S_d0_1_2 h_S_) main_v3 main_c
  let main_v5 : FVec F S16384x8x64 .f32 := Host.absf main_arg1
  let main_cst_0 : FVec F S_ .f32 := constant S_ .f32 0x7F800000#32
  let main_v6 : FVec F S16384x8x64 .f32 := broadcastInDim S16384x8x64 ![] bcast_S_S16384x8x64 main_cst_0
  let main_v7 : IVec S16384x8x64 1 := cmpf .olt main_v5 main_v6
  let main_c_1 : IVec S_ 1 := constantI S_ 1 1#1
  let main_v8 : IVec S_ 1 := (fun x v => Host.reduce IntOp.andi x v reducesTo_S16384x8x64_S_d0_1_2 h_S_) main_v7 main_c_1
  let main_v9 : FVec F S16384x2x64 .f32 := Host.absf main_arg2
  let main_cst_2 : FVec F S_ .f32 := constant S_ .f32 0x7F800000#32
  let main_v10 : FVec F S16384x2x64 .f32 := broadcastInDim S16384x2x64 ![] bcast_S_S16384x2x64 main_cst_2
  let main_v11 : IVec S16384x2x64 1 := cmpf .olt main_v9 main_v10
  let main_c_3 : IVec S_ 1 := constantI S_ 1 1#1
  let main_v12 : IVec S_ 1 := (fun x v => Host.reduce IntOp.andi x v reducesTo_S16384x2x64_S_d0_1_2 h_S_) main_v11 main_c_3
  let main_v13 : FVec F S16384x2x64 .f32 := Host.absf main_arg3
  let main_cst_4 : FVec F S_ .f32 := constant S_ .f32 0x7F800000#32
  let main_v14 : FVec F S16384x2x64 .f32 := broadcastInDim S16384x2x64 ![] bcast_S_S16384x2x64 main_cst_4
  let main_v15 : IVec S16384x2x64 1 := cmpf .olt main_v13 main_v14
  let main_c_5 : IVec S_ 1 := constantI S_ 1 1#1
  fn_part1 (F := F) main_arg4 main_arg5 main_v4 main_v8 main_v12 main_v15 main_c_5
-- ==== Pre_prep_finite.lean ====
abbrev S8x128x16384 : Shape := ⟨3, ![8, 128, 16384]⟩
abbrev S16384x128 : Shape := ⟨2, ![16384, 128]⟩
abbrev S16384x3584 : Shape := ⟨2, ![16384, 3584]⟩
abbrev S1x64 : Shape := ⟨2, ![1, 64]⟩
abbrev S16384x2048 : Shape := ⟨2, ![16384, 2048]⟩
abbrev S16384x16 : Shape := ⟨2, ![16384, 16]⟩
abbrev S_ : Shape := ⟨0, ![]⟩

class Facts : Prop where
  bcast_S_S8x128x16384 : S_.BroadcastsInDim S8x128x16384 (![] : Fin 0 → Fin S8x128x16384.rank)
  reducesTo_S8x128x16384_S_d0_1_2 : S8x128x16384.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384x3584 : S_.BroadcastsInDim S16384x3584 (![] : Fin 0 → Fin S16384x3584.rank)
  reducesTo_S16384x3584_S_d0_1 : S16384x3584.ReducesTo [0, 1] S_
  bcast_S_S1x64 : S_.BroadcastsInDim S1x64 (![] : Fin 0 → Fin S1x64.rank)
  reducesTo_S1x64_S_d0_1 : S1x64.ReducesTo [0, 1] S_
  bcast_S_S16384x16 : S_.BroadcastsInDim S16384x16 (![] : Fin 0 → Fin S16384x16.rank)
  reducesTo_S16384x16_S_d0_1 : S16384x16.ReducesTo [0, 1] S_

variable [Facts]

def fn_part2 {F : FTy → Type} [FloatOps F] (main_arg13 : FVec F S16384x16 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S16384x16 .f32 := Host.absf main_arg13
  let main_cst_14 : FVec F S_ .f32 := constant S_ .f32 0x7F800000#32
  let main_v33 : FVec F S16384x16 .f32 := broadcastInDim S16384x16 ![] bcast_S_S16384x16 main_cst_14
  let main_v34 : IVec S16384x16 1 := cmpf .olt main_v32 main_v33
  let main_c_15 : IVec S_ 1 := constantI S_ 1 1#1
  let main_v35 : IVec S_ 1 := (fun x v => Host.reduce IntOp.andi x v reducesTo_S16384x16_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg8 : FVec F S1x64 .f32) (main_arg10 : FVec F S16384x16 .f32) (main_arg11 : FVec F S16384x16 .f32) (main_arg12 : FVec F S16384x16 .f32) (main_arg13 : FVec F S16384x16 .f32) (main_v3 : IVec S_ 1) (main_v7 : IVec S_ 1) (main_v11 : IVec S_ 1) (main_v15 : IVec S_ 1) : IVec S_ 1 :=
  let main_v16 : FVec F S1x64 .f32 := Host.absf main_arg8
  let main_cst_6 : FVec F S_ .f32 := constant S_ .f32 0x7F800000#32
  let main_v17 : FVec F S1x64 .f32 := broadcastInDim S1x64 ![] bcast_S_S1x64 main_cst_6
  let main_v18 : IVec S1x64 1 := cmpf .olt main_v16 main_v17
  let main_c_7 : IVec S_ 1 := constantI S_ 1 1#1
  let main_v19 : IVec S_ 1 := (fun x v => Host.reduce IntOp.andi x v reducesTo_S1x64_S_d0_1 h_S_) main_v18 main_c_7
  let main_v20 : FVec F S16384x16 .f32 := Host.absf main_arg10
  let main_cst_8 : FVec F S_ .f32 := constant S_ .f32 0x7F800000#32
  let main_v21 : FVec F S16384x16 .f32 := broadcastInDim S16384x16 ![] bcast_S_S16384x16 main_cst_8
  let main_v22 : IVec S16384x16 1 := cmpf .olt main_v20 main_v21
  let main_c_9 : IVec S_ 1 := constantI S_ 1 1#1
  let main_v23 : IVec S_ 1 := (fun x v => Host.reduce IntOp.andi x v reducesTo_S16384x16_S_d0_1 h_S_) main_v22 main_c_9
  let main_v24 : FVec F S16384x16 .f32 := Host.absf main_arg11
  let main_cst_10 : FVec F S_ .f32 := constant S_ .f32 0x7F800000#32
  let main_v25 : FVec F S16384x16 .f32 := broadcastInDim S16384x16 ![] bcast_S_S16384x16 main_cst_10
  let main_v26 : IVec S16384x16 1 := cmpf .olt main_v24 main_v25
  let main_c_11 : IVec S_ 1 := constantI S_ 1 1#1
  let main_v27 : IVec S_ 1 := (fun x v => Host.reduce IntOp.andi x v reducesTo_S16384x16_S_d0_1 h_S_) main_v26 main_c_11
  let main_v28 : FVec F S16384x16 .f32 := Host.absf main_arg12
  let main_cst_12 : FVec F S_ .f32 := constant S_ .f32 0x7F800000#32
  let main_v29 : FVec F S16384x16 .f32 := broadcastInDim S16384x16 ![] bcast_S_S16384x16 main_cst_12
  let main_v30 : IVec S16384x16 1 := cmpf .olt main_v28 main_v29
  let main_c_13 : IVec S_ 1 := constantI S_ 1 1#1
  let main_v31 : IVec S_ 1 := (fun x v => Host.reduce IntOp.andi x v reducesTo_S16384x16_S_d0_1 h_S_) main_v30 main_c_13
  fn_part2 (F := F) main_arg13 main_v3 main_v7 main_v11 main_v15 main_v19 main_v23 main_v27 main_v31

def fn {F : FTy → Type} [FloatOps F] (main_arg0 : FVec F S8x128x16384 .f32) (main_arg1 : FVec F S16384x128 .f32) (main_arg2 : FVec F S16384x128 .f32) (main_arg3 : FVec F S8x128x16384 .f32) (main_arg4 : FVec F S16384x128 .f32) (main_arg5 : FVec F S16384x128 .f32) (main_arg6 : FVec F S16384x3584 .f32) (main_arg7 : FVec F S1x64 .f32) (main_arg8 : FVec F S1x64 .f32) (main_arg9 : FVec F S16384x2048 .bf16) (main_arg10 : FVec F S16384x16 .f32) (main_arg11 : FVec F S16384x16 .f32) (main_arg12 : FVec F S16384x16 .f32) (main_arg13 : FVec F S16384x16 .f32) : IVec S_ 1 :=
  let main_v0 : FVec F S8x128x16384 .f32 := Host.absf main_arg3
  let main_cst : FVec F S_ .f32 := constant S_ .f32 0x7F800000#32
  let main_v1 : FVec F S8x128x16384 .f32 := broadcastInDim S8x128x16384 ![] bcast_S_S8x128x16384 main_cst
  let main_v2 : IVec S8x128x16384 1 := cmpf .olt main_v0 main_v1
  let main_c : IVec S_ 1 := constantI S_ 1 1#1
  let main_v3 : IVec S_ 1 := (fun x v => Host.reduce IntOp.andi x v reducesTo_S8x128x16384_S_d0_1_2 h_S_) main_v2 main_c
  let main_v4 : FVec F S16384x128 .f32 := Host.absf main_arg4
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : FVec F S16384x3584 .f32 := Host.absf main_arg6
  let main_cst_2 : FVec F S_ .f32 := constant S_ .f32 0x7F800000#32
  let main_v9 : FVec F S16384x3584 .f32 := broadcastInDim S16384x3584 ![] bcast_S_S16384x3584 main_cst_2
  let main_v10 : IVec S16384x3584 1 := cmpf .olt main_v8 main_v9
  let main_c_3 : IVec S_ 1 := constantI S_ 1 1#1
  let main_v11 : IVec S_ 1 := (fun x v => Host.reduce IntOp.andi x v reducesTo_S16384x3584_S_d0_1 h_S_) main_v10 main_c_3
  let main_v12 : FVec F S1x64 .f32 := Host.absf main_arg7
  let main_cst_4 : FVec F S_ .f32 := constant S_ .f32 0x7F800000#32
  let main_v13 : FVec F S1x64 .f32 := broadcastInDim S1x64 ![] bcast_S_S1x64 main_cst_4
  let main_v14 : IVec S1x64 1 := cmpf .olt main_v12 main_v13
  let main_c_5 : IVec S_ 1 := constantI S_ 1 1#1
  let main_v15 : IVec S_ 1 := (fun x v => Host.reduce IntOp.andi x v reducesTo_S1x64_S_d0_1 h_S_) main_v14 main_c_5
  fn_part1 (F := F) main_arg8 main_arg10 main_arg11 main_arg12 main_arg13 main_v3 main_v7 main_v11 main_v15
-- ==== Pre_up_finite.lean ====
abbrev S16384x5632 : Shape := ⟨2, ![16384, 5632]⟩
abbrev S1024x5632 : Shape := ⟨2, ![1024, 5632]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x5632 : S_.BroadcastsInDim S16384x5632 (![] : Fin 0 → Fin S16384x5632.rank)
  reducesTo_S16384x5632_S_d0_1 : S16384x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v4 : IVec S_ 1) (main_v8 : IVec S_ 1) (main_v12 : IVec S_ 1) (main_v16 : IVec S_ 1) (main_v20 : IVec S_ 1) (main_v24 : IVec S_ 1) (main_v28 : IVec S_ 1) (main_v31 : IVec S1x1024 1) (main_c_13 : IVec S_ 1) : IVec S_ 1 :=
  let main_v32 : IVec S_ 1 := (fun x v => Host.reduce IntOp.andi x v reducesTo_S1x1024_S_d0_1 h_S_) main_v31 main_c_13
  let main_v33 : IVec S_ 1 := andi main_v4 main_v8
  let main_v34 : IVec S_ 1 := andi main_v33 main_v12
  let main_v35 : IVec S_ 1 := andi main_v34 main_v16
  let main_v36 : IVec S_ 1 := andi main_v35 main_v20
  let main_v37 : IVec S_ 1 := andi main_v36 main_v24
  let main_v38 : IVec S_ 1 := andi main_v37 main_v28
  let main_v39 : IVec S_ 1 := andi main_v38 main_v32
  main_v39

def fn_part1 {F : FTy → Type} [FloatOps F] (main_arg4 : FVec F S16384x1024 .f32) (main_arg5 : FVec F S16384x1024 .f32) (main_arg6 : FVec F S1x1024 .f32) (main_arg7 : FVec F S1x1024 .f32) (main_v4 : IVec S_ 1) (main_v8 : IVec S_ 1) (main_v12 : IVec S_ 1) (main_v15 : IVec S1x1024 1) (main_c_5 : IVec S_ 1) : IVec S_ 1 :=
  let main_v16 : IVec S_ 1 := (fun x v => Host.reduce IntOp.andi x v reducesTo_S1x1024_S_d0_1 h_S_) main_v15 main_c_5
  let main_v17 : FVec F S16384x1024 .f32 := Host.absf main_arg4
  let main_cst_6 : FVec F S_ .f32 := constant S_ .f32 0x7F800000#32
  let main_v18 : FVec F S16384x1024 .f32 := broadcastInDim S16384x1024 ![] bcast_S_S16384x1024 main_cst_6
  let main_v19 : IVec S16384x1024 1 := cmpf .olt main_v17 main_v18
  let main_c_7 : IVec S_ 1 := constantI S_ 1 1#1
  let main_v20 : IVec S_ 1 := (fun x v => Host.reduce IntOp.andi x v reducesTo_S16384x1024_S_d0_1 h_S_) main_v19 main_c_7
  let main_v21 : FVec F S16384x1024 .f32 := Host.absf main_arg5
  let main_cst_8 : FVec F S_ .f32 := constant S_ .f32 0x7F800000#32
  let main_v22 : FVec F S16384x1024 .f32 := broadcastInDim S16384x1024 ![] bcast_S_S16384x1024 main_cst_8
  let main_v23 : IVec S16384x1024 1 := cmpf .olt main_v21 main_v22
  let main_c_9 : IVec S_ 1 := constantI S_ 1 1#1
  let main_v24 : IVec S_ 1 := (fun x v => Host.reduce IntOp.andi x v reducesTo_S16384x1024_S_d0_1 h_S_) main_v23 main_c_9
  let main_v25 : FVec F S1x1024 .f32 := Host.absf main_arg6
  let main_cst_10 : FVec F S_ .f32 := constant S_ .f32 0x7F800000#32
  let main_v26 : FVec F S1x1024 .f32 := broadcastInDim S1x1024 ![] bcast_S_S1x1024 main_cst_10
  let main_v27 : IVec S1x1024 1 := cmpf .olt main_v25 main_v26
  let main_c_11 : IVec S_ 1 := constantI S_ 1 1#1
  let main_v28 : IVec S_ 1 := (fun x v => Host.reduce IntOp.andi x v reducesTo_S1x1024_S_d0_1 h_S_) main_v27 main_c_11
  let main_v29 : FVec F S1x1024 .f32 := Host.absf main_arg7
  let main_cst_12 : FVec F S_ .f32 := constant S_ .f32 0x7F800000#32
  let main_v30 : FVec F S1x1024 .f32 := broadcastInDim S1x1024 ![] bcast_S_S1x1024 main_cst_12
  let main_v31 : IVec S1x1024 1 := cmpf .olt main_v29 main_v30
  let main_c_13 : IVec S_ 1 := constantI S_ 1 1#1
  fn_part2 (F := F) main_v4 main_v8 main_v12 main_v16 main_v20 main_v24 main_v28 main_v31 main_c_13

def fn {F : FTy → Type} [FloatOps F] (main_arg0 : FVec F S16384x5632 .bf16) (main_arg1 : FVec F S1024x5632 .f32) (main_arg2 : FVec F S16384x1024 .f32) (main_arg3 : FVec F S1x1024 .f32) (main_arg4 : FVec F S16384x1024 .f32) (main_arg5 : FVec F S16384x1024 .f32) (main_arg6 : FVec F S1x1024 .f32) (main_arg7 : FVec F S1x1024 .f32) (main_arg8 : FVec F S1x1024 .f32) : IVec S_ 1 :=
  let main_v0 : FVec F S16384x5632 .f32 := (extf .f32 · bitsLt_bf16_f32) main_arg0
  let main_v1 : FVec F S16384x5632 .f32 := Host.absf main_v0
  let main_cst : FVec F S_ .f32 := constant S_ .f32 0x7F800000#32
  let main_v2 : FVec F S16384x5632 .f32 := broadcastInDim S16384x5632 ![] bcast_S_S16384x5632 main_cst
  let main_v3 : IVec S16384x5632 1 := cmpf .olt main_v1 main_v2
  let main_c : IVec S_ 1 := constantI S_ 1 1#1
  let main_v4 : IVec S_ 1 := (fun x v => Host.reduce IntOp.andi x v reducesTo_S16384x5632_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : FVec F S1x1024 .f32 := Host.absf main_arg3
  let main_cst_4 : FVec F S_ .f32 := constant S_ .f32 0x7F800000#32
  let main_v14 : FVec F S1x1024 .f32 := broadcastInDim S1x1024 ![] bcast_S_S1x1024 main_cst_4
  let main_v15 : IVec S1x1024 1 := cmpf .olt main_v13 main_v14
  let main_c_5 : IVec S_ 1 := constantI S_ 1 1#1
  fn_part1 (F := F) main_arg4 main_arg5 main_arg6 main_arg7 main_v4 main_v8 main_v12 main_v15 main_c_5
-- ==== ConvIn.lean ====
abbrev S16384x5632 : Shape := ⟨2, ![16384, 5632]⟩
abbrev S3x5632 : Shape := ⟨2, ![3, 5632]⟩
abbrev S3x2x2816 : Shape := ⟨3, ![3, 2, 2816]⟩
abbrev S2x3x2816 : Shape := ⟨3, ![2, 3, 2816]⟩
abbrev S16384x2x2816 : Shape := ⟨3, ![16384, 2, 2816]⟩
abbrev S2x16384x2816 : Shape := ⟨3, ![2, 16384, 2816]⟩
abbrev S2x2048x256 : Shape := ⟨3, ![2, 2048, 256]⟩
abbrev S2x16x256 : Shape := ⟨3, ![2, 16, 256]⟩
abbrev S2x3x256 : Shape := ⟨3, ![2, 3, 256]⟩
abbrev S1x2048x256 : Shape := ⟨3, ![1, 2048, 256]⟩
abbrev S2048x256 : Shape := ⟨2, ![2048, 256]⟩
abbrev S1x1x256 : Shape := ⟨3, ![1, 1, 256]⟩
abbrev S1x256 : Shape := ⟨2, ![1, 256]⟩
abbrev S1x3x256 : Shape := ⟨3, ![1, 3, 256]⟩
abbrev S3x256 : Shape := ⟨2, ![3, 256]⟩

abbrev nBuf : Space → Nat
  | .hbm => 7
  | .vmem => 10
  | .smem => 0
  | _ => 0

abbrev bufTy : (tb : Table) → Fin (tcTables nBuf tb) → BufTy
  | .hbm, ⟨0, _⟩ => ⟨S16384x5632, .bf16⟩
  | .hbm, ⟨1, _⟩ => ⟨S3x5632, .f32⟩
  | .hbm, ⟨2, _⟩ => ⟨S3x2x2816, .f32⟩
  | .hbm, ⟨3, _⟩ => ⟨S2x3x2816, .f32⟩
  | .hbm, ⟨4, _⟩ => ⟨S16384x2x2816, .bf16⟩
  | .hbm, ⟨5, _⟩ => ⟨S2x16384x2816, .bf16⟩
  | .hbm, ⟨6, _⟩ => ⟨S2x16384x2816, .bf16⟩
  | .local _ .vmem, ⟨0, _⟩ => ⟨S2x2048x256, .bf16⟩
  | .local _ .vmem, ⟨1, _⟩ => ⟨S2x2048x256, .bf16⟩
  | .local _ .vmem, ⟨2, _⟩ => ⟨S2x16x256, .bf16⟩
  | .local _ .vmem, ⟨3, _⟩ => ⟨S2x16x256, .bf16⟩
  | .local _ .vmem, ⟨4, _⟩ => ⟨S2x16x256, .bf16⟩
  | .local _ .vmem, ⟨5, _⟩ => ⟨S2x16x256, .bf16⟩
  | .local _ .vmem, ⟨6, _⟩ => ⟨S2x3x256, .f32⟩
  | .local _ .vmem, ⟨7, _⟩ => ⟨S2x3x256, .f32⟩
  | .local _ .vmem, ⟨8, _⟩ => ⟨S2x2048x256, .bf16⟩
  | .local _ .vmem, ⟨9, _⟩ => ⟨S2x2048x256, .bf16⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvInRefIdeal.lean ====
abbrev S16384x5632 : Shape := ⟨2, ![16384, 5632]⟩
abbrev S3x5632 : Shape := ⟨2, ![3, 5632]⟩
abbrev S_ : Shape := ⟨0, ![]⟩
abbrev S5632 : Shape := ⟨1, ![5632]⟩
abbrev S1x5632 : Shape := ⟨2, ![1, 5632]⟩
abbrev S16383x5632 : Shape := ⟨2, ![16383, 5632]⟩
abbrev S16384x2816 : Shape := ⟨2, ![16384, 2816]⟩
abbrev S1x16384x2816 : Shape := ⟨3, ![1, 16384, 2816]⟩
abbrev S2x16384x2816 : Shape := ⟨3, ![2, 16384, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S3x5632, .f32⟩
  | .hbm, ⟨2, _⟩ => ⟨S_, .f32⟩
  | .hbm, ⟨3, _⟩ => ⟨S16384x5632, .f32⟩
  | .hbm, ⟨4, _⟩ => ⟨S_, .f32⟩
  | .hbm, ⟨5, _⟩ => ⟨S5632, .f32⟩
  | .hbm, ⟨6, _⟩ => ⟨S_, .f32⟩
  | .hbm, ⟨7, _⟩ => ⟨S1x5632, .f32⟩
  | .hbm, ⟨8, _⟩ => ⟨S16383x5632, .f32⟩
  | .hbm, ⟨9, _⟩ => ⟨S16384x5632, .f32⟩
  | .hbm, ⟨10, _⟩ => ⟨S_, .f32⟩
  | .hbm, ⟨11, _⟩ => ⟨S1x5632, .f32⟩
  | .hbm, ⟨12, _⟩ => ⟨S16383x5632, .f32⟩
  | .hbm, ⟨13, _⟩ => ⟨S16384x5632, .f32⟩
  | .hbm, ⟨14, _⟩ => ⟨S_, .f32⟩
  | .hbm, ⟨15, _⟩ => ⟨S1x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S16384x5632, .f32⟩
  | .hbm, ⟨20, _⟩ => ⟨S16384x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S1x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S16384x5632, .f32⟩
  | .hbm, ⟨42, _⟩ => ⟨S16384x5632, .f32⟩
  | .hbm, ⟨43, _⟩ => ⟨S16383x5632, .f32⟩
  | .hbm, ⟨44, _⟩ => ⟨S1x5632, .f32⟩
  | .hbm, ⟨45, _⟩ => ⟨S_, .f32⟩
  | .hbm, ⟨46, _⟩ => ⟨S16384x5632, .f32⟩
  | .hbm, ⟨47, _⟩ => ⟨S16384x5632, .f32⟩
  | .hbm, ⟨48, _⟩ => ⟨S1x5632, .f32⟩
  | .hbm, ⟨49, _⟩ => ⟨S16383x5632, .f32⟩
  | .hbm, ⟨50, _⟩ => ⟨S_, .f32⟩
  | .hbm, ⟨51, _⟩ => ⟨S16384x5632, .f32⟩
  | .hbm, ⟨52, _⟩ => ⟨S16384x5632, .f32⟩
  | .hbm, ⟨53, _⟩ => ⟨S16384x2816, .f32⟩
  | .hbm, ⟨54, _⟩ => ⟨S16384x2816, .f32⟩
  | .hbm, ⟨55, _⟩ => ⟨S1x16384x2816, .f32⟩
  | .hbm, ⟨56, _⟩ => ⟨S1x16384x2816, .f32⟩
  | .hbm, ⟨57, _⟩ => ⟨S2x16384x2816, .f32⟩
  | .hbm, ⟨58, _⟩ => ⟨S2x16384x2816, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_4 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S16384x3584 : Shape := ⟨2, ![16384, 3584]⟩
abbrev S512x1024 : Shape := ⟨2, ![512, 1024]⟩
abbrev S1024x1024 : Shape := ⟨2, ![1024, 1024]⟩
abbrev S512x16384 : Shape := ⟨2, ![512, 16384]⟩
abbrev S8x64x16384 : Shape := ⟨3, ![8, 64, 16384]⟩
abbrev S8x1x1 : Shape := ⟨3, ![8, 1, 1]⟩
abbrev S_ : Shape := ⟨0, ![]⟩
abbrev S8x128x16384 : Shape := ⟨3, ![8, 128, 16384]⟩
abbrev S8x64x1024 : Shape := ⟨3, ![8, 64, 1024]⟩
abbrev S8 : Shape := ⟨1, ![8]⟩
abbrev S8x128x1024 : Shape := ⟨3, ![8, 128, 1024]⟩
abbrev S16384x2048 : Shape := ⟨2, ![16384, 2048]⟩
abbrev S256x1024 : Shape := ⟨2, ![256, 1024]⟩
abbrev S8x128x256 : Shape := ⟨3, ![8, 128, 256]⟩
abbrev S256x512 : Shape := ⟨2, ![256, 512]⟩
abbrev S256x2048 : Shape := ⟨2, ![256, 2048]⟩
abbrev S1x128x1024 : Shape := ⟨3, ![1, 128, 1024]⟩
abbrev S128x1024 : Shape := ⟨2, ![128, 1024]⟩
abbrev S128x256 : Shape := ⟨2, ![128, 256]⟩
abbrev S1x128x256 : Shape := ⟨3, ![1, 128, 256]⟩

abbrev nBuf : Space → Nat
  | .hbm => 79
  | .vmem => 29
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x3584, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S16384x512, .f32⟩
  | .hbm, ⟨8, _⟩ => ⟨S16384x1024, .f32⟩
  | .hbm, ⟨9, _⟩ => ⟨S16384x1024, .bf16⟩
  | .hbm, ⟨10, _⟩ => ⟨S16384x512, .f32⟩
  | .hbm, ⟨11, _⟩ => ⟨S16384x1024, .f32⟩
  | .hbm, ⟨12, _⟩ => ⟨S16384x1024, .bf16⟩
  | .hbm, ⟨13, _⟩ => ⟨S512x16384, .bf16⟩
  | .hbm, ⟨14, _⟩ => ⟨S8x64x16384, .bf16⟩
  | .hbm, ⟨15, _⟩ => ⟨S8x1x1, .i32⟩
  | .hbm, ⟨16, _⟩ => ⟨S_, .i32⟩
  | .hbm, ⟨17, _⟩ => ⟨S8x1x1, .i32⟩
  | .hbm, ⟨18, _⟩ => ⟨S8x1x1, .i1⟩
  | .hbm, ⟨19, _⟩ => ⟨S_, .i32⟩
  | .hbm, ⟨20, _⟩ => ⟨S_, .bf16⟩
  | .hbm, ⟨21, _⟩ => ⟨S8x64x16384, .i1⟩
  | .hbm, ⟨22, _⟩ => ⟨S8x64x16384, .bf16⟩
  | .hbm, ⟨23, _⟩ => ⟨S8x64x16384, .bf16⟩
  | .hbm, ⟨24, _⟩ => ⟨S_, .i32⟩
  | .hbm, ⟨25, _⟩ => ⟨S_, .bf16⟩
  | .hbm, ⟨26, _⟩ => ⟨S8x64x16384, .i1⟩
  | .hbm, ⟨27, _⟩ => ⟨S8x64x16384, .bf16⟩
  | .hbm, ⟨28, _⟩ => ⟨S8x64x16384, .bf16⟩
  | .hbm, ⟨29, _⟩ => ⟨S8x128x16384, .bf16⟩
  | .hbm, ⟨30, _⟩ => ⟨S512x16384, .bf16⟩
  | .hbm, ⟨31, _⟩ => ⟨S8x64x16384, .bf16⟩
  | .hbm, ⟨32, _⟩ => ⟨S8x1x1, .i32⟩
  | .hbm, ⟨33, _⟩ => ⟨S_, .i32⟩
  | .hbm, ⟨34, _⟩ => ⟨S8x1x1, .i32⟩
  | .hbm, ⟨35, _⟩ => ⟨S8x1x1, .i1⟩
  | .hbm, ⟨36, _⟩ => ⟨S_, .i32⟩
  | .hbm, ⟨37, _⟩ => ⟨S_, .bf16⟩
  | .hbm, ⟨38, _⟩ => ⟨S8x64x16384, .i1⟩
  | .hbm, ⟨39, _⟩ => ⟨S8x64x16384, .bf16⟩
  | .hbm, ⟨40, _⟩ => ⟨S8x64x16384, .bf16⟩
  | .hbm, ⟨41, _⟩ => ⟨S_, .i32⟩
  | .hbm, ⟨42, _⟩ => ⟨S_, .bf16⟩
  | .hbm, ⟨43, _⟩ => ⟨S8x64x16384, .i1⟩
  | .hbm, ⟨44, _⟩ => ⟨S8x64x16384, .bf16⟩
  | .hbm, ⟨45, _⟩ => ⟨S8x64x16384, .bf16⟩
  | .hbm, ⟨46, _⟩ => ⟨S8x128x16384, .bf16⟩
  | .hbm, ⟨47, _⟩ => ⟨S512x1024, .bf16⟩
  | .hbm, ⟨48, _⟩ => ⟨S8x64x1024, .bf16⟩
  | .hbm, ⟨49, _⟩ => ⟨S_, .bf16⟩
  | .hbm, ⟨50, _⟩ => ⟨S8x64x1024, .bf16⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i1⟩
  | .hbm, ⟨55, _⟩ => ⟨S8x1x1, .i1⟩
  | .hbm, ⟨56, _⟩ => ⟨S8x128x1024, .bf16⟩
  | .hbm, ⟨57, _⟩ => ⟨S8x128x1024, .bf16⟩
  | .hbm, ⟨58, _⟩ => ⟨S8x128x1024, .i1⟩
  | .hbm, ⟨59, _⟩ => ⟨S8x128x1024, .bf16⟩
  | .hbm, ⟨60, _⟩ => ⟨S512x1024, .bf16⟩
  | .hbm, ⟨61, _⟩ => ⟨S8x64x1024, .bf16⟩
  | .hbm, ⟨62, _⟩ => ⟨S_, .bf16⟩
  | .hbm, ⟨63, _⟩ => ⟨S8x64x1024, .bf16⟩
  | .hbm, ⟨64, _⟩ => ⟨S8, .i32⟩
  | .hbm, ⟨65, _⟩ => ⟨S_, .i32⟩
  | .hbm, ⟨66, _⟩ => ⟨S8, .i32⟩
  | .hbm, ⟨67, _⟩ => ⟨S8, .i1⟩
  | .hbm, ⟨68, _⟩ => ⟨S8x1x1, .i1⟩
  | .hbm, ⟨69, _⟩ => ⟨S8x128x1024, .bf16⟩
  | .hbm, ⟨70, _⟩ => ⟨S8x128x1024, .bf16⟩
  | .hbm, ⟨71, _⟩ => ⟨S8x128x1024, .i1⟩
  | .hbm, ⟨72, _⟩ => ⟨S8x128x1024, .bf16⟩
  | .hbm, ⟨73, _⟩ => ⟨S1024x1024, .bf16⟩
  | .hbm, ⟨74, _⟩ => ⟨S16384x2048, .bf16⟩
  | .hbm, ⟨75, _⟩ => ⟨S8x128x16384, .bf16⟩
  | .hbm, ⟨76, _⟩ => ⟨S8x128x16384, .bf16⟩
  | .hbm, ⟨77, _⟩ => ⟨S8x128x1024, .f32⟩
  | .hbm, ⟨78, _⟩ => ⟨S8x128x1024, .f32⟩
  | .local _ .vmem, ⟨0, _⟩ => ⟨S256x1024, .bf16⟩
  | .local _ .vmem, ⟨1, _⟩ => ⟨S256x1024, .bf16⟩
  | .local _ .vmem, ⟨2, _⟩ => ⟨S8x128x256, .bf16⟩
  | .local _ .vmem, ⟨3, _⟩ => ⟨S8x128x256, .bf16⟩
  | .local _ .vmem, ⟨4, _⟩ => ⟨S8x128x256, .bf16⟩
  | .local _ .vmem, ⟨5, _⟩ => ⟨S8x128x256, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S8x128x1024, .bf16⟩
  | .local _ .vmem, ⟨19, _⟩ => ⟨S8x128x1024, .bf16⟩
  | .local _ .vmem, ⟨20, _⟩ => ⟨S1024x1024, .bf16⟩
  | .local _ .vmem, ⟨21, _⟩ => ⟨S256x2048, .bf16⟩
  | .local _ .vmem, ⟨22, _⟩ => ⟨S256x2048, .bf16⟩
  | .local _ .vmem, ⟨23, _⟩ => ⟨S8x128x256, .bf16⟩
  | .local _ .vmem, ⟨24, _⟩ => ⟨S8x128x256, .bf16⟩
  | .local _ .vmem, ⟨25, _⟩ => ⟨S8x128x256, .bf16⟩
  | .local _ .vmem, ⟨26, _⟩ => ⟨S8x128x256, .bf16⟩
  | .local _ .vmem, ⟨27, _⟩ => ⟨S8x128x1024, .f32⟩
  | .local _ .vmem, ⟨28, _⟩ => ⟨S8x128x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v11 : Ref sig .tc := ⟨.hbm, 23, rfl⟩
abbrev main_c_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v19 : Ref sig .tc := ⟨.hbm, 40, rfl⟩
abbrev main_c_4 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call4_v0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_call5_v0 : Ref sig .tc := ⟨.hbm, 71, rfl⟩
abbrev main_v41 : Ref sig .tc := ⟨.hbm, 72, rfl⟩
abbrev main_v42 : Ref sig .tc := ⟨.hbm, 73, rfl⟩
abbrev main_v43_0 : Ref sig .tc := ⟨.hbm, 74, rfl⟩
abbrev main_v43_1 : Ref sig .tc := ⟨.hbm, 75, rfl⟩
abbrev main_v43_2 : Ref sig .tc := ⟨.hbm, 76, rfl⟩
abbrev main_v43_3 : Ref sig .tc := ⟨.hbm, 77, rfl⟩
abbrev main_v43_4 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MergeRefIdeal.lean ====
abbrev S16384x1024 : Shape := ⟨2, ![16384, 1024]⟩
abbrev S16384x512 : Shape := ⟨2, ![16384, 512]⟩
abbrev S16384x3584 : Shape := ⟨2, ![16384, 3584]⟩
abbrev S512x1024 : Shape := ⟨2, ![512, 1024]⟩
abbrev S1024x1024 : Shape := ⟨2, ![1024, 1024]⟩
abbrev S16384x2048 : Shape := ⟨2, ![16384, 2048]⟩
abbrev S_ : Shape := ⟨0, ![]⟩
abbrev S1024x512 : Shape := ⟨2, ![1024, 512]⟩
abbrev S16384x8x64 : Shape := ⟨3, ![16384, 8, 64]⟩
abbrev S8x64x16384 : Shape := ⟨3, ![8, 64, 16384]⟩
abbrev S4x64x16384 : Shape := ⟨3, ![4, 64, 16384]⟩
abbrev S4x128x16384 : Shape := ⟨3, ![4, 128, 16384]⟩
abbrev S8x128x16384 : Shape := ⟨3, ![8, 128, 16384]⟩
abbrev S8x64x1024 : Shape := ⟨3, ![8, 64, 1024]⟩
abbrev S4x64x1024 : Shape := ⟨3, ![4, 64, 1024]⟩
abbrev S4x128x1024 : Shape := ⟨3, ![4, 128, 1024]⟩
abbrev S8x128x1024 : Shape := ⟨3, ![8, 128, 1024]⟩

abbrev nBuf : Space → Nat
  | .hbm => 89
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x3584, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S16384x2048, .f32⟩
  | .hbm, ⟨8, _⟩ => ⟨S16384x512, .f32⟩
  | .hbm, ⟨9, _⟩ => ⟨S16384x512, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1024x512, .f32⟩
  | .hbm, ⟨35, _⟩ => ⟨S512x1024, .f32⟩
  | .hbm, ⟨36, _⟩ => ⟨S16384x512, .f32⟩
  | .hbm, ⟨37, _⟩ => ⟨S16384x1024, .f32⟩
  | .hbm, ⟨38, _⟩ => ⟨S16384x1024, .f32⟩
  | .hbm, ⟨39, _⟩ => ⟨S1024x512, .f32⟩
  | .hbm, ⟨40, _⟩ => ⟨S512x1024, .f32⟩
  | .hbm, ⟨41, _⟩ => ⟨S16384x512, .f32⟩
  | .hbm, ⟨42, _⟩ => ⟨S16384x2048, .f32⟩
  | .hbm, ⟨43, _⟩ => ⟨S16384x2048, .f32⟩
  | .hbm, ⟨44, _⟩ => ⟨S16384x2048, .bf16⟩
  | .hbm, ⟨45, _⟩ => ⟨S16384x8x64, .f32⟩
  | .hbm, ⟨46, _⟩ => ⟨S8x64x16384, .f32⟩
  | .hbm, ⟨47, _⟩ => ⟨S4x64x16384, .f32⟩
  | .hbm, ⟨48, _⟩ => ⟨S_, .i32⟩
  | .hbm, ⟨49, _⟩ => ⟨S_, .f32⟩
  | .hbm, ⟨50, _⟩ => ⟨S4x128x16384, .f32⟩
  | .hbm, ⟨51, _⟩ => ⟨S4x64x16384, .f32⟩
  | .hbm, ⟨52, _⟩ => ⟨S_, .i32⟩
  | .hbm, ⟨53, _⟩ => ⟨S_, .f32⟩
  | .hbm, ⟨54, _⟩ => ⟨S4x128x16384, .f32⟩
  | .hbm, ⟨55, _⟩ => ⟨S8x128x16384, .f32⟩
  | .hbm, ⟨56, _⟩ => ⟨S8x128x16384, .bf16⟩
  | .hbm, ⟨57, _⟩ => ⟨S16384x8x64, .f32⟩
  | .hbm, ⟨58, _⟩ => ⟨S8x64x16384, .f32⟩
  | .hbm, ⟨59, _⟩ => ⟨S4x64x16384, .f32⟩
  | .hbm, ⟨60, _⟩ => ⟨S_, .i32⟩
  | .hbm, ⟨61, _⟩ => ⟨S_, .f32⟩
  | .hbm, ⟨62, _⟩ => ⟨S4x128x16384, .f32⟩
  | .hbm, ⟨63, _⟩ => ⟨S4x64x16384, .f32⟩
  | .hbm, ⟨64, _⟩ => ⟨S_, .i32⟩
  | .hbm, ⟨65, _⟩ => ⟨S_, .f32⟩
  | .hbm, ⟨66, _⟩ => ⟨S4x128x16384, .f32⟩
  | .hbm, ⟨67, _⟩ => ⟨S8x128x16384, .f32⟩
  | .hbm, ⟨68, _⟩ => ⟨S8x128x16384, .bf16⟩
  | .hbm, ⟨69, _⟩ => ⟨S8x64x1024, .f32⟩
  | .hbm, ⟨70, _⟩ => ⟨S4x64x1024, .f32⟩
  | .hbm, ⟨71, _⟩ => ⟨S_, .i32⟩
  | .hbm, ⟨72, _⟩ => ⟨S_, .f32⟩
  | .hbm, ⟨73, _⟩ => ⟨S4x128x1024, .f32⟩
  | .hbm, ⟨74, _⟩ => ⟨S4x64x1024, .f32⟩
  | .hbm, ⟨75, _⟩ => ⟨S_, .i32⟩
  | .hbm, ⟨76, _⟩ => ⟨S_, .f32⟩
  | .hbm, ⟨77, _⟩ => ⟨S4x128x1024, .f32⟩
  | .hbm, ⟨78, _⟩ => ⟨S8x128x1024, .f32⟩
  | .hbm, ⟨79, _⟩ => ⟨S8x64x1024, .f32⟩
  | .hbm, ⟨80, _⟩ => ⟨S4x64x1024, .f32⟩
  | .hbm, ⟨81, _⟩ => ⟨S_, .i32⟩
  | .hbm, ⟨82, _⟩ => ⟨S_, .f32⟩
  | .hbm, ⟨83, _⟩ => ⟨S4x128x1024, .f32⟩
  | .hbm, ⟨84, _⟩ => ⟨S4x64x1024, .f32⟩
  | .hbm, ⟨85, _⟩ => ⟨S_, .i32⟩
  | .hbm, ⟨86, _⟩ => ⟨S_, .f32⟩
  | .hbm, ⟨87, _⟩ => ⟨S4x128x1024, .f32⟩
  | .hbm, ⟨88, _⟩ => ⟨S8x128x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_call0_v0 : Ref sig .tc := ⟨.hbm, 49, rfl⟩
abbrev main_v38 : Ref sig .tc := ⟨.hbm, 50, rfl⟩
abbrev main_v39 : Ref sig .tc := ⟨.hbm, 51, rfl⟩
abbrev main_c_2 : Ref sig .tc := ⟨.hbm, 52, rfl⟩
abbrev main_call1_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_3 : Ref sig .tc := ⟨.hbm, 60, rfl⟩
abbrev main_call2_v0 : Ref sig .tc := ⟨.hbm, 61, rfl⟩
abbrev main_v46 : Ref sig .tc := ⟨.hbm, 62, rfl⟩
abbrev main_v47 : Ref sig .tc := ⟨.hbm, 63, rfl⟩
abbrev main_c_4 : Ref sig .tc := ⟨.hbm, 64, rfl⟩
abbrev main_call3_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_5 : Ref sig .tc := ⟨.hbm, 71, rfl⟩
abbrev main_call4_v0 : Ref sig .tc := ⟨.hbm, 72, rfl⟩
abbrev main_v53 : Ref sig .tc := ⟨.hbm, 73, rfl⟩
abbrev main_v54 : Ref sig .tc := ⟨.hbm, 74, rfl⟩
abbrev main_c_6 : Ref sig .tc := ⟨.hbm, 75, rfl⟩
abbrev main_call5_v0 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_7 : Ref sig .tc := ⟨.hbm, 81, rfl⟩
abbrev main_call6_v0 : Ref sig .tc := ⟨.hbm, 82, rfl⟩
abbrev main_v59 : Ref sig .tc := ⟨.hbm, 83, rfl⟩
abbrev main_v60 : Ref sig .tc := ⟨.hbm, 84, rfl⟩
abbrev main_c_8 : Ref sig .tc := ⟨.hbm, 85, rfl⟩
abbrev main_call7_v0 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Glob.lean ====
abbrev S16384x8x64 : Shape := ⟨3, ![16384, 8, 64]⟩
abbrev S16384x2x64 : Shape := ⟨3, ![16384, 2, 64]⟩
abbrev S256x2x64 : Shape := ⟨3, ![256, 2, 64]⟩
abbrev S_ : Shape := ⟨0, ![]⟩
abbrev S16384x2x4x64 : Shape := ⟨4, ![16384, 2, 4, 64]⟩
abbrev S2x16384x4x16384 : Shape := ⟨4, ![2, 16384, 4, 16384]⟩
abbrev S2x4x16384x16384 : Shape := ⟨4, ![2, 4, 16384, 16384]⟩
abbrev S2x16384x4x256 : Shape := ⟨4, ![2, 16384, 4, 256]⟩
abbrev S2x4x256x16384 : Shape := ⟨4, ![2, 4, 256, 16384]⟩
abbrev S2x4x16384 : Shape := ⟨3, ![2, 4, 16384]⟩
abbrev S2x4x1x16384 : Shape := ⟨4, ![2, 4, 1, 16384]⟩
abbrev S2x4x16x1024x16384 : Shape := ⟨5, ![2, 4, 16, 1024, 16384]⟩
abbrev S2x4x16x16384 : Shape := ⟨4, ![2, 4, 16, 16384]⟩
abbrev S2x4x17x16384 : Shape := ⟨4, ![2, 4, 17, 16384]⟩
abbrev S2x4x16384x64 : Shape := ⟨4, ![2, 4, 16384, 64]⟩
abbrev S2x4x64x16384 : Shape := ⟨4, ![2, 4, 64, 16384]⟩
abbrev S2x4x16x1x16384 : Shape := ⟨5, ![2, 4, 16, 1, 16384]⟩
abbrev S2x4x1024x16384 : Shape := ⟨4, ![2, 4, 1024, 16384]⟩
abbrev S2x4x17664x16384 : Shape := ⟨4, ![2, 4, 17664, 16384]⟩
abbrev S8x64x16384 : Shape := ⟨3, ![8, 64, 16384]⟩
abbrev S8x1x16384 : Shape := ⟨3, ![8, 1, 16384]⟩
abbrev S8x17x16384 : Shape := ⟨3, ![8, 17, 16384]⟩
abbrev S8x17664x32x512 : Shape := ⟨4, ![8, 17664, 32, 512]⟩
abbrev S8x32x17664x512 : Shape := ⟨4, ![8, 32, 17664, 512]⟩
abbrev S16384x512 : Shape := ⟨2, ![16384, 512]⟩
abbrev S512x16384 : Shape := ⟨2, ![512, 16384]⟩
abbrev S8x1x1 : Shape := ⟨3, ![8, 1, 1]⟩
abbrev S8x128x16384 : Shape := ⟨3, ![8, 128, 16384]⟩
abbrev S16384x128 : Shape := ⟨2, ![16384, 128]⟩
abbrev S256x128 : Shape := ⟨2, ![256, 128]⟩
abbrev S128x16384 : Shape := ⟨2, ![128, 16384]⟩
abbrev S128x256 : Shape := ⟨2, ![128, 256]⟩
abbrev S1x128x512 : Shape := ⟨3, ![1, 128, 512]⟩
abbrev S1x1x512 : Shape := ⟨3, ![1, 1, 512]⟩
abbrev S1x17x512 : Shape := ⟨3, ![1, 17, 512]⟩
abbrev S128x512 : Shape := ⟨2, ![128, 512]⟩
abbrev S512x512 : Shape := ⟨2, ![512, 512]⟩
abbrev S4x512x512 : Shape := ⟨3, ![4, 512, 512]⟩
abbrev S256x512 : Shape := ⟨2, ![256, 512]⟩
abbrev S4 : Shape := ⟨1, ![4]⟩
abbrev S1x1x256x512 : Shape := ⟨4, ![1, 1, 256, 512]⟩
abbrev S1 : Shape := ⟨1, ![1]⟩
abbrev S1x512x512 : Shape := ⟨3, ![1, 512, 512]⟩
abbrev S1x1x512x512 : Shape := ⟨4, ![1, 1, 512, 512]⟩
abbrev S1x512 : Shape := ⟨2, ![1, 512]⟩
abbrev S512 : Shape := ⟨1, ![512]⟩
abbrev S512x128 : Shape := ⟨2, ![512, 128]⟩

abbrev nBuf : Space → Nat
  | .hbm => 152
  | .vmem => 24
  | .smem => 0
  | _ => 0

abbrev hbmTy0_0 (i : Nat) : BufTy := match i % 128 with
  | 0 => ⟨S16384x8x64, .bf16⟩
  | 1 => ⟨S16384x8x64, .f32⟩
  | 2 => ⟨S16384x2x64, .f32⟩
  | 3 => ⟨S16384x2x64, .f32⟩
  | 4 => ⟨S256x2x64, .f32⟩
  | 5 => ⟨S256x2x64, .f32⟩
  | 6 => ⟨S_, .f32⟩
  | 7 => ⟨S16384x8x64, .f32⟩
  | 8 => ⟨S16384x8x64, .f32⟩
  | 9 => ⟨S16384x8x64, .bf16⟩
  | 10 => ⟨S16384x2x64, .bf16⟩
  | 11 => ⟨S16384x2x64, .bf16⟩
  | 12 => ⟨S256x2x64, .bf16⟩
  | 13 => ⟨S256x2x64, .bf16⟩
  | 14 => ⟨S16384x2x4x64, .bf16⟩
  | 15 => ⟨S2x16384x4x16384, .f32⟩
  | 16 => ⟨S2x4x16384x16384, .f32⟩
  | 17 => ⟨S16384x2x4x64, .bf16⟩
  | 18 => ⟨S2x16384x4x256, .f32⟩
  | 19 => ⟨S2x4x256x16384, .f32⟩
  | 20 => ⟨S_, .f32⟩
  | 21 => ⟨S2x4x16384, .f32⟩
  | 22 => ⟨S2x4x1x16384, .f32⟩
  | 23 => ⟨S2x4x16x1024x16384, .f32⟩
  | 24 => ⟨S_, .f32⟩
  | 25 => ⟨S2x4x16x16384, .f32⟩
  | 26 => ⟨S2x4x17x16384, .f32⟩
  | 27 => ⟨S_, .f32⟩
  | 28 => ⟨S_, .f32⟩
  | 29 => ⟨S2x4x17x16384, .f32⟩
  | 30 => ⟨S2x4x1x16384, .f32⟩
  | 31 => ⟨S2x4x16384x16384, .f32⟩
  | 32 => ⟨S2x4x16384x16384, .f32⟩
  | 33 => ⟨S2x4x16384x16384, .f32⟩
  | 34 => ⟨S2x4x256x16384, .f32⟩
  | 35 => ⟨S2x4x256x16384, .f32⟩
  | 36 => ⟨S2x4x256x16384, .f32⟩
  | 37 => ⟨S_, .f32⟩
  | 38 => ⟨S2x4x16384, .f32⟩
  | 39 => ⟨S2x4x1x16384, .f32⟩
  | 40 => ⟨S_, .f32⟩
  | 41 => ⟨S2x4x16384, .f32⟩
  | 42 => ⟨S2x4x1x16384, .f32⟩
  | 43 => ⟨S2x4x1x16384, .f32⟩
  | 44 => ⟨S16384x2x64, .f32⟩
  | 45 => ⟨S2x4x16384x64, .f32⟩
  | 46 => ⟨S2x4x64x16384, .f32⟩
  | 47 => ⟨S256x2x64, .f32⟩
  | 48 => ⟨S2x4x16384x64, .f32⟩
  | 49 => ⟨S2x4x64x16384, .f32⟩
  | 50 => ⟨S2x4x64x16384, .f32⟩
  | 51 => ⟨S2x4x64x16384, .f32⟩
  | 52 => ⟨S2x4x64x16384, .f32⟩
  | 53 => ⟨S2x4x64x16384, .bf16⟩
  | 54 => ⟨S2x4x16x1024x16384, .f32⟩
  | 55 => ⟨S2x4x16x16384, .f32⟩
  | 56 => ⟨S2x4x16x1x16384, .f32⟩
  | 57 => ⟨S2x4x16x1024x16384, .f32⟩
  | 58 => ⟨S2x4x16x1024x16384, .f32⟩
  | 59 => ⟨S2x4x16x1024x16384, .f32⟩
  | 60 => ⟨S2x4x16384x16384, .f32⟩
  | 61 => ⟨S2x4x1x16384, .f32⟩
  | 62 => ⟨S2x4x256x16384, .f32⟩
  | 63 => ⟨S2x4x256x16384, .f32⟩
  | 64 => ⟨S2x4x256x16384, .f32⟩
  | 65 => ⟨S_, .f32⟩
  | 66 => ⟨S2x4x1024x16384, .f32⟩
  | 67 => ⟨S2x4x17664x16384, .f32⟩
  | 68 => ⟨S2x4x17664x16384, .bf16⟩
  | 69 => ⟨S2x4x16x16384, .f32⟩
  | 70 => ⟨S2x4x1x16384, .f32⟩
  | 71 => ⟨S2x4x17x16384, .f32⟩
  | 72 => ⟨S8x64x16384, .bf16⟩
  | 73 => ⟨S2x4x1x16384, .f32⟩
  | 74 => ⟨S2x4x1x16384, .f32⟩
  | 75 => ⟨S8x1x16384, .f32⟩
  | 76 => ⟨S8x17x16384, .f32⟩
  | 77 => ⟨S8x17664x32x512, .bf16⟩
  | 78 => ⟨S8x32x17664x512, .bf16⟩
  | 79 => ⟨S16384x512, .bf16⟩
  | 80 => ⟨S512x16384, .bf16⟩
  | 81 => ⟨S8x64x16384, .bf16⟩
  | 82 => ⟨S8x1x1, .i32⟩
  | 83 => ⟨S_, .i32⟩
  | 84 => ⟨S8x1x1, .i32⟩
  | 85 => ⟨S8x1x1, .i1⟩
  | 86 => ⟨S_, .i32⟩
  | 87 => ⟨S_, .bf16⟩
  | 88 => ⟨S8x64x16384, .i1⟩
  | 89 => ⟨S8x64x16384, .bf16⟩
  | 90 => ⟨S8x64x16384, .bf16⟩
  | 91 => ⟨S_, .i32⟩
  | 92 => ⟨S_, .bf16⟩
  | 93 => ⟨S8x64x16384, .i1⟩
  | 94 => ⟨S8x64x16384, .bf16⟩
  | 95 => ⟨S8x64x16384, .bf16⟩
  | 96 => ⟨S8x128x16384, .bf16⟩
  | 97 => ⟨S16384x512, .bf16⟩
  | 98 => ⟨S512x16384, .bf16⟩
  | 99 => ⟨S8x64x16384, .bf16⟩
  | 100 => ⟨S8x1x1, .i32⟩
  | 101 => ⟨S_, .i32⟩
  | 102 => ⟨S8x1x1, .i32⟩
  | 103 => ⟨S8x1x1, .i1⟩
  | 104 => ⟨S_, .i32⟩
  | 105 => ⟨S_, .bf16⟩
  | 106 => ⟨S8x64x16384, .i1⟩
  | 107 => ⟨S8x64x16384, .bf16⟩
  | 108 => ⟨S8x64x16384, .bf16⟩
  | 109 => ⟨S_, .i32⟩
  | 110 => ⟨S_, .bf16⟩
  | 111 => ⟨S8x64x16384, .i1⟩
  | 112 => ⟨S8x64x16384, .bf16⟩
  | 113 => ⟨S8x64x16384, .bf16⟩
  | 114 => ⟨S8x128x16384, .bf16⟩
  | 115 => ⟨S16384x128, .bf16⟩
  | 116 => ⟨S16384x128, .bf16⟩
  | 117 => ⟨S256x128, .bf16⟩
  | 118 => ⟨S256x128, .bf16⟩
  | 119 => ⟨S8x1x1, .i32⟩
  | 120 => ⟨S_, .i32⟩
  | 121 => ⟨S8x1x1, .i32⟩
  | 122 => ⟨S8x1x1, .i1⟩
  | 123 => ⟨S_, .i32⟩
  | 124 => ⟨S_, .bf16⟩
  | 125 => ⟨S8x64x16384, .i1⟩
  | 126 => ⟨S8x64x16384, .bf16⟩
  | 127 => ⟨S8x64x16384, .bf16⟩
  | _ => ⟨S16384x8x64, .bf16⟩

abbrev hbmTy0_1 (i : Nat) : BufTy := match i % 128 with
  | 0 => ⟨S_, .i32⟩
  | 1 => ⟨S_, .bf16⟩
  | 2 => ⟨S8x64x16384, .i1⟩
  | 3 => ⟨S8x64x16384, .bf16⟩
  | 4 => ⟨S8x64x16384, .bf16⟩
  | 5 => ⟨S8x128x16384, .bf16⟩
  | 6 => ⟨S128x16384, .bf16⟩
  | 7 => ⟨S128x256, .bf16⟩
  | 8 => ⟨S8x128x16384, .f32⟩
  | 9 => ⟨S128x16384, .f32⟩
  | 10 => ⟨S128x16384, .f32⟩
  | 11 => ⟨S128x256, .f32⟩
  | 12 => ⟨S128x256, .f32⟩
  | 13 => ⟨S8x1x1, .i32⟩
  | 14 => ⟨S_, .i32⟩
  | 15 => ⟨S8x1x1, .i32⟩
  | 16 => ⟨S8x1x1, .i1⟩
  | 17 => ⟨S8x64x16384, .f32⟩
  | 18 => ⟨S8x64x16384, .f32⟩
  | 19 => ⟨S8x64x16384, .i1⟩
  | 20 => ⟨S8x64x16384, .f32⟩
  | 21 => ⟨S_, .f32⟩
  | 22 => ⟨S8x64x16384, .f32⟩
  | 23 => ⟨S8x64x16384, .f32⟩
  | _ => ⟨S16384x8x64, .bf16⟩

abbrev hbmTy (i : Nat) : BufTy := match i / 128 with
  | 0 => hbmTy0_0 i
  | 1 => hbmTy0_1 i
  | _ => ⟨S16384x8x64, .bf16⟩

abbrev bufTy : (tb : Table) → Fin (tcTables nBuf tb) → BufTy
  | .hbm, ⟨i, _⟩ => hbmTy i
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x1x512, .f32⟩
  | .local _ .vmem, ⟨7, _⟩ => ⟨S1x1x512, .f32⟩
  | .local _ .vmem, ⟨8, _⟩ => ⟨S1x17x512, .f32⟩
  | .local _ .vmem, ⟨9, _⟩ => ⟨S1x17x512, .f32⟩
  | .local _ .vmem, ⟨10, _⟩ => ⟨S128x16384, .bf16⟩
  | .local _ .vmem, ⟨11, _⟩ => ⟨S16384x128, .bf16⟩
  | .local _ .vmem, ⟨12, _⟩ => ⟨S128x256, .bf16⟩
  | .local _ .vmem, ⟨13, _⟩ => ⟨S256x128, .bf16⟩
  | .local _ .vmem, ⟨14, _⟩ => ⟨S1x128x512, .f32⟩
  | .local _ .vmem, ⟨15, _⟩ => ⟨S1x128x512, .f32⟩
  | .local _ .vmem, ⟨16, _⟩ => ⟨S128x256, .f32⟩
  | .local _ .vmem, ⟨17, _⟩ => ⟨S128x256, .f32⟩
  | .local _ .vmem, ⟨18, _⟩ => ⟨S128x512, .f32⟩
  | .local _ .vmem, ⟨19, _⟩ => ⟨S512x512, .f32⟩
  | .local _ .vmem, ⟨20, _⟩ => ⟨S128x16384, .f32⟩
  | .local _ .vmem, ⟨21, _⟩ => ⟨S128x16384, .f32⟩
  | .local _ .vmem, ⟨22, _⟩ => ⟨S4x512x512, .bf16⟩
  | .local _ .vmem, ⟨23, _⟩ => ⟨S256x512, .bf16⟩
  | _, _ => ⟨S16384x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_c : Ref sig .tc := ⟨.hbm, 83, rfl⟩
abbrev main_v69 : Ref sig .tc := ⟨.hbm, 84, rfl⟩
abbrev main_v70 : Ref sig .tc := ⟨.hbm, 85, rfl⟩
abbrev main_c_5 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v71 : Ref sig .tc := ⟨.hbm, 90, rfl⟩
abbrev main_c_6 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_7 : Ref sig .tc := ⟨.hbm, 101, rfl⟩
abbrev main_v78 : Ref sig .tc := ⟨.hbm, 102, rfl⟩
abbrev main_v79 : Ref sig .tc := ⟨.hbm, 103, rfl⟩
abbrev main_c_8 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v80 : Ref sig .tc := ⟨.hbm, 108, rfl⟩
abbrev main_c_9 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_10 : Ref sig .tc := ⟨.hbm, 120, rfl⟩
abbrev main_v88 : Ref sig .tc := ⟨.hbm, 121, rfl⟩
abbrev main_v89 : Ref sig .tc := ⟨.hbm, 122, rfl⟩
abbrev main_c_11 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v90 : Ref sig .tc := ⟨.hbm, 127, rfl⟩
abbrev main_c_12 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95_0 : Ref sig .tc := ⟨.hbm, 136, rfl⟩
abbrev main_v95_1 : Ref sig .tc := ⟨.hbm, 137, rfl⟩
abbrev main_v95_2 : Ref sig .tc := ⟨.hbm, 138, rfl⟩
abbrev main_v95_3 : Ref sig .tc := ⟨.hbm, 139, rfl⟩
abbrev main_v95_4 : Ref sig .tc := ⟨.hbm, 140, rfl⟩
abbrev main_v96 : Ref sig .tc := ⟨.hbm, 141, rfl⟩
abbrev main_c_13 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call7_v0 : Ref sig .tc := ⟨.hbm, 147, rfl⟩
abbrev main_v101 : Ref sig .tc := ⟨.hbm, 148, rfl⟩
abbrev main_cst_14 : Ref sig .tc := ⟨.hbm, 149, rfl⟩
abbrev main_v102 : Ref sig .tc := ⟨.hbm, 150, rfl⟩
abbrev main_v103 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨2, ![8, 32], ![false, false]⟩

def k0_off1 (i : grid0.Coords) : Fin 4 → Nat :=
  let arg0 : BitVec 32 := BitVec.ofNat 32 (i 0).val
  let arg1 : BitVec 32 := BitVec.ofNat 32 (i 1).val
  let c16384_i32 : BitVec 32 := 16384#32
  let c0_i32_15 : BitVec 32 := 0#32
  ![arg0.toNat, arg1.toNat, 16384, 0]
def k0_cond2 (i : grid0.Coords) : BitVec 1 :=
  let arg0 : BitVec 32 := BitVec.ofNat 32 (i 0).val
  let c0_i32_16 : BitVec 32 := 0#32
  let v38 : BitVec 1 := Scalar.cmpi .eq arg0 c0_i32_16
  let arg1 : BitVec 32 := BitVec.ofNat 32 (i 1).val
  let c0_i32_17 : BitVec 32 := 0#32
  let v39 : BitVec 1 := Scalar.cmpi .eq arg1 c0_i32_17
  let v40 : BitVec 1 := Scalar.andi v38 v39
  let v41 : BitVec 32 := Scalar.extui v40
  let c0_i32_18 : BitVec 32 := 0#32
  let v42 : BitVec 1 := Scalar.cmpi .ne v41 c0_i32_18
  v42

def k0_mult1 : BitVec 32 :=
  let c0_i32_70 : BitVec 32 := 0#32
  c0_i32_70
def k0_off2 (i : grid0.Coords) : Fin 4 → Nat :=
  let arg0 : BitVec 32 := BitVec.ofNat 32 (i 0).val
  let arg1 : BitVec 32 := BitVec.ofNat 32 (i 1).val
  let c0_i32_70 : BitVec 32 := 0#32
  let v106 : BitVec 32 := c0_i32_70
  let c0_i32_75 : BitVec 32 := 0#32
  ![arg0.toNat, arg1.toNat, 0, 0]
def k0_mult2 : BitVec 32 :=
  let c512_i32 : BitVec 32 := 512#32
  c512_i32
def k0_off3 (i : grid0.Coords) : Fin 4 → Nat :=
  let arg0 : BitVec 32 := BitVec.ofNat 32 (i 0).val
  let arg1 : BitVec 32 := BitVec.ofNat 32 (i 1).val
  let c512_i32 : BitVec 32 := 512#32
  let v113 : BitVec 32 := c512_i32
  let c0_i32_80 : BitVec 32 := 0#32
  ![arg0.toNat, arg1.toNat, 512, 0]
def k0_mult3 : BitVec 32 :=
  let c1024_i32 : BitVec 32 := 1024#32
  c1024_i32
def k0_off4 (i : grid0.Coords) : Fin 4 → Nat :=
  let arg0 : BitVec 32 := BitVec.ofNat 32 (i 0).val
  let arg1 : BitVec 32 := BitVec.ofNat 32 (i 1).val
  let c1024_i32 : BitVec 32 := 1024#32
  let v120 : BitVec 32 := c1024_i32
  let c0_i32_84 : BitVec 32 := 0#32
  ![arg0.toNat, arg1.toNat, 1024, 0]
@[reducible] def k0_t1_loop : Scf.Loop 32 :=
  let c0_i32_59 : BitVec 32 := 0#32
  let c32_i32_60 : BitVec 32 := 32#32
  let v96 : BitVec 32 := Scalar.addi c0_i32_59 c32_i32_60
  let c1_i32_61 : BitVec 32 := 1#32
  ⟨c0_i32_59, v96, c1_i32_61⟩
def k0_mult4 (k0_t1 : Fin k0_t1_loop.trips) : BitVec 32 :=
  let c0_i32_59 : BitVec 32 := 0#32
  let c1_i32_61 : BitVec 32 := 1#32
  let arg25 : BitVec 32 := Scf.iv c0_i32_59 c1_i32_61 k0_t1
  let c512_i32 : BitVec 32 := 512#32
  let v116 : BitVec 32 := Scalar.muli arg25 c512_i32
  v116
def k0_mult5 (k0_t1 : Fin k0_t1_loop.trips) : BitVec 32 :=
  let c0_i32_59 : BitVec 32 := 0#32
  let c1_i32_61 : BitVec 32 := 1#32
  let arg25 : BitVec 32 := Scf.iv c0_i32_59 c1_i32_61 k0_t1
  let c1_i32_75 : BitVec 32 := 1#32
  let v118 : BitVec 32 := Scalar.addi arg25 c1_i32_75
  let c31_i32_76 : BitVec 32 := 31#32
  let v119 : BitVec 32 := Scalar.minsi v118 c31_i32_76
  let c512_i32_77 : BitVec 32 := 512#32
  let v120 : BitVec 32 := Scalar.muli v119 c512_i32_77
  v120
def k0_mult6 (k0_t1 : Fin k0_t1_loop.trips) : BitVec 32 :=
  let c0_i32_59 : BitVec 32 := 0#32
  let c1_i32_61 : BitVec 32 := 1#32
  let arg25 : BitVec 32 := Scf.iv c0_i32_59 c1_i32_61 k0_t1
  let c512_i32_78 : BitVec 32 := 512#32
  let v122 : BitVec 32 := Scalar.muli arg25 c512_i32_78
  v122
def k0_off5 (k0_t1 : Fin k0_t1_loop.trips) : Fin 1 → Nat :=
  let c0_i32_59 : BitVec 32 := 0#32
  let c1_i32_61 : BitVec 32 := 1#32
  let arg25 : BitVec 32 := Scf.iv c0_i32_59 c1_i32_61 k0_t1
  let c4_i32 : BitVec 32 := 4#32
  let c0_i32_70 : BitVec 32 := 0#32
  let v106 : BitVec 1 := Scalar.cmpi .eq c4_i32 c0_i32_70
  let c1_i32_71 : BitVec 32 := 1#32
  let v107 : BitVec 32 := Scalar.select v106 c1_i32_71 c4_i32
  let v108 : BitVec 32 := Scalar.remsi arg25 v107
  let c0_i32_73 : BitVec 32 := 0#32
  let v110 : BitVec 1 := Scalar.cmpi .slt v108 c0_i32_73
  let c0_i32_74 : BitVec 32 := 0#32
  let v111 : BitVec 1 := Scalar.cmpi .slt v107 c0_i32_74
  let v112 : BitVec 1 := Scalar.xori v110 v111
  let c0_i32_72 : BitVec 32 := 0#32
  let v109 : BitVec 1 := Scalar.cmpi .ne v108 c0_i32_72
  let v113 : BitVec 1 := Scalar.andi v112 v109
  let v114 : BitVec 32 := Scalar.addi v108 v107
  let v115 : BitVec 32 := Scalar.select v113 v114 v108
  ![v115.toNat]
def k0_off6 (k0_t1 : Fin k0_t1_loop.trips) : Fin 3 → Nat :=
  let c0_i32_59 : BitVec 32 := 0#32
  let c1_i32_61 : BitVec 32 := 1#32
  let arg25 : BitVec 32 := Scf.iv c0_i32_59 c1_i32_61 k0_t1
  let c4_i32 : BitVec 32 := 4#32
  let c0_i32_70 : BitVec 32 := 0#32
  let v106 : BitVec 1 := Scalar.cmpi .eq c4_i32 c0_i32_70
  let c1_i32_71 : BitVec 32 := 1#32
  let v107 : BitVec 32 := Scalar.select v106 c1_i32_71 c4_i32
  let v108 : BitVec 32 := Scalar.remsi arg25 v107
  let c0_i32_73 : BitVec 32 := 0#32
  let v110 : BitVec 1 := Scalar.cmpi .slt v108 c0_i32_73
  let c0_i32_74 : BitVec 32 := 0#32
  let v111 : BitVec 1 := Scalar.cmpi .slt v107 c0_i32_74
  let v112 : BitVec 1 := Scalar.xori v110 v111
  let c0_i32_72 : BitVec 32 := 0#32
  let v109 : BitVec 1 := Scalar.cmpi .ne v108 c0_i32_72
  let v113 : BitVec 1 := Scalar.andi v112 v109
  let v114 : BitVec 32 := Scalar.addi v108 v107
  let v115 : BitVec 32 := Scalar.select v113 v114 v108
  let c0_i32_79 : BitVec 32 := 0#32
  let c0_i32_80 : BitVec 32 := 0#32
  ![v115.toNat, 0, 0]
def k0_off7 (i : grid0.Coords) (k0_t1 : Fin k0_t1_loop.trips) : Fin 4 → Nat :=
  let arg0 : BitVec 32 := BitVec.ofNat 32 (i 0).val
  let arg1 : BitVec 32 := BitVec.ofNat 32 (i 1).val
  let c0_i32_59 : BitVec 32 := 0#32
  let c1_i32_61 : BitVec 32 := 1#32
  let arg25 : BitVec 32 := Scf.iv c0_i32_59 c1_i32_61 k0_t1
  let c512_i32_78 : BitVec 32 := 512#32
  let v122 : BitVec 32 := Scalar.muli arg25 c512_i32_78
  let v123 : BitVec 32 := v122
  let c0_i32_81 : BitVec 32 := 0#32
  ![arg0.toNat, arg1.toNat, v123.toNat, 0]
def k0_mult7 (k0_t1 : Fin k0_t1_loop.trips) : BitVec 32 :=
  let c0_i32_59 : BitVec 32 := 0#32
  let c1_i32_61 : BitVec 32 := 1#32
  let arg25 : BitVec 32 := Scf.iv c0_i32_59 c1_i32_61 k0_t1
  let c3_i32 : BitVec 32 := 3#32
  let v130 : BitVec 32 := Scalar.addi arg25 c3_i32
  let c32_i32_82 : BitVec 32 := 32#32
  let v131 : BitVec 1 := Scalar.cmpi .sge v130 c32_i32_82
  let c32_i32_89 : BitVec 32 := 32#32
  let v142 : BitVec 32 := Scalar.subi v130 c32_i32_89
  let v143 : BitVec 32 := Scalar.select v131 v142 v130
  let c512_i32_90 : BitVec 32 := 512#32
  let v146 : BitVec 32 := Scalar.muli v143 c512_i32_90
  v146
def k0_off8 (k0_t1 : Fin k0_t1_loop.trips) : Fin 1 → Nat :=
  let c0_i32_59 : BitVec 32 := 0#32
  let c1_i32_61 : BitVec 32 := 1#32
  let arg25 : BitVec 32 := Scf.iv c0_i32_59 c1_i32_61 k0_t1
  let c3_i32 : BitVec 32 := 3#32
  let v130 : BitVec 32 := Scalar.addi arg25 c3_i32
  let c4_i32_83 : BitVec 32 := 4#32
  let c0_i32_84 : BitVec 32 := 0#32
  let v132 : BitVec 1 := Scalar.cmpi .eq c4_i32_83 c0_i32_84
  let c1_i32_85 : BitVec 32 := 1#32
  let v133 : BitVec 32 := Scalar.select v132 c1_i32_85 c4_i32_83
  let v134 : BitVec 32 := Scalar.remsi v130 v133
  let c0_i32_87 : BitVec 32 := 0#32
  let v136 : BitVec 1 := Scalar.cmpi .slt v134 c0_i32_87
  let c0_i32_88 : BitVec 32 := 0#32
  let v137 : BitVec 1 := Scalar.cmpi .slt v133 c0_i32_88
  let v138 : BitVec 1 := Scalar.xori v136 v137
  let c0_i32_86 : BitVec 32 := 0#32
  let v135 : BitVec 1 := Scalar.cmpi .ne v134 c0_i32_86
  let v139 : BitVec 1 := Scalar.andi v138 v135
  let v140 : BitVec 32 := Scalar.addi v134 v133
  let v141 : BitVec 32 := Scalar.select v139 v140 v134
  ![v141.toNat]
def k0_off9 (k0_t1 : Fin k0_t1_loop.trips) : Fin 3 → Nat :=
  let c0_i32_59 : BitVec 32 := 0#32
  let c1_i32_61 : BitVec 32 := 1#32
  let arg25 : BitVec 32 := Scf.iv c0_i32_59 c1_i32_61 k0_t1
  let c3_i32 : BitVec 32 := 3#32
  let v130 : BitVec 32 := Scalar.addi arg25 c3_i32
  let c4_i32_83 : BitVec 32 := 4#32
  let c0_i32_84 : BitVec 32 := 0#32
  let v132 : BitVec 1 := Scalar.cmpi .eq c4_i32_83 c0_i32_84
  let c1_i32_85 : BitVec 32 := 1#32
  let v133 : BitVec 32 := Scalar.select v132 c1_i32_85 c4_i32_83
  let v134 : BitVec 32 := Scalar.remsi v130 v133
  let c0_i32_87 : BitVec 32 := 0#32
  let v136 : BitVec 1 := Scalar.cmpi .slt v134 c0_i32_87
  let c0_i32_88 : BitVec 32 := 0#32
  let v137 : BitVec 1 := Scalar.cmpi .slt v133 c0_i32_88
  let v138 : BitVec 1 := Scalar.xori v136 v137
  let c0_i32_86 : BitVec 32 := 0#32
  let v135 : BitVec 1 := Scalar.cmpi .ne v134 c0_i32_86
  let v139 : BitVec 1 := Scalar.andi v138 v135
  let v140 : BitVec 32 := Scalar.addi v134 v133
  let v141 : BitVec 32 := Scalar.select v139 v140 v134
  let c0_i32_91 : BitVec 32 := 0#32
  let c0_i32_92 : BitVec 32 := 0#32
  ![v141.toNat, 0, 0]
def k0_off10 (i : grid0.Coords) (k0_t1 : Fin k0_t1_loop.trips) : Fin 4 → Nat :=
  let c0_i32_59 : BitVec 32 := 0#32
  let c1_i32_61 : BitVec 32 := 1#32
  let arg25 : BitVec 32 := Scf.iv c0_i32_59 c1_i32_61 k0_t1
  let c3_i32 : BitVec 32 := 3#32
  let v130 : BitVec 32 := Scalar.addi arg25 c3_i32
  let c32_i32_82 : BitVec 32 := 32#32
  let v131 : BitVec 1 := Scalar.cmpi .sge v130 c32_i32_82
  let arg0 : BitVec 32 := BitVec.ofNat 32 (i 0).val
  let arg1 : BitVec 32 := BitVec.ofNat 32 (i 1).val
  let c1_i32 : BitVec 32 := 1#32
  let v5 : BitVec 32 := Scalar.addi arg1 c1_i32
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c32_i32 : BitVec 32 := 32#32
  let c0_i32_4 : BitVec 32 := 0#32
  let v12 : BitVec 1 := Scalar.cmpi .sgt c32_i32 c0_i32_4
  let v13 : BitVec 32 := Scalar.extui v12
  let c0_i32_5 : BitVec 32 := 0#32
  let v14 : BitVec 1 := Scalar.cmpi .slt c32_i32 c0_i32_5
  let v15 : BitVec 32 := Scalar.extui v14
  let v16 : BitVec 32 := Scalar.subi v13 v15
  let v17 : BitVec 1 := Scalar.cmpi .ne v11 v16
  let v18 : BitVec 32 := Scalar.remsi v5 c32_i32
  let c0_i32_6 : BitVec 32 := 0#32
  let v19 : BitVec 1 := Scalar.cmpi .ne v18 c0_i32_6
  let v20 : BitVec 1 := Scalar.andi v17 v19
  let v6 : BitVec 32 := Scalar.divsi v5 c32_i32
  let c1_i32_7 : BitVec 32 := 1#32
  let v21 : BitVec 32 := Scalar.subi v6 c1_i32_7
  let v22 : BitVec 32 := Scalar.select v20 v21 v6
  let v23 : BitVec 32 := Scalar.addi arg0 v22
  let c7_i32 : BitVec 32 := 7#32
  let v24 : BitVec 32 := Scalar.minsi v23 c7_i32
  let v144 : BitVec 32 := Scalar.select v131 v24 arg0
  let c1_i32_8 : BitVec 32 := 1#32
  let v25 : BitVec 32 := Scalar.addi arg1 c1_i32_8
  let c32_i32_9 : BitVec 32 := 32#32
  let c0_i32_10 : BitVec 32 := 0#32
  let v26 : BitVec 1 := Scalar.cmpi .eq c32_i32_9 c0_i32_10
  let c1_i32_11 : BitVec 32 := 1#32
  let v27 : BitVec 32 := Scalar.select v26 c1_i32_11 c32_i32_9
  let v28 : BitVec 32 := Scalar.remsi v25 v27
  let c0_i32_13 : BitVec 32 := 0#32
  let v30 : BitVec 1 := Scalar.cmpi .slt v28 c0_i32_13
  let c0_i32_14 : BitVec 32 := 0#32
  let v31 : BitVec 1 := Scalar.cmpi .slt v27 c0_i32_14
  let v32 : BitVec 1 := Scalar.xori v30 v31
  let c0_i32_12 : BitVec 32 := 0#32
  let v29 : BitVec 1 := Scalar.cmpi .ne v28 c0_i32_12
  let v33 : BitVec 1 := Scalar.andi v32 v29
  let v34 : BitVec 32 := Scalar.addi v28 v27
  let v35 : BitVec 32 := Scalar.select v33 v34 v28
  let v145 : BitVec 32 := Scalar.select v131 v35 arg1
  let c32_i32_89 : BitVec 32 := 32#32
  let v142 : BitVec 32 := Scalar.subi v130 c32_i32_89
  let v143 : BitVec 32 := Scalar.select v131 v142 v130
  let c512_i32_90 : BitVec 32 := 512#32
  let v146 : BitVec 32 := Scalar.muli v143 c512_i32_90
  let v147 : BitVec 32 := v146
  let c0_i32_93 : BitVec 32 := 0#32
  ![v144.toNat, v145.toNat, v147.toNat, 0]
def k0_off11 (k0_t1 : Fin k0_t1_loop.trips) : Fin 2 → Nat :=
  let c0_i32_59 : BitVec 32 := 0#32
  let c1_i32_61 : BitVec 32 := 1#32
  let arg25 : BitVec 32 := Scf.iv c0_i32_59 c1_i32_61 k0_t1
  let c1_i32_75 : BitVec 32 := 1#32
  let v118 : BitVec 32 := Scalar.addi arg25 c1_i32_75
  let c31_i32_76 : BitVec 32 := 31#32
  let v119 : BitVec 32 := Scalar.minsi v118 c31_i32_76
  let c512_i32_77 : BitVec 32 := 512#32
  let v120 : BitVec 32 := Scalar.muli v119 c512_i32_77
  let v121 : BitVec 32 := v120
  let v155 : Index := Scalar.indexCast v121
  let c0_96 : Index := 0#32
  ![v155.toNat, 0]
def k0_off12 (k0_t1 : Fin k0_t1_loop.trips) : Fin 3 → Nat :=
  let c0_i32_59 : BitVec 32 := 0#32
  let c1_i32_61 : BitVec 32 := 1#32
  let arg25 : BitVec 32 := Scf.iv c0_i32_59 c1_i32_61 k0_t1
  let c4_i32 : BitVec 32 := 4#32
  let c0_i32_70 : BitVec 32 := 0#32
  let v106 : BitVec 1 := Scalar.cmpi .eq c4_i32 c0_i32_70
  let c1_i32_71 : BitVec 32 := 1#32
  let v107 : BitVec 32 := Scalar.select v106 c1_i32_71 c4_i32
  let v108 : BitVec 32 := Scalar.remsi arg25 v107
  let c0_i32_73 : BitVec 32 := 0#32
  let v110 : BitVec 1 := Scalar.cmpi .slt v108 c0_i32_73
  let c0_i32_74 : BitVec 32 := 0#32
  let v111 : BitVec 1 := Scalar.cmpi .slt v107 c0_i32_74
  let v112 : BitVec 1 := Scalar.xori v110 v111
  let c0_i32_72 : BitVec 32 := 0#32
  let v109 : BitVec 1 := Scalar.cmpi .ne v108 c0_i32_72
  let v113 : BitVec 1 := Scalar.andi v112 v109
  let v114 : BitVec 32 := Scalar.addi v108 v107
  let v115 : BitVec 32 := Scalar.select v113 v114 v108
  let v159 : Index := Scalar.indexCast v115
  let c0_98 : Index := 0#32
  let c0_99 : Index := 0#32
  ![v159.toNat, 0, 0]
def k0_off13 (k0_t1 : Fin k0_t1_loop.trips) : Fin 3 → Nat :=
  let c0_106 : Index := 0#32
  let c0_i32_59 : BitVec 32 := 0#32
  let c1_i32_61 : BitVec 32 := 1#32
  let arg25 : BitVec 32 := Scf.iv c0_i32_59 c1_i32_61 k0_t1
  let c0_i32_100 : BitVec 32 := 0#32
  let v163 : BitVec 1 := Scalar.cmpi .sgt arg25 c0_i32_100
  let v164 : BitVec 32 := Scalar.extui v163
  let c0_i32_101 : BitVec 32 := 0#32
  let v165 : BitVec 1 := Scalar.cmpi .slt arg25 c0_i32_101
  let v166 : BitVec 32 := Scalar.extui v165
  let v167 : BitVec 32 := Scalar.subi v164 v166
  let c2_i32 : BitVec 32 := 2#32
  let c0_i32_102 : BitVec 32 := 0#32
  let v168 : BitVec 1 := Scalar.cmpi .sgt c2_i32 c0_i32_102
  let v169 : BitVec 32 := Scalar.extui v168
  let c0_i32_103 : BitVec 32 := 0#32
  let v170 : BitVec 1 := Scalar.cmpi .slt c2_i32 c0_i32_103
  let v171 : BitVec 32 := Scalar.extui v170
  let v172 : BitVec 32 := Scalar.subi v169 v171
  let v173 : BitVec 1 := Scalar.cmpi .ne v167 v172
  let v174 : BitVec 32 := Scalar.remsi arg25 c2_i32
  let c0_i32_104 : BitVec 32 := 0#32
  let v175 : BitVec 1 := Scalar.cmpi .ne v174 c0_i32_104
  let v176 : BitVec 1 := Scalar.andi v173 v175
  let v162 : BitVec 32 := Scalar.divsi arg25 c2_i32
  let c1_i32_105 : BitVec 32 := 1#32
  let v177 : BitVec 32 := Scalar.subi v162 c1_i32_105
  let v178 : BitVec 32 := Scalar.select v176 v177 v162
  let v179 : Index := Scalar.indexCast v178
  let c0_107 : Index := 0#32
  ![0, v179.toNat, 0]
def k0_off14 (k0_t1 : Fin k0_t1_loop.trips) : Fin 2 → Nat :=
  let c0_110 : Index := 0#32
  let c0_i32_59 : BitVec 32 := 0#32
  let c1_i32_61 : BitVec 32 := 1#32
  let arg25 : BitVec 32 := Scf.iv c0_i32_59 c1_i32_61 k0_t1
  let c512_i32 : BitVec 32 := 512#32
  let v116 : BitVec 32 := Scalar.muli arg25 c512_i32
  let v117 : BitVec 32 := v116
  let v193 : Index := Scalar.indexCast v117
  ![0, v193.toNat]
def k0_cond3 (i : grid0.Coords) : BitVec 1 :=
  let arg0 : BitVec 32 := BitVec.ofNat 32 (i 0).val
  let c7_i32_68 : BitVec 32 := 7#32
  let v101 : BitVec 1 := Scalar.cmpi .eq arg0 c7_i32_68
  let arg1 : BitVec 32 := BitVec.ofNat 32 (i 1).val
  let c31_i32 : BitVec 32 := 31#32
  let v102 : BitVec 1 := Scalar.cmpi .eq arg1 c31_i32
  let v103 : BitVec 1 := Scalar.andi v101 v102
  let v104 : BitVec 32 := Scalar.extui v103
  let c0_i32_69 : BitVec 32 := 0#32
  let v105 : BitVec 1 := Scalar.cmpi .ne v104 c0_i32_69
  v105

def k0_mult8 : BitVec 32 :=
  let c0_i32_70 : BitVec 32 := 0#32
  c0_i32_70
def k0_off15 (i : grid0.Coords) : Fin 4 → Nat :=
  let arg0 : BitVec 32 := BitVec.ofNat 32 (i 0).val
  let arg1 : BitVec 32 := BitVec.ofNat 32 (i 1).val
  let c0_i32_70 : BitVec 32 := 0#32
  let v106 : BitVec 32 := c0_i32_70
  let c0_i32_75 : BitVec 32 := 0#32
  ![arg0.toNat, arg1.toNat, 0, 0]
def k0_mult9 : BitVec 32 :=
  let c512_i32 : BitVec 32 := 512#32
  c512_i32
def k0_off16 (i : grid0.Coords) : Fin 4 → Nat :=
  let arg0 : BitVec 32 := BitVec.ofNat 32 (i 0).val
  let arg1 : BitVec 32 := BitVec.ofNat 32 (i 1).val
  let c512_i32 : BitVec 32 := 512#32
  let v113 : BitVec 32 := c512_i32
  let c0_i32_80 : BitVec 32 := 0#32
  ![arg0.toNat, arg1.toNat, 512, 0]
def k0_mult10 : BitVec 32 :=
  let c1024_i32 : BitVec 32 := 1024#32
  c1024_i32
def k0_off17 (i : grid0.Coords) : Fin 4 → Nat :=
  let arg0 : BitVec 32 := BitVec.ofNat 32 (i 0).val
  let arg1 : BitVec 32 := BitVec.ofNat 32 (i 1).val
  let c1024_i32 : BitVec 32 := 1024#32
  let v120 : BitVec 32 := c1024_i32
  let c0_i32_84 : BitVec 32 := 0#32
  ![arg0.toNat, arg1.toNat, 1024, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x17x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== GlobRefIdeal.lean ====
abbrev S16384x8x64 : Shape := ⟨3, ![16384, 8, 64]⟩
abbrev S16384x2x64 : Shape := ⟨3, ![16384, 2, 64]⟩
abbrev S256x2x64 : Shape := ⟨3, ![256, 2, 64]⟩
abbrev S16384x2x4x64 : Shape := ⟨4, ![16384, 2, 4, 64]⟩
abbrev S16640x2x64 : Shape := ⟨3, ![16640, 2, 64]⟩
abbrev S2x16640x16384x4 : Shape := ⟨4, ![2, 16640, 16384, 4]⟩
abbrev S2x4x16384x16640 : Shape := ⟨4, ![2, 4, 16384, 16640]⟩
abbrev S_ : Shape := ⟨0, ![]⟩
abbrev S2x4x16384 : Shape := ⟨3, ![2, 4, 16384]⟩
abbrev S2x4x16384x1 : Shape := ⟨4, ![2, 4, 16384, 1]⟩
abbrev S2x64x4x16384 : Shape := ⟨4, ![2, 64, 4, 16384]⟩
abbrev S2x64x16640 : Shape := ⟨3, ![2, 64, 16640]⟩
abbrev S2x16384x4x64 : Shape := ⟨4, ![2, 16384, 4, 64]⟩
abbrev S2x16640x64 : Shape := ⟨3, ![2, 16640, 64]⟩
abbrev S8x64x16384 : Shape := ⟨3, ![8, 64, 16384]⟩
abbrev S16384x128 : Shape := ⟨2, ![16384, 128]⟩
abbrev S128x16384 : Shape := ⟨2, ![128, 16384]⟩
abbrev S256x128 : Shape := ⟨2, ![256, 128]⟩
abbrev S128x256 : Shape := ⟨2, ![128, 256]⟩

abbrev nBuf : Space → Nat
  | .hbm => 97
  | .vmem => 0
  | .smem => 0
  | _ => 0

abbrev bufTy : (tb : Table) → Fin (tcTables nBuf tb) → BufTy
  | .hbm, ⟨0, _⟩ => ⟨S16384x8x64, .bf16⟩
  | .hbm, ⟨1, _⟩ => ⟨S16384x8x64, .f32⟩
  | .hbm, ⟨2, _⟩ => ⟨S16384x2x64, .f32⟩
  | .hbm, ⟨3, _⟩ => ⟨S16384x2x64, .f32⟩
  | .hbm, ⟨4, _⟩ => ⟨S256x2x64, .f32⟩
  | .hbm, ⟨5, _⟩ => ⟨S256x2x64, .f32⟩
  | .hbm, ⟨6, _⟩ => ⟨S16384x2x4x64, .f32⟩
  | .hbm, ⟨7, _⟩ => ⟨S16640x2x64, .f32⟩
  | .hbm, ⟨8, _⟩ => ⟨S2x16640x16384x4, .f32⟩
  | .hbm, ⟨9, _⟩ => ⟨S2x4x16384x16640, .f32⟩
  | .hbm, ⟨10, _⟩ => ⟨S_, .f32⟩
  | .hbm, ⟨11, _⟩ => ⟨S2x4x16384x16640, .f32⟩
  | .hbm, ⟨12, _⟩ => ⟨S2x4x16384x16640, .f32⟩
  | .hbm, ⟨13, _⟩ => ⟨S_, .f32⟩
  | .hbm, ⟨14, _⟩ => ⟨S2x4x16384, .f32⟩
  | .hbm, ⟨15, _⟩ => ⟨S2x4x16384x1, .f32⟩
  | .hbm, ⟨16, _⟩ => ⟨S2x4x16384x16640, .f32⟩
  | .hbm, ⟨17, _⟩ => ⟨S2x4x16384x16640, .i1⟩
  | .hbm, ⟨18, _⟩ => ⟨S2x4x16384x16640, .f32⟩
  | .hbm, ⟨19, _⟩ => ⟨S_, .f32⟩
  | .hbm, ⟨20, _⟩ => ⟨S2x4x16384, .f32⟩
  | .hbm, ⟨21, _⟩ => ⟨S_, .f32⟩
  | .hbm, ⟨22, _⟩ => ⟨S2x4x16384, .f32⟩
  | .hbm, ⟨23, _⟩ => ⟨S2x4x16384, .f32⟩
  | .hbm, ⟨24, _⟩ => ⟨S_, .f32⟩
  | .hbm, ⟨25, _⟩ => ⟨S2x4x16384, .f32⟩
  | .hbm, ⟨26, _⟩ => ⟨S2x4x16384, .i1⟩
  | .hbm, ⟨27, _⟩ => ⟨S_, .f32⟩
  | .hbm, ⟨28, _⟩ => ⟨S2x4x16384, .f32⟩
  | .hbm, ⟨29, _⟩ => ⟨S2x4x16384, .i1⟩
  | .hbm, ⟨30, _⟩ => ⟨S_, .f32⟩
  | .hbm, ⟨31, _⟩ => ⟨S2x4x16384, .f32⟩
  | .hbm, ⟨32, _⟩ => ⟨S_, .f32⟩
  | .hbm, ⟨33, _⟩ => ⟨S2x4x16384, .f32⟩
  | .hbm, ⟨34, _⟩ => ⟨S_, .f32⟩
  | .hbm, ⟨35, _⟩ => ⟨S2x4x16384, .f32⟩
  | .hbm, ⟨36, _⟩ => ⟨S2x4x16384, .f32⟩
  | .hbm, ⟨37, _⟩ => ⟨S2x4x16384, .f32⟩
  | .hbm, ⟨38, _⟩ => ⟨S2x4x16384x1, .f32⟩
  | .hbm, ⟨39, _⟩ => ⟨S2x4x16384x16640, .f32⟩
  | .hbm, ⟨40, _⟩ => ⟨S2x4x16384x16640, .f32⟩
  | .hbm, ⟨41, _⟩ => ⟨S2x4x16384x16640, .f32⟩
  | .hbm, ⟨42, _⟩ => ⟨S_, .f32⟩
  | .hbm, ⟨43, _⟩ => ⟨S2x4x16384, .f32⟩
  | .hbm, ⟨44, _⟩ => ⟨S2x4x16384x1, .f32⟩
  | .hbm, ⟨45, _⟩ => ⟨S2x4x16384x16640, .f32⟩
  | .hbm, ⟨46, _⟩ => ⟨S2x4x16384x16640, .f32⟩
  | .hbm, ⟨47, _⟩ => ⟨S2x4x16384x1, .f32⟩
  | .hbm, ⟨48, _⟩ => ⟨S_, .f32⟩
  | .hbm, ⟨49, _⟩ => ⟨S2x4x16384x1, .f32⟩
  | .hbm, ⟨50, _⟩ => ⟨S2x4x16384x1, .f32⟩
  | .hbm, ⟨51, _⟩ => ⟨S16640x2x64, .f32⟩
  | .hbm, ⟨52, _⟩ => ⟨S2x64x4x16384, .f32⟩
  | .hbm, ⟨53, _⟩ => ⟨S16384x2x4x64, .f32⟩
  | .hbm, ⟨54, _⟩ => ⟨S16384x8x64, .f32⟩
  | .hbm, ⟨55, _⟩ => ⟨S16384x8x64, .f32⟩
  | .hbm, ⟨56, _⟩ => ⟨S16384x2x4x64, .f32⟩
  | .hbm, ⟨57, _⟩ => ⟨S2x64x4x16384, .f32⟩
  | .hbm, ⟨58, _⟩ => ⟨S2x4x16384x16640, .f32⟩
  | .hbm, ⟨59, _⟩ => ⟨S2x64x16640, .f32⟩
  | .hbm, ⟨60, _⟩ => ⟨S16640x2x64, .f32⟩
  | .hbm, ⟨61, _⟩ => ⟨S16384x2x64, .f32⟩
  | .hbm, ⟨62, _⟩ => ⟨S256x2x64, .f32⟩
  | .hbm, ⟨63, _⟩ => ⟨S2x4x16384x16640, .f32⟩
  | .hbm, ⟨64, _⟩ => ⟨S2x4x16384x16640, .f32⟩
  | .hbm, ⟨65, _⟩ => ⟨S2x4x16384x16640, .f32⟩
  | .hbm, ⟨66, _⟩ => ⟨S_, .f32⟩
  | .hbm, ⟨67, _⟩ => ⟨S2x4x16384, .f32⟩
  | .hbm, ⟨68, _⟩ => ⟨S2x4x16384x1, .f32⟩
  | .hbm, ⟨69, _⟩ => ⟨S2x4x16384x1, .f32⟩
  | .hbm, ⟨70, _⟩ => ⟨S2x4x16384x16640, .f32⟩
  | .hbm, ⟨71, _⟩ => ⟨S2x4x16384x16640, .f32⟩
  | .hbm, ⟨72, _⟩ => ⟨S_, .f32⟩
  | .hbm, ⟨73, _⟩ => ⟨S2x4x16384, .f32⟩
  | .hbm, ⟨74, _⟩ => ⟨S2x4x16384x16640, .f32⟩
  | .hbm, ⟨75, _⟩ => ⟨S2x4x16384x16640, .f32⟩
  | .hbm, ⟨76, _⟩ => ⟨S2x4x16384x16640, .f32⟩
  | .hbm, ⟨77, _⟩ => ⟨S_, .f32⟩
  | .hbm, ⟨78, _⟩ => ⟨S2x4x16384x16640, .f32⟩
  | .hbm, ⟨79, _⟩ => ⟨S2x4x16384x16640, .f32⟩
  | .hbm, ⟨80, _⟩ => ⟨S2x16640x16384x4, .f32⟩
  | .hbm, ⟨81, _⟩ => ⟨S2x16384x4x64, .f32⟩
  | .hbm, ⟨82, _⟩ => ⟨S16384x2x4x64, .f32⟩
  | .hbm, ⟨83, _⟩ => ⟨S2x16640x64, .f32⟩
  | .hbm, ⟨84, _⟩ => ⟨S16640x2x64, .f32⟩
  | .hbm, ⟨85, _⟩ => ⟨S16384x2x64, .f32⟩
  | .hbm, ⟨86, _⟩ => ⟨S256x2x64, .f32⟩
  | .hbm, ⟨87, _⟩ => ⟨S16384x8x64, .f32⟩
  | .hbm, ⟨88, _⟩ => ⟨S8x64x16384, .f32⟩
  | .hbm, ⟨89, _⟩ => ⟨S16384x128, .f32⟩
  | .hbm, ⟨90, _⟩ => ⟨S128x16384, .f32⟩
  | .hbm, ⟨91, _⟩ => ⟨S16384x128, .f32⟩
  | .hbm, ⟨92, _⟩ => ⟨S128x16384, .f32⟩
  | .hbm, ⟨93, _⟩ => ⟨S256x128, .f32⟩
  | .hbm, ⟨94, _⟩ => ⟨S128x256, .f32⟩
  | .hbm, ⟨95, _⟩ => ⟨S256x128, .f32⟩
  | .hbm, ⟨96, _⟩ => ⟨S128x256, .f32⟩
  | _, _ => ⟨S16384x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Mod.lean ====
abbrev S16384x3584 : Shape := ⟨2, ![16384, 3584]⟩
abbrev S1024x3584 : Shape := ⟨2, ![1024, 3584]⟩
abbrev S16384x1024 : Shape := ⟨2, ![16384, 1024]⟩
abbrev S1x1024 : Shape := ⟨2, ![1, 1024]⟩
abbrev S1024x4x896 : Shape := ⟨3, ![1024, 4, 896]⟩
abbrev S4x1024x896 : Shape := ⟨3, ![4, 1024, 896]⟩
abbrev S1024x896 : Shape := ⟨2, ![1024, 896]⟩
abbrev S1x1024x896 : Shape := ⟨3, ![1, 1024, 896]⟩
abbrev S1024x1024 : Shape := ⟨2, ![1024, 1024]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S16384x3584, .bf16⟩
  | .hbm, ⟨1, _⟩ => ⟨S1024x3584, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1024x3584, .bf16⟩
  | .hbm, ⟨6, _⟩ => ⟨S1024x4x896, .bf16⟩
  | .hbm, ⟨7, _⟩ => ⟨S4x1024x896, .bf16⟩
  | .hbm, ⟨8, _⟩ => ⟨S16384x1024, .f32⟩
  | .hbm, ⟨9, _⟩ => ⟨S1x1024, .f32⟩
  | .hbm, ⟨10, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ModRefIdeal.lean ====
abbrev S16384x3584 : Shape := ⟨2, ![16384, 3584]⟩
abbrev S1024x3584 : Shape := ⟨2, ![1024, 3584]⟩
abbrev S16384x1024 : Shape := ⟨2, ![16384, 1024]⟩
abbrev S1x1024 : Shape := ⟨2, ![1, 1024]⟩
abbrev S_ : Shape := ⟨0, ![]⟩
abbrev S1024 : Shape := ⟨1, ![1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S1024x3584, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x3584, .f32⟩
  | .hbm, ⟨15, _⟩ => ⟨S16384x3584, .f32⟩
  | .hbm, ⟨16, _⟩ => ⟨S16384x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Up.lean ====
abbrev S16384x5632 : Shape := ⟨2, ![16384, 5632]⟩
abbrev S1024x5632 : Shape := ⟨2, ![1024, 5632]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x2x2816 : Shape := ⟨3, ![16384, 2, 2816]⟩
abbrev S2x16384x2816 : Shape := ⟨3, ![2, 16384, 2816]⟩
abbrev S1024x4x1408 : Shape := ⟨3, ![1024, 4, 1408]⟩
abbrev S4x1024x1408 : Shape := ⟨3, ![4, 1024, 1408]⟩
abbrev S1x512x1408 : Shape := ⟨3, ![1, 512, 1408]⟩
abbrev S1x1024x1408 : Shape := ⟨3, ![1, 1024, 1408]⟩
abbrev S512x1024 : Shape := ⟨2, ![512, 1024]⟩
abbrev S512x1 : Shape := ⟨2, ![512, 1]⟩
abbrev S512x1408 : Shape := ⟨2, ![512, 1408]⟩
abbrev S1024x1408 : Shape := ⟨2, ![1024, 1408]⟩
abbrev S1024 : Shape := ⟨1, ![1024]⟩
abbrev S512 : Shape := ⟨1, ![512]⟩

abbrev nBuf : Space → Nat
  | .hbm => 52
  | .vmem => 29
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x2x2816, .bf16⟩
  | .hbm, ⟨41, _⟩ => ⟨S2x16384x2816, .bf16⟩
  | .hbm, ⟨42, _⟩ => ⟨S1024x5632, .bf16⟩
  | .hbm, ⟨43, _⟩ => ⟨S1024x4x1408, .bf16⟩
  | .hbm, ⟨44, _⟩ => ⟨S4x1024x1408, .bf16⟩
  | .hbm, ⟨45, _⟩ => ⟨S16384x1024, .f32⟩
  | .hbm, ⟨46, _⟩ => ⟨S16384x1024, .bf16⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_v30_2 : Ref sig .tc := ⟨.hbm, 47, rfl⟩
abbrev main_v30_3 : Ref sig .tc := ⟨.hbm, 48, rfl⟩
abbrev main_v30_4 : Ref sig .tc := ⟨.hbm, 49, rfl⟩
abbrev main_v30_5 : Ref sig .tc := ⟨.hbm, 50, rfl⟩
abbrev main_v30_6 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_13 : BitVec 32 := 0#32
  let v20 : BitVec 1 := Scalar.cmpi .ne v19 c0_i32_13
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== UpRefIdeal.lean ====
abbrev S16384x5632 : Shape := ⟨2, ![16384, 5632]⟩
abbrev S1024x5632 : Shape := ⟨2, ![1024, 5632]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 122
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x5632, .f32⟩
  | .hbm, ⟨59, _⟩ => ⟨S16384x5632, .f32⟩
  | .hbm, ⟨60, _⟩ => ⟨S16384x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S16384x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S16384x1, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S16384x1024, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384, .f32⟩
  | .hbm, ⟨110, _⟩ => ⟨S16384x1024, .f32⟩
  | .hbm, ⟨111, _⟩ => ⟨S16384x1024, .f32⟩
  | .hbm, ⟨112, _⟩ => ⟨S16384x1024, .f32⟩
  | .hbm, ⟨113, _⟩ => ⟨S16384x1024, .f32⟩
  | .hbm, ⟨114, _⟩ => ⟨S16384x1024, .f32⟩
  | .hbm, ⟨115, _⟩ => ⟨S_, .f32⟩
  | .hbm, ⟨116, _⟩ => ⟨S1024, .f32⟩
  | .hbm, ⟨117, _⟩ => ⟨S1x1024, .f32⟩
  | .hbm, ⟨118, _⟩ => ⟨S_, .f32⟩
  | .hbm, ⟨119, _⟩ => ⟨S16384x1024, .f32⟩
  | .hbm, ⟨120, _⟩ => ⟨S16384x1024, .f32⟩
  | .hbm, ⟨121, _⟩ => ⟨S16384x1024, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_cst_19 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_20 : Ref sig .tc := ⟨.hbm, 115, rfl⟩
abbrev main_v85 : Ref sig .tc := ⟨.hbm, 116, rfl⟩
abbrev main_v86 : Ref sig .tc := ⟨.hbm, 117, rfl⟩
abbrev main_cst_21 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S32x8x128 : Shape := ⟨3, ![32, 8, 128]⟩
abbrev S512x2816 : Shape := ⟨2, ![512, 2816]⟩
abbrev S512x1024 : Shape := ⟨2, ![512, 1024]⟩
abbrev S1x8x128 : Shape := ⟨3, ![1, 8, 128]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S8x128 : Shape := ⟨2, ![8, 128]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2816x1024, .bf16⟩
  | .hbm, ⟨8, _⟩ => ⟨S32x8x128, .f32⟩
  | .hbm, ⟨9, _⟩ => ⟨S16384x1024, .bf16⟩
  | .hbm, ⟨10, _⟩ => ⟨S16384x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x8x128, .f32⟩
  | .local _ .vmem, ⟨11, _⟩ => ⟨S1x8x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S32x512 : Shape := ⟨2, ![32, 512]⟩
abbrev S32 : Shape := ⟨1, ![32]⟩
abbrev S32x1x1 : Shape := ⟨3, ![32, 1, 1]⟩
abbrev S32x8x128 : Shape := ⟨3, ![32, 8, 128]⟩

abbrev nBuf : Space → Nat
  | .hbm => 127
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x2816, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S_, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S16384x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S16384x1024, .f32⟩
  | .hbm, ⟨86, _⟩ => ⟨S16384x1024, .f32⟩
  | .hbm, ⟨87, _⟩ => ⟨S16384x1, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S16384x1024, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S_, .f32⟩
  | .hbm, ⟨109, _⟩ => ⟨S16384, .f32⟩
  | .hbm, ⟨110, _⟩ => ⟨S16384x1024, .f32⟩
  | .hbm, ⟨111, _⟩ => ⟨S16384x1024, .f32⟩
  | .hbm, ⟨112, _⟩ => ⟨S16384x1024, .f32⟩
  | .hbm, ⟨113, _⟩ => ⟨S16384x1024, .f32⟩
  | .hbm, ⟨114, _⟩ => ⟨S16384x1024, .f32⟩
  | .hbm, ⟨115, _⟩ => ⟨S_, .f32⟩
  | .hbm, ⟨116, _⟩ => ⟨S1024, .f32⟩
  | .hbm, ⟨117, _⟩ => ⟨S1x1024, .f32⟩
  | .hbm, ⟨118, _⟩ => ⟨S_, .f32⟩
  | .hbm, ⟨119, _⟩ => ⟨S16384x1024, .f32⟩
  | .hbm, ⟨120, _⟩ => ⟨S16384x1024, .f32⟩
  | .hbm, ⟨121, _⟩ => ⟨S32x512, .f32⟩
  | .hbm, ⟨122, _⟩ => ⟨S_, .f32⟩
  | .hbm, ⟨123, _⟩ => ⟨S32, .f32⟩
  | .hbm, ⟨124, _⟩ => ⟨S32x1x1, .f32⟩
  | .hbm, ⟨125, _⟩ => ⟨S32x8x128, .f32⟩
  | .hbm, ⟨126, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_17 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_20 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_21 : Ref sig .tc := ⟨.hbm, 105, rfl⟩
abbrev main_v76 : Ref sig .tc := ⟨.hbm, 106, rfl⟩
abbrev main_v77 : Ref sig .tc := ⟨.hbm, 107, rfl⟩
abbrev main_cst_22 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_23 : Ref sig .tc := ⟨.hbm, 115, rfl⟩
abbrev main_v84 : Ref sig .tc := ⟨.hbm, 116, rfl⟩
abbrev main_v85 : Ref sig .tc := ⟨.hbm, 117, rfl⟩
abbrev main_cst_24 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_25 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== Prep.lean ====
abbrev S8x128x16384 : Shape := ⟨3, ![8, 128, 16384]⟩
abbrev S16384x128 : Shape := ⟨2, ![16384, 128]⟩
abbrev S16384x3584 : Shape := ⟨2, ![16384, 3584]⟩
abbrev S1x64 : Shape := ⟨2, ![1, 64]⟩
abbrev S16384x2048 : Shape := ⟨2, ![16384, 2048]⟩
abbrev S16384x16 : Shape := ⟨2, ![16384, 16]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x512 : Shape := ⟨2, ![1, 512]⟩
abbrev S8x128x512 : Shape := ⟨3, ![8, 128, 512]⟩
abbrev S512x128 : Shape := ⟨2, ![512, 128]⟩
abbrev S512x1536 : Shape := ⟨2, ![512, 1536]⟩
abbrev S512x2048 : Shape := ⟨2, ![512, 2048]⟩
abbrev S512x3584 : Shape := ⟨2, ![512, 3584]⟩
abbrev S1x128x512 : Shape := ⟨3, ![1, 128, 512]⟩
abbrev S128x512 : Shape := ⟨2, ![128, 512]⟩
abbrev S512 : Shape := ⟨1, ![512]⟩
abbrev S512x1 : Shape := ⟨2, ![512, 1]⟩
abbrev S128 : Shape := ⟨1, ![128]⟩

abbrev nBuf : Space → Nat
  | .hbm => 33
  | .vmem => 26
  | .smem => 0
  | _ => 0

abbrev bufTy : (tb : Table) → Fin (tcTables nBuf tb) → BufTy
  | .hbm, ⟨0, _⟩ => ⟨S8x128x16384, .f32⟩
  | .hbm, ⟨1, _⟩ => ⟨S16384x128, .f32⟩
  | .hbm, ⟨2, _⟩ => ⟨S16384x128, .f32⟩
  | .hbm, ⟨3, _⟩ => ⟨S8x128x16384, .f32⟩
  | .hbm, ⟨4, _⟩ => ⟨S16384x128, .f32⟩
  | .hbm, ⟨5, _⟩ => ⟨S16384x128, .f32⟩
  | .hbm, ⟨6, _⟩ => ⟨S16384x3584, .f32⟩
  | .hbm, ⟨7, _⟩ => ⟨S1x64, .f32⟩
  | .hbm, ⟨8, _⟩ => ⟨S1x64, .f32⟩
  | .hbm, ⟨9, _⟩ => ⟨S16384x2048, .bf16⟩
  | .hbm, ⟨10, _⟩ => ⟨S16384x16, .f32⟩
  | .hbm, ⟨11, _⟩ => ⟨S16384x16, .f32⟩
  | .hbm, ⟨12, _⟩ => ⟨S16384x16, .f32⟩
  | .hbm, ⟨13, _⟩ => ⟨S16384x16, .f32⟩
  | .hbm, ⟨14, _⟩ => ⟨S16384x64, .f32⟩
  | .hbm, ⟨15, _⟩ => ⟨S16384x16, .f32⟩
  | .hbm, ⟨16, _⟩ => ⟨S16384x16, .f32⟩
  | .hbm, ⟨17, _⟩ => ⟨S16384x64, .f32⟩
  | .hbm, ⟨18, _⟩ => ⟨S1x16384x1x64, .f32⟩
  | .hbm, ⟨19, _⟩ => ⟨S1x16384x2x64, .f32⟩
  | .hbm, ⟨20, _⟩ => ⟨S16384x128, .f32⟩
  | .hbm, ⟨21, _⟩ => ⟨S1x16384x1x64, .f32⟩
  | .hbm, ⟨22, _⟩ => ⟨S1x16384x2x64, .f32⟩
  | .hbm, ⟨23, _⟩ => ⟨S16384x128, .f32⟩
  | .hbm, ⟨24, _⟩ => ⟨S1x1x1x64, .f32⟩
  | .hbm, ⟨25, _⟩ => ⟨S1x1x2x64, .f32⟩
  | .hbm, ⟨26, _⟩ => ⟨S1x128, .f32⟩
  | .hbm, ⟨27, _⟩ => ⟨S1x1x1x64, .f32⟩
  | .hbm, ⟨28, _⟩ => ⟨S1x1x2x64, .f32⟩
  | .hbm, ⟨29, _⟩ => ⟨S1x128, .f32⟩
  | .hbm, ⟨30, _⟩ => ⟨S16384x3584, .bf16⟩
  | .hbm, ⟨31, _⟩ => ⟨S1x512, .f32⟩
  | .hbm, ⟨32, _⟩ => ⟨S1x128, .f32⟩
  | .local _ .vmem, ⟨0, _⟩ => ⟨S8x128x512, .f32⟩
  | .local _ .vmem, ⟨1, _⟩ => ⟨S8x128x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S8x128x512, .f32⟩
  | .local _ .vmem, ⟨7, _⟩ => ⟨S8x128x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1536, .f32⟩
  | .local _ .vmem, ⟨13, _⟩ => ⟨S512x1536, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x128, .f32⟩
  | .local _ .vmem, ⟨20, _⟩ => ⟨S512x2048, .bf16⟩
  | .local _ .vmem, ⟨21, _⟩ => ⟨S512x2048, .bf16⟩
  | .local _ .vmem, ⟨22, _⟩ => ⟨S512x3584, .bf16⟩
  | .local _ .vmem, ⟨23, _⟩ => ⟨S512x3584, .bf16⟩
  | .local _ .vmem, ⟨24, _⟩ => ⟨S1x512, .f32⟩
  | .local _ .vmem, ⟨25, _⟩ => ⟨S1x128, .f32⟩
  | _, _ => ⟨S8x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3584 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== PrepRefIdeal.lean ====
abbrev S8x128x16384 : Shape := ⟨3, ![8, 128, 16384]⟩
abbrev S16384x128 : Shape := ⟨2, ![16384, 128]⟩
abbrev S16384x3584 : Shape := ⟨2, ![16384, 3584]⟩
abbrev S1x64 : Shape := ⟨2, ![1, 64]⟩
abbrev S16384x2048 : Shape := ⟨2, ![16384, 2048]⟩
abbrev S16384x16 : Shape := ⟨2, ![16384, 16]⟩
abbrev S1x1x1x64 : Shape := ⟨4, ![1, 1, 1, 64]⟩
abbrev S8x1x1x64 : Shape := ⟨4, ![8, 1, 1, 64]⟩
abbrev S8x64 : Shape := ⟨2, ![8, 64]⟩
abbrev S2x1x1x64 : Shape := ⟨4, ![2, 1, 1, 64]⟩
abbrev S2x64 : Shape := ⟨2, ![2, 64]⟩
abbrev S16384x512 : Shape := ⟨2, ![16384, 512]⟩
abbrev S16384x8x64 : Shape := ⟨3, ![16384, 8, 64]⟩
abbrev S16384x1x16 : Shape := ⟨3, ![16384, 1, 16]⟩
abbrev S16384x8x32 : Shape := ⟨3, ![16384, 8, 32]⟩
abbrev S16384x8x16 : Shape := ⟨3, ![16384, 8, 16]⟩
abbrev S16384x2x64 : Shape := ⟨3, ![16384, 2, 64]⟩
abbrev S16384x2x32 : Shape := ⟨3, ![16384, 2, 32]⟩
abbrev S16384x2x16 : Shape := ⟨3, ![16384, 2, 16]⟩
abbrev S_ : Shape := ⟨0, ![]⟩
abbrev S16384x8 : Shape := ⟨2, ![16384, 8]⟩
abbrev S16384x8x1 : Shape := ⟨3, ![16384, 8, 1]⟩
abbrev S1x8x64 : Shape := ⟨3, ![1, 8, 64]⟩
abbrev S16384x2 : Shape := ⟨2, ![16384, 2]⟩
abbrev S16384x2x1 : Shape := ⟨3, ![16384, 2, 1]⟩
abbrev S1x2x64 : Shape := ⟨3, ![1, 2, 64]⟩
abbrev S4x64x16384 : Shape := ⟨3, ![4, 64, 16384]⟩
abbrev S8x64x16384 : Shape := ⟨3, ![8, 64, 16384]⟩
abbrev S1x512 : Shape := ⟨2, ![1, 512]⟩
abbrev S1x128 : Shape := ⟨2, ![1, 128]⟩

abbrev nBuf : Space → Nat
  | .hbm => 402
  | .vmem => 0
  | .smem => 0
  | _ => 0

abbrev hbmTy0_0 (i : Nat) : BufTy := match i % 128 with
  | 0 => ⟨S8x128x16384, .f32⟩
  | 1 => ⟨S16384x128, .f32⟩
  | 2 => ⟨S16384x128, .f32⟩
  | 3 => ⟨S8x128x16384, .f32⟩
  | 4 => ⟨S16384x128, .f32⟩
  | 5 => ⟨S16384x128, .f32⟩
  | 6 => ⟨S16384x3584, .f32⟩
  | 7 => ⟨S1x64, .f32⟩
  | 8 => ⟨S1x64, .f32⟩
  | 9 => ⟨S16384x2048, .bf16⟩
  | 10 => ⟨S16384x16, .f32⟩
  | 11 => ⟨S16384x16, .f32⟩
  | 12 => ⟨S16384x16, .f32⟩
  | 13 => ⟨S16384x16, .f32⟩
  | 14 => ⟨S1x1x1x64, .f32⟩
  | 15 => ⟨S8x1x1x64, .f32⟩
  | 16 => ⟨S8x64, .f32⟩
  | 17 => ⟨S1x1x1x64, .f32⟩
  | 18 => ⟨S2x1x1x64, .f32⟩
  | 19 => ⟨S2x64, .f32⟩
  | 20 => ⟨S16384x512, .f32⟩
  | 21 => ⟨S16384x128, .f32⟩
  | 22 => ⟨S16384x128, .f32⟩
  | 23 => ⟨S16384x512, .f32⟩
  | 24 => ⟨S16384x128, .f32⟩
  | 25 => ⟨S16384x128, .f32⟩
  | 26 => ⟨S16384x2048, .f32⟩
  | 27 => ⟨S16384x8x64, .f32⟩
  | 28 => ⟨S16384x1x16, .f32⟩
  | 29 => ⟨S16384x1x16, .f32⟩
  | 30 => ⟨S16384x1x16, .f32⟩
  | 31 => ⟨S16384x1x16, .f32⟩
  | 32 => ⟨S16384x8x32, .f32⟩
  | 33 => ⟨S16384x8x32, .f32⟩
  | 34 => ⟨S16384x8x16, .f32⟩
  | 35 => ⟨S16384x8x16, .f32⟩
  | 36 => ⟨S16384x8x16, .f32⟩
  | 37 => ⟨S16384x8x16, .f32⟩
  | 38 => ⟨S16384x8x16, .f32⟩
  | 39 => ⟨S16384x8x16, .f32⟩
  | 40 => ⟨S16384x8x16, .f32⟩
  | 41 => ⟨S16384x8x16, .f32⟩
  | 42 => ⟨S16384x8x16, .f32⟩
  | 43 => ⟨S16384x8x16, .f32⟩
  | 44 => ⟨S16384x8x16, .f32⟩
  | 45 => ⟨S16384x8x16, .f32⟩
  | 46 => ⟨S16384x8x32, .f32⟩
  | 47 => ⟨S16384x8x16, .f32⟩
  | 48 => ⟨S16384x8x16, .f32⟩
  | 49 => ⟨S16384x8x16, .f32⟩
  | 50 => ⟨S16384x8x16, .f32⟩
  | 51 => ⟨S16384x8x16, .f32⟩
  | 52 => ⟨S16384x8x16, .f32⟩
  | 53 => ⟨S16384x8x16, .f32⟩
  | 54 => ⟨S16384x8x16, .f32⟩
  | 55 => ⟨S16384x8x16, .f32⟩
  | 56 => ⟨S16384x8x16, .f32⟩
  | 57 => ⟨S16384x8x16, .f32⟩
  | 58 => ⟨S16384x8x16, .f32⟩
  | 59 => ⟨S16384x8x32, .f32⟩
  | 60 => ⟨S16384x8x64, .f32⟩
  | 61 => ⟨S16384x2x64, .f32⟩
  | 62 => ⟨S16384x1x16, .f32⟩
  | 63 => ⟨S16384x1x16, .f32⟩
  | 64 => ⟨S16384x1x16, .f32⟩
  | 65 => ⟨S16384x1x16, .f32⟩
  | 66 => ⟨S16384x2x32, .f32⟩
  | 67 => ⟨S16384x2x32, .f32⟩
  | 68 => ⟨S16384x2x16, .f32⟩
  | 69 => ⟨S16384x2x16, .f32⟩
  | 70 => ⟨S16384x2x16, .f32⟩
  | 71 => ⟨S16384x2x16, .f32⟩
  | 72 => ⟨S16384x2x16, .f32⟩
  | 73 => ⟨S16384x2x16, .f32⟩
  | 74 => ⟨S16384x2x16, .f32⟩
  | 75 => ⟨S16384x2x16, .f32⟩
  | 76 => ⟨S16384x2x16, .f32⟩
  | 77 => ⟨S16384x2x16, .f32⟩
  | 78 => ⟨S16384x2x16, .f32⟩
  | 79 => ⟨S16384x2x16, .f32⟩
  | 80 => ⟨S16384x2x32, .f32⟩
  | 81 => ⟨S16384x2x16, .f32⟩
  | 82 => ⟨S16384x2x16, .f32⟩
  | 83 => ⟨S16384x2x16, .f32⟩
  | 84 => ⟨S16384x2x16, .f32⟩
  | 85 => ⟨S16384x2x16, .f32⟩
  | 86 => ⟨S16384x2x16, .f32⟩
  | 87 => ⟨S16384x2x16, .f32⟩
  | 88 => ⟨S16384x2x16, .f32⟩
  | 89 => ⟨S16384x2x16, .f32⟩
  | 90 => ⟨S16384x2x16, .f32⟩
  | 91 => ⟨S16384x2x16, .f32⟩
  | 92 => ⟨S16384x2x16, .f32⟩
  | 93 => ⟨S16384x2x32, .f32⟩
  | 94 => ⟨S16384x2x64, .f32⟩
  | 95 => ⟨S16384x8x64, .f32⟩
  | 96 => ⟨S16384x8x64, .f32⟩
  | 97 => ⟨S_, .f32⟩
  | 98 => ⟨S16384x8, .f32⟩
  | 99 => ⟨S16384x8x1, .f32⟩
  | 100 => ⟨S_, .f32⟩
  | 101 => ⟨S16384x8x1, .f32⟩
  | 102 => ⟨S16384x8x1, .f32⟩
  | 103 => ⟨S_, .f32⟩
  | 104 => ⟨S16384x8x1, .f32⟩
  | 105 => ⟨S16384x8x1, .f32⟩
  | 106 => ⟨S16384x8x1, .f32⟩
  | 107 => ⟨S16384x8x1, .f32⟩
  | 108 => ⟨S_, .f32⟩
  | 109 => ⟨S16384x8x1, .f32⟩
  | 110 => ⟨S16384x8x1, .f32⟩
  | 111 => ⟨S16384x8x64, .f32⟩
  | 112 => ⟨S16384x8x64, .f32⟩
  | 113 => ⟨S1x8x64, .f32⟩
  | 114 => ⟨S16384x8x64, .f32⟩
  | 115 => ⟨S16384x8x64, .f32⟩
  | 116 => ⟨S16384x1x16, .f32⟩
  | 117 => ⟨S16384x1x16, .f32⟩
  | 118 => ⟨S16384x1x16, .f32⟩
  | 119 => ⟨S16384x1x16, .f32⟩
  | 120 => ⟨S16384x8x32, .f32⟩
  | 121 => ⟨S16384x8x32, .f32⟩
  | 122 => ⟨S16384x8x16, .f32⟩
  | 123 => ⟨S16384x8x16, .f32⟩
  | 124 => ⟨S16384x8x16, .f32⟩
  | 125 => ⟨S16384x8x16, .f32⟩
  | 126 => ⟨S16384x8x16, .f32⟩
  | 127 => ⟨S16384x8x16, .f32⟩
  | _ => ⟨S8x128x16384, .f32⟩

abbrev hbmTy0_1 (i : Nat) : BufTy := match i % 128 with
  | 0 => ⟨S16384x8x16, .f32⟩
  | 1 => ⟨S16384x8x16, .f32⟩
  | 2 => ⟨S16384x8x16, .f32⟩
  | 3 => ⟨S16384x8x16, .f32⟩
  | 4 => ⟨S16384x8x16, .f32⟩
  | 5 => ⟨S16384x8x16, .f32⟩
  | 6 => ⟨S16384x8x32, .f32⟩
  | 7 => ⟨S16384x8x16, .f32⟩
  | 8 => ⟨S16384x8x16, .f32⟩
  | 9 => ⟨S16384x8x16, .f32⟩
  | 10 => ⟨S16384x8x16, .f32⟩
  | 11 => ⟨S16384x8x16, .f32⟩
  | 12 => ⟨S16384x8x16, .f32⟩
  | 13 => ⟨S16384x8x16, .f32⟩
  | 14 => ⟨S16384x8x16, .f32⟩
  | 15 => ⟨S16384x8x16, .f32⟩
  | 16 => ⟨S16384x8x16, .f32⟩
  | 17 => ⟨S16384x8x16, .f32⟩
  | 18 => ⟨S16384x8x16, .f32⟩
  | 19 => ⟨S16384x8x32, .f32⟩
  | 20 => ⟨S16384x8x64, .f32⟩
  | 21 => ⟨S16384x2x64, .f32⟩
  | 22 => ⟨S16384x2x64, .f32⟩
  | 23 => ⟨S_, .f32⟩
  | 24 => ⟨S16384x2, .f32⟩
  | 25 => ⟨S16384x2x1, .f32⟩
  | 26 => ⟨S_, .f32⟩
  | 27 => ⟨S16384x2x1, .f32⟩
  | 28 => ⟨S16384x2x1, .f32⟩
  | 29 => ⟨S_, .f32⟩
  | 30 => ⟨S16384x2x1, .f32⟩
  | 31 => ⟨S16384x2x1, .f32⟩
  | 32 => ⟨S16384x2x1, .f32⟩
  | 33 => ⟨S16384x2x1, .f32⟩
  | 34 => ⟨S_, .f32⟩
  | 35 => ⟨S16384x2x1, .f32⟩
  | 36 => ⟨S16384x2x1, .f32⟩
  | 37 => ⟨S16384x2x64, .f32⟩
  | 38 => ⟨S16384x2x64, .f32⟩
  | 39 => ⟨S1x2x64, .f32⟩
  | 40 => ⟨S16384x2x64, .f32⟩
  | 41 => ⟨S16384x2x64, .f32⟩
  | 42 => ⟨S16384x1x16, .f32⟩
  | 43 => ⟨S16384x1x16, .f32⟩
  | 44 => ⟨S16384x1x16, .f32⟩
  | 45 => ⟨S16384x1x16, .f32⟩
  | 46 => ⟨S16384x2x32, .f32⟩
  | 47 => ⟨S16384x2x32, .f32⟩
  | 48 => ⟨S16384x2x16, .f32⟩
  | 49 => ⟨S16384x2x16, .f32⟩
  | 50 => ⟨S16384x2x16, .f32⟩
  | 51 => ⟨S16384x2x16, .f32⟩
  | 52 => ⟨S16384x2x16, .f32⟩
  | 53 => ⟨S16384x2x16, .f32⟩
  | 54 => ⟨S16384x2x16, .f32⟩
  | 55 => ⟨S16384x2x16, .f32⟩
  | 56 => ⟨S16384x2x16, .f32⟩
  | 57 => ⟨S16384x2x16, .f32⟩
  | 58 => ⟨S16384x2x16, .f32⟩
  | 59 => ⟨S16384x2x16, .f32⟩
  | 60 => ⟨S16384x2x32, .f32⟩
  | 61 => ⟨S16384x2x16, .f32⟩
  | 62 => ⟨S16384x2x16, .f32⟩
  | 63 => ⟨S16384x2x16, .f32⟩
  | 64 => ⟨S16384x2x16, .f32⟩
  | 65 => ⟨S16384x2x16, .f32⟩
  | 66 => ⟨S16384x2x16, .f32⟩
  | 67 => ⟨S16384x2x16, .f32⟩
  | 68 => ⟨S16384x2x16, .f32⟩
  | 69 => ⟨S16384x2x16, .f32⟩
  | 70 => ⟨S16384x2x16, .f32⟩
  | 71 => ⟨S16384x2x16, .f32⟩
  | 72 => ⟨S16384x2x16, .f32⟩
  | 73 => ⟨S16384x2x32, .f32⟩
  | 74 => ⟨S16384x2x64, .f32⟩
  | 75 => ⟨S4x64x16384, .f32⟩
  | 76 => ⟨S4x64x16384, .f32⟩
  | 77 => ⟨S8x64x16384, .f32⟩
  | 78 => ⟨S16384x8x64, .f32⟩
  | 79 => ⟨S_, .f32⟩
  | 80 => ⟨S16384x8x64, .f32⟩
  | 81 => ⟨S16384x8x64, .f32⟩
  | 82 => ⟨S16384x2x64, .f32⟩
  | 83 => ⟨S4x64x16384, .f32⟩
  | 84 => ⟨S4x64x16384, .f32⟩
  | 85 => ⟨S8x64x16384, .f32⟩
  | 86 => ⟨S16384x8x64, .f32⟩
  | 87 => ⟨S_, .f32⟩
  | 88 => ⟨S16384x8x64, .f32⟩
  | 89 => ⟨S16384x8x64, .f32⟩
  | 90 => ⟨S16384x2x64, .f32⟩
  | 91 => ⟨S16384x2048, .f32⟩
  | 92 => ⟨S16384x2x32, .f32⟩
  | 93 => ⟨S16384x2x32, .f32⟩
  | 94 => ⟨S16384x2x16, .f32⟩
  | 95 => ⟨S16384x2x16, .f32⟩
  | 96 => ⟨S16384x2x16, .f32⟩
  | 97 => ⟨S16384x2x16, .f32⟩
  | 98 => ⟨S16384x2x16, .f32⟩
  | 99 => ⟨S16384x2x16, .f32⟩
  | 100 => ⟨S16384x2x16, .f32⟩
  | 101 => ⟨S16384x2x16, .f32⟩
  | 102 => ⟨S16384x2x16, .f32⟩
  | 103 => ⟨S16384x2x16, .f32⟩
  | 104 => ⟨S16384x2x16, .f32⟩
  | 105 => ⟨S16384x2x16, .f32⟩
  | 106 => ⟨S16384x2x16, .f32⟩
  | 107 => ⟨S16384x2x32, .f32⟩
  | 108 => ⟨S16384x2x16, .f32⟩
  | 109 => ⟨S16384x2x16, .f32⟩
  | 110 => ⟨S16384x2x16, .f32⟩
  | 111 => ⟨S16384x2x16, .f32⟩
  | 112 => ⟨S16384x2x16, .f32⟩
  | 113 => ⟨S16384x2x16, .f32⟩
  | 114 => ⟨S16384x2x16, .f32⟩
  | 115 => ⟨S16384x2x16, .f32⟩
  | 116 => ⟨S16384x2x16, .f32⟩
  | 117 => ⟨S16384x2x16, .f32⟩
  | 118 => ⟨S16384x2x16, .f32⟩
  | 119 => ⟨S16384x2x16, .f32⟩
  | 120 => ⟨S16384x2x16, .f32⟩
  | 121 => ⟨S16384x2x32, .f32⟩
  | 122 => ⟨S16384x2x64, .f32⟩
  | 123 => ⟨S16384x2x64, .f32⟩
  | 124 => ⟨S_, .f32⟩
  | 125 => ⟨S2x64, .f32⟩
  | 126 => ⟨S1x2x64, .f32⟩
  | 127 => ⟨S16384x2x64, .f32⟩
  | _ => ⟨S8x128x16384, .f32⟩

abbrev hbmTy0_2 (i : Nat) : BufTy := match i % 128 with
  | 0 => ⟨S16384x2x64, .f32⟩
  | 1 => ⟨S_, .f32⟩
  | 2 => ⟨S2x64, .f32⟩
  | 3 => ⟨S16384x2x64, .f32⟩
  | 4 => ⟨S_, .f32⟩
  | 5 => ⟨S16384x2, .f32⟩
  | 6 => ⟨S16384x2x1, .f32⟩
  | 7 => ⟨S16384x2x64, .f32⟩
  | 8 => ⟨S16384x2x64, .f32⟩
  | 9 => ⟨S16384x2x1, .f32⟩
  | 10 => ⟨S_, .f32⟩
  | 11 => ⟨S16384x2x1, .f32⟩
  | 12 => ⟨S16384x2x1, .f32⟩
  | 13 => ⟨S_, .f32⟩
  | 14 => ⟨S16384x2, .f32⟩
  | 15 => ⟨S16384x2x64, .f32⟩
  | 16 => ⟨S16384x2x64, .f32⟩
  | 17 => ⟨S16384x2x64, .f32⟩
  | 18 => ⟨S16384x2x64, .f32⟩
  | 19 => ⟨S16384x2x64, .f32⟩
  | 20 => ⟨S16384x128, .f32⟩
  | 21 => ⟨S16384x8x32, .f32⟩
  | 22 => ⟨S16384x8x32, .f32⟩
  | 23 => ⟨S16384x8x16, .f32⟩
  | 24 => ⟨S16384x8x16, .f32⟩
  | 25 => ⟨S16384x8x16, .f32⟩
  | 26 => ⟨S16384x8x16, .f32⟩
  | 27 => ⟨S16384x8x16, .f32⟩
  | 28 => ⟨S16384x8x16, .f32⟩
  | 29 => ⟨S16384x8x16, .f32⟩
  | 30 => ⟨S16384x8x16, .f32⟩
  | 31 => ⟨S16384x8x16, .f32⟩
  | 32 => ⟨S16384x8x16, .f32⟩
  | 33 => ⟨S16384x8x16, .f32⟩
  | 34 => ⟨S16384x8x16, .f32⟩
  | 35 => ⟨S16384x8x16, .f32⟩
  | 36 => ⟨S16384x8x32, .f32⟩
  | 37 => ⟨S16384x8x16, .f32⟩
  | 38 => ⟨S16384x8x16, .f32⟩
  | 39 => ⟨S16384x8x16, .f32⟩
  | 40 => ⟨S16384x8x16, .f32⟩
  | 41 => ⟨S16384x8x16, .f32⟩
  | 42 => ⟨S16384x8x16, .f32⟩
  | 43 => ⟨S16384x8x16, .f32⟩
  | 44 => ⟨S16384x8x16, .f32⟩
  | 45 => ⟨S16384x8x16, .f32⟩
  | 46 => ⟨S16384x8x16, .f32⟩
  | 47 => ⟨S16384x8x16, .f32⟩
  | 48 => ⟨S16384x8x16, .f32⟩
  | 49 => ⟨S16384x8x16, .f32⟩
  | 50 => ⟨S16384x8x32, .f32⟩
  | 51 => ⟨S16384x8x64, .f32⟩
  | 52 => ⟨S16384x8x64, .f32⟩
  | 53 => ⟨S_, .f32⟩
  | 54 => ⟨S8x64, .f32⟩
  | 55 => ⟨S1x8x64, .f32⟩
  | 56 => ⟨S16384x8x64, .f32⟩
  | 57 => ⟨S16384x8x64, .f32⟩
  | 58 => ⟨S_, .f32⟩
  | 59 => ⟨S8x64, .f32⟩
  | 60 => ⟨S16384x8x64, .f32⟩
  | 61 => ⟨S_, .f32⟩
  | 62 => ⟨S16384x8, .f32⟩
  | 63 => ⟨S16384x8x1, .f32⟩
  | 64 => ⟨S16384x8x64, .f32⟩
  | 65 => ⟨S16384x8x64, .f32⟩
  | 66 => ⟨S16384x8x1, .f32⟩
  | 67 => ⟨S_, .f32⟩
  | 68 => ⟨S16384x8x1, .f32⟩
  | 69 => ⟨S16384x8x1, .f32⟩
  | 70 => ⟨S_, .f32⟩
  | 71 => ⟨S16384x8, .f32⟩
  | 72 => ⟨S16384x8x64, .f32⟩
  | 73 => ⟨S16384x8x64, .f32⟩
  | 74 => ⟨S16384x8x64, .f32⟩
  | 75 => ⟨S16384x8x64, .f32⟩
  | 76 => ⟨S16384x8x64, .f32⟩
  | 77 => ⟨S16384x512, .f32⟩
  | 78 => ⟨S16384x2x32, .f32⟩
  | 79 => ⟨S16384x2x32, .f32⟩
  | 80 => ⟨S16384x2x16, .f32⟩
  | 81 => ⟨S16384x2x16, .f32⟩
  | 82 => ⟨S16384x2x16, .f32⟩
  | 83 => ⟨S16384x2x16, .f32⟩
  | 84 => ⟨S16384x2x16, .f32⟩
  | 85 => ⟨S16384x2x16, .f32⟩
  | 86 => ⟨S16384x2x16, .f32⟩
  | 87 => ⟨S16384x2x16, .f32⟩
  | 88 => ⟨S16384x2x16, .f32⟩
  | 89 => ⟨S16384x2x16, .f32⟩
  | 90 => ⟨S16384x2x16, .f32⟩
  | 91 => ⟨S16384x2x16, .f32⟩
  | 92 => ⟨S16384x2x16, .f32⟩
  | 93 => ⟨S16384x2x32, .f32⟩
  | 94 => ⟨S16384x2x16, .f32⟩
  | 95 => ⟨S16384x2x16, .f32⟩
  | 96 => ⟨S16384x2x16, .f32⟩
  | 97 => ⟨S16384x2x16, .f32⟩
  | 98 => ⟨S16384x2x16, .f32⟩
  | 99 => ⟨S16384x2x16, .f32⟩
  | 100 => ⟨S16384x2x16, .f32⟩
  | 101 => ⟨S16384x2x16, .f32⟩
  | 102 => ⟨S16384x2x16, .f32⟩
  | 103 => ⟨S16384x2x16, .f32⟩
  | 104 => ⟨S16384x2x16, .f32⟩
  | 105 => ⟨S16384x2x16, .f32⟩
  | 106 => ⟨S16384x2x16, .f32⟩
  | 107 => ⟨S16384x2x32, .f32⟩
  | 108 => ⟨S16384x2x64, .f32⟩
  | 109 => ⟨S16384x128, .f32⟩
  | 110 => ⟨S16384x8x32, .f32⟩
  | 111 => ⟨S16384x8x32, .f32⟩
  | 112 => ⟨S16384x8x16, .f32⟩
  | 113 => ⟨S16384x8x16, .f32⟩
  | 114 => ⟨S16384x8x16, .f32⟩
  | 115 => ⟨S16384x8x16, .f32⟩
  | 116 => ⟨S16384x8x16, .f32⟩
  | 117 => ⟨S16384x8x16, .f32⟩
  | 118 => ⟨S16384x8x16, .f32⟩
  | 119 => ⟨S16384x8x16, .f32⟩
  | 120 => ⟨S16384x8x16, .f32⟩
  | 121 => ⟨S16384x8x16, .f32⟩
  | 122 => ⟨S16384x8x16, .f32⟩
  | 123 => ⟨S16384x8x16, .f32⟩
  | 124 => ⟨S16384x8x16, .f32⟩
  | 125 => ⟨S16384x8x32, .f32⟩
  | 126 => ⟨S16384x8x16, .f32⟩
  | 127 => ⟨S16384x8x16, .f32⟩
  | _ => ⟨S8x128x16384, .f32⟩

abbrev hbmTy0_3 (i : Nat) : BufTy := match i % 128 with
  | 0 => ⟨S16384x8x16, .f32⟩
  | 1 => ⟨S16384x8x16, .f32⟩
  | 2 => ⟨S16384x8x16, .f32⟩
  | 3 => ⟨S16384x8x16, .f32⟩
  | 4 => ⟨S16384x8x16, .f32⟩
  | 5 => ⟨S16384x8x16, .f32⟩
  | 6 => ⟨S16384x8x16, .f32⟩
  | 7 => ⟨S16384x8x16, .f32⟩
  | 8 => ⟨S16384x8x16, .f32⟩
  | 9 => ⟨S16384x8x16, .f32⟩
  | 10 => ⟨S16384x8x16, .f32⟩
  | 11 => ⟨S16384x8x32, .f32⟩
  | 12 => ⟨S16384x8x64, .f32⟩
  | 13 => ⟨S16384x512, .f32⟩
  | 14 => ⟨S16384x3584, .f32⟩
  | 15 => ⟨S16384x3584, .bf16⟩
  | 16 => ⟨S1x512, .f32⟩
  | 17 => ⟨S1x128, .f32⟩
  | _ => ⟨S8x128x16384, .f32⟩

abbrev hbmTy (i : Nat) : BufTy := match i / 128 with
  | 0 => hbmTy0_0 i
  | 1 => hbmTy0_1 i
  | 2 => hbmTy0_2 i
  | 3 => hbmTy0_3 i
  | _ => ⟨S8x128x16384, .f32⟩

abbrev bufTy : (tb : Table) → Fin (tcTables nBuf tb) → BufTy
  | .hbm, ⟨i, _⟩ => hbmTy i
  | _, _ => ⟨S8x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst : Ref sig .tc := ⟨.hbm, 97, rfl⟩
abbrev main_v83 : Ref sig .tc := ⟨.hbm, 98, rfl⟩
abbrev main_v84 : Ref sig .tc := ⟨.hbm, 99, rfl⟩
abbrev main_cst_0 : Ref sig .tc := ⟨.hbm, 100, rfl⟩
abbrev main_v85 : Ref sig .tc := ⟨.hbm, 101, rfl⟩
abbrev main_v86 : Ref sig .tc := ⟨.hbm, 102, rfl⟩
abbrev main_cst_1 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_cst_2 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_3 : Ref sig .tc := ⟨.hbm, 151, rfl⟩
abbrev main_v133 : Ref sig .tc := ⟨.hbm, 152, rfl⟩
abbrev main_v134 : Ref sig .tc := ⟨.hbm, 153, rfl⟩
abbrev main_cst_4 : Ref sig .tc := ⟨.hbm, 154, rfl⟩
abbrev main_v135 : Ref sig .tc := ⟨.hbm, 155, rfl⟩
abbrev main_v136 : Ref sig .tc := ⟨.hbm, 156, rfl⟩
abbrev main_cst_5 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_cst_6 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_cst_7 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_cst_8 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_cst_9 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_cst_10 : Ref sig .tc := ⟨.hbm, 257, rfl⟩
abbrev main_v232 : Ref sig .tc := ⟨.hbm, 258, rfl⟩
abbrev main_v233 : Ref sig .tc := ⟨.hbm, 259, rfl⟩
abbrev main_cst_11 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_cst_12 : Ref sig .tc := ⟨.hbm, 266, rfl⟩
abbrev main_v239 : Ref sig .tc := ⟨.hbm, 267, rfl⟩
abbrev main_v240 : Ref sig .tc := ⟨.hbm, 268, rfl⟩
abbrev main_cst_13 : Ref sig .tc := ⟨.hbm, 269, rfl⟩
abbrev main_v241 : Ref sig .tc := ⟨.hbm, 270, rfl⟩
abbrev main_v242 : Ref sig .tc := ⟨.hbm, 271, rfl⟩
abbrev main_v243 : Ref sig .tc := ⟨.hbm, 272, rfl⟩
abbrev main_v244 : Ref sig .tc := ⟨.hbm, 273, rfl⟩
abbrev main_v245 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩
abbrev main_v278 : Ref sig .tc := ⟨.hbm, 307, rfl⟩
abbrev main_v279 : Ref sig .tc := ⟨.hbm, 308, rfl⟩
abbrev main_cst_14 : Ref sig .tc := ⟨.hbm, 309, rfl⟩
abbrev main_v280 : Ref sig .tc := ⟨.hbm, 310, rfl⟩
abbrev main_v281 : Ref sig .tc := ⟨.hbm, 311, rfl⟩
abbrev main_v282 : Ref sig .tc := ⟨.hbm, 312, rfl⟩
abbrev main_v283 : Ref sig .tc := ⟨.hbm, 313, rfl⟩
abbrev main_cst_15 : Ref sig .tc := ⟨.hbm, 314, rfl⟩
abbrev main_v284 : Ref sig .tc := ⟨.hbm, 315, rfl⟩
abbrev main_v285 : Ref sig .tc := ⟨.hbm, 316, rfl⟩
abbrev main_cst_16 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_v290 : Ref sig .tc := ⟨.hbm, 322, rfl⟩
abbrev main_cst_17 : Ref sig .tc := ⟨.hbm, 323, rfl⟩
abbrev main_v291 : Ref sig .tc := ⟨.hbm, 324, rfl⟩
abbrev main_v292 : Ref sig .tc := ⟨.hbm, 325, rfl⟩
abbrev main_cst_18 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_v347 : Ref sig .tc := ⟨.hbm, 381, rfl⟩
abbrev main_v348 : Ref sig .tc := ⟨.hbm, 382, rfl⟩
abbrev main_v349 : Ref sig .tc := ⟨.hbm, 383, rfl⟩
abbrev main_v350 : Ref sig .tc := ⟨.hbm, 384, rfl⟩
abbrev main_v351 : Ref sig .tc := ⟨.hbm, 385, rfl⟩
abbrev main_v352 : Ref sig .tc := ⟨.hbm, 386, rfl⟩
abbrev main_v353 : Ref sig .tc := ⟨.hbm, 387, rfl⟩
abbrev main_v354 : Ref sig .tc := ⟨.hbm, 388, rfl⟩
abbrev main_v355 : Ref sig .tc := ⟨.hbm, 389, rfl⟩
abbrev main_v356 : Ref sig .tc := ⟨.hbm, 390, rfl⟩
abbrev main_v357 : Ref sig .tc := ⟨.hbm, 391, rfl⟩
abbrev main_v358 : Ref sig .tc := ⟨.hbm, 392, rfl⟩
abbrev main_v359 : Ref sig .tc := ⟨.hbm, 393, rfl⟩
abbrev main_v360 : Ref sig .tc := ⟨.hbm, 394, rfl⟩
abbrev main_v361 : Ref sig .tc := ⟨.hbm, 395, rfl⟩
abbrev main_v362 : Ref sig .tc := ⟨.hbm, 396, rfl⟩
abbrev main_v363 : Ref sig .tc := ⟨.hbm, 397, rfl⟩
abbrev main_v364 : Ref sig .tc := ⟨.hbm, 398, rfl⟩
abbrev main_v365 : Ref sig .tc := ⟨.hbm, 399, rfl⟩
abbrev main_v366 : Ref sig .tc := ⟨.hbm, 400, rfl⟩
abbrev main_v367 : Ref sig .tc := ⟨.hbm, 401, rfl⟩

abbrev nD : Nat := 1
abbrev τ : Topo := Topo.v7x

variable {F : FTy → Type} [FloatOps F]
-- ==== Act.lean ====
abbrev S16384x1024 : Shape := ⟨2, ![16384, 1024]⟩
abbrev S2816x1024 : Shape := ⟨2, ![2816, 1024]⟩
abbrev S16384x5632 : Shape := ⟨2, ![16384, 5632]⟩
abbrev S3x5632 : Shape := ⟨2, ![3, 5632]⟩
abbrev S1x5632 : Shape := ⟨2, ![1, 5632]⟩
abbrev S16384x2x2816 : Shape := ⟨3, ![16384, 2, 2816]⟩
abbrev S2x16384x2816 : Shape := ⟨3, ![2, 16384, 2816]⟩
abbrev S3x2x2816 : Shape := ⟨3, ![3, 2, 2816]⟩
abbrev S2x3x2816 : Shape := ⟨3, ![2, 3, 2816]⟩
abbrev S2x1x2816 : Shape := ⟨3, ![2, 1, 2816]⟩
abbrev S2048x1024 : Shape := ⟨2, ![2048, 1024]⟩
abbrev S256x1024 : Shape := ⟨2, ![256, 1024]⟩
abbrev S2x2048x256 : Shape := ⟨3, ![2, 2048, 256]⟩
abbrev S2x16x256 : Shape := ⟨3, ![2, 16, 256]⟩
abbrev S2x3x256 : Shape := ⟨3, ![2, 3, 256]⟩
abbrev S2x1x256 : Shape := ⟨3, ![2, 1, 256]⟩
abbrev S2048x256 : Shape := ⟨2, ![2048, 256]⟩
abbrev S1x2048x256 : Shape := ⟨3, ![1, 2048, 256]⟩
abbrev S1x1x256 : Shape := ⟨3, ![1, 1, 256]⟩
abbrev S1x256 : Shape := ⟨2, ![1, 256]⟩
abbrev S1x3x256 : Shape := ⟨3, ![1, 3, 256]⟩
abbrev S3x256 : Shape := ⟨2, ![3, 256]⟩
abbrev S256 : Shape := ⟨1, ![256]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .f32⟩
  | .hbm, ⟨2, _⟩ => ⟨S16384x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S16384x2x2816, .bf16⟩
  | .hbm, ⟨7, _⟩ => ⟨S2x16384x2816, .bf16⟩
  | .hbm, ⟨8, _⟩ => ⟨S3x2x2816, .f32⟩
  | .hbm, ⟨9, _⟩ => ⟨S2x3x2816, .f32⟩
  | .hbm, ⟨10, _⟩ => ⟨S2x1x2816, .f32⟩
  | .hbm, ⟨11, _⟩ => ⟨S2x16384x2816, .bf16⟩
  | .hbm, ⟨12, _⟩ => ⟨S2x3x2816, .f32⟩
  | .hbm, ⟨13, _⟩ => ⟨S2x1x2816, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2x2048x256, .bf16⟩
  | .local _ .vmem, ⟨5, _⟩ => ⟨S2x2048x256, .bf16⟩
  | .local _ .vmem, ⟨6, _⟩ => ⟨S2x16x256, .bf16⟩
  | .local _ .vmem, ⟨7, _⟩ => ⟨S2x16x256, .bf16⟩
  | .local _ .vmem, ⟨8, _⟩ => ⟨S2x16x256, .bf16⟩
  | .local _ .vmem, ⟨9, _⟩ => ⟨S2x16x256, .bf16⟩
  | .local _ .vmem, ⟨10, _⟩ => ⟨S2x3x256, .f32⟩
  | .local _ .vmem, ⟨11, _⟩ => ⟨S2x3x256, .f32⟩
  | .local _ .vmem, ⟨12, _⟩ => ⟨S2x1x256, .f32⟩
  | .local _ .vmem, ⟨13, _⟩ => ⟨S2x1x256, .f32⟩
  | .local _ .vmem, ⟨14, _⟩ => ⟨S2x2048x256, .bf16⟩
  | .local _ .vmem, ⟨15, _⟩ => ⟨S2x2048x256, .bf16⟩
  | .local _ .vmem, ⟨16, _⟩ => ⟨S2x3x256, .f32⟩
  | .local _ .vmem, ⟨17, _⟩ => ⟨S2x3x256, .f32⟩
  | .local _ .vmem, ⟨18, _⟩ => ⟨S2x1x256, .f32⟩
  | .local _ .vmem, ⟨19, _⟩ => ⟨S2x1x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![c0_i32.toNat, v2.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ActRefIdeal.lean ====
abbrev S16384x1024 : Shape := ⟨2, ![16384, 1024]⟩
abbrev S2816x1024 : Shape := ⟨2, ![2816, 1024]⟩
abbrev S16384x5632 : Shape := ⟨2, ![16384, 5632]⟩
abbrev S3x5632 : Shape := ⟨2, ![3, 5632]⟩
abbrev S1x5632 : Shape := ⟨2, ![1, 5632]⟩
abbrev S_ : Shape := ⟨0, ![]⟩
abbrev S16383x5632 : Shape := ⟨2, ![16383, 5632]⟩
abbrev S5632 : Shape := ⟨1, ![5632]⟩
abbrev S16384x2816 : Shape := ⟨2, ![16384, 2816]⟩
abbrev S16384x2x2816 : Shape := ⟨3, ![16384, 2, 2816]⟩
abbrev S2x16384x2816 : Shape := ⟨3, ![2, 16384, 2816]⟩
abbrev S3x2x2816 : Shape := ⟨3, ![3, 2, 2816]⟩
abbrev S2x3x2816 : Shape := ⟨3, ![2, 3, 2816]⟩
abbrev S1x2x2816 : Shape := ⟨3, ![1, 2, 2816]⟩
abbrev S2x1x2816 : Shape := ⟨3, ![2, 1, 2816]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .f32⟩
  | .hbm, ⟨2, _⟩ => ⟨S16384x5632, .bf16⟩
  | .hbm, ⟨3, _⟩ => ⟨S3x5632, .f32⟩
  | .hbm, ⟨4, _⟩ => ⟨S1x5632, .f32⟩
  | .hbm, ⟨5, _⟩ => ⟨S16384x5632, .f32⟩
  | .hbm, ⟨6, _⟩ => ⟨S_, .f32⟩
  | .hbm, ⟨7, _⟩ => ⟨S1x5632, .f32⟩
  | .hbm, ⟨8, _⟩ => ⟨S16383x5632, .f32⟩
  | .hbm, ⟨9, _⟩ => ⟨S16384x5632, .f32⟩
  | .hbm, ⟨10, _⟩ => ⟨S16383x5632, .f32⟩
  | .hbm, ⟨11, _⟩ => ⟨S16384x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S16384x5632, .f32⟩
  | .hbm, ⟨16, _⟩ => ⟨S16384x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S16384x5632, .f32⟩
  | .hbm, ⟨21, _⟩ => ⟨S16384x5632, .f32⟩
  | .hbm, ⟨22, _⟩ => ⟨S16384x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x1024, .f32⟩
  | .hbm, ⟨48, _⟩ => ⟨S16384x1024, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S16384x5632, .f32⟩
  | .hbm, ⟨57, _⟩ => ⟨S_, .f32⟩
  | .hbm, ⟨58, _⟩ => ⟨S5632, .f32⟩
  | .hbm, ⟨59, _⟩ => ⟨S1x5632, .f32⟩
  | .hbm, ⟨60, _⟩ => ⟨S16384x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S_, .f32⟩
  | .hbm, ⟨65, _⟩ => ⟨S5632, .f32⟩
  | .hbm, ⟨66, _⟩ => ⟨S1x5632, .f32⟩
  | .hbm, ⟨67, _⟩ => ⟨S_, .f32⟩
  | .hbm, ⟨68, _⟩ => ⟨S3x5632, .f32⟩
  | .hbm, ⟨69, _⟩ => ⟨S16384x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S_, .f32⟩
  | .hbm, ⟨74, _⟩ => ⟨S5632, .f32⟩
  | .hbm, ⟨75, _⟩ => ⟨S1x5632, .f32⟩
  | .hbm, ⟨76, _⟩ => ⟨S_, .f32⟩
  | .hbm, ⟨77, _⟩ => ⟨S3x5632, .f32⟩
  | .hbm, ⟨78, _⟩ => ⟨S3x5632, .f32⟩
  | .hbm, ⟨79, _⟩ => ⟨S16384x5632, .f32⟩
  | .hbm, ⟨80, _⟩ => ⟨S_, .f32⟩
  | .hbm, ⟨81, _⟩ => ⟨S5632, .f32⟩
  | .hbm, ⟨82, _⟩ => ⟨S1x5632, .f32⟩
  | .hbm, ⟨83, _⟩ => ⟨S_, .f32⟩
  | .hbm, ⟨84, _⟩ => ⟨S5632, .f32⟩
  | .hbm, ⟨85, _⟩ => ⟨S1x5632, .f32⟩
  | .hbm, ⟨86, _⟩ => ⟨S_, .f32⟩
  | .hbm, ⟨87, _⟩ => ⟨S3x5632, .f32⟩
  | .hbm, ⟨88, _⟩ => ⟨S3x5632, .f32⟩
  | .hbm, ⟨89, _⟩ => ⟨S16384x2x2816, .f32⟩
  | .hbm, ⟨90, _⟩ => ⟨S2x16384x2816, .f32⟩
  | .hbm, ⟨91, _⟩ => ⟨S2x16384x2816, .bf16⟩
  | .hbm, ⟨92, _⟩ => ⟨S3x2x2816, .f32⟩
  | .hbm, ⟨93, _⟩ => ⟨S2x3x2816, .f32⟩
  | .hbm, ⟨94, _⟩ => ⟨S1x2x2816, .f32⟩
  | .hbm, ⟨95, _⟩ => ⟨S2x1x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v34 : Ref sig .tc := ⟨.hbm, 55, rfl⟩
abbrev main_v35 : Ref sig .tc := ⟨.hbm, 56, rfl⟩
abbrev main_cst_0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_1 : Ref sig .tc := ⟨.hbm, 61, rfl⟩
abbrev main_v39 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== DwMod.lean ====
abbrev S16x1024 : Shape := ⟨2, ![16, 1024]⟩
abbrev S16x1536 : Shape := ⟨2, ![16, 1536]⟩
abbrev S1024x1536 : Shape := ⟨2, ![1024, 1536]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S1024x1536, .f32⟩
  | .local _ .vmem, ⟨0, _⟩ => ⟨S16x1024, .f32⟩
  | .local _ .vmem, ⟨1, _⟩ => ⟨S16x1536, .f32⟩
  | .local _ .vmem, ⟨2, _⟩ => ⟨S1024x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== DwModRefIdeal.lean ====
abbrev S16x1024 : Shape := ⟨2, ![16, 1024]⟩
abbrev S16x1536 : Shape := ⟨2, ![16, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S_, .f32⟩
  | .hbm, ⟨3, _⟩ => ⟨S1024x1536, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1536, .f32⟩
  | .hbm, ⟨14, _⟩ => ⟨S1536x1024, .f32⟩
  | .hbm, ⟨15, _⟩ => ⟨S1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== DwIn.lean ====
abbrev S16384x1024 : Shape := ⟨2, ![16384, 1024]⟩
abbrev S16384x3584 : Shape := ⟨2, ![16384, 3584]⟩
abbrev S1x1024 : Shape := ⟨2, ![1, 1024]⟩
abbrev S4x1024x896 : Shape := ⟨3, ![4, 1024, 896]⟩
abbrev S8x3584 : Shape := ⟨2, ![8, 3584]⟩
abbrev S2048x1024 : Shape := ⟨2, ![2048, 1024]⟩
abbrev S2048x896 : Shape := ⟨2, ![2048, 896]⟩
abbrev S1x1024x896 : Shape := ⟨3, ![1, 1024, 896]⟩
abbrev S8x896 : Shape := ⟨2, ![8, 896]⟩
abbrev S1024x896 : Shape := ⟨2, ![1024, 896]⟩
abbrev S896 : Shape := ⟨1, ![896]⟩
abbrev S1x896 : Shape := ⟨2, ![1, 896]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x3584, .bf16⟩
  | .hbm, ⟨2, _⟩ => ⟨S1x1024, .f32⟩
  | .hbm, ⟨3, _⟩ => ⟨S1x1024, .f32⟩
  | .hbm, ⟨4, _⟩ => ⟨S4x1024x896, .f32⟩
  | .hbm, ⟨5, _⟩ => ⟨S8x3584, .f32⟩
  | .local _ .vmem, ⟨0, _⟩ => ⟨S2048x1024, .f32⟩
  | .local _ .vmem, ⟨1, _⟩ => ⟨S2048x1024, .f32⟩
  | .local _ .vmem, ⟨2, _⟩ => ⟨S2048x896, .bf16⟩
  | .local _ .vmem, ⟨3, _⟩ => ⟨S2048x896, .bf16⟩
  | .local _ .vmem, ⟨4, _⟩ => ⟨S1x1024, .f32⟩
  | .local _ .vmem, ⟨5, _⟩ => ⟨S1x1024, .f32⟩
  | .local _ .vmem, ⟨6, _⟩ => ⟨S1x1024x896, .f32⟩
  | .local _ .vmem, ⟨7, _⟩ => ⟨S1x1024x896, .f32⟩
  | .local _ .vmem, ⟨8, _⟩ => ⟨S8x896, .f32⟩
  | .local _ .vmem, ⟨9, _⟩ => ⟨S8x896, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DwInRefIdeal.lean ====
abbrev S16384x1024 : Shape := ⟨2, ![16384, 1024]⟩
abbrev S16384x3584 : Shape := ⟨2, ![16384, 3584]⟩
abbrev S1x1024 : Shape := ⟨2, ![1, 1024]⟩
abbrev S_ : Shape := ⟨0, ![]⟩
abbrev S1024x3584 : Shape := ⟨2, ![1024, 3584]⟩
abbrev S1x3584 : Shape := ⟨2, ![1, 3584]⟩
abbrev S3584 : Shape := ⟨1, ![3584]⟩
abbrev S3584x1024 : Shape := ⟨2, ![3584, 1024]⟩
abbrev S1024x896 : Shape := ⟨2, ![1024, 896]⟩
abbrev S1x1024x896 : Shape := ⟨3, ![1, 1024, 896]⟩
abbrev S4x1024x896 : Shape := ⟨3, ![4, 1024, 896]⟩
abbrev S1x1x1x3584 : Shape := ⟨4, ![1, 1, 1, 3584]⟩
abbrev S8x1x1x3584 : Shape := ⟨4, ![8, 1, 1, 3584]⟩
abbrev S8x3584 : Shape := ⟨2, ![8, 3584]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x3584, .bf16⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1024x3584, .f32⟩
  | .hbm, ⟨6, _⟩ => ⟨S_, .f32⟩
  | .hbm, ⟨7, _⟩ => ⟨S1x3584, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x3584, .f32⟩
  | .hbm, ⟨16, _⟩ => ⟨S16384x3584, .f32⟩
  | .hbm, ⟨17, _⟩ => ⟨S16384x3584, .f32⟩
  | .hbm, ⟨18, _⟩ => ⟨S16384x3584, .f32⟩
  | .hbm, ⟨19, _⟩ => ⟨S_, .f32⟩
  | .hbm, ⟨20, _⟩ => ⟨S3584, .f32⟩
  | .hbm, ⟨21, _⟩ => ⟨S1x3584, .f32⟩
  | .hbm, ⟨22, _⟩ => ⟨S3584x1024, .f32⟩
  | .hbm, ⟨23, _⟩ => ⟨S1024x3584, .f32⟩
  | .hbm, ⟨24, _⟩ => ⟨S1024x896, .f32⟩
  | .hbm, ⟨25, _⟩ => ⟨S1024x896, .f32⟩
  | .hbm, ⟨26, _⟩ => ⟨S1024x896, .f32⟩
  | .hbm, ⟨27, _⟩ => ⟨S1024x896, .f32⟩
  | .hbm, ⟨28, _⟩ => ⟨S1x1024x896, .f32⟩
  | .hbm, ⟨29, _⟩ => ⟨S1x1024x896, .f32⟩
  | .hbm, ⟨30, _⟩ => ⟨S1x1024x896, .f32⟩
  | .hbm, ⟨31, _⟩ => ⟨S1x1024x896, .f32⟩
  | .hbm, ⟨32, _⟩ => ⟨S4x1024x896, .f32⟩
  | .hbm, ⟨33, _⟩ => ⟨S1x1x1x3584, .f32⟩
  | .hbm, ⟨34, _⟩ => ⟨S8x1x1x3584, .f32⟩
  | .hbm, ⟨35, _⟩ => ⟨S8x3584, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== DwUp.lean ====
abbrev S16384x1024 : Shape := ⟨2, ![16384, 1024]⟩
abbrev S16384x5632 : Shape := ⟨2, ![16384, 5632]⟩
abbrev S1x1024 : Shape := ⟨2, ![1, 1024]⟩
abbrev S16384x2x2816 : Shape := ⟨3, ![16384, 2, 2816]⟩
abbrev S2x16384x2816 : Shape := ⟨3, ![2, 16384, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x5632, .bf16⟩
  | .hbm, ⟨2, _⟩ => ⟨S1x1024, .f32⟩
  | .hbm, ⟨3, _⟩ => ⟨S1x1024, .f32⟩
  | .hbm, ⟨4, _⟩ => ⟨S16384x2x2816, .bf16⟩
  | .hbm, ⟨5, _⟩ => ⟨S2x16384x2816, .bf16⟩
  | .hbm, ⟨6, _⟩ => ⟨S4x1024x1408, .f32⟩
  | .local _ .vmem, ⟨0, _⟩ => ⟨S2048x1024, .f32⟩
  | .local _ .vmem, ⟨1, _⟩ => ⟨S2048x1024, .f32⟩
  | .local _ .vmem, ⟨2, _⟩ => ⟨S1x2048x1408, .bf16⟩
  | .local _ .vmem, ⟨3, _⟩ => ⟨S1x2048x1408, .bf16⟩
  | .local _ .vmem, ⟨4, _⟩ => ⟨S1x1024, .f32⟩
  | .local _ .vmem, ⟨5, _⟩ => ⟨S1x1024, .f32⟩
  | .local _ .vmem, ⟨6, _⟩ => ⟨S1x1024x1408, .f32⟩
  | .local _ .vmem, ⟨7, _⟩ => ⟨S1x1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwUpRefIdeal.lean ====
abbrev S16384x1024 : Shape := ⟨2, ![16384, 1024]⟩
abbrev S16384x5632 : Shape := ⟨2, ![16384, 5632]⟩
abbrev S1x1024 : Shape := ⟨2, ![1, 1024]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .bf16⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1024x5632, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x5632, .f32⟩
  | .hbm, ⟨14, _⟩ => ⟨S16384x5632, .f32⟩
  | .hbm, ⟨15, _⟩ => ⟨S5632x1024, .f32⟩
  | .hbm, ⟨16, _⟩ => ⟨S1024x5632, .f32⟩
  | .hbm, ⟨17, _⟩ => ⟨S1024x1408, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S1x1024x1408, .f32⟩
  | .hbm, ⟨22, _⟩ => ⟨S1x1024x1408, .f32⟩
  | .hbm, ⟨23, _⟩ => ⟨S1x1024x1408, .f32⟩
  | .hbm, ⟨24, _⟩ => ⟨S1x1024x1408, .f32⟩
  | .hbm, ⟨25, _⟩ => ⟨S4x1024x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== DwCtx.lean ====
abbrev S256x1024 : Shape := ⟨2, ![256, 1024]⟩
abbrev S256x3584 : Shape := ⟨2, ![256, 3584]⟩
abbrev S1x1024 : Shape := ⟨2, ![1, 1024]⟩
abbrev S1024x3584 : Shape := ⟨2, ![1024, 3584]⟩
abbrev S1024x4x896 : Shape := ⟨3, ![1024, 4, 896]⟩
abbrev S4x1024x896 : Shape := ⟨3, ![4, 1024, 896]⟩
abbrev S8x3584 : Shape := ⟨2, ![8, 3584]⟩
abbrev S256x896 : Shape := ⟨2, ![256, 896]⟩
abbrev S1x1024x896 : Shape := ⟨3, ![1, 1024, 896]⟩
abbrev S8x896 : Shape := ⟨2, ![8, 896]⟩
abbrev S1024x896 : Shape := ⟨2, ![1024, 896]⟩
abbrev S896 : Shape := ⟨1, ![896]⟩
abbrev S1x896 : Shape := ⟨2, ![1, 896]⟩

abbrev nBuf : Space → Nat
  | .hbm => 9
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S256x3584, .bf16⟩
  | .hbm, ⟨2, _⟩ => ⟨S1x1024, .f32⟩
  | .hbm, ⟨3, _⟩ => ⟨S1x1024, .f32⟩
  | .hbm, ⟨4, _⟩ => ⟨S1024x3584, .f32⟩
  | .hbm, ⟨5, _⟩ => ⟨S1024x4x896, .f32⟩
  | .hbm, ⟨6, _⟩ => ⟨S4x1024x896, .f32⟩
  | .hbm, ⟨7, _⟩ => ⟨S4x1024x896, .f32⟩
  | .hbm, ⟨8, _⟩ => ⟨S8x3584, .f32⟩
  | .local _ .vmem, ⟨0, _⟩ => ⟨S256x1024, .f32⟩
  | .local _ .vmem, ⟨1, _⟩ => ⟨S256x896, .bf16⟩
  | .local _ .vmem, ⟨2, _⟩ => ⟨S256x896, .bf16⟩
  | .local _ .vmem, ⟨3, _⟩ => ⟨S1x1024, .f32⟩
  | .local _ .vmem, ⟨4, _⟩ => ⟨S1x1024, .f32⟩
  | .local _ .vmem, ⟨5, _⟩ => ⟨S1x1024x896, .f32⟩
  | .local _ .vmem, ⟨6, _⟩ => ⟨S1x1024x896, .f32⟩
  | .local _ .vmem, ⟨7, _⟩ => ⟨S1x1024x896, .f32⟩
  | .local _ .vmem, ⟨8, _⟩ => ⟨S1x1024x896, .f32⟩
  | .local _ .vmem, ⟨9, _⟩ => ⟨S8x896, .f32⟩
  | .local _ .vmem, ⟨10, _⟩ => ⟨S8x896, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DwCtxRefIdeal.lean ====
abbrev S256x1024 : Shape := ⟨2, ![256, 1024]⟩
abbrev S256x3584 : Shape := ⟨2, ![256, 3584]⟩
abbrev S1x1024 : Shape := ⟨2, ![1, 1024]⟩
abbrev S1024x3584 : Shape := ⟨2, ![1024, 3584]⟩
abbrev S_ : Shape := ⟨0, ![]⟩
abbrev S1x3584 : Shape := ⟨2, ![1, 3584]⟩
abbrev S3584 : Shape := ⟨1, ![3584]⟩
abbrev S3584x1024 : Shape := ⟨2, ![3584, 1024]⟩
abbrev S1024x896 : Shape := ⟨2, ![1024, 896]⟩
abbrev S1x1024x896 : Shape := ⟨3, ![1, 1024, 896]⟩
abbrev S4x1024x896 : Shape := ⟨3, ![4, 1024, 896]⟩
abbrev S1x1x1x3584 : Shape := ⟨4, ![1, 1, 1, 3584]⟩
abbrev S8x1x1x3584 : Shape := ⟨4, ![8, 1, 1, 3584]⟩
abbrev S8x3584 : Shape := ⟨2, ![8, 3584]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x3584, .bf16⟩
  | .hbm, ⟨2, _⟩ => ⟨S1x1024, .f32⟩
  | .hbm, ⟨3, _⟩ => ⟨S1x1024, .f32⟩
  | .hbm, ⟨4, _⟩ => ⟨S1024x3584, .f32⟩
  | .hbm, ⟨5, _⟩ => ⟨S_, .f32⟩
  | .hbm, ⟨6, _⟩ => ⟨S1024x3584, .f32⟩
  | .hbm, ⟨7, _⟩ => ⟨S_, .f32⟩
  | .hbm, ⟨8, _⟩ => ⟨S1x3584, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x3584, .f32⟩
  | .hbm, ⟨17, _⟩ => ⟨S256x3584, .f32⟩
  | .hbm, ⟨18, _⟩ => ⟨S256x3584, .f32⟩
  | .hbm, ⟨19, _⟩ => ⟨S256x3584, .f32⟩
  | .hbm, ⟨20, _⟩ => ⟨S_, .f32⟩
  | .hbm, ⟨21, _⟩ => ⟨S3584, .f32⟩
  | .hbm, ⟨22, _⟩ => ⟨S1x3584, .f32⟩
  | .hbm, ⟨23, _⟩ => ⟨S3584x1024, .f32⟩
  | .hbm, ⟨24, _⟩ => ⟨S1024x3584, .f32⟩
  | .hbm, ⟨25, _⟩ => ⟨S1024x3584, .f32⟩
  | .hbm, ⟨26, _⟩ => ⟨S1024x896, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S1x1024x896, .f32⟩
  | .hbm, ⟨31, _⟩ => ⟨S1x1024x896, .f32⟩
  | .hbm, ⟨32, _⟩ => ⟨S1x1024x896, .f32⟩
  | .hbm, ⟨33, _⟩ => ⟨S1x1024x896, .f32⟩
  | .hbm, ⟨34, _⟩ => ⟨S4x1024x896, .f32⟩
  | .hbm, ⟨35, _⟩ => ⟨S1x1x1x3584, .f32⟩
  | .hbm, ⟨36, _⟩ => ⟨S8x1x1x3584, .f32⟩
  | .hbm, ⟨37, _⟩ => ⟨S8x3584, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== ModCtx.lean ====
abbrev S256x3584 : Shape := ⟨2, ![256, 3584]⟩
abbrev S1024x3584 : Shape := ⟨2, ![1024, 3584]⟩
abbrev S256x1024 : Shape := ⟨2, ![256, 1024]⟩
abbrev S1x1024 : Shape := ⟨2, ![1, 1024]⟩
abbrev S1024x4x896 : Shape := ⟨3, ![1024, 4, 896]⟩
abbrev S4x1024x896 : Shape := ⟨3, ![4, 1024, 896]⟩
abbrev S_ : Shape := ⟨0, ![]⟩
abbrev S256x896 : Shape := ⟨2, ![256, 896]⟩
abbrev S1x1024x896 : Shape := ⟨3, ![1, 1024, 896]⟩
abbrev S1024x896 : Shape := ⟨2, ![1024, 896]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S256x3584, .bf16⟩
  | .hbm, ⟨1, _⟩ => ⟨S1024x3584, .f32⟩
  | .hbm, ⟨2, _⟩ => ⟨S256x1024, .f32⟩
  | .hbm, ⟨3, _⟩ => ⟨S1x1024, .f32⟩
  | .hbm, ⟨4, _⟩ => ⟨S1024x3584, .bf16⟩
  | .hbm, ⟨5, _⟩ => ⟨S1024x4x896, .bf16⟩
  | .hbm, ⟨6, _⟩ => ⟨S4x1024x896, .bf16⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S1x1024, .f32⟩
  | .hbm, ⟨11, _⟩ => ⟨S1x1024, .f32⟩
  | .local _ .vmem, ⟨0, _⟩ => ⟨S256x896, .bf16⟩
  | .local _ .vmem, ⟨1, _⟩ => ⟨S256x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | _, _ => ⟨S256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ModCtxRefIdeal.lean ====
abbrev S256x3584 : Shape := ⟨2, ![256, 3584]⟩
abbrev S1024x3584 : Shape := ⟨2, ![1024, 3584]⟩
abbrev S256x1024 : Shape := ⟨2, ![256, 1024]⟩
abbrev S1x1024 : Shape := ⟨2, ![1, 1024]⟩
abbrev S_ : Shape := ⟨0, ![]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S256x3584, .bf16⟩
  | .hbm, ⟨1, _⟩ => ⟨S1024x3584, .f32⟩
  | .hbm, ⟨2, _⟩ => ⟨S256x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x3584, .f32⟩
  | .hbm, ⟨14, _⟩ => ⟨S256x3584, .f32⟩
  | .hbm, ⟨15, _⟩ => ⟨S256x1024, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S256x1024, .f32⟩
  | .hbm, ⟨24, _⟩ => ⟨S256x1024, .f32⟩
  | _, _ => ⟨S256x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== CCtx.lean ====
abbrev S1x2048 : Shape := ⟨2, ![1, 2048]⟩
abbrev S1024x6144 : Shape := ⟨2, ![1024, 6144]⟩
abbrev S1x1024 : Shape := ⟨2, ![1, 1024]⟩
abbrev S1024x4x1536 : Shape := ⟨3, ![1024, 4, 1536]⟩
abbrev S4x1024x1536 : Shape := ⟨3, ![4, 1024, 1536]⟩
abbrev S_ : Shape := ⟨0, ![]⟩
abbrev S1x4096 : Shape := ⟨2, ![1, 4096]⟩
abbrev S1x6144 : Shape := ⟨2, ![1, 6144]⟩
abbrev S8x6144 : Shape := ⟨2, ![8, 6144]⟩
abbrev S8x1024 : Shape := ⟨2, ![8, 1024]⟩
abbrev S8x1536 : Shape := ⟨2, ![8, 1536]⟩
abbrev S1x1024x1536 : Shape := ⟨3, ![1, 1024, 1536]⟩
abbrev S1024x1536 : Shape := ⟨2, ![1024, 1536]⟩
abbrev S1024 : Shape := ⟨1, ![1024]⟩

abbrev nBuf : Space → Nat
  | .hbm => 44
  | .vmem => 11
  | .smem => 0
  | _ => 0

abbrev bufTy : (tb : Table) → Fin (tcTables nBuf tb) → BufTy
  | .hbm, ⟨0, _⟩ => ⟨S1x2048, .f32⟩
  | .hbm, ⟨1, _⟩ => ⟨S1024x6144, .f32⟩
  | .hbm, ⟨2, _⟩ => ⟨S1x1024, .f32⟩
  | .hbm, ⟨3, _⟩ => ⟨S1024x6144, .bf16⟩
  | .hbm, ⟨4, _⟩ => ⟨S1024x4x1536, .bf16⟩
  | .hbm, ⟨5, _⟩ => ⟨S4x1024x1536, .bf16⟩
  | .hbm, ⟨6, _⟩ => ⟨S_, .f32⟩
  | .hbm, ⟨7, _⟩ => ⟨S1x1024, .f32⟩
  | .hbm, ⟨8, _⟩ => ⟨S_, .f32⟩
  | .hbm, ⟨9, _⟩ => ⟨S1x4096, .f32⟩
  | .hbm, ⟨10, _⟩ => ⟨S1x6144, .f32⟩
  | .hbm, ⟨11, _⟩ => ⟨S8x6144, .f32⟩
  | .hbm, ⟨12, _⟩ => ⟨S8x6144, .i32⟩
  | .hbm, ⟨13, _⟩ => ⟨S_, .i32⟩
  | .hbm, ⟨14, _⟩ => ⟨S8x6144, .i32⟩
  | .hbm, ⟨15, _⟩ => ⟨S8x6144, .i1⟩
  | .hbm, ⟨16, _⟩ => ⟨S_, .f32⟩
  | .hbm, ⟨17, _⟩ => ⟨S_, .f32⟩
  | .hbm, ⟨18, _⟩ => ⟨S8x6144, .f32⟩
  | .hbm, ⟨19, _⟩ => ⟨S8x6144, .f32⟩
  | .hbm, ⟨20, _⟩ => ⟨S8x6144, .bf16⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S1x1024, .f32⟩
  | .local _ .vmem, ⟨0, _⟩ => ⟨S8x1536, .bf16⟩
  | .local _ .vmem, ⟨1, _⟩ => ⟨S8x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S8x1024, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_12 : BitVec 32 := 0#32
  let v20 : BitVec 1 := Scalar.cmpi .ne v19 c0_i32_12
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== CCtxRefIdeal.lean ====
abbrev S1x2048 : Shape := ⟨2, ![1, 2048]⟩
abbrev S1024x6144 : Shape := ⟨2, ![1024, 6144]⟩
abbrev S1x1024 : Shape := ⟨2, ![1, 1024]⟩
abbrev S_ : Shape := ⟨0, ![]⟩
abbrev S1024x2048 : Shape := ⟨2, ![1024, 2048]⟩

abbrev nBuf : Space → Nat
  | .hbm => 23
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1024x6144, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1024x2048, .f32⟩
  | .hbm, ⟨17, _⟩ => ⟨S1x2048, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩

abbrev nD : Nat := 1
abbrev τ : Topo := Topo.v7x

variable {F : FTy → Type} [FloatOps F]
-- ==== PrepCtx.lean ====
abbrev S256x128 : Shape := ⟨2, ![256, 128]⟩
abbrev S256x3584 : Shape := ⟨2, ![256, 3584]⟩
abbrev S1x64 : Shape := ⟨2, ![1, 64]⟩
abbrev S256x16 : Shape := ⟨2, ![256, 16]⟩
abbrev S256x64 : Shape := ⟨2, ![256, 64]⟩
abbrev S1x256x1x64 : Shape := ⟨4, ![1, 256, 1, 64]⟩
abbrev S1x256x2x64 : Shape := ⟨4, ![1, 256, 2, 64]⟩
abbrev S_ : Shape := ⟨0, ![]⟩
abbrev S8x128x256 : Shape := ⟨3, ![8, 128, 256]⟩
abbrev S1x1x1x64 : Shape := ⟨4, ![1, 1, 1, 64]⟩
abbrev S1x1x2x64 : Shape := ⟨4, ![1, 1, 2, 64]⟩
abbrev S1x128 : Shape := ⟨2, ![1, 128]⟩
abbrev S256x2048 : Shape := ⟨2, ![256, 2048]⟩
abbrev S1x512 : Shape := ⟨2, ![1, 512]⟩
abbrev S256x1536 : Shape := ⟨2, ![256, 1536]⟩
abbrev S1x128x256 : Shape := ⟨3, ![1, 128, 256]⟩
abbrev S128x256 : Shape := ⟨2, ![128, 256]⟩
abbrev S256 : Shape := ⟨1, ![256]⟩
abbrev S256x1 : Shape := ⟨2, ![256, 1]⟩
abbrev S128 : Shape := ⟨1, ![128]⟩

abbrev nBuf : Space → Nat
  | .hbm => 34
  | .vmem => 15
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x3584, .f32⟩
  | .hbm, ⟨5, _⟩ => ⟨S1x64, .f32⟩
  | .hbm, ⟨6, _⟩ => ⟨S1x64, .f32⟩
  | .hbm, ⟨7, _⟩ => ⟨S256x16, .f32⟩
  | .hbm, ⟨8, _⟩ => ⟨S256x16, .f32⟩
  | .hbm, ⟨9, _⟩ => ⟨S256x16, .f32⟩
  | .hbm, ⟨10, _⟩ => ⟨S256x16, .f32⟩
  | .hbm, ⟨11, _⟩ => ⟨S256x64, .f32⟩
  | .hbm, ⟨12, _⟩ => ⟨S256x16, .f32⟩
  | .hbm, ⟨13, _⟩ => ⟨S256x16, .f32⟩
  | .hbm, ⟨14, _⟩ => ⟨S256x64, .f32⟩
  | .hbm, ⟨15, _⟩ => ⟨S1x256x1x64, .f32⟩
  | .hbm, ⟨16, _⟩ => ⟨S1x256x2x64, .f32⟩
  | .hbm, ⟨17, _⟩ => ⟨S256x128, .f32⟩
  | .hbm, ⟨18, _⟩ => ⟨S1x256x1x64, .f32⟩
  | .hbm, ⟨19, _⟩ => ⟨S1x256x2x64, .f32⟩
  | .hbm, ⟨20, _⟩ => ⟨S256x128, .f32⟩
  | .hbm, ⟨21, _⟩ => ⟨S_, .f32⟩
  | .hbm, ⟨22, _⟩ => ⟨S8x128x256, .f32⟩
  | .hbm, ⟨23, _⟩ => ⟨S1x1x1x64, .f32⟩
  | .hbm, ⟨24, _⟩ => ⟨S1x1x2x64, .f32⟩
  | .hbm, ⟨25, _⟩ => ⟨S1x128, .f32⟩
  | .hbm, ⟨26, _⟩ => ⟨S1x1x1x64, .f32⟩
  | .hbm, ⟨27, _⟩ => ⟨S1x1x2x64, .f32⟩
  | .hbm, ⟨28, _⟩ => ⟨S1x128, .f32⟩
  | .hbm, ⟨29, _⟩ => ⟨S_, .bf16⟩
  | .hbm, ⟨30, _⟩ => ⟨S256x2048, .bf16⟩
  | .hbm, ⟨31, _⟩ => ⟨S256x3584, .bf16⟩
  | .hbm, ⟨32, _⟩ => ⟨S1x512, .f32⟩
  | .hbm, ⟨33, _⟩ => ⟨S1x128, .f32⟩
  | .local _ .vmem, ⟨0, _⟩ => ⟨S8x128x256, .f32⟩
  | .local _ .vmem, ⟨1, _⟩ => ⟨S256x128, .f32⟩
  | .local _ .vmem, ⟨2, _⟩ => ⟨S256x128, .f32⟩
  | .local _ .vmem, ⟨3, _⟩ => ⟨S8x128x256, .f32⟩
  | .local _ .vmem, ⟨4, _⟩ => ⟨S256x128, .f32⟩
  | .local _ .vmem, ⟨5, _⟩ => ⟨S256x128, .f32⟩
  | .local _ .vmem, ⟨6, _⟩ => ⟨S256x1536, .f32⟩
  | .local _ .vmem, ⟨7, _⟩ => ⟨S256x128, .f32⟩
  | .local _ .vmem, ⟨8, _⟩ => ⟨S256x128, .f32⟩
  | .local _ .vmem, ⟨9, _⟩ => ⟨S1x128, .f32⟩
  | .local _ .vmem, ⟨10, _⟩ => ⟨S1x128, .f32⟩
  | .local _ .vmem, ⟨11, _⟩ => ⟨S256x2048, .bf16⟩
  | .local _ .vmem, ⟨12, _⟩ => ⟨S256x3584, .bf16⟩
  | .local _ .vmem, ⟨13, _⟩ => ⟨S1x512, .f32⟩
  | .local _ .vmem, ⟨14, _⟩ => ⟨S1x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x3584 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== PrepCtxRefIdeal.lean ====
abbrev S256x128 : Shape := ⟨2, ![256, 128]⟩
abbrev S256x3584 : Shape := ⟨2, ![256, 3584]⟩
abbrev S1x64 : Shape := ⟨2, ![1, 64]⟩
abbrev S256x16 : Shape := ⟨2, ![256, 16]⟩
abbrev S1x1x1x64 : Shape := ⟨4, ![1, 1, 1, 64]⟩
abbrev S2x1x1x64 : Shape := ⟨4, ![2, 1, 1, 64]⟩
abbrev S2x64 : Shape := ⟨2, ![2, 64]⟩
abbrev S256x512 : Shape := ⟨2, ![256, 512]⟩
abbrev S256x2048 : Shape := ⟨2, ![256, 2048]⟩
abbrev S256x2x64 : Shape := ⟨3, ![256, 2, 64]⟩
abbrev S256x1x16 : Shape := ⟨3, ![256, 1, 16]⟩
abbrev S256x2x32 : Shape := ⟨3, ![256, 2, 32]⟩
abbrev S256x2x16 : Shape := ⟨3, ![256, 2, 16]⟩
abbrev S_ : Shape := ⟨0, ![]⟩
abbrev S256x2 : Shape := ⟨2, ![256, 2]⟩
abbrev S256x2x1 : Shape := ⟨3, ![256, 2, 1]⟩
abbrev S1x2x64 : Shape := ⟨3, ![1, 2, 64]⟩
abbrev S1x128 : Shape := ⟨2, ![1, 128]⟩

abbrev nBuf : Space → Nat
  | .hbm => 209
  | .vmem => 0
  | .smem => 0
  | _ => 0

abbrev hbmTy0_0 (i : Nat) : BufTy := match i % 128 with
  | 0 => ⟨S256x128, .f32⟩
  | 1 => ⟨S256x128, .f32⟩
  | 2 => ⟨S256x128, .f32⟩
  | 3 => ⟨S256x128, .f32⟩
  | 4 => ⟨S256x3584, .f32⟩
  | 5 => ⟨S1x64, .f32⟩
  | 6 => ⟨S1x64, .f32⟩
  | 7 => ⟨S256x16, .f32⟩
  | 8 => ⟨S256x16, .f32⟩
  | 9 => ⟨S256x16, .f32⟩
  | 10 => ⟨S256x16, .f32⟩
  | 11 => ⟨S1x1x1x64, .f32⟩
  | 12 => ⟨S2x1x1x64, .f32⟩
  | 13 => ⟨S2x64, .f32⟩
  | 14 => ⟨S256x512, .f32⟩
  | 15 => ⟨S256x128, .f32⟩
  | 16 => ⟨S256x128, .f32⟩
  | 17 => ⟨S256x512, .f32⟩
  | 18 => ⟨S256x128, .f32⟩
  | 19 => ⟨S256x128, .f32⟩
  | 20 => ⟨S256x2048, .f32⟩
  | 21 => ⟨S256x2x64, .f32⟩
  | 22 => ⟨S256x1x16, .f32⟩
  | 23 => ⟨S256x1x16, .f32⟩
  | 24 => ⟨S256x1x16, .f32⟩
  | 25 => ⟨S256x1x16, .f32⟩
  | 26 => ⟨S256x2x32, .f32⟩
  | 27 => ⟨S256x2x32, .f32⟩
  | 28 => ⟨S256x2x16, .f32⟩
  | 29 => ⟨S256x2x16, .f32⟩
  | 30 => ⟨S256x2x16, .f32⟩
  | 31 => ⟨S256x2x16, .f32⟩
  | 32 => ⟨S256x2x16, .f32⟩
  | 33 => ⟨S256x2x16, .f32⟩
  | 34 => ⟨S256x2x16, .f32⟩
  | 35 => ⟨S256x2x16, .f32⟩
  | 36 => ⟨S256x2x16, .f32⟩
  | 37 => ⟨S256x2x16, .f32⟩
  | 38 => ⟨S256x2x16, .f32⟩
  | 39 => ⟨S256x2x16, .f32⟩
  | 40 => ⟨S256x2x32, .f32⟩
  | 41 => ⟨S256x2x16, .f32⟩
  | 42 => ⟨S256x2x16, .f32⟩
  | 43 => ⟨S256x2x16, .f32⟩
  | 44 => ⟨S256x2x16, .f32⟩
  | 45 => ⟨S256x2x16, .f32⟩
  | 46 => ⟨S256x2x16, .f32⟩
  | 47 => ⟨S256x2x16, .f32⟩
  | 48 => ⟨S256x2x16, .f32⟩
  | 49 => ⟨S256x2x16, .f32⟩
  | 50 => ⟨S256x2x16, .f32⟩
  | 51 => ⟨S256x2x16, .f32⟩
  | 52 => ⟨S256x2x16, .f32⟩
  | 53 => ⟨S256x2x32, .f32⟩
  | 54 => ⟨S256x2x64, .f32⟩
  | 55 => ⟨S256x2x64, .f32⟩
  | 56 => ⟨S256x2x64, .f32⟩
  | 57 => ⟨S_, .f32⟩
  | 58 => ⟨S256x2, .f32⟩
  | 59 => ⟨S256x2x1, .f32⟩
  | 60 => ⟨S_, .f32⟩
  | 61 => ⟨S256x2x1, .f32⟩
  | 62 => ⟨S256x2x1, .f32⟩
  | 63 => ⟨S_, .f32⟩
  | 64 => ⟨S256x2x1, .f32⟩
  | 65 => ⟨S256x2x1, .f32⟩
  | 66 => ⟨S256x2x1, .f32⟩
  | 67 => ⟨S256x2x1, .f32⟩
  | 68 => ⟨S_, .f32⟩
  | 69 => ⟨S256x2x1, .f32⟩
  | 70 => ⟨S256x2x1, .f32⟩
  | 71 => ⟨S256x2x64, .f32⟩
  | 72 => ⟨S256x2x64, .f32⟩
  | 73 => ⟨S1x2x64, .f32⟩
  | 74 => ⟨S256x2x64, .f32⟩
  | 75 => ⟨S256x2x64, .f32⟩
  | 76 => ⟨S256x1x16, .f32⟩
  | 77 => ⟨S256x1x16, .f32⟩
  | 78 => ⟨S256x1x16, .f32⟩
  | 79 => ⟨S256x1x16, .f32⟩
  | 80 => ⟨S256x2x32, .f32⟩
  | 81 => ⟨S256x2x32, .f32⟩
  | 82 => ⟨S256x2x16, .f32⟩
  | 83 => ⟨S256x2x16, .f32⟩
  | 84 => ⟨S256x2x16, .f32⟩
  | 85 => ⟨S256x2x16, .f32⟩
  | 86 => ⟨S256x2x16, .f32⟩
  | 87 => ⟨S256x2x16, .f32⟩
  | 88 => ⟨S256x2x16, .f32⟩
  | 89 => ⟨S256x2x16, .f32⟩
  | 90 => ⟨S256x2x16, .f32⟩
  | 91 => ⟨S256x2x16, .f32⟩
  | 92 => ⟨S256x2x16, .f32⟩
  | 93 => ⟨S256x2x16, .f32⟩
  | 94 => ⟨S256x2x32, .f32⟩
  | 95 => ⟨S256x2x16, .f32⟩
  | 96 => ⟨S256x2x16, .f32⟩
  | 97 => ⟨S256x2x16, .f32⟩
  | 98 => ⟨S256x2x16, .f32⟩
  | 99 => ⟨S256x2x16, .f32⟩
  | 100 => ⟨S256x2x16, .f32⟩
  | 101 => ⟨S256x2x16, .f32⟩
  | 102 => ⟨S256x2x16, .f32⟩
  | 103 => ⟨S256x2x16, .f32⟩
  | 104 => ⟨S256x2x16, .f32⟩
  | 105 => ⟨S256x2x16, .f32⟩
  | 106 => ⟨S256x2x16, .f32⟩
  | 107 => ⟨S256x2x32, .f32⟩
  | 108 => ⟨S256x2x64, .f32⟩
  | 109 => ⟨S256x2x64, .f32⟩
  | 110 => ⟨S256x2x64, .f32⟩
  | 111 => ⟨S256x2x32, .f32⟩
  | 112 => ⟨S256x2x32, .f32⟩
  | 113 => ⟨S256x2x16, .f32⟩
  | 114 => ⟨S256x2x16, .f32⟩
  | 115 => ⟨S256x2x16, .f32⟩
  | 116 => ⟨S256x2x16, .f32⟩
  | 117 => ⟨S256x2x16, .f32⟩
  | 118 => ⟨S256x2x16, .f32⟩
  | 119 => ⟨S256x2x16, .f32⟩
  | 120 => ⟨S256x2x16, .f32⟩
  | 121 => ⟨S256x2x16, .f32⟩
  | 122 => ⟨S256x2x16, .f32⟩
  | 123 => ⟨S256x2x16, .f32⟩
  | 124 => ⟨S256x2x16, .f32⟩
  | 125 => ⟨S256x2x16, .f32⟩
  | 126 => ⟨S256x2x32, .f32⟩
  | 127 => ⟨S256x2x16, .f32⟩
  | _ => ⟨S256x128, .f32⟩

abbrev hbmTy0_1 (i : Nat) : BufTy := match i % 128 with
  | 0 => ⟨S256x2x16, .f32⟩
  | 1 => ⟨S256x2x16, .f32⟩
  | 2 => ⟨S256x2x16, .f32⟩
  | 3 => ⟨S256x2x16, .f32⟩
  | 4 => ⟨S256x2x16, .f32⟩
  | 5 => ⟨S256x2x16, .f32⟩
  | 6 => ⟨S256x2x16, .f32⟩
  | 7 => ⟨S256x2x16, .f32⟩
  | 8 => ⟨S256x2x16, .f32⟩
  | 9 => ⟨S256x2x16, .f32⟩
  | 10 => ⟨S256x2x16, .f32⟩
  | 11 => ⟨S256x2x16, .f32⟩
  | 12 => ⟨S256x2x32, .f32⟩
  | 13 => ⟨S256x2x64, .f32⟩
  | 14 => ⟨S256x2x64, .f32⟩
  | 15 => ⟨S_, .f32⟩
  | 16 => ⟨S2x64, .f32⟩
  | 17 => ⟨S1x2x64, .f32⟩
  | 18 => ⟨S256x2x64, .f32⟩
  | 19 => ⟨S256x2x64, .f32⟩
  | 20 => ⟨S_, .f32⟩
  | 21 => ⟨S2x64, .f32⟩
  | 22 => ⟨S256x2x64, .f32⟩
  | 23 => ⟨S_, .f32⟩
  | 24 => ⟨S256x2, .f32⟩
  | 25 => ⟨S256x2x1, .f32⟩
  | 26 => ⟨S256x2x64, .f32⟩
  | 27 => ⟨S256x2x64, .f32⟩
  | 28 => ⟨S256x2x1, .f32⟩
  | 29 => ⟨S_, .f32⟩
  | 30 => ⟨S256x2x1, .f32⟩
  | 31 => ⟨S256x2x1, .f32⟩
  | 32 => ⟨S_, .f32⟩
  | 33 => ⟨S256x2, .f32⟩
  | 34 => ⟨S256x2x64, .f32⟩
  | 35 => ⟨S256x2x64, .f32⟩
  | 36 => ⟨S256x2x64, .f32⟩
  | 37 => ⟨S256x2x64, .f32⟩
  | 38 => ⟨S256x2x64, .f32⟩
  | 39 => ⟨S256x128, .f32⟩
  | 40 => ⟨S256x2x32, .f32⟩
  | 41 => ⟨S256x2x32, .f32⟩
  | 42 => ⟨S256x2x16, .f32⟩
  | 43 => ⟨S256x2x16, .f32⟩
  | 44 => ⟨S256x2x16, .f32⟩
  | 45 => ⟨S256x2x16, .f32⟩
  | 46 => ⟨S256x2x16, .f32⟩
  | 47 => ⟨S256x2x16, .f32⟩
  | 48 => ⟨S256x2x16, .f32⟩
  | 49 => ⟨S256x2x16, .f32⟩
  | 50 => ⟨S256x2x16, .f32⟩
  | 51 => ⟨S256x2x16, .f32⟩
  | 52 => ⟨S256x2x16, .f32⟩
  | 53 => ⟨S256x2x16, .f32⟩
  | 54 => ⟨S256x2x16, .f32⟩
  | 55 => ⟨S256x2x32, .f32⟩
  | 56 => ⟨S256x2x16, .f32⟩
  | 57 => ⟨S256x2x16, .f32⟩
  | 58 => ⟨S256x2x16, .f32⟩
  | 59 => ⟨S256x2x16, .f32⟩
  | 60 => ⟨S256x2x16, .f32⟩
  | 61 => ⟨S256x2x16, .f32⟩
  | 62 => ⟨S256x2x16, .f32⟩
  | 63 => ⟨S256x2x16, .f32⟩
  | 64 => ⟨S256x2x16, .f32⟩
  | 65 => ⟨S256x2x16, .f32⟩
  | 66 => ⟨S256x2x16, .f32⟩
  | 67 => ⟨S256x2x16, .f32⟩
  | 68 => ⟨S256x2x16, .f32⟩
  | 69 => ⟨S256x2x32, .f32⟩
  | 70 => ⟨S256x2x64, .f32⟩
  | 71 => ⟨S256x128, .f32⟩
  | 72 => ⟨S_, .f32⟩
  | 73 => ⟨S256x512, .f32⟩
  | 74 => ⟨S_, .f32⟩
  | 75 => ⟨S256x512, .f32⟩
  | 76 => ⟨S_, .f32⟩
  | 77 => ⟨S256x2048, .f32⟩
  | 78 => ⟨S256x3584, .f32⟩
  | 79 => ⟨S256x3584, .bf16⟩
  | 80 => ⟨S1x128, .f32⟩
  | _ => ⟨S256x128, .f32⟩

abbrev hbmTy (i : Nat) : BufTy := match i / 128 with
  | 0 => hbmTy0_0 i
  | 1 => hbmTy0_1 i
  | _ => ⟨S256x128, .f32⟩

abbrev bufTy : (tb : Table) → Fin (tcTables nBuf tb) → BufTy
  | .hbm, ⟨i, _⟩ => hbmTy i
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst : Ref sig .tc := ⟨.hbm, 57, rfl⟩
abbrev main_v46 : Ref sig .tc := ⟨.hbm, 58, rfl⟩
abbrev main_v47 : Ref sig .tc := ⟨.hbm, 59, rfl⟩
abbrev main_cst_0 : Ref sig .tc := ⟨.hbm, 60, rfl⟩
abbrev main_v48 : Ref sig .tc := ⟨.hbm, 61, rfl⟩
abbrev main_v49 : Ref sig .tc := ⟨.hbm, 62, rfl⟩
abbrev main_cst_1 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_cst_3 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_cst_4 : Ref sig .tc := ⟨.hbm, 148, rfl⟩
abbrev main_v132 : Ref sig .tc := ⟨.hbm, 149, rfl⟩
abbrev main_v133 : Ref sig .tc := ⟨.hbm, 150, rfl⟩
abbrev main_cst_5 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_cst_6 : Ref sig .tc := ⟨.hbm, 157, rfl⟩
abbrev main_v139 : Ref sig .tc := ⟨.hbm, 158, rfl⟩
abbrev main_v140 : Ref sig .tc := ⟨.hbm, 159, rfl⟩
abbrev main_cst_7 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_cst_8 : Ref sig .tc := ⟨.hbm, 200, rfl⟩
abbrev main_v180 : Ref sig .tc := ⟨.hbm, 201, rfl⟩
abbrev main_cst_9 : Ref sig .tc := ⟨.hbm, 202, rfl⟩
abbrev main_v181 : Ref sig .tc := ⟨.hbm, 203, rfl⟩
abbrev main_cst_10 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩

abbrev nD : Nat := 1
abbrev τ : Topo := Topo.v7x

variable {F : FTy → Type} [FloatOps F]
-- ==== Proof.ConvIn.Block.lean ====
module

public import proofs.«01_k».proof.Proof.Gen.ConvInIdeal.Value
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.ConvInIdeal.Value

open Cert.ConvInIdeal Cert.ConvInIdeal.Gen

/-- The gradient at row `n` and column `c`: the tap 0 times the cotangent one row below, tap 1 times that of the row, tap 2 times that of the
    row above; rows outside count zero. -/
def conv (d : S16384x5632.Idx → EReal) (w : S3x5632.Idx → EReal) (n : Fin 16384) (c : Fin 5632) : EReal :=
  w (ix2 0 c) * (if h : n.val = 16383 then 0 else d (ix2 ⟨n.val + 1, by omega⟩ c)) + w (ix2 1 c) * d (ix2 n c)
    + w (ix2 2 c) * (if h : n.val = 0 then 0 else d (ix2 ⟨n.val - 1, by omega⟩ c))

theorem col_lt {h k : Nat} (hh : h < 2) (hk : k < 2816) : h * 2816 + k < 5632 := by omega

/-- The result: half `h` holds the columns `2816 h` to `2816 h + 2815`. -/
def G (d : S16384x5632.Idx → EReal) (w : S3x5632.Idx → EReal) : S2x16384x2816.Idx → EReal := fun i =>
  conv d w (i 1) ⟨(i 0).val * 2816 + (i 2).val, col_lt (i 0).isLt (i 2).isLt⟩

/-- Where each window's block of point `t` lies, in terms of the output's block. -/
theorem idx : ∀ t : Fin cfg0.N, win0_0.index t = win0_4.index t
    ∧ win0_4.index t 0 = 0 ∧ win0_4.index t 1 = (grid0.coords t 1).val ∧ win0_4.index t 2 = (grid0.coords t 0).val
    ∧ win0_1.index t = ![0, (grid0.coords t 1).val * 128 - 1, (grid0.coords t 0).val]
    ∧ win0_2.index t = ![0, min ((grid0.coords t 1).val * 128 + 128) 1023, (grid0.coords t 0).val]
    ∧ win0_3.index t = ![0, 0, (grid0.coords t 0).val] :=
  (by decide +kernel : ∀ t : Fin grid0.N, _)

variable (m : (ℓ : Loc nD τ sig) → Buf (Elt Ideal) ℓ)

/-- The host's rearrangement of the cotangent: half `h`, row `n`, column `k` is row `n`, column `2816 h + k` of the argument. -/
theorem dc_apply (c : Dev nD) (i : S2x16384x2816.Idx) :
    V m c main_v3 i = m (c, main_arg0) (ix2 (i 1) ⟨(i 0).val * 2816 + (i 2).val, col_lt (i 0).isLt (i 2).isLt⟩) := by
  idx_vars i
  entry_read
  pointwise

/-- The host's rearrangement of the three taps, likewise. -/
theorem cw_apply (c : Dev nD) (i : S2x3x2816.Idx) :
    V m c main_v1 i = m (c, main_arg1) (ix2 (i 1) ⟨(i 0).val * 2816 + (i 2).val, col_lt (i 0).isLt (i 2).isLt⟩) := by
  idx_vars i
  entry_read
  pointwise

theorem point (c : Dev nD) (t : Fin cfg0.N) (y : S2x2048x256.Idx) (i : S2x16384x2816.Idx) (hi : i = (win0_4.blk t).view.emb y) :
    out0_4 (grid0.coords t) (iblk m c 0 t) (iblk m c 1 t) (iblk m c 2 t) (iblk m c 3 t) y
      = G (m (c, main_arg0)) (m (c, main_arg1)) i := by
  obtain ⟨i0, i4a, i4b, i4c, i1, i2, i3⟩ := idx t
  have hg : (grid0.coords t 1).val < 8 := (grid0.coords t 1).isLt
  have e0 : (i 0).val = (y 0).val := by rw [hi]; blk_simp; omega
  have e1 : (i 1).val = (grid0.coords t 1).val * 2048 + (y 1).val := by rw [hi]; blk_simp; omega
  have e2 : (i 2).val = (grid0.coords t 0).val * 256 + (y 2).val := by rw [hi]; blk_simp; omega
  clear hi
  canon_tiles x h using cover0_4 ..
  all_goals
    unfold_payloads
    pointwise [G, conv]
    simp (disch := word_cmp_side) only [hlo_ix, id_eq]
    simp only [iblk]
    blk_simp
    simp only [dc_apply, cw_apply]
    split_ifs
    all_goals first
      | (exfalso; omega)
      | blk_point [i0, i1, i2, i3, i4a, i4b, i4c]

theorem final (c : Dev nD) : (dats m 0 c).arrAt 4 cfg0.N = G (m (c, main_arg0)) (m (c, main_arg1)) := by
  refine (dats m 0 c).arrAt_eq_of_covers 4 _ (by decide +kernel) fun t hf y => ?_
  blk_simp
  rw [after0_4]
  exact point m c t y _ rfl

end Cert.ConvInIdeal.Value
end
-- ==== Proof.ConvIn.Ref.lean ====
module

public import proofs.«01_k».proof.Proof.ConvIn.Block
public import proofs.«01_k».proof.Proof.Gen.ConvInRefIdeal.Read

@[expose] public section

set_option maxRecDepth 16384

noncomputable section

open Idealize.ShloMosaic Idealize.ShloMosaic.TcCoe Idealize.SL.Sem

namespace Cert.ConvInRefIdeal.Read

open Cert.ConvInIdeal.Value (G conv)

set_option backward.isDefEq.respectTransparency false in
/-- The derivative of the three shifted products, at an index, is the gradient in closed form. -/
theorem ref_eq (d : S16384x5632.Idx → EReal) (w : S3x5632.Idx → EReal) : val_main_v49 (F := Ideal) d w = G d w := by
  funext i
  idx_vars i
  pointwise [val_main_v49, val_main_v48, val_main_v47, val_main_v46, val_main_v45, val_main_v44, val_main_v43, val_main_v42, val_main_v41, val_main_v39, val_main_v38,
    val_main_v36, val_main_v35, val_main_v34, val_main_v33, val_main_v32, val_main_v31, val_main_v30, val_main_v29, val_main_v22, val_main_v16, val_main_v11,
    val_main_v21, val_main_v20, val_main_v15, val_main_v14, val_main_v10, val_main_v9, val_main_cst_4, val_main_cst_5, G, conv]
  have hz : i0 = 0 ∨ i0 = 1 := by omega
  have hc : ∀ j, w j * 0 = 0 := fun j => mul_zero _
  rcases hz with rfl | rfl
  all_goals
    simp only [Fin.val_zero, Fin.val_one, Nat.zero_mul, Nat.one_mul, Nat.zero_add, Nat.add_comm 1 i1.val]
    split_ifs
    all_goals first
      | (exfalso; omega)
      | ((try simp only [hc, add_zero, zero_add]); try ac_rfl)

end Cert.ConvInRefIdeal.Read
end
-- ==== Proof.ConvIn.Claims.lean ====
module

public import proofs.«01_k».proof.Defs
public import proofs.«01_k».proof.Proof.ConvIn.Ref
public import proofs.«01_k».proof.Proof.Gen.ConvIn.Frame
public import proofs.«01_k».proof.Proof.Gen.ConvInRefIdeal.Run

@[expose] public section

noncomputable section

open Idealize.ShloMosaic Idealize.ShloMosaic.TcCoe Idealize.SL.Sem

namespace Cert.ConvInClaims

/-- The kernel terminates without fault, its arguments unchanged, every counter zero. -/
theorem frame : quiescent_ConvIn (hConvIn := Cert.ConvIn.Gen.facts) := fun m ρ _ => Cert.ConvIn.Gen.frame m ρ

/-- The ideal program, likewise. -/
theorem frame_ideal : quiescent_ConvInIdeal (hConvInIdeal := Cert.ConvInIdeal.Gen.facts) := fun m ρ _ => Cert.ConvInIdeal.Gen.frame m ρ

/-- The reference, likewise. -/
theorem frame_ref : quiescent_ConvInRefIdeal (hConvInRefIdeal := Cert.ConvInRefIdeal.Gen.facts) := fun m ρ _ =>
  (θ_run Cert.ConvInRefIdeal.defs _ _).mono (fun r h => ⟨fun c => (h c).2, sem_eq_zero_of_no_sems (by decide) r.2⟩)
    (Cert.ConvInRefIdeal.Value.run m ρ)

/-- Kernel and reference leave the same array. -/
theorem value : algebraic_ConvInIdeal_ConvInRefIdeal (hConvInIdeal := Cert.ConvInIdeal.Gen.facts) (hConvInRefIdeal := Cert.ConvInRefIdeal.Gen.facts) := by
  intro m ρ m' ρ' _ hargs
  refine ⟨fun c => Cert.ConvInIdeal.Value.G (m (c, Cert.ConvInIdeal.main_arg0)) (m (c, Cert.ConvInIdeal.main_arg1)), ?_, ?_⟩
  · exact (θ_run Cert.ConvInIdeal.defs _ _).mono (fun r h c => ⟨(h c).1.trans (Cert.ConvInIdeal.Value.final m c), (h c).2⟩)
      (Cert.ConvInIdeal.Value.run_blocks (F := Ideal) m ρ)
  · refine (θ_run Cert.ConvInRefIdeal.defs _ _).mono (fun r h c => ⟨(h c).1.trans ?_, (h c).2⟩) (Cert.ConvInRefIdeal.Value.run (F := Ideal) m' ρ')
    refine (Cert.ConvInRefIdeal.Read.val_main_v49_eq (F := Ideal) _ _).trans ?_
    rw [(hargs c).1, (hargs c).2]
    exact Cert.ConvInRefIdeal.Read.ref_eq _ _

end Cert.ConvInClaims
end
-- ==== Proof.Common.Pieces.lean ====
module

public import Idealize.ShloMosaic.Lib.Pipeline.ValueKit

@[expose] public section

namespace Idealize.ShloMosaic.View

open Idealize.SL

variable {Val : EltTy → Type} [∀ e, Nonempty (Val e)] {S : Shape} {e : EltTy}

/-- Stores read back at `y`: the newest where its box holds `y`, the older ones where it does not. -/
theorem canon_newest (off size : Fin S.rank → Nat) (inb : ∀ a, off a + size a ≤ S.size a) (w : (Rect.unit off size inb).shape.Idx → Val e)
    (L : List (Piece Val S e)) (y : S.Idx) (v : Val e)
    (hin : ∀ x : (⟨S.rank, size⟩ : Shape).Idx, (∀ a, (y a : Nat) = off a + x a) → w x = v)
    (hout : (¬ ∀ a, off a ≤ (y a : Nat) ∧ (y a : Nat) < off a + size a) → canon L y = v) :
    canon ((⟨Rect.unit off size inb, w⟩ : Piece Val S e) :: L) y = v := by
  by_cases hm : y ∈ (Rect.unit off size inb).set
  · obtain ⟨x, rfl⟩ := (Rect.unit off size inb).exists_idx_of_mem hm
    rw [show (Rect.unit off size inb).idx x = (Rect.unit off size inb).emb x from rfl, canon_cons_emb]
    exact hin x fun a => Rect.idx_unit_val off size inb x a
  · rw [canon_cons_of_not_mem _ _ hm]
    exact hout fun h => hm (Rect.mem_set_unit.mpr h)

/-- A load passes over a store whose box it misses. -/
theorem readCov_miss {sig : RefSig} {κ : Kind} {sp : Space} (v : View sig κ sp S e) (off size off' size' : Fin S.rank → Nat)
    (inb : ∀ a, off a + size a ≤ S.size a) (inb' : ∀ a, off' a + size' a ≤ S.size a) (w : (Rect.unit off size inb).shape.Idx → Val e)
    (L : List (Piece Val S e)) (h : ∃ a, off a + size a ≤ off' a ∨ off' a + size' a ≤ off a) :
    v.readCov ((⟨Rect.unit off size inb, w⟩ : Piece Val S e) :: L) (Rect.unit off' size' inb').toLoadRect
      = v.readCov L (Rect.unit off' size' inb').toLoadRect := by
  simp only [readCov_eq_canon']
  funext j
  refine canon_cons_of_not_mem _ _ fun hm => ?_
  obtain ⟨a, ha⟩ := h
  have h1 := (Rect.mem_set_unit (inb := inb)).mp hm a
  have h2 : (((Rect.unit off' size' inb').toLoadRect.idx j a : Fin _) : Nat) = off' a + (j a : Nat) := Rect.idx_unit_val off' size' inb' j a
  have h3 : (j a : Nat) < size' a := (j a).isLt
  omega

/-- A load of what one store through the whole array left. -/
theorem readCov_whole {sig : RefSig} {κ : Kind} {sp : Space} (v : View sig κ sp S e) (off off' size' : Fin S.rank → Nat)
    (inb : ∀ a, off a + S.size a ≤ S.size a) (inb' : ∀ a, off' a + size' a ≤ S.size a) (w : (Rect.unit off S.size inb).shape.Idx → Val e)
    (L : List (Piece Val S e)) :
    v.readCov ((⟨Rect.unit off (no_index S.size) inb, w⟩ : Piece Val S e) :: L) (Rect.unit off' size' inb').toLoadRect
      = fun j => w ((Rect.unit off' size' inb').toLoadRect.idx j) := by
  simp only [readCov_eq_canon']
  funext j
  refine canon_newest off S.size inb w L _ _ (fun x h => congrArg w (funext fun a => Fin.ext ?_)) fun h => absurd (fun a => ?_) h
  · have := h a
    have := inb a
    show (x a : Nat) = _
    omega
  · have h1 := inb a
    have h2 := ((Rect.unit off' size' inb').toLoadRect.idx j a).isLt
    omega

end Idealize.ShloMosaic.View
end
-- ==== Proof.Merge.Block.lean ====
module

public import proofs.«01_k».proof.Proof.Gen.MergeIdeal.Value
public import proofs.«01_k».proof.Proof.Common.Pieces
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

/-! ## The gradients, entry by entry

`dy` is the cotangent, `wo` the output projection, `p` the joint projection whose columns from 1536 on are the gates' logits, `o` an attention's
output and `w` its projection. -/

/-- The gradient of the gated sum. -/
def dm (dy : S16384x1024.Idx → EReal) (wo : S1024x1024.Idx → EReal) (n : Fin 16384) (j : Fin 1024) : EReal :=
  ∑ k : Fin 1024, dy (ix2 n k) * wo (ix2 j k)

/-- The gates: the sigmoid of the logits. -/
def gate (p : S16384x3584.Idx → EReal) (n : Fin 16384) (j : Fin 2048) : EReal :=
  Ideal.div 1 (1 + Ideal.exp (0 - p (ix2 n ⟨1536 + j.val, by omega⟩)))

/-- An attention's output, projected. -/
def proj (o : S16384x512.Idx → EReal) (w : S512x1024.Idx → EReal) (n : Fin 16384) (j : Fin 1024) : EReal :=
  ∑ k : Fin 512, o (ix2 n k) * w (ix2 k j)

/-- The gradient of the projected output of the first attention, … -/
def dpa (dy : S16384x1024.Idx → EReal) (p : S16384x3584.Idx → EReal) (wo : S1024x1024.Idx → EReal) (n : Fin 16384) (j : Fin 1024) : EReal :=
  dm dy wo n j * gate p n ⟨j.val, by omega⟩

/-- … and of the second. -/
def dpb (dy : S16384x1024.Idx → EReal) (p : S16384x3584.Idx → EReal) (wo : S1024x1024.Idx → EReal) (n : Fin 16384) (j : Fin 1024) : EReal :=
  dm dy wo n j * gate p n ⟨1024 + j.val, by omega⟩

/-- The head's row `r` of 128: heads 0 to 3 fill the upper 64 rows, heads 4 to 7 the lower, the others are zero. -/
def padded (f : Fin 512 → EReal) (h : Fin 8) (r : Fin 128) : EReal :=
  if h.val < 4 ↔ r.val < 64 then f ⟨h.val * 64 + r.val % 64, by omega⟩ else 0

/-- The gradient of the gates' logits. -/
def Gdgl (dy : S16384x1024.Idx → EReal) (oa ob : S16384x512.Idx → EReal) (p : S16384x3584.Idx → EReal) (wa wb : S512x1024.Idx → EReal)
    (wo : S1024x1024.Idx → EReal) : S16384x2048.Idx → EReal := fun i =>
  (if h : (i 1).val < 1024 then dm dy wo (i 0) ⟨(i 1).val, h⟩ * proj oa wa (i 0) ⟨(i 1).val, h⟩
    else dm dy wo (i 0) ⟨(i 1).val - 1024, by have := (i 1).isLt; simp at this; omega⟩
      * proj ob wb (i 0) ⟨(i 1).val - 1024, by have := (i 1).isLt; simp at this; omega⟩)
    * gate p (i 0) (i 1) * (1 - gate p (i 0) (i 1))

/-- The gradient of an attention's output, packed by head, from the gradient `d` of its projection. -/
def Gdo (d : Fin 16384 → Fin 1024 → EReal) (w : S512x1024.Idx → EReal) : S8x128x16384.Idx → EReal := fun i =>
  ∑ k : Fin 1024, padded (fun q => w (ix2 q k)) (i 0) (i 1) * d (i 2) k

/-- The gradient of an attention's projection, packed by head. -/
def Gdw (d : Fin 16384 → Fin 1024 → EReal) (o : S16384x512.Idx → EReal) : S8x128x1024.Idx → EReal := fun i =>
  ∑ n : Fin 16384, padded (fun q => o (ix2 n q)) (i 0) (i 1) * d n (i 2)

/-! ## What the host prepares -/

variable (m : (ℓ : Loc nD τ sig) → Buf (Elt Ideal) ℓ)

theorem first_heads (h : Fin 8) :
    IntOp.cmpi CmpIPredicate.slt (BitVec.ofNat 32 h.val) 4#32 = if h.val < 4 then 1#1 else 0#1 := by
  revert h
  decide

theorem word_zero : (FloatOps.sitofp (F := Ideal) FTy.bf16 0#32 : EReal) = 0 := by
  show ((((0#32 : BitVec 32).toInt : ℤ) : ℝ) : EReal) = 0
  simp

theorem host_v2 (c : Dev nD) : ∀ i, V m c main_v2 i = proj (m (c, main_arg1)) (m (c, main_arg4)) (i 0) (i 1) := by
  intro i
  idx_vars i
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_reads_at
  all_goals (try after_reads_at)
  all_goals (try pointwise [proj, padded])

theorem host_v5 (c : Dev nD) : ∀ i, V m c main_v5 i = proj (m (c, main_arg2)) (m (c, main_arg5)) (i 0) (i 1) := by
  intro i
  idx_vars i
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_reads_at
  all_goals (try after_reads_at)
  all_goals (try pointwise [proj, padded])

theorem host_v13 (c : Dev nD) : ∀ i, V m c main_v13 i = padded (fun q => m (c, main_arg1) (ix2 (i 2) q)) (i 0) (i 1) := by
  intro i
  idx_vars i
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_reads_at
  all_goals (try after_reads_at)
  all_goals (try pointwise [proj, padded])
  simp only [first_heads, word_zero]
  have hm : i1.val % 64 = if i1.val < 64 then i1.val else i1.val - 64 := by have hr := i1.isLt; split_ifs <;> omega
  by_cases h4 : i0.val < 4 <;> by_cases h64 : i1.val < 64 <;> simp [h4, h64, Scalar.select, hm]

theorem host_v21 (c : Dev nD) : ∀ i, V m c main_v21 i = padded (fun q => m (c, main_arg2) (ix2 (i 2) q)) (i 0) (i 1) := by
  intro i
  idx_vars i
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_reads_at
  all_goals (try after_reads_at)
  all_goals (try pointwise [proj, padded])
  simp only [first_heads, word_zero]
  have hm : i1.val % 64 = if i1.val < 64 then i1.val else i1.val - 64 := by have hr := i1.isLt; split_ifs <;> omega
  by_cases h4 : i0.val < 4 <;> by_cases h64 : i1.val < 64 <;> simp [h4, h64, Scalar.select, hm]

theorem host_v31 (c : Dev nD) : ∀ i, V m c main_v31 i = padded (fun q => m (c, main_arg4) (ix2 q (i 2))) (i 0) (i 1) := by
  intro i
  idx_vars i
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_reads_at
  all_goals (try after_reads_at)
  all_goals (try pointwise [proj, padded])
  simp only [first_heads, word_zero]
  have hm : i1.val % 64 = if i1.val < 64 then i1.val else i1.val - 64 := by have hr := i1.isLt; split_ifs <;> omega
  by_cases h4 : i0.val < 4 <;> by_cases h64 : i1.val < 64 <;> simp [h4, h64, Scalar.select, hm]

theorem host_v41 (c : Dev nD) : ∀ i, V m c main_v41 i = padded (fun q => m (c, main_arg5) (ix2 q (i 2))) (i 0) (i 1) := by
  intro i
  idx_vars i
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_reads_at
  all_goals (try after_reads_at)
  all_goals (try pointwise [proj, padded])
  simp only [first_heads, word_zero]
  have hm : i1.val % 64 = if i1.val < 64 then i1.val else i1.val - 64 := by have hr := i1.isLt; split_ifs <;> omega
  by_cases h4 : i0.val < 4 <;> by_cases h64 : i1.val < 64 <;> simp [h4, h64, Scalar.select, hm]

theorem host_v42 (c : Dev nD) : ∀ i, V m c main_v42 i = m (c, main_arg6) i := by
  intro i
  idx_vars i
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil,
    List.cons_append, List.nil_append]
  after_reads_at
  all_goals (try after_reads_at)
  all_goals (try pointwise [proj, padded])

/-- The arrays that the host prepares: both projected outputs, both outputs and both projections packed by head. -/
theorem host_apply (c : Dev nD) :
    (∀ i, V m c main_v2 i = proj (m (c, main_arg1)) (m (c, main_arg4)) (i 0) (i 1))
    ∧ (∀ i, V m c main_v5 i = proj (m (c, main_arg2)) (m (c, main_arg5)) (i 0) (i 1))
    ∧ (∀ i, V m c main_v13 i = padded (fun q => m (c, main_arg1) (ix2 (i 2) q)) (i 0) (i 1))
    ∧ (∀ i, V m c main_v21 i = padded (fun q => m (c, main_arg2) (ix2 (i 2) q)) (i 0) (i 1))
    ∧ (∀ i, V m c main_v31 i = padded (fun q => m (c, main_arg4) (ix2 q (i 2))) (i 0) (i 1))
    ∧ (∀ i, V m c main_v41 i = padded (fun q => m (c, main_arg5) (ix2 q (i 2))) (i 0) (i 1))
    ∧ (∀ i, V m c main_v42 i = m (c, main_arg6) i) :=
  ⟨host_v2 m c, host_v5 m c, host_v13 m c, host_v21 m c, host_v31 m c, host_v41 m c, host_v42 m c⟩

/-! ## The blocks -/

theorem idx : ∀ t : Fin cfg0.N, win0_0.index t = ![t.val, 0] ∧ win0_1.index t = ![0, 0, t.val] ∧ win0_2.index t = ![0, 0, t.val]
    ∧ win0_3.index t = ![t.val, 0] ∧ win0_4.index t = ![t.val, 0]
    ∧ win0_5.index t = ![t.val, 3] ∧ win0_6.index t = ![t.val, 4] ∧ win0_7.index t = ![t.val, 5] ∧ win0_8.index t = ![t.val, 6]
    ∧ win0_9.index t = ![0, 0, 0] ∧ win0_10.index t = ![0, 0, 0] ∧ win0_11.index t = ![0, 0]
    ∧ win0_12.index t = ![t.val, 0] ∧ win0_13.index t = ![0, 0, t.val] ∧ win0_14.index t = ![0, 0, t.val] :=
  (by decide +kernel : ∀ t : Fin grid0.N, _)

theorem row_lt (t : Fin cfg0.N) (r : Fin 256) : t.val * 256 + r.val < 16384 := by
  have : t.val < 64 := t.isLt
  omega

/-- Row `r` of point `t`'s blocks is this row of the arrays. -/
abbrev row (t : Fin cfg0.N) (r : Fin 256) : Fin 16384 := ⟨t.val * 256 + r.val, row_lt t r⟩

/-- What each window's block holds. -/
theorem blk_rows (c : Dev nD) (t : Fin cfg0.N) :
    (∀ r k, iblk m c 0 t (ix2 r k) = m (c, main_arg0) (ix2 (row t r) k))
    ∧ (∀ r k, iblk m c 3 t (ix2 r k) = proj (m (c, main_arg1)) (m (c, main_arg4)) (row t r) k)
    ∧ (∀ r k, iblk m c 4 t (ix2 r k) = proj (m (c, main_arg2)) (m (c, main_arg5)) (row t r) k)
    ∧ (∀ r k, iblk m c 5 t (ix2 r k) = m (c, main_arg3) (ix2 (row t r) ⟨3 * 512 + k.val, by have := k.isLt; simp at this; omega⟩))
    ∧ (∀ r k, iblk m c 6 t (ix2 r k) = m (c, main_arg3) (ix2 (row t r) ⟨4 * 512 + k.val, by have := k.isLt; simp at this; omega⟩))
    ∧ (∀ r k, iblk m c 7 t (ix2 r k) = m (c, main_arg3) (ix2 (row t r) ⟨5 * 512 + k.val, by have := k.isLt; simp at this; omega⟩))
    ∧ (∀ r k, iblk m c 8 t (ix2 r k) = m (c, main_arg3) (ix2 (row t r) ⟨6 * 512 + k.val, by have := k.isLt; simp at this; omega⟩)) := by
  obtain ⟨h2, h5, -⟩ := host_apply m c
  obtain ⟨i0, -, -, i3, i4, i5, i6, i7, i8, -⟩ := idx t
  refine ⟨fun r k => ?_, fun r k => (?_ : _ = V m c main_v2 (ix2 (row t r) k)).trans (h2 _),
    fun r k => (?_ : _ = V m c main_v5 (ix2 (row t r) k)).trans (h5 _), fun r k => ?_, fun r k => ?_, fun r k => ?_, fun r k => ?_⟩
  all_goals
    simp only [iblk]
    blk_point [i0, i3, i4, i5, i6, i7, i8]

theorem blk_heads (c : Dev nD) (t : Fin cfg0.N) :
    (∀ h r k, iblk m c 1 t (ix3 h r k) = padded (fun q => m (c, main_arg1) (ix2 (row t k) q)) h r)
    ∧ (∀ h r k, iblk m c 2 t (ix3 h r k) = padded (fun q => m (c, main_arg2) (ix2 (row t k) q)) h r)
    ∧ (∀ h r k, iblk m c 9 t (ix3 h r k) = padded (fun q => m (c, main_arg4) (ix2 q k)) h r)
    ∧ (∀ h r k, iblk m c 10 t (ix3 h r k) = padded (fun q => m (c, main_arg5) (ix2 q k)) h r)
    ∧ (∀ r k, iblk m c 11 t (ix2 r k) = m (c, main_arg6) (ix2 r k)) := by
  obtain ⟨-, -, h13, h21, h31, h41, h42⟩ := host_apply m c
  obtain ⟨-, i1, i2, -, -, -, -, -, -, i9, i10, i11, -⟩ := idx t
  refine ⟨fun h r k => (?_ : _ = V m c main_v13 (ix3 h r (row t k))).trans (h13 _),
    fun h r k => (?_ : _ = V m c main_v21 (ix3 h r (row t k))).trans (h21 _),
    fun h r k => (?_ : _ = V m c main_v31 (ix3 h r k)).trans (h31 _), fun h r k => (?_ : _ = V m c main_v41 (ix3 h r k)).trans (h41 _),
    fun r k => (?_ : _ = V m c main_v42 (ix2 r k)).trans (h42 _)⟩
  all_goals
    simp only [iblk]
    blk_point [i1, i2, i9, i10, i11]

end Cert.MergeIdeal.Value
end
-- ==== Proof.Merge.Rows.lean ====
module

public import proofs.«01_k».proof.Proof.Merge.Block
public import proofs.«01_k».proof.Proof.Common.Pieces
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- The gates as the kernel reads them, out of two blocks of 512 columns each: the first attention's, … -/
theorem gate_a (p : S16384x3584.Idx → EReal) (n : Fin 16384) (j : Fin 1024) :
    Ideal.div 1 (1 + Ideal.exp (0 - if h : j.val < 512 then p (ix2 n ⟨3 * 512 + j.val, by omega⟩)
      else p (ix2 n ⟨4 * 512 + (j.val - 512), by omega⟩))) = gate p n ⟨j.val, by omega⟩ := by
  unfold gate
  split_ifs with h
  · rfl
  · rw [show (⟨4 * 512 + (j.val - 512), by omega⟩ : Fin 3584) = ⟨1536 + j.val, by omega⟩ from Fin.ext (by simp only; omega)]

/-- … and the second's. -/
theorem gate_b (p : S16384x3584.Idx → EReal) (n : Fin 16384) (j : Fin 1024) :
    Ideal.div 1 (1 + Ideal.exp (0 - if h : j.val < 512 then p (ix2 n ⟨5 * 512 + j.val, by omega⟩)
      else p (ix2 n ⟨6 * 512 + (j.val - 512), by omega⟩))) = gate p n ⟨1024 + j.val, by omega⟩ := by
  unfold gate
  split_ifs with h
  · rw [show (⟨5 * 512 + j.val, by omega⟩ : Fin 3584) = ⟨1536 + (1024 + j.val), by omega⟩ from Fin.ext (by simp only; omega)]
  · rw [show (⟨6 * 512 + (j.val - 512), by omega⟩ : Fin 3584) = ⟨1536 + (1024 + j.val), by omega⟩ from Fin.ext (by simp only; omega)]

theorem head_of {y : Fin 8} {k : ℕ} (x : Fin 1) (hk : k < 8) (h : y.val = k + x.val) : y = ⟨k, hk⟩ :=
  Fin.ext (by simp only; omega)

theorem head_zero {y : Fin 8} {x : Fin 1} (h : y.val = x.val) : y = 0 := Fin.ext (by simp; omega)

theorem col_lo {y : Fin 2048} {x : Fin 1024} (h : y.val = x.val) : y = ⟨x.val, Nat.lt_trans x.isLt (by decide)⟩ := Fin.ext h

theorem col_hi {y : Fin 2048} {x : Fin 1024} (h : y.val = 1024 + x.val) : y = ⟨1024 + x.val, Nat.add_lt_add_left x.isLt 1024⟩ := Fin.ext h

/-- A sum over 1024 columns is the sum over the two halves of 512. -/
theorem sum_halves (f : Fin 1024 → EReal) :
    ∑ x, f x = ∑ x : Fin 512, f ⟨x.val, by omega⟩ + ∑ x : Fin 512, f ⟨512 + x.val, by omega⟩ :=
  Fin.sum_univ_add (a := 512) (b := 512) f

theorem gate_0 (p : S16384x3584.Idx → EReal) (n : Fin 16384) (x : Fin 512) :
    Ideal.div 1 (1 + Ideal.exp (0 - p (ix2 n ⟨3 * 512 + x.val, by omega⟩))) = gate p n ⟨x.val, by omega⟩ := rfl

theorem gate_1 (p : S16384x3584.Idx → EReal) (n : Fin 16384) (x : Fin 512) :
    Ideal.div 1 (1 + Ideal.exp (0 - p (ix2 n ⟨4 * 512 + x.val, by omega⟩))) = gate p n ⟨512 + x.val, by omega⟩ := by
  unfold gate
  rw [show (⟨4 * 512 + x.val, by omega⟩ : Fin 3584) = ⟨1536 + (512 + x.val), by omega⟩ from Fin.ext (by simp only; omega)]

theorem gate_2 (p : S16384x3584.Idx → EReal) (n : Fin 16384) (x : Fin 512) :
    Ideal.div 1 (1 + Ideal.exp (0 - p (ix2 n ⟨5 * 512 + x.val, by omega⟩))) = gate p n ⟨1024 + x.val, by omega⟩ := by
  unfold gate
  rw [show (⟨5 * 512 + x.val, by omega⟩ : Fin 3584) = ⟨1536 + (1024 + x.val), by omega⟩ from Fin.ext (by simp only; omega)]

theorem gate_3 (p : S16384x3584.Idx → EReal) (n : Fin 16384) (x : Fin 512) :
    Ideal.div 1 (1 + Ideal.exp (0 - p (ix2 n ⟨6 * 512 + x.val, by omega⟩))) = gate p n ⟨1024 + (512 + x.val), by omega⟩ := by
  unfold gate
  rw [show (⟨6 * 512 + x.val, by omega⟩ : Fin 3584) = ⟨1536 + (1024 + (512 + x.val)), by omega⟩ from Fin.ext (by simp only; omega)]

set_option maxHeartbeats 2000000 in
theorem point12 (c : Dev nD) (t : Fin cfg0.N) (y : S256x2048.Idx) :
    (outsAt0 m c t.val t.isLt).1 y = Gdgl (m (c, main_arg0)) (m (c, main_arg1)) (m (c, main_arg2)) (m (c, main_arg3)) (m (c, main_arg4))
      (m (c, main_arg5)) (m (c, main_arg6)) (ix2 (row t (y 0)) (y 1)) := by
  obtain ⟨b0, b3, b4, b5, b6, b7, b8⟩ := blk_rows m c t
  obtain ⟨-, -, -, -, b11⟩ := blk_heads m c t
  idx_vars y
  by_cases hz : t.val % 64 = 0
  on_goal 1 => rw [outsAt0_A m c t hz]
  on_goal 2 => rw [outsAt0_B m c t hz]
  all_goals
    frame_out
    canon_tiles x h
  all_goals
    idx_vars x
    unfold_payloads
    pointwise [Gdgl]
    simp only [b0, b3, b4, b5, b6, b7, b8, b11, dm, gate_a, gate_b]
    obtain rfl : y0 = x0 := Fin.ext h0
    first
      | (have e := col_hi h1; subst e; rw [dif_neg (by simp)]; simp only [Nat.add_sub_cancel_left])
      | (have e := col_lo h1; subst e; rw [dif_pos x1.isLt])

set_option maxHeartbeats 2000000 in
theorem point13 (c : Dev nD) (t : Fin cfg0.N) (y : S8x128x256.Idx) :
    (outsAt0 m c t.val t.isLt).2.1 y = Gdo (dpa (m (c, main_arg0)) (m (c, main_arg3)) (m (c, main_arg6))) (m (c, main_arg4))
      (ix3 (y 0) (y 1) (row t (y 2))) := by
  obtain ⟨b0, -, -, b5, b6, b7, b8⟩ := blk_rows m c t
  obtain ⟨-, -, b9, -, b11⟩ := blk_heads m c t
  idx_vars y
  by_cases hz : t.val % 64 = 0
  on_goal 1 => rw [outsAt0_A m c t hz]
  on_goal 2 => rw [outsAt0_B m c t hz]
  all_goals
    frame_out
    canon_tiles x h
  all_goals
    idx_vars x
    unfold_payloads
    pointwise [Gdo]
    rw [sum_halves]
    simp only [b0, b5, b6, b9, b11, dpa, dm, gate_0, gate_1]
    obtain rfl : y1 = x1 := Fin.ext h1
    obtain rfl : y2 = x2 := Fin.ext h2
    first | (have e := head_of _ (by decide) h0; subst e) | (have e := head_zero h0; subst e)
    rfl

set_option maxHeartbeats 2000000 in
theorem point14 (c : Dev nD) (t : Fin cfg0.N) (y : S8x128x256.Idx) :
    (outsAt0 m c t.val t.isLt).2.2.1 y = Gdo (dpb (m (c, main_arg0)) (m (c, main_arg3)) (m (c, main_arg6))) (m (c, main_arg5))
      (ix3 (y 0) (y 1) (row t (y 2))) := by
  obtain ⟨b0, -, -, b5, b6, b7, b8⟩ := blk_rows m c t
  obtain ⟨-, -, -, b10, b11⟩ := blk_heads m c t
  idx_vars y
  by_cases hz : t.val % 64 = 0
  on_goal 1 => rw [outsAt0_A m c t hz]
  on_goal 2 => rw [outsAt0_B m c t hz]
  all_goals
    frame_out
    canon_tiles x h
  all_goals
    idx_vars x
    unfold_payloads
    pointwise [Gdo]
    rw [sum_halves]
    simp only [b0, b7, b8, b10, b11, dpb, dm, gate_2, gate_3]
    obtain rfl : y1 = x1 := Fin.ext h1
    obtain rfl : y2 = x2 := Fin.ext h2
    first | (have e := head_of _ (by decide) h0; subst e) | (have e := head_zero h0; subst e)
    rfl

end Cert.MergeIdeal.Value
end
-- ==== Proof.Merge.Acc.lean ====
module

public import proofs.«01_k».proof.Proof.Merge.Rows
public import proofs.«01_k».proof.Proof.Common.Pieces
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- An index that head `k`'s box does not hold is one of another head. -/
theorem not_head {k : ℕ} {y0 : Fin 8} {y1 : Fin 128} {y2 : Fin 1024}
    (h : ¬∀ a, (![k, 0, 0] : Fin 3 → ℕ) a ≤ ((ix3 y0 y1 y2 : S8x128x1024.Idx) a).val
      ∧ ((ix3 y0 y1 y2 : S8x128x1024.Idx) a).val < (![k, 0, 0] : Fin 3 → ℕ) a + (![1, 128, 1024] : Fin 3 → ℕ) a) :
    y0.val ≠ k := by
  rintro rfl
  refine h fun a => ?_
  fin_cases a
  · exact ⟨Nat.le_refl _, Nat.lt_succ_self _⟩
  · exact ⟨Nat.zero_le _, by simpa using y1.isLt⟩
  · exact ⟨Nat.zero_le _, by simpa using y2.isLt⟩

set_option maxHeartbeats 2000000 in
theorem point15A (c : Dev nD) (t : Fin cfg0.N) (y : S8x128x1024.Idx) (hz : t.val % 64 = 0) :
    (outsAt0 m c t.val t.isLt).2.2.2.1 y = 0 + ∑ k, padded (fun q => m (c, main_arg1) (ix2 (row t k) q)) (y 0) (y 1)
      * dpa (m (c, main_arg0)) (m (c, main_arg3)) (m (c, main_arg6)) (row t k) (y 2) := by
  obtain ⟨b0, -, -, b5, b6, b7, b8⟩ := blk_rows m c t
  obtain ⟨b1, b2, -, -, b11⟩ := blk_heads m c t
  idx_vars y
  rw [outsAt0_A m c t hz]
  frame_out
  simp (disch := decide) only [View.readCov_miss, View.readCov_whole]
  iterate 8
    refine View.canon_newest _ _ _ _ _ _ _ (fun x h => ?_) (fun hn => ?_)
    on_goal 2 => replace hn := not_head hn
    · have h0 : y0.val = _ := h 0
      have h1 : y1.val = _ := h 1
      have h2 : y2.val = _ := h 2
      idx_vars x
      unfold_payloads
      pointwise
      simp only [b0, b1, b5, b6, b11, dpa, dm, gate_a, zero_add]
      obtain rfl : y1 = x1 := Fin.ext (by simpa using h1)
      obtain rfl : y2 = x2 := Fin.ext (by simpa using h2)
      first | (have e := head_of _ (by decide) h0; subst e) | (have e := head_zero h0; subst e)
      rfl
  omega

set_option maxHeartbeats 2000000 in
theorem point15B (c : Dev nD) (t : Fin cfg0.N) (y : S8x128x1024.Idx) (hz : ¬t.val % 64 = 0) :
    (outsAt0 m c t.val t.isLt).2.2.2.1 y = (outsAt0 m c (t.val - 1) (Nat.lt_of_le_of_lt (Nat.sub_le _ _) t.isLt)).2.2.2.1 y
      + ∑ k, padded (fun q => m (c, main_arg1) (ix2 (row t k) q)) (y 0) (y 1)
      * dpa (m (c, main_arg0)) (m (c, main_arg3)) (m (c, main_arg6)) (row t k) (y 2) := by
  obtain ⟨b0, -, -, b5, b6, b7, b8⟩ := blk_rows m c t
  obtain ⟨b1, b2, -, -, b11⟩ := blk_heads m c t
  idx_vars y
  rw [outsAt0_B m c t hz]
  frame_out
  canon_tiles x h
  all_goals
    idx_vars x
    unfold_payloads
    pointwise
    simp only [b0, b1, b5, b6, b11, dpa, dm, gate_a]
    obtain rfl : y1 = x1 := Fin.ext h1
    obtain rfl : y2 = x2 := Fin.ext h2
    first | (have e := head_of _ (by decide) h0; subst e) | (have e := head_zero h0; subst e)
    rfl

set_option maxHeartbeats 2000000 in
theorem point16A (c : Dev nD) (t : Fin cfg0.N) (y : S8x128x1024.Idx) (hz : t.val % 64 = 0) :
    (outsAt0 m c t.val t.isLt).2.2.2.2 y = 0 + ∑ k, padded (fun q => m (c, main_arg2) (ix2 (row t k) q)) (y 0) (y 1)
      * dpb (m (c, main_arg0)) (m (c, main_arg3)) (m (c, main_arg6)) (row t k) (y 2) := by
  obtain ⟨b0, -, -, b5, b6, b7, b8⟩ := blk_rows m c t
  obtain ⟨b1, b2, -, -, b11⟩ := blk_heads m c t
  idx_vars y
  rw [outsAt0_A m c t hz]
  frame_out
  simp (disch := decide) only [View.readCov_miss, View.readCov_whole]
  iterate 8
    refine View.canon_newest _ _ _ _ _ _ _ (fun x h => ?_) (fun hn => ?_)
    on_goal 2 => replace hn := not_head hn
    · have h0 : y0.val = _ := h 0
      have h1 : y1.val = _ := h 1
      have h2 : y2.val = _ := h 2
      idx_vars x
      unfold_payloads
      pointwise
      simp only [b0, b2, b7, b8, b11, dpb, dm, gate_b, zero_add]
      obtain rfl : y1 = x1 := Fin.ext (by simpa using h1)
      obtain rfl : y2 = x2 := Fin.ext (by simpa using h2)
      first | (have e := head_of _ (by decide) h0; subst e) | (have e := head_zero h0; subst e)
      rfl
  omega

set_option maxHeartbeats 2000000 in
theorem point16B (c : Dev nD) (t : Fin cfg0.N) (y : S8x128x1024.Idx) (hz : ¬t.val % 64 = 0) :
    (outsAt0 m c t.val t.isLt).2.2.2.2 y = (outsAt0 m c (t.val - 1) (Nat.lt_of_le_of_lt (Nat.sub_le _ _) t.isLt)).2.2.2.2 y
      + ∑ k, padded (fun q => m (c, main_arg2) (ix2 (row t k) q)) (y 0) (y 1)
      * dpb (m (c, main_arg0)) (m (c, main_arg3)) (m (c, main_arg6)) (row t k) (y 2) := by
  obtain ⟨b0, -, -, b5, b6, b7, b8⟩ := blk_rows m c t
  obtain ⟨b1, b2, -, -, b11⟩ := blk_heads m c t
  idx_vars y
  rw [outsAt0_B m c t hz]
  frame_out
  canon_tiles x h
  all_goals
    idx_vars x
    unfold_payloads
    pointwise
    simp only [b0, b2, b7, b8, b11, dpb, dm, gate_b]
    obtain rfl : y1 = x1 := Fin.ext h1
    obtain rfl : y2 = x2 := Fin.ext h2
    first | (have e := head_of _ (by decide) h0; subst e) | (have e := head_zero h0; subst e)
    rfl

end Cert.MergeIdeal.Value
end
-- ==== Proof.Merge.Final.lean ====
module

public import proofs.«01_k».proof.Proof.Merge.Acc

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

theorem idx_acc : ∀ t : Fin cfg0.N, win0_15.index t = ![0, 0, 0] ∧ win0_16.index t = ![0, 0, 0] :=
  (by decide +kernel : ∀ t : Fin grid0.N, _)

/-- What the kernel leaves: the gradient of the logits, … -/
theorem final12 (c : Dev nD) : (dats m 0 c).arrAt 12 cfg0.N
    = Gdgl (m (c, main_arg0)) (m (c, main_arg1)) (m (c, main_arg2)) (m (c, main_arg3)) (m (c, main_arg4)) (m (c, main_arg5)) (m (c, main_arg6)) := by
  refine (dats m 0 c).arrAt_eq_of_covers 12 _ (by decide +kernel) fun t hf y => ?_
  blk_simp
  rw [after0_12]
  refine (point12 m c t y).trans (congrArg _ ?_)
  blk_ext [idx t, row]

/-- … of the first attention's output, … -/
theorem final13 (c : Dev nD) : (dats m 0 c).arrAt 13 cfg0.N
    = Gdo (dpa (m (c, main_arg0)) (m (c, main_arg3)) (m (c, main_arg6))) (m (c, main_arg4)) := by
  refine (dats m 0 c).arrAt_eq_of_covers 13 _ (by decide +kernel) fun t hf y => ?_
  blk_simp
  rw [after0_13]
  refine (point13 m c t y).trans (congrArg _ ?_)
  blk_ext [idx t, row]

/-- … of the second's, … -/
theorem final14 (c : Dev nD) : (dats m 0 c).arrAt 14 cfg0.N
    = Gdo (dpb (m (c, main_arg0)) (m (c, main_arg3)) (m (c, main_arg6))) (m (c, main_arg5)) := by
  refine (dats m 0 c).arrAt_eq_of_covers 14 _ (by decide +kernel) fun t hf y => ?_
  blk_simp
  rw [after0_14]
  refine (point14 m c t y).trans (congrArg _ ?_)
  blk_ext [idx t, row]

/-- … of the first projection, summed over the blocks of rows, … -/
theorem final15 (c : Dev nD) : (dats m 0 c).arrAt 15 cfg0.N
    = Gdw (dpa (m (c, main_arg0)) (m (c, main_arg3)) (m (c, main_arg6))) (m (c, main_arg1)) := by
  refine (dats m 0 c).arrAt_eq_of_covers 15 _ (by decide +kernel) fun t hf y => ?_
  have ht : t.val + 1 = cfg0.N := by have h := (flush0_15 t).mp hf; have := t.isLt; have e : cfg0.N = 64 := rfl; omega
  blk_simp
  rw [after0_15, Pipeline.eq_sum_fin_of_reset_step_apply_last (fun n h => (outsAt0 m c n h).2.2.2.1) 64 (fun _ => 0) _
    (fun t h y => point15A m c t y h) (fun t h y => point15B m c t y h) (by decide) t ht y, zero_add]
  refine (Fin.sum_mul_add_congr (S := 64) (n := 256) (f := fun n => padded (fun q => m (c, main_arg1) (ix2 n q)) (y 0) (y 1)
      * dpa (m (c, main_arg0)) (m (c, main_arg3)) (m (c, main_arg6)) n (y 2)) fun s k hl => rfl).trans ?_
  refine congrArg (Gdw (dpa _ _ _) _) (a₁ := ix3 (y 0) (y 1) (y 2)) ?_
  blk_ext [idx_acc t]

/-- … and of the second. -/
theorem final16 (c : Dev nD) : (dats m 0 c).arrAt 16 cfg0.N
    = Gdw (dpb (m (c, main_arg0)) (m (c, main_arg3)) (m (c, main_arg6))) (m (c, main_arg2)) := by
  refine (dats m 0 c).arrAt_eq_of_covers 16 _ (by decide +kernel) fun t hf y => ?_
  have ht : t.val + 1 = cfg0.N := by have h := (flush0_16 t).mp hf; have := t.isLt; have e : cfg0.N = 64 := rfl; omega
  blk_simp
  rw [after0_16, Pipeline.eq_sum_fin_of_reset_step_apply_last (fun n h => (outsAt0 m c n h).2.2.2.2) 64 (fun _ => 0) _
    (fun t h y => point16A m c t y h) (fun t h y => point16B m c t y h) (by decide) t ht y, zero_add]
  refine (Fin.sum_mul_add_congr (S := 64) (n := 256) (f := fun n => padded (fun q => m (c, main_arg2) (ix2 n q)) (y 0) (y 1)
      * dpb (m (c, main_arg0)) (m (c, main_arg3)) (m (c, main_arg6)) n (y 2)) fun s k hl => rfl).trans ?_
  refine congrArg (Gdw (dpb _ _ _) _) (a₁ := ix3 (y 0) (y 1) (y 2)) ?_
  blk_ext [idx_acc t]

end Cert.MergeIdeal.Value
end
-- ==== Proof.Merge.Ref.lean ====
module

public import proofs.«01_k».proof.Proof.Merge.Block
public import proofs.«01_k».proof.Proof.Gen.MergeRefIdeal.Read

@[expose] public section

set_option maxRecDepth 16384

noncomputable section

open Idealize.ShloMosaic Idealize.ShloMosaic.TcCoe Idealize.SL.Sem

namespace Cert.MergeRefIdeal.Read

open Cert.MergeIdeal.Value (Gdgl Gdo Gdw gate dm proj dpa dpb padded)

variable (dy : S16384x1024.Idx → EReal) (oa ob : S16384x512.Idx → EReal) (p : S16384x3584.Idx → EReal) (wa wb : S512x1024.Idx → EReal)
  (wo : S1024x1024.Idx → EReal)

theorem word_zero' : (FloatOps.sitofp (F := Ideal) FTy.f32 0#32 : EReal) = 0 := by
  show ((((0#32 : BitVec 32).toInt : ℤ) : ℝ) : EReal) = 0
  simp

/-- A sum of packed rows is the packed row of the sums. -/
theorem sum_padded {n : ℕ} (f : Fin n → Fin 512 → EReal) (d : Fin n → EReal) (h : Fin 8) (r : Fin 128) :
    ∑ k, padded (f k) h r * d k = padded (fun q => ∑ k, f k q * d k) h r := by
  unfold padded
  split_ifs <;> simp

/-- Packing as two halves, each padded with a value that is zero. -/
theorem padded_eq (f : Fin 512 → EReal) (z : EReal) (hz : z = 0) (h : Fin 8) (r : Fin 128) :
    padded f h r = if _ : h.val < 4 then if _ : h.val < 4 ∧ r.val < 64 then f ⟨h.val * 64 + r.val, by omega⟩ else z
      else if _ : h.val - 4 < 4 ∧ 64 ≤ r.val ∧ r.val - 64 < 64 then f ⟨(4 + (h.val - 4)) * 64 + (r.val - 64), by omega⟩ else z := by
  unfold padded
  subst hz
  split_ifs <;> first
    | rfl
    | (exfalso; omega)
    | (congr 2; omega)

theorem sigmoid (n : Fin 16384) (j : Fin 2048) : val_main_v8 (F := Ideal) p (ix2 n j) = gate p n j := by
  pointwise [val_main_v8, val_main_v7, val_main_cst_0, val_main_v6, val_main_v5, val_main_cst, val_main_v4, val_main_v3, val_main_v0, gate]
  simp only [sub_eq_add_neg, zero_add]

theorem d_sum (n : Fin 16384) (j : Fin 1024) : val_main_v21 (F := Ideal) dy wo (ix2 n j) = dm dy wo n j := by
  pointwise [val_main_v21, val_main_v20, dm]

theorem proj_a (n : Fin 16384) (j : Fin 1024) : val_main_v14 (F := Ideal) oa wa (ix2 n j) = proj oa wa n j := by
  pointwise [val_main_v14, val_main_v1, proj]

theorem proj_b (n : Fin 16384) (j : Fin 1024) : val_main_v16 (F := Ideal) ob wb (ix2 n j) = proj ob wb n j := by
  pointwise [val_main_v16, val_main_v2, proj]

theorem d_pa (n : Fin 16384) (j : Fin 1024) : val_main_v27 (F := Ideal) dy p wo (ix2 n j) = dpa dy p wo n j := by
  pointwise [val_main_v27, val_main_v12, sigmoid, d_sum, dpa]
  exact mul_comm _ _

theorem d_pb (n : Fin 16384) (j : Fin 1024) : val_main_v22 (F := Ideal) dy p wo (ix2 n j) = dpb dy p wo n j := by
  pointwise [val_main_v22, val_main_v13, sigmoid, d_sum, dpb]
  exact mul_comm _ _

theorem d_wa (q : Fin 512) (j : Fin 1024) : val_main_v30 (F := Ideal) dy oa p wo (ix2 q j) = ∑ n, dpa dy p wo n j * oa (ix2 n q) := by
  pointwise [val_main_v30, val_main_v29, val_main_v1, d_pa]

theorem d_wb (q : Fin 512) (j : Fin 1024) : val_main_v25 (F := Ideal) dy ob p wo (ix2 q j) = ∑ n, dpb dy p wo n j * ob (ix2 n q) := by
  pointwise [val_main_v25, val_main_v24, val_main_v2, d_pb]

theorem ref_dgl : val_main_v34 (F := Ideal) dy oa ob p wa wb wo = Gdgl dy oa ob p wa wb wo := by
  funext i
  idx_vars i
  pointwise [val_main_v34, val_main_v33, val_main_v32, val_main_v28, val_main_v23, val_main_v11, val_main_v10, val_main_v9, val_main_cst_1,
    sigmoid, d_sum, proj_a, proj_b, Gdgl]
  split_ifs
  all_goals try ac_rfl

set_option maxHeartbeats 1000000 in
theorem ref_doa : val_main_v42 (F := Ideal) dy p wa wo = Gdo (dpa dy p wo) wa := by
  funext i
  idx_vars i
  pointwise [val_main_v42, val_main_v41, val_main_v40, val_main_v39, val_main_v38, val_main_v37, val_main_v36, val_main_v35, val_main_v31,
    val_main_call0_v0, val_main_c, val_main_call1_v0, val_main_c_2, d_pa, Gdo]
  rw [sum_padded, padded_eq _ _ word_zero']
  split_ifs
  all_goals first
    | exact Finset.sum_congr rfl fun x _ => mul_comm _ _
    | rfl

set_option maxHeartbeats 1000000 in
theorem ref_dob : val_main_v50 (F := Ideal) dy p wb wo = Gdo (dpb dy p wo) wb := by
  funext i
  idx_vars i
  pointwise [val_main_v50, val_main_v49, val_main_v48, val_main_v47, val_main_v46, val_main_v45, val_main_v44, val_main_v43, val_main_v26,
    val_main_call2_v0, val_main_c_3, val_main_call3_v0, val_main_c_4, d_pb, Gdo]
  rw [sum_padded, padded_eq _ _ word_zero']
  split_ifs
  all_goals first
    | exact Finset.sum_congr rfl fun x _ => mul_comm _ _
    | rfl

set_option maxHeartbeats 1000000 in
theorem ref_dwa : val_main_v56 (F := Ideal) dy oa p wo = Gdw (dpa dy p wo) oa := by
  funext i
  idx_vars i
  pointwise [val_main_v56, val_main_v55, val_main_v54, val_main_v53, val_main_v52, val_main_v51, d_wa,
    val_main_call4_v0, val_main_c_5, val_main_call5_v0, val_main_c_6, Gdw]
  rw [sum_padded, padded_eq _ _ word_zero']
  split_ifs
  all_goals first
    | exact Finset.sum_congr rfl fun x _ => mul_comm _ _
    | rfl

set_option maxHeartbeats 1000000 in
theorem ref_dwb : val_main_v62 (F := Ideal) dy ob p wo = Gdw (dpb dy p wo) ob := by
  funext i
  idx_vars i
  pointwise [val_main_v62, val_main_v61, val_main_v60, val_main_v59, val_main_v58, val_main_v57, d_wb,
    val_main_call6_v0, val_main_c_7, val_main_call7_v0, val_main_c_8, Gdw]
  rw [sum_padded, padded_eq _ _ word_zero']
  split_ifs
  all_goals first
    | exact Finset.sum_congr rfl fun x _ => mul_comm _ _
    | rfl

end Cert.MergeRefIdeal.Read
end
-- ==== Proof.Merge.Claims.lean ====
module

public import proofs.«01_k».proof.Defs
public import proofs.«01_k».proof.Proof.Merge.Final
public import proofs.«01_k».proof.Proof.Merge.Ref
public import proofs.«01_k».proof.Proof.Gen.Merge.Frame
public import proofs.«01_k».proof.Proof.Gen.MergeRefIdeal.Run

@[expose] public section

noncomputable section

open Idealize.ShloMosaic Idealize.ShloMosaic.TcCoe Idealize.SL.Sem

namespace Cert.MergeClaims

/-- The kernel terminates without fault, its arguments unchanged, every counter zero. -/
theorem frame : quiescent_Merge (hMerge := Cert.Merge.Gen.facts) := fun m ρ _ => Cert.Merge.Gen.frame m ρ

/-- The ideal program, likewise. -/
theorem frame_ideal : quiescent_MergeIdeal (hMergeIdeal := Cert.MergeIdeal.Gen.facts) := fun m ρ _ => Cert.MergeIdeal.Gen.frame m ρ

/-- The reference, likewise. -/
theorem frame_ref : quiescent_MergeRefIdeal (hMergeRefIdeal := Cert.MergeRefIdeal.Gen.facts) := fun m ρ _ =>
  (θ_run Cert.MergeRefIdeal.defs _ _).mono (fun r h => ⟨fun c => (h c).2.2.2.2.2, sem_eq_zero_of_no_sems (by decide) r.2⟩)
    (Cert.MergeRefIdeal.Value.run m ρ)

set_option maxHeartbeats 8000000 in
/-- Kernel and reference leave the same arrays. -/
theorem value : algebraic_MergeIdeal_MergeRefIdeal (hMergeIdeal := Cert.MergeIdeal.Gen.facts) (hMergeRefIdeal := Cert.MergeRefIdeal.Gen.facts) := by
  intro m ρ m' ρ' _ hargs
  refine ⟨fun c => Cert.MergeIdeal.Value.Gdgl (m (c, Cert.MergeIdeal.main_arg0)) (m (c, Cert.MergeIdeal.main_arg1)) (m (c, Cert.MergeIdeal.main_arg2)) (m (c, Cert.MergeIdeal.main_arg3)) (m (c, Cert.MergeIdeal.main_arg4)) (m (c, Cert.MergeIdeal.main_arg5)) (m (c, Cert.MergeIdeal.main_arg6)), fun c => Cert.MergeIdeal.Value.Gdo (Cert.MergeIdeal.Value.dpa (m (c, Cert.MergeIdeal.main_arg0)) (m (c, Cert.MergeIdeal.main_arg3)) (m (c, Cert.MergeIdeal.main_arg6))) (m (c, Cert.MergeIdeal.main_arg4)), fun c => Cert.MergeIdeal.Value.Gdo (Cert.MergeIdeal.Value.dpb (m (c, Cert.MergeIdeal.main_arg0)) (m (c, Cert.MergeIdeal.main_arg3)) (m (c, Cert.MergeIdeal.main_arg6))) (m (c, Cert.MergeIdeal.main_arg5)), fun c => Cert.MergeIdeal.Value.Gdw (Cert.MergeIdeal.Value.dpa (m (c, Cert.MergeIdeal.main_arg0)) (m (c, Cert.MergeIdeal.main_arg3)) (m (c, Cert.MergeIdeal.main_arg6))) (m (c, Cert.MergeIdeal.main_arg1)), fun c => Cert.MergeIdeal.Value.Gdw (Cert.MergeIdeal.Value.dpb (m (c, Cert.MergeIdeal.main_arg0)) (m (c, Cert.MergeIdeal.main_arg3)) (m (c, Cert.MergeIdeal.main_arg6))) (m (c, Cert.MergeIdeal.main_arg2)), ?_, ?_⟩
  · exact (θ_run Cert.MergeIdeal.defs _ _).mono (fun r h c => let ⟨h0, h1, h2, h3, h4, rest⟩ := h c
      ⟨h0.trans (Cert.MergeIdeal.Value.final12 m c), h1.trans (Cert.MergeIdeal.Value.final13 m c), h2.trans (Cert.MergeIdeal.Value.final14 m c), h3.trans (Cert.MergeIdeal.Value.final15 m c), h4.trans (Cert.MergeIdeal.Value.final16 m c), rest⟩)
      (Cert.MergeIdeal.Value.run_blocks (F := Ideal) m ρ)
  · refine (θ_run Cert.MergeRefIdeal.defs _ _).mono (fun r h c => let ⟨h0, h1, h2, h3, h4, rest⟩ := h c
      ⟨h0.trans ?_, h1.trans ?_, h2.trans ?_, h3.trans ?_, h4.trans ?_, rest⟩) (Cert.MergeRefIdeal.Value.run (F := Ideal) m' ρ')
    all_goals obtain ⟨a0, a1, a2, a3, a4, a5, a6⟩ := hargs c
    · refine (Cert.MergeRefIdeal.Read.val_main_v34_eq (F := Ideal) _ _ _ _ _ _ _).trans ?_
      rw [a0, a1, a2, a3, a4, a5, a6]
      exact Cert.MergeRefIdeal.Read.ref_dgl _ _ _ _ _ _ _
    · refine (Cert.MergeRefIdeal.Read.val_main_v42_eq (F := Ideal) _ _ _ _).trans ?_
      rw [a0, a3, a4, a6]
      exact Cert.MergeRefIdeal.Read.ref_doa _ _ _ _
    · refine (Cert.MergeRefIdeal.Read.val_main_v50_eq (F := Ideal) _ _ _ _).trans ?_
      rw [a0, a3, a5, a6]
      exact Cert.MergeRefIdeal.Read.ref_dob _ _ _ _
    · refine (Cert.MergeRefIdeal.Read.val_main_v56_eq (F := Ideal) _ _ _ _).trans ?_
      rw [a0, a1, a3, a6]
      exact Cert.MergeRefIdeal.Read.ref_dwa _ _ _ _
    · refine (Cert.MergeRefIdeal.Read.val_main_v62_eq (F := Ideal) _ _ _ _).trans ?_
      rw [a0, a2, a3, a6]
      exact Cert.MergeRefIdeal.Read.ref_dwb _ _ _ _

end Cert.MergeClaims
end
-- ==== Proof.Glob.Names.lean ====
/-
  Names for the parts of the attention gradient's kernel: the blocks of the saved probabilities by their position
  in the order in which they are read, the four slots of the ring they are copied into, and the slots' semaphores.
  The body's own slices are shown equal to these.
-/
module

public import proofs.«01_k».proof.Defs
public import proofs.«01_k».proof.Proof.Gen.GlobIdeal.Launch
public import proofs.«01_k».proof.Proof.Gen.GlobIdeal.Skeleton
public import proofs.«01_k».proof.Proof.Gen.GlobIdeal.Loops
public import proofs.«01_k».proof.Proof.Gen.GlobIdeal.Points
public import proofs.«01_k».proof.Proof.Gen.GlobIdeal.Frame
public import Idealize.ShloMosaic.Lib.Pipeline.FrameSuffixV
public import Idealize.ShloMosaic.Lib.Ring
public import Idealize.ShloMosaic.Lib.Ring.AtN
public import Idealize.ShloMosaic.Lib.Affine
public import Idealize.ShloMosaic.Lib.Tactic

@[expose] public section

noncomputable section

namespace Cert.GlobRun

open Cert.GlobIdeal Cert.GlobIdeal.Gen
open Idealize.ShloMosaic Idealize.ShloMosaic.TcCoe Idealize.ShloMosaic.Tactic

/-! ## The saved probabilities, the ring of slots and the cells -/

/-- The saved probabilities, whole, in the memory they are copied from. -/
abbrev pM : Memref sig .tc .hbm S8x32x17664x512 .bf16 := Memref.whole main_v64
/-- The ring of four slots. -/
abbrev ringM : Memref sig .tc .vmem S4x512x512 .bf16 := Memref.whole cc0_scratch4
/-- The buffer of the context's probabilities. -/
abbrev ctxM : Memref sig .tc .vmem S256x512 .bf16 := Memref.whole cc0_scratch5

/-- Where the block at position `n` starts: heads, then query blocks, then key blocks; past the last head the
    last head's query blocks are named again. -/
abbrev blkOff (n : ℕ) : Fin 4 → Nat := ![min (n / 1024) 7, n / 32 % 32, 512 * (n % 32), 0]
theorem blkOff_inb (n : ℕ) : ∀ a, blkOff n a + S1x1x512x512.size a ≤ S8x32x17664x512.size a := by
  intro a; fin_cases a
  · show min (n / 1024) 7 + 1 ≤ 8; omega
  · show n / 32 % 32 + 1 ≤ 32; omega
  · show 512 * (n % 32) + 512 ≤ 17664; omega
  · show 0 + 512 ≤ 512; omega
/-- Where the context's block of point `t` starts. -/
abbrev ctxOff (t : ℕ) : Fin 4 → Nat := ![min (t / 32) 7, t % 32, 16384, 0]
theorem ctxOff_inb (t : ℕ) : ∀ a, ctxOff t a + S1x1x256x512.size a ≤ S8x32x17664x512.size a := by
  intro a; fin_cases a
  · show min (t / 32) 7 + 1 ≤ 8; omega
  · show t % 32 + 1 ≤ 32; omega
  · show 16384 + 256 ≤ 17664; omega
  · show 0 + 512 ≤ 512; omega
abbrev slotOff (s : Fin 4) : Fin 3 → Nat := ![s.val, 0, 0]
theorem slotOff_inb (s : Fin 4) : ∀ a, slotOff s a + S1x512x512.size a ≤ S4x512x512.size a := by
  have := s.isLt; intro a; fin_cases a
  · show s.val + 1 ≤ 4; omega
  · show 0 + 512 ≤ 512; omega
  · show 0 + 512 ≤ 512; omega
abbrev semOff (s : Fin 4) : Fin 1 → Nat := ![s.val]
theorem semOff_inb (s : Fin 4) : ∀ a, semOff s a + S1.size a ≤ S4.size a := by
  have := s.isLt; intro a; fin_cases a; show s.val + 1 ≤ 4; omega

/-- The block of the saved probabilities at position `n`. -/
def blkM (n : ℕ) : Memref sig .tc .hbm S512x512 .bf16 :=
  (pM.slice (Rect.unit (s := S8x32x17664x512) (blkOff n) S1x1x512x512.size (blkOff_inb n)) (fun _ => rfl)).squeeze S512x512 squeezes_S1x1x512x512_S512x512
/-- The context's block of the saved probabilities at point `t`. -/
def cblkM (t : ℕ) : Memref sig .tc .hbm S256x512 .bf16 :=
  (pM.slice (Rect.unit (s := S8x32x17664x512) (ctxOff t) S1x1x256x512.size (ctxOff_inb t)) (fun _ => rfl)).squeeze S256x512 squeezes_S1x1x256x512_S256x512
/-- Slot `s` of the ring. -/
def slotM (s : Fin 4) : Memref sig .tc .vmem S512x512 .bf16 :=
  (ringM.slice (Rect.unit (s := S4x512x512) (slotOff s) S1x512x512.size (slotOff_inb s)) (fun _ => rfl)).squeeze S512x512 squeezes_S1x512x512_S512x512
/-- Slot `s`'s semaphore. -/
def csm (s : Fin 4) : DmaSems sig S_ :=
  (cc0_scratch6.slice (Rect.unit (s := S4) (semOff s) S1.size (semOff_inb s))).squeeze S_ squeezes_S1_S_

instance (s : Fin 4) : ClosedOff (slotOff s) := ⟨slotOff s, rfl⟩
instance (n : ℕ) : ClosedOff (blkOff n) := ⟨blkOff n, rfl⟩
instance (t : ℕ) : ClosedOff (ctxOff t) := ⟨ctxOff t, rfl⟩

/-! ## The body's offsets in closed form -/

theorem coords_val : ∀ t : Fin grid0.N, (grid0.coords t 0).val = t.val / 32 ∧ (grid0.coords t 1).val = t.val % 32 := by
  decide +kernel
theorem t_lt (t : Fin grid0.N) : t.val < 256 := Nat.lt_of_lt_of_eq t.isLt N_0
theorem trips_eq : k0_t1_loop.trips = 32 := by decide +kernel
theorem k_lt (k : Fin k0_t1_loop.trips) : k.val < 32 := Nat.lt_of_lt_of_eq k.isLt trips_eq

theorem off5_eq : ∀ k : Fin k0_t1_loop.trips, k0_off5 k = semOff (Ring.sl 4 k.val) := by decide +kernel
theorem off6_eq : ∀ k : Fin k0_t1_loop.trips, k0_off6 k = slotOff (Ring.sl 4 k.val) := by decide +kernel
theorem off12_eq : ∀ k : Fin k0_t1_loop.trips, k0_off12 k = slotOff (Ring.sl 4 k.val) := by decide +kernel
theorem off8_eq : ∀ k : Fin k0_t1_loop.trips, k0_off8 k = semOff (Ring.sl 4 (k.val + 3)) := by decide +kernel
theorem off9_eq : ∀ k : Fin k0_t1_loop.trips, k0_off9 k = slotOff (Ring.sl 4 (k.val + 3)) := by decide +kernel
theorem off13_eq : ∀ k : Fin k0_t1_loop.trips, k0_off13 k = ![0, k.val / 2, 0] := by decide +kernel
instance (k : Fin k0_t1_loop.trips) : ClosedOff (k0_off6 k) := ⟨slotOff (Ring.sl 4 k.val), off6_eq k⟩
instance (k : Fin k0_t1_loop.trips) : ClosedOff (k0_off12 k) := ⟨slotOff (Ring.sl 4 k.val), off12_eq k⟩
instance (k : Fin k0_t1_loop.trips) : ClosedOff (k0_off9 k) := ⟨slotOff (Ring.sl 4 (k.val + 3)), off9_eq k⟩
instance (k : Fin k0_t1_loop.trips) : ClosedOff (k0_off13 k) := ⟨![0, k.val / 2, 0], off13_eq k⟩

theorem blkOff_point (t : Fin grid0.N) (k : ℕ) (hk : k < 32) :
    blkOff (32 * t.val + k) = ![(grid0.coords t 0).val, (grid0.coords t 1).val, 512 * k, 0] := by
  have ht := t_lt t
  obtain ⟨h0, h1⟩ := coords_val t
  rw [h0, h1]
  unfold blkOff
  rw [show min ((32 * t.val + k) / 1024) 7 = t.val / 32 by omega, show (32 * t.val + k) / 32 % 32 = t.val % 32 by omega,
    show (32 * t.val + k) % 32 = k by omega]
theorem off1_eq (t : Fin grid0.N) : k0_off1 (grid0.coords t) = ctxOff t.val := by
  have ht := t_lt t
  obtain ⟨h0, h1⟩ := coords_val t
  rw [k0_off1_eq, h0, h1]
  unfold ctxOff
  rw [show min (t.val / 32) 7 = t.val / 32 by omega]
theorem off2_eq (t : Fin grid0.N) : k0_off2 (grid0.coords t) = blkOff (32 * t.val + 0) := by
  rw [k0_off2_eq, blkOff_point t 0 (by omega)]
theorem off3_eq (t : Fin grid0.N) : k0_off3 (grid0.coords t) = blkOff (32 * t.val + 1) := by
  rw [k0_off3_eq, blkOff_point t 1 (by omega)]
theorem off4_eq (t : Fin grid0.N) : k0_off4 (grid0.coords t) = blkOff (32 * t.val + 2) := by
  rw [k0_off4_eq, blkOff_point t 2 (by omega)]
theorem off7_eq (t : Fin grid0.N) (k : Fin k0_t1_loop.trips) : k0_off7 (grid0.coords t) k = blkOff (32 * t.val + k.val) := by
  rw [k0_off7_eq, blkOff_point t k.val (k_lt k)]
theorem off10_eq : ∀ (t : Fin grid0.N) (k : Fin k0_t1_loop.trips),
    k0_off10 (grid0.coords t) k = blkOff (32 * t.val + (k.val + 3)) := by decide +kernel

/-! ## The body's slices are the named ones -/

theorem csm_congr {off : Fin 1 → Nat} {s : Fin 4} (e : off = semOff s) (hh) :
    (cc0_scratch6.slice (Rect.unit (s := S4) off S1.size hh)).squeeze S_ squeezes_S1_S_ = csm s :=
  congrArg (fun A : DmaSems sig S1 => A.squeeze S_ squeezes_S1_S_) (SemArray.slice_unit_congr _ e _ _)
theorem slotM_congr {off : Fin 3 → Nat} {s : Fin 4} (e : off = slotOff s) (hh hs) :
    (ringM.slice (Rect.unit (s := S4x512x512) off S1x512x512.size hh) hs).squeeze S512x512 squeezes_S1x512x512_S512x512 = slotM s :=
  congrArg (fun M : Memref sig .tc .vmem S1x512x512 .bf16 => M.squeeze S512x512 squeezes_S1x512x512_S512x512) (Memref.slice_unit_congr _ e _ _ _ _)
theorem blkM_congr {off : Fin 4 → Nat} {n : ℕ} (e : off = blkOff n) (hh hs) :
    (pM.slice (Rect.unit (s := S8x32x17664x512) off S1x1x512x512.size hh) hs).squeeze S512x512 squeezes_S1x1x512x512_S512x512 = blkM n :=
  congrArg (fun M : Memref sig .tc .hbm S1x1x512x512 .bf16 => M.squeeze S512x512 squeezes_S1x1x512x512_S512x512) (Memref.slice_unit_congr _ e _ _ _ _)
theorem cblkM_congr {off : Fin 4 → Nat} {t : ℕ} (e : off = ctxOff t) (hh hs) :
    (pM.slice (Rect.unit (s := S8x32x17664x512) off S1x1x256x512.size hh) hs).squeeze S256x512 squeezes_S1x1x256x512_S256x512 = cblkM t :=
  congrArg (fun M : Memref sig .tc .hbm S1x1x256x512 .bf16 => M.squeeze S256x512 squeezes_S1x1x256x512_S256x512) (Memref.slice_unit_congr _ e _ _ _ _)

@[sl_canon] theorem sem_0 (hh) : (cc0_scratch6.slice (Rect.unit (s := S4) ![0] S1.size hh)).squeeze S_ squeezes_S1_S_ = csm 0 := csm_congr (by decide) _
@[sl_canon] theorem sem_1 (hh) : (cc0_scratch6.slice (Rect.unit (s := S4) ![1] S1.size hh)).squeeze S_ squeezes_S1_S_ = csm 1 := csm_congr (by decide) _
@[sl_canon] theorem sem_2 (hh) : (cc0_scratch6.slice (Rect.unit (s := S4) ![2] S1.size hh)).squeeze S_ squeezes_S1_S_ = csm 2 := csm_congr (by decide) _
@[sl_canon] theorem sem_wait (k : Fin k0_t1_loop.trips) (hh) :
    (cc0_scratch6.slice (Rect.unit (s := S4) (k0_off5 k) S1.size hh)).squeeze S_ squeezes_S1_S_ = csm (Ring.sl 4 k.val) := csm_congr (off5_eq k) _
@[sl_canon] theorem sem_start (k : Fin k0_t1_loop.trips) (hh) :
    (cc0_scratch6.slice (Rect.unit (s := S4) (k0_off8 k) S1.size hh)).squeeze S_ squeezes_S1_S_ = csm (Ring.sl 4 (k.val + 3)) := csm_congr (off8_eq k) _

@[sl_canon] theorem slot_0 (hh hs) : (ringM.slice (Rect.unit (s := S4x512x512) ![0, 0, 0] S1x512x512.size hh) hs).squeeze S512x512 squeezes_S1x512x512_S512x512 = slotM 0 := slotM_congr (by decide) _ _
@[sl_canon] theorem slot_1 (hh hs) : (ringM.slice (Rect.unit (s := S4x512x512) ![1, 0, 0] S1x512x512.size hh) hs).squeeze S512x512 squeezes_S1x512x512_S512x512 = slotM 1 := slotM_congr (by decide) _ _
@[sl_canon] theorem slot_2 (hh hs) : (ringM.slice (Rect.unit (s := S4x512x512) ![2, 0, 0] S1x512x512.size hh) hs).squeeze S512x512 squeezes_S1x512x512_S512x512 = slotM 2 := slotM_congr (by decide) _ _
@[sl_canon] theorem slot_wait (k : Fin k0_t1_loop.trips) (hh hs) :
    (ringM.slice (Rect.unit (s := S4x512x512) (k0_off6 k) S1x512x512.size hh) hs).squeeze S512x512 squeezes_S1x512x512_S512x512 = slotM (Ring.sl 4 k.val) := slotM_congr (off6_eq k) _ _
@[sl_canon] theorem slot_start (k : Fin k0_t1_loop.trips) (hh hs) :
    (ringM.slice (Rect.unit (s := S4x512x512) (k0_off9 k) S1x512x512.size hh) hs).squeeze S512x512 squeezes_S1x512x512_S512x512 = slotM (Ring.sl 4 (k.val + 3)) := slotM_congr (off9_eq k) _ _

@[sl_canon] theorem blk_ctx (t : Fin grid0.N) (hh hs) :
    (pM.slice (Rect.unit (s := S8x32x17664x512) (k0_off1 (grid0.coords t)) S1x1x256x512.size hh) hs).squeeze S256x512 squeezes_S1x1x256x512_S256x512 = cblkM t.val := cblkM_congr (off1_eq t) _ _
@[sl_canon] theorem blk_first0 (t : Fin grid0.N) (hh hs) :
    (pM.slice (Rect.unit (s := S8x32x17664x512) (k0_off2 (grid0.coords t)) S1x1x512x512.size hh) hs).squeeze S512x512 squeezes_S1x1x512x512_S512x512 = blkM (32 * t.val + 0) := blkM_congr (off2_eq t) _ _
@[sl_canon] theorem blk_first1 (t : Fin grid0.N) (hh hs) :
    (pM.slice (Rect.unit (s := S8x32x17664x512) (k0_off3 (grid0.coords t)) S1x1x512x512.size hh) hs).squeeze S512x512 squeezes_S1x1x512x512_S512x512 = blkM (32 * t.val + 1) := blkM_congr (off3_eq t) _ _
@[sl_canon] theorem blk_first2 (t : Fin grid0.N) (hh hs) :
    (pM.slice (Rect.unit (s := S8x32x17664x512) (k0_off4 (grid0.coords t)) S1x1x512x512.size hh) hs).squeeze S512x512 squeezes_S1x1x512x512_S512x512 = blkM (32 * t.val + 2) := blkM_congr (off4_eq t) _ _
@[sl_canon] theorem blk_wait (t : Fin grid0.N) (k : Fin k0_t1_loop.trips) (hh hs) :
    (pM.slice (Rect.unit (s := S8x32x17664x512) (k0_off7 (grid0.coords t) k) S1x1x512x512.size hh) hs).squeeze S512x512 squeezes_S1x1x512x512_S512x512 = blkM (32 * t.val + k.val) := blkM_congr (off7_eq t k) _ _
@[sl_canon] theorem blk_start (t : Fin grid0.N) (k : Fin k0_t1_loop.trips) (hh hs) :
    (pM.slice (Rect.unit (s := S8x32x17664x512) (k0_off10 (grid0.coords t) k) S1x1x512x512.size hh) hs).squeeze S512x512 squeezes_S1x1x512x512_S512x512 = blkM (32 * t.val + (k.val + 3)) := blkM_congr (off10_eq t k) _ _

/-! ## The blocks' elements: blocks less than four positions apart are disjoint, and none meets a context block -/

abbrev blkS (n : ℕ) : Finset S8x32x17664x512.Idx := (Rect.unit (s := S8x32x17664x512) (blkOff n) S1x1x512x512.size (blkOff_inb n)).set
abbrev ctxS (t : ℕ) : Finset S8x32x17664x512.Idx := (Rect.unit (s := S8x32x17664x512) (ctxOff t) S1x1x256x512.size (ctxOff_inb t)).set

theorem blkM_set (n : ℕ) : (blkM n).view.set = blkS n := (View.set_reshape _ _).trans (View.set_slice_whole _ _)
theorem cblkM_set (t : ℕ) : (cblkM t).view.set = ctxS t := (View.set_reshape _ _).trans (View.set_slice_whole _ _)

theorem mem_blkS (n : ℕ) (y : S8x32x17664x512.Idx) (h : y ∈ blkS n) :
    (y 1).val = n / 32 % 32 ∧ 512 * (n % 32) ≤ (y 2).val ∧ (y 2).val < 512 * (n % 32) + 512 := by
  rw [Rect.mem_set_unit] at h
  have a1 : n / 32 % 32 ≤ (y 1).val ∧ (y 1).val < n / 32 % 32 + 1 := h 1
  have a2 : 512 * (n % 32) ≤ (y 2).val ∧ (y 2).val < 512 * (n % 32) + 512 := h 2
  omega
theorem mem_ctxS (t : ℕ) (y : S8x32x17664x512.Idx) (h : y ∈ ctxS t) : 16384 ≤ (y 2).val := by
  rw [Rect.mem_set_unit] at h
  have a2 : 16384 ≤ (y 2).val ∧ (y 2).val < 16384 + 256 := h 2
  omega
theorem blkS_disjoint (n d : ℕ) (hd : 0 < d) (hd' : d < 4) : Disjoint (blkS n) (blkS (n + d)) := by
  rw [Finset.disjoint_left]; intro y h h'
  have a := mem_blkS n y h
  have b := mem_blkS (n + d) y h'
  omega
theorem blkS_ctxS_disjoint (n t : ℕ) : Disjoint (blkS n) (ctxS t) := by
  rw [Finset.disjoint_left]; intro y h h'
  have a := mem_blkS n y h
  have b := mem_ctxS t y h'
  have := Nat.mod_lt n (show 0 < 32 by omega)
  omega

abbrev slotS (s : Fin 4) : Finset S4x512x512.Idx := (Rect.unit (s := S4x512x512) (slotOff s) S1x512x512.size (slotOff_inb s)).set
theorem slotM_set (s : Fin 4) : (slotM s).view.set = slotS s := (View.set_reshape _ _).trans (View.set_slice_whole _ _)
theorem mem_slotS (s : Fin 4) (y : S4x512x512.Idx) : y ∈ slotS s ↔ (y 0).val = s.val := by
  rw [Rect.mem_set_unit]
  have h1 : (y 1).val < 512 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 512; omega
theorem slotS_disjoint : ∀ s s' : Fin 4, s ≠ s' → Disjoint (slotS s) (slotS s') := by
  intro s s' hne; rw [Finset.disjoint_left]; intro y hy hy'; rw [mem_slotS] at hy hy'; exact hne (Fin.ext (hy.symm.trans hy'))
theorem slotS_cover : (Finset.univ : Finset (Fin 4)).biUnion slotS = Finset.univ := by
  ext y; simp only [Finset.mem_biUnion, Finset.mem_univ, true_and, iff_true]; exact ⟨(y 0).cast (by decide), by rw [mem_slotS]; rfl⟩

end Cert.GlobRun

end
-- ==== Proof.Glob.Trip.lean ====
/-
  One trip of the attention gradient's inner loop over key blocks, run once at a symbolic trip: the block of saved
  probabilities at this position is waited for, the block three positions on is started, and the four sums kept in
  scratch buffers are moved on.
-/
module

public import proofs.«01_k».proof.Proof.Glob.Names

@[expose] public section

noncomputable section

namespace Cert.GlobRun

open Cert.GlobIdeal Cert.GlobIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
abbrev 𝒱₀ : Variants := Variants.none
/-- The embedding of the counters that the kernel's own copies ride on. -/
abbrev EC : UEmb Counters (MT nD τ sig Unit (Elt F) ℕ (Pipeline.UD sig nD τ) ℕ) := countersEmb (U := Pipeline.UD sig nD τ)

omit [FloatOps F] in
theorem entails_of_eq {P Q : sProp 𝕄} (e : P = Q) : P ⊢ Q := e ▸ .rfl

/-- The blocks that the pipeline stages for one point: the six inputs that are cut into blocks, the four keys and
    values, and the three results. -/
structure Stages where
  qt : Memref sig .tc .vmem S1x128x512 .bf16
  hqt : qt.IsWhole
  dot : Memref sig .tc .vmem S1x128x512 .bf16
  hdot : dot.IsWhole
  ot : Memref sig .tc .vmem S1x128x512 .bf16
  hot : ot.IsWhole
  lse : Memref sig .tc .vmem S1x1x512 .f32
  hlse : lse.IsWhole
  mrun : Memref sig .tc .vmem S1x17x512 .f32
  hmrun : mrun.IsWhole
  kt : Memref sig .tc .vmem S128x16384 .bf16
  hkt : kt.IsWhole
  v : Memref sig .tc .vmem S16384x128 .bf16
  hv : v.IsWhole
  kct : Memref sig .tc .vmem S128x256 .bf16
  hkct : kct.IsWhole
  vc : Memref sig .tc .vmem S256x128 .bf16
  hvc : vc.IsWhole
  dqt : Memref sig .tc .vmem S1x128x512 .f32
  hdqt : dqt.IsWhole
  dkct : Memref sig .tc .vmem S128x256 .f32
  hdkct : dkct.IsWhole
  dvct : Memref sig .tc .vmem S128x256 .f32
  hdvct : dvct.IsWhole

abbrev accM : Memref sig .tc .vmem S128x512 .f32 := Memref.whole cc0_scratch0
abbrev dpM : Memref sig .tc .vmem S512x512 .f32 := Memref.whole cc0_scratch1
abbrev dktM : Memref sig .tc .vmem S128x16384 .f32 := Memref.whole cc0_scratch2
abbrev dvtM : Memref sig .tc .vmem S128x16384 .f32 := Memref.whole cc0_scratch3

section Pieces
variable (c : Dev nD) (XP : Buf (Elt F) (pM.view.loc (c : Thread nD τ)))

/-- A staged block or a scratch buffer, held whole at given contents. -/
abbrev bufP {s : Shape} {e : EltTy} (a : Memref sig .tc .vmem s e) (f : Buf (Elt F) (a.view.loc (c : Thread nD τ))) : sProp 𝕄 :=
  a.view.loc (c : Thread nD τ) ↦[a.view.set]{fullShare} f
abbrev cellP (s : Fin 4) : sProp 𝕄 := semVal ((c : Thread nD τ), SemLoc.dma (csm s).sem) 0
abbrev slotP (s : Fin 4) (f : Buf (Elt F) ((slotM s).view.loc (c : Thread nD τ))) : sProp 𝕄 :=
  (slotM s).view.loc (c : Thread nD τ) ↦[(slotM s).view.set]{fullShare} f
/-- The block at position `n`, in its place. -/
abbrev homeP (n : ℕ) : sProp 𝕄 := (blkM n).view.loc (c : Thread nD τ) ↦[(blkM n).view.set]{fullShare} XP
/-- The block's words as a slot's new contents. -/
abbrev payload (n : ℕ) : S512x512.Idx → Elt F .bf16 := ReadAs.same.apply ((blkM n).view.read (Elt F) XP)
/-- What the copy of block `n` leaves in slot `s`. -/
abbrev landed (s : Fin 4) (n : ℕ) (f : Buf (Elt F) ((slotM s).view.loc (c : Thread nD τ))) : Buf (Elt F) ((slotM s).view.loc (c : Thread nD τ)) :=
  (slotM s).view.writes (Elt F) f [⟨Rect.whole S512x512, payload c XP n⟩]
/-- The units that a block's copy moves on its cell. -/
abbrev NN : ℕ := 512 * 32
/-- Slot `s` with block `n` on its way to it. -/
abbrev flightP (s : Fin 4) (n : ℕ) (f : Buf (Elt F) ((slotM s).view.loc (c : Thread nD τ))) : sProp 𝕄 :=
  Transfers.Flight EC (c : Thread nD τ) (SemLoc.dma (csm s).sem) () NN iprop(slotP c s (landed c XP s n f) ∗ homeP c XP n)

/-- All blocks but those at positions `n`, `n + 1`, `n + 2`, within the elements `U`. -/
abbrev restS (U : Finset S8x32x17664x512.Idx) (n : ℕ) : Finset S8x32x17664x512.Idx := ((U \ blkS n) \ blkS (n + 1)) \ blkS (n + 2)
abbrev restP (U : Finset S8x32x17664x512.Idx) (n : ℕ) : sProp 𝕄 := pM.view.loc (c : Thread nD τ) ↦[restS U n]{fullShare} XP
/-- And without the block at position `n + 3`. -/
abbrev midP (U : Finset S8x32x17664x512.Idx) (n : ℕ) : sProp 𝕄 := pM.view.loc (c : Thread nD τ) ↦[restS U n \ blkS (n + 3)]{fullShare} XP

omit [FloatOps F] in
theorem homeP_eq (n : ℕ) : homeP c XP n = (pM.view.loc (c : Thread nD τ) ↦[blkS n]{fullShare} XP : sProp 𝕄) :=
  congrArg (fun S => (_ ↦[S]{fullShare} XP : sProp 𝕄)) (blkM_set n)
omit [FloatOps F] in
/-- Before a trip the block three positions on is in its place; -/
theorem rest_here (U : Finset S8x32x17664x512.Idx) (n : ℕ) (hU : blkS (n + 3) ⊆ U) :
    restP c XP U n ⊢ iprop(homeP c XP (n + 3) ∗ midP c XP U n) := by
  rw [homeP_eq]
  refine (pointsTo_split_subset ?_).1
  rw [Finset.subset_sdiff, Finset.subset_sdiff, Finset.subset_sdiff]
  exact ⟨⟨⟨hU, (blkS_disjoint n 3 (by omega) (by omega)).symm⟩, (blkS_disjoint (n + 1) 2 (by omega) (by omega)).symm⟩,
    (blkS_disjoint (n + 2) 1 (by omega) (by omega)).symm⟩
omit [FloatOps F] in
/-- after it the block that was waited for is. -/
theorem rest_next (U : Finset S8x32x17664x512.Idx) (n : ℕ) (hU : blkS n ⊆ U) :
    iprop(homeP c XP n ∗ midP c XP U n) ⊢ restP c XP U (n + 1) := by
  rw [homeP_eq]
  have h : blkS n ⊆ restS U (n + 1) := by
    rw [Finset.subset_sdiff, Finset.subset_sdiff, Finset.subset_sdiff]
    exact ⟨⟨⟨hU, blkS_disjoint n 1 (by omega) (by omega)⟩, blkS_disjoint n 2 (by omega) (by omega)⟩,
      blkS_disjoint n 3 (by omega) (by omega)⟩
  have e : restS U n \ blkS (n + 3) = restS U (n + 1) \ blkS n := by
    have gen : ∀ u a b d x : Finset S8x32x17664x512.Idx, (((u \ a) \ b) \ d) \ x = (((u \ b) \ d) \ x) \ a := by
      intro u a b d x; ext y; simp only [Finset.mem_sdiff]; tauto
    exact gen _ _ _ _ _
  unfold midP
  rw [e]
  exact (pointsTo_split_subset h).2

/-- The elements outside the context's block of point `t`. -/
abbrev outS (t : ℕ) : Finset S8x32x17664x512.Idx := Finset.univ \ ctxS t
theorem blkS_outS (n t : ℕ) : blkS n ⊆ outS t := by
  rw [Finset.subset_sdiff]; exact ⟨Finset.subset_univ _, blkS_ctxS_disjoint n t⟩

omit [FloatOps F] in
theorem sl4_next (k : ℕ) : Ring.sl 4 (k + 1 + 3) = Ring.sl 4 k := by rw [show k + 1 + 3 = k + 4 from rfl, Ring.sl_add]

end Pieces

section Trip
variable (c : Dev nD) (XP : Buf (Elt F) (pM.view.loc (c : Thread nD τ))) (t : Fin grid0.N) (A : Stages)
  (arg0 arg1 v24 v35 : BitVec 32) (v44 v46 : FVec F S128x512 .bf16) (v48 v55 : FVec F S1x512 .f32) (v64 : Vec F S256x512 .bf16)
  (g6 : Buf (Elt F) (A.mrun.view.loc (c : Thread nD τ))) (g8 : Buf (Elt F) (A.kt.view.loc (c : Thread nD τ)))
  (g9 : Buf (Elt F) (A.v.view.loc (c : Thread nD τ)))

/-- What the four scratch buffers of the sums hold. -/
structure Sums where
  acc : Buf (Elt F) (accM.view.loc (c : Thread nD τ))
  dp : Buf (Elt F) (dpM.view.loc (c : Thread nD τ))
  dkt : Buf (Elt F) (dktM.view.loc (c : Thread nD τ))
  dvt : Buf (Elt F) (dvtM.view.loc (c : Thread nD τ))

/-- The resources before trip `k` of point `t`. -/
def resAt (k : ℕ) (f : Sums (F := F) c) : sProp 𝕄 :=
  iprop(bufP c accM f.acc ∗ bufP c dpM f.dp ∗ bufP c dktM f.dkt ∗ bufP c dvtM f.dvt
    ∗ bufP c A.mrun g6 ∗ bufP c A.kt g8 ∗ bufP c A.v g9 ∗ (∃ W, owes (c : Thread nD τ) 0 W)
    ∗ restP c XP (outS t.val) (32 * t.val + k)
    ∗ (∃ f, flightP c XP (Ring.sl 4 k) (32 * t.val + k) f) ∗ (∃ f, flightP c XP (Ring.sl 4 (k + 1)) (32 * t.val + (k + 1)) f)
    ∗ (∃ f, flightP c XP (Ring.sl 4 (k + 2)) (32 * t.val + (k + 2)) f)
    ∗ (∃ f, slotP c (Ring.sl 4 (k + 3)) f) ∗ cellP c (Ring.sl 4 (k + 3)))

abbrev tripG (k : Fin k0_t1_loop.trips) : Prog (TpuEff nD τ sig (Elt F) Λ₀ .tc) Unit :=
  k0_t1_body (F := F) (grid0.coords t) A.qt A.hqt A.dot A.hdot A.ot A.hot A.lse A.hlse A.mrun A.hmrun pM (Memref.isWhole_whole _) A.kt A.hkt A.v A.hv A.kct A.hkct A.vc A.hvc A.dqt A.hdqt
    (Memref.whole main_v95_1) (Memref.isWhole_whole _) (Memref.whole main_v95_2) (Memref.isWhole_whole _) A.dkct A.hdkct A.dvct A.hdvct
    accM (Memref.isWhole_whole _) dpM (Memref.isWhole_whole _) dktM (Memref.isWhole_whole _) dvtM (Memref.isWhole_whole _) ringM (Memref.isWhole_whole _) ctxM (Memref.isWhole_whole _)
    cc0_scratch6 cc0_scratch7 cc0_scoped0 cc0_scoped1 arg0 arg1 v24 v35 v44 v46 v48 v55 v64 k ()

abbrev Racc : Rect S128x512 := Rect.unit (s := S128x512) ![0, 0] S128x512.size inb_S128x512_S128x512_0_0
abbrev Rdp : Rect S512x512 := Rect.unit (s := S512x512) ![0, 0] S512x512.size inb_S512x512_S512x512_0_0
abbrev Rcol (k : Fin k0_t1_loop.trips) : Rect S128x16384 := Rect.unit (s := S128x16384) (k0_off14 k) S128x512.size (k0_off14_inb k)

/-- What a trip stores. -/
structure Stored where
  acc : Racc.shape.Idx → Elt F .f32
  dp : Rdp.shape.Idx → Elt F .f32
  dkt : Vec F S128x512 .f32
  dvt : Vec F S128x512 .f32

/-- The sums after a trip's stores. -/
abbrev Sums.after (f : Sums (F := F) c) (k : Fin k0_t1_loop.trips) (w : Stored (F := F)) : Sums (F := F) c :=
  ⟨accM.view.writes (Elt F) f.acc [⟨Racc, w.acc⟩], dpM.view.writes (Elt F) f.dp [⟨Rdp, w.dp⟩],
    dktM.view.writes (Elt F) f.dkt [⟨Rcol k, w.dkt⟩], dvtM.view.writes (Elt F) f.dvt [⟨Rcol k, w.dvt⟩]⟩

set_option backward.proofsInPublic true in
/-- One trip at a symbolic `k`, the stored values found by the run. -/
def tripRun (k : Fin k0_t1_loop.trips) (f : Sums (F := F) c) :
    { w : Stored (F := F) //
      resAt c XP t A g6 g8 g9 k.val f ⊢ wp frame (wpE (defs₀ (F := F)) 𝒱₀ (c : Thread nD τ) none) Set.univ
        (tripG t A arg0 arg1 v24 v35 v44 v46 v48 v55 v64 k)
        (fun _ => resAt c XP t A g6 g8 g9 (k.val + 1) (f.after c k w)) } := by
  refine ⟨⟨?_, ?_, ?_, ?_⟩, ?run⟩
  case run =>
    unfold resAt
    rw [sl4_next]
    iintro ⟨H17, H18, H19, H20, H6, H8, H9, ⟨%W, HW⟩, HR, ⟨%f0, HF0⟩, HF1, HF2, ⟨%f3, HS3⟩, HC3⟩
    ihave HR2 := (rest_here c XP (outS t.val) (32 * t.val + k.val) (blkS_outS _ _)) $$ HR
    icases HR2 with ⟨HB, HM⟩
    dsimp only [tripG]
    sl_unfold [k0_t1_body]
    sl_exec
    sl_step
    isplitl [H17]; · iexact H17
    isplitl [H18]; · iexact H18
    isplitl [H19]; · iexact H19
    isplitl [H20]; · iexact H20
    isplitl [H6]; · iexact H6
    isplitl [H8]; · iexact H8
    isplitl [H9]; · iexact H9
    isplitl [HW]; · iexists _; iexact HW
    isplitl [HM HF0_src]
    · iapply (rest_next c XP (outS t.val) (32 * t.val + k.val) (blkS_outS _ _))
      isplitl [HF0_src]; · iexact HF0_src
      iexact HM
    isplitl [HF1]; · iexact HF1
    isplitl [HF2]; · iexact HF2
    isplitl [HC3]; · iexists f3; iexact HC3
    isplitl [HF0_dst]; · iexists _; iexact HF0_dst
    iexact HF0

/-- The sums before trip `k`, from what they are when the loop is entered. -/
def sumsAt (f₀ : Sums (F := F) c) : ℕ → Sums (F := F) c
  | 0 => f₀
  | k + 1 =>
    if h : k < k0_t1_loop.trips then
      (sumsAt f₀ k).after c ⟨k, h⟩ (tripRun c XP t A arg0 arg1 v24 v35 v44 v46 v48 v55 v64 g6 g8 g9 ⟨k, h⟩ (sumsAt f₀ k)).1
    else sumsAt f₀ k

theorem sumsAt_succ (f₀ : Sums (F := F) c) (k : Fin k0_t1_loop.trips) :
    sumsAt c XP t A arg0 arg1 v24 v35 v44 v46 v48 v55 v64 g6 g8 g9 f₀ (k.val + 1)
      = (sumsAt c XP t A arg0 arg1 v24 v35 v44 v46 v48 v55 v64 g6 g8 g9 f₀ k.val).after c k
          (tripRun c XP t A arg0 arg1 v24 v35 v44 v46 v48 v55 v64 g6 g8 g9 k (sumsAt c XP t A arg0 arg1 v24 v35 v44 v46 v48 v55 v64 g6 g8 g9 f₀ k.val)).1 := by
  rw [sumsAt, dif_pos k.isLt]

set_option warn.classDefReducibility false in
/-- The loop's invariant: the resources before each trip, the sums as the trips before it left them. -/
@[sl_loop] def loopInv (facc : Buf (Elt F) (accM.view.loc (c : Thread nD τ))) (fdp : Buf (Elt F) (dpM.view.loc (c : Thread nD τ)))
    (fdkt : Buf (Elt F) (dktM.view.loc (c : Thread nD τ))) (fdvt : Buf (Elt F) (dvtM.view.loc (c : Thread nD τ))) :
    LoopInvTy_k0_t1 (F := F) Unit ℕ (Pipeline.UD sig nD τ) ℕ 𝒱₀ c none Set.univ (grid0.coords t) A.qt A.hqt A.dot A.hdot A.ot A.hot A.lse A.hlse A.mrun A.hmrun pM (Memref.isWhole_whole _) A.kt A.hkt A.v A.hv A.kct A.hkct A.vc A.hvc A.dqt A.hdqt
    (Memref.whole main_v95_1) (Memref.isWhole_whole _) (Memref.whole main_v95_2) (Memref.isWhole_whole _) A.dkct A.hdkct A.dvct A.hdvct
    accM (Memref.isWhole_whole _) dpM (Memref.isWhole_whole _) dktM (Memref.isWhole_whole _) dvtM (Memref.isWhole_whole _) ringM (Memref.isWhole_whole _) ctxM (Memref.isWhole_whole _)
    cc0_scratch6 cc0_scratch7 cc0_scoped0 cc0_scoped1 arg0 arg1 v24 v35 v44 v46 v48 v55 v64 where
  inv k _ := resAt c XP t A g6 g8 g9 k (sumsAt c XP t A arg0 arg1 v24 v35 v44 v46 v48 v55 v64 g6 g8 g9 ⟨facc, fdp, fdkt, fdvt⟩ k)
  step k _ := by
    rw [sumsAt_succ]
    exact (tripRun c XP t A arg0 arg1 v24 v35 v44 v46 v48 v55 v64 g6 g8 g9 k _).2

end Trip

end Cert.GlobRun

end
-- ==== Proof.Glob.Body.lean ====
/-
  The body of the attention gradient's kernel at one grid point, run in the three cases that its two conditions
  make: the first point (the sums are zeroed and the first three blocks started), a point in the middle, and the last
  point (the three blocks started ahead are waited for and the two sums over queries copied out).
-/
module

public import proofs.«01_k».proof.Proof.Glob.Trip

@[expose] public section

noncomputable section

namespace Cert.GlobRun

open Cert.GlobIdeal Cert.GlobIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's conditions -/

theorem cond1_first : ∀ t : Fin grid0.N, t.val = 0 →
    Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1 := by
  decide +kernel
theorem cond1_later : ∀ t : Fin grid0.N, t.val ≠ 0 →
    ¬ Scalar.cmpi .ne (Scalar.extui (Scalar.andi (Scalar.cmpi .eq (BitVec.ofNat 32 (grid0.coords t 0).val) 0#32) (Scalar.cmpi .eq (BitVec.ofNat 32 (grid0.coords t 1).val) 0#32)) : BitVec 32) 0#32 = 1#1 := by
  decide +kernel
theorem cond2_first : ∀ t : Fin grid0.N, t.val = 0 → k0_cond2 (grid0.coords t) = 1#1 := by decide +kernel
theorem cond2_later : ∀ t : Fin grid0.N, t.val ≠ 0 → ¬ k0_cond2 (grid0.coords t) = 1#1 := by decide +kernel
theorem cond3_last : ∀ t : Fin grid0.N, t.val = 255 → k0_cond3 (grid0.coords t) = 1#1 := by decide +kernel
theorem cond3_before : ∀ t : Fin grid0.N, t.val ≠ 255 → ¬ k0_cond3 (grid0.coords t) = 1#1 := by decide +kernel

/-- The staged blocks. -/
structure Ins where
  qt : Vec F S1x128x512 .bf16
  dot : Vec F S1x128x512 .bf16
  ot : Vec F S1x128x512 .bf16
  lse : Vec F S1x1x512 .f32
  mrun : Vec F S1x17x512 .f32
  kt : Vec F S128x16384 .bf16
  v : Vec F S16384x128 .bf16
  kct : Vec F S128x256 .bf16
  vc : Vec F S256x128 .bf16

/-- What is carried from point to point: the sums over queries. -/
structure Carried where
  dkct : Vec F S128x256 .f32
  dvct : Vec F S128x256 .f32
  dkt : Vec F S128x16384 .f32
  dvt : Vec F S128x16384 .f32

/-- What a point leaves: its own result and the sums. -/
structure Outs where
  dqt : Vec F S1x128x512 .f32
  sums : Carried (F := F)

section Body
variable (c : Dev nD) (XP : Buf (Elt F) (pM.view.loc (c : Thread nD τ))) (t : Fin grid0.N) (A : Stages)

abbrev bodyG : Prog (TpuEff nD τ sig (Elt F) Λ₀ .tc) PUnit :=
  cc0_attn_glob_bwd (F := F) (grid0.coords t) A.qt A.hqt A.dot A.hdot A.ot A.hot A.lse A.hlse A.mrun A.hmrun pM (Memref.isWhole_whole _) A.kt A.hkt A.v A.hv A.kct A.hkct A.vc A.hvc A.dqt A.hdqt
    (Memref.whole main_v95_1) (Memref.isWhole_whole _) (Memref.whole main_v95_2) (Memref.isWhole_whole _) A.dkct A.hdkct A.dvct A.hdvct
    accM (Memref.isWhole_whole _) dpM (Memref.isWhole_whole _) dktM (Memref.isWhole_whole _) dvtM (Memref.isWhole_whole _) ringM (Memref.isWhole_whole _) ctxM (Memref.isWhole_whole _)
    cc0_scratch6 cc0_scratch7 cc0_scoped0 cc0_scoped1

/-- A staged block or a scratch buffer, held whole and reading as `x`. -/
abbrev vecP {s : Shape} {e : EltTy} (a : Memref sig .tc .vmem s e) (x : s.Idx → Elt F e) : sProp 𝕄 := bufP c a (a.view.rep x)
/-- The staged blocks. -/
abbrev insP (g : Ins (F := F)) : sProp 𝕄 :=
  iprop(vecP c A.qt g.qt ∗ vecP c A.dot g.dot ∗ vecP c A.ot g.ot ∗ vecP c A.lse g.lse ∗ vecP c A.mrun g.mrun
    ∗ vecP c A.kt g.kt ∗ vecP c A.v g.v ∗ vecP c A.kct g.kct ∗ vecP c A.vc g.vc)
/-- The sums over queries. -/
abbrev carriedP (f : Carried (F := F)) : sProp 𝕄 :=
  iprop(vecP c A.dkct f.dkct ∗ vecP c A.dvct f.dvct ∗ vecP c dktM f.dkt ∗ vecP c dvtM f.dvt)
/-- The same at anything. -/
abbrev anyP : sProp 𝕄 :=
  iprop((∃ f, bufP c A.dkct f) ∗ (∃ f, bufP c A.dvct f) ∗ (∃ f, bufP c dktM f) ∗ ∃ f, bufP c dvtM f)

theorem to_vec {s : Shape} {e : EltTy} (a : Memref sig .tc .vmem s e) (g : Buf (Elt F) (a.view.loc (c : Thread nD τ))) (x : s.Idx → Elt F e)
    (h : a.view.read (Elt F) g = x) : bufP c a g ⊢ vecP c a x := by
  subst h; exact pointsTo_rep_entails (c : Thread nD τ) a g fullShare
/-- Contents stored whole do not depend on what was there. -/
theorem read_store {s : Shape} {e : EltTy} (a : Memref sig .tc .vmem s e) (f : Buf (Elt F) (a.view.loc (c : Thread nD τ))) (R : Rect s)
    (w : R.shape.Idx → Elt F e) (h : ∀ y, y ∈ R.set) :
    a.view.read (Elt F) (a.view.writes (Elt F) f [⟨R, w⟩]) = a.view.read (Elt F) (a.view.writes (Elt F) a.view.junk [⟨R, w⟩]) :=
  View.read_writes_of_cover _ _ _ _ _ fun y => ⟨_, List.mem_singleton.mpr rfl, h y⟩
theorem full3 (y : S1x128x512.Idx) : y ∈ (Rect.unit (s := S1x128x512) ![0, 0, 0] S1x128x512.size inb_S1x128x512_S1x128x512_0_0_0).set := by
  rw [Rect.mem_set_unit]
  intro i
  have := (y i).isLt
  fin_cases i <;> exact ⟨Nat.zero_le _, by simpa using this⟩
/-- What a point uses for itself alone: two scratch buffers, the context's buffer, block and cell. -/
abbrev localP : sProp 𝕄 :=
  iprop((∃ f, bufP c accM f) ∗ (∃ f, bufP c dpM f) ∗ (∃ f, bufP c ctxM f) ∗ semVal ((c : Thread nD τ), SemLoc.dma cc0_scratch7.sem) 0
    ∗ ((cblkM t.val).view.loc (c : Thread nD τ) ↦[(cblkM t.val).view.set]{fullShare} XP) ∗ ∃ W, owes (c : Thread nD τ) 0 W)
/-- The three blocks from position `n` on their way to slots 0, 1, 2, and slot 3 free. -/
abbrev aheadP (n : ℕ) : sProp 𝕄 :=
  iprop((∃ f, flightP c XP 0 n f) ∗ (∃ f, flightP c XP 1 (n + 1) f) ∗ (∃ f, flightP c XP 2 (n + 2) f) ∗ (∃ f, slotP c 3 f) ∗ cellP c 3)
/-- The four slots free and the three blocks from position `n` in their places. -/
abbrev idleP (n : ℕ) : sProp 𝕄 :=
  iprop(((∃ f, slotP c 0 f) ∗ cellP c 0 ∗ homeP c XP n) ∗ ((∃ f, slotP c 1 f) ∗ cellP c 1 ∗ homeP c XP (n + 1))
    ∗ ((∃ f, slotP c 2 f) ∗ cellP c 2 ∗ homeP c XP (n + 2)) ∗ (∃ f, slotP c 3 f) ∗ cellP c 3)

theorem sl4_0 : Ring.sl 4 0 = 0 := Fin.ext (by rfl)
theorem sl4_1 : Ring.sl 4 (0 + 1) = 1 := Fin.ext (by rfl)
theorem sl4_2 : Ring.sl 4 (0 + 2) = 2 := Fin.ext (by rfl)
theorem sl4_3 : Ring.sl 4 (0 + 3) = 3 := Fin.ext (by rfl)

/-- The sums' buffers and the three staged blocks that the loop reads. -/
abbrev loopBufs (g : Ins (F := F)) (f : Sums (F := F) c) : sProp 𝕄 :=
  iprop(bufP c accM f.acc ∗ bufP c dpM f.dp ∗ bufP c dktM f.dkt ∗ bufP c dvtM f.dvt ∗ vecP c A.mrun g.mrun ∗ vecP c A.kt g.kt ∗ vecP c A.v g.v)

section Loop
variable (arg0 arg1 v24 v35 : BitVec 32) (v44 v46 : FVec F S128x512 .bf16) (v48 v55 : FVec F S1x512 .f32) (v64 : Vec F S256x512 .bf16)

/-- The loop: the sums after its 32 trips, the positions 32 further on. -/
theorem loop_wp (g : Ins (F := F)) (f : Sums (F := F) c) (kk : Unit → Prog (TpuEff nD τ sig (Elt F) Λ₀ .tc) PUnit) (Q : PUnit → sProp 𝕄) :
    iprop((loopBufs c A g f ∗ (∃ W, owes (c : Thread nD τ) 0 W) ∗ restP c XP (outS t.val) (32 * t.val) ∗ aheadP c XP (32 * t.val))
      ∗ ((loopBufs c A g (sumsAt c XP t A arg0 arg1 v24 v35 v44 v46 v48 v55 v64 (A.mrun.view.rep g.mrun) (A.kt.view.rep g.kt) (A.v.view.rep g.v) f 32)
          ∗ (∃ W, owes (c : Thread nD τ) 0 W) ∗ restP c XP (outS t.val) (32 * t.val + 32) ∗ aheadP c XP (32 * t.val + 32))
        -∗ wp frame (wpE (defs₀ (F := F)) 𝒱₀ (c : Thread nD τ) none) Set.univ (kk ()) Q))
      ⊢ wp frame (wpE (defs₀ (F := F)) 𝒱₀ (c : Thread nD τ) none) Set.univ
          (k0_t1_loop.for k0_t1_ok () (fun k _ => tripG t A arg0 arg1 v24 v35 v44 v46 v48 v55 v64 k) >>= kk) Q := by
  have e0 : iprop(loopBufs c A g f ∗ (∃ W, owes (c : Thread nD τ) 0 W) ∗ restP c XP (outS t.val) (32 * t.val) ∗ aheadP c XP (32 * t.val))
      ⊢ resAt c XP t A (A.mrun.view.rep g.mrun) (A.kt.view.rep g.kt) (A.v.view.rep g.v) 0 f := by
    unfold resAt
    simp only [sl4_0, sl4_1, sl4_2, sl4_3, Nat.add_zero, Nat.zero_add]
    iintro ⟨⟨H1, H2, H3, H4, H5, H6, H7⟩, HW, HR, HA⟩
    iframe
  have e1 (f' : Sums (F := F) c) : resAt c XP t A (A.mrun.view.rep g.mrun) (A.kt.view.rep g.kt) (A.v.view.rep g.v) 32 f' ⊢
      iprop(loopBufs c A g f' ∗ (∃ W, owes (c : Thread nD τ) 0 W) ∗ restP c XP (outS t.val) (32 * t.val + 32) ∗ aheadP c XP (32 * t.val + 32)) := by
    unfold resAt
    rw [show Ring.sl 4 32 = 0 from Fin.ext (by rfl), show Ring.sl 4 (32 + 1) = 1 from Fin.ext (by rfl), show Ring.sl 4 (32 + 2) = 2 from Fin.ext (by rfl),
      show Ring.sl 4 (32 + 3) = 3 from Fin.ext (by rfl)]
    iintro ⟨H1, H2, H3, H4, H5, H6, H7, HW, HR, HF0, HF1, HF2, HS, HC⟩
    isplitl [H1 H2 H3 H4 H5 H6 H7]; · unfold loopBufs; iframe
    isplitl [HW]; · iexact HW
    isplitl [HR]; · iexact HR
    isplitl [HF0]; · iexact HF0
    isplitl [HF1]; · iexact HF1
    isplitl [HF2]; · iexact HF2
    isplitl [HS]; · iexact HS
    iexact HC
  iintro ⟨H, Hk⟩
  ihave H := (e0) $$ H
  ihave Hw := (Scf.wp_for_bind frame (wpE (defs₀ (F := F)) 𝒱₀ (c : Thread nD τ) none) Set.univ k0_t1_loop.lb k0_t1_loop.ub k0_t1_loop.st k0_t1_ok ()
    (fun k _ => tripG t A arg0 arg1 v24 v35 v44 v46 v48 v55 v64 k)
    (fun k _ => resAt c XP t A (A.mrun.view.rep g.mrun) (A.kt.view.rep g.kt) (A.v.view.rep g.v) k (sumsAt c XP t A arg0 arg1 v24 v35 v44 v46 v48 v55 v64 (A.mrun.view.rep g.mrun) (A.kt.view.rep g.kt) (A.v.view.rep g.v) f k))
    (fun k _ => by
      dsimp only
      rw [sumsAt_succ]
      exact (tripRun c XP t A arg0 arg1 v24 v35 v44 v46 v48 v55 v64 (A.mrun.view.rep g.mrun) (A.kt.view.rep g.kt) (A.v.view.rep g.v) k _).2) (kk := kk) (Q := Q)) $$ [H]
  · iexact H
  iapply Hw
  iintro %_ H
  iapply Hk
  iapply (e1 _)
  have et : Scf.trips k0_t1_loop.lb k0_t1_loop.ub k0_t1_loop.st = 32 := trips_eq
  rw [et]
  iexact H
end Loop

set_option backward.proofsInPublic true in
/-- A point in the middle. -/
def midRun (h0 : t.val ≠ 0) (h1 : t.val ≠ 255) (g : Ins (F := F)) (f : Carried (F := F)) :
    { w : Outs (F := F) // ∀ Q : PUnit → sProp 𝕄,
      iprop((insP c A g ∗ (∃ d, bufP c A.dqt d) ∗ carriedP c A f ∗ localP c XP t ∗ restP c XP (outS t.val) (32 * t.val) ∗ aheadP c XP (32 * t.val))
          ∗ ((insP c A g ∗ vecP c A.dqt w.dqt ∗ carriedP c A w.sums ∗ localP c XP t ∗ restP c XP (outS t.val) (32 * t.val + 32) ∗ aheadP c XP (32 * t.val + 32)) -∗ Q ⟨⟩))
        ⊢ wp frame (wpE (defs₀ (F := F)) 𝒱₀ (c : Thread nD τ) none) Set.univ (bodyG t A) Q } := by
  refine ⟨⟨?_, ⟨?_, ?_, ?_, ?_⟩⟩, ?run⟩
  case run =>
    intro Q
    have hc1 := cond1_later t h0
    have hc2 := cond2_later t h0
    have hc3 := cond3_before t h1
    iintro ⟨⟨⟨H2, H3, H4, H5, H6, H8, H9, H10, H11⟩, ⟨%f12, H12⟩, ⟨H15, H16, H19, H20⟩, ⟨⟨%f17, H17⟩, ⟨%f18, H18⟩, ⟨%f22, H22⟩, HCx, HBx, ⟨%W, HW⟩⟩, HR,
      HF⟩, Hk⟩
    dsimp only [bodyG]
    sl_exec
    iapply (loop_wp c XP t A _ _ _ _ _ _ _ _ _ g ⟨_, _, _, _⟩ _ _)
    isplitl [H17 H18 H19 H20 H6 H8 H9 HW HR HF]
    · isplitl [H17 H18 H19 H20 H6 H8 H9]
      · isplitl [H17]; · iexact H17
        isplitl [H18]; · iexact H18
        isplitl [H19]; · iexact H19
        isplitl [H20]; · iexact H20
        isplitl [H6]; · iexact H6
        isplitl [H8]; · iexact H8
        iexact H9
      isplitl [HW]; · iexists _; iexact HW
      isplitl [HR]; · iexact HR
      iexact HF
    iintro ⟨⟨H17, H18, H19, H20, H6, H8, H9⟩, ⟨%W', HW⟩, HR, HF⟩
    sl_exec
    sl_step
    iapply Hk
    isplitl [H2 H3 H4 H5 H6 H8 H9 H10 H11]
    · isplitl [H2]; · iexact H2
      isplitl [H3]; · iexact H3
      isplitl [H4]; · iexact H4
      isplitl [H5]; · iexact H5
      isplitl [H6]; · iexact H6
      isplitl [H8]; · iexact H8
      isplitl [H9]; · iexact H9
      isplitl [H10]; · iexact H10
      iexact H11
    isplitl [H12]; · iapply (to_vec c A.dqt _ _ (read_store c A.dqt _ _ _ full3)); iexact H12
    isplitl [H15 H16 H19 H20]
    · isplitl [H15]; · iapply (to_vec c A.dkct _ _ rfl); iexact H15
      isplitl [H16]; · iapply (to_vec c A.dvct _ _ rfl); iexact H16
      isplitl [H19]; · iapply (to_vec c dktM _ _ rfl); iexact H19
      iapply (to_vec c dvtM _ _ rfl); iexact H20
    isplitl [H17 H18 H22 HCx HBx HW]
    · isplitl [H17]; · iexists _; iexact H17
      isplitl [H18]; · iexists _; iexact H18
      isplitl [H22]; · iexists _; iexact H22
      isplitl [HCx]; · iexact HCx
      isplitl [HBx]; · iexact HBx
      iexists _; iexact HW
    isplitl [HR]; · iexact HR
    iexact HF

set_option backward.proofsInPublic true in
/-- The first point. -/
def firstRun (h0 : t.val = 0) (g : Ins (F := F)) :
    { w : Outs (F := F) // ∀ Q : PUnit → sProp 𝕄,
      iprop((insP c A g ∗ (∃ d, bufP c A.dqt d) ∗ anyP c A ∗ localP c XP t ∗ restP c XP (outS t.val) (32 * t.val) ∗ idleP c XP (32 * t.val))
          ∗ ((insP c A g ∗ vecP c A.dqt w.dqt ∗ carriedP c A w.sums ∗ localP c XP t ∗ restP c XP (outS t.val) (32 * t.val + 32) ∗ aheadP c XP (32 * t.val + 32)) -∗ Q ⟨⟩))
        ⊢ wp frame (wpE (defs₀ (F := F)) 𝒱₀ (c : Thread nD τ) none) Set.univ (bodyG t A) Q } := by
  refine ⟨⟨?_, ⟨?_, ?_, ?_, ?_⟩⟩, ?run⟩
  case run =>
    intro Q
    have h1 : t.val ≠ 255 := by omega
    have hc1 := cond1_first t h0
    have hc2 := cond2_first t h0
    have hc3 := cond3_before t h1
    iintro ⟨⟨⟨H2, H3, H4, H5, H6, H8, H9, H10, H11⟩, ⟨%f12, H12⟩, ⟨⟨%f15, H15⟩, ⟨%f16, H16⟩, ⟨%f19, H19⟩, ⟨%f20, H20⟩⟩, ⟨⟨%f17, H17⟩, ⟨%f18, H18⟩, ⟨%f22, H22⟩, HCx, HBx, ⟨%W, HW⟩⟩, HR,
      ⟨⟨%s0, HS0⟩, HC0, HB0⟩, ⟨⟨%s1, HS1⟩, HC1, HB1⟩, ⟨⟨%s2, HS2⟩, HC2, HB2⟩, HS3, HC3⟩, Hk⟩
    dsimp only [bodyG]
    sl_exec
    iapply (loop_wp c XP t A _ _ _ _ _ _ _ _ _ g ⟨_, _, _, _⟩ _ _)
    isplitl [H17 H18 H19 H20 H6 H8 H9 HW HR HC0 HC1 HC2 HS3 HC3]
    · isplitl [H17 H18 H19 H20 H6 H8 H9]
      · isplitl [H17]; · iexact H17
        isplitl [H18]; · iexact H18
        isplitl [H19]; · iexact H19
        isplitl [H20]; · iexact H20
        isplitl [H6]; · iexact H6
        isplitl [H8]; · iexact H8
        iexact H9
      isplitl [HW]; · iexists _; iexact HW
      isplitl [HR]; · iexact HR
      isplitl [HC0]; · iexists _; iexact HC0
      isplitl [HC1]; · iexists _; iexact HC1
      isplitl [HC2]; · iexists _; iexact HC2
      isplitl [HS3]; · iexact HS3
      iexact HC3
    iintro ⟨⟨H17, H18, H19, H20, H6, H8, H9⟩, ⟨%W', HW⟩, HR, HF⟩
    sl_exec
    sl_step
    iapply Hk
    isplitl [H2 H3 H4 H5 H6 H8 H9 H10 H11]
    · isplitl [H2]; · iexact H2
      isplitl [H3]; · iexact H3
      isplitl [H4]; · iexact H4
      isplitl [H5]; · iexact H5
      isplitl [H6]; · iexact H6
      isplitl [H8]; · iexact H8
      isplitl [H9]; · iexact H9
      isplitl [H10]; · iexact H10
      iexact H11
    isplitl [H12]; · iapply (to_vec c A.dqt _ _ (read_store c A.dqt _ _ _ full3)); iexact H12
    isplitl [H15 H16 H19 H20]
    · isplitl [H15]; · iapply (to_vec c A.dkct _ _ rfl); iexact H15
      isplitl [H16]; · iapply (to_vec c A.dvct _ _ rfl); iexact H16
      isplitl [H19]; · iapply (to_vec c dktM _ _ rfl); iexact H19
      iapply (to_vec c dvtM _ _ rfl); iexact H20
    isplitl [H17 H18 H22 HCx HBx HW]
    · isplitl [H17]; · iexists _; iexact H17
      isplitl [H18]; · iexists _; iexact H18
      isplitl [H22]; · iexists _; iexact H22
      isplitl [HCx]; · iexact HCx
      isplitl [HBx]; · iexact HBx
      iexists _; iexact HW
    isplitl [HR]; · iexact HR
    iexact HF

abbrev dktO : Memref sig .tc .hbm S128x16384 .f32 := Memref.whole main_v95_1
abbrev dvtO : Memref sig .tc .hbm S128x16384 .f32 := Memref.whole main_v95_2
/-- The two results that the body copies out itself. -/
structure Res where
  dkt : Vec F S128x16384 .f32
  dvt : Vec F S128x16384 .f32
/-- A result's array, held whole at given contents. -/
abbrev outP {s : Shape} {e : EltTy} (a : Memref sig .tc .hbm s e) (f : Buf (Elt F) (a.view.loc (c : Thread nD τ))) : sProp 𝕄 :=
  a.view.loc (c : Thread nD τ) ↦[a.view.set]{fullShare} f
abbrev semsP : sProp 𝕄 :=
  iprop(semVal ((c : Thread nD τ), SemLoc.dma cc0_scoped0.sem) 0 ∗ semVal ((c : Thread nD τ), SemLoc.dma cc0_scoped1.sem) 0)
abbrev resP (r : Res (F := F)) : sProp 𝕄 := iprop(outP c dktO (dktO.view.rep r.dkt) ∗ outP c dvtO (dvtO.view.rep r.dvt) ∗ semsP c)
abbrev anyResP : sProp 𝕄 := iprop((∃ f, outP c dktO f) ∗ (∃ f, outP c dvtO f) ∗ semsP c)
theorem out_whole {s : Shape} {e : EltTy} (a : Memref sig .tc .hbm s e) (g : Buf (Elt F) (a.view.loc (c : Thread nD τ))) (x : s.Idx → Elt F e) :
    outP c a (a.view.writes (Elt F) g [⟨Rect.whole s, x⟩]) ⊢ outP c a (a.view.rep x) := by
  have h := pointsTo_rep_entails (Ix := Unit) (Name := ℕ) (U := Pipeline.UD sig nD τ) (Lvl := ℕ) (c : Thread nD τ) a (a.view.writes (Elt F) g [⟨Rect.whole s, x⟩]) fullShare
  rw [View.read_writes_whole] at h
  exact h

set_option backward.proofsInPublic true in
/-- The last point. -/
def lastRun (h1 : t.val = 255) (g : Ins (F := F)) (f : Carried (F := F)) :
    { w : Outs (F := F) × Res (F := F) // ∀ Q : PUnit → sProp 𝕄,
      iprop((insP c A g ∗ (∃ d, bufP c A.dqt d) ∗ carriedP c A f ∗ localP c XP t ∗ restP c XP (outS t.val) (32 * t.val) ∗ aheadP c XP (32 * t.val) ∗ anyResP c)
          ∗ ((insP c A g ∗ vecP c A.dqt w.1.dqt ∗ carriedP c A w.1.sums ∗ localP c XP t ∗ restP c XP (outS t.val) (32 * t.val + 32) ∗ idleP c XP (32 * t.val + 32) ∗ resP c w.2) -∗ Q ⟨⟩))
        ⊢ wp frame (wpE (defs₀ (F := F)) 𝒱₀ (c : Thread nD τ) none) Set.univ (bodyG t A) Q } := by
  refine ⟨⟨⟨?_, ⟨?_, ?_, ?_, ?_⟩⟩, ⟨?_, ?_⟩⟩, ?run⟩
  case run =>
    intro Q
    have h0 : t.val ≠ 0 := by omega
    have hc1 := cond1_later t h0
    have hc2 := cond2_later t h0
    have hc3 := cond3_last t h1
    iintro ⟨⟨⟨H2, H3, H4, H5, H6, H8, H9, H10, H11⟩, ⟨%f12, H12⟩, ⟨H15, H16, H19, H20⟩, ⟨⟨%f17, H17⟩, ⟨%f18, H18⟩, ⟨%f22, H22⟩, HCx, HBx, ⟨%W, HW⟩⟩, HR,
      HF, ⟨⟨%r1, HO1⟩, ⟨%r2, HO2⟩, HD1, HD2⟩⟩, Hk⟩
    dsimp only [bodyG]
    sl_exec
    iapply (loop_wp c XP t A _ _ _ _ _ _ _ _ _ g ⟨_, _, _, _⟩ _ _)
    isplitl [H17 H18 H19 H20 H6 H8 H9 HW HR HF]
    · isplitl [H17 H18 H19 H20 H6 H8 H9]
      · isplitl [H17]; · iexact H17
        isplitl [H18]; · iexact H18
        isplitl [H19]; · iexact H19
        isplitl [H20]; · iexact H20
        isplitl [H6]; · iexact H6
        isplitl [H8]; · iexact H8
        iexact H9
      isplitl [HW]; · iexists _; iexact HW
      isplitl [HR]; · iexact HR
      iexact HF
    iintro ⟨⟨H17, H18, H19, H20, H6, H8, H9⟩, ⟨%W', HW⟩, HR, ⟨%s0, HF0⟩, ⟨%s1, HF1⟩, ⟨%s2, HF2⟩, HS3, HC3⟩
    sl_exec
    sl_step
    iapply Hk
    isplitl [H2 H3 H4 H5 H6 H8 H9 H10 H11]
    · isplitl [H2]; · iexact H2
      isplitl [H3]; · iexact H3
      isplitl [H4]; · iexact H4
      isplitl [H5]; · iexact H5
      isplitl [H6]; · iexact H6
      isplitl [H8]; · iexact H8
      isplitl [H9]; · iexact H9
      isplitl [H10]; · iexact H10
      iexact H11
    isplitl [H12]; · iapply (to_vec c A.dqt _ _ (read_store c A.dqt _ _ _ full3)); iexact H12
    isplitl [H15 H16 H19 H20]
    · isplitl [H15]; · iapply (to_vec c A.dkct _ _ rfl); iexact H15
      isplitl [H16]; · iapply (to_vec c A.dvct _ _ rfl); iexact H16
      isplitl [H19]; · iapply (to_vec c dktM _ _ rfl); iexact H19
      iapply (to_vec c dvtM _ _ rfl); iexact H20
    isplitl [H17 H18 H22 HCx HBx HW]
    · isplitl [H17]; · iexists _; iexact H17
      isplitl [H18]; · iexists _; iexact H18
      isplitl [H22]; · iexists _; iexact H22
      isplitl [HCx]; · iexact HCx
      isplitl [HBx]; · iexact HBx
      iexists _; iexact HW
    isplitl [HR]; · iexact HR
    isplitl [HS3 HC3 HF0_dst HF0_src HF0 HF1_dst HF1_src HF1 HF2_dst HF2_src HF2]
    · isplitl [HF0_dst HF0 HF0_src]
      · isplitl [HF0_dst]; · iexists _; iexact HF0_dst
        isplitl [HF0]; · iexact HF0
        iexact HF0_src
      isplitl [HF1_dst HF1 HF1_src]
      · isplitl [HF1_dst]; · iexists _; iexact HF1_dst
        isplitl [HF1]; · iexact HF1
        iexact HF1_src
      isplitl [HF2_dst HF2 HF2_src]
      · isplitl [HF2_dst]; · iexists _; iexact HF2_dst
        isplitl [HF2]; · iexact HF2
        iexact HF2_src
      isplitl [HS3]; · iexact HS3
      iexact HC3
    ihave HO1 := (out_whole c dktO _ _) $$ HO1
    ihave HO2 := (out_whole c dvtO _ _) $$ HO2
    isplitl [HO1]; · iexact HO1
    isplitl [HO2]; · iexact HO2
    isplitl [HD1]; · iexact HD1
    iexact HD2

end Body

end Cert.GlobRun

end
-- ==== Proof.Glob.Homes.lean ====
/-
  The saved probabilities' array, cut into the blocks that a point's copies use, and put together again: whole, without
  the three blocks started ahead, and without the context's block of a point. The ring of four slots likewise.
-/
module

public import proofs.«01_k».proof.Proof.Glob.Body

@[expose] public section

noncomputable section

namespace Cert.GlobRun

open Cert.GlobIdeal Cert.GlobIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Homes
variable (c : Dev nD) (XP : Buf (Elt F) (pM.view.loc (c : Thread nD τ)))

/-- The whole array, apart from three blocks in a row; -/
theorem whole_split (n : ℕ) : (((c : Thread nD τ).loc main_v64) ↦{fullShare} XP : sProp 𝕄)
    ⊢ iprop(homeP c XP n ∗ homeP c XP (n + 1) ∗ homeP c XP (n + 2) ∗ restP c XP Finset.univ n) := by
  rw [homeP_eq, homeP_eq, homeP_eq]
  iintro H
  ihave H := ((pointsTo_split_subset (Finset.subset_univ (blkS n))).1) $$ H
  icases H with ⟨H0, H⟩
  ihave H := ((pointsTo_split_subset (I := blkS (n + 1)) (by
    rw [Finset.subset_sdiff]; exact ⟨Finset.subset_univ _, (blkS_disjoint n 1 (by omega) (by omega)).symm⟩)).1) $$ H
  icases H with ⟨H1, H⟩
  ihave H := ((pointsTo_split_subset (I := blkS (n + 2)) (by
    rw [Finset.subset_sdiff, Finset.subset_sdiff]
    exact ⟨⟨Finset.subset_univ _, (blkS_disjoint n 2 (by omega) (by omega)).symm⟩, (blkS_disjoint (n + 1) 1 (by omega) (by omega)).symm⟩)).1) $$ H
  icases H with ⟨H2, H⟩
  isplitl [H0]; · iexact H0
  isplitl [H1]; · iexact H1
  isplitl [H2]; · iexact H2
  iexact H
/-- and together again. -/
theorem whole_join (n : ℕ) : iprop(homeP c XP n ∗ homeP c XP (n + 1) ∗ homeP c XP (n + 2) ∗ restP c XP Finset.univ n)
    ⊢ (((c : Thread nD τ).loc main_v64) ↦{fullShare} XP : sProp 𝕄) := by
  rw [homeP_eq, homeP_eq, homeP_eq]
  iintro ⟨H0, H1, H2, H⟩
  iapply ((pointsTo_split_subset (Finset.subset_univ (blkS n))).2)
  isplitl [H0]; · iexact H0
  iapply ((pointsTo_split_subset (I := blkS (n + 1)) (by
    rw [Finset.subset_sdiff]; exact ⟨Finset.subset_univ _, (blkS_disjoint n 1 (by omega) (by omega)).symm⟩)).2)
  isplitl [H1]; · iexact H1
  iapply ((pointsTo_split_subset (I := blkS (n + 2)) (by
    rw [Finset.subset_sdiff, Finset.subset_sdiff]
    exact ⟨⟨Finset.subset_univ _, (blkS_disjoint n 2 (by omega) (by omega)).symm⟩, (blkS_disjoint (n + 1) 1 (by omega) (by omega)).symm⟩)).2)
  isplitl [H2]; · iexact H2
  iexact H

/-- The context's block of point `t`, in its place. -/
abbrev ctxP (t : ℕ) : sProp 𝕄 := (cblkM t).view.loc (c : Thread nD τ) ↦[(cblkM t).view.set]{fullShare} XP

theorem ctxS_sub (n t : ℕ) : ctxS t ⊆ restS Finset.univ n := by
  rw [Finset.subset_sdiff, Finset.subset_sdiff, Finset.subset_sdiff]
  exact ⟨⟨⟨Finset.subset_univ _, (blkS_ctxS_disjoint n t).symm⟩, (blkS_ctxS_disjoint (n + 1) t).symm⟩, (blkS_ctxS_disjoint (n + 2) t).symm⟩
theorem restS_out (n t : ℕ) : restS Finset.univ n \ ctxS t = restS (outS t) n := by
  have gen : ∀ u a b d x : Finset S8x32x17664x512.Idx, (((u \ a) \ b) \ d) \ x = (((u \ x) \ a) \ b) \ d := by
    intro u a b d x; ext y; simp only [Finset.mem_sdiff]; tauto
  exact gen _ _ _ _ _
theorem ctx_iff (n t : ℕ) : restP c XP Finset.univ n ⊣⊢ iprop(ctxP c XP t ∗ restP c XP (outS t) n) := by
  have e : ctxP c XP t = (pM.view.loc (c : Thread nD τ) ↦[ctxS t]{fullShare} XP : sProp 𝕄) :=
    congrArg (fun S => (_ ↦[S]{fullShare} XP : sProp 𝕄)) (cblkM_set t)
  rw [e]
  unfold restP
  rw [← restS_out]
  exact pointsTo_split_subset (ctxS_sub n t)

omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
omit [FloatOps F] in
theorem slotP_eq (s : Fin 4) (f) : slotP c s f = (((c : Thread nD τ).loc cc0_scratch4) ↦[slotS s]{fullShare} f : sProp 𝕄) :=
  congrArg (fun S => (_ ↦[S]{fullShare} f : sProp 𝕄)) (slotM_set s)

/-- The ring whole is its four slots, -/
theorem ring_split : iprop(∃ f : Buf (Elt F) ((c : Thread nD τ).loc cc0_scratch4), ((c : Thread nD τ).loc cc0_scratch4) ↦{fullShare} f)
    ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := Pipeline.UD sig nD τ) (Lvl := ℕ) (q := fullShare)
    (ℓ := (c : Thread nD τ).loc cc0_scratch4) slotS slotS_disjoint slotS_cover f).trans (bigSep_fin4 _))) $$ H
  icases H2 with ⟨H0, H1, H2, H3⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  iexists f; iapply (entails_of_eq (slotP_eq c 3 f).symm); iexact H3
/-- and back. -/
theorem ring_join : iprop((∃ f, slotP c 0 f) ∗ (∃ f, slotP c 1 f) ∗ (∃ f, slotP c 2 f) ∗ ∃ f, slotP c 3 f)
    ⊢ (iprop(∃ f : Buf (Elt F) ((c : Thread nD τ).loc cc0_scratch4), ((c : Thread nD τ).loc cc0_scratch4) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch4) slotS slotS_disjoint slotS_cover f0)
  irw [bigSep_fin4]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  iexists f3; iapply (entails_of_eq (slotP_eq c 3 f3)); iexact H3

/-! ## The kernel's own semaphores -/

/-- The ring's four cells, the context's cell, and the cells of the two copies out. -/
abbrev osem : Fin 7 → SemLoc sig := ![.dma (csm 0).sem, .dma (csm 1).sem, .dma (csm 2).sem, .dma (csm 3).sem, .dma cc0_scratch7.sem, .dma cc0_scoped0.sem, .dma cc0_scoped1.sem]
theorem ownSemFacts : Pipeline.OwnSemFacts spec0 osem := by decide

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ
omit [FloatOps F] in
theorem ownSems0_eq : (Pipeline.ownSems0 (Ix := Unit) (Name := ℕ) (U := Pipeline.UD sig nD τ) (Lvl := ℕ) (Val := Elt F) (τ := τ) osem c : sProp 𝕄)
    = iprop(cellP c 0 ∗ cellP c 1 ∗ cellP c 2 ∗ cellP c 3 ∗ semVal ((c : Thread nD τ), SemLoc.dma cc0_scratch7.sem) 0 ∗ semsP c) := by
  unfold Pipeline.ownSems0; rw [bigSep_fin7]; rfl

end Homes

end Cert.GlobRun

end
-- ==== Proof.Glob.Run.lean ====
/-
  The attention gradient's program run from its start: what each point leaves (from the point before it), the state
  between points, the body's obligation at every point, and the run of the whole program with its arrays at the end.
-/
module

public import proofs.«01_k».proof.Proof.Glob.Homes
public import proofs.«01_k».proof.Proof.Gen.GlobIdeal.Frame
public import Idealize.ShloMosaic.Lib.Pipeline.FrameSuffixV

@[expose] public section

set_option maxRecDepth 16384

noncomputable section

namespace Cert.GlobRun

open Cert.GlobIdeal Cert.GlobIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section State
variable (c : Dev nD)

abbrev Hset : Finset (Ref sig .tc) := {main_v64}
abbrev Rset : Finset (Ref sig .tc) := {main_v95_1, main_v95_2}

theorem bigSep_R (Φ : Ref sig .tc → sProp 𝕄) : bigSep Rset Φ = iprop(Φ main_v95_1 ∗ Φ main_v95_2) := by
  unfold Rset
  rw [bigSep_insert (by decide), bigSep_singleton]; rfl
theorem bigSep_H (Φ : Ref sig .tc → sProp 𝕄) : bigSep Hset Φ = Φ main_v64 := bigSep_singleton

theorem some_in {ℓ : Loc nD τ sig} {S : Finset ℓ.ty.shape.Idx} (hS : S = Finset.univ) :
    iprop(∃ f : Buf (Elt F) ℓ, ℓ ↦{fullShare} f) ⊢ (iprop(∃ f : Buf (Elt F) ℓ, ℓ ↦[S]{fullShare} f) : sProp 𝕄) := by subst hS; exact .rfl
theorem some_out {ℓ : Loc nD τ sig} {S : Finset ℓ.ty.shape.Idx} (hS : S = Finset.univ) :
    iprop(∃ f : Buf (Elt F) ℓ, ℓ ↦[S]{fullShare} f) ⊢ (iprop(∃ f : Buf (Elt F) ℓ, ℓ ↦{fullShare} f) : sProp 𝕄) := by subst hS; exact .rfl
theorem all_in {ℓ : Loc nD τ sig} {S : Finset ℓ.ty.shape.Idx} (hS : S = Finset.univ) (f : Buf (Elt F) ℓ) :
    (ℓ ↦{fullShare} f : sProp 𝕄) ⊢ ℓ ↦[S]{fullShare} f := by subst hS; exact .rfl
theorem all_out {ℓ : Loc nD τ sig} {S : Finset ℓ.ty.shape.Idx} (hS : S = Finset.univ) (f : Buf (Elt F) ℓ) :
    (ℓ ↦[S]{fullShare} f : sProp 𝕄) ⊢ ℓ ↦{fullShare} f := by subst hS; exact .rfl

/-- The state at the start, piece by piece. -/
abbrev entered (XP : Buf (Elt F) (pM.view.loc (c : Thread nD τ))) : sProp 𝕄 := iprop((∃ f, bufP c accM f) ∗ (∃ f, bufP c dpM f) ∗ (∃ f, bufP c dktM f) ∗ (∃ f, bufP c dvtM f) ∗ (∃ f, bufP c ctxM f)
    ∗ semVal ((c : Thread nD τ), SemLoc.dma cc0_scratch7.sem) 0 ∗ restP c XP Finset.univ 0 ∗ idleP c XP 0 ∗ anyResP c)
set_option maxHeartbeats 1000000 in
theorem enter_of (VV : (c : Dev nD) → (b : Ref sig .tc) → Buf (Elt F) ((c : Thread nD τ).loc b)) :
    Pipeline.ΦDRV osem spec0 Hset Rset VV VV c ⊢ entered c (VV c main_v64) := by
  unfold entered Pipeline.ΦDRV
  rw [scopedRest0_eq, ownSems0_eq]
  rw [bigSep_H, bigSep_R]
  iintro ⟨⟨H0, H1, H2, H3, HRing, H5⟩, ⟨HC0, HC1, HC2, HC3, HCx, HSem⟩, HP, ⟨HO1, HO2⟩⟩
  ihave HS := (ring_split c) $$ HRing
  icases HS with ⟨HS0, HS1, HS2, HS3⟩
  ihave HB := (whole_split c (VV c main_v64) 0) $$ HP
  icases HB with ⟨HB0, HB1, HB2, HR⟩
  isplitl [H0]; · iapply (some_in (View.set_whole cc0_scratch0)); iexact H0
  isplitl [H1]; · iapply (some_in (View.set_whole cc0_scratch1)); iexact H1
  isplitl [H2]; · iapply (some_in (View.set_whole cc0_scratch2)); iexact H2
  isplitl [H3]; · iapply (some_in (View.set_whole cc0_scratch3)); iexact H3
  isplitl [H5]; · iapply (some_in (View.set_whole cc0_scratch5)); iexact H5
  isplitl [HCx]; · iexact HCx
  isplitl [HR]; · iexact HR
  isplitr [HO1 HO2 HSem]
  · isplitl [HS0 HC0 HB0]
    · isplitl [HS0]; · iexact HS0
      isplitl [HC0]; · iexact HC0
      iexact HB0
    isplitl [HS1 HC1 HB1]
    · isplitl [HS1]; · iexact HS1
      isplitl [HC1]; · iexact HC1
      iexact HB1
    isplitl [HS2 HC2 HB2]
    · isplitl [HS2]; · iexact HS2
      isplitl [HC2]; · iexact HC2
      iexact HB2
    isplitl [HS3]; · iexact HS3
    iexact HC3
  isplitl [HO1]; · iapply (some_in (View.set_whole main_v95_1)); iexists _; iexact HO1
  isplitl [HO2]; · iapply (some_in (View.set_whole main_v95_2)); iexists _; iexact HO2
  iexact HSem

/-- The state at the end, from its pieces. -/
abbrev left (XP : Buf (Elt F) (pM.view.loc (c : Thread nD τ))) (r : Res (F := F)) : sProp 𝕄 := iprop((∃ f, bufP c accM f) ∗ (∃ f, bufP c dpM f) ∗ (∃ f, bufP c dktM f) ∗ (∃ f, bufP c dvtM f) ∗ (∃ f, bufP c ctxM f)
    ∗ semVal ((c : Thread nD τ), SemLoc.dma cc0_scratch7.sem) 0 ∗ restP c XP Finset.univ 8192 ∗ idleP c XP 8192 ∗ resP c r)
set_option maxHeartbeats 1000000 in
theorem leave_of (VV G : (c : Dev nD) → (b : Ref sig .tc) → Buf (Elt F) ((c : Thread nD τ).loc b)) (r : Res (F := F))
    (XP : Buf (Elt F) (pM.view.loc (c : Thread nD τ))) (hXP : XP = VV c main_v64) (h1 : G c main_v95_1 = dktO.view.rep r.dkt) (h2 : G c main_v95_2 = dvtO.view.rep r.dvt) :
    left c XP r ⊢ Pipeline.ΦDRV osem spec0 Hset Rset VV G c := by
  subst hXP
  unfold left Pipeline.ΦDRV
  rw [scopedRest0_eq, ownSems0_eq]
  rw [bigSep_H, bigSep_R, h1, h2]
  iintro ⟨H0, H1, H2, H3, H5, HCx, HR, ⟨⟨HS0, HC0, HB0⟩, ⟨HS1, HC1, HB1⟩, ⟨HS2, HC2, HB2⟩, HS3, HC3⟩, HO1, HO2, HSem⟩
  isplitl [H0 H1 H2 H3 H5 HS0 HS1 HS2 HS3]
  · isplitl [H0]; · iapply (some_out (View.set_whole cc0_scratch0)); iexact H0
    isplitl [H1]; · iapply (some_out (View.set_whole cc0_scratch1)); iexact H1
    isplitl [H2]; · iapply (some_out (View.set_whole cc0_scratch2)); iexact H2
    isplitl [H3]; · iapply (some_out (View.set_whole cc0_scratch3)); iexact H3
    isplitr [H5]
    · iapply (ring_join c)
      isplitl [HS0]; · iexact HS0
      isplitl [HS1]; · iexact HS1
      isplitl [HS2]; · iexact HS2
      iexact HS3
    iapply (some_out (View.set_whole cc0_scratch5)); iexact H5
  isplitl [HC0 HC1 HC2 HC3 HCx HSem]
  · isplitl [HC0]; · iexact HC0
    isplitl [HC1]; · iexact HC1
    isplitl [HC2]; · iexact HC2
    isplitl [HC3]; · iexact HC3
    isplitl [HCx]; · iexact HCx
    iexact HSem
  isplitl [HB0 HB1 HB2 HR]
  · iapply (whole_join c (VV c main_v64) 8192)
    isplitl [HB0]; · iexact HB0
    isplitl [HB1]; · iexact HB1
    isplitl [HB2]; · iexact HB2
    iexact HR
  isplitl [HO1]; · iapply (all_out (View.set_whole main_v95_1)); iexact HO1
  iapply (all_out (View.set_whole main_v95_2)); iexact HO2

end State

variable (m : (ℓ : Loc nD τ sig) → Buf (Elt F) ℓ) (ρ : Dev nD → PrngReg) (c : Dev nD)

/-- The saved probabilities as the launch finds them. -/
def XPm : Buf (Elt F) (pM.view.loc (c : Thread nD τ)) := V m c main_v64

/-- The point's staging buffers. -/
abbrev stg (t : Fin cfg0.N) : Stages where
  qt := win0_0.stage (cfg0.slots t 0)
  hqt := hstage0_0 ((cfg0.slots t 0).cast nbuf0_0)
  dot := win0_1.stage (cfg0.slots t 1)
  hdot := hstage0_1 ((cfg0.slots t 1).cast nbuf0_1)
  ot := win0_2.stage (cfg0.slots t 2)
  hot := hstage0_2 ((cfg0.slots t 2).cast nbuf0_2)
  lse := win0_3.stage (cfg0.slots t 3)
  hlse := hstage0_3 ((cfg0.slots t 3).cast nbuf0_3)
  mrun := win0_4.stage (cfg0.slots t 4)
  hmrun := hstage0_4 ((cfg0.slots t 4).cast nbuf0_4)
  kt := win0_5.stage (cfg0.slots t 5)
  hkt := hstage0_5 ((cfg0.slots t 5).cast nbuf0_5)
  v := win0_6.stage (cfg0.slots t 6)
  hv := hstage0_6 ((cfg0.slots t 6).cast nbuf0_6)
  kct := win0_7.stage (cfg0.slots t 7)
  hkct := hstage0_7 ((cfg0.slots t 7).cast nbuf0_7)
  vc := win0_8.stage (cfg0.slots t 8)
  hvc := hstage0_8 ((cfg0.slots t 8).cast nbuf0_8)
  dqt := win0_9.stage (cfg0.slots t 9)
  hdqt := hstage0_9 ((cfg0.slots t 9).cast nbuf0_9)
  dkct := win0_10.stage (cfg0.slots t 10)
  hdkct := hstage0_10 ((cfg0.slots t 10).cast nbuf0_10)
  dvct := win0_11.stage (cfg0.slots t 11)
  hdvct := hstage0_11 ((cfg0.slots t 11).cast nbuf0_11)

/-- The point's staged blocks. -/
abbrev insOf (t : Fin cfg0.N) : Ins (F := F) where
  qt := iblk m c 0 t
  dot := iblk m c 1 t
  ot := iblk m c 2 t
  lse := iblk m c 3 t
  mrun := iblk m c 4 t
  kt := iblk m c 5 t
  v := iblk m c 6 t
  kct := iblk m c 7 t
  vc := iblk m c 8 t

/-- Point `n` of the grid. -/
abbrev pt (n : ℕ) (h : n < 256) : Fin cfg0.N := ⟨n, lt_of_lt_of_eq h N_0.symm⟩

/-- What point `n` leaves. -/
def outAt : ℕ → Outs (F := F)
  | 0 => (firstRun c (XPm m c) (pt 0 (by omega)) (stg (pt 0 (by omega))) rfl (insOf m c (pt 0 (by omega)))).1
  | n + 1 =>
    if h : n + 1 < 256 then
      if h1 : n + 1 = 255 then (lastRun c (XPm m c) (pt (n + 1) h) (stg (pt (n + 1) h)) h1 (insOf m c (pt (n + 1) h)) (outAt n).sums).1.1
      else (midRun c (XPm m c) (pt (n + 1) h) (stg (pt (n + 1) h)) (Nat.succ_ne_zero n) h1 (insOf m c (pt (n + 1) h)) (outAt n).sums).1
    else outAt n

theorem outAt_first (t : Fin cfg0.N) (h : t.val = 0) : outAt m c t.val = (firstRun c (XPm m c) t (stg t) h (insOf m c t)).1 := by
  obtain ⟨n, hn⟩ := t
  dsimp only at h
  subst h
  rw [outAt]
theorem outAt_mid (t : Fin cfg0.N) (h0 : t.val ≠ 0) (h1 : t.val ≠ 255) :
    outAt m c t.val = (midRun c (XPm m c) t (stg t) h0 h1 (insOf m c t) (outAt m c (t.val - 1)).sums).1 := by
  have hN := t_lt t
  obtain ⟨n, hn⟩ := t
  match n, hn, h0, h1, hN with
  | 0, _, h0, _, _ => exact absurd rfl h0
  | n + 1, hn, h0, h1, hN => rw [outAt, dif_pos hN, dif_neg h1]; rfl
theorem outAt_last (t : Fin cfg0.N) (h1 : t.val = 255) :
    outAt m c t.val = (lastRun c (XPm m c) t (stg t) h1 (insOf m c t) (outAt m c (t.val - 1)).sums).1.1 := by
  have hN := t_lt t
  obtain ⟨n, hn⟩ := t
  match n, hn, h1, hN with
  | 0, _, h1, _ => exact absurd h1 (show ¬ (0 : ℕ) = 255 by omega)
  | n + 1, hn, h1, hN => rw [outAt, dif_pos hN, dif_pos h1]; rfl

/-- The two results that the last point copies out. -/
def resOf : Res (F := F) :=
  (lastRun c (XPm m c) (pt 255 (by omega)) (stg (pt 255 (by omega))) rfl (insOf m c (pt 255 (by omega))) (outAt m c ((pt 255 (by omega)).val - 1)).sums).1.2

/-! ## The state between points -/

/-- The arrays written by copies, at the end. -/
def Gout (c : Dev nD) (b : Ref sig .tc) : Buf (Elt F) ((c : Thread nD τ).loc b) :=
  if h : b = main_v95_1 then h ▸ dktO.view.rep (resOf m c).dkt
  else if h : b = main_v95_2 then h ▸ dvtO.view.rep (resOf m c).dvt
  else V m c b
theorem Gout_1 : Gout m c main_v95_1 = dktO.view.rep (resOf m c).dkt := dif_pos rfl
theorem Gout_2 : Gout m c main_v95_2 = dvtO.view.rep (resOf m c).dvt := (dif_neg (by decide)).trans (dif_pos rfl)

abbrev ΦV (G : (c : Dev nD) → (b : Ref sig .tc) → Buf (Elt F) ((c : Thread nD τ).loc b)) : sProp 𝕄 := Pipeline.ΦDRV osem spec0 Hset Rset (V m) G c

/-- Between two points: the scratch sums as the point before left them, three blocks on their way. -/
def midΦ (n : ℕ) : sProp 𝕄 :=
  iprop((∃ f, bufP c accM f) ∗ (∃ f, bufP c dpM f) ∗ (∃ f, bufP c ctxM f) ∗ semVal ((c : Thread nD τ), SemLoc.dma cc0_scratch7.sem) 0
    ∗ vecP c dktM (outAt m c (n - 1)).sums.dkt ∗ vecP c dvtM (outAt m c (n - 1)).sums.dvt
    ∗ restP c (XPm m c) Finset.univ (32 * n) ∗ aheadP c (XPm m c) (32 * n) ∗ anyResP c)

def Φat (n : ℕ) : sProp 𝕄 := if n = 0 then ΦV m c (V m) else if n = 256 then ΦV m c (Gout m) else midΦ m c n
theorem Φat_zero : Φat m c 0 = ΦV m c (V m) := if_pos rfl
theorem Φat_end : Φat m c 256 = ΦV m c (Gout m) := (if_neg (by decide)).trans (if_pos rfl)
theorem Φat_mid (n : ℕ) (h0 : n ≠ 0) (h1 : n ≠ 256) : Φat m c n = midΦ m c n := (if_neg h0).trans (if_neg h1)

theorem enter : ΦV m c (V m) ⊢ entered c (XPm m c) := enter_of c (V m)
theorem leave : left c (XPm m c) (resOf m c) ⊢ ΦV m c (Gout m) := leave_of c (V m) (Gout m) (resOf m c) (XPm m c) rfl (Gout_1 m c) (Gout_2 m c)

/-! ## The pipeline's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outAt m c t.val).dqt
    | ⟨10, _⟩ => (outAt m c t.val).sums.dkct
    | ⟨11, _⟩ => (outAt m c t.val).sums.dvct
  Φ n := Φat m c n.val
  q _ := fullShare
  owed _ := 0

end Cert.GlobRun

end
-- ==== Proof.Glob.Launch.lean ====
/-
  The attention gradient's launch: the body's obligation at every point from its runs, and the run of the whole program.
-/
module

public import proofs.«01_k».proof.Proof.Glob.Run

@[expose] public section

set_option maxRecDepth 16384

noncomputable section

namespace Cert.GlobRun

open Cert.GlobIdeal Cert.GlobIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem Φ_at (c : Dev nD) (n : Fin (cfg0.N + 1)) : (dats m 0 c).Φ n = Φat m c n.val := rfl
theorem A_eq (c : Dev nD) (w : Fin cfg0.W) : (dats m 0 c).A w = V m c (Pipeline.arrRef spec0 w) := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outAt m c t.val).dqt := by dsimp only [dats]
theorem after_10 (c : Dev nD) (t : Fin cfg0.N) : (dats m 0 c).after 10 t = (outAt m c t.val).sums.dkct := by dsimp only [dats]
theorem after_11 (c : Dev nD) (t : Fin cfg0.N) : (dats m 0 c).after 11 t = (outAt m c t.val).sums.dvct := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]) t d).trans
    (by unfold Dat.fetched Dat.blockOf iblk; rw [A_eq]; rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]) t d).trans
    (by unfold Dat.fetched Dat.blockOf iblk; rw [A_eq]; rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]) t d).trans
    (by unfold Dat.fetched Dat.blockOf iblk; rw [A_eq]; rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]) t d).trans
    (by unfold Dat.fetched Dat.blockOf iblk; rw [A_eq]; rfl)
theorem before_10 (c : Dev nD) (t : Fin cfg0.N) (h0 : t.val ≠ 0) (d) : (dats m 0 c).before 10 t d = (outAt m c (t.val - 1)).sums.dkct := by
  have hN := t_lt t
  rw [Dat.before_out_kept _ 10 rfl t (by omega) (Bool.eq_false_iff.mpr fun h => by have := (flush0_10 _).mp h; dsimp only at this; omega) (fun _ => rfl) (fun _ _ => rfl)]
  dsimp only [dats]
theorem before_11 (c : Dev nD) (t : Fin cfg0.N) (h0 : t.val ≠ 0) (d) : (dats m 0 c).before 11 t d = (outAt m c (t.val - 1)).sums.dvct := by
  have hN := t_lt t
  rw [Dat.before_out_kept _ 11 rfl t (by omega) (Bool.eq_false_iff.mpr fun h => by have := (flush0_11 _).mp h; dsimp only at this; omega) (fun _ => rfl) (fun _ _ => rfl)]
  dsimp only [dats]

/-! ## The body at a point -/

/-- The staged blocks as the body takes them, -/
theorem ins_in (c : Dev nD) {s : Shape} {e : EltTy} (a : Memref sig .tc .vmem s e) (x : s.Idx → Elt F e) :
    owns (c : Thread nD τ) a fullShare x ⊢ (vecP c a x : sProp 𝕄) := by
  unfold owns
  iintro ⟨%f, %hf, H⟩
  iapply (to_vec c a f x hf)
  iexact H
/-- as the body leaves them. -/
theorem ins_out (c : Dev nD) {s : Shape} {e : EltTy} (a : Memref sig .tc .vmem s e) (x : s.Idx → Elt F e) :
    (vecP c a x : sProp 𝕄) ⊢ owns (c : Thread nD τ) a fullShare x := by
  unfold owns
  iintro H
  iexists _
  isplitr; · ipureintro; exact View.read_rep _ _
  iexact H
theorem any_in (c : Dev nD) {s : Shape} {e : EltTy} (a : Memref sig .tc .vmem s e) (x : s.Idx → Elt F e) :
    owns (c : Thread nD τ) a fullShare x ⊢ (iprop(∃ f, bufP c a f) : sProp 𝕄) := by
  unfold owns
  iintro ⟨%f, %hf, H⟩
  iexists f
  iexact H

/-- The staging buffers before the body, each at given contents; -/
def heldP (c : Dev nD) (A : Stages) (g : Ins (F := F)) (o : S1x128x512.Idx → Elt F .f32) (kc vc : S128x256.Idx → Elt F .f32) : sProp 𝕄 :=
  iprop(owns (c : Thread nD τ) A.qt fullShare g.qt ∗ owns (c : Thread nD τ) A.dot fullShare g.dot ∗ owns (c : Thread nD τ) A.ot fullShare g.ot
    ∗ owns (c : Thread nD τ) A.lse fullShare g.lse ∗ owns (c : Thread nD τ) A.mrun fullShare g.mrun ∗ owns (c : Thread nD τ) A.kt fullShare g.kt
    ∗ owns (c : Thread nD τ) A.v fullShare g.v ∗ owns (c : Thread nD τ) A.kct fullShare g.kct ∗ owns (c : Thread nD τ) A.vc fullShare g.vc
    ∗ owns (c : Thread nD τ) A.dqt fullShare o ∗ owns (c : Thread nD τ) A.dkct fullShare kc ∗ owns (c : Thread nD τ) A.dvct fullShare vc)
theorem held_in (c : Dev nD) (A : Stages) (g : Ins (F := F)) (o kc vc) :
    heldP c A g o kc vc ⊢ iprop(insP c A g ∗ (∃ d, bufP c A.dqt d) ∗ vecP c A.dkct kc ∗ vecP c A.dvct vc) := by
  unfold heldP
  iintro ⟨H0, H1, H2, H3, H4, H5, H6, H7, H8, H9, H10, H11⟩
  isplitl [H0 H1 H2 H3 H4 H5 H6 H7 H8]
  · isplitl [H0]; · iapply (ins_in c); iexact H0
    isplitl [H1]; · iapply (ins_in c); iexact H1
    isplitl [H2]; · iapply (ins_in c); iexact H2
    isplitl [H3]; · iapply (ins_in c); iexact H3
    isplitl [H4]; · iapply (ins_in c); iexact H4
    isplitl [H5]; · iapply (ins_in c); iexact H5
    isplitl [H6]; · iapply (ins_in c); iexact H6
    isplitl [H7]; · iapply (ins_in c); iexact H7
    iapply (ins_in c); iexact H8
  isplitl [H9]; · iapply (any_in c A.dqt o); iexact H9
  isplitl [H10]; · iapply (ins_in c); iexact H10
  iapply (ins_in c); iexact H11
theorem held_out (c : Dev nD) (A : Stages) (g : Ins (F := F)) (o kc vc) :
    iprop(insP c A g ∗ vecP c A.dqt o ∗ vecP c A.dkct kc ∗ vecP c A.dvct vc) ⊢ heldP c A g o kc vc := by
  unfold heldP
  iintro ⟨⟨H0, H1, H2, H3, H4, H5, H6, H7, H8⟩, H9, H10, H11⟩
  isplitl [H0]; · iapply (ins_out c); iexact H0
  isplitl [H1]; · iapply (ins_out c); iexact H1
  isplitl [H2]; · iapply (ins_out c); iexact H2
  isplitl [H3]; · iapply (ins_out c); iexact H3
  isplitl [H4]; · iapply (ins_out c); iexact H4
  isplitl [H5]; · iapply (ins_out c); iexact H5
  isplitl [H6]; · iapply (ins_out c); iexact H6
  isplitl [H7]; · iapply (ins_out c); iexact H7
  isplitl [H8]; · iapply (ins_out c); iexact H8
  isplitl [H9]; · iapply (ins_out c); iexact H9
  isplitl [H10]; · iapply (ins_out c); iexact H10
  iapply (ins_out c); iexact H11

section Points
variable (c : Dev nD) (t : Fin cfg0.N) (o : S1x128x512.Idx → Elt F .f32) (kc vc : S128x256.Idx → Elt F .f32)

/-- What every point is given beside the state between points, and what it gives back. -/
abbrev givenP : sProp 𝕄 := iprop((∃ W, owes (c : Thread nD τ) 0 W) ∗ heldP c (stg t) (insOf m c t) o kc vc)
abbrev backP : sProp 𝕄 := iprop((∃ W, owes (c : Thread nD τ) 0 W)
  ∗ heldP c (stg t) (insOf m c t) (outAt m c t.val).dqt (outAt m c t.val).sums.dkct (outAt m c t.val).sums.dvct)

set_option maxHeartbeats 1000000 in
theorem sound_first (h0 : t.val = 0) : iprop(Φat m c t.val ∗ givenP m c t o kc vc)
    ⊢ wp frame (wpE (defs₀ (F := F)) 𝒱₀ (c : Thread nD τ) none) Set.univ (bodyG t (stg t)) (fun _ => iprop(Φat m c (t.val + 1) ∗ backP m c t)) := by
  rw [Φat_mid m c (t.val + 1) (by omega) (by omega)]
  unfold givenP backP midΦ
  rw [outAt_first m c t h0, show t.val + 1 - 1 = t.val from rfl, outAt_first m c t h0]
  iintro ⟨HΦ, HW, HH⟩
  ihave HH := (held_in c _ _ _ _ _) $$ HH
  icases HH with ⟨HI, HQ, HK, HV⟩
  ihave HΦ := (show Φat m c t.val ⊢ entered c (XPm m c) from by rw [h0, Φat_zero]; exact enter m c) $$ HΦ
  icases HΦ with ⟨H0, H1, H2, H3, H5, HCx, HR, HF, HO⟩
  ihave HR := (show restP c (XPm m c) Finset.univ 0 ⊢ _ from (ctx_iff c (XPm m c) 0 t.val).1) $$ HR
  icases HR with ⟨HB, HR⟩
  iapply ((firstRun c (XPm m c) t (stg t) h0 (insOf m c t)).2 _)
  isplitr [HO]
  · isplitl [HI]; · iexact HI
    isplitl [HQ]; · iexact HQ
    isplitl [HK HV H2 H3]
    · isplitl [HK]; · iexists _; iexact HK
      isplitl [HV]; · iexists _; iexact HV
      isplitl [H2]; · iexact H2
      iexact H3
    isplitl [H0 H1 H5 HCx HB HW]
    · isplitl [H0]; · iexact H0
      isplitl [H1]; · iexact H1
      isplitl [H5]; · iexact H5
      isplitl [HCx]; · iexact HCx
      isplitl [HB]; · iexact HB
      iexact HW
    irw [show 32 * t.val = 0 by omega]
    isplitl [HR]; · iexact HR
    iexact HF
  iintro ⟨HI, HQ, ⟨HK, HV, H2, H3⟩, ⟨H0, H1, H5, HCx, HB, HW⟩, HR, HF⟩
  isplitl [H0 H1 H5 HCx H2 H3 HB HR HF HO]
  · isplitl [H0]; · iexact H0
    isplitl [H1]; · iexact H1
    isplitl [H5]; · iexact H5
    isplitl [HCx]; · iexact HCx
    isplitl [H2]; · iexact H2
    isplitl [H3]; · iexact H3
    irw [show 32 * (t.val + 1) = 32 * t.val + 32 by omega]
    isplitl [HB HR]
    · iapply ((ctx_iff c (XPm m c) (32 * t.val + 32) t.val).2)
      isplitl [HB]; · iexact HB
      iexact HR
    isplitl [HF]; · iexact HF
    iexact HO
  isplitl [HW]; · iexact HW
  iapply (held_out c _ _ _ _ _)
  isplitl [HI]; · iexact HI
  isplitl [HQ]; · iexact HQ
  isplitl [HK]; · iexact HK
  iexact HV

/-- The sums that a point finds are those the point before left. -/
abbrev prev : Carried (F := F) := (outAt m c (t.val - 1)).sums

set_option maxHeartbeats 1000000 in
theorem sound_mid (h0 : t.val ≠ 0) (h1 : t.val ≠ 255) : iprop(Φat m c t.val ∗ givenP m c t o (prev m c t).dkct (prev m c t).dvct)
    ⊢ wp frame (wpE (defs₀ (F := F)) 𝒱₀ (c : Thread nD τ) none) Set.univ (bodyG t (stg t)) (fun _ => iprop(Φat m c (t.val + 1) ∗ backP m c t)) := by
  have hN := t_lt t
  rw [Φat_mid m c (t.val + 1) (by omega) (by omega), Φat_mid m c t.val h0 (by omega)]
  unfold givenP backP midΦ
  rw [show t.val + 1 - 1 = t.val from rfl, outAt_mid m c t h0 h1]
  iintro ⟨HΦ, HW, HH⟩
  ihave HH := (held_in c _ _ _ _ _) $$ HH
  icases HH with ⟨HI, HQ, HK, HV⟩
  icases HΦ with ⟨H0, H1, H5, HCx, H2, H3, HR, HF, HO⟩
  ihave HR := ((ctx_iff c (XPm m c) (32 * t.val) t.val).1) $$ HR
  icases HR with ⟨HB, HR⟩
  iapply ((midRun c (XPm m c) t (stg t) h0 h1 (insOf m c t) (prev m c t)).2 _)
  isplitr [HO]
  · isplitl [HI]; · iexact HI
    isplitl [HQ]; · iexact HQ
    isplitl [HK HV H2 H3]
    · isplitl [HK]; · iexact HK
      isplitl [HV]; · iexact HV
      isplitl [H2]; · iexact H2
      iexact H3
    isplitl [H0 H1 H5 HCx HB HW]
    · isplitl [H0]; · iexact H0
      isplitl [H1]; · iexact H1
      isplitl [H5]; · iexact H5
      isplitl [HCx]; · iexact HCx
      isplitl [HB]; · iexact HB
      iexact HW
    isplitl [HR]; · iexact HR
    iexact HF
  iintro ⟨HI, HQ, ⟨HK, HV, H2, H3⟩, ⟨H0, H1, H5, HCx, HB, HW⟩, HR, HF⟩
  isplitl [H0 H1 H5 HCx H2 H3 HB HR HF HO]
  · isplitl [H0]; · iexact H0
    isplitl [H1]; · iexact H1
    isplitl [H5]; · iexact H5
    isplitl [HCx]; · iexact HCx
    isplitl [H2]; · iexact H2
    isplitl [H3]; · iexact H3
    irw [show 32 * (t.val + 1) = 32 * t.val + 32 by omega]
    isplitl [HB HR]
    · iapply ((ctx_iff c (XPm m c) (32 * t.val + 32) t.val).2)
      isplitl [HB]; · iexact HB
      iexact HR
    isplitl [HF]; · iexact HF
    iexact HO
  isplitl [HW]; · iexact HW
  iapply (held_out c _ _ _ _ _)
  isplitl [HI]; · iexact HI
  isplitl [HQ]; · iexact HQ
  isplitl [HK]; · iexact HK
  iexact HV

theorem resOf_eq (h1 : t.val = 255) : resOf m c = (lastRun c (XPm m c) t (stg t) h1 (insOf m c t) (prev m c t)).1.2 := by
  obtain rfl : t = pt 255 (by decide) := Fin.ext h1
  unfold resOf prev
  rfl

set_option maxHeartbeats 1000000 in
theorem sound_last (h1 : t.val = 255) : iprop(Φat m c t.val ∗ givenP m c t o (prev m c t).dkct (prev m c t).dvct)
    ⊢ wp frame (wpE (defs₀ (F := F)) 𝒱₀ (c : Thread nD τ) none) Set.univ (bodyG t (stg t)) (fun _ => iprop(Φat m c (t.val + 1) ∗ backP m c t)) := by
  have hN := t_lt t
  rw [show t.val + 1 = 256 by omega, Φat_end, Φat_mid m c t.val (by omega) (by omega)]
  unfold givenP backP midΦ
  rw [outAt_last m c t h1]
  iintro ⟨HΦ, HW, HH⟩
  ihave HH := (held_in c _ _ _ _ _) $$ HH
  icases HH with ⟨HI, HQ, HK, HV⟩
  icases HΦ with ⟨H0, H1, H5, HCx, H2, H3, HR, HF, HO⟩
  ihave HR := ((ctx_iff c (XPm m c) (32 * t.val) t.val).1) $$ HR
  icases HR with ⟨HB, HR⟩
  iapply ((lastRun c (XPm m c) t (stg t) h1 (insOf m c t) (prev m c t)).2 _)
  isplitl [HI HQ HK HV H0 H1 H2 H3 H5 HCx HB HW HR HF HO]
  · isplitl [HI]; · iexact HI
    isplitl [HQ]; · iexact HQ
    isplitl [HK HV H2 H3]
    · isplitl [HK]; · iexact HK
      isplitl [HV]; · iexact HV
      isplitl [H2]; · iexact H2
      iexact H3
    isplitl [H0 H1 H5 HCx HB HW]
    · isplitl [H0]; · iexact H0
      isplitl [H1]; · iexact H1
      isplitl [H5]; · iexact H5
      isplitl [HCx]; · iexact HCx
      isplitl [HB]; · iexact HB
      iexact HW
    isplitl [HR]; · iexact HR
    isplitl [HF]; · iexact HF
    iexact HO
  iintro ⟨HI, HQ, ⟨HK, HV, H2, H3⟩, ⟨H0, H1, H5, HCx, HB, HW⟩, HR, HF, HO⟩
  isplitl [H0 H1 H5 HCx H2 H3 HB HR HF HO]
  · iapply (leave m c)
    unfold left
    isplitl [H0]; · iexact H0
    isplitl [H1]; · iexact H1
    isplitl [H2]; · iexists _; iexact H2
    isplitl [H3]; · iexists _; iexact H3
    isplitl [H5]; · iexact H5
    isplitl [HCx]; · iexact HCx
    irw [show 8192 = 32 * t.val + 32 by omega]
    isplitl [HB HR]
    · iapply ((ctx_iff c (XPm m c) (32 * t.val + 32) t.val).2)
      isplitl [HB]; · iexact HB
      iexact HR
    isplitl [HF]; · iexact HF
    irw [resOf_eq m c t h1]
    iexact HO
  isplitl [HW]; · iexact HW
  iapply (held_out c _ _ _ _ _)
  isplitl [HI]; · iexact HI
  isplitl [HQ]; · iexact HQ
  isplitl [HK]; · iexact HK
  iexact HV

/-- The body's triple at every point, in the library's words. -/
theorem sound (h0 : t.val ≠ 0) : iprop(Φat m c t.val ∗ givenP m c t o (prev m c t).dkct (prev m c t).dvct)
    ⊢ wp frame (wpE (defs₀ (F := F)) 𝒱₀ (c : Thread nD τ) none) Set.univ (bodyG t (stg t)) (fun _ => iprop(Φat m c (t.val + 1) ∗ backP m c t)) := by
  by_cases h1 : t.val = 255
  · exact sound_last m c t o h1
  · exact sound_mid m c t o h0 h1
end Points

theorem defs₀_row (t : Fin cfg0.N) : (defs₀ (F := F)) .tc cfg0.body (cfg0.bodyArgs t (cfg0.slots t)) = bodyG t (stg t) := by
  unfold defs₀; rw [Defs.onTc_tc]

/-- The windows before the body, read off the library's statement. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem pre_in (c : Dev nD) (t : Fin cfg0.N) : bodyPre m c t ⊢ iprop(Φat m c t.val ∗ ∃ o d10 d11, givenP m c t o ((dats m 0 c).before 10 t d10) ((dats m 0 c).before 11 t d11)) := by
  unfold bodyPre givenP heldP
  simp only [before_0, before_1, before_2, before_3, before_4, before_5, before_6, before_7, before_8]
  unfold Dat.owesAt Pipeline.owesWithin
  rw [Φ_at]
  iintro ⟨HΦ, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  isplitl [HΦ]; · iexact HΦ
  iexists _; iexists d10; iexists d11
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
theorem post_out (c : Dev nD) (t : Fin cfg0.N) : iprop(Φat m c (t.val + 1) ∗ backP m c t) ⊢ bodyPost m c t := by
  unfold bodyPost backP heldP
  rw [after_0, after_1, after_2, after_3, after_4, after_5, after_6, after_7, after_8, after_9, after_10, after_11]
  unfold Dat.owesAt Pipeline.owesWithin
  rw [Φ_at]
  iintro ⟨HΦ, ⟨%W, HW⟩, H0, H1, H2, H3, H4, H5, H6, H7, H8, H9, H10, H11⟩
  isplitl [HΦ]; · iexact HΦ
  isplitl [HW]
  · iexists W
    isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11
theorem sound_body (c : Dev nD) (t : Fin cfg0.N) :
    bodyPre m c t ⊢ wp frame (wpE (defs₀ (F := F)) 𝒱₀ (c : Thread nD τ) none) Set.univ (bodyG t (stg t)) (fun _ => bodyPost m c t) := by
  refine (pre_in m c t).trans ?_
  refine BIBase.Entails.trans ?_ (Idealize.SL.Sem.wp_mono _ _ _ fun _ => post_out m c t)
  by_cases h0 : t.val = 0
  · iintro ⟨HΦ, %o, %d10, %d11, HG⟩
    iapply (sound_first m c t o _ _ h0)
    isplitl [HΦ]; · iexact HΦ
    iexact HG
  · simp only [before_10 m c t h0, before_11 m c t h0]
    iintro ⟨HΦ, %o, %d10, %d11, HG⟩
    iapply (sound m c t o h0)
    isplitl [HΦ]; · iexact HΦ
    iexact HG

set_option backward.isDefEq.respectTransparency.types false in
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option maxHeartbeats 800000 in
/-- @main is host lines, the region, and host lines after it. -/
theorem hmain_region : Pipeline.HMainK (Ix := Unit) (Name := ℕ) (U := Pipeline.UD sig nD τ) (Lvl := ℕ) cfgs 0 defs₀ 𝒱₀ m (main (F := F)) (V m)
      (fun _ => Pipeline.chain ([hostOps1, hostOps1_1, hostOps1_2].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14]
    [hostOps1, hostOps1_1, hostOps1_2]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩)
    main_chain

/-- The buffers when the region is over, before the host lines after it. -/
def endW (c : Dev nD) : Valuation τ sig (Elt F) := Pipeline.withArrays spec0 c (Pipeline.withR (V0 m c) Rset c (Gout m c)) fun w => (dats m 0 c).arrAt w cfg0.N

/-- What a run ends with: every array of the pipeline as its points leave it, every other buffer as the last host lines leave it. -/
def Ends (r : PUnit × MemSt nD τ sig (Elt F)) : Prop :=
  (∀ c : Dev nD, (∀ w, r.2.mem ((cfg0.win w).arr.view.loc (c : Thread nD τ)) = (dats m 0 c).arrAt w cfg0.N)
    ∧ ∀ b ∈ Pipeline.restRefs sig spec0, r.2.mem ((c : Thread nD τ).loc b)
        = StableHlo.after (List.flatten [hostOps1, hostOps1_1, hostOps1_2]) (endW m c) (Proc.devRef .tc b))
    ∧ r.2.sem = fun _ => 0

set_option backward.isDefEq.respectTransparency.types false in
theorem run_main : θ_run defs (onTc (τ := τ) (main (F := F))) (s₀ m ρ) (Ends m) :=
  Pipeline.θ_run_frame_dmaR_aroundV cfgs (dats m) 0 launch0 osem defs₀ 𝒱₀ ownSemFacts Hset Rset (by decide) (by decide) m ρ main
    (hbody := fun c => (body_obligation m c).loose) (hshare := fun c => (dats m 0 c).share_full fun _ => rfl) (howed := fun _ _ => rfl)
    (V0 m) [hostOps1, hostOps1_1, hostOps1_2] sfx_sub sfx_fresh sfx_keeps (Gout m) (hmain_region m) (A_eq m)
    (fun c => by rw [Φ_at]; exact (entails_of_eq (Φat_zero m c).symm)) (fun c => by rw [Φ_at]; exact (entails_of_eq (Φat_end m c)))
    (Q' := Ends m) (hQ' := fun _ h => h)

end Cert.GlobRun

end
-- ==== Proof.Glob.Quiet.lean ====
/-
  The attention gradient's frame: the arguments end as they were and every counter ends at zero, over any values.
-/
module

public import proofs.«01_k».proof.Proof.Glob.Launch
public import proofs.«01_k».proof.Glob

@[expose] public section

set_option maxRecDepth 16384

noncomputable section

namespace Cert.GlobRun

open Cert.GlobIdeal Cert.GlobIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer that nothing after the region's start writes ends as the region found it. -/
theorem Ends.kept {r : PUnit × MemSt nD τ sig (Elt F)} (h : Ends m r) (c : Dev nD) (b : Ref sig .tc) (hb : b ∈ Pipeline.restRefs sig spec0)
    (hops : ∀ op ∈ (List.flatten [hostOps1, hostOps1_1, hostOps1_2] : List (HloOp τ sig (Elt F))), Proc.devRef .tc b ∉ op.writes)
    (harr : ∀ w, Pipeline.arrRef spec0 w ≠ b) (hR : b ∉ Rset) : r.2.mem ((c : Thread nD τ).loc b) = V m c b := by
  rw [(h.1 c).2 b hb, StableHlo.after_of_forall_not_mem (b := Proc.devRef .tc b) _ _ hops]
  unfold endW
  rw [Pipeline.withArrays_of_ne spec0 c _ _ b harr, Pipeline.withR_of_not_mem _ _ _ _ _ hR]

/-- No host line after the region writes an argument. -/
theorem tail_args (b : Ref sig .tc) (hb : b ∈ [main_arg0, main_arg1, main_arg2, main_arg3, main_arg4, main_arg5]) :
    ∀ op ∈ (List.flatten [hostOps1, hostOps1_1, hostOps1_2] : List (HloOp τ sig (Elt F))), Proc.devRef .tc b ∉ op.writes := by
  refine List.forall_iff_forall_mem.mp ?_
  simp only [hostOps1, hostOps1_1, hostOps1_2, List.flatten_cons, List.flatten_nil, List.append_nil, List.cons_append, List.nil_append, List.Forall,
    StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  revert b
  simp only [List.forall_mem_cons, List.not_mem_nil, false_imp_iff, implies_true, and_true]
  repeat' apply And.intro
  all_goals exact StableHlo.devRef_ne_of_ne (by decide)

theorem Ends.arg {r : PUnit × MemSt nD τ sig (Elt F)} (h : Ends m r) (c : Dev nD) (b : Ref sig .tc)
    (hb : b ∈ [main_arg0, main_arg1, main_arg2, main_arg3, main_arg4, main_arg5]) : r.2.mem ((c : Thread nD τ).loc b) = V m c b :=
  h.kept m c b
    ((by decide : ∀ b ∈ [main_arg0, main_arg1, main_arg2, main_arg3, main_arg4, main_arg5], b ∈ Pipeline.restRefs sig spec0) b hb)
    (tail_args b hb)
    ((by decide : ∀ b ∈ [main_arg0, main_arg1, main_arg2, main_arg3, main_arg4, main_arg5], ∀ w, Pipeline.arrRef spec0 w ≠ b) b hb)
    ((by decide : ∀ b ∈ [main_arg0, main_arg1, main_arg2, main_arg3, main_arg4, main_arg5], b ∉ Rset) b hb)

/-- The whole run over any values: the arguments are as they were, and every counter is zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(h.arg m c main_arg0 (by decide)).trans (V_main_arg0 m c), (h.arg m c main_arg1 (by decide)).trans (V_main_arg1 m c),
    (h.arg m c main_arg2 (by decide)).trans (V_main_arg2 m c), (h.arg m c main_arg3 (by decide)).trans (V_main_arg3 m c),
    (h.arg m c main_arg4 (by decide)).trans (V_main_arg4 m c), (h.arg m c main_arg5 (by decide)).trans (V_main_arg5 m c)⟩, h.2⟩) (run_main m ρ)

end Cert.GlobRun

end
-- ==== Proof.Glob.Frames.lean ====
/-
  The frames of the attention gradient's kernel: at machine words and over the extended reals, from the one run.
-/
module

public import proofs.«01_k».proof.Defs
public import proofs.«01_k».proof.Proof.Glob.Quiet
public import proofs.«01_k».proof.Proof.Gen.Glob

@[expose] public section

noncomputable section

open Idealize.ShloMosaic Idealize.ShloMosaic.TcCoe Idealize.SL.Sem

namespace Cert.GlobClaims

/-- The two programs have the same definitions. -/
theorem defs_same : Cert.Glob.defs = Cert.GlobIdeal.defs (F := Bits) := by sl_kernel_rfl

/-- The two programs have the same main function. -/
theorem main_same : Cert.Glob.main = Cert.GlobIdeal.main (F := Bits) := by sl_kernel_rfl

/-- The kernel terminates without fault, its arguments unchanged, every counter zero. -/
theorem frame : quiescent_Glob (hGlob := Cert.Glob.Gen.facts) := by
  intro m ρ _
  rw [defs_same, main_same]
  exact Cert.GlobRun.frame_run (F := Bits) m ρ

/-- The ideal program, likewise. -/
theorem frame_ideal : quiescent_GlobIdeal (hGlobIdeal := Cert.GlobIdeal.Gen.facts) := fun m ρ _ => Cert.GlobRun.frame_run (F := Ideal) m ρ

end Cert.GlobClaims
end
-- ==== Proof.Glob.Trips.lean ====
/-
  What one trip of the attention gradient's loop leaves in the four buffers of the sums, over the extended reals.
-/
module

public import proofs.«01_k».proof.Proof.Glob.Quiet
public import Idealize.ShloMosaic.Lib.VecWindow
public import Idealize.ShloMosaic.Lib.Pointwise
public import Idealize.ShloMosaic.Lib.Pipeline.ValueKit
@[expose] public section
set_option maxRecDepth 16384
noncomputable section
namespace Cert.GlobRun
open Cert.GlobIdeal Cert.GlobIdeal.Gen
open Idealize.ShloMosaic Idealize.ShloMosaic.TcCoe Idealize.ShloMosaic.Tactic
section
variable {F : FTy → Type} [FloatOps F] (c : Dev nD) (f : Sums (F := F) c) (k : Fin k0_t1_loop.trips) (w : Stored (F := F))
/-! ## The four buffers read after a trip's stores -/

theorem read_acc : accM.view.read (Elt F) (f.after c k w).acc = w.acc := by
  rw [View.read_writes_full]
theorem read_dp : dpM.view.read (Elt F) (f.after c k w).dp = w.dp := by
  rw [View.read_writes_full]
theorem read_dkt : dktM.view.read (Elt F) (f.after c k w).dkt = VecWindow.put (dktM.view.read (Elt F) f.dkt) ![0, 512 * k.val] S128x512.size w.dkt := by
  rw [View.read_writes_cons_put _ _ _ _ _ (k0_off14_eq k)]
  rfl
theorem read_dvt : dvtM.view.read (Elt F) (f.after c k w).dvt = VecWindow.put (dvtM.view.read (Elt F) f.dvt) ![0, 512 * k.val] S128x512.size w.dvt := by
  rw [View.read_writes_cons_put _ _ _ _ _ (k0_off14_eq k)]
  rfl
end

variable (c : Dev nD) (XP : Buf (Elt Ideal) (pM.view.loc (c : Thread nD τ))) (t : Fin grid0.N) (A : Stages) (g : Ins (F := Ideal))

/-! ## A point's numbers, from its staged blocks and the saved probabilities -/

/-- The saved probabilities as numbers. -/
def saved (XP : Buf (Elt Ideal) (pM.view.loc (c : Thread nD τ))) : S8x32x17664x512.Idx → EReal := XP
/-- The probability of key `l` for the block's query `j`: the saved word moved from the running maximum it was taken at to the row's log-sum. -/
def prT (l : Fin 16384) (j : Fin 512) : EReal :=
  saved c XP (ix4 ⟨t.val / 32, by have := t_lt t; omega⟩ ⟨t.val % 32, by omega⟩ ⟨l.val, by omega⟩ j)
    * Ideal.exp (g.mrun (ix3 0 ⟨l.val / 1024, by omega⟩ j) - g.lse (ix3 0 0 j))
/-- The same of the context's key `r`. -/
def prC (r : Fin 256) (j : Fin 512) : EReal :=
  saved c XP (ix4 ⟨t.val / 32, by have := t_lt t; omega⟩ ⟨t.val % 32, by omega⟩ ⟨16384 + r.val, by omega⟩ j)
    * Ideal.exp (g.mrun (ix3 0 16 j) - g.lse (ix3 0 0 j))
/-- The cotangent of a probability: the product of the value's row and the output's cotangent. -/
def dpT (l : Fin 16384) (j : Fin 512) : EReal := ∑ a : Fin 128, g.v (ix2 l a) * g.dot (ix3 0 a j)
def dpC (r : Fin 256) (j : Fin 512) : EReal := ∑ a : Fin 128, g.vc (ix2 r a) * g.dot (ix3 0 a j)
/-- The product of the output and its cotangent. -/
def dlt (j : Fin 512) : EReal := ∑ a : Fin 128, g.dot (ix3 0 a j) * g.ot (ix3 0 a j)
/-- The score's cotangent. -/
def dsT (l : Fin 16384) (j : Fin 512) : EReal := prT c XP t g l j * (dpT g l j - dlt g j)
def dsC (r : Fin 256) (j : Fin 512) : EReal := prC c XP t g r j * (dpC g r j - dlt g j)
/-- A key by its number. -/
def key (n : ℕ) : Fin 16384 := ⟨n % 16384, Nat.mod_lt _ (by decide)⟩
theorem key_val (l : Fin 16384) : key l.val = l := Fin.ext (Nat.mod_eq_of_lt l.isLt)
theorem key_eq (n : ℕ) (h : n < 16384) : key n = ⟨n, h⟩ := Fin.ext (Nat.mod_eq_of_lt h)

/-! ## The saved block as the trip reads it -/

theorem sq2 (x : (⟨4, ![1, 1, 512, 512]⟩ : Shape).Idx → EReal) (a b : Fin 512) :
    x (Shape.reshapeEquiv squeezes_S1x1x512x512_S512x512.numel_eq (ix2 a b)) = x (ix4 0 0 a b) := by
  show shapeCast S512x512 (x : Vec Ideal S1x1x512x512 .f32) squeezes_S1x1x512x512_S512x512.numel_eq (ix2 a b) = _
  pointwise
  done

theorem payload_at (k : ℕ) (hk : k < 32) (l j : Fin 512) :
    payload c XP (32 * t.val + k) (ix2 l j) = saved c XP (ix4 ⟨t.val / 32, by have := t_lt t; omega⟩ ⟨t.val % 32, by omega⟩ ⟨512 * k + l.val, by omega⟩ j) := by
  have ht := t_lt t
  show XP ((Rect.unit (s := S8x32x17664x512) (blkOff (32 * t.val + k)) S1x1x512x512.size (blkOff_inb _)).emb
    (Shape.reshapeEquiv squeezes_S1x1x512x512_S512x512.numel_eq (ix2 l j))) = _
  refine (sq2 (fun y => XP ((Rect.unit (s := S8x32x17664x512) (blkOff (32 * t.val + k)) S1x1x512x512.size (blkOff_inb _)).emb y)) l j).trans (congrArg XP ?_)
  funext a
  refine Fin.ext ((Rect.idx_unit_val _ _ _ _ a).trans ?_)
  fin_cases a
  · show min ((32 * t.val + k) / 1024) 7 + 0 = t.val / 32; omega
  · show (32 * t.val + k) / 32 % 32 + 0 = t.val % 32; omega
  · show 512 * ((32 * t.val + k) % 32) + l.val = 512 * k + l.val; omega
  · show 0 + j.val = j.val; omega

theorem sq3 (x : (⟨3, ![1, 512, 512]⟩ : Shape).Idx → EReal) (a b : Fin 512) :
    x (Shape.reshapeEquiv squeezes_S1x512x512_S512x512.numel_eq (ix2 a b)) = x (ix3 0 a b) := by
  show shapeCast S512x512 (x : Vec Ideal S1x512x512 .f32) squeezes_S1x512x512_S512x512.numel_eq (ix2 a b) = _
  pointwise

theorem slot_at (k : Fin k0_t1_loop.trips) (l j : Fin 512) :
    tripRun.sl.r_2 c XP t k (ix2 l j) = saved c XP (ix4 ⟨t.val / 32, by have := t_lt t; omega⟩ ⟨t.val % 32, by omega⟩ ⟨512 * k.val + l.val, by have := k_lt k; omega⟩ j) := by
  refine Eq.trans ?_ (payload_at c XP t k.val (k_lt k) l j)
  unfold tripRun.sl.r_2 tripRun.sl.v160
  unfold_payloads
  pointwise
  refine (congrFun (View.readAt_unit ringM.view _ _ (off12_eq k) (slotOff_inb _)) (ix3 0 l j)).trans ?_
  refine Eq.trans ?_ (congrFun (View.read_writes_whole (slotM (Ring.sl 4 k.val)).view (slotM (Ring.sl 4 k.val)).view.junk (payload c XP (32 * t.val + k.val))) (ix2 l j))
  exact (sq3 (fun y => ringM.view.read (Elt Ideal) ((slotM (Ring.sl 4 k.val)).view.writes (Elt Ideal) (slotM (Ring.sl 4 k.val)).view.junk
      [⟨Rect.whole S512x512, payload c XP (32 * t.val + k.val)⟩]) ((Rect.unit (s := S4x512x512) (slotOff (Ring.sl 4 k.val)) S1x512x512.size (slotOff_inb _)).emb y)) l j).symm

/-! ## A trip's stores -/

section Trip
variable (arg0 arg1 v24 v35 : BitVec 32) (v64 : Vec Ideal S256x512 .bf16)

/-- The head of a point as the trip uses it: the query block and cotangent, the log-sum, the product of the output and its cotangent. -/
structure Head (v44 v46 : FVec Ideal S128x512 .bf16) (v48 v55 : FVec Ideal S1x512 .f32) : Prop where
  q : ∀ a j, v44 (ix2 a j) = g.qt (ix3 0 a j)
  d : ∀ a j, v46 (ix2 a j) = g.dot (ix3 0 a j)
  l : ∀ j, v48 (ix2 0 j) = g.lse (ix3 0 0 j)
  s : ∀ j, v55 (ix2 0 j) = dlt g j

variable {v44 v46 : FVec Ideal S128x512 .bf16} {v48 v55 : FVec Ideal S1x512 .f32} (H : Head g v44 v46 v48 v55)

abbrev trip (v44 v46 : FVec Ideal S128x512 .bf16) (v48 v55 : FVec Ideal S1x512 .f32) (k : Fin k0_t1_loop.trips) (f : Sums (F := Ideal) c) :=
  (tripRun c XP t A arg0 arg1 v24 v35 v44 v46 v48 v55 v64 (A.mrun.view.rep g.mrun) (A.kt.view.rep g.kt) (A.v.view.rep g.v) k f).1

/-- A load at a unit-stride rectangle, at an index: what the view reads at the index moved by the offsets. -/
theorem readAt_at {sp : Space} {s : Shape} {e : EltTy} (v : View sig .tc sp s e) (f : v.ty.Contents (Elt Ideal)) {off off' size : Fin s.rank → ℕ}
    (inb : ∀ a, off a + size a ≤ s.size a) (h : off = off') (y : (Rect.unit off size inb).shape.Idx) (z : s.Idx)
    (hz : ∀ a, (z a).val = off' a + (y a).val) : v.readAt (Elt Ideal) (Rect.unit off size inb).toLoadRect f y = v.read (Elt Ideal) f z := by
  subst h
  exact congrArg (v.read (Elt Ideal) f) (funext fun a => Fin.ext ((Rect.idx_unit_val _ _ _ _ a).trans (hz a).symm))
theorem readAt_rep_at {sp : Space} {s : Shape} {e : EltTy} (v : View sig .tc sp s e) (x : s.Idx → Elt Ideal e) {off off' size : Fin s.rank → ℕ}
    (inb : ∀ a, off a + size a ≤ s.size a) (h : off = off') (y : (Rect.unit off size inb).shape.Idx) (z : s.Idx)
    (hz : ∀ a, (z a).val = off' a + (y a).val) : v.readAt (Elt Ideal) (Rect.unit off size inb).toLoadRect (v.rep x) y = x z := by
  rw [readAt_at v _ inb h y z hz, View.read_rep]

theorem off11_at : ∀ k : Fin k0_t1_loop.trips, k0_off11 k = ![512 * min (k.val + 1) 31, 0] := by decide +kernel

theorem mrun_at (k : Fin k0_t1_loop.trips) (j : Fin 512) :
    tripRun.sl.r_3 c A (A.mrun.view.rep g.mrun) k (ix3 0 0 j) = g.mrun (ix3 0 ⟨k.val / 2, by have := k_lt k; omega⟩ j) :=
  readAt_rep_at A.mrun.view g.mrun _ (off13_eq k) _ _ fun a => by
    fin_cases a
    · rfl
    · show k.val / 2 = k.val / 2 + 0; omega
    · show j.val = 0 + j.val; omega

variable (k : Fin k0_t1_loop.trips) (f : Sums (F := Ideal) c)
/-- The four buffers as numbers. -/
def Sums.accV (f : Sums (F := Ideal) c) : S128x512.Idx → EReal := accM.view.read (Elt Ideal) f.acc
def Sums.dpV (f : Sums (F := Ideal) c) : S512x512.Idx → EReal := dpM.view.read (Elt Ideal) f.dp
def Sums.dktV (f : Sums (F := Ideal) c) : S128x16384.Idx → EReal := dktM.view.read (Elt Ideal) f.dkt
def Sums.dvtV (f : Sums (F := Ideal) c) : S128x16384.Idx → EReal := dvtM.view.read (Elt Ideal) f.dvt

theorem dp_at (l j : Fin 512) : tripRun.sl.r c f (ix2 l j) = f.dpV c (ix2 l j) :=
  readAt_at dpM.view f.dp _ rfl _ _ fun a => by fin_cases a <;> exact (Nat.zero_add _).symm
theorem acc_at (inb) (a : Fin 128) (j : Fin 512) :
    View.readAt (Elt Ideal) (View.whole cc0_scratch0) (Rect.unit (s := S128x512) ![0, 0] ![128, 512] inb).toLoadRect f.1 (ix2 a j) = f.accV c (ix2 a j) :=
  readAt_at accM.view f.acc _ rfl _ _ fun a => by fin_cases a <;> exact (Nat.zero_add _).symm
theorem dkt_at (inb) (a : Fin 128) (l : Fin 512) :
    View.readAt (Elt Ideal) (View.whole cc0_scratch2) (Rect.unit (s := S128x16384) (k0_off14 k) ![128, 512] inb).toLoadRect f.3 (ix2 a l)
      = f.dktV c (ix2 a (key (512 * k.val + l.val))) := by
  have hk := k_lt k
  rw [key_eq _ (by omega)]
  exact readAt_at dktM.view f.dkt _ (k0_off14_eq k) _ _ fun a => by fin_cases a <;> first | exact (Nat.zero_add _).symm | rfl
theorem dvt_at (inb) (a : Fin 128) (l : Fin 512) :
    View.readAt (Elt Ideal) (View.whole cc0_scratch3) (Rect.unit (s := S128x16384) (k0_off14 k) ![128, 512] inb).toLoadRect f.4 (ix2 a l)
      = f.dvtV c (ix2 a (key (512 * k.val + l.val))) := by
  have hk := k_lt k
  rw [key_eq _ (by omega)]
  exact readAt_at dvtM.view f.dvt _ (k0_off14_eq k) _ _ fun a => by fin_cases a <;> first | exact (Nat.zero_add _).symm | rfl
theorem kt_at (inb) (a : Fin 128) (l : Fin 512) :
    View.readAt (Elt Ideal) A.kt.view (Rect.unit (s := S128x16384) (k0_off14 k) ![128, 512] inb).toLoadRect (A.kt.view.rep g.kt) (ix2 a l)
      = g.kt (ix2 a (key (512 * k.val + l.val))) := by
  have hk := k_lt k
  rw [key_eq _ (by omega)]
  exact readAt_rep_at A.kt.view g.kt _ (k0_off14_eq k) _ _ fun a => by fin_cases a <;> first | exact (Nat.zero_add _).symm | rfl
theorem v_at (inb) (l : Fin 512) (a : Fin 128) :
    View.readAt (Elt Ideal) A.v.view (Rect.unit (s := S16384x128) (k0_off11 k) ![512, 128] inb).toLoadRect (A.v.view.rep g.v) (ix2 l a)
      = g.v (ix2 (key (512 * min (k.val + 1) 31 + l.val)) a) := by
  have hk := k_lt k
  rw [key_eq _ (by omega)]
  exact readAt_rep_at A.v.view g.v _ (off11_at k) _ _ fun a => by fin_cases a <;> first | exact (Nat.zero_add _).symm | rfl

theorem dp_next (H : Head g v44 v46 v48 v55) (l j : Fin 512) :
    (trip c XP t A g arg0 arg1 v24 v35 v64 v44 v46 v48 v55 k f).dp (ix2 l j) = dpT g (key (512 * min (k.val + 1) 31 + l.val)) j := by
  show k0_pay23 (tripRun.sl.r_1 c A v46 (A.v.view.rep g.v) k) (ix2 l j) = _
  unfold tripRun.sl.r_1
  unfold_payloads
  pointwise
  exact Finset.sum_congr rfl fun a _ => congrArg₂ (· * ·) (v_at A g k _ l a) (H.d a j)

theorem row_of (l : Fin 512) : (key (512 * k.val + l.val)).val / 1024 = k.val / 2 := by
  have hk := k_lt k
  rw [key_eq _ (by omega)]
  show (512 * k.val + l.val) / 1024 = k.val / 2
  omega

/-- The probability as the trip computes it. -/
theorem pr_at (H : Head g v44 v46 v48 v55) (l j : Fin 512) :
    k0_pay18 v48 (tripRun.sl.r_2 c XP t k) (tripRun.sl.r_3 c A (A.mrun.view.rep g.mrun) k) (ix2 l j) = prT c XP t g (key (512 * k.val + l.val)) j := by
  have hk := k_lt k
  unfold_payloads
  pointwise
  rw [mrun_at, H.l]
  unfold prT
  congr 1
  · rw [slot_at]; congr 2; exact Fin.ext (by rw [key_eq _ (by omega)])
  · congr 4; exact Fin.ext (row_of k l).symm

/-- The score's cotangent as the trip computes it. -/
theorem ds_at (H : Head g v44 v46 v48 v55) (hdp : ∀ l j, f.dpV c (ix2 l j) = dpT g (key (512 * k.val + l.val)) j) (l j : Fin 512) :
    k0_pay19 v48 v55 (tripRun.sl.r c f) (tripRun.sl.r_2 c XP t k) (tripRun.sl.r_3 c A (A.mrun.view.rep g.mrun) k) (ix2 l j)
      = dsT c XP t g (key (512 * k.val + l.val)) j := by
  unfold k0_pay19
  pointwise
  rw [pr_at c XP t A g k H, dp_at, hdp, H.s]
  rfl

theorem dkt_next (H : Head g v44 v46 v48 v55) (hdp : ∀ l j, f.dpV c (ix2 l j) = dpT g (key (512 * k.val + l.val)) j) (a : Fin 128) (l : Fin 512) :
    (trip c XP t A g arg0 arg1 v24 v35 v64 v44 v46 v48 v55 k f).dkt (ix2 a l) = f.dktV c (ix2 a (key (512 * k.val + l.val)))
      + ∑ j, g.qt (ix3 0 a j) * dsT c XP t g (key (512 * k.val + l.val)) j := by
  show k0_pay21 v44 v48 v55 (tripRun.sl.r c f) (tripRun.sl.r_2 c XP t k) (tripRun.sl.r_3 c A (A.mrun.view.rep g.mrun) k)
          (View.readAt (Elt Ideal) (View.whole cc0_scratch2) (Rect.unit (s := S128x16384) (k0_off14 k) ![128, 512] (k0_off14_inb k)).toLoadRect f.3) (ix2 a l) = _
  unfold k0_pay21
  pointwise
  rw [dkt_at]
  exact congrArg (_ + ·) (Finset.sum_congr rfl fun j _ => congrArg₂ (· * ·) (H.q a j) (ds_at c XP t A g k f H hdp l j))

theorem dvt_next (H : Head g v44 v46 v48 v55) (a : Fin 128) (l : Fin 512) :
    (trip c XP t A g arg0 arg1 v24 v35 v64 v44 v46 v48 v55 k f).dvt (ix2 a l) = f.dvtV c (ix2 a (key (512 * k.val + l.val)))
      + ∑ j, g.dot (ix3 0 a j) * prT c XP t g (key (512 * k.val + l.val)) j := by
  show k0_pay22 v46 v48 (tripRun.sl.r_2 c XP t k) (tripRun.sl.r_3 c A (A.mrun.view.rep g.mrun) k)
          (View.readAt (Elt Ideal) (View.whole cc0_scratch3) (Rect.unit (s := S128x16384) (k0_off14 k) ![128, 512] (k0_off14_inb k)).toLoadRect f.4) (ix2 a l) = _
  unfold k0_pay22
  pointwise
  rw [dvt_at]
  exact congrArg (_ + ·) (Finset.sum_congr rfl fun j _ => congrArg₂ (· * ·) (H.d a j) (pr_at c XP t A g k H l j))

theorem acc_next (H : Head g v44 v46 v48 v55) (hdp : ∀ l j, f.dpV c (ix2 l j) = dpT g (key (512 * k.val + l.val)) j) (a : Fin 128) (j : Fin 512) :
    (trip c XP t A g arg0 arg1 v24 v35 v64 v44 v46 v48 v55 k f).acc (ix2 a j) = f.accV c (ix2 a j)
      + ∑ l : Fin 512, g.kt (ix2 a (key (512 * k.val + l.val))) * dsT c XP t g (key (512 * k.val + l.val)) j := by
  show k0_pay20 v48 v55 (tripRun.sl.r c f) (tripRun.sl.r_2 c XP t k) (tripRun.sl.r_3 c A (A.mrun.view.rep g.mrun) k)
          (View.readAt (Elt Ideal) (View.whole cc0_scratch0) (Rect.unit (s := S128x512) ![0, 0] ![128, 512] inb_S128x512_S128x512_0_0).toLoadRect f.1)
          (View.readAt (Elt Ideal) A.kt.view (Rect.unit (s := S128x16384) (k0_off14 k) ![128, 512] (k0_off14_inb k)).toLoadRect (A.kt.view.rep g.kt)) (ix2 a j) = _
  unfold k0_pay20
  pointwise
  rw [acc_at]
  exact congrArg (_ + ·) (Finset.sum_congr rfl fun l _ => congrArg₂ (· * ·) (kt_at A g k _ a l) (ds_at c XP t A g k f H hdp l j))

/-! ## The loop -/

section
variable (w : Stored (F := Ideal))
theorem after_acc (a : Fin 128) (j : Fin 512) : (f.after c k w).accV c (ix2 a j) = w.acc (ix2 a j) := congrFun (read_acc c f k w) _
theorem after_dp (l j : Fin 512) : (f.after c k w).dpV c (ix2 l j) = w.dp (ix2 l j) := congrFun (read_dp c f k w) _

theorem put_cols (x : S128x16384.Idx → EReal) (o : ℕ) (v : S128x512.Idx → EReal) (a : Fin 128) (l : Fin 16384) :
    VecWindow.put x ![0, o] S128x512.size v (ix2 a l) = if h : o ≤ l.val ∧ l.val < o + 512 then v (ix2 a ⟨l.val - o, by omega⟩) else x (ix2 a l) := by
  unfold VecWindow.put
  by_cases h : o ≤ l.val ∧ l.val < o + 512
  · rw [dif_pos h, dif_pos fun i => by
      fin_cases i
      · exact ⟨Nat.zero_le _, by show a.val < 0 + 128; omega⟩
      · exact h]
    refine congrArg v (funext fun i => Fin.ext ?_)
    fin_cases i <;> rfl
  · rw [dif_neg h, dif_neg fun h' => h (h' 1)]

theorem after_dkt (a : Fin 128) (l : Fin 16384) : (f.after c k w).dktV c (ix2 a l)
    = if h : 512 * k.val ≤ l.val ∧ l.val < 512 * k.val + 512 then w.dkt (ix2 a ⟨l.val - 512 * k.val, by omega⟩) else f.dktV c (ix2 a l) :=
  (congrFun (read_dkt c f k w) _).trans (put_cols _ _ _ a l)
theorem after_dvt (a : Fin 128) (l : Fin 16384) : (f.after c k w).dvtV c (ix2 a l)
    = if h : 512 * k.val ≤ l.val ∧ l.val < 512 * k.val + 512 then w.dvt (ix2 a ⟨l.val - 512 * k.val, by omega⟩) else f.dvtV c (ix2 a l) :=
  (congrFun (read_dvt c f k w) _).trans (put_cols _ _ _ a l)
end

/-- Adding a block's columns to sums that have the columns before it. -/
theorem cols_step (z : Fin 512 → EReal) (old x : EReal) (y : Fin 16384 → EReal) (k : ℕ) (l : Fin 16384)
    (ho : old = x + if l.val < 512 * k then y l else 0)
    (hz : ∀ i : Fin 512, key (512 * k + i.val) = l → z i = (x + if l.val < 512 * k then y l else 0) + y l) :
    (if h : 512 * k ≤ l.val ∧ l.val < 512 * k + 512 then z ⟨l.val - 512 * k, by omega⟩ else old) = x + if l.val < 512 * (k + 1) then y l else 0 := by
  split_ifs with h1 h2 h3
  · rw [hz _ (by rw [Nat.add_sub_cancel' h1.1, key_val]), if_neg (by omega), add_zero]
  · exfalso; omega
  · rw [ho, if_pos (by omega)]
  · rw [ho, if_neg (by omega)]

abbrev sums (v44 v46 : FVec Ideal S128x512 .bf16) (v48 v55 : FVec Ideal S1x512 .f32) (f₀ : Sums (F := Ideal) c) (n : ℕ) : Sums (F := Ideal) c :=
  sumsAt c XP t A arg0 arg1 v24 v35 v44 v46 v48 v55 v64 (A.mrun.view.rep g.mrun) (A.kt.view.rep g.kt) (A.v.view.rep g.v) f₀ n

/-- What the four buffers hold before trip `n`. -/
theorem sums_eq (H : Head g v44 v46 v48 v55) (f₀ : Sums (F := Ideal) c) (h0 : ∀ l j, f₀.dpV c (ix2 l j) = dpT g (key l.val) j) :
    ∀ n, n ≤ 32 →
      (∀ l j, (sums c XP t A g arg0 arg1 v24 v35 v64 v44 v46 v48 v55 f₀ n).dpV c (ix2 l j) = dpT g (key (512 * min n 31 + l.val)) j)
      ∧ (∀ a j, (sums c XP t A g arg0 arg1 v24 v35 v64 v44 v46 v48 v55 f₀ n).accV c (ix2 a j) = f₀.accV c (ix2 a j)
          + ∑ s ∈ Finset.range n, ∑ l : Fin 512, g.kt (ix2 a (key (512 * s + l.val))) * dsT c XP t g (key (512 * s + l.val)) j)
      ∧ (∀ a l, (sums c XP t A g arg0 arg1 v24 v35 v64 v44 v46 v48 v55 f₀ n).dktV c (ix2 a l) = f₀.dktV c (ix2 a l)
          + if l.val < 512 * n then ∑ j, g.qt (ix3 0 a j) * dsT c XP t g l j else 0)
      ∧ (∀ a l, (sums c XP t A g arg0 arg1 v24 v35 v64 v44 v46 v48 v55 f₀ n).dvtV c (ix2 a l) = f₀.dvtV c (ix2 a l)
          + if l.val < 512 * n then ∑ j, g.dot (ix3 0 a j) * prT c XP t g l j else 0)
  | 0, _ => by
    refine ⟨fun l j => ?_, fun a j => ?_, fun a l => ?_, fun a l => ?_⟩
    · exact (h0 l j).trans (by rw [show 512 * min 0 31 + l.val = l.val by omega])
    · exact (add_zero _).symm
    · exact (add_zero _).symm
    · exact (add_zero _).symm
  | n + 1, hn => by
    obtain ⟨hdp, hacc, hdk, hdv⟩ := sums_eq H f₀ h0 n (by omega)
    have hk : n < k0_t1_loop.trips := by rw [trips_eq]; omega
    have e := sumsAt_succ c XP t A arg0 arg1 v24 v35 v44 v46 v48 v55 v64 (A.mrun.view.rep g.mrun) (A.kt.view.rep g.kt) (A.v.view.rep g.v) f₀ ⟨n, hk⟩
    have hdp' : ∀ l j, (sums c XP t A g arg0 arg1 v24 v35 v64 v44 v46 v48 v55 f₀ n).dpV c (ix2 l j) = dpT g (key (512 * n + l.val)) j := fun l j => by
      rw [hdp, show min n 31 = n by omega]
    unfold sums
    rw [show n + 1 = (⟨n, hk⟩ : Fin k0_t1_loop.trips).val + 1 from rfl, e]
    refine ⟨fun l j => ?_, fun a j => ?_, fun a l => ?_, fun a l => ?_⟩
    · exact (after_dp c _ _ _ l j).trans (dp_next c XP t A g arg0 arg1 v24 v35 v64 ⟨n, hk⟩ _ H l j)
    · refine (after_acc c _ _ _ a j).trans ((acc_next c XP t A g arg0 arg1 v24 v35 v64 ⟨n, hk⟩ _ H hdp' a j).trans ?_)
      show Sums.accV c (sums c XP t A g arg0 arg1 v24 v35 v64 v44 v46 v48 v55 f₀ n) (ix2 a j) + _ = _
      rw [hacc, Finset.sum_range_succ, add_assoc]
    · rw [after_dkt]
      refine cols_step (fun i => (tripRun c XP t A arg0 arg1 v24 v35 v44 v46 v48 v55 v64 (A.mrun.view.rep g.mrun) (A.kt.view.rep g.kt) (A.v.view.rep g.v) ⟨n, hk⟩
        (sums c XP t A g arg0 arg1 v24 v35 v64 v44 v46 v48 v55 f₀ n)).1.dkt (ix2 a i)) _ _ (fun l => ∑ j, g.qt (ix3 0 a j) * dsT c XP t g l j) n l (hdk a l) fun i hi => ?_
      refine (dkt_next c XP t A g arg0 arg1 v24 v35 v64 ⟨n, hk⟩ _ H hdp' a i).trans ?_
      show Sums.dktV c (sums c XP t A g arg0 arg1 v24 v35 v64 v44 v46 v48 v55 f₀ n) (ix2 a (key (512 * n + i.val))) + _ = _
      rw [hi, hdk]
    · rw [after_dvt]
      refine cols_step (fun i => (tripRun c XP t A arg0 arg1 v24 v35 v44 v46 v48 v55 v64 (A.mrun.view.rep g.mrun) (A.kt.view.rep g.kt) (A.v.view.rep g.v) ⟨n, hk⟩
        (sums c XP t A g arg0 arg1 v24 v35 v64 v44 v46 v48 v55 f₀ n)).1.dvt (ix2 a i)) _ _ (fun l => ∑ j, g.dot (ix3 0 a j) * prT c XP t g l j) n l (hdv a l) fun i hi => ?_
      refine (dvt_next c XP t A g arg0 arg1 v24 v35 v64 ⟨n, hk⟩ _ H a i).trans ?_
      show Sums.dvtV c (sums c XP t A g arg0 arg1 v24 v35 v64 v44 v46 v48 v55 f₀ n) (ix2 a (key (512 * n + i.val))) + _ = _
      rw [hi, hdv]
end Trip
end Cert.GlobRun
end
-- ==== Proof.Glob.Points.lean ====
/-
  What the attention gradient's kernel leaves at one grid point, over the extended reals: its own block of the
  queries' gradient, and the four sums over queries with this point's part added.
-/
module

public import proofs.«01_k».proof.Proof.Glob.Trips

@[expose] public section

set_option maxRecDepth 16384

noncomputable section

namespace Cert.GlobRun

open Cert.GlobIdeal Cert.GlobIdeal.Gen
open Idealize.ShloMosaic Idealize.ShloMosaic.TcCoe Idealize.ShloMosaic.Tactic

section
variable {F : FTy → Type} [FloatOps F] (c : Dev nD) (XP : Buf (Elt F) (pM.view.loc (c : Thread nD τ))) (t : Fin grid0.N) (A : Stages) (g : Ins (F := F))

/-! ## The three kinds of points leave the same, but for the sums that they start from -/

/-- The sums' buffers after a point's loop, from the two sums of keys and values before it. -/
abbrev loopOf (b19 : Buf (Elt F) (dktM.view.loc (c : Thread nD τ))) (b20 : Buf (Elt F) (dvtM.view.loc (c : Thread nD τ))) : Sums (F := F) c :=
  sumsAt c XP t A (BitVec.ofNat 32 (grid0.coords t 0).val) (BitVec.ofNat 32 (grid0.coords t 1).val)
    (midRun.sl.v24 t) (midRun.sl.v35 t) (midRun.sl.r A g) (midRun.sl.r_1 A g) (midRun.sl.r_2 A g) (midRun.sl.r_3 A g) (midRun.sl.v64 c XP t)
    (A.mrun.view.rep g.mrun) (A.kt.view.rep g.kt) (A.v.view.rep g.v)
    ⟨accM.view.writes (Elt F) accM.view.junk (midRun.sl.H17_1 c XP t A g), dpM.view.writes (Elt F) dpM.view.junk (midRun.sl.H18_1 A g), b19, b20⟩ 32
/-- The context's two sums after a point. -/
abbrev dkctOf (x : Vec F S128x256 .f32) : Vec F S128x256 .f32 :=
  k0_pay16 (midRun.sl.r A g) (midRun.sl.r_1 A g) (midRun.sl.r_2 A g) (midRun.sl.r_3 A g) (midRun.sl.v64 c XP t)
    (View.readAt (Elt F) A.mrun.view (Rect.unit (s := S1x17x512) ![0, 16, 0] S1x1x512.size inb_S1x17x512_S1x1x512_0_16_0).toLoadRect (A.mrun.view.rep g.mrun))
    (View.readAt (Elt F) A.vc.view (Rect.unit (s := S256x128) ![0, 0] S256x128.size inb_S256x128_S256x128_0_0).toLoadRect (A.vc.view.rep g.vc)) x
abbrev dvctOf (x : Vec F S128x256 .f32) : Vec F S128x256 .f32 :=
  k0_pay17 (midRun.sl.r_1 A g) (midRun.sl.r_2 A g) (midRun.sl.v64 c XP t)
    (View.readAt (Elt F) A.mrun.view (Rect.unit (s := S1x17x512) ![0, 16, 0] S1x1x512.size inb_S1x17x512_S1x1x512_0_16_0).toLoadRect (A.mrun.view.rep g.mrun)) x
/-- What a point leaves. -/
def pointOf (x15 x16 : Vec F S128x256 .f32) (b19 : Buf (Elt F) (dktM.view.loc (c : Thread nD τ))) (b20 : Buf (Elt F) (dvtM.view.loc (c : Thread nD τ))) : Outs (F := F) where
  dqt := k0_pay1 (accM.view.read (Elt F) (loopOf c XP t A g b19 b20).acc)
  sums := {
    dkct := dkctOf c XP t A g x15
    dvct := dvctOf c XP t A g x16
    dkt := dktM.view.read (Elt F) (loopOf c XP t A g b19 b20).dkt
    dvt := dvtM.view.read (Elt F) (loopOf c XP t A g b19 b20).dvt }

theorem outs_mk {a a' : Vec F S1x128x512 .f32} {b b' d d' : Vec F S128x256 .f32} {x x' y y' : Vec F S128x16384 .f32}
    (ha : a = a') (hb : b = b') (hd : d = d') (hx : x = x') (hy : y = y') : (⟨a, ⟨b, d, x, y⟩⟩ : Outs (F := F)) = ⟨a', ⟨b', d', x', y'⟩⟩ := by
  subst ha hb hd hx hy; rfl

theorem mid_of (h0 : t.val ≠ 0) (h1 : t.val ≠ 255) (f : Carried (F := F)) :
    (midRun c XP t A h0 h1 g f).1 = pointOf c XP t A g f.dkct f.dvct (dktM.view.rep f.dkt) (dvtM.view.rep f.dvt) := by
  unfold midRun pointOf
  dsimp only
  refine outs_mk ?_ ?_ ?_ rfl rfl
  · rw [View.read_writes_full]; unfold midRun.sl.v97; rw [View.readAt_full]
  · unfold midRun.sl.H15_1; rw [View.read_writes_full, View.readAt_rep_full A.dkct.view]
  · unfold midRun.sl.H16_1; rw [View.read_writes_full, View.readAt_rep_full A.dvct.view]
/-- The run of the last point names the same intermediate values. -/
theorem last_names : lastRun.sl.v24 t = midRun.sl.v24 t ∧ lastRun.sl.v35 t = midRun.sl.v35 t ∧ lastRun.sl.r A g = midRun.sl.r A g ∧ lastRun.sl.r_1 A g = midRun.sl.r_1 A g ∧ lastRun.sl.r_2 A g = midRun.sl.r_2 A g ∧ lastRun.sl.r_3 A g = midRun.sl.r_3 A g ∧ lastRun.sl.v64 c XP t = midRun.sl.v64 c XP t ∧ lastRun.sl.H17_1 c XP t A g = midRun.sl.H17_1 c XP t A g ∧ lastRun.sl.H18_1 A g = midRun.sl.H18_1 A g :=
  ⟨rfl, rfl, rfl, rfl, rfl, rfl, rfl, rfl, rfl⟩
/-- So does the run of the first. -/
theorem first_names : firstRun.sl.v24 t = midRun.sl.v24 t ∧ firstRun.sl.v35 t = midRun.sl.v35 t ∧ firstRun.sl.r A g = midRun.sl.r A g ∧ firstRun.sl.r_1 A g = midRun.sl.r_1 A g ∧ firstRun.sl.r_2 A g = midRun.sl.r_2 A g ∧ firstRun.sl.r_3 A g = midRun.sl.r_3 A g ∧ firstRun.sl.v64 c XP t = midRun.sl.v64 c XP t ∧ firstRun.sl.H17_1 c XP t A g = midRun.sl.H17_1 c XP t A g ∧ firstRun.sl.H18_1 A g = midRun.sl.H18_1 A g :=
  ⟨rfl, rfl, rfl, rfl, rfl, rfl, rfl, rfl, rfl⟩
attribute [local irreducible] sumsAt in
theorem last_of (h1 : t.val = 255) (f : Carried (F := F)) :
    (lastRun c XP t A h1 g f).1.1 = pointOf c XP t A g f.dkct f.dvct (dktM.view.rep f.dkt) (dvtM.view.rep f.dvt) := by
  obtain ⟨e1, e2, e3, e4, e5, e6, e7, e8, e9⟩ := last_names c XP t A g
  unfold lastRun pointOf
  dsimp only
  unfold lastRun.sl.v97 lastRun.sl.H15_1 lastRun.sl.H16_1
  rw [e1, e2, e3, e4, e5, e6, e7, e8, e9]
  refine outs_mk ?_ ?_ ?_ rfl rfl
  · rw [View.read_writes_full, View.readAt_full]
  · rw [View.read_writes_full, View.readAt_rep_full A.dkct.view]
  · rw [View.read_writes_full, View.readAt_rep_full A.dvct.view]
attribute [local irreducible] sumsAt in
theorem last_res (h1 : t.val = 255) (f : Carried (F := F)) :
    (lastRun c XP t A h1 g f).1.2 = ⟨(lastRun c XP t A h1 g f).1.1.sums.dkt, (lastRun c XP t A h1 g f).1.1.sums.dvt⟩ := by
  unfold lastRun
  dsimp only
  unfold lastRun.sl.dma3 lastRun.sl.dma3_1
  rfl
attribute [local irreducible] sumsAt in
theorem first_of (h0 : t.val = 0) :
    (firstRun c XP t A h0 g).1 = pointOf c XP t A g (k0_pay4 (F := F)) (k0_pay5 (F := F))
      (dktM.view.writes (Elt F) dktM.view.junk firstRun.sl.H19_1) (dvtM.view.writes (Elt F) dvtM.view.junk firstRun.sl.H20_1) := by
  obtain ⟨e1, e2, e3, e4, e5, e6, e7, e8, e9⟩ := first_names c XP t A g
  unfold firstRun pointOf
  dsimp only
  unfold firstRun.sl.v97 firstRun.sl.H15_2 firstRun.sl.H16_2 firstRun.sl.v86 firstRun.sl.v91 firstRun.sl.H15_1 firstRun.sl.H16_1
  rw [e1, e2, e3, e4, e5, e6, e7, e8, e9]
  refine outs_mk ?_ ?_ ?_ rfl rfl
  · rw [View.read_writes_full, View.readAt_full]
  · rw [View.read_writes_full, View.readCov_full]
  · rw [View.read_writes_full, View.readCov_full]
end

variable (c : Dev nD) (XP : Buf (Elt Ideal) (pM.view.loc (c : Thread nD τ))) (t : Fin grid0.N) (A : Stages) (g : Ins (F := Ideal))

/-- What a point leaves, from the sums before it. -/
def outsV (f : Carried (F := Ideal)) : Outs (F := Ideal) where
  dqt y := ∑ r : Fin 256, g.kct (ix2 (y 1) r) * dsC c XP t g r (y 2) + ∑ l : Fin 16384, g.kt (ix2 (y 1) l) * dsT c XP t g l (y 2)
  sums := {
    dkct := fun y => f.dkct y + ∑ j : Fin 512, g.qt (ix3 0 (y 0) j) * dsC c XP t g (y 1) j
    dvct := fun y => f.dvct y + ∑ j : Fin 512, g.dot (ix3 0 (y 0) j) * prC c XP t g (y 1) j
    dkt := fun y => f.dkt y + ∑ j : Fin 512, g.qt (ix3 0 (y 0) j) * dsT c XP t g (y 1) j
    dvt := fun y => f.dvt y + ∑ j : Fin 512, g.dot (ix3 0 (y 0) j) * prT c XP t g (y 1) j }

/-! ## The staged blocks as the point reads them -/

abbrev qV : FVec Ideal S128x512 .bf16 :=
  k0_pay8 (View.readAt (Elt Ideal) A.qt.view (Rect.unit (s := S1x128x512) ![0, 0, 0] S1x128x512.size inb_S1x128x512_S1x128x512_0_0_0).toLoadRect (A.qt.view.rep g.qt))
abbrev dV : FVec Ideal S128x512 .bf16 :=
  k0_pay9 (View.readAt (Elt Ideal) A.dot.view (Rect.unit (s := S1x128x512) ![0, 0, 0] S1x128x512.size inb_S1x128x512_S1x128x512_0_0_0).toLoadRect (A.dot.view.rep g.dot))
abbrev lV : FVec Ideal S1x512 .f32 :=
  k0_pay10 (View.readAt (Elt Ideal) A.lse.view (Rect.unit (s := S1x1x512) ![0, 0, 0] S1x1x512.size inb_S1x1x512_S1x1x512_0_0_0).toLoadRect (A.lse.view.rep g.lse))
abbrev sV : FVec Ideal S1x512 .f32 :=
  k0_pay11 (View.readAt (Elt Ideal) A.dot.view (Rect.unit (s := S1x128x512) ![0, 0, 0] S1x128x512.size inb_S1x128x512_S1x128x512_0_0_0).toLoadRect (A.dot.view.rep g.dot))
    (View.readAt (Elt Ideal) A.ot.view (Rect.unit (s := S1x128x512) ![0, 0, 0] S1x128x512.size inb_S1x128x512_S1x128x512_0_0_0).toLoadRect (A.ot.view.rep g.ot))
abbrev cV : Vec Ideal S256x512 .bf16 :=
  ctxM.view.readCov [⟨Rect.whole S256x512, ReadAs.same.apply ((cblkM t.val).view.read (Elt Ideal) XP)⟩]
    (Rect.unit (s := S256x512) ![0, 0] S256x512.size inb_S256x512_S256x512_0_0).toLoadRect
abbrev mV : Vec Ideal S1x1x512 .f32 :=
  View.readAt (Elt Ideal) A.mrun.view (Rect.unit (s := S1x17x512) ![0, 16, 0] S1x1x512.size inb_S1x17x512_S1x1x512_0_16_0).toLoadRect (A.mrun.view.rep g.mrun)
abbrev vcV : Vec Ideal S256x128 .bf16 :=
  View.readAt (Elt Ideal) A.vc.view (Rect.unit (s := S256x128) ![0, 0] S256x128.size inb_S256x128_S256x128_0_0).toLoadRect (A.vc.view.rep g.vc)
abbrev kcV : Vec Ideal S128x256 .bf16 :=
  View.readAt (Elt Ideal) A.kct.view (Rect.unit (s := S128x256) ![0, 0] S128x256.size inb_S128x256_S128x256_0_0).toLoadRect (A.kct.view.rep g.kct)

theorem head : Head g (qV A g) (dV A g) (lV A g) (sV A g) where
  q a j := by unfold qV; rw [View.readAt_rep_full]; unfold_payloads; pointwise
  d a j := by unfold dV; rw [View.readAt_rep_full]; unfold_payloads; pointwise
  l j := by unfold lV; rw [View.readAt_rep_full]; unfold_payloads; pointwise
  s j := by unfold sV; rw [View.readAt_rep_full, View.readAt_rep_full]; unfold_payloads; pointwise; rfl

theorem sq2c (x : (⟨4, ![1, 1, 256, 512]⟩ : Shape).Idx → EReal) (a : Fin 256) (b : Fin 512) :
    x (Shape.reshapeEquiv squeezes_S1x1x256x512_S256x512.numel_eq (ix2 a b)) = x (ix4 0 0 a b) := by
  show shapeCast S256x512 (x : Vec Ideal S1x1x256x512 .f32) squeezes_S1x1x256x512_S256x512.numel_eq (ix2 a b) = _
  pointwise

theorem ctx_payload (r : Fin 256) (j : Fin 512) : (cblkM t.val).view.read (Elt Ideal) XP (ix2 r j)
    = saved c XP (ix4 ⟨t.val / 32, by have := t_lt t; omega⟩ ⟨t.val % 32, by omega⟩ ⟨16384 + r.val, by omega⟩ j) := by
  have ht := t_lt t
  show XP ((Rect.unit (s := S8x32x17664x512) (ctxOff t.val) S1x1x256x512.size (ctxOff_inb _)).emb
    (Shape.reshapeEquiv squeezes_S1x1x256x512_S256x512.numel_eq (ix2 r j))) = _
  refine (sq2c (fun y => XP ((Rect.unit (s := S8x32x17664x512) (ctxOff t.val) S1x1x256x512.size (ctxOff_inb _)).emb y)) r j).trans (congrArg XP ?_)
  funext a
  refine Fin.ext ((Rect.idx_unit_val _ _ _ _ a).trans ?_)
  fin_cases a
  · show min (t.val / 32) 7 + 0 = t.val / 32; omega
  · show t.val % 32 + 0 = t.val % 32; omega
  · show 16384 + r.val = 16384 + r.val; rfl
  · show 0 + j.val = j.val; omega

theorem cV_at (r : Fin 256) (j : Fin 512) : cV c XP t (ix2 r j)
    = saved c XP (ix4 ⟨t.val / 32, by have := t_lt t; omega⟩ ⟨t.val % 32, by omega⟩ ⟨16384 + r.val, by omega⟩ j) := by
  refine Eq.trans ?_ (ctx_payload c XP t r j)
  show ctxM.view.readAt (Elt Ideal) (Rect.unit (s := S256x512) ![0, 0] S256x512.size inb_S256x512_S256x512_0_0).toLoadRect
    (ctxM.view.writes (Elt Ideal) ctxM.view.junk [⟨Rect.whole S256x512, ReadAs.same.apply ((cblkM t.val).view.read (Elt Ideal) XP)⟩]) (ix2 r j) = _
  rw [View.readAt_full, View.read_writes_whole]

theorem mV_at (j : Fin 512) : mV A g (ix3 0 0 j) = g.mrun (ix3 0 16 j) :=
  readAt_rep_at A.mrun.view g.mrun _ rfl _ _ fun a => by
    fin_cases a
    · rfl
    · rfl
    · show j.val = 0 + j.val; omega

variable {v44 v46 : FVec Ideal S128x512 .bf16} {v48 v55 : FVec Ideal S1x512 .f32} (H : Head g v44 v46 v48 v55)

theorem prC_at (H : Head g v44 v46 v48 v55) (r : Fin 256) (j : Fin 512) : k0_pay13 v48 (cV c XP t) (mV A g) (ix2 r j) = prC c XP t g r j := by
  unfold k0_pay13
  pointwise
  rw [mV_at, H.l, cV_at]
  rfl
theorem dsC_at (H : Head g v44 v46 v48 v55) (r : Fin 256) (j : Fin 512) :
    k0_pay14 v46 v48 v55 (cV c XP t) (mV A g) (vcV A g) (ix2 r j) = dsC c XP t g r j := by
  unfold k0_pay14 vcV
  rw [View.readAt_rep_full]
  pointwise
  rw [prC_at c XP t A g H, H.s]
  unfold dsC dpC
  simp only [H.d]
theorem acc_start (H : Head g v44 v46 v48 v55) (a : Fin 128) (j : Fin 512) :
    k0_pay15 v46 v48 v55 (cV c XP t) (mV A g) (vcV A g) (kcV A g) (ix2 a j) = ∑ r, g.kct (ix2 a r) * dsC c XP t g r j := by
  unfold k0_pay15 kcV
  rw [View.readAt_rep_full]
  pointwise
  exact Finset.sum_congr rfl fun r _ => congrArg (_ * ·) (dsC_at c XP t A g H r j)
theorem dkct_at (H : Head g v44 v46 v48 v55) (x : Vec Ideal S128x256 .f32) (a : Fin 128) (r : Fin 256) :
    k0_pay16 v44 v46 v48 v55 (cV c XP t) (mV A g) (vcV A g) x (ix2 a r) = (x (ix2 a r) : EReal) + ∑ j, g.qt (ix3 0 a j) * dsC c XP t g r j := by
  unfold k0_pay16
  pointwise
  exact congrArg (_ + ·) (Finset.sum_congr rfl fun j _ => congrArg₂ (· * ·) (H.q a j) (dsC_at c XP t A g H r j))
theorem dvct_at (H : Head g v44 v46 v48 v55) (x : Vec Ideal S128x256 .f32) (a : Fin 128) (r : Fin 256) :
    k0_pay17 v46 v48 (cV c XP t) (mV A g) x (ix2 a r) = (x (ix2 a r) : EReal) + ∑ j, g.dot (ix3 0 a j) * prC c XP t g r j := by
  unfold k0_pay17
  pointwise
  exact congrArg (_ + ·) (Finset.sum_congr rfl fun j _ => congrArg₂ (· * ·) (H.d a j) (prC_at c XP t A g H r j))

/-! ## The sums after the loop -/

/-- A sum over 32 blocks of 512 keys is the sum over the keys. -/
theorem sum_keys (y : Fin 16384 → EReal) : ∑ s ∈ Finset.range 32, ∑ l : Fin 512, y (key (512 * s + l.val)) = ∑ l, y l := by
  rw [Finset.sum_range fun s => ∑ l : Fin 512, y (key (512 * s + l.val))]
  exact Fin.sum_mul_add_congr (S := 32) (n := 512) (f := y) fun s l hl => congrArg y (Fin.ext (by
    rw [key_eq _ (by omega)]; show 512 * s.val + l.val = s.val * 512 + l.val; omega))

section
variable (arg0 arg1 v24 v35 : BitVec 32) (v64 : Vec Ideal S256x512 .bf16) (f₀ : Sums (F := Ideal) c)
  (hdp : ∀ l j, f₀.dpV c (ix2 l j) = dpT g (key l.val) j)

theorem end_acc (H : Head g v44 v46 v48 v55) (hdp : ∀ l j, f₀.dpV c (ix2 l j) = dpT g (key l.val) j)
    (hacc : ∀ a j, f₀.accV c (ix2 a j) = ∑ r, g.kct (ix2 a r) * dsC c XP t g r j) (a : Fin 128) (j : Fin 512) :
    (sums c XP t A g arg0 arg1 v24 v35 v64 v44 v46 v48 v55 f₀ 32).accV c (ix2 a j)
      = ∑ r : Fin 256, g.kct (ix2 a r) * dsC c XP t g r j + ∑ l : Fin 16384, g.kt (ix2 a l) * dsT c XP t g l j := by
  rw [(sums_eq c XP t A g arg0 arg1 v24 v35 v64 H f₀ hdp 32 le_rfl).2.1 a j, hacc]
  exact congrArg (_ + ·) (sum_keys fun l => g.kt (ix2 a l) * dsT c XP t g l j)
theorem end_dkt (H : Head g v44 v46 v48 v55) (hdp : ∀ l j, f₀.dpV c (ix2 l j) = dpT g (key l.val) j) (a : Fin 128) (l : Fin 16384) :
    (sums c XP t A g arg0 arg1 v24 v35 v64 v44 v46 v48 v55 f₀ 32).dktV c (ix2 a l)
      = f₀.dktV c (ix2 a l) + ∑ j : Fin 512, g.qt (ix3 0 a j) * dsT c XP t g l j := by
  rw [(sums_eq c XP t A g arg0 arg1 v24 v35 v64 H f₀ hdp 32 le_rfl).2.2.1 a l, if_pos l.isLt]
theorem end_dvt (H : Head g v44 v46 v48 v55) (hdp : ∀ l j, f₀.dpV c (ix2 l j) = dpT g (key l.val) j) (a : Fin 128) (l : Fin 16384) :
    (sums c XP t A g arg0 arg1 v24 v35 v64 v44 v46 v48 v55 f₀ 32).dvtV c (ix2 a l)
      = f₀.dvtV c (ix2 a l) + ∑ j : Fin 512, g.dot (ix3 0 a j) * prT c XP t g l j := by
  rw [(sums_eq c XP t A g arg0 arg1 v24 v35 v64 H f₀ hdp 32 le_rfl).2.2.2 a l, if_pos l.isLt]

/-- The first product of values and cotangents, as the point stores it. -/
theorem dp_start (f : Buf (Elt Ideal) (dpM.view.loc (c : Thread nD τ))) (inb) (l j : Fin 512) :
    dpM.view.read (Elt Ideal) (dpM.view.writes (Elt Ideal) f [⟨Rect.unit (s := S512x512) ![0, 0] S512x512.size inb_S512x512_S512x512_0_0,
      k0_pay12 (View.readAt (Elt Ideal) A.dot.view (Rect.unit (s := S1x128x512) ![0, 0, 0] S1x128x512.size inb_S1x128x512_S1x128x512_0_0_0).toLoadRect (A.dot.view.rep g.dot))
        (View.readAt (Elt Ideal) A.v.view (Rect.unit (s := S16384x128) ![0, 0] S512x128.size inb).toLoadRect (A.v.view.rep g.v))⟩]) (ix2 l j) = dpT g (key l.val) j := by
  rw [View.read_writes_full]
  unfold k0_pay12 k0_pay9
  rw [View.readAt_rep_full A.dot.view]
  pointwise
  unfold dpT
  refine Finset.sum_congr rfl fun a _ => congrArg (· * _) ?_
  rw [key_eq _ (by omega)]
  exact readAt_rep_at A.v.view g.v _ rfl _ _ fun i => by fin_cases i <;> exact (Nat.zero_add _).symm
end

/-! ## A point's outputs -/

theorem head' : Head g (midRun.sl.r A g) (midRun.sl.r_1 A g) (midRun.sl.r_2 A g) (midRun.sl.r_3 A g) := head A g

section
variable (b19 : Buf (Elt Ideal) (dktM.view.loc (c : Thread nD τ))) (b20 : Buf (Elt Ideal) (dvtM.view.loc (c : Thread nD τ)))

/-- The sums' buffers when the loop is entered. -/
abbrev start : Sums (F := Ideal) c :=
  ⟨accM.view.writes (Elt Ideal) accM.view.junk (midRun.sl.H17_1 c XP t A g), dpM.view.writes (Elt Ideal) dpM.view.junk (midRun.sl.H18_1 A g), b19, b20⟩

attribute [local irreducible] sumsAt in
theorem start_dp (l j : Fin 512) : (start c XP t A g b19 b20).dpV c (ix2 l j) = dpT g (key l.val) j := by
  unfold Sums.dpV start midRun.sl.H18_1
  exact dp_start c A g _ _ l j
theorem start_acc (a : Fin 128) (j : Fin 512) : (start c XP t A g b19 b20).accV c (ix2 a j) = ∑ r, g.kct (ix2 a r) * dsC c XP t g r j := by
  unfold Sums.accV start midRun.sl.H17_1
  rw [View.read_writes_full]
  exact acc_start c XP t A g (head' A g) a j

theorem ext2 {n0 n1 : ℕ} {α : Type} {x y : (⟨2, ![n0, n1]⟩ : Shape).Idx → α} (h : ∀ a b, x (ix2 a b) = y (ix2 a b)) : x = y := by
  funext i; rw [show i = ix2 (i 0) (i 1) from funext fun a => by fin_cases a <;> rfl]; exact h _ _
theorem ext3 {n0 n1 n2 : ℕ} {α : Type} {x y : (⟨3, ![n0, n1, n2]⟩ : Shape).Idx → α} (h : ∀ a b d, x (ix3 a b d) = y (ix3 a b d)) : x = y := by
  funext i; rw [show i = ix3 (i 0) (i 1) (i 2) from funext fun a => by fin_cases a <;> rfl]; exact h _ _ _

attribute [local irreducible] sumsAt in
theorem pointOf_eq (x15 x16 : Vec Ideal S128x256 .f32) :
    pointOf c XP t A g x15 x16 b19 b20 = outsV c XP t g ⟨x15, x16, dktM.view.read (Elt Ideal) b19, dvtM.view.read (Elt Ideal) b20⟩ := by
  unfold pointOf outsV
  refine outs_mk ?_ ?_ ?_ ?_ ?_
  · refine ext3 fun z a j => ?_
    obtain rfl : z = 0 := Subsingleton.elim _ _
    unfold k0_pay1
    pointwise
    exact end_acc c XP t A g _ _ _ _ _ (start c XP t A g b19 b20) (head' A g) (start_dp c XP t A g b19 b20) (start_acc c XP t A g b19 b20) a j
  · exact ext2 fun a r => dkct_at c XP t A g (head' A g) x15 a r
  · exact ext2 fun a r => dvct_at c XP t A g (head' A g) x16 a r
  · exact ext2 fun a l => end_dkt c XP t A g _ _ _ _ _ (start c XP t A g b19 b20) (head' A g) (start_dp c XP t A g b19 b20) a l
  · exact ext2 fun a l => end_dvt c XP t A g _ _ _ _ _ (start c XP t A g b19 b20) (head' A g) (start_dp c XP t A g b19 b20) a l
end

/-- A point in the middle. -/
theorem mid_eq (h0 : t.val ≠ 0) (h1 : t.val ≠ 255) (f : Carried (F := Ideal)) : (midRun c XP t A h0 h1 g f).1 = outsV c XP t g f := by
  rw [mid_of, pointOf_eq, View.read_rep, View.read_rep]
/-- The last point. -/
theorem last_eq (h1 : t.val = 255) (f : Carried (F := Ideal)) : (lastRun c XP t A h1 g f).1.1 = outsV c XP t g f := by
  rw [last_of, pointOf_eq, View.read_rep, View.read_rep]
/-- Sums of nothing. -/
def noSums : Carried (F := Ideal) := ⟨fun _ => (0 : EReal), fun _ => (0 : EReal), fun _ => (0 : EReal), fun _ => (0 : EReal)⟩
/-- The first point. -/
theorem first_eq (h0 : t.val = 0) : (firstRun c XP t A h0 g).1 = outsV c XP t g noSums := by
  rw [first_of, pointOf_eq]
  unfold firstRun.sl.H19_1 firstRun.sl.H20_1
  rw [View.read_writes_full, View.read_writes_full]
  have e4 : (k0_pay4 (F := Ideal)) = fun _ => (0 : EReal) := ext2 fun a b => by unfold k0_pay4; pointwise
  have e5 : (k0_pay5 (F := Ideal)) = fun _ => (0 : EReal) := ext2 fun a b => by unfold k0_pay5; pointwise
  have e6 : (k0_pay6 (F := Ideal)) = fun _ => (0 : EReal) := ext2 fun a b => by unfold k0_pay6; pointwise
  have e7 : (k0_pay7 (F := Ideal)) = fun _ => (0 : EReal) := ext2 fun a b => by unfold k0_pay7; pointwise
  rw [e4, e5, e6, e7]
  rfl
end Cert.GlobRun
end
-- ==== Proof.Glob.Whole.lean ====
/-
  What the attention gradient's kernel leaves in its five results, from the arrays that it is launched on.
-/
module

public import proofs.«01_k».proof.Proof.Glob.Points
public import Idealize.ShloMosaic.Lib.Pipeline.ValueKit
public import Idealize.ShloMosaic.Lib.Pointwise

@[expose] public section

set_option maxRecDepth 16384

noncomputable section

namespace Cert.GlobRun

open Cert.GlobIdeal Cert.GlobIdeal.Gen
open Idealize.ShloMosaic Idealize.ShloMosaic.TcCoe Idealize.ShloMosaic.Tactic

/-- The arrays that the kernel is launched on, as numbers. -/
structure Given where
  q : S8x128x16384.Idx → EReal
  d : S8x128x16384.Idx → EReal
  o : S8x128x16384.Idx → EReal
  lse : S8x1x16384.Idx → EReal
  mrun : S8x17x16384.Idx → EReal
  p : S8x32x17664x512.Idx → EReal
  kt : S128x16384.Idx → EReal
  v : S16384x128.Idx → EReal
  kct : S128x256.Idx → EReal
  vc : S256x128.Idx → EReal

namespace Given
variable (G : Given) (h : Fin 8) (n : Fin 16384)

/-- The saved word of head `h`, key `l`, query `n`. -/
def word (l : Fin 17664) : EReal := G.p (ix4 h ⟨n.val / 512, by omega⟩ l ⟨n.val % 512, by omega⟩)
/-- The probability of a key, … -/
def prT (l : Fin 16384) : EReal := G.word h n ⟨l.val, by omega⟩ * Ideal.exp (G.mrun (ix3 h ⟨l.val / 1024, by omega⟩ n) - G.lse (ix3 h 0 n))
/-- … of a key of the context; … -/
def prC (r : Fin 256) : EReal := G.word h n ⟨16384 + r.val, by omega⟩ * Ideal.exp (G.mrun (ix3 h 16 n) - G.lse (ix3 h 0 n))
/-- … their cotangents; … -/
def dpT (l : Fin 16384) : EReal := ∑ a : Fin 128, G.v (ix2 l a) * G.d (ix3 h a n)
def dpC (r : Fin 256) : EReal := ∑ a : Fin 128, G.vc (ix2 r a) * G.d (ix3 h a n)
/-- … the product of the output and its cotangent; … -/
def dlt : EReal := ∑ a : Fin 128, G.d (ix3 h a n) * G.o (ix3 h a n)
/-- … the cotangents of the scores. -/
def dsT (l : Fin 16384) : EReal := G.prT h n l * (G.dpT h n l - G.dlt h n)
def dsC (r : Fin 256) : EReal := G.prC h n r * (G.dpC h n r - G.dlt h n)

/-- The five results. -/
def dqt : S8x128x16384.Idx → EReal := fun y =>
  ∑ r : Fin 256, G.kct (ix2 (y 1) r) * G.dsC (y 0) (y 2) r + ∑ l : Fin 16384, G.kt (ix2 (y 1) l) * G.dsT (y 0) (y 2) l
def dkt : S128x16384.Idx → EReal := fun y => ∑ h : Fin 8, ∑ n : Fin 16384, G.q (ix3 h (y 0) n) * G.dsT h n (y 1)
def dvt : S128x16384.Idx → EReal := fun y => ∑ h : Fin 8, ∑ n : Fin 16384, G.d (ix3 h (y 0) n) * G.prT h n (y 1)
def dkct : S128x256.Idx → EReal := fun y => ∑ h : Fin 8, ∑ n : Fin 16384, G.q (ix3 h (y 0) n) * G.dsC h n (y 1)
def dvct : S128x256.Idx → EReal := fun y => ∑ h : Fin 8, ∑ n : Fin 16384, G.d (ix3 h (y 0) n) * G.prC h n (y 1)
end Given

/-- A sum over the grid's points and a block's queries is one over heads and queries. -/
theorem sum_points (f : Fin 8 → Fin 16384 → EReal) (g : ℕ → EReal)
    (hg : ∀ t : Fin 256, g t.val = ∑ j : Fin 512, f ⟨t.val / 32, by omega⟩ ⟨t.val % 32 * 512 + j.val, by omega⟩) :
    ∑ s ∈ Finset.range 256, g s = ∑ h, ∑ n, f h n := by
  rw [Finset.sum_range]
  have e : (∑ h : Fin 8, ∑ i : Fin 32, g (h.val * 32 + i.val)) = ∑ t : Fin 256, g t.val :=
    Fin.sum_mul_add_congr (S := 8) (n := 32) (f := fun t : Fin 256 => g t.val) fun s k hl => rfl
  rw [← e]
  refine Finset.sum_congr rfl fun h _ => ?_
  have e : (∑ i : Fin 32, ∑ j : Fin 512, f h ⟨i.val * 512 + j.val, by omega⟩) = ∑ n : Fin 16384, f h n :=
    Fin.sum_mul_add_congr (S := 32) (n := 512) (f := fun n : Fin 16384 => f h n) fun s k hl => rfl
  rw [← e]
  refine Finset.sum_congr rfl fun i _ => ?_
  refine (hg ⟨h.val * 32 + i.val, by omega⟩).trans (Finset.sum_congr rfl fun j _ => ?_)
  congr 1
  · exact Fin.ext (show (h.val * 32 + i.val) / 32 = h.val by omega)
  · exact Fin.ext (show (h.val * 32 + i.val) % 32 * 512 + j.val = i.val * 512 + j.val by omega)

variable (m : (ℓ : Loc nD τ sig) → Buf (Elt Ideal) ℓ) (c : Dev nD)

/-- The arrays at launch. -/
def given : Given where
  q := V m c main_v73
  d := V m c main_v82
  o := V m c main_v92
  lse := V m c main_v61
  mrun := V m c main_v62
  p := V m c main_v64
  kt := V m c main_v93
  v := V m c main_v84
  kct := V m c main_v94
  vc := V m c main_v86

/-! ## The blocks -/

theorem idx : ∀ t : Fin cfg0.N, win0_0.index t = ![t.val / 32, 0, t.val % 32] ∧ win0_1.index t = ![t.val / 32, 0, t.val % 32]
    ∧ win0_2.index t = ![t.val / 32, 0, t.val % 32] ∧ win0_3.index t = ![t.val / 32, 0, t.val % 32] ∧ win0_4.index t = ![t.val / 32, 0, t.val % 32]
    ∧ win0_5.index t = ![0, 0] ∧ win0_6.index t = ![0, 0] ∧ win0_7.index t = ![0, 0] ∧ win0_8.index t = ![0, 0]
    ∧ win0_9.index t = ![t.val / 32, 0, t.val % 32] ∧ win0_10.index t = ![0, 0] ∧ win0_11.index t = ![0, 0] :=
  (by decide +kernel : ∀ t : Fin grid0.N, _)

variable (t : Fin cfg0.N)

/-- The head of a point. -/
abbrev hd : Fin 8 := ⟨t.val / 32, by have : t.val < 256 := t.isLt; omega⟩
/-- Query `j` of a point's block. -/
abbrev qu (j : Fin 512) : Fin 16384 := ⟨t.val % 32 * 512 + j.val, by omega⟩

theorem blk_heads : (∀ u a j, iblk m c 0 t (ix3 u a j) = (given m c).q (ix3 (hd t) a (qu t j)))
    ∧ (∀ u a j, iblk m c 1 t (ix3 u a j) = (given m c).d (ix3 (hd t) a (qu t j)))
    ∧ (∀ u a j, iblk m c 2 t (ix3 u a j) = (given m c).o (ix3 (hd t) a (qu t j)))
    ∧ (∀ u a j, iblk m c 3 t (ix3 u a j) = (given m c).lse (ix3 (hd t) a (qu t j)))
    ∧ (∀ u a j, iblk m c 4 t (ix3 u a j) = (given m c).mrun (ix3 (hd t) a (qu t j))) := by
  obtain ⟨i0, i1, i2, i3, i4, -⟩ := idx t
  refine ⟨fun u a j => ?_, fun u a j => ?_, fun u a j => ?_, fun u a j => ?_, fun u a j => ?_⟩
  all_goals
    obtain rfl : u = 0 := Subsingleton.elim u 0
    simp only [iblk, given]
    blk_point [i0, i1, i2, i3, i4]

theorem blk_keys : (∀ a l, iblk m c 5 t (ix2 a l) = (given m c).kt (ix2 a l)) ∧ (∀ a l, iblk m c 6 t (ix2 a l) = (given m c).v (ix2 a l))
    ∧ (∀ a l, iblk m c 7 t (ix2 a l) = (given m c).kct (ix2 a l)) ∧ (∀ a l, iblk m c 8 t (ix2 a l) = (given m c).vc (ix2 a l)) := by
  obtain ⟨-, -, -, -, -, i5, i6, i7, i8, -⟩ := idx t
  refine ⟨fun a l => ?_, fun a l => ?_, fun a l => ?_, fun a l => ?_⟩
  all_goals
    simp only [iblk, given]
    blk_point [i5, i6, i7, i8]

theorem saved_at (l : Fin 17664) (j : Fin 512) {h i} (hh : h = hd t) (hi : i.val = t.val % 32) :
    saved c (XPm m c) (ix4 h i l j) = (given m c).word (hd t) (qu t j) l := by
  subst hh
  refine congrArg (given m c).p (funext fun a => Fin.ext ?_)
  fin_cases a
  · rfl
  · show i.val = (t.val % 32 * 512 + j.val) / 512; omega
  · rfl
  · show j.val = (t.val % 32 * 512 + j.val) % 512; omega

theorem prT_at (l : Fin 16384) (j : Fin 512) : prT c (XPm m c) t (insOf m c t) l j = (given m c).prT (hd t) (qu t j) l := by
  obtain ⟨-, -, -, b3, b4⟩ := blk_heads m c t
  unfold prT Given.prT
  dsimp only
  rw [saved_at m c t _ _ rfl rfl, b3, b4]
theorem prC_at' (r : Fin 256) (j : Fin 512) : prC c (XPm m c) t (insOf m c t) r j = (given m c).prC (hd t) (qu t j) r := by
  obtain ⟨-, -, -, b3, b4⟩ := blk_heads m c t
  unfold prC Given.prC
  dsimp only
  rw [saved_at m c t _ _ rfl rfl, b3, b4]
theorem dlt_at (j : Fin 512) : dlt (insOf m c t) j = (given m c).dlt (hd t) (qu t j) := by
  obtain ⟨-, b1, b2, -, -⟩ := blk_heads m c t
  exact Finset.sum_congr rfl fun a _ => by dsimp only; rw [b1, b2]
theorem dsT_at (l : Fin 16384) (j : Fin 512) : dsT c (XPm m c) t (insOf m c t) l j = (given m c).dsT (hd t) (qu t j) l := by
  obtain ⟨-, b1, -⟩ := blk_heads m c t
  obtain ⟨-, b6, -⟩ := blk_keys m c t
  unfold dsT Given.dsT
  rw [prT_at, dlt_at]
  refine congrArg (fun x => _ * (x - _)) (Finset.sum_congr rfl fun a _ => ?_)
  dsimp only; rw [b1, b6]
theorem dsC_at' (r : Fin 256) (j : Fin 512) : dsC c (XPm m c) t (insOf m c t) r j = (given m c).dsC (hd t) (qu t j) r := by
  obtain ⟨-, b1, -⟩ := blk_heads m c t
  obtain ⟨-, -, -, b8⟩ := blk_keys m c t
  unfold dsC Given.dsC
  rw [prC_at', dlt_at]
  refine congrArg (fun x => _ * (x - _)) (Finset.sum_congr rfl fun a _ => ?_)
  dsimp only; rw [b1, b8]

/-! ## The sums over the points -/

/-- What point `n` adds to a sum. -/
def adds (f : Fin cfg0.N → EReal) (n : ℕ) : EReal := if h : n < 256 then f (pt n h) else 0
theorem adds_at (f : Fin cfg0.N → EReal) (t : Fin cfg0.N) : adds f t.val = f t := dif_pos t.isLt

/-- The points' parts of the four sums. -/
abbrev ktPart (a : Fin 128) (l : Fin 16384) (t : Fin cfg0.N) : EReal := ∑ j : Fin 512, (given m c).q (ix3 (hd t) a (qu t j)) * (given m c).dsT (hd t) (qu t j) l
abbrev vtPart (a : Fin 128) (l : Fin 16384) (t : Fin cfg0.N) : EReal := ∑ j : Fin 512, (given m c).d (ix3 (hd t) a (qu t j)) * (given m c).prT (hd t) (qu t j) l
abbrev kcPart (a : Fin 128) (r : Fin 256) (t : Fin cfg0.N) : EReal := ∑ j : Fin 512, (given m c).q (ix3 (hd t) a (qu t j)) * (given m c).dsC (hd t) (qu t j) r
abbrev vcPart (a : Fin 128) (r : Fin 256) (t : Fin cfg0.N) : EReal := ∑ j : Fin 512, (given m c).d (ix3 (hd t) a (qu t j)) * (given m c).prC (hd t) (qu t j) r

/-- The sums after the first `n` points. -/
def sumsTo (n : ℕ) : Carried (F := Ideal) where
  dkct y := ∑ s ∈ Finset.range n, adds (kcPart m c (y 0) (y 1)) s
  dvct y := ∑ s ∈ Finset.range n, adds (vcPart m c (y 0) (y 1)) s
  dkt y := ∑ s ∈ Finset.range n, adds (ktPart m c (y 0) (y 1)) s
  dvt y := ∑ s ∈ Finset.range n, adds (vtPart m c (y 0) (y 1)) s

theorem carried_mk {a a' b b' : Vec Ideal S128x256 .f32} {x x' y y' : Vec Ideal S128x16384 .f32} (ha : a = a') (hb : b = b') (hx : x = x') (hy : y = y') :
    (⟨a, b, x, y⟩ : Carried (F := Ideal)) = ⟨a', b', x', y'⟩ := by
  subst ha hb hx hy; rfl

theorem sums_step : (outsV c (XPm m c) t (insOf m c t) (sumsTo m c t.val)).sums = sumsTo m c (t.val + 1) := by
  obtain ⟨b0, b1, -⟩ := blk_heads m c t
  unfold outsV sumsTo
  refine carried_mk ?_ ?_ ?_ ?_ <;> funext y <;> dsimp only <;> rw [Finset.sum_range_succ, adds_at] <;>
    refine congrArg (_ + ·) (Finset.sum_congr rfl fun j _ => ?_)
  · exact congrArg₂ (· * ·) (b0 _ _ _) (dsC_at' m c t _ _)
  · exact congrArg₂ (· * ·) (b1 _ _ _) (prC_at' m c t _ _)
  · exact congrArg₂ (· * ·) (b0 _ _ _) (dsT_at m c t _ _)
  · exact congrArg₂ (· * ·) (b1 _ _ _) (prT_at m c t _ _)

theorem sumsTo_zero : noSums = sumsTo m c 0 := rfl

/-- A point leaves its block and the sums up to it. -/
theorem outAt_eq : ∀ (n : ℕ) (h : n < 256), outAt m c n = outsV c (XPm m c) (pt n h) (insOf m c (pt n h)) (sumsTo m c n) := by
  intro n
  induction n with
  | zero =>
    intro h
    exact (outAt_first m c (pt 0 h) rfl).trans ((first_eq c _ _ _ _ rfl).trans (congrArg _ (sumsTo_zero m c)))
  | succ n ih =>
    intro h
    have hs : (outAt m c n).sums = sumsTo m c (n + 1) := by rw [ih (by omega)]; exact sums_step m c (pt n (by omega))
    by_cases h1 : n + 1 = 255
    · refine (outAt_last m c (pt (n + 1) h) h1).trans ((last_eq c _ _ _ _ h1 _).trans ?_)
      exact congrArg (outsV c (XPm m c) (pt (n + 1) h) (insOf m c (pt (n + 1) h))) hs
    · refine (outAt_mid m c (pt (n + 1) h) (Nat.succ_ne_zero n) h1).trans ((mid_eq c _ _ _ _ _ h1 _).trans ?_)
      exact congrArg (outsV c (XPm m c) (pt (n + 1) h) (insOf m c (pt (n + 1) h))) hs

theorem outAt_sums (t : Fin cfg0.N) : (outAt m c t.val).sums = sumsTo m c (t.val + 1) := by
  rw [outAt_eq m c t.val t.isLt]; exact sums_step m c t

/-- All points together. -/
theorem sums_all : sumsTo m c 256 = ⟨(given m c).dkct, (given m c).dvct, (given m c).dkt, (given m c).dvt⟩ := by
  unfold sumsTo
  refine carried_mk ?_ ?_ ?_ ?_ <;> funext y
  · exact sum_points (fun h n => (given m c).q (ix3 h (y 0) n) * (given m c).dsC h n (y 1)) _ fun t => adds_at _ t
  · exact sum_points (fun h n => (given m c).d (ix3 h (y 0) n) * (given m c).prC h n (y 1)) _ fun t => adds_at _ t
  · exact sum_points (fun h n => (given m c).q (ix3 h (y 0) n) * (given m c).dsT h n (y 1)) _ fun t => adds_at _ t
  · exact sum_points (fun h n => (given m c).d (ix3 h (y 0) n) * (given m c).prT h n (y 1)) _ fun t => adds_at _ t

/-! ## The results -/

theorem res_eq : resOf m c = ⟨(given m c).dkt, (given m c).dvt⟩ := by
  have e := (last_res c (XPm m c) (pt 255 (by omega)) (stg (pt 255 (by omega))) (insOf m c (pt 255 (by omega))) rfl
    (outAt m c ((pt 255 (by omega)).val - 1)).sums)
  have e2 := outAt_last m c (pt 255 (by omega)) rfl
  unfold resOf
  rw [e, ← e2, outAt_sums, sums_all]

theorem arr9 : (dats m 0 c).arrAt 9 cfg0.N = (given m c).dqt := by
  refine (dats m 0 c).arrAt_eq_of_covers 9 _ (by decide +kernel) fun t hf y => ?_
  blk_simp
  rw [after_9, outAt_eq m c t.val t.isLt]
  obtain ⟨-, -, b7, -⟩ := blk_keys m c t
  obtain ⟨b5, -⟩ := blk_keys m c t
  refine Eq.trans (b := (given m c).dqt (ix3 (hd t) (y 1) (qu t (y 2)))) ?_ (congrArg _ ?_)
  · unfold outsV Given.dqt
    dsimp only
    refine congrArg₂ (· + ·) (Finset.sum_congr rfl fun r _ => ?_) (Finset.sum_congr rfl fun l _ => ?_)
    · exact congrArg₂ (· * ·) (b7 _ _) (dsC_at' m c t r (y 2))
    · exact congrArg₂ (· * ·) (b5 _ _) (dsT_at m c t l (y 2))
  · blk_ext [idx t]

theorem arr10 : (dats m 0 c).arrAt 10 cfg0.N = (given m c).dkct := by
  refine (dats m 0 c).arrAt_eq_of_covers 10 _ (by decide +kernel) fun t hf y => ?_
  have ht : t.val + 1 = 256 := by have h := (flush0_10 t).mp hf; have : t.val < 256 := t.isLt; have e : cfg0.N = 256 := rfl; omega
  blk_simp
  rw [after_10, outAt_sums, ht, sums_all]
  dsimp only
  refine congrArg _ ?_
  blk_ext [idx t]

theorem arr11 : (dats m 0 c).arrAt 11 cfg0.N = (given m c).dvct := by
  refine (dats m 0 c).arrAt_eq_of_covers 11 _ (by decide +kernel) fun t hf y => ?_
  have ht : t.val + 1 = 256 := by have h := (flush0_11 t).mp hf; have : t.val < 256 := t.isLt; have e : cfg0.N = 256 := rfl; omega
  blk_simp
  rw [after_11, outAt_sums, ht, sums_all]
  dsimp only
  refine congrArg _ ?_
  blk_ext [idx t]

end Cert.GlobRun
end
-- ==== Proof.Glob.Start.lean ====
/-
  What the host computes before the attention gradient's kernel: first the scaled queries, the scores and their
  running maxima.
-/
module

public import proofs.«01_k».proof.Proof.Glob.Whole
public import Idealize.ShloMosaic.Lib.StableHlo.ReadAt
public import Idealize.ShloMosaic.Lib.WordCmp

@[expose] public section

set_option maxRecDepth 16384

noncomputable section

namespace Cert.GlobRun

open Cert.GlobIdeal Cert.GlobIdeal.Gen
open Idealize.ShloMosaic Idealize.ShloMosaic.TcCoe Idealize.ShloMosaic.Tactic

/-- The arguments as numbers: the output's cotangent, the queries, the keys and values, the context's. -/
structure Args where
  d : S16384x8x64.Idx → EReal
  q : S16384x8x64.Idx → EReal
  k : S16384x2x64.Idx → EReal
  v : S16384x2x64.Idx → EReal
  kc : S256x2x64.Idx → EReal
  vc : S256x2x64.Idx → EReal

/-- The scale of the scores. -/
def eighth : EReal := ((1 / 8 : ℝ) : EReal)

namespace Args
variable (A : Args)

/-- A key's score. -/
def st (g : Fin 2) (h : Fin 4) (l n : Fin 16384) : EReal := ∑ x : Fin 64, A.q (ix3 n ⟨g.val * 4 + h.val, by omega⟩ x) * eighth * A.k (ix3 l g x)
/-- The score of a key of the context. -/
def sc (g : Fin 2) (h : Fin 4) (r : Fin 256) (n : Fin 16384) : EReal := ∑ x : Fin 64, A.q (ix3 n ⟨g.val * 4 + h.val, by omega⟩ x) * eighth * A.kc (ix3 r g x)
end Args

variable (m : (ℓ : Loc nD τ sig) → Buf (Elt Ideal) ℓ) (c : Dev nD)

def args : Args where
  d := m (c, main_arg0)
  q := m (c, main_arg1)
  k := m (c, main_arg2)
  v := m (c, main_arg3)
  kc := m (c, main_arg4)
  vc := m (c, main_arg5)

/-- The buffers once the running maxima are there. -/
def mid : Valuation τ sig (Elt Ideal) := StableHlo.after (hostOps0 ++ hostOps0_1) (fun b => m (c, b))

theorem after_both {V : Valuation τ sig (Elt Ideal)} : ∀ (k l : List (HloOp τ sig (Elt Ideal))) , StableHlo.after (k ++ l) V = StableHlo.after l (StableHlo.after k V) := by
  intro k
  induction k generalizing V with
  | nil => intro l; rfl
  | cons o k ih => intro l; exact ih l

theorem V_eq (b : Ref sig .tc) : V m c b = StableHlo.after (List.flatten [hostOps0_2, hostOps0_3, hostOps0_4, hostOps0_5, hostOps0_6, hostOps0_7, hostOps0_8,
    hostOps0_9, hostOps0_10, hostOps0_11, hostOps0_12, hostOps0_13, hostOps0_14]) (mid m c) (Proc.devRef .tc b) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) (Proc.devRef .tc b) = _
  rw [List.flatten_cons, List.flatten_cons, ← List.append_assoc, after_both]
  rfl

theorem word_eighth : Ideal.ofBits .f32 0x3E000000#32 = eighth := by
  simp [Ideal.ofBits, Ideal.ieee, eighth, -EReal.coe_mul]; norm_num

theorem mid_q (n : Fin 16384) (h : Fin 8) (x : Fin 64) : mid m c main_v2 (ix3 n h x) = (args m c).q (ix3 n h x) * eighth := by
  simp only [mid, hostOps0, hostOps0_1, List.cons_append, List.nil_append]
  after_reads_at
  rw [word_eighth]
  rfl
theorem mid_k (n : Fin 16384) (h : Fin 2) (x : Fin 64) : mid m c main_v3 (ix3 n h x) = (args m c).k (ix3 n h x) := by
  simp only [mid, hostOps0, hostOps0_1, List.cons_append, List.nil_append]
  after_reads_at
  rfl
theorem mid_v (n : Fin 16384) (h : Fin 2) (x : Fin 64) : mid m c main_v4 (ix3 n h x) = (args m c).v (ix3 n h x) := by
  simp only [mid, hostOps0, hostOps0_1, List.cons_append, List.nil_append]
  after_reads_at
  rfl
theorem mid_kc (n : Fin 256) (h : Fin 2) (x : Fin 64) : mid m c main_v5 (ix3 n h x) = (args m c).kc (ix3 n h x) := by
  simp only [mid, hostOps0, hostOps0_1, List.cons_append, List.nil_append]
  after_reads_at
  rfl
theorem mid_vc (n : Fin 256) (h : Fin 2) (x : Fin 64) : mid m c main_v6 (ix3 n h x) = (args m c).vc (ix3 n h x) := by
  simp only [mid, hostOps0, hostOps0_1, List.cons_append, List.nil_append]
  after_reads_at
  rfl
theorem mid_d (n : Fin 16384) (h : Fin 8) (x : Fin 64) : mid m c main_arg0 (ix3 n h x) = (args m c).d (ix3 n h x) := by
  simp only [mid, hostOps0, hostOps0_1, List.cons_append, List.nil_append]
  after_reads_at
  rfl
theorem mid_st (g : Fin 2) (h : Fin 4) (l n : Fin 16384) : mid m c main_v9 (ix4 g h l n) = (args m c).st g h l n := by
  simp only [mid, hostOps0, hostOps0_1, List.cons_append, List.nil_append]
  after_reads_at
  rw [word_eighth]
  rfl
theorem mid_sc (g : Fin 2) (h : Fin 4) (r : Fin 256) (n : Fin 16384) : mid m c main_v12 (ix4 g h r n) = (args m c).sc g h r n := by
  simp only [mid, hostOps0, hostOps0_1, List.cons_append, List.nil_append]
  after_reads_at
  rw [word_eighth]
  rfl

/-! ## The maxima are finite where the scores are -/

/-- A finite number. -/
def Fin' (x : EReal) : Prop := ∃ r : ℝ, x = r

theorem foldl_max_real {ι : Type} (f : ι → EReal) : ∀ (L : List ι) (v : EReal), (v = ⊥ ∨ Fin' v) → (∀ i ∈ L, f i = ⊥ ∨ Fin' (f i)) →
    (L.foldl (fun r i => max r (f i)) v = ⊥ ∨ Fin' (L.foldl (fun r i => max r (f i)) v))
      ∧ (Fin' v ∨ (∃ i ∈ L, Fin' (f i)) → Fin' (L.foldl (fun r i => max r (f i)) v)) := by
  have two : ∀ a b : EReal, (a = ⊥ ∨ Fin' a) → (b = ⊥ ∨ Fin' b) → (max a b = ⊥ ∨ Fin' (max a b)) ∧ (Fin' a ∨ Fin' b → Fin' (max a b)) := by
    rintro a b (rfl | ⟨x, rfl⟩) (rfl | ⟨y, rfl⟩)
    · exact ⟨.inl (max_self _), by rintro (⟨r, h⟩ | ⟨r, h⟩) <;> simp at h⟩
    · rw [max_eq_right bot_le]; exact ⟨.inr ⟨y, rfl⟩, fun _ => ⟨y, rfl⟩⟩
    · rw [max_eq_left bot_le]; exact ⟨.inr ⟨x, rfl⟩, fun _ => ⟨x, rfl⟩⟩
    · exact ⟨.inr ⟨max x y, (EReal.coe_strictMono.monotone.map_max).symm⟩, fun _ => ⟨max x y, (EReal.coe_strictMono.monotone.map_max).symm⟩⟩
  intro L
  induction L with
  | nil => intro v hv _; exact ⟨hv, by rintro (h | ⟨i, h, -⟩); exacts [h, by simp at h]⟩
  | cons a L ih =>
    intro v hv hf
    have h2 := two v (f a) hv (hf a List.mem_cons_self)
    have := ih (max v (f a)) h2.1 fun i hi => hf i (List.mem_cons_of_mem _ hi)
    refine ⟨this.1, fun h => this.2 ?_⟩
    rcases h with h | ⟨i, hi, h⟩
    · exact .inl (h2.2 (.inl h))
    · rcases List.mem_cons.mp hi with rfl | hi
      · exact .inl (h2.2 (.inr h))
      · exact .inr ⟨i, hi, h⟩

/-- The maximum over one axis. -/
theorem fold_real {n : ℕ} (hn : 0 < n) (f : Fin n → EReal) (hf : ∀ i, Fin' (f i)) (v : EReal) (hv : v = ⊥) : Fin' (Finset.fold max v f Finset.univ) := by
  subst hv
  obtain ⟨i, -, h⟩ := Finset.exists_mem_eq_sup Finset.univ ⟨⟨0, hn⟩, Finset.mem_univ _⟩ f
  have h' : Finset.fold max ⊥ f Finset.univ = f i := h
  rw [h']
  exact hf i

/-- The maximum over a window of which one position is inside. -/
theorem window_real {s t u : Shape} (w st lo hi : Fin s.rank → ℕ) (x : s.Idx → EReal) (init : u.Idx → EReal) (h : s.ReduceWindows w st lo hi t)
    (hu : 0 < u.numel) (hi' : init (Shape.Idx.first hu) = ⊥) (hx : ∀ i, Fin' (x i)) (j : t.Idx) (n : (⟨s.rank, w⟩ : Shape).Idx)
    (hn : ∀ a, lo a ≤ (j (a.cast h.1.symm)).val * st a + (n a).val ∧ (j (a.cast h.1.symm)).val * st a + (n a).val - lo a < s.size a) :
    Fin' (Host.reduceWindow (FloatOps.maximumf (F := Ideal) (φ := .f32)) w st lo hi x init h hu j) := by
  unfold Host.reduceWindow
  dsimp only
  refine (foldl_max_real _ _ _ (.inl hi') fun i _ => ?_).2 (.inr ⟨(⟨s.rank, w⟩ : Shape).rowMajor n, List.mem_finRange _, ?_⟩)
  · split_ifs
    · exact .inr (hx _)
    · exact .inl hi'
  · rw [dif_pos (by rw [Equiv.symm_apply_apply]; exact hn)]
    exact hx _

theorem word_bot : Ideal.ofBits .f32 0xFF800000#32 = ⊥ := by simp [Ideal.ofBits, Ideal.ieee]

/-- The maximum over a tile of keys. -/
theorem tile_real (x : S2x4x16x1024x16384.Idx → EReal) (hx : ∀ i, Fin' (x i)) (j : S2x4x16x16384.Idx) :
    Fin' (Host.reduce (max : EReal → EReal → EReal) x (constant (F := Ideal) S_ FTy.f32 4286578688#32 : S_.Idx → EReal) reducesTo_S2x4x16x1024x16384_S2x4x16x16384_d3 h_S_ j) := by
  idx_vars j
  pointwise
  exact fold_real (by decide) _ (fun r => hx _) _ word_bot

/-- The running maxima as numbers. -/
def runMax : S2x4x17x16384.Idx → EReal := mid m c main_v18

theorem runMax_real (hst : ∀ g h l n, Fin' ((args m c).st g h l n)) (hsc : ∀ g h r n, Fin' ((args m c).sc g h r n)) (g : Fin 2) (h : Fin 4) (i : Fin 17) (n : Fin 16384) :
    Fin' (runMax m c (ix4 g h i n)) := by
  unfold runMax
  simp only [mid, hostOps0, hostOps0_1, List.cons_append, List.nil_append]
  after_reads_simp
  all_goals try simp -implicitDefEqProofs only [StableHlo.TRef.toBuf, StableHlo.TRef.ofBuf, cast_cast, cast_eq]
  refine window_real _ _ _ _ _ _ _ _ ?_ (fun i => ?_) _ (ix4 0 0 16 0) ?_
  · pointwise [word_bot]
  · idx_vars i
    pointwise
    all_goals try after_reads_simp
    all_goals try simp -implicitDefEqProofs only [StableHlo.TRef.toBuf, StableHlo.TRef.ofBuf, cast_cast, cast_eq]
    split_ifs
    · pointwise
      refine fold_real (by decide) _ (fun r => ?_) _ word_bot
      rw [word_eighth]
      exact hsc i0 i1 r i3
    · clean_types
      refine tile_real _ (fun i => ?_) _
      idx_vars i
      pointwise [word_eighth]
      exact hst i0 i1 ⟨i2.val * 1024 + i3.val, by omega⟩ i4
    · next h => exact absurd rfl h
  · have := i.isLt
    intro a
    fin_cases a
    · exact ⟨Nat.zero_le _, show g.val * 1 + 0 - 0 < 2 by omega⟩
    · exact ⟨Nat.zero_le _, show h.val * 1 + 0 - 0 < 4 by omega⟩
    · exact ⟨show 16 ≤ i.val * 1 + 16 by omega, show i.val * 1 + 16 - 16 < 17 by omega⟩
    · exact ⟨Nat.zero_le _, show n.val * 1 + 0 - 0 < 16384 by omega⟩

end Cert.GlobRun
-- ==== Proof.Glob.Host.lean ====
module

public import proofs.«01_k».proof.Proof.Glob.Start

@[expose] public section

set_option maxRecDepth 16384

noncomputable section

namespace Cert.GlobRun

open Idealize.ShloMosaic Idealize.ShloMosaic.TcCoe Idealize.ShloMosaic.Tactic
open Cert.GlobIdeal Cert.GlobIdeal.Gen

variable (m : (ℓ : Loc nD τ sig) → Buf (Elt Ideal) ℓ) (c : Dev nD)

/-- The contents after the forward pass's host lines. -/
def mid2 : Valuation τ sig (Elt Ideal) := StableHlo.after hostOps0_2 (mid m c)

theorem V_eq2 (b : Ref sig .tc) : V m c b = StableHlo.after (List.flatten [hostOps0_3, hostOps0_4, hostOps0_5, hostOps0_6, hostOps0_7, hostOps0_8,
    hostOps0_9, hostOps0_10, hostOps0_11, hostOps0_12, hostOps0_13, hostOps0_14]) (mid2 m c) (Proc.devRef .tc b) := by
  rw [V_eq, List.flatten_cons, after_both]
  rfl

/-- A key's weight before the sum divides it. -/
def wt (A : Args) (R : S2x4x17x16384.Idx → EReal) (g : Fin 2) (h : Fin 4) (l n : Fin 16384) : EReal := Ideal.exp (A.st g h l n - R (ix4 g h 16 n))
/-- The weight of a key of the context before the sum divides it. -/
def wc (A : Args) (R : S2x4x17x16384.Idx → EReal) (g : Fin 2) (h : Fin 4) (r : Fin 256) (n : Fin 16384) : EReal := Ideal.exp (A.sc g h r n - R (ix4 g h 16 n))
/-- The sum of the weights. -/
def den (A : Args) (R : S2x4x17x16384.Idx → EReal) (g : Fin 2) (h : Fin 4) (n : Fin 16384) : EReal := ∑ l, wt A R g h l n + ∑ r, wc A R g h r n

/-- The scores as the host holds them. -/
abbrev msT (g : Fin 2) (h : Fin 4) (l n : Fin 16384) : EReal := mid m c main_v9 (ix4 g h l n)
abbrev msC (g : Fin 2) (h : Fin 4) (r : Fin 256) (n : Fin 16384) : EReal := mid m c main_v12 (ix4 g h r n)
theorem wt_eq (g : Fin 2) (h : Fin 4) (l n : Fin 16384) : Ideal.exp (msT m c g h l n - runMax m c (ix4 g h 16 n)) = wt (args m c) (runMax m c) g h l n :=
  congrArg Ideal.exp (congrArg (· - runMax m c (ix4 g h 16 n)) (mid_st m c g h l n))
theorem wc_eq (g : Fin 2) (h : Fin 4) (r : Fin 256) (n : Fin 16384) : Ideal.exp (msC m c g h r n - runMax m c (ix4 g h 16 n)) = wc (args m c) (runMax m c) g h r n :=
  congrArg Ideal.exp (congrArg (· - runMax m c (ix4 g h 16 n)) (mid_sc m c g h r n))
theorem den_eq (g : Fin 2) (h : Fin 4) (n : Fin 16384) : (∑ l : Fin 16384, Ideal.exp (msT m c g h l n - runMax m c (ix4 g h 16 n)) + ∑ r : Fin 256, Ideal.exp (msC m c g h r n - runMax m c (ix4 g h 16 n))) = den (args m c) (runMax m c) g h n :=
  congrArg₂ (· + ·) (Finset.sum_congr rfl fun l _ => wt_eq m c g h l n) (Finset.sum_congr rfl fun r _ => wc_eq m c g h r n)

attribute [local irreducible] mid

theorem v22 (g : Fin 2) (h : Fin 4) (l n : Fin 16384) : mid2 m c main_v22 (ix4 g h l n) = wt (args m c) (runMax m c) g h l n := by
  simp only [mid2, hostOps0_2]
  after_reads_simp
  all_goals try simp -implicitDefEqProofs only [StableHlo.TRef.toBuf, StableHlo.TRef.ofBuf, cast_cast, cast_eq]
  pointwise
  rw [mid_st]
  rfl
theorem v25 (g : Fin 2) (h : Fin 4) (r : Fin 256) (n : Fin 16384) : mid2 m c main_v25 (ix4 g h r n) = wc (args m c) (runMax m c) g h r n := by
  simp only [mid2, hostOps0_2]
  after_reads_simp
  all_goals try simp -implicitDefEqProofs only [StableHlo.TRef.toBuf, StableHlo.TRef.ofBuf, cast_cast, cast_eq]
  pointwise
  rw [mid_sc]
  rfl
theorem v30 (g : Fin 2) (h : Fin 4) (n : Fin 16384) : mid2 m c main_v30 (ix4 g h 0 n) = den (args m c) (runMax m c) g h n := by
  simp only [mid2, hostOps0_2]
  after_reads_simp
  all_goals try simp -implicitDefEqProofs only [StableHlo.TRef.toBuf, StableHlo.TRef.ofBuf, cast_cast, cast_eq]
  pointwise
  exact den_eq m c g h n
theorem v40 (g : Fin 2) (h : Fin 4) (b : Fin 64) (n : Fin 16384) : (mid2 m c main_v40 (ix4 g h b n)) = Ideal.div (∑ l, wt (args m c) (runMax m c) g h l n * (args m c).v (ix3 l g b) + ∑ r, wc (args m c) (runMax m c) g h r n * (args m c).vc (ix3 r g b)) (den (args m c) (runMax m c) g h n) := by
  simp only [mid2, hostOps0_2]
  after_reads_simp
  all_goals try simp -implicitDefEqProofs only [StableHlo.TRef.toBuf, StableHlo.TRef.ofBuf, cast_cast, cast_eq]
  pointwise
  exact congrArg₂ Ideal.div (congrArg₂ (· + ·) (Finset.sum_congr rfl fun l _ => congrArg₂ (· * ·) (wt_eq m c g h l n) (mid_v m c l g b))
    (Finset.sum_congr rfl fun r _ => congrArg₂ (· * ·) (wc_eq m c g h r n) (mid_vc m c r g b))) (den_eq m c g h n)
theorem v60 (g : Fin 2) (h : Fin 4) (n : Fin 16384) : (mid2 m c main_v60 (ix4 g h 0 n)) = runMax m c (ix4 g h 16 n) + Ideal.log (den (args m c) (runMax m c) g h n) := by
  simp only [mid2, hostOps0_2]
  after_reads_simp
  all_goals try simp -implicitDefEqProofs only [StableHlo.TRef.toBuf, StableHlo.TRef.ofBuf, cast_cast, cast_eq]
  pointwise
  exact congrArg (_ + Ideal.log ·) (den_eq m c g h n)
theorem v61 (h : Fin 8) (n : Fin 16384) : mid2 m c main_v61 (ix3 h 0 n) = runMax m c (ix4 ⟨h.val / 4, by omega⟩ ⟨h.val % 4, by omega⟩ 16 n) + Ideal.log (den (args m c) (runMax m c) ⟨h.val / 4, by omega⟩ ⟨h.val % 4, by omega⟩ n) := by
  have e : mid2 m c main_v61 = fun i => shapeCast S8x1x16384 (mid2 m c main_v60) shapeCasts_S2x4x1x16384_S8x1x16384 i := by
    simp only [mid2, hostOps0_2]
    after_reads_simp
    refine congrArg (fun w : S2x4x1x16384.Idx → EReal => fun i => shapeCast S8x1x16384 w shapeCasts_S2x4x1x16384_S8x1x16384 i) ?_
    with_reducible rfl
  rw [e]
  pointwise
  exact v60 m c _ _ n
theorem v58 (h : Fin 8) (b : Fin 64) (n : Fin 16384) : mid2 m c main_v58 (ix3 h b n) = mid2 m c main_v40 (ix4 ⟨h.val / 4, by omega⟩ ⟨h.val % 4, by omega⟩ b n) := by
  have e : mid2 m c main_v58 = fun i => shapeCast S8x64x16384 (mid2 m c main_v40) shapeCasts_S2x4x64x16384_S8x64x16384 i := by
    simp only [mid2, hostOps0_2]
    after_reads_simp
    refine congrArg (fun w : S2x4x64x16384.Idx → EReal => fun i => shapeCast S8x64x16384 w shapeCasts_S2x4x64x16384_S8x64x16384 i) ?_
    with_reducible rfl
  rw [e]
  pointwise
theorem v62 (h : Fin 8) (i : Fin 17) (n : Fin 16384) : mid2 m c main_v62 (ix3 h i n) = runMax m c (ix4 ⟨h.val / 4, by omega⟩ ⟨h.val % 4, by omega⟩ (if hi : i.val < 16 then ⟨1 + i.val, by omega⟩ else ⟨i.val - 16, by omega⟩) n) := by
  simp only [mid2, hostOps0_2]
  after_reads_simp
  all_goals try simp -implicitDefEqProofs only [StableHlo.TRef.toBuf, StableHlo.TRef.ofBuf, cast_cast, cast_eq]
  pointwise
  split_ifs
  all_goals after_reads_simp
  all_goals try simp -implicitDefEqProofs only [StableHlo.TRef.toBuf, StableHlo.TRef.ofBuf, cast_cast, cast_eq]
  all_goals pointwise
  all_goals rfl
theorem score_tile (g : Fin 2) (h : Fin 4) (l l' n : Fin 16384) (R : EReal) (e : l.val = l'.val) : Ideal.exp (msT m c g h l n - R) = Ideal.exp ((args m c).st g h l' n - R) := by
  rw [← Fin.ext e]
  exact congrArg (fun a : EReal => Ideal.exp (a - R)) (mid_st m c g h l n)

theorem v64 (h : Fin 8) (b : Fin 32) (l : Fin 17664) (j : Fin 512) : mid2 m c main_v64 (ix4 h b l j) =
    if hl : l.val < 16384 then Ideal.exp ((args m c).st ⟨h.val / 4, by omega⟩ ⟨h.val % 4, by omega⟩ ⟨l.val, hl⟩ ⟨b.val * 512 + j.val, by omega⟩ - runMax m c (ix4 ⟨h.val / 4, by omega⟩ ⟨h.val % 4, by omega⟩ ⟨1 + l.val / 1024, by omega⟩ ⟨b.val * 512 + j.val, by omega⟩))
    else if hr : l.val - 16384 < 256 then Ideal.exp ((args m c).sc ⟨h.val / 4, by omega⟩ ⟨h.val % 4, by omega⟩ ⟨l.val - 16384, hr⟩ ⟨b.val * 512 + j.val, by omega⟩ - runMax m c (ix4 ⟨h.val / 4, by omega⟩ ⟨h.val % 4, by omega⟩ 0 ⟨b.val * 512 + j.val, by omega⟩))
    else 0 := by
  simp only [mid2, hostOps0_2]
  after_reads_simp
  all_goals try simp -implicitDefEqProofs only [StableHlo.TRef.toBuf, StableHlo.TRef.ofBuf, cast_cast, cast_eq]
  pointwise
  split_ifs
  all_goals after_reads_simp
  all_goals try simp -implicitDefEqProofs only [StableHlo.TRef.toBuf, StableHlo.TRef.ofBuf, cast_cast, cast_eq]
  all_goals pointwise
  · exact score_tile m c _ _ ⟨l.val / 1024 * 1024 + l.val % 1024, by omega⟩ ⟨l.val, by omega⟩ _ _ (by show l.val / 1024 * 1024 + l.val % 1024 = l.val; omega)
  · exact score_tile m c _ _ ⟨l.val / 1024 * 1024 + l.val % 1024, by omega⟩ ⟨l.val, by omega⟩ _ _ (by show l.val / 1024 * 1024 + l.val % 1024 = l.val; omega)
  · exact congrArg (fun a : EReal => Ideal.exp (a - _)) (mid_sc m c _ _ _ _)
  · exact congrArg (fun a : EReal => Ideal.exp (a - _)) (mid_sc m c _ _ _ _)

attribute [local irreducible] mid2

/-! ## What the kernel is given -/

/-- A head's row of 64, on the half of 128 rows that its pair of keys and values takes; zero on the other half. -/
def padded (f : Fin 64 → EReal) (h : Fin 8) (a : Fin 128) : EReal := if h.val < 4 ↔ a.val < 64 then f ⟨a.val % 64, by omega⟩ else 0

theorem first_heads (h : Fin 8) : IntOp.cmpi CmpIPredicate.slt (BitVec.ofNat 32 h.val) 4#32 = if h.val < 4 then 1#1 else 0#1 := by
  revert h
  decide

theorem word_zero : (FloatOps.sitofp (F := Ideal) FTy.bf16 0#32 : EReal) = 0 := by
  show ((((0#32 : BitVec 32).toInt : ℤ) : ℝ) : EReal) = 0
  simp

theorem v73 (h : Fin 8) (a : Fin 128) (n : Fin 16384) : V m c main_v73 (ix3 h a n) = padded (fun x => mid m c main_v2 (ix3 n h x)) h a := by
  generalize hX : padded _ h a = X
  rw [V_eq]
  simp only [hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  refine Eq.trans ?_ hX
  clear hX
  have ha := a.isLt
  simp only [first_heads, word_zero, padded]
  have hm : a.val % 64 = if a.val < 64 then a.val else a.val - 64 := by split_ifs <;> omega
  have hd : (h.val * 64 + a.val) / 64 = h.val + a.val / 64 := by omega
  by_cases h4 : h.val < 4 <;> by_cases h64 : a.val < 64 <;> simp [h4, h64, Scalar.select, hm]
  · exact congrArg (fun x => mid m c main_v2 (ix3 n x ⟨a.val, h64⟩)) (Fin.ext (by show (h.val * 64 + a.val) / 64 = h.val; omega))
  · exact congrArg₂ (fun x y => mid m c main_v2 (ix3 n x y)) (Fin.ext (by show (h.val * 64 + (a.val - 64)) / 64 = h.val; omega)) (Fin.ext (by show (a.val - 64) % 64 = a.val - 64; omega))
theorem v82 (h : Fin 8) (a : Fin 128) (n : Fin 16384) : V m c main_v82 (ix3 h a n) = padded (fun x => mid m c main_arg0 (ix3 n h x)) h a := by
  generalize hX : padded _ h a = X
  rw [V_eq]
  simp only [hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  refine Eq.trans ?_ hX
  clear hX
  have ha := a.isLt
  simp only [first_heads, word_zero, padded]
  have hm : a.val % 64 = if a.val < 64 then a.val else a.val - 64 := by split_ifs <;> omega
  have hd : (h.val * 64 + a.val) / 64 = h.val + a.val / 64 := by omega
  by_cases h4 : h.val < 4 <;> by_cases h64 : a.val < 64 <;> simp [h4, h64, Scalar.select, hm]
  · exact congrArg (fun x => mid m c main_arg0 (ix3 n x ⟨a.val, h64⟩)) (Fin.ext (by show (h.val * 64 + a.val) / 64 = h.val; omega))
  · exact congrArg₂ (fun x y => mid m c main_arg0 (ix3 n x y)) (Fin.ext (by show (h.val * 64 + (a.val - 64)) / 64 = h.val; omega)) (Fin.ext (by show (a.val - 64) % 64 = a.val - 64; omega))
theorem v92 (h : Fin 8) (a : Fin 128) (n : Fin 16384) : V m c main_v92 (ix3 h a n) = padded (fun x => mid2 m c main_v58 (ix3 h x n)) h a := by
  generalize hX : padded _ h a = X
  rw [V_eq2]
  simp only [hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  refine Eq.trans ?_ hX
  clear hX
  have ha := a.isLt
  simp only [first_heads, word_zero, padded]
  have hm : a.val % 64 = if a.val < 64 then a.val else a.val - 64 := by split_ifs <;> omega
  have hd : (h.val * 64 + a.val) / 64 = h.val + a.val / 64 := by omega
  by_cases h4 : h.val < 4 <;> by_cases h64 : a.val < 64 <;> simp [h4, h64, Scalar.select, hm]
theorem v93 (a : Fin 128) (l : Fin 16384) : V m c main_v93 (ix2 a l) = mid m c main_v3 (ix3 l ⟨a.val / 64, by omega⟩ ⟨a.val % 64, by omega⟩) := by
  rw [V_eq]
  simp only [hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  all_goals trace_state
theorem v84 (a : Fin 128) (l : Fin 16384) : V m c main_v84 (ix2 l a) = mid m c main_v4 (ix3 l ⟨a.val / 64, by omega⟩ ⟨a.val % 64, by omega⟩) := by
  rw [V_eq]
  simp only [hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  all_goals trace_state
theorem v94 (a : Fin 128) (r : Fin 256) : V m c main_v94 (ix2 a r) = mid m c main_v5 (ix3 r ⟨a.val / 64, by omega⟩ ⟨a.val % 64, by omega⟩) := by
  rw [V_eq]
  simp only [hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  all_goals trace_state
theorem v86 (a : Fin 128) (r : Fin 256) : V m c main_v86 (ix2 r a) = mid m c main_v6 (ix3 r ⟨a.val / 64, by omega⟩ ⟨a.val % 64, by omega⟩) := by
  rw [V_eq]
  simp only [hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_at
  all_goals trace_state
theorem V_v61 : V m c main_v61 = mid2 m c main_v61 := by
  rw [V_eq2]
  simp only [hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
theorem V_v62 : V m c main_v62 = mid2 m c main_v62 := by
  rw [V_eq2]
  simp only [hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp
theorem V_v64 : V m c main_v64 = mid2 m c main_v64 := by
  rw [V_eq2]
  simp only [hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
  after_reads_simp

end Cert.GlobRun
-- ==== Proof.Glob.Softmax.lean ====
/-
  The softmax over the keys and its gradient, in real numbers: the ways in which the saved numbers give a
  probability, and the cotangent of a score.
-/
module

public import Idealize.ShloMosaic.PureOps
public import Idealize.ShloMosaic.Lib.Pipeline.ValueKit
public import Mathlib.Analysis.SpecialFunctions.Log.Basic

@[expose] public section

noncomputable section

namespace Cert.GlobRun

open Idealize.ShloMosaic

/-- Sums of reals as extended reals. -/
theorem coe_sums {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

variable {N : ℕ}

/-- A key's probability. -/
def prob (s : Fin N → ℝ) (l : Fin N) : ℝ := Real.exp (s l) / ∑ j, Real.exp (s j)
/-- The cotangent of a key's score. -/
def cot (s dp : Fin N → ℝ) (l : Fin N) : ℝ := prob s l * (dp l - ∑ j, prob s j * dp j)
/-- The sum of the weights, scores counted from `R`. -/
def mass (s : Fin N → ℝ) (R : ℝ) : ℝ := ∑ j, Real.exp (s j - R)

theorem mass_eq (s : Fin N → ℝ) (R : ℝ) : mass s R = (∑ j, Real.exp (s j)) / Real.exp R := by
  simp only [mass, Real.exp_sub, Finset.sum_div]

theorem total_pos (hN : 0 < N) (s : Fin N → ℝ) : 0 < ∑ j, Real.exp (s j) :=
  Finset.sum_pos (fun j _ => Real.exp_pos _) ⟨⟨0, hN⟩, Finset.mem_univ _⟩

theorem mass_pos (hN : 0 < N) (s : Fin N → ℝ) (R : ℝ) : 0 < mass s R :=
  Finset.sum_pos (fun j _ => Real.exp_pos _) ⟨⟨0, hN⟩, Finset.mem_univ _⟩

/-- The weights' quotient does not depend on where the scores are counted from. -/
theorem prob_shift (hN : 0 < N) (s : Fin N → ℝ) (R : ℝ) (l : Fin N) : Real.exp (s l - R) / mass s R = prob s l := by
  have h1 := (total_pos hN s).ne'
  have h2 := (Real.exp_pos R).ne'
  rw [mass_eq, prob, Real.exp_sub]
  field_simp

/-- The saved word, counted from a running maximum `Q`, corrected by the row's log-sum. -/
theorem prob_saved (hN : 0 < N) (s : Fin N → ℝ) (R Q : ℝ) (l : Fin N) :
    Real.exp (s l - Q) * Real.exp (Q - (R + Real.log (mass s R))) = prob s l := by
  rw [← prob_shift hN s R l, ← Real.exp_add, show s l - Q + (Q - (R + Real.log (mass s R))) = (s l - R) - Real.log (mass s R) by ring,
    Real.exp_sub, Real.exp_log (mass_pos hN s R)]

/-- The gradient as the quotient rule writes it. -/
theorem cot_quotient (hN : 0 < N) (s dp : Fin N → ℝ) (R : ℝ) (l : Fin N) :
    (dp l / mass s R + -∑ j, dp j * (1 / (mass s R * mass s R)) * Real.exp (s j - R)) * Real.exp (s l - R) = cot s dp l := by
  have h1 := (mass_pos hN s R).ne'
  have e : ∀ j, Real.exp (s j - R) = prob s j * mass s R := fun j => by rw [← prob_shift hN s R j]; field_simp
  have e2 : (∑ j, dp j * (1 / (mass s R * mass s R)) * Real.exp (s j - R)) = (∑ j, prob s j * dp j) / mass s R := by
    rw [Finset.sum_div]
    refine Finset.sum_congr rfl fun j _ => ?_
    rw [e]
    field_simp
  rw [e2, e, cot]
  field_simp
  ring

end Cert.GlobRun
-- ==== Proof.Glob.Closed.lean ====
/-
  The attention gradient's kernel at finite arguments: its five results are the gradient of the softmax attention, in
  real numbers.
-/
module

public import proofs.«01_k».proof.Proof.Glob.Host
public import proofs.«01_k».proof.Proof.Glob.Softmax

@[expose] public section

set_option maxRecDepth 16384

noncomputable section

namespace Cert.GlobRun

open Cert.GlobIdeal Cert.GlobIdeal.Gen
open Idealize.ShloMosaic Idealize.ShloMosaic.TcCoe Idealize.ShloMosaic.Tactic

/-- The arguments as real numbers. -/
structure Nums where
  d : S16384x8x64.Idx → ℝ
  q : S16384x8x64.Idx → ℝ
  k : S16384x2x64.Idx → ℝ
  v : S16384x2x64.Idx → ℝ
  kc : S256x2x64.Idx → ℝ
  vc : S256x2x64.Idx → ℝ

/-- The keys followed by the context's. -/
def cat (x : S16384x2x64.Idx → ℝ) (y : S256x2x64.Idx → ℝ) (l : Fin 16640) (g : Fin 2) (e : Fin 64) : ℝ :=
  if h : l.val < 16384 then x (ix3 ⟨l.val, h⟩ g e) else y (ix3 ⟨l.val - 16384, by omega⟩ g e)

/-- A head's pair of keys and values. -/
abbrev gq (h : Fin 8) : Fin 2 := ⟨h.val / 4, by omega⟩
/-- A head's place among those of its pair. -/
abbrev hq (h : Fin 8) : Fin 4 := ⟨h.val % 4, by omega⟩
/-- A key's place among all. -/
abbrev inT (l : Fin 16384) : Fin 16640 := ⟨l.val, by omega⟩
/-- The place of a key of the context. -/
abbrev inC (r : Fin 256) : Fin 16640 := ⟨16384 + r.val, by omega⟩

namespace Nums
variable (B : Nums)

/-- The numbers as extended ones. -/
def args : Args := ⟨fun i => B.d i, fun i => B.q i, fun i => B.k i, fun i => B.v i, fun i => B.kc i, fun i => B.vc i⟩

/-- The score of query `n` of head `h` and key `l`. -/
def score (h : Fin 8) (n : Fin 16384) (l : Fin 16640) : ℝ := (∑ x : Fin 64, B.q (ix3 n h x) * cat B.k B.kc l (gq h) x) * (1 / 8)
/-- The cotangent of a probability. -/
def dp (h : Fin 8) (n : Fin 16384) (l : Fin 16640) : ℝ := ∑ x : Fin 64, cat B.v B.vc l (gq h) x * B.d (ix3 n h x)
/-- The cotangent of a score. -/
def ds (h : Fin 8) (n : Fin 16384) (l : Fin 16640) : ℝ := cot (B.score h n) (B.dp h n) l
/-- The gradient of the queries, … -/
def dq (h : Fin 8) (x : Fin 64) (n : Fin 16384) : ℝ := (∑ l, B.ds h n l * cat B.k B.kc l (gq h) x) * (1 / 8)
/-- … of the keys, … -/
def dk (a : Fin 128) (l : Fin 16640) : ℝ := ∑ h : Fin 4, ∑ n : Fin 16384,
  B.q (ix3 n ⟨a.val / 64 * 4 + h.val, by omega⟩ ⟨a.val % 64, by omega⟩) * (1 / 8) * B.ds ⟨a.val / 64 * 4 + h.val, by omega⟩ n l
/-- … and of the values. -/
def dv (a : Fin 128) (l : Fin 16640) : ℝ := ∑ h : Fin 4, ∑ n : Fin 16384,
  B.d (ix3 n ⟨a.val / 64 * 4 + h.val, by omega⟩ ⟨a.val % 64, by omega⟩) * prob (B.score ⟨a.val / 64 * 4 + h.val, by omega⟩ n) l
end Nums

/-! ## Sums -/

theorem sum_all_keys {M : Type} [AddCommMonoid M] (f : Fin 16640 → M) : ∑ j, f j = ∑ l : Fin 16384, f (inT l) + ∑ r : Fin 256, f (inC r) :=
  Fin.sum_univ_add (a := 16384) (b := 256) f

/-- Of 128 rows those of a head's pair. -/
theorem sum_rows (h : Fin 8) (F : Fin 128 → EReal) (hz : ∀ a : Fin 128, ¬ (h.val < 4 ↔ a.val < 64) → F a = 0) :
    ∑ a, F a = ∑ x : Fin 64, F ⟨(gq h).val * 64 + x.val, by have := (gq h).isLt; omega⟩ := by
  have e : (∑ g : Fin 2, ∑ x : Fin 64, F ⟨g.val * 64 + x.val, by omega⟩) = ∑ a, F a :=
    Fin.sum_mul_add_congr (S := 2) (n := 64) (f := F) fun s k hl => rfl
  rw [← e]
  refine Finset.sum_eq_single (gq h) (fun g _ hg => Finset.sum_eq_zero fun x _ => hz _ ?_) (fun h => absurd (Finset.mem_univ _) h)
  intro hh
  refine hg (Fin.ext ?_)
  show g.val = h.val / 4
  have hh' : h.val < 4 ↔ g.val * 64 + x.val < 64 := hh
  omega

/-- Of eight heads the four of a row's pair. -/
theorem sum_heads (a : Fin 128) (F : Fin 8 → EReal) (hz : ∀ h : Fin 8, ¬ (h.val < 4 ↔ a.val < 64) → F h = 0) :
    ∑ h, F h = ∑ h : Fin 4, F ⟨a.val / 64 * 4 + h.val, by omega⟩ := by
  have e : (∑ g : Fin 2, ∑ x : Fin 4, F ⟨g.val * 4 + x.val, by omega⟩) = ∑ a, F a :=
    Fin.sum_mul_add_congr (S := 2) (n := 4) (f := F) fun s k hl => rfl
  rw [← e]
  refine Finset.sum_eq_single (⟨a.val / 64, by omega⟩ : Fin 2) (fun g _ hg => Finset.sum_eq_zero fun x _ => hz _ ?_) (fun h => absurd (Finset.mem_univ _) h)
  intro hh
  refine hg (Fin.ext ?_)
  show g.val = a.val / 64
  have hh' : g.val * 4 + x.val < 4 ↔ a.val < 64 := hh
  omega

theorem padded_in (f : Fin 64 → EReal) (h : Fin 8) (a : Fin 128) (e : h.val < 4 ↔ a.val < 64) : padded f h a = f ⟨a.val % 64, by omega⟩ := if_pos e
theorem padded_out (f : Fin 64 → EReal) (h : Fin 8) (a : Fin 128) (e : ¬ (h.val < 4 ↔ a.val < 64)) : padded f h a = 0 := if_neg e

/-- The pair's row of a head. -/
theorem pair_row (h : Fin 8) (x : Fin 64) : h.val < 4 ↔ (⟨(gq h).val * 64 + x.val, by have := (gq h).isLt; omega⟩ : Fin 128).val < 64 := by
  show h.val < 4 ↔ h.val / 4 * 64 + x.val < 64
  omega

theorem padded_row (f : Fin 64 → EReal) (h : Fin 8) (x : Fin 64) : padded f h ⟨(gq h).val * 64 + x.val, by have := (gq h).isLt; omega⟩ = f x := by
  rw [padded_in _ _ _ (pair_row h x)]
  refine congrArg f (Fin.ext ?_)
  show (h.val / 4 * 64 + x.val) % 64 = x.val
  omega

/-! ## The scores -/

section
variable (B : Nums) (h : Fin 8) (n : Fin 16384)

theorem cat_T (x : S16384x2x64.Idx → ℝ) (y : S256x2x64.Idx → ℝ) (l : Fin 16384) (g : Fin 2) (e : Fin 64) : cat x y (inT l) g e = x (ix3 l g e) := dif_pos l.isLt
theorem cat_C (x : S16384x2x64.Idx → ℝ) (y : S256x2x64.Idx → ℝ) (r : Fin 256) (g : Fin 2) (e : Fin 64) : cat x y (inC r) g e = y (ix3 r g e) := by
  rw [cat, dif_neg (show ¬ 16384 + r.val < 16384 by omega)]
  exact congrArg (fun r => y (ix3 r g e)) (Fin.ext (show 16384 + r.val - 16384 = r.val by omega))

theorem head_eq : (⟨(gq h).val * 4 + (hq h).val, by omega⟩ : Fin 8) = h := Fin.ext (by show h.val / 4 * 4 + h.val % 4 = h.val; omega)

theorem st_eq (A : Args) (l : Fin 16384) : A.st (gq h) (hq h) l n = ∑ x : Fin 64, A.q (ix3 n h x) * eighth * A.k (ix3 l (gq h) x) :=
  Finset.sum_congr rfl fun x _ => congrArg (fun H => A.q (ix3 n H x) * eighth * A.k (ix3 l (gq h) x)) (head_eq h)
theorem sc_eq (A : Args) (r : Fin 256) : A.sc (gq h) (hq h) r n = ∑ x : Fin 64, A.q (ix3 n h x) * eighth * A.kc (ix3 r (gq h) x) :=
  Finset.sum_congr rfl fun x _ => congrArg (fun H => A.q (ix3 n H x) * eighth * A.kc (ix3 r (gq h) x)) (head_eq h)

theorem st_num (l : Fin 16384) : B.args.st (gq h) (hq h) l n = (B.score h n (inT l) : ℝ) := by
  rw [st_eq]
  simp only [Nums.args, eighth, Nums.score, cat_T, ← EReal.coe_mul, ← coe_sums]
  rw [Finset.sum_mul]
  exact congrArg _ (Finset.sum_congr rfl fun x _ => by ring)

theorem sc_num (r : Fin 256) : B.args.sc (gq h) (hq h) r n = (B.score h n (inC r) : ℝ) := by
  rw [sc_eq]
  simp only [Nums.args, eighth, Nums.score, cat_C, ← EReal.coe_mul, ← coe_sums]
  rw [Finset.sum_mul]
  exact congrArg _ (Finset.sum_congr rfl fun x _ => by ring)

variable (R : S2x4x17x16384.Idx → EReal) (Q : Fin 8 → Fin 17 → Fin 16384 → ℝ) (hQ : ∀ h i n, R (ix4 (gq h) (hq h) i n) = (Q h i n : ℝ))
include hQ

theorem wt_num (l : Fin 16384) : wt B.args R (gq h) (hq h) l n = (Real.exp (B.score h n (inT l) - Q h 16 n) : ℝ) := by
  rw [wt, st_num, hQ, ← EReal.coe_sub, Ideal.exp_coe]
theorem wc_num (r : Fin 256) : wc B.args R (gq h) (hq h) r n = (Real.exp (B.score h n (inC r) - Q h 16 n) : ℝ) := by
  rw [wc, sc_num, hQ, ← EReal.coe_sub, Ideal.exp_coe]
theorem den_num : den B.args R (gq h) (hq h) n = (mass (B.score h n) (Q h 16 n) : ℝ) := by
  simp only [den, wt_num B h n R Q hQ, wc_num B h n R Q hQ, ← coe_sums, ← EReal.coe_add]
  exact congrArg _ (sum_all_keys fun j => Real.exp (B.score h n j - Q h 16 n)).symm
end

/-! ## What the kernel is given, as numbers -/

theorem query_eq (n : Fin 16384) : (⟨n.val / 512 * 512 + n.val % 512, by omega⟩ : Fin 16384) = n := Fin.ext (Nat.div_add_mod' _ _)

section
variable (m : (ℓ : Loc nD τ sig) → Buf (Elt Ideal) ℓ) (c : Dev nD) (B : Nums) (hB : args m c = B.args)
  (Q : Fin 8 → Fin 17 → Fin 16384 → ℝ) (hQ : ∀ h i n, runMax m c (ix4 (gq h) (hq h) i n) = (Q h i n : ℝ)) (h : Fin 8) (n : Fin 16384)
include hB hQ

theorem lse_num : (given m c).lse (ix3 h 0 n) = (Q h 16 n + Real.log (mass (B.score h n) (Q h 16 n)) : ℝ) := by
  refine (congrFun (V_v61 m c) _).trans ((v61 m c h n).trans ?_)
  rw [hB, den_num B h n _ Q hQ, hQ, Ideal.log_coe, if_neg (not_le.2 (mass_pos (by decide) _ _)), ← EReal.coe_add]

theorem runT_num (i : Fin 16) : (given m c).mrun (ix3 h ⟨i.val, by omega⟩ n) = (Q h ⟨1 + i.val, by omega⟩ n : ℝ) := by
  refine (congrFun (V_v62 m c) _).trans ((v62 m c h _ n).trans ?_)
  rw [dif_pos i.isLt]
  exact hQ h _ n
theorem runC_num : (given m c).mrun (ix3 h 16 n) = (Q h 0 n : ℝ) := by
  refine (congrFun (V_v62 m c) _).trans ((v62 m c h _ n).trans ?_)
  exact (congrArg (fun i => runMax m c (ix4 (gq h) (hq h) i n)) (dif_neg (show ¬ ((16 : Fin 17).val < 16) by decide))).trans (hQ h _ n)

theorem wordT_num (l : Fin 16384) : (given m c).word h n ⟨l.val, by omega⟩ = (Real.exp (B.score h n (inT l) - Q h ⟨1 + l.val / 1024, by omega⟩ n) : ℝ) := by
  refine (congrFun (V_v64 m c) _).trans ((v64 m c h _ _ _).trans ?_)
  rw [dif_pos l.isLt]
  refine (congrArg (fun j => Ideal.exp ((args m c).st (gq h) (hq h) l j - runMax m c (ix4 (gq h) (hq h) ⟨1 + l.val / 1024, by omega⟩ j))) (query_eq n)).trans ?_
  rw [hB]
  exact (congrArg₂ (fun a b : EReal => Ideal.exp (a - b)) (st_num B h n l) (hQ h _ n)).trans (by rw [← EReal.coe_sub, Ideal.exp_coe])
theorem wordC_num (r : Fin 256) : (given m c).word h n ⟨16384 + r.val, by omega⟩ = (Real.exp (B.score h n (inC r) - Q h 0 n) : ℝ) := by
  refine (congrFun (V_v64 m c) _).trans ((v64 m c h _ _ _).trans ?_)
  rw [dif_neg (show ¬ 16384 + r.val < 16384 by omega), dif_pos (show 16384 + r.val - 16384 < 256 by omega)]
  refine (congrArg₂ (fun j r => Ideal.exp ((args m c).sc (gq h) (hq h) r j - runMax m c (ix4 (gq h) (hq h) 0 j))) (query_eq n)
    (show (⟨16384 + r.val - 16384, by omega⟩ : Fin 256) = r from Fin.ext (by show 16384 + r.val - 16384 = r.val; omega))).trans ?_
  rw [hB]
  exact (congrArg₂ (fun a b : EReal => Ideal.exp (a - b)) (sc_num B h n r) (hQ h _ n)).trans (by rw [← EReal.coe_sub, Ideal.exp_coe])

/-- The kernel's probabilities are the softmax's. -/
theorem prT_num (l : Fin 16384) : (given m c).prT h n l = (prob (B.score h n) (inT l) : ℝ) := by
  rw [Given.prT, wordT_num m c B hB Q hQ, lse_num m c B hB Q hQ]
  refine (congrArg (fun x : EReal => _ * Ideal.exp (x - _)) (runT_num m c B hB Q hQ h n ⟨l.val / 1024, by omega⟩)).trans ?_
  rw [← EReal.coe_sub, Ideal.exp_coe, ← EReal.coe_mul]
  exact congrArg _ (prob_saved (by decide) (B.score h n) _ _ _)
theorem prC_num (r : Fin 256) : (given m c).prC h n r = (prob (B.score h n) (inC r) : ℝ) := by
  rw [Given.prC, wordC_num m c B hB Q hQ, lse_num m c B hB Q hQ, runC_num m c B hB Q hQ]
  rw [← EReal.coe_sub, Ideal.exp_coe, ← EReal.coe_mul]
  exact congrArg _ (prob_saved (by decide) (B.score h n) _ _ _)
end

end Cert.GlobRun
-- ==== Proof.Glob.Nums.lean ====
/-
  The five results of the attention gradient's kernel at finite arguments, in real numbers.
-/
module

public import proofs.«01_k».proof.Proof.Glob.Closed

@[expose] public section

set_option maxRecDepth 16384

noncomputable section

namespace Cert.GlobRun

open Cert.GlobIdeal Cert.GlobIdeal.Gen
open Idealize.ShloMosaic Idealize.ShloMosaic.TcCoe Idealize.ShloMosaic.Tactic

attribute [local irreducible] mid mid2

/-- A row of a head's pair, apart. -/
theorem row_apart {α : Type} (F : Fin 2 → Fin 64 → α) (h : Fin 8) (x : Fin 64) :
    F ⟨((gq h).val * 64 + x.val) / 64, by have := (gq h).isLt; omega⟩ ⟨((gq h).val * 64 + x.val) % 64, by omega⟩ = F (gq h) x := by
  have := (gq h).isLt
  exact congrArg₂ F (Fin.ext (show ((gq h).val * 64 + x.val) / 64 = (gq h).val by omega)) (Fin.ext (show ((gq h).val * 64 + x.val) % 64 = x.val by omega))

/-- The heads of a row's pair. -/
theorem head_row (a : Fin 128) (h : Fin 4) : (⟨a.val / 64 * 4 + h.val, by omega⟩ : Fin 8).val < 4 ↔ a.val < 64 := by
  show a.val / 64 * 4 + h.val < 4 ↔ a.val < 64
  omega
theorem head_pair (a : Fin 128) (h : Fin 4) : gq (⟨a.val / 64 * 4 + h.val, by omega⟩ : Fin 8) = ⟨a.val / 64, by omega⟩ :=
  Fin.ext (show (a.val / 64 * 4 + h.val) / 4 = a.val / 64 by omega)

/-- A product over all heads and queries is one over the heads of a row's pair, where the one factor is packed. -/
theorem packed_sum (f : Fin 8 → Fin 128 → Fin 16384 → EReal) (g : Fin 8 → Fin 64 → Fin 16384 → ℝ) (hf : ∀ h a n, f h a n = padded (fun x => (g h x n : EReal)) h a)
    (s : Fin 8 → Fin 16384 → EReal) (t : Fin 8 → Fin 16384 → ℝ) (hs : ∀ h n, s h n = (t h n : ℝ)) (a : Fin 128) :
    ∑ h, ∑ n, f h a n * s h n = (∑ h : Fin 4, ∑ n, g ⟨a.val / 64 * 4 + h.val, by omega⟩ ⟨a.val % 64, by omega⟩ n * t ⟨a.val / 64 * 4 + h.val, by omega⟩ n : ℝ) := by
  refine (sum_heads a _ fun h ha => Finset.sum_eq_zero fun n _ => ?_).trans ?_
  · rw [hf, padded_out _ _ _ ha, zero_mul]
  · simp only [hf, hs, padded_in _ _ a (head_row a _), ← EReal.coe_mul, ← coe_sums]

section
variable (m : (ℓ : Loc nD τ sig) → Buf (Elt Ideal) ℓ) (c : Dev nD) (B : Nums) (hB : args m c = B.args)
include hB

theorem given_q (h : Fin 8) (a : Fin 128) (n : Fin 16384) : (given m c).q (ix3 h a n) = padded (fun x => ((B.q (ix3 n h x) * (1 / 8) : ℝ) : EReal)) h a := by
  refine (v73 m c h a n).trans (congrArg (fun f => padded f h a) (funext fun x => ?_))
  rw [mid_q, hB, EReal.coe_mul]
  rfl
theorem given_d (h : Fin 8) (a : Fin 128) (n : Fin 16384) : (given m c).d (ix3 h a n) = padded (fun x => (B.d (ix3 n h x) : EReal)) h a := by
  refine (v82 m c h a n).trans (congrArg (fun f => padded f h a) (funext fun x => ?_))
  rw [mid_d, hB]
  rfl
theorem given_kt (a : Fin 128) (l : Fin 16384) : (given m c).kt (ix2 a l) = (cat B.k B.kc (inT l) ⟨a.val / 64, by omega⟩ ⟨a.val % 64, by omega⟩ : ℝ) := by
  refine (v93 m c a l).trans ?_
  rw [mid_k, hB, cat_T]
  rfl
theorem given_v (a : Fin 128) (l : Fin 16384) : (given m c).v (ix2 l a) = (cat B.v B.vc (inT l) ⟨a.val / 64, by omega⟩ ⟨a.val % 64, by omega⟩ : ℝ) := by
  refine (v84 m c a l).trans ?_
  rw [mid_v, hB, cat_T]
  rfl
theorem given_kct (a : Fin 128) (l : Fin 256) : (given m c).kct (ix2 a l) = (cat B.k B.kc (inC l) ⟨a.val / 64, by omega⟩ ⟨a.val % 64, by omega⟩ : ℝ) := by
  refine (v94 m c a l).trans ?_
  rw [mid_kc, hB, cat_C]
  rfl
theorem given_vc (a : Fin 128) (l : Fin 256) : (given m c).vc (ix2 l a) = (cat B.v B.vc (inC l) ⟨a.val / 64, by omega⟩ ⟨a.val % 64, by omega⟩ : ℝ) := by
  refine (v86 m c a l).trans ?_
  rw [mid_vc, hB, cat_C]
  rfl

theorem dpT_num (h : Fin 8) (n : Fin 16384) (l : Fin 16384) : (given m c).dpT h n l = (B.dp h n (inT l) : ℝ) := by
  refine (sum_rows h _ fun a ha => ?_).trans ?_
  · rw [given_d m c B hB, padded_out _ _ _ ha, mul_zero]
  · rw [Nums.dp, coe_sums]
    refine Finset.sum_congr rfl fun x _ => ?_
    rw [given_d m c B hB, padded_row, given_v m c B hB, EReal.coe_mul]
    exact congrArg (fun y : ℝ => (y : EReal) * _) (row_apart (fun g e => cat B.v B.vc (inT l) g e) h x)
theorem dpC_num (h : Fin 8) (n : Fin 16384) (r : Fin 256) : (given m c).dpC h n r = (B.dp h n (inC r) : ℝ) := by
  refine (sum_rows h _ fun a ha => ?_).trans ?_
  · rw [given_d m c B hB, padded_out _ _ _ ha, mul_zero]
  · rw [Nums.dp, coe_sums]
    refine Finset.sum_congr rfl fun x _ => ?_
    rw [given_d m c B hB, padded_row, given_vc m c B hB, EReal.coe_mul]
    exact congrArg (fun y : ℝ => (y : EReal) * _) (row_apart (fun g e => cat B.v B.vc (inC r) g e) h x)

variable (Q : Fin 8 → Fin 17 → Fin 16384 → ℝ) (hQ : ∀ h i n, runMax m c (ix4 (gq h) (hq h) i n) = (Q h i n : ℝ))
include hQ

/-- The attention's output. -/
theorem out_num (h : Fin 8) (x : Fin 64) (n : Fin 16384) : mid2 m c main_v58 (ix3 h x n) = ((∑ l, prob (B.score h n) l * cat B.v B.vc l (gq h) x : ℝ) : EReal) := by
  have hm : mass (B.score h n) (Q h 16 n) ≠ 0 := (mass_pos (by decide) _ _).ne'
  have e : Ideal.div (∑ l, wt B.args (runMax m c) (gq h) (hq h) l n * B.args.v (ix3 l (gq h) x) + ∑ r, wc B.args (runMax m c) (gq h) (hq h) r n * B.args.vc (ix3 r (gq h) x)) (den B.args (runMax m c) (gq h) (hq h) n)
      = ((∑ l, prob (B.score h n) l * cat B.v B.vc l (gq h) x : ℝ) : EReal) := by
    rw [den_num B h n _ Q hQ, Ideal.div_coe hm]
    have hv : ∀ l, B.args.v (ix3 l (gq h) x) = (cat B.v B.vc (inT l) (gq h) x : ℝ) := fun l => (congrArg Real.toEReal (cat_T B.v B.vc l (gq h) x)).symm
    have hc : ∀ r, B.args.vc (ix3 r (gq h) x) = (cat B.v B.vc (inC r) (gq h) x : ℝ) := fun r => (congrArg Real.toEReal (cat_C B.v B.vc r (gq h) x)).symm
    simp only [wt_num B h n _ Q hQ, wc_num B h n _ Q hQ, hv, hc, ← EReal.coe_mul, ← coe_sums, ← EReal.coe_add]
    refine congrArg Real.toEReal ?_
    rw [← sum_all_keys fun j => Real.exp (B.score h n j - Q h 16 n) * cat B.v B.vc j (gq h) x, Finset.sum_mul]
    refine Finset.sum_congr rfl fun l _ => ?_
    rw [← prob_shift (by decide) (B.score h n) (Q h 16 n) l]
    ring
  have e' := (v58 m c h x n).trans (v40 m c (gq h) (hq h) x n)
  rw [hB] at e'
  exact e'.trans e

theorem given_o (h : Fin 8) (a : Fin 128) (n : Fin 16384) : (given m c).o (ix3 h a n) = padded (fun x => ((∑ l, prob (B.score h n) l * cat B.v B.vc l (gq h) x : ℝ) : EReal)) h a :=
  (v92 m c h a n).trans (congrArg (fun f => padded f h a) (funext fun x => out_num m c B hB Q hQ h x n))

theorem dlt_num (h : Fin 8) (n : Fin 16384) : (given m c).dlt h n = (∑ l, prob (B.score h n) l * B.dp h n l : ℝ) := by
  refine (sum_rows h _ fun a ha => ?_).trans ?_
  · rw [given_d m c B hB, padded_out _ _ _ ha, zero_mul]
  · refine (Finset.sum_congr rfl fun x _ => congrArg₂ (fun x y : EReal => x * y) ((given_d m c B hB h _ n).trans (padded_row _ h x)) ((given_o m c B hB Q hQ h _ n).trans (padded_row _ h x))).trans ?_
    simp only [← EReal.coe_mul, ← coe_sums, Nums.dp, Finset.mul_sum]
    rw [Finset.sum_comm]
    exact congrArg _ (Finset.sum_congr rfl fun l _ => Finset.sum_congr rfl fun x _ => by ring)

theorem dsT_num (h : Fin 8) (n : Fin 16384) (l : Fin 16384) : (given m c).dsT h n l = (B.ds h n (inT l) : ℝ) := by
  rw [Given.dsT, prT_num m c B hB Q hQ, dpT_num m c B hB, dlt_num m c B hB Q hQ, ← EReal.coe_sub, ← EReal.coe_mul]
  rfl
theorem dsC_num (h : Fin 8) (n : Fin 16384) (r : Fin 256) : (given m c).dsC h n r = (B.ds h n (inC r) : ℝ) := by
  rw [Given.dsC, prC_num m c B hB Q hQ, dpC_num m c B hB, dlt_num m c B hB Q hQ, ← EReal.coe_sub, ← EReal.coe_mul]
  rfl

/-- The gradient of the queries, before the last scaling. -/
theorem dqt_num (h : Fin 8) (x : Fin 64) (n : Fin 16384) (a : Fin 128) (ha : a = ⟨(gq h).val * 64 + x.val, by have := (gq h).isLt; omega⟩) :
    (given m c).dqt (ix3 h a n) * eighth = (B.dq h x n : ℝ) := by
  have e : (∑ r : Fin 256, (given m c).kct (ix2 a r) * (given m c).dsC h n r + ∑ l : Fin 16384, (given m c).kt (ix2 a l) * (given m c).dsT h n l) = ((∑ l, B.ds h n l * cat B.k B.kc l (gq h) x : ℝ) : EReal) := by
    subst ha
    simp only [dsT_num m c B hB Q hQ, dsC_num m c B hB Q hQ, given_kt m c B hB, given_kct m c B hB, ← EReal.coe_mul, ← coe_sums, ← EReal.coe_add]
    refine congrArg _ ?_
    rw [sum_all_keys, add_comm]
    refine congrArg₂ (· + ·) (Finset.sum_congr rfl fun l _ => ?_) (Finset.sum_congr rfl fun l _ => ?_)
    · rw [mul_comm]
      exact congrArg _ (row_apart (fun g e => cat B.k B.kc (inT l) g e) h x)
    · rw [mul_comm]
      exact congrArg _ (row_apart (fun g e => cat B.k B.kc (inC l) g e) h x)
  exact (congrArg (fun x : EReal => x * eighth) e).trans (EReal.coe_mul _ _).symm

theorem dkt_num (a : Fin 128) (l : Fin 16384) : (given m c).dkt (ix2 a l) = (B.dk a (inT l) : ℝ) :=
  packed_sum (fun h a n => (given m c).q (ix3 h a n)) _ (given_q m c B hB) (fun h n => (given m c).dsT h n l) _ (fun h n => dsT_num m c B hB Q hQ h n l) a
theorem dkct_num (a : Fin 128) (r : Fin 256) : (given m c).dkct (ix2 a r) = (B.dk a (inC r) : ℝ) :=
  packed_sum (fun h a n => (given m c).q (ix3 h a n)) _ (given_q m c B hB) (fun h n => (given m c).dsC h n r) _ (fun h n => dsC_num m c B hB Q hQ h n r) a
theorem dvt_num (a : Fin 128) (l : Fin 16384) : (given m c).dvt (ix2 a l) = (B.dv a (inT l) : ℝ) :=
  packed_sum (fun h a n => (given m c).d (ix3 h a n)) (fun h x n => B.d (ix3 n h x)) (given_d m c B hB) (fun h n => (given m c).prT h n l) _ (fun h n => prT_num m c B hB Q hQ h n l) a
theorem dvct_num (a : Fin 128) (r : Fin 256) : (given m c).dvct (ix2 a r) = (B.dv a (inC r) : ℝ) :=
  packed_sum (fun h a n => (given m c).d (ix3 h a n)) (fun h x n => B.d (ix3 n h x)) (given_d m c B hB) (fun h n => (given m c).prC h n r) _ (fun h n => prC_num m c B hB Q hQ h n r) a
end

end Cert.GlobRun
-- ==== Proof.Glob.Last.lean ====
/-
  The attention gradient's five results where the run of the kernel ends.
-/
module

public import proofs.«01_k».proof.Proof.Glob.Nums
public import proofs.«01_k».proof.Proof.Glob.Quiet

@[expose] public section

set_option maxRecDepth 16384

noncomputable section

namespace Cert.GlobRun

open Cert.GlobIdeal Cert.GlobIdeal.Gen
open Idealize.ShloMosaic Idealize.ShloMosaic.TcCoe Idealize.ShloMosaic.Tactic
open Idealize.ShloMosaic.StableHlo

/-- The contents that a whole buffer is given are the values themselves. -/
theorem rep_1 (X : Vec Ideal S128x16384 .f32) : dktO.view.rep X = X :=
  funext fun y => View.rep_emb (Val := Elt Ideal) dktO.view X y
theorem rep_2 (X : Vec Ideal S128x16384 .f32) : dvtO.view.rep X = X :=
  funext fun y => View.rep_emb (Val := Elt Ideal) dvtO.view X y

variable (m : (ℓ : Loc nD τ sig) → Buf (Elt Ideal) ℓ) (c : Dev nD)

/-- No host line after the region writes the sums over the keys. -/
theorem tail_sums (b : Ref sig .tc) (hb : b ∈ [main_v95_1, main_v95_2]) :
    ∀ op ∈ (List.flatten [hostOps1, hostOps1_1, hostOps1_2] : List (HloOp τ sig (Elt Ideal))), Proc.devRef .tc b ∉ op.writes := by
  refine List.forall_iff_forall_mem.mp ?_
  simp only [hostOps1, hostOps1_1, hostOps1_2, List.flatten_cons, List.flatten_nil, List.append_nil, List.cons_append, List.nil_append, List.Forall,
    StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  revert b
  simp only [List.forall_mem_cons, List.not_mem_nil, false_imp_iff, implies_true, and_true]
  repeat' apply And.intro
  all_goals exact StableHlo.devRef_ne_of_ne (by decide)

variable {m c}
variable {r : PUnit × MemSt nD τ sig (Elt Ideal)}

/-- The gradient of the keys, of the step's own tokens, … -/
theorem last_1 (h : Ends m r) : r.2.mem ((c : Thread nD τ).loc main_v95_1) = (given m c).dkt := by
  rw [(h.1 c).2 main_v95_1 (by decide), StableHlo.after_of_forall_not_mem (b := Proc.devRef .tc main_v95_1) _ _ (tail_sums main_v95_1 (by decide))]
  unfold endW
  rw [Pipeline.withArrays_of_ne spec0 c _ _ main_v95_1 (by decide), Pipeline.withR_of_mem _ _ _ _ _ (by decide), Gout_1, res_eq]
  exact rep_1 _
/-- … the gradient of the values, … -/
theorem last_2 (h : Ends m r) : r.2.mem ((c : Thread nD τ).loc main_v95_2) = (given m c).dvt := by
  rw [(h.1 c).2 main_v95_2 (by decide), StableHlo.after_of_forall_not_mem (b := Proc.devRef .tc main_v95_2) _ _ (tail_sums main_v95_2 (by decide))]
  unfold endW
  rw [Pipeline.withArrays_of_ne spec0 c _ _ main_v95_2 (by decide), Pipeline.withR_of_mem _ _ _ _ _ (by decide), Gout_2, res_eq]
  exact rep_2 _
/-- … and both of the context. -/
theorem last_3 (h : Ends m r) : r.2.mem ((c : Thread nD τ).loc main_v95_3) = (given m c).dkct := ((h.1 c).1 10).trans (arr10 m c)
theorem last_4 (h : Ends m r) : r.2.mem ((c : Thread nD τ).loc main_v95_4) = (given m c).dvct := ((h.1 c).1 11).trans (arr11 m c)

/-- The host's lines after the region: a head's own half of its packed rows, times an eighth. -/
theorem tail_0 (W : Valuation τ sig (Elt Ideal)) (X : S8x128x16384.Idx → EReal) (hX : W (Proc.devRef .tc main_v95_0) = X)
    (h : Fin 8) (x : Fin 64) (n : Fin 16384) (a : Fin 128) (ha : a.val = h.val / 4 * 64 + x.val) :
    (StableHlo.after (List.flatten [hostOps1, hostOps1_1, hostOps1_2]) W (Proc.devRef .tc main_v103) : S8x64x16384.Idx → EReal) (ix3 h x n)
      = X (ix3 h a n) * eighth := by
  simp only [hostOps1, hostOps1_1, hostOps1_2, List.flatten_cons, List.flatten_nil, List.append_nil, List.cons_append, List.nil_append]
  after_reads_at
  simp only [first_heads, hX, word_eighth]
  by_cases h4 : h.val < 4 <;> simp only [h4, Scalar.select, if_true, if_false]
  · exact congrArg (fun b => X (ix3 h b n) * eighth) (Fin.ext (by show x.val = a.val; omega))
  · exact congrArg (fun b => X (ix3 h b n) * eighth) (Fin.ext (by show 64 + x.val = a.val; omega))

/-- The gradient of the queries. -/
theorem last_0 (e : Ends m r) (h : Fin 8) (x : Fin 64) (n : Fin 16384) (a : Fin 128) (ha : a.val = h.val / 4 * 64 + x.val) :
    (r.2.mem ((c : Thread nD τ).loc main_v103) : S8x64x16384.Idx → EReal) (ix3 h x n) = (given m c).dqt (ix3 h a n) * eighth := by
  refine (congrFun ((e.1 c).2 main_v103 (by decide)) (ix3 h x n)).trans (tail_0 (endW m c) _ ?_ h x n a ha)
  exact (Pipeline.withArrays_arr spec0 (by decide) c _ _ 9).trans (arr9 m c)

end Cert.GlobRun

end
-- ==== Proof.Glob.Finite.lean ====
/-
  Finite arguments are real numbers, and so is everything that the attention's two halves make of them.
-/
module

public import proofs.«01_k».proof.Proof.Glob.Nums
public import proofs.«01_k».proof.Pre_glob_finite
public import Idealize.ShloMosaic.Lib.ReduceAll

@[expose] public section

set_option maxRecDepth 16384

noncomputable section

namespace Cert.GlobRun

open Idealize.ShloMosaic Idealize.ShloMosaic.TcCoe Idealize.ShloMosaic.Tactic

/-- The bound that the finite numbers lie below. -/
theorem word_top : Ideal.ofBits .f32 0x7F800000#32 = ⊤ := by
  simp [Ideal.ofBits, Ideal.ieee]

/-- A number below the bound in absolute value is real. -/
theorem real_of_lt {x : EReal} (h : Ideal.cmp .olt (max x (-x)) (Ideal.ofBits .f32 0x7F800000#32) = 1#1) : Fin' x := by
  rw [word_top] at h
  have hlt : max x (-x) < ⊤ := by
    by_contra hn
    simp [Ideal.cmp, hn] at h
  induction x with
  | bot => simp at hlt
  | coe r => exact ⟨r, rfl⟩
  | top => simp at hlt

section
open Cert.Pre_glob_finite
variable [Cert.Pre_glob_finite.Facts]
open Cert.Pre_glob_finite.Facts

/-- Two bits whose conjunction is one. -/
theorem both {a b : IVec S_ 1} (h : andi a b = fun _ => 1#1) : a = (fun _ => 1#1) ∧ b = fun _ => 1#1 := by
  have e (i) : a i = 1#1 ∧ b i = 1#1 := by
    have := congrFun h i
    change a i &&& b i = 1#1 at this
    revert this
    generalize a i = p
    generalize b i = q
    revert p q
    decide
  exact ⟨funext fun i => (e i).1, funext fun i => (e i).2⟩

/-- What the precondition says: every argument is finite everywhere. -/
theorem finite_all (d : FVec Ideal S16384x8x64 .bf16) (q : FVec Ideal S16384x8x64 .f32) (k v : FVec Ideal S16384x2x64 .f32) (kc vc : FVec Ideal S256x2x64 .f32)
    (h : fn (F := Ideal) d q k v kc vc = fun _ => 1#1) :
    (∀ i, Fin' (d i)) ∧ (∀ i, Fin' (q i)) ∧ (∀ i, Fin' (k i)) ∧ (∀ i, Fin' (v i)) ∧ (∀ i, Fin' (kc i)) ∧ (∀ i, Fin' (vc i)) := by
  unfold fn fn_part1 at h
  dsimp only at h
  obtain ⟨h, h5⟩ := both h
  obtain ⟨h, h4⟩ := both h
  obtain ⟨h, h3⟩ := both h
  obtain ⟨h, h2⟩ := both h
  obtain ⟨h0, h1⟩ := both h
  refine ⟨fun i => real_of_lt ?_, fun i => real_of_lt ?_, fun i => real_of_lt ?_, fun i => real_of_lt ?_, fun i => real_of_lt ?_, fun i => real_of_lt ?_⟩
  · exact Host.reduce_andi_all _ _ _ _ _ (congrFun h0 (Shape.Idx.first h_S_)) i
  · exact Host.reduce_andi_all _ _ _ _ _ (congrFun h1 (Shape.Idx.first h_S_)) i
  · exact Host.reduce_andi_all _ _ _ _ _ (congrFun h2 (Shape.Idx.first h_S_)) i
  · exact Host.reduce_andi_all _ _ _ _ _ (congrFun h3 (Shape.Idx.first h_S_)) i
  · exact Host.reduce_andi_all _ _ _ _ _ (congrFun h4 (Shape.Idx.first h_S_)) i
  · exact Host.reduce_andi_all _ _ _ _ _ (congrFun h5 (Shape.Idx.first h_S_)) i
end

/-- Finite arguments are an array of reals each. -/
theorem nums_of (A : Args) (hd : ∀ i, Fin' (A.d i)) (hq : ∀ i, Fin' (A.q i)) (hk : ∀ i, Fin' (A.k i)) (hv : ∀ i, Fin' (A.v i))
    (hkc : ∀ i, Fin' (A.kc i)) (hvc : ∀ i, Fin' (A.vc i)) : ∃ B : Nums, A = B.args := by
  choose d ed using hd
  choose q eq using hq
  choose k ek using hk
  choose v ev using hv
  choose kc ekc using hkc
  choose vc evc using hvc
  refine ⟨⟨d, q, k, v, kc, vc⟩, ?_⟩
  obtain ⟨Ad, Aq, Ak, Av, Akc, Avc⟩ := A
  obtain rfl : Ad = fun i => (d i : EReal) := funext ed
  obtain rfl : Aq = fun i => (q i : EReal) := funext eq
  obtain rfl : Ak = fun i => (k i : EReal) := funext ek
  obtain rfl : Av = fun i => (v i : EReal) := funext ev
  obtain rfl : Akc = fun i => (kc i : EReal) := funext ekc
  obtain rfl : Avc = fun i => (vc i : EReal) := funext evc
  rfl

open Cert.GlobIdeal Cert.GlobIdeal.Gen in
/-- So are the running maxima of the saved forward pass. -/
theorem maxima (m : (ℓ : Loc nD τ sig) → Buf (Elt Ideal) ℓ) (c : Dev nD) (B : Nums) (hB : args m c = B.args) :
    ∃ Q : Fin 8 → Fin 17 → Fin 16384 → ℝ, ∀ h i n, runMax m c (ix4 (gq h) (hq h) i n) = (Q h i n : ℝ) := by
  have e (h : Fin 8) (i : Fin 17) (n : Fin 16384) : Fin' (runMax m c (ix4 (gq h) (hq h) i n)) := by
    have pair (g : Fin 2) (h : Fin 4) : ∃ H, gq H = g ∧ hq H = h :=
      ⟨⟨g.val * 4 + h.val, by omega⟩, Fin.ext (show (g.val * 4 + h.val) / 4 = g.val by omega), Fin.ext (show (g.val * 4 + h.val) % 4 = h.val by omega)⟩
    refine runMax_real m c (fun g h l n => ?_) (fun g h r n => ?_) _ _ _ _ <;> obtain ⟨H, rfl, rfl⟩ := pair g h <;> rw [hB]
    · exact ⟨_, st_num B H n l⟩
    · exact ⟨_, sc_num B H n r⟩
  choose Q hQ using e
  exact ⟨Q, hQ⟩

end Cert.GlobRun

end
-- ==== Proof.Glob.Ref.lean ====
/-
  The attention gradient's reference at finite arguments: its results are the same real numbers.
-/
module

public import proofs.«01_k».proof.Proof.Glob.Closed
public import proofs.«01_k».proof.Proof.Gen.GlobRefIdeal.Read

@[expose] public section

set_option maxRecDepth 16384

noncomputable section

namespace Cert.GlobRun

open Idealize.ShloMosaic Idealize.ShloMosaic.TcCoe Idealize.ShloMosaic.Tactic
open Cert.GlobRefIdeal Cert.GlobRefIdeal.Gen Cert.GlobRefIdeal.Read

/-- A pair's head. -/
abbrev headOf (g : Fin 2) (h : Fin 4) : Fin 8 := ⟨g.val * 4 + h.val, by omega⟩
theorem pair_of (g : Fin 2) (h : Fin 4) : gq (headOf g h) = g := Fin.ext (show (g.val * 4 + h.val) / 4 = g.val by omega)

variable (B : Nums)

/-- The keys and the context's, joined; … -/
theorem ref_keys (l : Fin 16640) (g : Fin 2) (e : Fin 64) : val_main_v1 (F := Ideal) B.args.k B.args.kc (ix3 l g e) = (cat B.k B.kc l g e : ℝ) := by
  unfold val_main_v1
  pointwise [cat]
  split_ifs <;> rfl
/-- … the values. -/
theorem ref_values (l : Fin 16640) (g : Fin 2) (e : Fin 64) : val_main_v34 (F := Ideal) B.args.v B.args.vc (ix3 l g e) = (cat B.v B.vc l g e : ℝ) := by
  unfold val_main_v34
  pointwise [cat]
  split_ifs <;> rfl

theorem ref_queries (n : Fin 16384) (g : Fin 2) (h : Fin 4) (e : Fin 64) : val_main_v0 (F := Ideal) B.args.q (ix4 n g h e) = (B.q (ix3 n (headOf g h) e) : ℝ) := by
  unfold val_main_v0
  pointwise
  rfl
theorem ref_cotangent (n : Fin 16384) (g : Fin 2) (h : Fin 4) (e : Fin 64) : val_main_v40 (F := Ideal) B.args.d (ix4 g e h n) = (B.d (ix3 n (headOf g h) e) : ℝ) := by
  pointwise [val_main_v40, val_main_v39, val_main_v38]
  rfl

theorem ref_score (g : Fin 2) (h : Fin 4) (n : Fin 16384) (l : Fin 16640) :
    val_main_v5 (F := Ideal) B.args.q B.args.k B.args.kc (ix4 g h n l) = (B.score (headOf g h) n l : ℝ) := by
  pointwise [val_main_v5, val_main_v4, val_main_cst, val_main_v3, val_main_v2, ref_keys, ref_queries, word_eighth]
  simp only [eighth, ← EReal.coe_mul, ← coe_sums, Nums.score]
  refine congrArg Real.toEReal (congrArg (· * (1 / 8 : ℝ)) (Finset.sum_congr rfl fun x _ => ?_))
  rw [pair_of, mul_comm]

theorem reduced_real (x : S2x4x16384x16640.Idx → EReal) (hx : ∀ i, Fin' (x i)) (j : S2x4x16384.Idx) :
    Fin' (Host.reduce (FloatOps.maximumf (F := Ideal) (φ := .f32)) x (val_main_cst_0 (F := Ideal)) reducesTo_S2x4x16384x16640_S2x4x16384_d3 h_S_ j) := by
  idx_vars j
  pointwise [val_main_cst_0]
  exact fold_real (by decide) _ (fun r => hx _) _ word_bot

theorem ref_max_real (g : Fin 2) (h : Fin 4) (n : Fin 16384) : Fin' (val_main_v13 (F := Ideal) B.args.q B.args.k B.args.kc (ix3 g h n)) := by
  obtain ⟨r, hr⟩ := reduced_real (val_main_v5 (F := Ideal) B.args.q B.args.k B.args.kc) (fun i => by idx_vars i; exact ⟨_, ref_score B i0 i1 i2 i3⟩) (ix3 g h n)
  refine ⟨r, ?_⟩
  have hr' : val_main_v6 (F := Ideal) B.args.q B.args.k B.args.kc (ix3 g h n) = r := by
    unfold val_main_v6
    exact hr
  rw [val_main_v13_apply, hr']
  pointwise [val_main_v12, val_main_cst_2]
  rw [word_bot, max_eq_right bot_le]

theorem ref_dp (g : Fin 2) (h : Fin 4) (n : Fin 16384) (l : Fin 16640) :
    val_main_v41 (F := Ideal) B.args.d B.args.v B.args.vc (ix4 g h n l) = (B.dp (headOf g h) n l : ℝ) := by
  pointwise [val_main_v41, ref_cotangent, ref_values]
  simp only [← EReal.coe_mul, ← coe_sums, Nums.dp]
  refine congrArg Real.toEReal (Finset.sum_congr rfl fun x _ => ?_)
  rw [pair_of, mul_comm]

section
variable (M : Fin 2 → Fin 4 → Fin 16384 → ℝ) (hM : ∀ g h n, val_main_v13 (F := Ideal) B.args.q B.args.k B.args.kc (ix3 g h n) = (M g h n : ℝ))
include hM

theorem ref_weight (g : Fin 2) (h : Fin 4) (n : Fin 16384) (l : Fin 16640) :
    val_main_v26 (F := Ideal) B.args.q B.args.k B.args.kc (ix4 g h n l) = (Real.exp (B.score (headOf g h) n l - M g h n) : ℝ) := by
  pointwise [val_main_v26, val_main_v25, val_main_v24, val_main_v23, ref_score, hM]
  rw [← EReal.coe_sub, Ideal.exp_coe]

theorem ref_mass (g : Fin 2) (h : Fin 4) (n : Fin 16384) :
    val_main_v27 (F := Ideal) B.args.q B.args.k B.args.kc (ix3 g h n) = (mass (B.score (headOf g h) n) (M g h n) : ℝ) := by
  pointwise [val_main_v27, val_main_cst_8, ref_weight B M hM]
  simp only [← coe_sums]
  rfl

theorem ref_prob (g : Fin 2) (h : Fin 4) (n : Fin 16384) (l : Fin 16640) :
    val_main_v30 (F := Ideal) B.args.q B.args.k B.args.kc (ix4 g h n l) = (prob (B.score (headOf g h) n) l : ℝ) := by
  pointwise [val_main_v30, val_main_v29, val_main_v28, ref_weight B M hM, ref_mass B M hM]
  rw [Ideal.div_coe (mass_pos (by decide) _ _).ne', ← EReal.coe_mul, ← prob_shift (by decide) (B.score (headOf g h) n) (M g h n) l, mul_one_div]

theorem ref_ds (g : Fin 2) (h : Fin 4) (n : Fin 16384) (l : Fin 16640) :
    val_main_v57 (F := Ideal) B.args.d B.args.q B.args.k B.args.v B.args.kc B.args.vc (ix4 g h n l) = (B.ds (headOf g h) n l : ℝ) := by
  pointwise [val_main_v57, val_main_v56, val_main_v55, val_main_v54, val_main_cst_11, val_main_v53, val_main_v52, val_main_v51, val_main_v50, val_main_v49, val_main_cst_10,
    val_main_v48, val_main_v47, val_main_v46, val_main_v33, val_main_v32, val_main_cst_9, val_main_v31, val_main_v28, ref_weight B M hM, ref_mass B M hM, ref_dp B]
  simp only [Finset.univ_unique, Finset.sum_singleton, ← EReal.coe_mul, Ideal.div_coe (mass_pos (by decide) (B.score (headOf g h) n) (M g h n)).ne',
    Ideal.div_coe (mul_pos (mass_pos (by decide) (B.score (headOf g h) n) (M g h n)) (mass_pos (by decide) (B.score (headOf g h) n) (M g h n))).ne', one_mul,
    ← coe_sums, ← EReal.coe_neg, ← EReal.coe_add]
  refine congrArg Real.toEReal ?_
  rw [mul_one_div]
  exact cot_quotient (by decide) _ _ _ _

theorem ref_scaled (g : Fin 2) (h : Fin 4) (n : Fin 16384) (l : Fin 16640) :
    val_main_v60 (F := Ideal) B.args.d B.args.q B.args.k B.args.v B.args.kc B.args.vc (ix4 g l n h) = (B.ds (headOf g h) n l * (1 / 8) : ℝ) := by
  pointwise [val_main_v60, val_main_v59, val_main_v58, val_main_cst_12, ref_ds B M hM, word_eighth]
  rw [eighth, EReal.coe_mul]

theorem ref_dq (h : Fin 8) (x : Fin 64) (n : Fin 16384) :
    val_main_v68 (F := Ideal) B.args.d B.args.q B.args.k B.args.v B.args.kc B.args.vc (ix3 h x n) = (B.dq h x n : ℝ) := by
  pointwise [val_main_v68, val_main_v67, val_main_v62, val_main_v61, ref_scaled B M hM, ref_keys]
  simp only [← EReal.coe_mul, ← coe_sums]
  refine congrArg Real.toEReal ?_
  rw [Nums.dq, Finset.sum_mul]
  refine Finset.sum_congr rfl fun l _ => ?_
  refine (congrArg (fun H => B.ds H n l * (1 / 8) * cat B.k B.kc l (gq h) x) (head_eq h)).trans ?_
  ring

theorem ref_dk (a : Fin 128) (l : Fin 16640) :
    val_main_v64 (F := Ideal) B.args.d B.args.q B.args.k B.args.v B.args.kc B.args.vc (ix3 l ⟨a.val / 64, by omega⟩ ⟨a.val % 64, by omega⟩) = (B.dk a l : ℝ) := by
  pointwise [val_main_v64, val_main_v63, ref_scaled B M hM, ref_queries]
  simp only [← EReal.coe_mul, ← coe_sums]
  rw [Finset.sum_comm]
  exact congrArg Real.toEReal (Finset.sum_congr rfl fun h _ => Finset.sum_congr rfl fun n _ => by ring)
theorem ref_dv (a : Fin 128) (l : Fin 16640) :
    val_main_v43 (F := Ideal) B.args.d B.args.q B.args.k B.args.kc (ix3 l ⟨a.val / 64, by omega⟩ ⟨a.val % 64, by omega⟩) = (B.dv a l : ℝ) := by
  pointwise [val_main_v43, val_main_v42, ref_prob B M hM, ref_cotangent]
  simp only [← EReal.coe_mul, ← coe_sums]
  rfl

theorem ref_dkT (a : Fin 128) (l : Fin 16384) :
    val_main_v70 (F := Ideal) B.args.d B.args.q B.args.k B.args.v B.args.kc B.args.vc (ix2 a l) = (B.dk a (inT l) : ℝ) := by
  pointwise [val_main_v70, val_main_v69, val_main_v65]
  exact ref_dk B M hM a (inT l)
theorem ref_dkC (a : Fin 128) (r : Fin 256) :
    val_main_v74 (F := Ideal) B.args.d B.args.q B.args.k B.args.v B.args.kc B.args.vc (ix2 a r) = (B.dk a (inC r) : ℝ) := by
  pointwise [val_main_v74, val_main_v73, val_main_v66]
  exact ref_dk B M hM a (inC r)
theorem ref_dvT (a : Fin 128) (l : Fin 16384) : val_main_v72 (F := Ideal) B.args.d B.args.q B.args.k B.args.kc (ix2 a l) = (B.dv a (inT l) : ℝ) := by
  pointwise [val_main_v72, val_main_v71, val_main_v44]
  exact ref_dv B M hM a (inT l)
theorem ref_dvC (a : Fin 128) (r : Fin 256) : val_main_v76 (F := Ideal) B.args.d B.args.q B.args.k B.args.kc (ix2 a r) = (B.dv a (inC r) : ℝ) := by
  pointwise [val_main_v76, val_main_v75, val_main_v45]
  exact ref_dv B M hM a (inC r)
end

/-- The maxima as real numbers. -/
theorem ref_maxima : ∃ M : Fin 2 → Fin 4 → Fin 16384 → ℝ, ∀ g h n, val_main_v13 (F := Ideal) B.args.q B.args.k B.args.kc (ix3 g h n) = (M g h n : ℝ) := by
  choose M hM using ref_max_real B
  exact ⟨M, hM⟩

end Cert.GlobRun
-- ==== Proof.Glob.Same.lean ====
/-
  The attention gradient's kernel and its reference leave the same five arrays when every argument is finite.
-/
module

public import proofs.«01_k».proof.Proof.Glob.Last
public import proofs.«01_k».proof.Proof.Glob.Finite
public import proofs.«01_k».proof.Proof.Glob.Ref

@[expose] public section

set_option maxRecDepth 16384

noncomputable section

namespace Cert.GlobRun

open Cert.GlobIdeal Cert.GlobIdeal.Gen Cert.GlobRefIdeal.Read
open Idealize.ShloMosaic Idealize.ShloMosaic.TcCoe Idealize.ShloMosaic.Tactic

variable {m : (ℓ : Loc nD τ sig) → Buf (Elt Ideal) ℓ} {c : Dev nD} {r : PUnit × MemSt nD τ sig (Elt Ideal)}
variable (e : Ends m r) (B : Nums) (hB : args m c = B.args)
include e hB

theorem same_0 : r.2.mem ((c : Thread nD τ).loc main_v103)
    = val_main_v68 (F := Ideal) (args m c).d (args m c).q (args m c).k (args m c).v (args m c).kc (args m c).vc := by
  obtain ⟨Q, hQ⟩ := maxima m c B hB
  obtain ⟨M, hM⟩ := ref_maxima B
  rw [hB]
  funext y
  obtain ⟨h, x, n, rfl⟩ : ∃ (h : Fin 8) (x : Fin 64) (n : Fin 16384), y = ix3 h x n := ⟨y 0, y 1, y 2, (ix3_eta y).symm⟩
  exact ((last_0 e h x n _ rfl).trans (dqt_num m c B hB Q hQ h x n _ rfl)).trans (ref_dq B M hM h x n).symm

theorem same_1 : r.2.mem ((c : Thread nD τ).loc main_v95_1)
    = val_main_v70 (F := Ideal) (args m c).d (args m c).q (args m c).k (args m c).v (args m c).kc (args m c).vc := by
  obtain ⟨Q, hQ⟩ := maxima m c B hB
  obtain ⟨M, hM⟩ := ref_maxima B
  rw [hB]
  refine (last_1 e).trans (funext fun y => ?_)
  obtain ⟨a, l, rfl⟩ : ∃ (a : Fin 128) (l : Fin 16384), y = ix2 a l := ⟨y 0, y 1, (ix2_eta y).symm⟩
  exact (dkt_num m c B hB Q hQ a l).trans (ref_dkT B M hM a l).symm

theorem same_2 : r.2.mem ((c : Thread nD τ).loc main_v95_2)
    = val_main_v72 (F := Ideal) (args m c).d (args m c).q (args m c).k (args m c).kc := by
  obtain ⟨Q, hQ⟩ := maxima m c B hB
  obtain ⟨M, hM⟩ := ref_maxima B
  rw [hB]
  refine (last_2 e).trans (funext fun y => ?_)
  obtain ⟨a, l, rfl⟩ : ∃ (a : Fin 128) (l : Fin 16384), y = ix2 a l := ⟨y 0, y 1, (ix2_eta y).symm⟩
  exact (dvt_num m c B hB Q hQ a l).trans (ref_dvT B M hM a l).symm

theorem same_3 : r.2.mem ((c : Thread nD τ).loc main_v95_3)
    = val_main_v74 (F := Ideal) (args m c).d (args m c).q (args m c).k (args m c).v (args m c).kc (args m c).vc := by
  obtain ⟨Q, hQ⟩ := maxima m c B hB
  obtain ⟨M, hM⟩ := ref_maxima B
  rw [hB]
  refine (last_3 e).trans (funext fun y => ?_)
  obtain ⟨a, l, rfl⟩ : ∃ (a : Fin 128) (l : Fin 256), y = ix2 a l := ⟨y 0, y 1, (ix2_eta y).symm⟩
  exact (dkct_num m c B hB Q hQ a l).trans (ref_dkC B M hM a l).symm

theorem same_4 : r.2.mem ((c : Thread nD τ).loc main_v95_4)
    = val_main_v76 (F := Ideal) (args m c).d (args m c).q (args m c).k (args m c).kc := by
  obtain ⟨Q, hQ⟩ := maxima m c B hB
  obtain ⟨M, hM⟩ := ref_maxima B
  rw [hB]
  refine (last_4 e).trans (funext fun y => ?_)
  obtain ⟨a, l, rfl⟩ : ∃ (a : Fin 128) (l : Fin 256), y = ix2 a l := ⟨y 0, y 1, (ix2_eta y).symm⟩
  exact (dvct_num m c B hB Q hQ a l).trans (ref_dvC B M hM a l).symm

end Cert.GlobRun

end
-- ==== Proof.Glob.Claims.lean ====
/-
  The claims of the attention gradient that speak of the reference or of the precondition.
-/
module

public import proofs.«01_k».proof.Proof.Glob.Frames
public import proofs.«01_k».proof.Proof.Glob.Same
public import proofs.«01_k».proof.Proof.Gen.GlobRefIdeal.Run

@[expose] public section

set_option maxRecDepth 16384

noncomputable section

open Idealize.ShloMosaic Idealize.ShloMosaic.TcCoe Idealize.SL.Sem

namespace Cert.GlobClaims

/-- The reference terminates without fault, its arguments unchanged, every counter zero. -/
theorem frame_ref : quiescent_GlobRefIdeal (hGlobRefIdeal := Cert.GlobRefIdeal.Gen.facts) := fun m ρ _ =>
  (θ_run Cert.GlobRefIdeal.defs _ _).mono (fun r h => ⟨fun c => (h c).2.2.2.2.2, sem_eq_zero_of_no_sems (by decide) r.2⟩)
    (Cert.GlobRefIdeal.Value.run m ρ)

section
variable [hPre : Cert.Pre_glob_finite.Facts]

/-- The ideal program and the reference on finite arguments: as on any. -/
theorem frame_ideal_pre : quiescent_GlobIdeal_pre_glob_finite (hGlobIdeal := Cert.GlobIdeal.Gen.facts) := fun m ρ _ => frame_ideal m ρ trivial
theorem frame_ref_pre : quiescent_GlobRefIdeal_pre_glob_finite (hGlobRefIdeal := Cert.GlobRefIdeal.Gen.facts) := fun m ρ _ => frame_ref m ρ trivial

open Cert.GlobIdeal Cert.GlobRefIdeal.Read in
set_option maxHeartbeats 8000000 in
/-- On finite arguments kernel and reference leave the same five arrays. -/
theorem value : algebraic_GlobIdeal_GlobRefIdeal_pre_glob_finite (hGlobIdeal := Cert.GlobIdeal.Gen.facts) (hGlobRefIdeal := Cert.GlobRefIdeal.Gen.facts) := by
  intro m ρ m' ρ' hpre hargs
  have nums (c) : ∃ B : Cert.GlobRun.Nums, Cert.GlobRun.args m c = B.args := by
    obtain ⟨h0, h1, h2, h3, h4, h5⟩ := Cert.GlobRun.finite_all _ _ _ _ _ _ (hpre c)
    exact Cert.GlobRun.nums_of _ h0 h1 h2 h3 h4 h5
  refine ⟨fun c => val_main_v68 (F := Ideal) (Cert.GlobRun.args m c).d (Cert.GlobRun.args m c).q (Cert.GlobRun.args m c).k (Cert.GlobRun.args m c).v (Cert.GlobRun.args m c).kc (Cert.GlobRun.args m c).vc,
    fun c => val_main_v70 (F := Ideal) (Cert.GlobRun.args m c).d (Cert.GlobRun.args m c).q (Cert.GlobRun.args m c).k (Cert.GlobRun.args m c).v (Cert.GlobRun.args m c).kc (Cert.GlobRun.args m c).vc,
    fun c => val_main_v72 (F := Ideal) (Cert.GlobRun.args m c).d (Cert.GlobRun.args m c).q (Cert.GlobRun.args m c).k (Cert.GlobRun.args m c).kc,
    fun c => val_main_v74 (F := Ideal) (Cert.GlobRun.args m c).d (Cert.GlobRun.args m c).q (Cert.GlobRun.args m c).k (Cert.GlobRun.args m c).v (Cert.GlobRun.args m c).kc (Cert.GlobRun.args m c).vc,
    fun c => val_main_v76 (F := Ideal) (Cert.GlobRun.args m c).d (Cert.GlobRun.args m c).q (Cert.GlobRun.args m c).k (Cert.GlobRun.args m c).kc, ?_, ?_⟩
  · refine (θ_run defs _ _).mono (fun r h c => ?_) (Cert.GlobRun.run_main m ρ)
    obtain ⟨B, hB⟩ := nums c
    exact ⟨Cert.GlobRun.same_0 h B hB, Cert.GlobRun.same_1 h B hB, Cert.GlobRun.same_2 h B hB, Cert.GlobRun.same_3 h B hB, Cert.GlobRun.same_4 h B hB,
      (h.arg m c main_arg0 (by decide)).trans (Cert.GlobIdeal.Gen.V_main_arg0 m c), (h.arg m c main_arg1 (by decide)).trans (Cert.GlobIdeal.Gen.V_main_arg1 m c),
      (h.arg m c main_arg2 (by decide)).trans (Cert.GlobIdeal.Gen.V_main_arg2 m c), (h.arg m c main_arg3 (by decide)).trans (Cert.GlobIdeal.Gen.V_main_arg3 m c),
      (h.arg m c main_arg4 (by decide)).trans (Cert.GlobIdeal.Gen.V_main_arg4 m c), (h.arg m c main_arg5 (by decide)).trans (Cert.GlobIdeal.Gen.V_main_arg5 m c)⟩
  · refine (θ_run Cert.GlobRefIdeal.defs _ _).mono (fun r h c => let ⟨h0, h1, h2, h3, h4, rest⟩ := h c
      ⟨h0.trans ?_, h1.trans ?_, h2.trans ?_, h3.trans ?_, h4.trans ?_, rest⟩) (Cert.GlobRefIdeal.Value.run (F := Ideal) m' ρ')
    all_goals obtain ⟨a0, a1, a2, a3, a4, a5⟩ := hargs c
    · refine (val_main_v68_eq (F := Ideal) m' c).trans ?_
      rw [a0, a1, a2, a3, a4, a5]
      rfl
    · refine (val_main_v70_eq (F := Ideal) m' c).trans ?_
      rw [a0, a1, a2, a3, a4, a5]
      rfl
    · refine (val_main_v72_eq (F := Ideal) _ _ _ _).trans ?_
      rw [a0, a1, a2, a4]
      rfl
    · refine (val_main_v74_eq (F := Ideal) m' c).trans ?_
      rw [a0, a1, a2, a3, a4, a5]
      rfl
    · refine (val_main_v76_eq (F := Ideal) _ _ _ _).trans ?_
      rw [a0, a1, a2, a4]
      rfl
end

end Cert.GlobClaims
end
-- ==== Proof.Mod.Block.lean ====
module

public import Idealize.ShloMosaic.Lib.Pipeline.ReadBack
public import proofs.«01_k».proof.Proof.Gen.ModIdeal.Value
public import proofs.«01_k».proof.Proof.Common.Pieces
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ModIdeal.Value

open Cert.ModIdeal Cert.ModIdeal.Gen

/-! ## The gradients, entry by entry

`dp` is the cotangent of the projection, `w` the projection, `da` the cotangent of the input beside it, `x` the input and `s` the scale. -/

/-- A term of the products' sum. -/
abbrev prod (dp : S16384x3584.Idx → EReal) (w : S1024x3584.Idx → EReal) (n : Fin 16384) (j : Fin 1024) (k : Fin 3584) : EReal :=
  dp (ix2 n k) * w (ix2 j k)

/-- The gradient of the modulated input. -/
def dh (dp : S16384x3584.Idx → EReal) (w : S1024x3584.Idx → EReal) (n : Fin 16384) (j : Fin 1024) : EReal :=
  ∑ k : Fin 3584, prod dp w n j k

/-- The gradient of the input. -/
def Gdx (dp : S16384x3584.Idx → EReal) (w : S1024x3584.Idx → EReal) (da : S16384x1024.Idx → EReal) (s : S1x1024.Idx → EReal) :
    S16384x1024.Idx → EReal := fun i => da i + dh dp w (i 0) (i 1) * (1 + s (ix2 0 (i 1)))

/-- The gradient of the scale. -/
def Gds (dp : S16384x3584.Idx → EReal) (w : S1024x3584.Idx → EReal) (x : S16384x1024.Idx → EReal) : S1x1024.Idx → EReal := fun i =>
  ∑ n : Fin 16384, dh dp w n (i 1) * x (ix2 n (i 1))

/-- The gradient of the shift. -/
def Gdt (dp : S16384x3584.Idx → EReal) (w : S1024x3584.Idx → EReal) : S1x1024.Idx → EReal := fun i =>
  ∑ n : Fin 16384, dh dp w n (i 1)

variable (m : (ℓ : Loc nD τ sig) → Buf (Elt Ideal) ℓ)

theorem points (t : Fin cfg0.N) : t.val < 64 := lt_of_lt_of_eq t.isLt N_0

/-- Row `r` of point `t`'s blocks of rows is this row of the arrays, … -/
abbrev row (t : Fin cfg0.N) (r : Fin 1024) : Fin 16384 := ⟨t.val / 4 * 1024 + r.val, by have := points t; omega⟩

/-- … and column `q` of its block of columns this one. -/
abbrev col (t : Fin cfg0.N) (q : Fin 896) : Fin 3584 := ⟨t.val % 4 * 896 + q.val, by omega⟩

/-- The host's blocks of the projection's columns. -/
theorem host_w (c : Dev nD) : ∀ i, V m c main_v2 i = m (c, main_arg1) (ix2 (i 1) ⟨(i 0).val * 896 + (i 2).val, by
    have h0 : (i 0).val < 4 := (i 0).isLt; have h2 : (i 2).val < 896 := (i 2).isLt; omega⟩) := by
  intro i
  idx_vars i
  simp only [V, hostOps0, List.flatten_cons, List.flatten_nil, List.append_nil, List.cons_append, List.nil_append]
  after_reads_at
  all_goals (try after_reads_at)
  all_goals (try pointwise)

theorem idx : ∀ t : Fin cfg0.N, win0_0.index t = ![t.val / 4, t.val % 4] ∧ win0_1.index t = ![t.val % 4, 0, 0]
    ∧ win0_2.index t = ![t.val / 4, 0] ∧ win0_3.index t = ![t.val / 4, 0] ∧ win0_4.index t = ![0, 0]
    ∧ win0_5.index t = ![t.val / 4, 0] ∧ win0_6.index t = ![0, 0] ∧ win0_7.index t = ![0, 0] :=
  (by decide +kernel : ∀ t : Fin grid0.N, _)

/-- What each window's block holds. -/
theorem blk (c : Dev nD) (t : Fin cfg0.N) :
    (∀ r k, iblk m c 0 t (ix2 r k) = m (c, main_arg0) (ix2 (row t r) (col t k)))
    ∧ (∀ h r k, iblk m c 1 t (ix3 h r k) = m (c, main_arg1) (ix2 r (col t k)))
    ∧ (∀ r k, iblk m c 2 t (ix2 r k) = m (c, main_arg2) (ix2 (row t r) k))
    ∧ (∀ r k, iblk m c 3 t (ix2 r k) = m (c, main_arg3) (ix2 (row t r) k))
    ∧ (∀ r k, iblk m c 4 t (ix2 r k) = m (c, main_arg4) (ix2 0 k)) := by
  obtain ⟨i0, i1, i2, i3, i4, -⟩ := idx t
  refine ⟨fun r k => ?_, fun h r k => (?_ : _ = V m c main_v2 (ix3 ⟨t.val % 4, by omega⟩ r k)).trans (host_w m c _), fun r k => ?_,
    fun r k => ?_, fun r k => ?_⟩
  all_goals
    simp only [iblk]
    blk_point [i0, i1, i2, i3, i4]

/-! ## The accumulator -/

/-- What point `t` adds: its block of columns. -/
def part (dp : S16384x3584.Idx → EReal) (w : S1024x3584.Idx → EReal) (t : Fin cfg0.N) (r j : Fin 1024) : EReal :=
  ∑ q : Fin 896, dp (ix2 (row t r) (col t q)) * w (ix2 j (col t q))

abbrev before (t : Fin cfg0.N) : t.val - 1 < cfg0.N := Nat.lt_of_le_of_lt (Nat.sub_le _ _) t.isLt

set_option maxHeartbeats 2000000 in
theorem acc_first (c : Dev nD) (t : Fin cfg0.N) (h : t.val % 4 = 0) (y : S1024x1024.Idx) :
    (outsAt0 m c t.val t.isLt).2.2.2 y = 0 + part (m (c, main_arg0)) (m (c, main_arg1)) t (y 0) (y 1) := by
  obtain ⟨b0, b1, -⟩ := blk m c t
  idx_vars y
  by_cases hz : t.val % 64 = 0
  on_goal 1 => rw [outsAt0_A m c t hz h (by omega)]
  on_goal 2 => rw [outsAt0_D m c t hz h (by omega)]
  all_goals
    frame_out
    unfold_payloads
    pointwise [part]
    simp only [b0, b1]

set_option maxHeartbeats 2000000 in
theorem acc_next (c : Dev nD) (t : Fin cfg0.N) (h : ¬t.val % 4 = 0) (y : S1024x1024.Idx) :
    (outsAt0 m c t.val t.isLt).2.2.2 y = (outsAt0 m c (t.val - 1) (before t)).2.2.2 y
      + part (m (c, main_arg0)) (m (c, main_arg1)) t (y 0) (y 1) := by
  obtain ⟨b0, b1, -⟩ := blk m c t
  idx_vars y
  by_cases hz : t.val % 4 = 3
  on_goal 1 => rw [outsAt0_C m c t (by omega) h hz]
  on_goal 2 => rw [outsAt0_B m c t (by omega) h hz]
  all_goals
    frame_out
    unfold_payloads
    pointwise [part]
    simp only [b0, b1]
    rw [read_unread_whole]

/-- After a run's last point the accumulator holds the whole products. -/
theorem acc_last (c : Dev nD) (t : Fin cfg0.N) (h : t.val % 4 = 3) (y : S1024x1024.Idx) :
    (outsAt0 m c t.val t.isLt).2.2.2 y = dh (m (c, main_arg0)) (m (c, main_arg1)) (row t (y 0)) (y 1) := by
  rw [Pipeline.eq_sum_fin_of_reset_step_apply_of_flush (fun n h => (outsAt0 m c n h).2.2.2) 4 (fun _ => 0) _
    (fun t h y => acc_first m c t h y) (fun t h y => acc_next m c t h y) t h y, zero_add]
  refine Fin.sum_mul_add_congr (S := 4) (n := 896) (f := fun k => prod (m (c, main_arg0)) (m (c, main_arg1)) (row t (y 0)) (y 1) k) fun s k hl => ?_
  have e : 4 * (t.val / 4) + s.val = t.val - 3 + s.val := by omega
  have e1 : (t.val - 3 + s.val) / 4 = t.val / 4 := by omega
  have e2 : (t.val - 3 + s.val) % 4 = s.val := by omega
  simp only [row, col, e, e1, e2]

set_option maxHeartbeats 2000000 in
/-- What a run's last point stores: the input's gradient, … -/
theorem point5 (c : Dev nD) (t : Fin cfg0.N) (h : t.val % 4 = 3) (y : S1024x1024.Idx) :
    (outsAt0 m c t.val t.isLt).1 y = Gdx (m (c, main_arg0)) (m (c, main_arg1)) (m (c, main_arg2)) (m (c, main_arg4)) (ix2 (row t (y 0)) (y 1)) := by
  obtain ⟨b0, b1, b2, b3, b4⟩ := blk m c t
  have e := acc_last m c t h y
  rw [acc_next m c t (by omega) y] at e
  idx_vars y
  rw [outsAt0_C m c t (by omega) (by omega) h]
  frame_out
  unfold_payloads
  pointwise [Gdx]
  unfold part at e
  simp only [b0, b1, b2, b3, b4]
  rw [read_unread_whole, e]

set_option maxHeartbeats 2000000 in
/-- … the sums of the scale's gradient so far, … -/
theorem point6 (c : Dev nD) (t : Fin cfg0.N) (h : t.val % 4 = 3) (y : S1x1024.Idx) :
    (outsAt0 m c t.val t.isLt).2.1 y = (outsAt0 m c (t.val - 1) (before t)).2.1 y
      + ∑ r : Fin 1024, dh (m (c, main_arg0)) (m (c, main_arg1)) (row t r) (y 1) * m (c, main_arg3) (ix2 (row t r) (y 1)) := by
  obtain ⟨b0, b1, b2, b3, b4⟩ := blk m c t
  idx_vars y
  have e : ∀ r, (outsAt0 m c (t.val - 1) (before t)).2.2.2 (ix2 r y1) + part (m (c, main_arg0)) (m (c, main_arg1)) t r y1
      = dh (m (c, main_arg0)) (m (c, main_arg1)) (row t r) y1 := fun r => (acc_next m c t (by omega) (ix2 r y1)).symm.trans (acc_last m c t h _)
  rw [outsAt0_C m c t (by omega) (by omega) h]
  frame_out
  unfold_payloads
  pointwise
  unfold part at e
  simp only [b0, b1, b2, b3, b4]
  simp only [read_unread_whole, e]

set_option maxHeartbeats 2000000 in
/-- … and of the shift's. -/
theorem point7 (c : Dev nD) (t : Fin cfg0.N) (h : t.val % 4 = 3) (y : S1x1024.Idx) :
    (outsAt0 m c t.val t.isLt).2.2.1 y = (outsAt0 m c (t.val - 1) (before t)).2.2.1 y
      + ∑ r : Fin 1024, dh (m (c, main_arg0)) (m (c, main_arg1)) (row t r) (y 1) := by
  obtain ⟨b0, b1, b2, b3, b4⟩ := blk m c t
  idx_vars y
  have e : ∀ r, (outsAt0 m c (t.val - 1) (before t)).2.2.2 (ix2 r y1) + part (m (c, main_arg0)) (m (c, main_arg1)) t r y1
      = dh (m (c, main_arg0)) (m (c, main_arg1)) (row t r) y1 := fun r => (acc_next m c t (by omega) (ix2 r y1)).symm.trans (acc_last m c t h _)
  rw [outsAt0_C m c t (by omega) (by omega) h]
  frame_out
  unfold_payloads
  pointwise
  unfold part at e
  simp only [b0, b1, b2, b3, b4]
  simp only [read_unread_whole, e]

/-- The first point of all clears the sums, … -/
theorem sums_first (c : Dev nD) (t : Fin cfg0.N) (h : t.val % 64 = 0) :
    (∀ y, (outsAt0 m c t.val t.isLt).2.1 y = 0) ∧ ∀ y, (outsAt0 m c t.val t.isLt).2.2.1 y = 0 := by
  rw [outsAt0_A m c t h (by omega) (by omega)]
  constructor
  all_goals
    intro y
    frame_out
    unfold_payloads
    pointwise

/-- … and a point that ends no run leaves them. -/
theorem sums_kept (c : Dev nD) (t : Fin cfg0.N) (h : ¬t.val % 64 = 0) (h3 : ¬t.val % 4 = 3) :
    (outsAt0 m c t.val t.isLt).2.1 = (outsAt0 m c (t.val - 1) (before t)).2.1
    ∧ (outsAt0 m c t.val t.isLt).2.2.1 = (outsAt0 m c (t.val - 1) (before t)).2.2.1 := by
  by_cases hz : t.val % 4 = 0
  on_goal 1 => rw [outsAt0_D m c t h hz h3]
  on_goal 2 => rw [outsAt0_B m c t h hz h3]
  all_goals exact ⟨rfl, rfl⟩

/-! ## What the kernel leaves -/

/-- A sum over the points of what the points that end a run add is the sum over all rows. -/
theorem sum_rows (f : Fin 16384 → EReal) :
    ∑ t : Fin cfg0.N, (if t.val % 4 = 3 then ∑ r : Fin 1024, f (row t r) else 0) = ∑ n, f n := by
  rw [Fin.sum_divmod_congr (A := 16) (S := 4) (f := fun a s => if s.val = 3 then ∑ r : Fin 1024, f ⟨a.val * 1024 + r.val, by omega⟩ else 0)
    (fun t ha hs => rfl)]
  simp only [show ∀ (a : Fin 16), (∑ s : Fin 4, if s.val = 3 then ∑ r : Fin 1024, f ⟨a.val * 1024 + r.val, by omega⟩ else 0)
    = ∑ r : Fin 1024, f ⟨a.val * 1024 + r.val, by omega⟩ from fun a => by simp [Fin.sum_univ_four]]
  exact Fin.sum_mul_add_congr (S := 16) (n := 1024) (f := f) fun s k hl => rfl

theorem left5 (c : Dev nD) : (dats m 0 c).arrAt 5 cfg0.N
    = Gdx (m (c, main_arg0)) (m (c, main_arg1)) (m (c, main_arg2)) (m (c, main_arg4)) := by
  refine (dats m 0 c).arrAt_eq_of_covers 5 _ (by decide +kernel) fun t hf y => ?_
  blk_simp
  rw [after0_5]
  refine (point5 m c t ((flush0_5 t).mp hf) y).trans (congrArg _ ?_)
  blk_ext [(idx t).2.2.2.2.2.1, row]

theorem left6 (c : Dev nD) : (dats m 0 c).arrAt 6 cfg0.N = Gds (m (c, main_arg0)) (m (c, main_arg1)) (m (c, main_arg3)) := by
  refine (dats m 0 c).arrAt_eq_of_covers 6 _ (by decide +kernel) fun t hf y => ?_
  have ht : t.val + 1 = cfg0.N := by have h := (flush0_6 t).mp hf; have := t.isLt; have e : cfg0.N = 64 := rfl; omega
  blk_simp
  rw [after0_6, Pipeline.eq_sum_fin_of_reset_step_apply_last (fun n h => (outsAt0 m c n h).2.1) 64 (fun _ => 0)
    (fun t y => if t.val % 4 = 3 then ∑ r : Fin 1024, dh (m (c, main_arg0)) (m (c, main_arg1)) (row t r) (y 1) * m (c, main_arg3) (ix2 (row t r) (y 1)) else 0)
    (fun t h y => ?_) (fun t h y => ?_) (by decide) t ht y, zero_add]
  · refine (sum_rows fun n => dh (m (c, main_arg0)) (m (c, main_arg1)) n (y 1) * m (c, main_arg3) (ix2 n (y 1))).trans ?_
    refine congrArg (Gds _ _ _) (a₁ := ix2 (y 0) (y 1)) ?_
    blk_ext [(idx t).2.2.2.2.2.2.1]
  · rw [if_neg (by omega), (sums_first m c t h).1, add_zero]
  · split_ifs with h3
    · exact point6 m c t h3 y
    · rw [(sums_kept m c t h h3).1, add_zero]

theorem left7 (c : Dev nD) : (dats m 0 c).arrAt 7 cfg0.N = Gdt (m (c, main_arg0)) (m (c, main_arg1)) := by
  refine (dats m 0 c).arrAt_eq_of_covers 7 _ (by decide +kernel) fun t hf y => ?_
  have ht : t.val + 1 = cfg0.N := by have h := (flush0_7 t).mp hf; have := t.isLt; have e : cfg0.N = 64 := rfl; omega
  blk_simp
  rw [after0_7, Pipeline.eq_sum_fin_of_reset_step_apply_last (fun n h => (outsAt0 m c n h).2.2.1) 64 (fun _ => 0)
    (fun t y => if t.val % 4 = 3 then ∑ r : Fin 1024, dh (m (c, main_arg0)) (m (c, main_arg1)) (row t r) (y 1) else 0)
    (fun t h y => ?_) (fun t h y => ?_) (by decide) t ht y, zero_add]
  · refine (sum_rows fun n => dh (m (c, main_arg0)) (m (c, main_arg1)) n (y 1)).trans ?_
    refine congrArg (Gdt _ _) (a₁ := ix2 (y 0) (y 1)) ?_
    blk_ext [(idx t).2.2.2.2.2.2.2]
  · rw [if_neg (by omega), (sums_first m c t h).2, add_zero]
  · split_ifs with h3
    · exact point7 m c t h3 y
    · rw [(sums_kept m c t h h3).2, add_zero]

end Cert.ModIdeal.Value
end
-- ==== Proof.Mod.Ref.lean ====
module

public import proofs.«01_k».proof.Proof.Mod.Block
public import proofs.«01_k».proof.Proof.Gen.ModRefIdeal.Read

@[expose] public section

set_option maxRecDepth 16384

noncomputable section

open Idealize.ShloMosaic Idealize.ShloMosaic.TcCoe Idealize.SL.Sem

namespace Cert.ModRefIdeal.Read

open Cert.ModIdeal.Value (Gdx Gds Gdt dh)

variable (dp : S16384x3584.Idx → EReal) (w : S1024x3584.Idx → EReal) (da x : S16384x1024.Idx → EReal) (s : S1x1024.Idx → EReal)

theorem d_h (n : Fin 16384) (j : Fin 1024) : val_main_v9 (F := Ideal) dp w (ix2 n j) = dh dp w n j := by
  pointwise [val_main_v9, val_main_v8, dh]

/-- The reference's results: the gradient of the input, … -/
theorem ref_dx : val_main_v17 (F := Ideal) dp w da s = Gdx dp w da s := by
  funext i
  idx_vars i
  pointwise [val_main_v17, val_main_v16, val_main_v15, val_main_v2, val_main_v1, val_main_cst_0, d_h, Gdx]

/-- … of the scale … -/
theorem ref_ds : val_main_v14 (F := Ideal) dp w x = Gds dp w x := by
  funext i
  idx_vars i
  pointwise [val_main_v14, val_main_v13, val_main_v12, val_main_cst_2, d_h, Gds]
  simp only [mul_comm]

/-- … and of the shift. -/
theorem ref_dt : val_main_v11 (F := Ideal) dp w = Gdt dp w := by
  funext i
  idx_vars i
  pointwise [val_main_v11, val_main_v10, val_main_cst_1, d_h, Gdt]

end Cert.ModRefIdeal.Read
end
-- ==== Proof.Mod.Claims.lean ====
module

public import proofs.«01_k».proof.Defs
public import proofs.«01_k».proof.Proof.Mod.Ref
public import proofs.«01_k».proof.Proof.Gen.Mod.Frame
public import proofs.«01_k».proof.Proof.Gen.ModRefIdeal.Run

@[expose] public section

noncomputable section

open Idealize.ShloMosaic Idealize.ShloMosaic.TcCoe Idealize.SL.Sem

namespace Cert.ModClaims

/-- The kernel terminates without fault, its arguments unchanged, every counter zero. -/
theorem frame : quiescent_Mod (hMod := Cert.Mod.Gen.facts) := fun m ρ _ => Cert.Mod.Gen.frame m ρ

/-- The ideal program, likewise. -/
theorem frame_ideal : quiescent_ModIdeal (hModIdeal := Cert.ModIdeal.Gen.facts) := fun m ρ _ => Cert.ModIdeal.Gen.frame m ρ

/-- The reference, likewise. -/
theorem frame_ref : quiescent_ModRefIdeal (hModRefIdeal := Cert.ModRefIdeal.Gen.facts) := fun m ρ _ =>
  (θ_run Cert.ModRefIdeal.defs _ _).mono (fun r h => ⟨fun c => (h c).2.2.2, sem_eq_zero_of_no_sems (by decide) r.2⟩)
    (Cert.ModRefIdeal.Value.run m ρ)

/-- Kernel and reference leave the same arrays. -/
theorem value : algebraic_ModIdeal_ModRefIdeal (hModIdeal := Cert.ModIdeal.Gen.facts) (hModRefIdeal := Cert.ModRefIdeal.Gen.facts) := by
  intro m ρ m' ρ' _ hargs
  refine ⟨fun c => Cert.ModIdeal.Value.Gdx (m (c, Cert.ModIdeal.main_arg0)) (m (c, Cert.ModIdeal.main_arg1)) (m (c, Cert.ModIdeal.main_arg2)) (m (c, Cert.ModIdeal.main_arg4)), fun c => Cert.ModIdeal.Value.Gds (m (c, Cert.ModIdeal.main_arg0)) (m (c, Cert.ModIdeal.main_arg1)) (m (c, Cert.ModIdeal.main_arg3)), fun c => Cert.ModIdeal.Value.Gdt (m (c, Cert.ModIdeal.main_arg0)) (m (c, Cert.ModIdeal.main_arg1)), ?_, ?_⟩
  · exact (θ_run Cert.ModIdeal.defs _ _).mono (fun r h c => let ⟨h0, h1, h2, rest⟩ := h c
      ⟨h0.trans (Cert.ModIdeal.Value.left5 m c), h1.trans (Cert.ModIdeal.Value.left6 m c), h2.trans (Cert.ModIdeal.Value.left7 m c), rest⟩)
      (Cert.ModIdeal.Value.run_blocks (F := Ideal) m ρ)
  · refine (θ_run Cert.ModRefIdeal.defs _ _).mono (fun r h c => let ⟨h0, h1, h2, rest⟩ := h c
      ⟨h0.trans ?_, h1.trans ?_, h2.trans ?_, rest⟩) (Cert.ModRefIdeal.Value.run (F := Ideal) m' ρ')
    all_goals obtain ⟨a0, a1, a2, a3, a4⟩ := hargs c
    · refine (Cert.ModRefIdeal.Read.val_main_v17_eq (F := Ideal) _ _ _ _).trans ?_
      rw [a0, a1, a2, a4]
      exact Cert.ModRefIdeal.Read.ref_dx _ _ _ _
    · refine (Cert.ModRefIdeal.Read.val_main_v14_eq (F := Ideal) _ _ _).trans ?_
      rw [a0, a1, a3]
      exact Cert.ModRefIdeal.Read.ref_ds _ _ _
    · refine (Cert.ModRefIdeal.Read.val_main_v11_eq (F := Ideal) _ _).trans ?_
      rw [a0, a1]
      exact Cert.ModRefIdeal.Read.ref_dt _ _

end Cert.ModClaims
end
-- ==== Proof.Common.Norm.lean ====
/-
  The norm of a row of 1024 numbers and its gradient: as the program that differentiates the norm's lines computes it, and as the closed formula.
-/
module

public import proofs.«01_k».proof.Proof.Glob.Softmax
public import Idealize.ShloMosaic.Lib.IdealHost
public import Mathlib.Analysis.SpecialFunctions.Pow.Real

@[expose] public section

noncomputable section

namespace Cert.Norm

open Idealize.ShloMosaic
open Cert.GlobRun (coe_sums)

/-- The length of a row, … -/
abbrev len : EReal := Ideal.ofBits .f32 0x44800000#32
/-- … what the norm adds to the variance, … -/
abbrev eps : EReal := Ideal.ofBits .f32 0x3727C5AC#32
/-- … the factor of the residual sum, … -/
abbrev alpha : EReal := Ideal.ofBits .f32 0x3F9837F0#32
/-- … and two factors of the derivative. -/
abbrev two : EReal := Ideal.ofBits .f32 0x40000000#32
abbrev mhalf : EReal := Ideal.ofBits .f32 0xBF000000#32

theorem len_real : len = ((1024 : ℝ) : EReal) := by
  simp [len, Ideal.ofBits, Ideal.ieee]
  rw [← EReal.coe_mul]
  norm_num
theorem two_real : two = ((2 : ℝ) : EReal) := by
  simp [two, Ideal.ofBits, Ideal.ieee]
  rw [← EReal.coe_mul]
  norm_num
theorem mhalf_real : mhalf = ((-1 / 2 : ℝ) : EReal) := by
  simp [mhalf, Ideal.ofBits, Ideal.ieee]
  rw [← EReal.coe_mul]
  norm_num
theorem alpha_real : ∃ a : ℝ, alpha = (a : EReal) := by
  refine ⟨9975792 / 2 ^ 23, ?_⟩
  simp [alpha, Ideal.ofBits, Ideal.ieee]
  rw [← EReal.coe_mul]
  norm_num
theorem eps_real : ∃ e : ℝ, 0 < e ∧ eps = (e : EReal) := by
  refine ⟨10995116 / 2 ^ 40, by norm_num, ?_⟩
  simp [eps, Ideal.ofBits, Ideal.ieee]
  rw [← EReal.coe_mul]
  norm_num

variable (z t x : Fin 1024 → EReal) (r : EReal) (j : Fin 1024)

def mean : EReal := Ideal.div (∑ k, z k) len
/-- What a number is more than the mean. -/
def dev : EReal := z j - mean z
def vare : EReal := Ideal.div (∑ k, dev z k * dev z k) len + eps
/-- The reciprocal of the deviation. -/
def rs : EReal := Ideal.rsqrt (vare z)
/-- The gradient as a formula: `t` is the cotangent times the weights, `x` the normed row and `r` the reciprocal of its deviation. -/
def back : EReal := r * (t j - mean t - x j * mean fun k => t k * x k)
/-- The cotangent of the variance, … -/
def dvar : EReal := Ideal.div ((∑ k, dev z k * t k) * (mhalf * Ideal.div (rs z) (vare z))) len
/-- … and the gradient as the derivatives of the norm's lines. -/
def diff : EReal :=
  t j * rs z + dvar z t * (two * dev z j) + Ideal.div ((∑ k, -(t k * rs z)) + ∑ k, -(dvar z t * (two * dev z k))) len

theorem mean_real (a : Fin 1024 → ℝ) : mean (fun k => (a k : EReal)) = (((∑ k, a k) / 1024 : ℝ) : EReal) := by
  rw [mean, ← coe_sums, len_real, Ideal.div_coe (by norm_num), ← EReal.coe_mul]
  congr 1
  ring

theorem dev_real (a : Fin 1024 → ℝ) : dev (fun k => (a k : EReal)) j = ((a j - (∑ k, a k) / 1024 : ℝ) : EReal) := by
  rw [dev, mean_real, ← EReal.coe_sub]

/-- A row of reals has a positive real for its deviation. -/
theorem rs_real (a : Fin 1024 → ℝ) : ∃ s : ℝ, 0 < s ∧ vare (fun k => (a k : EReal)) = ((s * s : ℝ) : EReal)
    ∧ rs (fun k => (a k : EReal)) = ((1 / s : ℝ) : EReal) := by
  obtain ⟨e, he, ee⟩ := eps_real
  have hv : vare (fun k => (a k : EReal)) = (((∑ k, (a k - (∑ k, a k) / 1024) * (a k - (∑ k, a k) / 1024)) / 1024 + e : ℝ) : EReal) := by
    simp only [vare, dev_real, ← EReal.coe_mul, ← coe_sums]
    rw [ee, len_real, Ideal.div_coe (by norm_num), ← EReal.coe_mul, ← EReal.coe_add]
    congr 1
    ring
  have hp : 0 < (∑ k, (a k - (∑ k, a k) / 1024) * (a k - (∑ k, a k) / 1024)) / 1024 + e := by
    have : 0 ≤ ∑ k, (a k - (∑ k, a k) / 1024) * (a k - (∑ k, a k) / 1024) := Finset.sum_nonneg fun k _ => mul_self_nonneg _
    positivity
  refine ⟨Real.sqrt _, Real.sqrt_pos.mpr hp, ?_, ?_⟩
  · rw [hv, Real.mul_self_sqrt hp.le]
  · rw [rs, hv, Ideal.rsqrt_coe, if_neg (by linarith), if_neg hp.ne', one_div]

/-- On reals the two are the same. -/
theorem diff_eq (a b : Fin 1024 → ℝ) :
    diff (fun k => (a k : EReal)) (fun k => (b k : EReal)) j = back (fun k => (b k : EReal)) (fun k => dev (fun k => (a k : EReal)) k * rs (fun k => (a k : EReal)))
      (rs (fun k => (a k : EReal))) j := by
  obtain ⟨s, hs, hv, hr⟩ := rs_real a
  have e : (∑ k, (a k - (∑ k, a k) / 1024)) = 0 := by
    rw [Finset.sum_sub_distrib, Finset.sum_const, Finset.card_univ, Fintype.card_fin]
    simp
    ring
  have hd : dvar (fun k => (a k : EReal)) (fun k => (b k : EReal)) = (((∑ k, (a k - (∑ k, a k) / 1024) * b k) * (-1 / 2 * (1 / s / (s * s))) / 1024 : ℝ) : EReal) := by
    simp only [dvar, dev_real, hv, hr, mhalf_real, len_real, ← EReal.coe_mul, ← coe_sums]
    rw [Ideal.div_coe (mul_pos hs hs).ne', Ideal.div_coe (by norm_num)]
    simp only [← EReal.coe_mul]
    congr 1
    ring
  rw [diff, back, hd, hr]
  simp only [dev_real, two_real, len_real, ← EReal.coe_mul, ← EReal.coe_neg, ← coe_sums, mean_real, ← EReal.coe_sub, ← EReal.coe_add]
  rw [Ideal.div_coe (by norm_num)]
  simp only [← EReal.coe_mul, ← EReal.coe_add]
  congr 1
  simp only [Finset.sum_neg_distrib, ← Finset.mul_sum, ← Finset.sum_mul, e]
  have e2 : (∑ k, b k * ((a k - (∑ k, a k) / 1024) * (1 / s))) = (∑ k, (a k - (∑ k, a k) / 1024) * b k) * (1 / s) := by
    rw [Finset.sum_mul]
    exact Finset.sum_congr rfl fun k _ => by ring
  rw [e2]
  generalize (∑ k, (a k - (∑ k, a k) / 1024) * b k) = p
  generalize (∑ k, a k) = q
  generalize (∑ k, b k) = u
  field_simp
  ring

end Cert.Norm

end
-- ==== Proof.Common.Finite.lean ====
/-
  Numbers that are neither infinity, and what a precondition of finiteness says.
-/
module

public import Idealize.ShloMosaic.Lib.ReduceAll
public import proofs.«01_k».proof.Proof.Common.Norm

@[expose] public section

noncomputable section

namespace Cert.Finite

open Idealize.ShloMosaic Idealize.ShloMosaic.TcCoe
open Cert.GlobRun (coe_sums)

/-- A number that is neither infinity. -/
abbrev Real' (x : EReal) : Prop := ∃ r : ℝ, x = (r : EReal)

theorem Real'.mul {x y : EReal} : Real' x → Real' y → Real' (x * y) := fun ⟨a, ha⟩ ⟨b, hb⟩ => ⟨a * b, by rw [ha, hb, EReal.coe_mul]⟩
theorem Real'.add {x y : EReal} : Real' x → Real' y → Real' (x + y) := fun ⟨a, ha⟩ ⟨b, hb⟩ => ⟨a + b, by rw [ha, hb, EReal.coe_add]⟩
theorem Real'.sub {x y : EReal} : Real' x → Real' y → Real' (x - y) := fun ⟨a, ha⟩ ⟨b, hb⟩ => ⟨a - b, by rw [ha, hb, EReal.coe_sub]⟩
theorem Real'.sum {n : ℕ} {f : Fin n → EReal} (h : ∀ k, Real' (f k)) : Real' (∑ k, f k) := by
  choose a ha using h
  exact ⟨∑ k, a k, by simp only [ha, coe_sums]⟩

/-- The normed row of a row of numbers is one of numbers. -/
theorem Real'.normed {z : Fin 1024 → EReal} (h : ∀ k, Real' (z k)) (j : Fin 1024) : Real' (Norm.dev z j * Norm.rs z) := by
  choose a ha using h
  obtain ⟨s, -, -, e⟩ := Norm.rs_real a
  rw [show z = fun k => (a k : EReal) from funext ha, Norm.dev_real, e]
  exact ⟨_, (EReal.coe_mul _ _).symm⟩

/-- A number below the bound in absolute value is one. -/
theorem real_of_lt {x : EReal} (h : Ideal.cmp .olt (max x (-x)) (Ideal.ofBits .f32 0x7F800000#32) = 1#1) : Real' x := by
  rw [show Ideal.ofBits .f32 0x7F800000#32 = ⊤ by simp [Ideal.ofBits, Ideal.ieee]] at h
  have hlt : max x (-x) < ⊤ := by
    by_contra hn
    simp [Ideal.cmp, hn] at h
  induction x with
  | bot => simp at hlt
  | coe r => exact ⟨r, rfl⟩
  | top => simp at hlt

/-- Two bits whose conjunction is one. -/
theorem both {S : Shape} {a b : IVec S 1} (h : andi a b = fun _ => 1#1) : a = (fun _ => 1#1) ∧ b = fun _ => 1#1 := by
  have e (i) : a i = 1#1 ∧ b i = 1#1 := by
    have := congrFun h i
    change a i &&& b i = 1#1 at this
    revert this
    generalize a i = p
    generalize b i = q
    revert p q
    decide
  exact ⟨funext fun i => (e i).1, funext fun i => (e i).2⟩

end Cert.Finite

end
-- ==== Proof.Up.Terms.lean ====
/-
  The gradient of the up projection and of the norm before it, entry by entry.
-/
module

public import proofs.«01_k».proof.UpIdeal
public import proofs.«01_k».proof.Proof.Common.Finite
public import Idealize.ShloMosaic.Lib.Pointwise

@[expose] public section

noncomputable section

open Idealize.ShloMosaic Cert.UpIdeal Cert.Norm
open Cert.Finite

namespace Cert.Up

/-- The arguments: the cotangent of the up projection, the projection, the cotangent of the normed sum beside it, the scale, the input, the attention's
output, its gate, the norm's weights and bias. -/
structure Args where
  du : S16384x5632.Idx → EReal
  w : S1024x5632.Idx → EReal
  da : S16384x1024.Idx → EReal
  s : S1x1024.Idx → EReal
  x : S16384x1024.Idx → EReal
  y : S16384x1024.Idx → EReal
  gate : S1x1024.Idx → EReal
  g : S1x1024.Idx → EReal
  b : S1x1024.Idx → EReal

section
variable (A : Args)

/-- A row of the residual sum, … -/
def z (n : Fin 16384) (j : Fin 1024) : EReal := alpha * A.x (ix2 n j) + A.gate (ix2 0 j) * A.y (ix2 n j)
/-- … normed, … -/
def xh (n : Fin 16384) (j : Fin 1024) : EReal := dev (z A n) j * rs (z A n)
/-- … with weights and bias. -/
def x1 (n : Fin 16384) (j : Fin 1024) : EReal := xh A n j * A.g (ix2 0 j) + A.b (ix2 0 j)
abbrev prod (n : Fin 16384) (j : Fin 1024) (k : Fin 5632) : EReal := A.du (ix2 n k) * A.w (ix2 j k)
/-- The gradient of the modulated sum, … -/
def dh (n : Fin 16384) (j : Fin 1024) : EReal := ∑ k : Fin 5632, prod A n j k
/-- … of the normed sum, … -/
def d1 (n : Fin 16384) (j : Fin 1024) : EReal := A.da (ix2 n j) + dh A n j * (1 + A.s (ix2 0 j))
/-- … and of the sum. -/
def dz (n : Fin 16384) (j : Fin 1024) : EReal := back (fun k => d1 A n k * A.g (ix2 0 k)) (xh A n) (rs (z A n)) j

/-- The gradients of the input, of the attention's output, and, as sums over all tokens, of the vectors. -/
def Gdx : S16384x1024.Idx → EReal := fun i => alpha * dz A (i 0) (i 1)
def Gdy : S16384x1024.Idx → EReal := fun i => A.gate (ix2 0 (i 1)) * dz A (i 0) (i 1)
def total (f : Fin 16384 → Fin 1024 → EReal) : S1x1024.Idx → EReal := fun i => ∑ n, f n (i 1)

/-- The derivatives of the norm's lines give the same. -/
def Same : Prop := ∀ n j, diff (z A n) (fun k => d1 A n k * A.g (ix2 0 k)) j = dz A n j

end

/-- On finite arguments. -/
theorem same (A : Args) (hdu : ∀ i, Real' (A.du i)) (hw : ∀ i, Real' (A.w i)) (hda : ∀ i, Real' (A.da i)) (hs : ∀ i, Real' (A.s i)) (hx : ∀ i, Real' (A.x i))
    (hy : ∀ i, Real' (A.y i)) (hgate : ∀ i, Real' (A.gate i)) (hg : ∀ i, Real' (A.g i)) : Same A := by
  intro n j
  have hz (j) : Real' (z A n j) := ((show Real' alpha from alpha_real).mul (hx _)).add ((hgate _).mul (hy _))
  have ht (j) : Real' (d1 A n j * A.g (ix2 0 j)) :=
    ((hda _).add ((Real'.sum fun k => (hdu _).mul (hw _)).mul ((show Real' 1 from ⟨1, rfl⟩).add (hs _)))).mul (hg _)
  choose a ha using hz
  choose b hb using ht
  have ea : z A n = fun k => (a k : EReal) := funext ha
  have eb : (fun k => d1 A n k * A.g (ix2 0 k)) = fun k => (b k : EReal) := funext hb
  have ex : xh A n = fun k => dev (z A n) k * rs (z A n) := rfl
  rw [dz, ex, eb, ea]
  exact diff_eq j a b

end Cert.Up

end
-- ==== Proof.Up.Block.lean ====
module

public import proofs.«01_k».proof.Proof.Gen.UpIdeal.Value
public import proofs.«01_k».proof.Proof.Common.Pieces
public import proofs.«01_k».proof.Proof.Up.Terms
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen Cert.Norm Cert.Up

variable (m : (ℓ : Loc nD τ sig) → Buf (Elt Ideal) ℓ)

abbrev args (c : Dev nD) : Args :=
  ⟨m (c, main_arg0), m (c, main_arg1), m (c, main_arg2), m (c, main_arg3), m (c, main_arg4), m (c, main_arg5), m (c, main_arg6), m (c, main_arg7), m (c, main_arg8)⟩

theorem points (t : Fin cfg0.N) : t.val < 128 := lt_of_lt_of_eq t.isLt N_0

/-- Row `r` of point `t`'s blocks of rows is this row of the arrays, … -/
abbrev row (t : Fin cfg0.N) (r : Fin 512) : Fin 16384 := ⟨t.val / 4 * 512 + r.val, by have := points t; omega⟩

/-- … and column `q` of its block of columns this one. -/
abbrev col (t : Fin cfg0.N) (q : Fin 1408) : Fin 5632 := ⟨t.val % 4 * 1408 + q.val, by omega⟩

/-! ## The host's lines before the call -/

theorem host_du (c : Dev nD) : ∀ i, V m c main_v26 i = m (c, main_arg0) (ix2 (i 1) ⟨(i 0).val * 2816 + (i 2).val, by
    have h0 : (i 0).val < 2 := (i 0).isLt; have h2 : (i 2).val < 2816 := (i 2).isLt; omega⟩) := by
  intro i
  idx_vars i
  simp only [V, hostOps0, List.flatten_cons, List.flatten_nil, List.append_nil, List.cons_append, List.nil_append]
  after_reads_at
  all_goals (try after_reads_at)
  all_goals (try pointwise)

theorem host_w (c : Dev nD) : ∀ i, V m c main_v29 i = m (c, main_arg1) (ix2 (i 1) ⟨(i 0).val * 1408 + (i 2).val, by
    have h0 : (i 0).val < 4 := (i 0).isLt; have h2 : (i 2).val < 1408 := (i 2).isLt; omega⟩) := by
  intro i
  idx_vars i
  simp only [V, hostOps0, List.flatten_cons, List.flatten_nil, List.append_nil, List.cons_append, List.nil_append]
  after_reads_at
  all_goals (try after_reads_at)
  all_goals (try pointwise)

theorem host_mu (c : Dev nD) (n : Fin 16384) (o : Fin 1) : V m c main_v8 (ix2 n o) = mean (z (args m c) n) := by
  simp only [V, hostOps0, List.flatten_cons, List.flatten_nil, List.append_nil, List.cons_append, List.nil_append]
  after_reads_at
  pointwise [mean, z]

theorem host_r (c : Dev nD) (n : Fin 16384) (o : Fin 1) : V m c main_v18 (ix2 n o) = rs (z (args m c) n) := by
  simp only [V, hostOps0, List.flatten_cons, List.flatten_nil, List.append_nil, List.cons_append, List.nil_append]
  after_reads_at
  pointwise [rs, vare, dev, mean, z]

theorem host_x1 (c : Dev nD) (n : Fin 16384) (j : Fin 1024) : V m c main_v24 (ix2 n j) = x1 (args m c) n j := by
  simp only [V, hostOps0, List.flatten_cons, List.flatten_nil, List.append_nil, List.cons_append, List.nil_append]
  after_reads_at
  pointwise [x1, xh, rs, vare, dev, mean, z]

theorem idx : ∀ t : Fin cfg0.N, win0_0.index t = ![t.val % 4 / 2, t.val / 4, t.val % 4 % 2] ∧ win0_1.index t = ![t.val % 4, 0, 0]
    ∧ win0_2.index t = ![t.val / 4, 0] ∧ win0_3.index t = ![t.val / 4, 0] ∧ win0_4.index t = ![0, 0]
    ∧ win0_5.index t = ![t.val / 4, 0] ∧ win0_6.index t = ![t.val / 4, 0] ∧ win0_7.index t = ![t.val / 4, 0] ∧ win0_8.index t = ![t.val / 4, 0]
    ∧ win0_9.index t = ![0, 0] ∧ win0_10.index t = ![0, 0] :=
  (by decide +kernel : ∀ t : Fin grid0.N, _)

theorem idx_out : ∀ t : Fin cfg0.N, win0_11.index t = ![t.val / 4, 0] ∧ win0_12.index t = ![t.val / 4, 0]
    ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

/-- What the blocks of the products hold, … -/
theorem blk (c : Dev nD) (t : Fin cfg0.N) :
    (∀ h r k, iblk m c 0 t (ix3 h r k) = (args m c).du (ix2 (row t r) (col t k)))
    ∧ (∀ h r k, iblk m c 1 t (ix3 h r k) = (args m c).w (ix2 r (col t k))) := by
  obtain ⟨i0, i1, -⟩ := idx t
  have ht := points t
  refine ⟨fun h r k => (?_ : _ = V m c main_v26 (ix3 ⟨t.val % 4 / 2, by omega⟩ (row t r) ⟨t.val % 4 % 2 * 1408 + k.val, by omega⟩)).trans ((host_du m c _).trans ?_),
    fun h r k => (?_ : _ = V m c main_v29 (ix3 ⟨t.val % 4, by omega⟩ r k)).trans (host_w m c _)⟩
  · simp only [iblk]
    blk_point [i0]
  · refine congrArg (args m c).du (congrArg (ix2 (row t r)) (Fin.ext ?_))
    show t.val % 4 / 2 * 2816 + (t.val % 4 % 2 * 1408 + k.val) = t.val % 4 * 1408 + k.val
    omega
  · simp only [iblk]
    blk_point [i1]

/-- … and those of the rows and vectors. -/
theorem rows (c : Dev nD) (t : Fin cfg0.N) :
    (∀ r k, iblk m c 2 t (ix2 r k) = (args m c).da (ix2 (row t r) k))
    ∧ (∀ r k, iblk m c 3 t (ix2 r k) = x1 (args m c) (row t r) k)
    ∧ (∀ r k, iblk m c 4 t (ix2 r k) = (args m c).s (ix2 0 k))
    ∧ (∀ r k, iblk m c 5 t (ix2 r k) = (args m c).x (ix2 (row t r) k))
    ∧ (∀ r k, iblk m c 6 t (ix2 r k) = (args m c).y (ix2 (row t r) k))
    ∧ (∀ r k, iblk m c 7 t (ix2 r k) = mean (z (args m c) (row t r)))
    ∧ (∀ r k, iblk m c 8 t (ix2 r k) = rs (z (args m c) (row t r)))
    ∧ (∀ r k, iblk m c 9 t (ix2 r k) = (args m c).gate (ix2 0 k))
    ∧ (∀ r k, iblk m c 10 t (ix2 r k) = (args m c).g (ix2 0 k)) := by
  obtain ⟨-, -, i2, i3, i4, i5, i6, i7, i8, i9, i10⟩ := idx t
  refine ⟨fun r k => ?_, fun r k => (?_ : _ = V m c main_v24 (ix2 (row t r) k)).trans (host_x1 m c _ _), fun r k => ?_, fun r k => ?_, fun r k => ?_,
    fun r k => (?_ : _ = V m c main_v8 (ix2 (row t r) k)).trans (host_mu m c _ _), fun r k => (?_ : _ = V m c main_v18 (ix2 (row t r) k)).trans (host_r m c _ _),
    fun r k => ?_, fun r k => ?_⟩
  all_goals
    simp only [iblk]
    blk_point [i2, i3, i4, i5, i6, i7, i8, i9, i10]

/-! ## The accumulator -/

/-- What point `t` adds: its block of columns. -/
def part (A : Args) (t : Fin cfg0.N) (r : Fin 512) (j : Fin 1024) : EReal := ∑ q : Fin 1408, A.du (ix2 (row t r) (col t q)) * A.w (ix2 j (col t q))

abbrev before (t : Fin cfg0.N) : t.val - 1 < cfg0.N := Nat.lt_of_le_of_lt (Nat.sub_le _ _) t.isLt

set_option maxHeartbeats 2000000 in
theorem acc_first (c : Dev nD) (t : Fin cfg0.N) (h : t.val % 4 = 0) (y : S512x1024.Idx) :
    (outsAt0 m c t.val t.isLt).2.2.2.2.2.2.2 y = 0 + part (args m c) t (y 0) (y 1) := by
  obtain ⟨b0, b1⟩ := blk m c t
  idx_vars y
  by_cases hz : t.val % 128 = 0
  on_goal 1 => rw [outsAt0_A m c t hz h (by omega)]
  on_goal 2 => rw [outsAt0_D m c t hz h (by omega)]
  all_goals
    frame_out
    unfold_payloads
    pointwise [part]
    simp only [b0, b1]

set_option maxHeartbeats 2000000 in
theorem acc_next (c : Dev nD) (t : Fin cfg0.N) (h : ¬t.val % 4 = 0) (y : S512x1024.Idx) :
    (outsAt0 m c t.val t.isLt).2.2.2.2.2.2.2 y = (outsAt0 m c (t.val - 1) (before t)).2.2.2.2.2.2.2 y
      + part (args m c) t (y 0) (y 1) := by
  obtain ⟨b0, b1⟩ := blk m c t
  idx_vars y
  by_cases hz : t.val % 4 = 3
  on_goal 1 => rw [outsAt0_C m c t (by omega) h hz]
  on_goal 2 => rw [outsAt0_B m c t (by omega) h hz]
  all_goals
    frame_out
    unfold_payloads
    pointwise [part]
    simp only [b0, b1]
    rw [read_unread_whole]

/-- After a run's last point the accumulator holds the whole products. -/
theorem acc_last (c : Dev nD) (t : Fin cfg0.N) (h : t.val % 4 = 3) (y : S512x1024.Idx) :
    (outsAt0 m c t.val t.isLt).2.2.2.2.2.2.2 y = dh (args m c) (row t (y 0)) (y 1) := by
  rw [Pipeline.eq_sum_fin_of_reset_step_apply_of_flush (fun n h => (outsAt0 m c n h).2.2.2.2.2.2.2) 4 (fun _ => 0) _
    (fun t h y => acc_first m c t h y) (fun t h y => acc_next m c t h y) t h y, zero_add]
  refine Fin.sum_mul_add_congr (S := 4) (n := 1408) (f := fun k => prod (args m c) (row t (y 0)) (y 1) k) fun s k hl => ?_
  have e : 4 * (t.val / 4) + s.val = t.val - 3 + s.val := by omega
  have e1 : (t.val - 3 + s.val) / 4 = t.val / 4 := by omega
  have e2 : (t.val - 3 + s.val) % 4 = s.val := by omega
  simp only [row, col, e, e1, e2]

/-- What a run's last point reads there, with its own block of columns added. -/
theorem acc_whole (c : Dev nD) (t : Fin cfg0.N) (h : t.val % 4 = 3) (r : Fin 512) (j : Fin 1024) :
    (outsAt0 m c (t.val - 1) (before t)).2.2.2.2.2.2.2 (ix2 r j) + part (args m c) t r j = dh (args m c) (row t r) j :=
  (acc_next m c t (by omega) (ix2 r j)).symm.trans (acc_last m c t h _)

/-! ## What a run's last point stores -/

set_option maxHeartbeats 4000000 in
/-- The gradients of the input and of the attention's output, … -/
theorem point_rows (c : Dev nD) (t : Fin cfg0.N) (h : t.val % 4 = 3) (y : S512x1024.Idx) :
    (outsAt0 m c t.val t.isLt).1 y = Gdx (args m c) (ix2 (row t (y 0)) (y 1))
    ∧ (outsAt0 m c t.val t.isLt).2.1 y = Gdy (args m c) (ix2 (row t (y 0)) (y 1)) := by
  obtain ⟨b0, b1⟩ := blk m c t
  obtain ⟨b2, b3, b4, b5, b6, b7, b8, b9, b10⟩ := rows m c t
  have e := acc_whole m c t h
  idx_vars y
  rw [outsAt0_C m c t (by omega) (by omega) h]
  constructor
  all_goals
    frame_out
    unfold_payloads
    pointwise [Gdx, Gdy, dz]
    unfold part at e
    simp only [b0, b1, b2, b3, b4, b5, b6, b7, b8, b9, b10]
    simp only [read_unread_whole, e]
    rfl

/-- What the five vectors sum: the terms of the gradients of scale, shift, weights, bias and gate. -/
def terms (A : Args) : Fin 5 → Fin 16384 → Fin 1024 → EReal := ![fun n j => dh A n j * x1 A n j, dh A, fun n j => d1 A n j * xh A n j, d1 A,
  fun n j => dz A n j * A.y (ix2 n j)]

/-- The sums so far, after point `n`. -/
def sums (c : Dev nD) (n : ℕ) (h : n < cfg0.N) : Fin 5 → S1x1024.Idx → EReal := ![(outsAt0 m c n h).2.2.1, (outsAt0 m c n h).2.2.2.1, (outsAt0 m c n h).2.2.2.2.1,
  (outsAt0 m c n h).2.2.2.2.2.1, (outsAt0 m c n h).2.2.2.2.2.2.1]

set_option maxHeartbeats 4000000 in
/-- … and its rows added to the sums. -/
theorem point_sums (c : Dev nD) (t : Fin cfg0.N) (h : t.val % 4 = 3) (v : Fin 5) (y : S1x1024.Idx) :
    sums m c t.val t.isLt v y = sums m c (t.val - 1) (before t) v y + ∑ r : Fin 512, terms (args m c) v (row t r) (y 1) := by
  obtain ⟨b0, b1⟩ := blk m c t
  obtain ⟨b2, b3, b4, b5, b6, b7, b8, b9, b10⟩ := rows m c t
  have e := acc_whole m c t h
  idx_vars y
  unfold part at e
  unfold sums
  rw [outsAt0_C m c t (by omega) (by omega) h]
  fin_cases v
  all_goals
    dsimp only [terms, Fin.reduceFinMk, Matrix.cons_val]
    frame_out
    unfold_payloads
    pointwise
    simp only [b0, b1, b2, b3, b4, b5, b6, b7, b8, b9, b10]
    simp only [read_unread_whole, e]
    try rfl

/-- The first point of all clears the sums, … -/
theorem sums_first (c : Dev nD) (t : Fin cfg0.N) (h : t.val % 128 = 0) (v : Fin 5) (y : S1x1024.Idx) : sums m c t.val t.isLt v y = 0 := by
  unfold sums
  rw [outsAt0_A m c t h (by omega) (by omega)]
  fin_cases v
  all_goals
    dsimp only [Fin.reduceFinMk, Matrix.cons_val]
    frame_out
    unfold_payloads
    pointwise

/-- … and a point that ends no run leaves them. -/
theorem sums_kept (c : Dev nD) (t : Fin cfg0.N) (h : ¬t.val % 128 = 0) (h3 : ¬t.val % 4 = 3) (v : Fin 5) :
    sums m c t.val t.isLt v = sums m c (t.val - 1) (before t) v := by
  unfold sums
  by_cases hz : t.val % 4 = 0
  on_goal 1 => rw [outsAt0_D m c t h hz h3]
  on_goal 2 => rw [outsAt0_B m c t h hz h3]
  all_goals
    fin_cases v
    all_goals rfl

/-- A sum over the points of what the points that end a run add is the sum over all rows. -/
theorem sum_rows (f : Fin 16384 → EReal) :
    ∑ t : Fin cfg0.N, (if t.val % 4 = 3 then ∑ r : Fin 512, f (row t r) else 0) = ∑ n, f n := by
  rw [Fin.sum_divmod_congr (A := 32) (S := 4) (f := fun a s => if s.val = 3 then ∑ r : Fin 512, f ⟨a.val * 512 + r.val, by omega⟩ else 0)
    (fun t ha hs => rfl)]
  simp only [show ∀ (a : Fin 32), (∑ s : Fin 4, if s.val = 3 then ∑ r : Fin 512, f ⟨a.val * 512 + r.val, by omega⟩ else 0)
    = ∑ r : Fin 512, f ⟨a.val * 512 + r.val, by omega⟩ from fun a => by simp [Fin.sum_univ_four]]
  exact Fin.sum_mul_add_congr (S := 32) (n := 512) (f := f) fun s k hl => rfl

/-- After the last point of all they are sums over all rows. -/
theorem sums_last (c : Dev nD) (t : Fin cfg0.N) (ht : t.val + 1 = cfg0.N) (v : Fin 5) (y : S1x1024.Idx) :
    sums m c t.val t.isLt v y = total (terms (args m c) v) (ix2 (y 0) (y 1)) := by
  rw [Pipeline.eq_sum_fin_of_reset_step_apply_last (fun n h => sums m c n h v) 128 (fun _ => 0)
    (fun t y => if t.val % 4 = 3 then ∑ r : Fin 512, terms (args m c) v (row t r) (y 1) else 0)
    (fun t h y => ?_) (fun t h y => ?_) (by decide) t ht y, zero_add]
  · exact sum_rows fun n => terms (args m c) v n (y 1)
  · rw [if_neg (by omega), sums_first m c t h, add_zero]
  · split_ifs with h3
    · exact point_sums m c t h3 v y
    · rw [sums_kept m c t h h3, add_zero]

/-! ## What the kernel leaves -/

theorem left11 (c : Dev nD) : (dats m 0 c).arrAt 11 cfg0.N = Gdx (args m c) := by
  refine (dats m 0 c).arrAt_eq_of_covers 11 _ (by decide +kernel) fun t hf y => ?_
  blk_simp
  rw [after0_11]
  refine (point_rows m c t ((flush0_11 t).mp hf) y).1.trans (congrArg _ ?_)
  blk_ext [(idx_out t).1, row]

theorem left12 (c : Dev nD) : (dats m 0 c).arrAt 12 cfg0.N = Gdy (args m c) := by
  refine (dats m 0 c).arrAt_eq_of_covers 12 _ (by decide +kernel) fun t hf y => ?_
  blk_simp
  rw [after0_12]
  refine (point_rows m c t ((flush0_12 t).mp hf) y).2.trans (congrArg _ ?_)
  blk_ext [(idx_out t).2.1, row]

theorem left13 (c : Dev nD) : (dats m 0 c).arrAt 13 cfg0.N = total (terms (args m c) 0) := by
  refine (dats m 0 c).arrAt_eq_of_covers 13 _ (by decide +kernel) fun t hf y => ?_
  have ht : t.val + 1 = cfg0.N := by have h := (flush0_13 t).mp hf; have := t.isLt; have e : cfg0.N = 128 := rfl; omega
  blk_simp
  rw [after0_13]
  refine (sums_last m c t ht 0 y).trans (congrArg _ ?_)
  blk_ext [(idx_out t).2.2.1]

theorem left14 (c : Dev nD) : (dats m 0 c).arrAt 14 cfg0.N = total (terms (args m c) 1) := by
  refine (dats m 0 c).arrAt_eq_of_covers 14 _ (by decide +kernel) fun t hf y => ?_
  have ht : t.val + 1 = cfg0.N := by have h := (flush0_14 t).mp hf; have := t.isLt; have e : cfg0.N = 128 := rfl; omega
  blk_simp
  rw [after0_14]
  refine (sums_last m c t ht 1 y).trans (congrArg _ ?_)
  blk_ext [(idx_out t).2.2.2.1]

theorem left15 (c : Dev nD) : (dats m 0 c).arrAt 15 cfg0.N = total (terms (args m c) 2) := by
  refine (dats m 0 c).arrAt_eq_of_covers 15 _ (by decide +kernel) fun t hf y => ?_
  have ht : t.val + 1 = cfg0.N := by have h := (flush0_15 t).mp hf; have := t.isLt; have e : cfg0.N = 128 := rfl; omega
  blk_simp
  rw [after0_15]
  refine (sums_last m c t ht 2 y).trans (congrArg _ ?_)
  blk_ext [(idx_out t).2.2.2.2.1]

theorem left16 (c : Dev nD) : (dats m 0 c).arrAt 16 cfg0.N = total (terms (args m c) 3) := by
  refine (dats m 0 c).arrAt_eq_of_covers 16 _ (by decide +kernel) fun t hf y => ?_
  have ht : t.val + 1 = cfg0.N := by have h := (flush0_16 t).mp hf; have := t.isLt; have e : cfg0.N = 128 := rfl; omega
  blk_simp
  rw [after0_16]
  refine (sums_last m c t ht 3 y).trans (congrArg _ ?_)
  blk_ext [(idx_out t).2.2.2.2.2.1]

theorem left17 (c : Dev nD) : (dats m 0 c).arrAt 17 cfg0.N = total (terms (args m c) 4) := by
  refine (dats m 0 c).arrAt_eq_of_covers 17 _ (by decide +kernel) fun t hf y => ?_
  have ht : t.val + 1 = cfg0.N := by have h := (flush0_17 t).mp hf; have := t.isLt; have e : cfg0.N = 128 := rfl; omega
  blk_simp
  rw [after0_17]
  refine (sums_last m c t ht 4 y).trans (congrArg _ ?_)
  blk_ext [(idx_out t).2.2.2.2.2.2]

end Cert.UpIdeal.Value

end
-- ==== Proof.Up.Ref.lean ====
module

public import proofs.«01_k».proof.Proof.Up.Terms
public import proofs.«01_k».proof.Proof.Gen.UpRefIdeal.Read

@[expose] public section

set_option maxRecDepth 16384

noncomputable section

open Idealize.ShloMosaic Idealize.ShloMosaic.TcCoe Idealize.SL.Sem

namespace Cert.UpRefIdeal.Read

open Cert.Up Cert.Norm

variable (A : Args)

theorem r_z (n : Fin 16384) (j : Fin 1024) : val_main_v5 (F := Ideal) A.x A.y A.gate (ix2 n j) = z A n j := by
  pointwise [val_main_v5, val_main_v4, val_main_v3, val_main_v2, val_main_v1, val_main_cst_0, z]

theorem r_mean (n : Fin 16384) (o : Fin 1) : val_main_v9 (F := Ideal) A.x A.y A.gate (ix2 n o) = mean (z A n) := by
  pointwise [val_main_v9, val_main_v8, val_main_v7, val_main_v6, val_main_cst_1, val_main_cst_2, r_z, mean]

theorem r_dev (n : Fin 16384) (j : Fin 1024) : val_main_v11 (F := Ideal) A.x A.y A.gate (ix2 n j) = dev (z A n) j := by
  pointwise [val_main_v11, val_main_v10, r_z, r_mean, dev]

theorem r_dev' (n : Fin 16384) (j : Fin 1024) : val_main_v20 (F := Ideal) A.x A.y A.gate (ix2 n j) = dev (z A n) j := by
  pointwise [val_main_v20, val_main_v19, r_z, r_mean, dev]

theorem r_var (n : Fin 16384) (o : Fin 1) : val_main_v22 (F := Ideal) A.x A.y A.gate (ix2 n o) = vare (z A n) := by
  pointwise [val_main_v22, val_main_v21, val_main_cst_6, val_main_v18, val_main_v17, val_main_cst_5, val_main_v16, val_main_v15, val_main_cst_4, val_main_v12, r_dev, vare]

theorem r_rs (n : Fin 16384) (o : Fin 1) : val_main_v23 (F := Ideal) A.x A.y A.gate (ix2 n o) = rs (z A n) := by
  pointwise [val_main_v23, r_var, rs]

theorem r_xh (n : Fin 16384) (j : Fin 1024) : val_main_v28 (F := Ideal) A.x A.y A.gate (ix2 n j) = xh A n j := by
  pointwise [val_main_v28, val_main_v27, r_dev', r_rs, xh]

theorem r_x1 (n : Fin 16384) (j : Fin 1024) : val_main_v32 (F := Ideal) A.x A.y A.gate A.g A.b (ix2 n j) = x1 A n j := by
  pointwise [val_main_v32, val_main_v31, val_main_v30, val_main_v29, r_xh, x1]

theorem r_dh (n : Fin 16384) (j : Fin 1024) : val_main_v41 (F := Ideal) A.du A.w (ix2 n j) = dh A n j := by
  pointwise [val_main_v41, val_main_v40, dh]

theorem r_d1 (n : Fin 16384) (j : Fin 1024) : val_main_v49 (F := Ideal) A.du A.w A.da A.s (ix2 n j) = d1 A n j := by
  pointwise [val_main_v49, val_main_v48, val_main_v47, val_main_v34, val_main_v33, val_main_cst_8, r_dh, d1]

theorem r_d1' (n : Fin 16384) (j : Fin 1024) : val_main_v50 (F := Ideal) A.du A.w A.da A.s (ix2 n j) = d1 A n j := by
  pointwise [val_main_v50, r_d1]

theorem r_t (n : Fin 16384) (j : Fin 1024) : val_main_v57 (F := Ideal) A.du A.w A.da A.s A.g (ix2 n j) = d1 A n j * A.g (ix2 0 j) := by
  pointwise [val_main_v57, val_main_v56, r_d1']

/-- The derivatives of the norm's lines, row by row. -/
theorem r_dz (n : Fin 16384) (j : Fin 1024) : val_main_v81 (F := Ideal) A.du A.w A.da A.s A.x A.y A.gate A.g (ix2 n j)
    = diff (z A n) (fun k => d1 A n k * A.g (ix2 0 k)) j := by
  have v (o : Fin 1) : val_main_v68 (F := Ideal) A.du A.w A.da A.s A.x A.y A.gate A.g (ix2 n o) = dvar (z A n) (fun k => d1 A n k * A.g (ix2 0 k)) := by
    pointwise [val_main_v68, val_main_v67, val_main_cst_15, val_main_v63, val_main_v60, val_main_v59, val_main_cst_13, val_main_v58, val_main_v26, val_main_v25,
      val_main_cst_7, val_main_v24, r_dev', r_t, r_rs, r_var, dvar]
  have p (j : Fin 1024) : val_main_v71 (F := Ideal) A.du A.w A.da A.s A.x A.y A.gate A.g (ix2 n j)
      = dvar (z A n) (fun k => d1 A n k * A.g (ix2 0 k)) * (two * dev (z A n) j) := by
    pointwise [val_main_v71, val_main_v70, val_main_v69, val_main_cst_16, val_main_v14, val_main_v13, val_main_cst_3, r_dev, v]
    simp only [Finset.univ_unique, Finset.sum_singleton]
  have q (j : Fin 1024) : val_main_v62 (F := Ideal) A.du A.w A.da A.s A.x A.y A.gate A.g (ix2 n j) = d1 A n j * A.g (ix2 0 j) * rs (z A n) := by
    pointwise [val_main_v62, val_main_v61, r_t, r_rs]
  pointwise [val_main_v81, val_main_v80, val_main_v79, val_main_cst_19, val_main_v78, val_main_v77, val_main_cst_18, val_main_v76, val_main_v75, val_main_v74,
    val_main_v73, val_main_cst_17, val_main_v72, val_main_v66, val_main_v65, val_main_cst_14, val_main_v64, p, q, diff]
  simp only [Finset.univ_unique, Finset.sum_singleton]

/-- The reference's results: the gradients of the input … -/
theorem ref_dx (h : Same A) : val_main_v88 (F := Ideal) A.du A.w A.da A.s A.x A.y A.gate A.g = Gdx A := by
  funext i
  idx_vars i
  pointwise [val_main_v88, val_main_v87, val_main_cst_21, r_dz, h i0 i1, Gdx]

/-- … and of the attention's output, … -/
theorem ref_dy (h : Same A) : val_main_v89 (F := Ideal) A.du A.w A.da A.s A.x A.y A.gate A.g = Gdy A := by
  funext i
  idx_vars i
  pointwise [val_main_v89, val_main_v83, val_main_v82, r_dz, h i0 i1, Gdy]

/-- … of the scale … -/
theorem ref_dscale : val_main_v46 (F := Ideal) A.du A.w A.x A.y A.gate A.g A.b = total (fun n j => dh A n j * x1 A n j) := by
  funext i
  idx_vars i
  pointwise [val_main_v46, val_main_v45, val_main_cst_10, val_main_v44, r_x1, r_dh, total]
  simp only [mul_comm]

/-- … and of the shift, … -/
theorem ref_dshift : val_main_v43 (F := Ideal) A.du A.w = total (dh A) := by
  funext i
  idx_vars i
  pointwise [val_main_v43, val_main_v42, val_main_cst_9, r_dh, total]

/-- … of the norm's weights … -/
theorem ref_dg : val_main_v55 (F := Ideal) A.du A.w A.da A.s A.x A.y A.gate = total (fun n j => d1 A n j * xh A n j) := by
  funext i
  idx_vars i
  pointwise [val_main_v55, val_main_v54, val_main_cst_12, val_main_v53, r_xh, r_d1', total]
  simp only [mul_comm]

/-- … and of its bias, … -/
theorem ref_db : val_main_v52 (F := Ideal) A.du A.w A.da A.s = total (d1 A) := by
  funext i
  idx_vars i
  pointwise [val_main_v52, val_main_v51, val_main_cst_11, r_d1, total]

/-- … and of the gate. -/
theorem ref_dgate (h : Same A) : val_main_v86 (F := Ideal) A.du A.w A.da A.s A.x A.y A.gate A.g = total (fun n j => dz A n j * A.y (ix2 n j)) := by
  funext i
  idx_vars i
  pointwise [val_main_v86, val_main_v85, val_main_cst_20, val_main_v84, r_dz, total]
  exact Finset.sum_congr rfl fun n _ => by rw [h n i1]

end Cert.UpRefIdeal.Read
end
-- ==== Proof.Up.Finite.lean ====
/-
  The precondition says that the arguments are finite.
-/
module

public import proofs.«01_k».proof.Pre_up_finite
public import proofs.«01_k».proof.Proof.Common.Finite

@[expose] public section

set_option maxRecDepth 16384

noncomputable section

namespace Cert.Up

open Idealize.ShloMosaic Idealize.ShloMosaic.TcCoe Cert.Pre_up_finite Cert.Finite

variable [Cert.Pre_up_finite.Facts]
open Cert.Pre_up_finite.Facts

/-- What the precondition says, of all arguments but the last. -/
theorem finite_all (du : FVec Ideal S16384x5632 .bf16) (w : FVec Ideal S1024x5632 .f32) (da x y : FVec Ideal S16384x1024 .f32) (s gate g b : FVec Ideal S1x1024 .f32)
    (h : fn (F := Ideal) du w da s x y gate g b = fun _ => 1#1) :
    (∀ i, Real' (du i)) ∧ (∀ i, Real' (w i)) ∧ (∀ i, Real' (da i)) ∧ (∀ i, Real' (s i)) ∧ (∀ i, Real' (x i)) ∧ (∀ i, Real' (y i)) ∧ (∀ i, Real' (gate i)) ∧ (∀ i, Real' (g i)) := by
  unfold fn fn_part1 fn_part2 at h
  dsimp only at h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h1⟩ := both h
  refine ⟨fun i => real_of_lt ?_, fun i => real_of_lt ?_, fun i => real_of_lt ?_, fun i => real_of_lt ?_, fun i => real_of_lt ?_, fun i => real_of_lt ?_, fun i => real_of_lt ?_, fun i => real_of_lt ?_⟩
  · exact Host.reduce_andi_all _ _ _ _ _ (congrFun h (Shape.Idx.first h_S_)) i
  · exact Host.reduce_andi_all _ _ _ _ _ (congrFun h1 (Shape.Idx.first h_S_)) i
  · exact Host.reduce_andi_all _ _ _ _ _ (congrFun h2 (Shape.Idx.first h_S_)) i
  · exact Host.reduce_andi_all _ _ _ _ _ (congrFun h3 (Shape.Idx.first h_S_)) i
  · exact Host.reduce_andi_all _ _ _ _ _ (congrFun h4 (Shape.Idx.first h_S_)) i
  · exact Host.reduce_andi_all _ _ _ _ _ (congrFun h5 (Shape.Idx.first h_S_)) i
  · exact Host.reduce_andi_all _ _ _ _ _ (congrFun h6 (Shape.Idx.first h_S_)) i
  · exact Host.reduce_andi_all _ _ _ _ _ (congrFun h7 (Shape.Idx.first h_S_)) i

end Cert.Up

end
-- ==== Proof.Up.Claims.lean ====
module

public import proofs.«01_k».proof.Defs
public import proofs.«01_k».proof.Proof.Up.Block
public import proofs.«01_k».proof.Proof.Up.Ref
public import proofs.«01_k».proof.Proof.Up.Finite
public import proofs.«01_k».proof.Proof.Gen.Up.Frame
public import proofs.«01_k».proof.Proof.Gen.UpRefIdeal.Run

@[expose] public section

set_option maxRecDepth 16384

noncomputable section

open Idealize.ShloMosaic Idealize.ShloMosaic.TcCoe Idealize.SL.Sem

namespace Cert.UpClaims

open Cert.Up

/-- The kernel terminates without fault, its arguments unchanged, every counter zero. -/
theorem frame : quiescent_Up (hUp := Cert.Up.Gen.facts) := fun m ρ _ => Cert.Up.Gen.frame m ρ

/-- The ideal program, likewise. -/
theorem frame_ideal : quiescent_UpIdeal (hUpIdeal := Cert.UpIdeal.Gen.facts) := fun m ρ _ => Cert.UpIdeal.Gen.frame m ρ

/-- The reference, likewise. -/
theorem frame_ref : quiescent_UpRefIdeal (hUpRefIdeal := Cert.UpRefIdeal.Gen.facts) := fun m ρ _ =>
  (θ_run Cert.UpRefIdeal.defs _ _).mono (fun r h => ⟨fun c => (h c).2.2.2.2.2.2.2, sem_eq_zero_of_no_sems (by decide) r.2⟩)
    (Cert.UpRefIdeal.Value.run m ρ)

variable [hPre : Cert.Pre_up_finite.Facts]

/-- The ideal program and the reference on finite arguments: as on any. -/
theorem frame_ideal_pre : quiescent_UpIdeal_pre_up_finite (hUpIdeal := Cert.UpIdeal.Gen.facts) := fun m ρ _ => frame_ideal m ρ trivial
theorem frame_ref_pre : quiescent_UpRefIdeal_pre_up_finite (hUpRefIdeal := Cert.UpRefIdeal.Gen.facts) := fun m ρ _ => frame_ref m ρ trivial

set_option maxHeartbeats 8000000 in
/-- On finite arguments kernel and reference leave the same arrays. -/
theorem value : algebraic_UpIdeal_UpRefIdeal_pre_up_finite (hUpIdeal := Cert.UpIdeal.Gen.facts) (hUpRefIdeal := Cert.UpRefIdeal.Gen.facts) := by
  intro m ρ m' ρ' hpre hargs
  have same (c) : Same (Cert.UpIdeal.Value.args m c) := by
    obtain ⟨h0, h1, h2, h3, h4, h5, h6, h7⟩ := finite_all _ _ _ _ _ _ _ _ _ (hpre c)
    exact same _ h0 h1 h2 h3 h4 h5 h6 h7
  refine ⟨fun c => Gdx (Cert.UpIdeal.Value.args m c), fun c => Gdy (Cert.UpIdeal.Value.args m c), fun c => total (fun n j => dh (Cert.UpIdeal.Value.args m c) n j * x1 (Cert.UpIdeal.Value.args m c) n j), fun c => total (dh (Cert.UpIdeal.Value.args m c)), fun c => total (fun n j => d1 (Cert.UpIdeal.Value.args m c) n j * xh (Cert.UpIdeal.Value.args m c) n j), fun c => total (d1 (Cert.UpIdeal.Value.args m c)), fun c => total (fun n j => dz (Cert.UpIdeal.Value.args m c) n j * Args.y (Cert.UpIdeal.Value.args m c) (ix2 n j)), ?_, ?_⟩
  · exact (θ_run Cert.UpIdeal.defs _ _).mono (fun r h c => let ⟨h0, h1, h2, h3, h4, h5, h6, rest⟩ := h c
      ⟨h0.trans (Cert.UpIdeal.Value.left11 m c), h1.trans (Cert.UpIdeal.Value.left12 m c), h2.trans (Cert.UpIdeal.Value.left13 m c), h3.trans (Cert.UpIdeal.Value.left14 m c), h4.trans (Cert.UpIdeal.Value.left15 m c), h5.trans (Cert.UpIdeal.Value.left16 m c), h6.trans (Cert.UpIdeal.Value.left17 m c), rest⟩) (Cert.UpIdeal.Value.run_blocks (F := Ideal) m ρ)
  · refine (θ_run Cert.UpRefIdeal.defs _ _).mono (fun r h c => let ⟨h0, h1, h2, h3, h4, h5, h6, rest⟩ := h c
      ⟨h0.trans ?_, h1.trans ?_, h2.trans ?_, h3.trans ?_, h4.trans ?_, h5.trans ?_, h6.trans ?_, rest⟩) (Cert.UpRefIdeal.Value.run (F := Ideal) m' ρ')
    all_goals obtain ⟨a0, a1, a2, a3, a4, a5, a6, a7, a8⟩ := hargs c
    · refine (Cert.UpRefIdeal.Read.val_main_v88_eq (F := Ideal) m' c).trans ?_
      rw [a0, a1, a2, a3, a4, a5, a6, a7]
      exact Cert.UpRefIdeal.Read.ref_dx (Cert.UpIdeal.Value.args m c) (same c)
    · refine (Cert.UpRefIdeal.Read.val_main_v89_eq (F := Ideal) m' c).trans ?_
      rw [a0, a1, a2, a3, a4, a5, a6, a7]
      exact Cert.UpRefIdeal.Read.ref_dy (Cert.UpIdeal.Value.args m c) (same c)
    · refine (Cert.UpRefIdeal.Read.val_main_v46_eq (F := Ideal) _ _ _ _ _ _ _).trans ?_
      rw [a0, a1, a4, a5, a6, a7, a8]
      exact Cert.UpRefIdeal.Read.ref_dscale (Cert.UpIdeal.Value.args m c)
    · refine (Cert.UpRefIdeal.Read.val_main_v43_eq (F := Ideal) _ _).trans ?_
      rw [a0, a1]
      exact Cert.UpRefIdeal.Read.ref_dshift (Cert.UpIdeal.Value.args m c)
    · refine (Cert.UpRefIdeal.Read.val_main_v55_eq (F := Ideal) _ _ _ _ _ _ _).trans ?_
      rw [a0, a1, a2, a3, a4, a5, a6]
      exact Cert.UpRefIdeal.Read.ref_dg (Cert.UpIdeal.Value.args m c)
    · refine (Cert.UpRefIdeal.Read.val_main_v52_eq (F := Ideal) _ _ _ _).trans ?_
      rw [a0, a1, a2, a3]
      exact Cert.UpRefIdeal.Read.ref_db (Cert.UpIdeal.Value.args m c)
    · refine (Cert.UpRefIdeal.Read.val_main_v86_eq (F := Ideal) m' c).trans ?_
      rw [a0, a1, a2, a3, a4, a5, a6, a7]
      exact Cert.UpRefIdeal.Read.ref_dgate (Cert.UpIdeal.Value.args m c) (same c)

end Cert.UpClaims
end
-- ==== Proof.Down.Terms.lean ====
/-
  The loss after the down projection and the second norm, and the gradients under it, entry by entry.
-/
module

public import proofs.«01_k».proof.DownIdeal
public import proofs.«01_k».proof.Proof.Common.Finite
public import Idealize.ShloMosaic.Lib.Pointwise

@[expose] public section

noncomputable section

open Idealize.ShloMosaic Cert.DownIdeal Cert.Norm
open Cert.Finite
open Cert.GlobRun (coe_sums)

namespace Cert.Down

/-- A half, … -/
abbrev half : EReal := Ideal.ofBits .f32 0x3F000000#32
/-- … the length's reciprocal … -/
abbrev inv : EReal := Ideal.ofBits .f32 0x3A800000#32
/-- … and its half. -/
abbrev hinv : EReal := Ideal.ofBits .f32 0x3A000000#32

theorem half_real : half = ((1 / 2 : ℝ) : EReal) := by
  simp [half, Ideal.ofBits, Ideal.ieee]
  rw [← EReal.coe_mul]
  norm_num
theorem inv_real : inv = ((1 / 1024 : ℝ) : EReal) := by
  simp [inv, Ideal.ofBits, Ideal.ieee]
  rw [← EReal.coe_mul]
  norm_num
theorem hinv_real : hinv = ((1 / 2048 : ℝ) : EReal) := by
  simp [hinv, Ideal.ofBits, Ideal.ieee]
  rw [← EReal.coe_mul]
  norm_num

/-- The arguments: the gated values, the projection, the first normed sum, the target, the second gate, the norm's weights and bias. -/
structure Args where
  a : S16384x2816.Idx → EReal
  w : S2816x1024.Idx → EReal
  x1 : S16384x1024.Idx → EReal
  target : S16384x1024.Idx → EReal
  gate : S1x1024.Idx → EReal
  g : S1x1024.Idx → EReal
  b : S1x1024.Idx → EReal

section
variable (A : Args)

/-- The projection, … -/
def pr (n : Fin 16384) (j : Fin 1024) : EReal := ∑ k : Fin 2816, A.a (ix2 n k) * A.w (ix2 k j)
/-- … the residual sum, … -/
def z (n : Fin 16384) (j : Fin 1024) : EReal := alpha * A.x1 (ix2 n j) + A.gate (ix2 0 j) * pr A n j
/-- … normed, … -/
def xh (n : Fin 16384) (j : Fin 1024) : EReal := dev (z A n) j * rs (z A n)
/-- … and what it is more than the target. -/
def df (n : Fin 16384) (j : Fin 1024) : EReal := xh A n j * A.g (ix2 0 j) + A.b (ix2 0 j) - A.target (ix2 n j)
/-- The gradient of the normed sum with weights and bias … -/
def d2 (n : Fin 16384) (j : Fin 1024) : EReal := df A n j * inv
/-- … and of the sum. -/
def dz (n : Fin 16384) (j : Fin 1024) : EReal := back (fun k => d2 A n k * A.g (ix2 0 k)) (xh A n) (rs (z A n)) j

/-- A row of the array, from its block of 512 rows. -/
abbrev at' (t : Fin 32) (r : Fin 512) : Fin 16384 := ⟨t.val * 512 + r.val, by omega⟩

/-- The loss of each block of rows, the gradients of the projection's result and of the first normed sum, and, as sums over all tokens, of the
vectors. -/
def Gloss : S32x8x128.Idx → EReal := fun i => hinv * ∑ r : Fin 512, ∑ j : Fin 1024, df A (at' (i 0) r) j * df A (at' (i 0) r) j
def Gdy : S16384x1024.Idx → EReal := fun i => A.gate (ix2 0 (i 1)) * dz A (i 0) (i 1)
def Gdx : S16384x1024.Idx → EReal := fun i => alpha * dz A (i 0) (i 1)
def total (f : Fin 16384 → Fin 1024 → EReal) : S1x1024.Idx → EReal := fun i => ∑ n, f n (i 1)

/-- The derivatives of the norm's lines give the same, … -/
def Same : Prop := ∀ n j, diff (z A n) (fun k => d2 A n k * A.g (ix2 0 k)) j = dz A n j
/-- … and so do the means of the rows' squares, each halved. -/
def SameLoss : Prop := ∀ t : Fin 32, ∑ r : Fin 512, half * Ideal.div (∑ j : Fin 1024, df A (at' t r) j * df A (at' t r) j) len
  = hinv * ∑ r : Fin 512, ∑ j : Fin 1024, df A (at' t r) j * df A (at' t r) j

end

/-- On finite arguments. -/
theorem same (A : Args) (ha : ∀ i, Real' (A.a i)) (hw : ∀ i, Real' (A.w i)) (hx : ∀ i, Real' (A.x1 i)) (ht : ∀ i, Real' (A.target i))
    (hgate : ∀ i, Real' (A.gate i)) (hg : ∀ i, Real' (A.g i)) (hb : ∀ i, Real' (A.b i)) : Same A ∧ SameLoss A := by
  have hz (n j) : Real' (z A n j) := ((show Real' alpha from alpha_real).mul (hx _)).add ((hgate _).mul (Real'.sum fun k => (ha _).mul (hw _)))
  have hd (n j) : Real' (df A n j) := (((Real'.normed (hz n) j).mul (hg _)).add (hb _)).sub (ht _)
  constructor
  · intro n j
    have h2 (j) : Real' (d2 A n j * A.g (ix2 0 j)) := ((hd n j).mul ⟨_, inv_real⟩).mul (hg _)
    choose a ha using hz n
    choose b hb using h2
    have ea : z A n = fun k => (a k : EReal) := funext ha
    have eb : (fun k => d2 A n k * A.g (ix2 0 k)) = fun k => (b k : EReal) := funext hb
    have ex : xh A n = fun k => dev (z A n) k * rs (z A n) := rfl
    rw [dz, ex, eb, ea]
    exact diff_eq j a b
  · intro t
    choose f hf using hd
    simp only [hf, ← EReal.coe_mul, ← coe_sums, len_real, half_real, hinv_real, Ideal.div_coe (show (1024 : ℝ) ≠ 0 by norm_num)]
    congr 1
    rw [Finset.mul_sum]
    exact Finset.sum_congr rfl fun r _ => by ring

/-- The gradient of the half mean square. -/
theorem d2_eq (A : Args) (n : Fin 16384) (j : Fin 1024) : Ideal.div half len * (two * df A n j) = d2 A n j := by
  rw [half_real, len_real, two_real, Ideal.div_coe (show (1024 : ℝ) ≠ 0 by norm_num), ← EReal.coe_mul, ← mul_assoc, ← EReal.coe_mul, d2, inv_real, mul_comm]
  congr 2
  norm_num

end Cert.Down

end
-- ==== Proof.Down.Block.lean ====
module

public import proofs.«01_k».proof.Proof.Gen.DownIdeal.Value
public import proofs.«01_k».proof.Proof.Common.Pieces
public import proofs.«01_k».proof.Proof.Down.Terms
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen Cert.Norm Cert.Down

variable (m : (ℓ : Loc nD τ sig) → Buf (Elt Ideal) ℓ)

abbrev args (c : Dev nD) : Args :=
  ⟨m (c, main_arg0), m (c, main_arg1), m (c, main_arg2), m (c, main_arg3), m (c, main_arg4), m (c, main_arg5), m (c, main_arg6)⟩

theorem points (t : Fin cfg0.N) : t.val < 32 := lt_of_lt_of_eq t.isLt N_0

/-- Row `r` of point `t`'s blocks is this row of the arrays. -/
abbrev row (t : Fin cfg0.N) (r : Fin 512) : Fin 16384 := ⟨t.val * 512 + r.val, by have := points t; omega⟩

theorem host_w (c : Dev nD) : ∀ i, V m c main_v0 i = m (c, main_arg1) i := by
  intro i
  simp only [V, hostOps0, List.flatten_cons, List.flatten_nil, List.append_nil, List.cons_append, List.nil_append]
  after_reads_at
  all_goals (try pointwise)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![0, 0] :=
  (by decide +kernel : ∀ t : Fin grid0.N, _)

theorem idx_out : ∀ t : Fin cfg0.N, win0_7.index t = ![t.val, 0, 0] ∧ win0_8.index t = ![t.val, 0] ∧ win0_9.index t = ![t.val, 0]
    ∧ win0_10.index t = ![0, 0] ∧ win0_11.index t = ![0, 0] ∧ win0_12.index t = ![0, 0] :=
  (by decide +kernel : ∀ t : Fin grid0.N, _)

/-- What each window's block holds. -/
theorem blk (c : Dev nD) (t : Fin cfg0.N) :
    (∀ r k, iblk m c 0 t (ix2 r k) = (args m c).a (ix2 (row t r) k))
    ∧ (∀ r k, iblk m c 1 t (ix2 r k) = (args m c).w (ix2 r k))
    ∧ (∀ r k, iblk m c 2 t (ix2 r k) = (args m c).x1 (ix2 (row t r) k))
    ∧ (∀ r k, iblk m c 3 t (ix2 r k) = (args m c).target (ix2 (row t r) k))
    ∧ (∀ r k, iblk m c 4 t (ix2 r k) = (args m c).gate (ix2 0 k))
    ∧ (∀ r k, iblk m c 5 t (ix2 r k) = (args m c).g (ix2 0 k))
    ∧ (∀ r k, iblk m c 6 t (ix2 r k) = (args m c).b (ix2 0 k)) := by
  obtain ⟨i0, i1, i2, i3, i4, i5, i6⟩ := idx t
  refine ⟨fun r k => ?_, fun r k => (?_ : _ = V m c main_v0 (ix2 r k)).trans (host_w m c _), fun r k => ?_, fun r k => ?_, fun r k => ?_, fun r k => ?_, fun r k => ?_⟩
  all_goals
    simp only [iblk]
    blk_point [i0, i1, i2, i3, i4, i5, i6]

abbrev before (t : Fin cfg0.N) : t.val - 1 < cfg0.N := Nat.lt_of_le_of_lt (Nat.sub_le _ _) t.isLt

/-! ## What a point stores -/

set_option maxHeartbeats 4000000 in
/-- The loss of its rows, … -/
theorem point_loss (c : Dev nD) (t : Fin cfg0.N) (y : S1x8x128.Idx) :
    (outsAt0 m c t.val t.isLt).1 y = Gloss (args m c) (ix3 ⟨t.val, points t⟩ (y 1) (y 2)) := by
  obtain ⟨b0, b1, b2, b3, b4, b5, b6⟩ := blk m c t
  idx_vars y
  by_cases hz : t.val % 32 = 0
  on_goal 1 => rw [outsAt0_A m c t hz]
  on_goal 2 => rw [outsAt0_B m c t hz]
  all_goals
    frame_out
    unfold_payloads
    pointwise [Gloss, df, xh, dev, mean, vare, rs, z, pr]
    simp only [b0, b1, b2, b3, b4, b5, b6]

set_option maxHeartbeats 4000000 in
/-- … the gradients of its rows, … -/
theorem point_rows (c : Dev nD) (t : Fin cfg0.N) (y : S512x1024.Idx) :
    (outsAt0 m c t.val t.isLt).2.1 y = Gdy (args m c) (ix2 (row t (y 0)) (y 1))
    ∧ (outsAt0 m c t.val t.isLt).2.2.1 y = Gdx (args m c) (ix2 (row t (y 0)) (y 1)) := by
  obtain ⟨b0, b1, b2, b3, b4, b5, b6⟩ := blk m c t
  idx_vars y
  by_cases hz : t.val % 32 = 0
  on_goal 1 => rw [outsAt0_A m c t hz]
  on_goal 2 => rw [outsAt0_B m c t hz]
  all_goals
    constructor
    all_goals
      frame_out
      unfold_payloads
      pointwise [Gdx, Gdy, dz]
      simp only [b0, b1, b2, b3, b4, b5, b6]
      rfl

/-- What the three vectors sum: the terms of the gradients of weights, bias and gate. -/
def terms (A : Args) : Fin 3 → Fin 16384 → Fin 1024 → EReal := ![fun n j => d2 A n j * xh A n j, d2 A, fun n j => dz A n j * pr A n j]

/-- The sums so far, after point `n`. -/
def sums (c : Dev nD) (n : ℕ) (h : n < cfg0.N) : Fin 3 → S1x1024.Idx → EReal := ![(outsAt0 m c n h).2.2.2.1, (outsAt0 m c n h).2.2.2.2.1,
  (outsAt0 m c n h).2.2.2.2.2]

set_option maxHeartbeats 4000000 in
/-- … and its rows' sums: the first point begins, … -/
theorem sums_first (c : Dev nD) (t : Fin cfg0.N) (h : t.val % 32 = 0) (v : Fin 3) (y : S1x1024.Idx) :
    sums m c t.val t.isLt v y = 0 + ∑ r : Fin 512, terms (args m c) v (row t r) (y 1) := by
  obtain ⟨b0, b1, b2, b3, b4, b5, b6⟩ := blk m c t
  idx_vars y
  unfold sums
  rw [outsAt0_A m c t h]
  fin_cases v
  all_goals
    dsimp only [terms, Fin.reduceFinMk, Matrix.cons_val]
    frame_out
    unfold_payloads
    pointwise
    simp only [b0, b1, b2, b3, b4, b5, b6]
    try rfl

set_option maxHeartbeats 4000000 in
/-- … every other adds. -/
theorem sums_next (c : Dev nD) (t : Fin cfg0.N) (h : ¬t.val % 32 = 0) (v : Fin 3) (y : S1x1024.Idx) :
    sums m c t.val t.isLt v y = sums m c (t.val - 1) (before t) v y + ∑ r : Fin 512, terms (args m c) v (row t r) (y 1) := by
  obtain ⟨b0, b1, b2, b3, b4, b5, b6⟩ := blk m c t
  idx_vars y
  unfold sums
  rw [outsAt0_B m c t h]
  fin_cases v
  all_goals
    dsimp only [terms, Fin.reduceFinMk, Matrix.cons_val]
    frame_out
    unfold_payloads
    pointwise
    simp only [b0, b1, b2, b3, b4, b5, b6]
    try simp only [read_unread_whole]
    try rfl

/-- After the last point of all they are sums over all rows. -/
theorem sums_last (c : Dev nD) (t : Fin cfg0.N) (ht : t.val + 1 = cfg0.N) (v : Fin 3) (y : S1x1024.Idx) :
    sums m c t.val t.isLt v y = total (terms (args m c) v) (ix2 (y 0) (y 1)) := by
  rw [Pipeline.eq_sum_fin_of_reset_step_apply_last (fun n h => sums m c n h v) 32 (fun _ => 0)
    (fun t y => ∑ r : Fin 512, terms (args m c) v (row t r) (y 1))
    (fun t h y => sums_first m c t h v y) (fun t h y => sums_next m c t h v y) (by decide) t ht y, zero_add]
  exact Fin.sum_mul_add_congr (S := 32) (n := 512) (f := fun n => terms (args m c) v n (y 1)) fun s k hl => rfl

/-! ## What the kernel leaves -/

theorem left7 (c : Dev nD) : (dats m 0 c).arrAt 7 cfg0.N = Gloss (args m c) := by
  refine (dats m 0 c).arrAt_eq_of_covers 7 _ (by decide +kernel) fun t hf y => ?_
  blk_simp
  rw [after0_7]
  refine (point_loss m c t y).trans (congrArg _ ?_)
  blk_ext [(idx_out t).1]

theorem left8 (c : Dev nD) : (dats m 0 c).arrAt 8 cfg0.N = Gdy (args m c) := by
  refine (dats m 0 c).arrAt_eq_of_covers 8 _ (by decide +kernel) fun t hf y => ?_
  blk_simp
  rw [after0_8]
  refine (point_rows m c t y).1.trans (congrArg _ ?_)
  blk_ext [(idx_out t).2.1, row]

theorem left9 (c : Dev nD) : (dats m 0 c).arrAt 9 cfg0.N = Gdx (args m c) := by
  refine (dats m 0 c).arrAt_eq_of_covers 9 _ (by decide +kernel) fun t hf y => ?_
  blk_simp
  rw [after0_9]
  refine (point_rows m c t y).2.trans (congrArg _ ?_)
  blk_ext [(idx_out t).2.2.1, row]

theorem left10 (c : Dev nD) : (dats m 0 c).arrAt 10 cfg0.N = total (terms (args m c) 0) := by
  refine (dats m 0 c).arrAt_eq_of_covers 10 _ (by decide +kernel) fun t hf y => ?_
  have ht : t.val + 1 = cfg0.N := by have h := (flush0_10 t).mp hf; have := t.isLt; have e : cfg0.N = 32 := rfl; omega
  blk_simp
  rw [after0_10]
  refine (sums_last m c t ht 0 y).trans (congrArg _ ?_)
  blk_ext [(idx_out t).2.2.2.1]

theorem left11 (c : Dev nD) : (dats m 0 c).arrAt 11 cfg0.N = total (terms (args m c) 1) := by
  refine (dats m 0 c).arrAt_eq_of_covers 11 _ (by decide +kernel) fun t hf y => ?_
  have ht : t.val + 1 = cfg0.N := by have h := (flush0_11 t).mp hf; have := t.isLt; have e : cfg0.N = 32 := rfl; omega
  blk_simp
  rw [after0_11]
  refine (sums_last m c t ht 1 y).trans (congrArg _ ?_)
  blk_ext [(idx_out t).2.2.2.2.1]

theorem left12 (c : Dev nD) : (dats m 0 c).arrAt 12 cfg0.N = total (terms (args m c) 2) := by
  refine (dats m 0 c).arrAt_eq_of_covers 12 _ (by decide +kernel) fun t hf y => ?_
  have ht : t.val + 1 = cfg0.N := by have h := (flush0_12 t).mp hf; have := t.isLt; have e : cfg0.N = 32 := rfl; omega
  blk_simp
  rw [after0_12]
  refine (sums_last m c t ht 2 y).trans (congrArg _ ?_)
  blk_ext [(idx_out t).2.2.2.2.2]

end Cert.DownIdeal.Value

end
-- ==== Proof.Down.Ref.lean ====
module

public import proofs.«01_k».proof.Proof.Down.Terms
public import proofs.«01_k».proof.Proof.Gen.DownRefIdeal.Read

@[expose] public section

set_option maxRecDepth 16384

noncomputable section

open Idealize.ShloMosaic Idealize.ShloMosaic.TcCoe Idealize.SL.Sem

namespace Cert.DownRefIdeal.Read

open Cert.Down Cert.Norm

variable (A : Args)

theorem r_pr (n : Fin 16384) (j : Fin 1024) : val_main_v1 (F := Ideal) A.a A.w (ix2 n j) = pr A n j := by
  pointwise [val_main_v1, val_main_v0, pr]

theorem r_z (n : Fin 16384) (j : Fin 1024) : val_main_v6 (F := Ideal) A.a A.w A.x1 A.gate (ix2 n j) = z A n j := by
  pointwise [val_main_v6, val_main_v5, val_main_v4, val_main_v3, val_main_v2, val_main_cst, r_pr, z]

theorem r_mean (n : Fin 16384) (o : Fin 1) : val_main_v10 (F := Ideal) A.a A.w A.x1 A.gate (ix2 n o) = mean (z A n) := by
  pointwise [val_main_v10, val_main_v9, val_main_v8, val_main_v7, val_main_cst_0, val_main_cst_1, r_z, mean]

theorem r_dev (n : Fin 16384) (j : Fin 1024) : val_main_v12 (F := Ideal) A.a A.w A.x1 A.gate (ix2 n j) = dev (z A n) j := by
  pointwise [val_main_v12, val_main_v11, r_z, r_mean, dev]

theorem r_dev' (n : Fin 16384) (j : Fin 1024) : val_main_v21 (F := Ideal) A.a A.w A.x1 A.gate (ix2 n j) = dev (z A n) j := by
  pointwise [val_main_v21, val_main_v20, r_z, r_mean, dev]

theorem r_var (n : Fin 16384) (o : Fin 1) : val_main_v23 (F := Ideal) A.a A.w A.x1 A.gate (ix2 n o) = vare (z A n) := by
  pointwise [val_main_v23, val_main_v22, val_main_cst_5, val_main_v19, val_main_v18, val_main_cst_4, val_main_v17, val_main_v16, val_main_cst_3, val_main_v13, r_dev, vare]

theorem r_rs (n : Fin 16384) (o : Fin 1) : val_main_v24 (F := Ideal) A.a A.w A.x1 A.gate (ix2 n o) = rs (z A n) := by
  pointwise [val_main_v24, r_var, rs]

theorem r_xh (n : Fin 16384) (j : Fin 1024) : val_main_v29 (F := Ideal) A.a A.w A.x1 A.gate (ix2 n j) = xh A n j := by
  pointwise [val_main_v29, val_main_v28, r_dev', r_rs, xh]

theorem r_df (n : Fin 16384) (j : Fin 1024) : val_main_v34 (F := Ideal) A.a A.w A.x1 A.target A.gate A.g A.b (ix2 n j) = df A n j := by
  pointwise [val_main_v34, val_main_v33, val_main_v32, val_main_v31, val_main_v30, r_xh, df]

theorem r_d2 (n : Fin 16384) (j : Fin 1024) : val_main_v49 (F := Ideal) A.a A.w A.x1 A.target A.gate A.g A.b (ix2 n j) = d2 A n j := by
  refine Eq.trans ?_ (d2_eq A n j)
  pointwise [val_main_v49, val_main_v48, val_main_v47, val_main_v46, val_main_cst_13, val_main_v45, val_main_v44, val_main_cst_12, val_main_v43, val_main_cst_11,
    val_main_v37, val_main_v36, val_main_cst_7, r_df]

theorem r_t (n : Fin 16384) (j : Fin 1024) : val_main_v56 (F := Ideal) A.a A.w A.x1 A.target A.gate A.g A.b (ix2 n j) = d2 A n j * A.g (ix2 0 j) := by
  pointwise [val_main_v56, val_main_v55, r_d2]

/-- The derivatives of the norm's lines, row by row. -/
theorem r_dz (n : Fin 16384) (j : Fin 1024) : val_main_v80 (F := Ideal) A.a A.w A.x1 A.target A.gate A.g A.b (ix2 n j)
    = diff (z A n) (fun k => d2 A n k * A.g (ix2 0 k)) j := by
  have v (o : Fin 1) : val_main_v67 (F := Ideal) A.a A.w A.x1 A.target A.gate A.g A.b (ix2 n o) = dvar (z A n) (fun k => d2 A n k * A.g (ix2 0 k)) := by
    pointwise [val_main_v67, val_main_v66, val_main_cst_18, val_main_v62, val_main_v59, val_main_v58, val_main_cst_16, val_main_v57, val_main_v27, val_main_v26,
      val_main_cst_6, val_main_v25, r_dev', r_t, r_rs, r_var, dvar]
  have p (j : Fin 1024) : val_main_v70 (F := Ideal) A.a A.w A.x1 A.target A.gate A.g A.b (ix2 n j)
      = dvar (z A n) (fun k => d2 A n k * A.g (ix2 0 k)) * (two * dev (z A n) j) := by
    pointwise [val_main_v70, val_main_v69, val_main_v68, val_main_cst_19, val_main_v15, val_main_v14, val_main_cst_2, r_dev, v]
    simp only [Finset.univ_unique, Finset.sum_singleton]
  have q (j : Fin 1024) : val_main_v61 (F := Ideal) A.a A.w A.x1 A.target A.gate A.g A.b (ix2 n j) = d2 A n j * A.g (ix2 0 j) * rs (z A n) := by
    pointwise [val_main_v61, val_main_v60, r_t, r_rs]
  pointwise [val_main_v80, val_main_v79, val_main_v78, val_main_cst_22, val_main_v77, val_main_v76, val_main_cst_21, val_main_v75, val_main_v74, val_main_v73,
    val_main_v72, val_main_cst_20, val_main_v71, val_main_v65, val_main_v64, val_main_cst_17, val_main_v63, p, q, diff]
  simp only [Finset.univ_unique, Finset.sum_singleton]

/-- The reference's results: the losses, … -/
theorem ref_loss (h : SameLoss A) : val_main_v91 (F := Ideal) A.a A.w A.x1 A.target A.gate A.g A.b = Gloss A := by
  funext i
  idx_vars i
  refine Eq.trans ?_ (h i0)
  pointwise [val_main_v91, val_main_v90, val_main_v89, val_main_cst_25, val_main_v88, val_main_v42, val_main_v41, val_main_cst_10, val_main_v40, val_main_v39,
    val_main_cst_9, val_main_v38, val_main_cst_8, val_main_v35, r_df]

/-- … the gradients of the projection's result … -/
theorem ref_dy (h : Same A) : val_main_v92 (F := Ideal) A.a A.w A.x1 A.target A.gate A.g A.b = Gdy A := by
  funext i
  idx_vars i
  pointwise [val_main_v92, val_main_v82, val_main_v81, r_dz, h i0 i1, Gdy]

/-- … and of the first normed sum, … -/
theorem ref_dx (h : Same A) : val_main_v87 (F := Ideal) A.a A.w A.x1 A.target A.gate A.g A.b = Gdx A := by
  funext i
  idx_vars i
  pointwise [val_main_v87, val_main_v86, val_main_cst_24, r_dz, h i0 i1, Gdx]

/-- … of the norm's weights … -/
theorem ref_dg : val_main_v54 (F := Ideal) A.a A.w A.x1 A.target A.gate A.g A.b = total (fun n j => d2 A n j * xh A n j) := by
  funext i
  idx_vars i
  pointwise [val_main_v54, val_main_v53, val_main_cst_15, val_main_v52, r_xh, r_d2, total]
  simp only [mul_comm]

/-- … and of its bias, … -/
theorem ref_db : val_main_v51 (F := Ideal) A.a A.w A.x1 A.target A.gate A.g A.b = total (d2 A) := by
  funext i
  idx_vars i
  pointwise [val_main_v51, val_main_v50, val_main_cst_14, r_d2, total]

/-- … and of the gate. -/
theorem ref_dgate (h : Same A) : val_main_v85 (F := Ideal) A.a A.w A.x1 A.target A.gate A.g A.b = total (fun n j => dz A n j * pr A n j) := by
  funext i
  idx_vars i
  pointwise [val_main_v85, val_main_v84, val_main_cst_23, val_main_v83, r_dz, r_pr, total]
  exact Finset.sum_congr rfl fun n _ => by rw [h n i1]

end Cert.DownRefIdeal.Read
end
-- ==== Proof.Down.Finite.lean ====
/-
  The precondition says that the arguments are finite.
-/
module

public import proofs.«01_k».proof.Pre_down_finite
public import proofs.«01_k».proof.Proof.Common.Finite

@[expose] public section

set_option maxRecDepth 16384

noncomputable section

namespace Cert.Down

open Idealize.ShloMosaic Idealize.ShloMosaic.TcCoe Cert.Pre_down_finite Cert.Finite

variable [Cert.Pre_down_finite.Facts]
open Cert.Pre_down_finite.Facts

/-- What the precondition says. -/
theorem finite_all (a : FVec Ideal S16384x2816 .bf16) (w : FVec Ideal S2816x1024 .f32) (x1 target : FVec Ideal S16384x1024 .f32) (gate g b : FVec Ideal S1x1024 .f32)
    (h : fn (F := Ideal) a w x1 target gate g b = fun _ => 1#1) :
    (∀ i, Real' (a i)) ∧ (∀ i, Real' (w i)) ∧ (∀ i, Real' (x1 i)) ∧ (∀ i, Real' (target i)) ∧ (∀ i, Real' (gate i)) ∧ (∀ i, Real' (g i)) ∧ (∀ i, Real' (b i)) := by
  unfold fn fn_part1 fn_part2 at h
  dsimp only at h
  obtain ⟨h, h6⟩ := both h
  obtain ⟨h, h5⟩ := both h
  obtain ⟨h, h4⟩ := both h
  obtain ⟨h, h3⟩ := both h
  obtain ⟨h, h2⟩ := both h
  obtain ⟨h, h1⟩ := both h
  refine ⟨fun i => real_of_lt ?_, fun i => real_of_lt ?_, fun i => real_of_lt ?_, fun i => real_of_lt ?_, fun i => real_of_lt ?_, fun i => real_of_lt ?_, fun i => real_of_lt ?_⟩
  · exact Host.reduce_andi_all _ _ _ _ _ (congrFun h (Shape.Idx.first h_S_)) i
  · exact Host.reduce_andi_all _ _ _ _ _ (congrFun h1 (Shape.Idx.first h_S_)) i
  · exact Host.reduce_andi_all _ _ _ _ _ (congrFun h2 (Shape.Idx.first h_S_)) i
  · exact Host.reduce_andi_all _ _ _ _ _ (congrFun h3 (Shape.Idx.first h_S_)) i
  · exact Host.reduce_andi_all _ _ _ _ _ (congrFun h4 (Shape.Idx.first h_S_)) i
  · exact Host.reduce_andi_all _ _ _ _ _ (congrFun h5 (Shape.Idx.first h_S_)) i
  · exact Host.reduce_andi_all _ _ _ _ _ (congrFun h6 (Shape.Idx.first h_S_)) i

end Cert.Down

end
-- ==== Proof.Down.Claims.lean ====
module

public import proofs.«01_k».proof.Defs
public import proofs.«01_k».proof.Proof.Down.Block
public import proofs.«01_k».proof.Proof.Down.Ref
public import proofs.«01_k».proof.Proof.Down.Finite
public import proofs.«01_k».proof.Proof.Gen.Down.Frame
public import proofs.«01_k».proof.Proof.Gen.DownRefIdeal.Run

@[expose] public section

set_option maxRecDepth 16384

noncomputable section

open Idealize.ShloMosaic Idealize.ShloMosaic.TcCoe Idealize.SL.Sem

namespace Cert.DownClaims

open Cert.Down

/-- The kernel terminates without fault, its arguments unchanged, every counter zero. -/
theorem frame : quiescent_Down (hDown := Cert.Down.Gen.facts) := fun m ρ _ => Cert.Down.Gen.frame m ρ

/-- The ideal program, likewise. -/
theorem frame_ideal : quiescent_DownIdeal (hDownIdeal := Cert.DownIdeal.Gen.facts) := fun m ρ _ => Cert.DownIdeal.Gen.frame m ρ

/-- The reference, likewise. -/
theorem frame_ref : quiescent_DownRefIdeal (hDownRefIdeal := Cert.DownRefIdeal.Gen.facts) := fun m ρ _ =>
  (θ_run Cert.DownRefIdeal.defs _ _).mono (fun r h => ⟨fun c => (h c).2.2.2.2.2.2, sem_eq_zero_of_no_sems (by decide) r.2⟩)
    (Cert.DownRefIdeal.Value.run m ρ)

variable [hPre : Cert.Pre_down_finite.Facts]

/-- The ideal program and the reference on finite arguments: as on any. -/
theorem frame_ideal_pre : quiescent_DownIdeal_pre_down_finite (hDownIdeal := Cert.DownIdeal.Gen.facts) := fun m ρ _ => frame_ideal m ρ trivial
theorem frame_ref_pre : quiescent_DownRefIdeal_pre_down_finite (hDownRefIdeal := Cert.DownRefIdeal.Gen.facts) := fun m ρ _ => frame_ref m ρ trivial

/-- On finite arguments kernel and reference leave the same arrays. -/
theorem value : algebraic_DownIdeal_DownRefIdeal_pre_down_finite (hDownIdeal := Cert.DownIdeal.Gen.facts) (hDownRefIdeal := Cert.DownRefIdeal.Gen.facts) := by
  intro m ρ m' ρ' hpre hargs
  have same (c) : Same (Cert.DownIdeal.Value.args m c) ∧ SameLoss (Cert.DownIdeal.Value.args m c) := by
    obtain ⟨h0, h1, h2, h3, h4, h5, h6⟩ := finite_all _ _ _ _ _ _ _ (hpre c)
    exact same _ h0 h1 h2 h3 h4 h5 h6
  refine ⟨fun c => Gloss (Cert.DownIdeal.Value.args m c), fun c => Gdy (Cert.DownIdeal.Value.args m c), fun c => Gdx (Cert.DownIdeal.Value.args m c), fun c => total (fun n j => d2 (Cert.DownIdeal.Value.args m c) n j * xh (Cert.DownIdeal.Value.args m c) n j), fun c => total (d2 (Cert.DownIdeal.Value.args m c)), fun c => total (fun n j => dz (Cert.DownIdeal.Value.args m c) n j * pr (Cert.DownIdeal.Value.args m c) n j), ?_, ?_⟩
  · exact (θ_run Cert.DownIdeal.defs _ _).mono (fun r h c => let ⟨h0, h1, h2, h3, h4, h5, rest⟩ := h c
      ⟨h0.trans (Cert.DownIdeal.Value.left7 m c), h1.trans (Cert.DownIdeal.Value.left8 m c), h2.trans (Cert.DownIdeal.Value.left9 m c), h3.trans (Cert.DownIdeal.Value.left10 m c), h4.trans (Cert.DownIdeal.Value.left11 m c), h5.trans (Cert.DownIdeal.Value.left12 m c), rest⟩) (Cert.DownIdeal.Value.run_blocks (F := Ideal) m ρ)
  · refine (θ_run Cert.DownRefIdeal.defs _ _).mono (fun r h c => let ⟨h0, h1, h2, h3, h4, h5, rest⟩ := h c
      ⟨h0.trans ?_, h1.trans ?_, h2.trans ?_, h3.trans ?_, h4.trans ?_, h5.trans ?_, rest⟩) (Cert.DownRefIdeal.Value.run (F := Ideal) m' ρ')
    all_goals obtain ⟨a0, a1, a2, a3, a4, a5, a6⟩ := hargs c
    · refine (Cert.DownRefIdeal.Read.val_main_v91_eq (F := Ideal) m' c).trans ?_
      rw [a0, a1, a2, a3, a4, a5, a6]
      exact Cert.DownRefIdeal.Read.ref_loss (Cert.DownIdeal.Value.args m c) (same c).2
    · refine (Cert.DownRefIdeal.Read.val_main_v92_eq (F := Ideal) m' c).trans ?_
      rw [a0, a1, a2, a3, a4, a5, a6]
      exact Cert.DownRefIdeal.Read.ref_dy (Cert.DownIdeal.Value.args m c) (same c).1
    · refine (Cert.DownRefIdeal.Read.val_main_v87_eq (F := Ideal) m' c).trans ?_
      rw [a0, a1, a2, a3, a4, a5, a6]
      exact Cert.DownRefIdeal.Read.ref_dx (Cert.DownIdeal.Value.args m c) (same c).1
    · refine (Cert.DownRefIdeal.Read.val_main_v54_eq (F := Ideal) m' c).trans ?_
      rw [a0, a1, a2, a3, a4, a5, a6]
      exact Cert.DownRefIdeal.Read.ref_dg (Cert.DownIdeal.Value.args m c)
    · refine (Cert.DownRefIdeal.Read.val_main_v51_eq (F := Ideal) m' c).trans ?_
      rw [a0, a1, a2, a3, a4, a5, a6]
      exact Cert.DownRefIdeal.Read.ref_db (Cert.DownIdeal.Value.args m c)
    · refine (Cert.DownRefIdeal.Read.val_main_v85_eq (F := Ideal) m' c).trans ?_
      rw [a0, a1, a2, a3, a4, a5, a6]
      exact Cert.DownRefIdeal.Read.ref_dgate (Cert.DownIdeal.Value.args m c) (same c).1

end Cert.DownClaims
end
-- ==== Proof.Prep.Terms.lean ====
/-
  The gradient of the norm and the rotation of queries and keys, entry by entry.
-/
module

public import proofs.«01_k».proof.PrepIdeal
public import proofs.«01_k».proof.Proof.Common.Finite
public import Idealize.ShloMosaic.Lib.Pointwise

@[expose] public section

noncomputable section

open Idealize.ShloMosaic Cert.PrepIdeal
open Cert.Finite
open Cert.GlobRun (coe_sums)
open Cert.Norm (mhalf mhalf_real)

namespace Cert.Prep

/-- The factor of the scores, … -/
abbrev c8 : EReal := Ideal.ofBits .f32 0x3E000000#32
/-- … the length of a head and its reciprocal, … -/
abbrev n64 : EReal := Ideal.ofBits .f32 0x42800000#32
abbrev c64 : EReal := Ideal.ofBits .f32 0x3C800000#32
/-- … and what the norm adds to the mean square. -/
abbrev eps : EReal := Ideal.ofBits .f32 0x358637BD#32

theorem c8_real : c8 = ((1 / 8 : ℝ) : EReal) := by
  simp [c8, Ideal.ofBits, Ideal.ieee]
  rw [← EReal.coe_mul]
  norm_num
theorem n64_real : n64 = ((64 : ℝ) : EReal) := by
  simp [n64, Ideal.ofBits, Ideal.ieee]
  rw [← EReal.coe_mul]
  norm_num
theorem c64_real : c64 = ((1 / 64 : ℝ) : EReal) := by
  simp [c64, Ideal.ofBits, Ideal.ieee]
  rw [← EReal.coe_mul]
  norm_num
theorem eps_real : ∃ e : ℝ, 0 < e ∧ eps = (e : EReal) := by
  refine ⟨8796093 / 2 ^ 43, by norm_num, ?_⟩
  simp [eps, Ideal.ofBits, Ideal.ieee]
  rw [← EReal.coe_mul]
  norm_num

theorem div_64 (x : EReal) : Ideal.div x n64 = x * c64 := by rw [n64_real, Ideal.div_coe (by norm_num), c64_real]

/-- The arguments: the cotangents of the windowed attention's queries, keys and values and of the global attention's, the projection, the weights of the
queries' and keys' norms, the gates' cotangent, and the cosines and sines of the rows and columns. -/
structure Args where
  qa : S8x128x16384.Idx → EReal
  ka : S16384x128.Idx → EReal
  va : S16384x128.Idx → EReal
  qb : S8x128x16384.Idx → EReal
  kb : S16384x128.Idx → EReal
  vb : S16384x128.Idx → EReal
  p : S16384x3584.Idx → EReal
  qn : S1x64.Idx → EReal
  kn : S1x64.Idx → EReal
  gl : S16384x2048.Idx → EReal
  cr : S16384x16.Idx → EReal
  sr : S16384x16.Idx → EReal
  cc : S16384x16.Idx → EReal
  sc : S16384x16.Idx → EReal

/-- The place of a head's entry in its frequencies. -/
abbrev freq (e : Fin 64) : Fin 16 := ⟨e.val % 16, Nat.mod_lt _ (by decide)⟩

section
variable (A : Args) (n : Fin 16384)

/-- The cosine and the sine that turn entry `e` of a head: of the row in the first half, of the column in the second. -/
def cosv (e : Fin 64) : EReal := if e.val < 32 then A.cr (ix2 n (freq e)) else A.cc (ix2 n (freq e))
def sinv (e : Fin 64) : EReal := if e.val < 32 then A.sr (ix2 n (freq e)) else A.sc (ix2 n (freq e))

/-- A head's cotangent turned back. -/
def turn (d : Fin 64 → EReal) (e : Fin 64) : EReal :=
  if h : e.val % 32 < 16 then d ⟨e.val + 16, by omega⟩ * sinv A n e + d e * cosv A n e
  else d e * cosv A n e + -(d ⟨e.val - 16, by omega⟩) * sinv A n e

/-- The factor of the scores may come before or after. -/
theorem turn_scaled (d : Fin 64 → EReal) (e : Fin 64) : turn A n (fun k => d k * c8) e = turn A n d e * c8 := by
  have h0 : (0 : EReal) ≤ c8 := by rw [c8_real]; exact_mod_cast (by norm_num : (0 : ℝ) ≤ 1 / 8)
  have h1 : c8 ≠ ⊤ := by rw [c8_real]; exact EReal.coe_ne_top _
  unfold turn
  split_ifs
  all_goals
    rw [EReal.right_distrib_of_nonneg_of_ne_top h0 h1]
    simp only [← EReal.neg_mul, mul_right_comm _ c8]

/-- A query's cotangent, which lies transposed in the half of its key head, … -/
def query (x : S8x128x16384.Idx → EReal) (h : Fin 8) (e : Fin 64) : EReal := x (ix3 h ⟨h.val / 4 * 64 + e.val, by omega⟩ n)
/-- … and a key's. -/
def key (x : S16384x128.Idx → EReal) (h : Fin 2) (e : Fin 64) : EReal := x (ix2 n ⟨h.val * 64 + e.val, by omega⟩)

/-- The cotangents of the normed queries and keys, … -/
def dqb (h : Fin 8) (e : Fin 64) : EReal := turn A n (query n A.qb h) e * c8
def dkb (h : Fin 2) (e : Fin 64) : EReal := turn A n (key n A.kb h) e
/-- … and the queries and keys that are normed. -/
def qrow (h : Fin 8) (e : Fin 64) : EReal := A.p (ix2 n ⟨768 + (h.val * 64 + e.val), by omega⟩)
def krow (h : Fin 2) (e : Fin 64) : EReal := A.p (ix2 n ⟨1280 + (h.val * 64 + e.val), by omega⟩)
end

section
variable (t d g : Fin 64 → EReal) (e : Fin 64)

/-- The reciprocal of a head's root mean square. -/
def root : EReal := Ideal.rsqrt ((∑ k, t k * t k) * c64 + eps)
/-- The gradient of a normed head as a formula, … -/
def back : EReal := root t * (d e * g e) - t e * (root t * root t * root t) * ((∑ k, d k * g k * t k) * c64)
/-- … the cotangent of its mean square … -/
def dms : EReal := (∑ k, t k * (d k * g k)) * (mhalf * Ideal.div (root t) ((∑ k, t k * t k) * c64 + eps)) * c64
/-- … and the gradient as the derivatives of the norm's lines. -/
def diff : EReal := d e * g e * root t + t e * dms t d g + dms t d g * t e
end

/-- On numbers the two are the same. -/
theorem diff_eq {t d g : Fin 64 → EReal} (ht : ∀ k, Real' (t k)) (hd : ∀ k, Real' (d k)) (hg : ∀ k, Real' (g k)) (e : Fin 64) :
    diff t d g e = back t d g e := by
  choose a ha using ht
  choose b hb using hd
  choose w hw using hg
  obtain ⟨ε, hε, ee⟩ := eps_real
  have hx : (∑ k, t k * t k) * c64 + eps = (((∑ k, a k * a k) * (1 / 64) + ε : ℝ) : EReal) := by
    simp only [ha, ← EReal.coe_mul, ← coe_sums, c64_real, ee, ← EReal.coe_add]
  have hp : 0 < (∑ k, a k * a k) * (1 / 64) + ε := by
    have : 0 ≤ ∑ k, a k * a k := Finset.sum_nonneg fun k _ => mul_self_nonneg _
    positivity
  obtain ⟨s, hs, es⟩ : ∃ s : ℝ, 0 < s ∧ (∑ k, a k * a k) * (1 / 64) + ε = s * s := ⟨_, Real.sqrt_pos.mpr hp, (Real.mul_self_sqrt hp.le).symm⟩
  have hr : root t = ((1 / s : ℝ) : EReal) := by
    rw [root, hx, es, Ideal.rsqrt_coe, if_neg (by nlinarith), if_neg (mul_pos hs hs).ne', Real.sqrt_mul_self hs.le, one_div]
  have e2 : (∑ k, a k * (b k * w k)) = ∑ k, b k * w k * a k := Finset.sum_congr rfl fun k _ => by ring
  rw [diff, back, dms, hx, hr, es, Ideal.div_coe (mul_pos hs hs).ne']
  simp only [ha, hb, hw, mhalf_real, c64_real, ← EReal.coe_mul, ← coe_sums, ← EReal.coe_add, ← EReal.coe_sub]
  congr 1
  rw [e2]
  generalize (∑ k, b k * w k * a k) = q
  field_simp
  ring

section
variable (A : Args)

/-- The gradient of the projection. -/
def Gdp : S16384x3584.Idx → EReal := fun i =>
  if h0 : (i 1).val < 512 then turn A (i 0) (query (i 0) A.qa ⟨(i 1).val / 64, by omega⟩) ⟨(i 1).val % 64, by omega⟩ * c8
  else if h1 : (i 1).val < 640 then turn A (i 0) (key (i 0) A.ka ⟨((i 1).val - 512) / 64, by omega⟩) ⟨(i 1).val % 64, by omega⟩
  else if h2 : (i 1).val < 768 then A.va (ix2 (i 0) ⟨(i 1).val - 640, by omega⟩)
  else if h3 : (i 1).val < 1280 then
    back (qrow A (i 0) ⟨((i 1).val - 768) / 64, by omega⟩) (dqb A (i 0) ⟨((i 1).val - 768) / 64, by omega⟩) (fun e => A.qn (ix2 0 e)) ⟨(i 1).val % 64, by omega⟩
  else if h4 : (i 1).val < 1408 then
    back (krow A (i 0) ⟨((i 1).val - 1280) / 64, by omega⟩) (dkb A (i 0) ⟨((i 1).val - 1280) / 64, by omega⟩) (fun e => A.kn (ix2 0 e)) ⟨(i 1).val % 64, by omega⟩
  else if h5 : (i 1).val < 1536 then A.vb (ix2 (i 0) ⟨(i 1).val - 1408, by omega⟩)
  else A.gl (ix2 (i 0) ⟨(i 1).val - 1536, by have : (i 1).val < 3584 := (i 1).isLt; omega⟩)

/-- What token `n` gives to the gradient of the weights of the queries' norm, at column `c` of the eight heads, … -/
def pq (n : Fin 16384) (c : Fin 512) : EReal :=
  dqb A n ⟨c.val / 64, by omega⟩ ⟨c.val % 64, by omega⟩ * qrow A n ⟨c.val / 64, by omega⟩ ⟨c.val % 64, by omega⟩ * root (qrow A n ⟨c.val / 64, by omega⟩)
/-- … and of the keys'. -/
def pk (n : Fin 16384) (c : Fin 128) : EReal :=
  dkb A n ⟨c.val / 64, by omega⟩ ⟨c.val % 64, by omega⟩ * krow A n ⟨c.val / 64, by omega⟩ ⟨c.val % 64, by omega⟩ * root (krow A n ⟨c.val / 64, by omega⟩)

/-- The gradients of the norms' weights, a column a head's entry. -/
def Gqn : S1x512.Idx → EReal := fun i => ∑ n, pq A n (i 1)
def Gkn : S1x128.Idx → EReal := fun i => ∑ n, pk A n (i 1)

/-- The derivatives of the norm's lines agree with the formula, for every head. -/
def Same : Prop := (∀ n h e, diff (qrow A n h) (dqb A n h) (fun k => A.qn (ix2 0 k)) e = back (qrow A n h) (dqb A n h) (fun k => A.qn (ix2 0 k)) e)
  ∧ ∀ n h e, diff (krow A n h) (dkb A n h) (fun k => A.kn (ix2 0 k)) e = back (krow A n h) (dkb A n h) (fun k => A.kn (ix2 0 k)) e

/-- They do on finite arguments. -/
theorem same (hq : ∀ i, Real' (A.qb i)) (hk : ∀ i, Real' (A.kb i)) (hp : ∀ i, Real' (A.p i)) (hqn : ∀ i, Real' (A.qn i)) (hkn : ∀ i, Real' (A.kn i))
    (hcr : ∀ i, Real' (A.cr i)) (hsr : ∀ i, Real' (A.sr i)) (hcc : ∀ i, Real' (A.cc i)) (hsc : ∀ i, Real' (A.sc i)) : Same A := by
  have hc (n e) : Real' (cosv A n e) := by unfold cosv; split_ifs; exacts [hcr _, hcc _]
  have hs (n e) : Real' (sinv A n e) := by unfold sinv; split_ifs; exacts [hsr _, hsc _]
  have neg {x : EReal} (h : Real' x) : Real' (-x) := by obtain ⟨a, rfl⟩ := h; exact ⟨-a, (EReal.coe_neg a).symm⟩
  have ht (n d) (hd : ∀ k, Real' (d k)) (e) : Real' (turn A n d e) := by
    unfold turn
    split_ifs
    exacts [((hd _).mul (hs _ _)).add ((hd _).mul (hc _ _)), ((hd _).mul (hc _ _)).add ((neg (hd _)).mul (hs _ _))]
  refine ⟨fun n h e => diff_eq (fun _ => hp _) (fun k => (ht n _ (fun _ => hq _) k).mul ⟨_, c8_real⟩) (fun _ => hqn _) e,
    fun n h e => diff_eq (fun _ => hp _) (fun k => ht n _ (fun _ => hk _) k) (fun _ => hkn _) e⟩
end

section
variable (A : Args) (n : Fin 16384) (y : Fin 3584)
/-- The columns of the projection's gradient. -/
theorem gdp_qa (h : y.val < 512) : Gdp A (ix2 n y) = turn A n (query n A.qa ⟨y.val / 64, by omega⟩) ⟨y.val % 64, by omega⟩ * c8 := dif_pos h
theorem gdp_ka (h0 : ¬y.val < 512) (h : y.val < 640) : Gdp A (ix2 n y) = turn A n (key n A.ka ⟨(y.val - 512) / 64, by omega⟩) ⟨y.val % 64, by omega⟩ :=
  (dif_neg h0).trans (dif_pos h)
theorem gdp_va (h0 : ¬y.val < 640) (h : y.val < 768) : Gdp A (ix2 n y) = A.va (ix2 n ⟨y.val - 640, by omega⟩) :=
  (dif_neg (show ¬y.val < 512 by omega)).trans ((dif_neg h0).trans (dif_pos h))
theorem gdp_qb (h0 : ¬y.val < 768) (h : y.val < 1280) : Gdp A (ix2 n y)
    = back (qrow A n ⟨(y.val - 768) / 64, by omega⟩) (dqb A n ⟨(y.val - 768) / 64, by omega⟩) (fun e => A.qn (ix2 0 e)) ⟨y.val % 64, by omega⟩ :=
  (dif_neg (show ¬y.val < 512 by omega)).trans ((dif_neg (show ¬y.val < 640 by omega)).trans ((dif_neg h0).trans (dif_pos h)))
theorem gdp_kb (h0 : ¬y.val < 1280) (h : y.val < 1408) : Gdp A (ix2 n y)
    = back (krow A n ⟨(y.val - 1280) / 64, by omega⟩) (dkb A n ⟨(y.val - 1280) / 64, by omega⟩) (fun e => A.kn (ix2 0 e)) ⟨y.val % 64, by omega⟩ :=
  (dif_neg (show ¬y.val < 512 by omega)).trans ((dif_neg (show ¬y.val < 640 by omega)).trans ((dif_neg (show ¬y.val < 768 by omega)).trans
    ((dif_neg h0).trans (dif_pos h))))
theorem gdp_vb (h0 : ¬y.val < 1408) (h : y.val < 1536) : Gdp A (ix2 n y) = A.vb (ix2 n ⟨y.val - 1408, by omega⟩) :=
  (dif_neg (show ¬y.val < 512 by omega)).trans ((dif_neg (show ¬y.val < 640 by omega)).trans ((dif_neg (show ¬y.val < 768 by omega)).trans
    ((dif_neg (show ¬y.val < 1280 by omega)).trans ((dif_neg h0).trans (dif_pos h)))))
theorem gdp_gl (h0 : ¬y.val < 1536) : Gdp A (ix2 n y) = A.gl (ix2 n ⟨y.val - 1536, by omega⟩) :=
  (dif_neg (show ¬y.val < 512 by omega)).trans ((dif_neg (show ¬y.val < 640 by omega)).trans ((dif_neg (show ¬y.val < 768 by omega)).trans
    ((dif_neg (show ¬y.val < 1280 by omega)).trans ((dif_neg (show ¬y.val < 1408 by omega)).trans (dif_neg h0)))))
end

end Cert.Prep

end
-- ==== Proof.Prep.Ops.lean ====
/-
  What the call does to blocks of 512 rows of two heads, read at an index.
-/
module

public import proofs.«01_k».proof.Proof.Gen.PrepIdeal.Skeleton
public import proofs.«01_k».proof.Proof.Prep.Terms
public import Idealize.ShloMosaic.Lib.KernelVsHost
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.PrepIdeal.Value

open Cert.PrepIdeal Cert.PrepIdeal.Gen Cert.Prep

/-- Two heads of 512 rows. -/
abbrev Two : Type := FVec Ideal S512x128 .f32

/-- Each column's number, … -/
def lanes : IVec S512x128 32 := iota .tc S512x128 32 [1] iota_S512x128_d1_w32
/-- … whether it is in the first head, … -/
def low : IVec S512x128 1 := cmpi .slt lanes (broadcast S512x128 64#32)

theorem low_at (r : Fin 512) (l : Fin 128) : low (ix2 r l) = if l.val < 64 then 1#1 else 0#1 := by
  revert l
  exact (by decide +kernel : ∀ l : Fin 128, low (ix2 0 l) = if l.val < 64 then 1#1 else 0#1)

/-- … and whether in the first sixteen of its thirty-two. -/
theorem first_at (r : Fin 512) (l : Fin 128) : k0_pay9 (ix2 r l) = if l.val % 32 < 16 then 1#1 else 0#1 := by
  revert l
  exact (by decide +kernel : ∀ l : Fin 128, k0_pay9 (ix2 0 l) = if l.val % 32 < 16 then 1#1 else 0#1)

/-- The heads turned back, … -/
def turnV (cs sn d : Two) : Two :=
  subf (mulf d cs) (mulf (select k0_pay9 (dynamicRotate 1 112#32 none d rotates_S512x128_d1) (dynamicRotate 1 16#32 none d rotates_S512x128_d1)) sn)

theorem turnV_at (cs sn d : Two) (r : Fin 512) (l : Fin 128) :
    turnV cs sn d (ix2 r l) = d (ix2 r l) * cs (ix2 r l)
      - (if h : l.val % 32 < 16 then d (ix2 r ⟨l.val + 16, by omega⟩) else d (ix2 r ⟨l.val - 16, by omega⟩)) * sn (ix2 r l) := by
  unfold turnV
  pointwise [first_at]
  by_cases h : l.val % 32 < 16
  · simp only [if_pos h, dif_pos h, Scalar.select, BitVec.reduceEq, if_true]
    rw [show (⟨(l.val + 128 - 112) % 128, Nat.mod_lt _ (by decide)⟩ : Fin 128) = ⟨l.val + 16, by omega⟩ from Fin.ext (by simp only; omega)]
  · simp only [if_neg h, dif_neg h, Scalar.select, BitVec.reduceEq, if_false]
    rw [show (⟨(l.val + 128 - 16) % 128, Nat.mod_lt _ (by decide)⟩ : Fin 128) = ⟨l.val - 16, by omega⟩ from Fin.ext (by simp only; omega)]

/-- … each row's mean over each head, … -/
def meanV (s : Two) : Two :=
  mulf (select low
    (broadcastTo S512x128 (shapeCast S512x1 (multiReduction .add [1] S512 (select low s (broadcast S512x128 (Scalar.ofBits .f32 0x00000000#32))) 0x00000000#32 reduces_S512x128_S512 (.inl rfl) rfl) shapeCasts_S512_S512x1) broadcasts_S512x1_S512x128)
    (broadcastTo S512x128 (shapeCast S512x1 (multiReduction .add [1] S512 (select low (broadcast S512x128 (Scalar.ofBits .f32 0x00000000#32)) s) 0x00000000#32 reduces_S512x128_S512 (.inl rfl) rfl) shapeCasts_S512_S512x1) broadcasts_S512x1_S512x128))
    (broadcast S512x128 (Scalar.ofBits .f32 0x3C800000#32))

theorem meanV_at (s : Two) (r : Fin 512) (l : Fin 128) :
    meanV s (ix2 r l) = (∑ e : Fin 64, s (ix2 r ⟨l.val / 64 * 64 + e.val, by omega⟩)) * c64 := by
  unfold meanV
  pointwise [low_at]
  rw [Finset.sum_const_zero, add_zero, zero_add]
  congr 1
  by_cases h : l.val < 64
  · simp only [if_pos h, Scalar.select, BitVec.reduceEq, if_true]
    exact Finset.sum_congr rfl fun e _ => congrArg s (congrArg (ix2 r) (Fin.ext (by simp only; omega)))
  · simp only [if_neg h, Scalar.select, BitVec.reduceEq, if_false]
    exact Finset.sum_congr rfl fun e _ => congrArg s (congrArg (ix2 r) (Fin.ext (by simp only; omega)))

/-- The head of column `l`, and the place of that column in it. -/
abbrev side (l : Fin 128) : Fin 2 := ⟨l.val / 64, by omega⟩
abbrev place (l : Fin 128) : Fin 64 := ⟨l.val % 64, by omega⟩
/-- A row of one head. -/
abbrev headRow (s : Two) (r : Fin 512) (h : Fin 2) (e : Fin 64) : EReal := s (ix2 r ⟨h.val * 64 + e.val, by omega⟩)

theorem headRow_self (s : Two) (r : Fin 512) (l : Fin 128) : headRow s r (side l) (place l) = s (ix2 r l) :=
  congrArg s (congrArg (ix2 r) (Fin.ext (by simp only; omega)))

/-- … the reciprocal of its root mean square, … -/
def rootV (t : Two) : Two := rsqrt (addf (meanV (mulf t t)) (broadcast S512x128 (Scalar.ofBits .f32 0x358637BD#32)))

theorem rootV_at (t : Two) (r : Fin 512) (l : Fin 128) : rootV t (ix2 r l) = root (headRow t r (side l)) := by
  unfold rootV
  pointwise [meanV_at, root]

/-- … the gradient through the norm … -/
def backV (d t : Two) (g : FVec Ideal S1x128 .f32) : Two :=
  subf (mulf (rootV t) (mulf d (broadcastTo S512x128 g broadcasts_S1x128_S512x128)))
    (mulf (mulf t (mulf (mulf (rootV t) (rootV t)) (rootV t))) (meanV (mulf (mulf d (broadcastTo S512x128 g broadcasts_S1x128_S512x128)) t)))

theorem backV_at (d t : Two) (g : FVec Ideal S1x128 .f32) (r : Fin 512) (l : Fin 128) :
    backV d t g (ix2 r l) = back (headRow t r (side l)) (headRow d r (side l)) (fun e => g (ix2 0 ⟨(side l).val * 64 + e.val, by omega⟩)) (place l) := by
  have e : (⟨(side l).val * 64 + (place l).val, by omega⟩ : Fin 128) = l := Fin.ext (by simp only; omega)
  unfold backV
  pointwise [meanV_at, rootV_at, back]
  simp only [headRow, e]

/-- … and each column's sum of the rows' shares of the gradient of the norm's weights. -/
def sumV (d t : Two) : FVec Ideal S1x128 .f32 :=
  shapeCast S1x128 (multiReduction .add [0] S128 (mulf (mulf d t) (rootV t)) 0x00000000#32 reduces_S512x128_S128 (.inl rfl) rfl) shapeCasts_S128_S1x128

theorem sumV_at (d t : Two) (l : Fin 128) :
    sumV d t (ix2 0 l) = ∑ r : Fin 512, d (ix2 r l) * t (ix2 r l) * root (headRow t r (side l)) := by
  unfold sumV
  pointwise [rootV_at]

/-- Two queries' heads side by side, from the first halves of their transposed rows … -/
def firsts (a b : FVec Ideal S1x128x512 .f32) : Two :=
  select low (transpose S512x128 [1, 0] (shapeCast S128x512 a shapeCasts_S1x128x512_S128x512) transposes_S128x512_p1_0_S512x128)
    (dynamicRotate 1 64#32 none (transpose S512x128 [1, 0] (shapeCast S128x512 b shapeCasts_S1x128x512_S128x512) transposes_S128x512_p1_0_S512x128) rotates_S512x128_d1)
/-- … and from their second halves. -/
def seconds (a b : FVec Ideal S1x128x512 .f32) : Two :=
  select low (dynamicRotate 1 64#32 none (transpose S512x128 [1, 0] (shapeCast S128x512 a shapeCasts_S1x128x512_S128x512) transposes_S128x512_p1_0_S512x128) rotates_S512x128_d1)
    (transpose S512x128 [1, 0] (shapeCast S128x512 b shapeCasts_S1x128x512_S128x512) transposes_S128x512_p1_0_S512x128)

theorem firsts_at (a b : FVec Ideal S1x128x512 .f32) (r : Fin 512) (l : Fin 128) :
    firsts a b (ix2 r l) = (if l.val < 64 then a else b) (ix3 0 ⟨l.val % 64, by omega⟩ r) := by
  unfold firsts
  pointwise [low_at]
  by_cases h : l.val < 64
  · simp only [if_pos h, Scalar.select, BitVec.reduceEq, if_true]
    exact congrArg a (congrArg (ix3 0 · r) (Fin.ext (by simp only; omega)))
  · simp only [if_neg h, Scalar.select, BitVec.reduceEq, if_false]
    exact congrArg b (congrArg (ix3 0 · r) (Fin.ext (by simp only; omega)))

theorem seconds_at (a b : FVec Ideal S1x128x512 .f32) (r : Fin 512) (l : Fin 128) :
    seconds a b (ix2 r l) = (if l.val < 64 then a else b) (ix3 0 ⟨64 + l.val % 64, by omega⟩ r) := by
  unfold seconds
  pointwise [low_at]
  by_cases h : l.val < 64
  · simp only [if_pos h, Scalar.select, BitVec.reduceEq, if_true]
    exact congrArg a (congrArg (ix3 0 · r) (Fin.ext (by simp only; omega)))
  · simp only [if_neg h, Scalar.select, BitVec.reduceEq, if_false]
    exact congrArg b (congrArg (ix3 0 · r) (Fin.ext (by simp only; omega)))

end Cert.PrepIdeal.Value
end
-- ==== Proof.Prep.Block.lean ====
module

public import Idealize.ShloMosaic.Lib.Pipeline.ReadBack
public import proofs.«01_k».proof.Proof.Gen.PrepIdeal.Value
public import proofs.«01_k».proof.Proof.Prep.Ops
public import proofs.«01_k».proof.Proof.Common.Pieces
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen Cert.Prep

variable (m : (ℓ : Loc nD τ sig) → Buf (Elt Ideal) ℓ)

/-- The call's arguments on device `c`. -/
def args (c : Dev nD) : Args where
  qa := m (c, main_arg0)
  ka := m (c, main_arg1)
  va := m (c, main_arg2)
  qb := m (c, main_arg3)
  kb := m (c, main_arg4)
  vb := m (c, main_arg5)
  p := m (c, main_arg6)
  qn := m (c, main_arg7)
  kn := m (c, main_arg8)
  gl := m (c, main_arg9)
  cr := m (c, main_arg10)
  sr := m (c, main_arg11)
  cc := m (c, main_arg12)
  sc := m (c, main_arg13)

theorem points (t : Fin cfg0.N) : t.val < 32 := lt_of_lt_of_eq t.isLt N_0

/-- Row `r` of point `t`'s block. -/
abbrev row (t : Fin cfg0.N) (r : Fin 512) : Fin 16384 := ⟨t.val * 512 + r.val, by have := points t; omega⟩

theorem idx : ∀ t : Fin cfg0.N, win0_0.index t = ![0, 0, t.val] ∧ win0_1.index t = ![t.val, 0] ∧ win0_2.index t = ![t.val, 0]
    ∧ win0_3.index t = ![0, 0, t.val] ∧ win0_4.index t = ![t.val, 0] ∧ win0_5.index t = ![t.val, 0]
    ∧ win0_6.index t = ![t.val, 0] ∧ win0_7.index t = ![t.val, 0] ∧ win0_8.index t = ![t.val, 0]
    ∧ win0_9.index t = ![0, 0] ∧ win0_10.index t = ![0, 0] ∧ win0_11.index t = ![t.val, 0]
    ∧ win0_12.index t = ![t.val, 0] ∧ win0_13.index t = ![0, 0] ∧ win0_14.index t = ![0, 0] :=
  (by decide +kernel : ∀ t : Fin grid0.N, _)

/-- The host's cosines and sines of two heads, … -/
theorem host_cos (c : Dev nD) : ∀ i, V m c main_v6 i = cosv (args m c) (i 0) (place (i 1)) := by
  intro i
  idx_vars i
  simp only [V, hostOps0, List.flatten_cons, List.flatten_nil, List.append_nil, List.cons_append, List.nil_append]
  after_reads_at
  all_goals (try after_reads_at)
  all_goals (try pointwise [cosv])
  all_goals
    split_ifs
    all_goals (try (exfalso; omega))
    all_goals (try (first | refine Eq.trans ?_ (if_pos (show i1.val % 64 < 32 by omega)).symm | refine Eq.trans ?_ (if_neg (show ¬i1.val % 64 < 32 by omega)).symm))
    all_goals first
      | (refine congrArg (args m c).cr (congrArg (ix2 i0) (Fin.ext ?_)); show _ = i1.val % 64 % 16; dsimp only; omega)
      | (refine congrArg (args m c).sr (congrArg (ix2 i0) (Fin.ext ?_)); show _ = i1.val % 64 % 16; dsimp only; omega)
      | (refine congrArg (args m c).cc (congrArg (ix2 i0) (Fin.ext ?_)); show _ = i1.val % 64 % 16; dsimp only; omega)
      | (refine congrArg (args m c).sc (congrArg (ix2 i0) (Fin.ext ?_)); show _ = i1.val % 64 % 16; dsimp only; omega)

theorem host_sin (c : Dev nD) : ∀ i, V m c main_v9 i
    = if (i 1).val % 32 < 16 then -sinv (args m c) (i 0) (place (i 1)) else sinv (args m c) (i 0) (place (i 1)) := by
  intro i
  idx_vars i
  simp only [V, hostOps0, List.flatten_cons, List.flatten_nil, List.append_nil, List.cons_append, List.nil_append]
  after_reads_at
  all_goals (try after_reads_at)
  all_goals (try pointwise [sinv])
  all_goals
    split_ifs
    all_goals (try (exfalso; omega))
    all_goals (try (first | refine Eq.trans ?_ (if_pos (show i1.val % 32 < 16 by omega)).symm | refine Eq.trans ?_ (if_neg (show ¬i1.val % 32 < 16 by omega)).symm))
    all_goals (try refine congrArg (fun x : EReal => -x) ?_)
    all_goals (try (first | refine Eq.trans ?_ (if_pos (show i1.val % 64 < 32 by omega)).symm | refine Eq.trans ?_ (if_neg (show ¬i1.val % 64 < 32 by omega)).symm))
    all_goals first
      | (refine congrArg (args m c).cr (congrArg (ix2 i0) (Fin.ext ?_)); show _ = i1.val % 64 % 16; dsimp only; omega)
      | (refine congrArg (args m c).sr (congrArg (ix2 i0) (Fin.ext ?_)); show _ = i1.val % 64 % 16; dsimp only; omega)
      | (refine congrArg (args m c).cc (congrArg (ix2 i0) (Fin.ext ?_)); show _ = i1.val % 64 % 16; dsimp only; omega)
      | (refine congrArg (args m c).sc (congrArg (ix2 i0) (Fin.ext ?_)); show _ = i1.val % 64 % 16; dsimp only; omega)

/-- … and its weights of the norms for both. -/
theorem host_qn (c : Dev nD) : ∀ i, V m c main_v12 i = m (c, main_arg7) (ix2 0 (place (i 1))) := by
  intro i
  idx_vars i
  simp only [V, hostOps0, List.flatten_cons, List.flatten_nil, List.append_nil, List.cons_append, List.nil_append]
  after_reads_at
  all_goals (try after_reads_at)
  all_goals (try pointwise)

theorem host_kn (c : Dev nD) : ∀ i, V m c main_v15 i = m (c, main_arg8) (ix2 0 (place (i 1))) := by
  intro i
  idx_vars i
  simp only [V, hostOps0, List.flatten_cons, List.flatten_nil, List.append_nil, List.cons_append, List.nil_append]
  after_reads_at
  all_goals (try after_reads_at)
  all_goals (try pointwise)

/-- What each window's block holds: the cotangents, … -/
theorem blk (c : Dev nD) (t : Fin cfg0.N) :
    (∀ h q r, iblk m c 0 t (ix3 h q r) = (args m c).qa (ix3 h q (row t r)))
    ∧ (∀ r l, iblk m c 1 t (ix2 r l) = (args m c).ka (ix2 (row t r) l))
    ∧ (∀ r l, iblk m c 2 t (ix2 r l) = (args m c).va (ix2 (row t r) l))
    ∧ (∀ h q r, iblk m c 3 t (ix3 h q r) = (args m c).qb (ix3 h q (row t r)))
    ∧ (∀ r l, iblk m c 4 t (ix2 r l) = (args m c).kb (ix2 (row t r) l))
    ∧ (∀ r l, iblk m c 5 t (ix2 r l) = (args m c).vb (ix2 (row t r) l))
    ∧ (∀ r l, iblk m c 11 t (ix2 r l) = (args m c).gl (ix2 (row t r) l)) := by
  obtain ⟨i0, i1, i2, i3, i4, i5, i6, i7, i8, i9, i10, i11, -⟩ := idx t
  refine ⟨fun h q r => ?_, fun r l => ?_, fun r l => ?_, fun h q r => ?_, fun r l => ?_, fun r l => ?_, fun r l => ?_⟩
  all_goals
    simp only [iblk]
    blk_point [i0, i1, i2, i3, i4, i5, i11]

/-- … the tables and the weights … -/
theorem tab (c : Dev nD) (t : Fin cfg0.N) :
    (∀ r l, iblk m c 7 t (ix2 r l) = cosv (args m c) (row t r) (place l))
    ∧ (∀ r l, iblk m c 8 t (ix2 r l) = if l.val % 32 < 16 then -sinv (args m c) (row t r) (place l) else sinv (args m c) (row t r) (place l))
    ∧ (∀ o l, iblk m c 9 t (ix2 o l) = (args m c).qn (ix2 0 (place l)))
    ∧ (∀ o l, iblk m c 10 t (ix2 o l) = (args m c).kn (ix2 0 (place l))) := by
  obtain ⟨i0, i1, i2, i3, i4, i5, i6, i7, i8, i9, i10, i11, -⟩ := idx t
  refine ⟨fun r l => (?_ : _ = V m c main_v6 (ix2 (row t r) l)).trans (host_cos m c _),
    fun r l => (?_ : _ = V m c main_v9 (ix2 (row t r) l)).trans (host_sin m c _),
    fun o l => (?_ : _ = V m c main_v12 (ix2 0 l)).trans (host_qn m c _),
    fun o l => (?_ : _ = V m c main_v15 (ix2 0 l)).trans (host_kn m c _)⟩
  all_goals
    simp only [iblk]
    blk_point [i7, i8, i9, i10]

/-- … and the projection's first columns. -/
theorem prj (c : Dev nD) (t : Fin cfg0.N) (r : Fin 512) (k : Fin 1536) :
    X0_6 m c t (ix2 r k) = (args m c).p (ix2 (row t r) ⟨k.val, by omega⟩) := by
  obtain ⟨i0, i1, i2, i3, i4, i5, i6, -⟩ := idx t
  unfold X0_6 Pipeline.Window.fill
  rw [dif_pos (moved0_6 t _)]
  simp only [iblk]
  blk_point [i6]

end Cert.PrepIdeal.Value
end
-- ==== Proof.Prep.Rows.lean ====
module

public import Idealize.ShloMosaic.Lib.Pipeline.ReadBack
public import proofs.«01_k».proof.Proof.Gen.PrepIdeal.Value
public import proofs.«01_k».proof.Proof.Prep.Block
public import proofs.«01_k».proof.Proof.Common.Pieces
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen Cert.Prep

variable (m : (ℓ : Loc nD τ sig) → Buf (Elt Ideal) ℓ) (c : Dev nD) (t : Fin cfg0.N)

/-- Heads turned back by a point's tables are each turned back. -/
theorem turned (d : Two) (r : Fin 512) (l : Fin 128) :
    turnV (iblk m c 7 t) (iblk m c 8 t) d (ix2 r l) = turn (args m c) (row t r) (headRow d r (side l)) (place l) := by
  obtain ⟨b7, b8, -, -⟩ := tab m c t
  rw [turnV_at, b7, b8]
  have e : l.val % 64 % 32 = l.val % 32 := by omega
  unfold turn
  by_cases h : l.val % 32 < 16
  · rw [dif_pos h, if_pos h, dif_pos (show l.val % 64 % 32 < 16 by omega), mul_neg, sub_eq_add_neg, neg_neg, add_comm]
    refine congrArg₂ (· + ·) (congrArg (· * _) (congrArg d (congrArg (ix2 r) (Fin.ext ?_)))) (congrArg (· * _) (headRow_self d r l).symm)
    show l.val + 16 = l.val / 64 * 64 + (l.val % 64 + 16)
    omega
  · rw [dif_neg h, if_neg h, dif_neg (show ¬l.val % 64 % 32 < 16 by omega), sub_eq_add_neg, ← EReal.neg_mul]
    refine congrArg₂ (· + ·) (congrArg (· * _) (headRow_self d r l).symm) (congrArg (fun x : EReal => -x * _) (congrArg d (congrArg (ix2 r) (Fin.ext ?_))))
    show l.val - 16 = l.val / 64 * 64 + (l.val % 64 - 16)
    omega

theorem side_of (h : Fin 2) (e : Fin 64) (hl : h.val * 64 + e.val < 128) : side ⟨h.val * 64 + e.val, hl⟩ = h := Fin.ext (by show (h.val * 64 + e.val) / 64 = h.val; omega)
theorem place_of (h : Fin 2) (e : Fin 64) (hl : h.val * 64 + e.val < 128) : place ⟨h.val * 64 + e.val, hl⟩ = e := Fin.ext (by show (h.val * 64 + e.val) % 64 = e.val; omega)

theorem turned_row (d : Two) (r : Fin 512) (h : Fin 2) :
    headRow (turnV (iblk m c 7 t) (iblk m c 8 t) d) r h = turn (args m c) (row t r) (headRow d r h) := by
  funext e
  refine (turned m c t d r _).trans ?_
  rw [side_of, place_of]

/-- Heads scaled by the factor of the scores. -/
abbrev scaled (d : Two) : Two := mulf d (broadcast S512x128 (Scalar.ofBits .f32 0x3E000000#32))

/-- Two queries' heads are the rows of the array they are read from. -/
theorem firsts_row (x : S8x128x16384.Idx → EReal) (k : ℕ) (hk : k ≤ 2) (a b : FVec Ideal S1x128x512 .f32)
    (ha : ∀ q r, a (ix3 0 q r) = x (ix3 ⟨k, by omega⟩ q (row t r))) (hb : ∀ q r, b (ix3 0 q r) = x (ix3 ⟨k + 1, by omega⟩ q (row t r))) (r : Fin 512) (h : Fin 2) :
    headRow (firsts a b) r h = query (row t r) x ⟨k + h.val, by omega⟩ := by
  funext e
  refine (firsts_at a b r _).trans ?_
  rcases (by omega : h.val = 0 ∨ h.val = 1) with e0 | e1
  · rw [if_pos (by show h.val * 64 + e.val < 64; omega), ha]
    refine congrArg x ?_
    rw [show (⟨k, by omega⟩ : Fin 8) = ⟨k + h.val, by omega⟩ from Fin.ext (by show k = k + h.val; omega)]
    exact congrArg (ix3 _ · _) (Fin.ext (by show (h.val * 64 + e.val) % 64 = (k + h.val) / 4 * 64 + e.val; omega))
  · rw [if_neg (by show ¬h.val * 64 + e.val < 64; omega), hb]
    refine congrArg x ?_
    rw [show (⟨k + 1, by omega⟩ : Fin 8) = ⟨k + h.val, by omega⟩ from Fin.ext (by show k + 1 = k + h.val; omega)]
    exact congrArg (ix3 _ · _) (Fin.ext (by show (h.val * 64 + e.val) % 64 = (k + h.val) / 4 * 64 + e.val; omega))

theorem seconds_row (x : S8x128x16384.Idx → EReal) (k : ℕ) (hk : 4 ≤ k ∧ k ≤ 6) (a b : FVec Ideal S1x128x512 .f32)
    (ha : ∀ q r, a (ix3 0 q r) = x (ix3 ⟨k, by omega⟩ q (row t r))) (hb : ∀ q r, b (ix3 0 q r) = x (ix3 ⟨k + 1, by omega⟩ q (row t r))) (r : Fin 512) (h : Fin 2) :
    headRow (seconds a b) r h = query (row t r) x ⟨k + h.val, by omega⟩ := by
  funext e
  refine (seconds_at a b r _).trans ?_
  rcases (by omega : h.val = 0 ∨ h.val = 1) with e0 | e1
  · rw [if_pos (by show h.val * 64 + e.val < 64; omega), ha]
    refine congrArg x ?_
    rw [show (⟨k, by omega⟩ : Fin 8) = ⟨k + h.val, by omega⟩ from Fin.ext (by show k = k + h.val; omega)]
    exact congrArg (ix3 _ · _) (Fin.ext (by show 64 + (h.val * 64 + e.val) % 64 = (k + h.val) / 4 * 64 + e.val; omega))
  · rw [if_neg (by show ¬h.val * 64 + e.val < 64; omega), hb]
    refine congrArg x ?_
    rw [show (⟨k + 1, by omega⟩ : Fin 8) = ⟨k + h.val, by omega⟩ from Fin.ext (by show k + 1 = k + h.val; omega)]
    exact congrArg (ix3 _ · _) (Fin.ext (by show 64 + (h.val * 64 + e.val) % 64 = (k + h.val) / 4 * 64 + e.val; omega))

/-- A head's transposed rows as a load reads them: of the windowed attention's … -/
theorem ld_qa (k : ℕ) (hk : k < 8) (inb : ∀ a, (![k, 0, 0] : Fin 3 → ℕ) a + (![1, 128, 512] : Fin 3 → ℕ) a ≤ S8x128x512.size a) (q : Fin 128) (r : Fin 512) :
    View.ld (Val := Elt Ideal) (e' := .f32) (iblk m c 0 t : S8x128x512.Idx → EReal) (Rect.unit ![k, 0, 0] ![1, 128, 512] inb) (ix3 0 q r) = (args m c).qa (ix3 ⟨k, hk⟩ q (row t r)) :=
  (View.ld_unit_apply_of _ _ _ _ _ (ix3 (⟨k, hk⟩ : Fin 8) q r) fun a => by fin_cases a <;> simp).trans ((blk m c t).1 _ _ _)

/-- … and of the global attention's. -/
theorem ld_qb (k : ℕ) (hk : k < 8) (inb : ∀ a, (![k, 0, 0] : Fin 3 → ℕ) a + (![1, 128, 512] : Fin 3 → ℕ) a ≤ S8x128x512.size a) (q : Fin 128) (r : Fin 512) :
    View.ld (Val := Elt Ideal) (e' := .f32) (iblk m c 3 t : S8x128x512.Idx → EReal) (Rect.unit ![k, 0, 0] ![1, 128, 512] inb) (ix3 0 q r) = (args m c).qb (ix3 ⟨k, hk⟩ q (row t r)) :=
  (View.ld_unit_apply_of _ _ _ _ _ (ix3 (⟨k, hk⟩ : Fin 8) q r) fun a => by fin_cases a <;> simp).trans ((blk m c t).2.2.2.1 _ _ _)

/-- Two queries or two keys that are normed, as a load reads them. -/
theorem ld_q (k : ℕ) (hk : k ≤ 6) (o : ℕ) (ho : o = 768 + k * 64) (inb : ∀ a, (![0, o] : Fin 2 → ℕ) a + (![512, 128] : Fin 2 → ℕ) a ≤ S512x1536.size a) (r : Fin 512) (h : Fin 2) :
    headRow (View.ld (Val := Elt Ideal) (e' := .f32) (X0_6 m c t : S512x1536.Idx → EReal) (Rect.unit ![0, o] ![512, 128] inb)) r h = qrow (args m c) (row t r) ⟨k + h.val, by omega⟩ := by
  funext e
  refine (View.ld_unit_apply_of _ _ _ _ _ (ix2 r (⟨o + (h.val * 64 + e.val), by omega⟩ : Fin 1536)) fun a => by fin_cases a <;> simp).trans ((prj m c t _ _).trans ?_)
  refine congrArg (args m c).p (congrArg (ix2 _) (Fin.ext ?_))
  show o + (h.val * 64 + e.val) = 768 + ((k + h.val) * 64 + e.val)
  omega

theorem ld_k (inb : ∀ a, (![0, 1280] : Fin 2 → ℕ) a + (![512, 128] : Fin 2 → ℕ) a ≤ S512x1536.size a) (r : Fin 512) (h : Fin 2) :
    headRow (View.ld (Val := Elt Ideal) (e' := .f32) (X0_6 m c t : S512x1536.Idx → EReal) (Rect.unit ![0, 1280] ![512, 128] inb)) r h = krow (args m c) (row t r) h := by
  funext e
  exact (View.ld_unit_apply_of _ _ _ _ _ (ix2 r (⟨1280 + (h.val * 64 + e.val), by omega⟩ : Fin 1536)) fun a => by fin_cases a <;> simp).trans (prj m c t _ _)

/-! ## The columns of the projection's gradient -/

section
variable (k : ℕ) (hk : k ≤ 6) (s T : Two) (r : Fin 512) (l : Fin 128) (y : Fin 3584) (z : Fin 512)

theorem piece_qa (hs : ∀ r h, headRow s r h = query (row t r) (args m c).qa ⟨k + h.val, by omega⟩) (hy : y.val = k * 64 + l.val) :
    scaled (turnV (iblk m c 7 t) (iblk m c 8 t) s) (ix2 r l) = Gdp (args m c) (ix2 (row t r) y) := by
  refine (congrArg (· * c8) (turned m c t s r l)).trans ?_
  rw [hs, gdp_qa _ _ _ (show y.val < 512 by omega)]
  refine congrArg (· * c8) ?_
  rw [show (⟨k + (side l).val, by omega⟩ : Fin 8) = ⟨y.val / 64, by omega⟩ from Fin.ext (by show k + l.val / 64 = y.val / 64; omega)]
  exact congrArg (turn (args m c) (row t r) _) (Fin.ext (by show l.val % 64 = y.val % 64; omega))

theorem scaled_row (hs : ∀ r h, headRow s r h = query (row t r) (args m c).qb ⟨k + h.val, by omega⟩) (h : Fin 2) :
    headRow (scaled (turnV (iblk m c 7 t) (iblk m c 8 t) s)) r h = dqb (args m c) (row t r) ⟨k + h.val, by omega⟩ := by
  funext e
  refine (congrArg (· * c8) (congrFun (turned_row m c t s r h) e)).trans ?_
  rw [hs, dqb]

theorem piece_qb (hs : ∀ r h, headRow s r h = query (row t r) (args m c).qb ⟨k + h.val, by omega⟩)
    (hT : ∀ r h, headRow T r h = qrow (args m c) (row t r) ⟨k + h.val, by omega⟩) (hy : y.val = 768 + (k * 64 + l.val)) :
    backV (scaled (turnV (iblk m c 7 t) (iblk m c 8 t) s)) T (iblk m c 9 t) (ix2 r l) = Gdp (args m c) (ix2 (row t r) y) := by
  rw [backV_at, scaled_row m c t k hk s r hs, hT, gdp_qb _ _ _ (show ¬y.val < 768 by omega) (show y.val < 1280 by omega)]
  rw [show (⟨k + (side l).val, by omega⟩ : Fin 8) = ⟨(y.val - 768) / 64, by omega⟩ from Fin.ext (by show k + l.val / 64 = (y.val - 768) / 64; omega),
    show place l = ⟨y.val % 64, by omega⟩ from Fin.ext (by show l.val % 64 = y.val % 64; omega)]
  refine congrArg (fun g => back _ _ g _) (funext fun e => ((tab m c t).2.2.1 _ _).trans ?_)
  rw [place_of]

theorem piece_ka (hy : y.val = 512 + l.val) :
    turnV (iblk m c 7 t) (iblk m c 8 t) (iblk m c 1 t) (ix2 r l) = Gdp (args m c) (ix2 (row t r) y) := by
  have hs : headRow (iblk m c 1 t) r (side l) = key (row t r) (args m c).ka (side l) := funext fun e => (blk m c t).2.1 _ _
  rw [turned, hs, gdp_ka _ _ _ (show ¬y.val < 512 by omega) (show y.val < 640 by omega)]
  rw [show side l = ⟨(y.val - 512) / 64, by omega⟩ from Fin.ext (by show l.val / 64 = (y.val - 512) / 64; omega),
    show place l = ⟨y.val % 64, by omega⟩ from Fin.ext (by show l.val % 64 = y.val % 64; omega)]

theorem turned_kb (h : Fin 2) : headRow (turnV (iblk m c 7 t) (iblk m c 8 t) (iblk m c 4 t)) r h = dkb (args m c) (row t r) h := by
  have hs : headRow (iblk m c 4 t) r h = key (row t r) (args m c).kb h := funext fun e => (blk m c t).2.2.2.2.1 _ _
  rw [turned_row, hs]
  rfl

theorem piece_kb (hT : ∀ r h, headRow T r h = krow (args m c) (row t r) h) (hy : y.val = 1280 + l.val) :
    backV (turnV (iblk m c 7 t) (iblk m c 8 t) (iblk m c 4 t)) T (iblk m c 10 t) (ix2 r l) = Gdp (args m c) (ix2 (row t r) y) := by
  rw [backV_at, turned_kb, hT, gdp_kb _ _ _ (show ¬y.val < 1280 by omega) (show y.val < 1408 by omega)]
  have hg : (fun e : Fin 64 => iblk m c 10 t (ix2 0 ⟨(side l).val * 64 + e.val, by omega⟩)) = fun e => (args m c).kn (ix2 0 e) :=
    funext fun e => ((tab m c t).2.2.2 _ _).trans (by rw [place_of])
  have e1 : side l = ⟨(y.val - 1280) / 64, by omega⟩ := Fin.ext (by show l.val / 64 = (y.val - 1280) / 64; omega)
  have e2 : place l = ⟨y.val % 64, by omega⟩ := Fin.ext (by show l.val % 64 = y.val % 64; omega)
  refine (congrArg (fun g => back _ _ g _) hg).trans ?_
  rw [e1, e2]

theorem piece_va (hy : y.val = 640 + l.val) : iblk m c 2 t (ix2 r l) = Gdp (args m c) (ix2 (row t r) y) := by
  refine ((blk m c t).2.2.1 _ _).trans ?_
  rw [gdp_va _ _ _ (show ¬y.val < 640 by omega) (show y.val < 768 by omega)]
  exact congrArg (args m c).va (congrArg (ix2 _) (Fin.ext (by show l.val = y.val - 640; omega)))

theorem piece_vb (hy : y.val = 1408 + l.val) : iblk m c 5 t (ix2 r l) = Gdp (args m c) (ix2 (row t r) y) := by
  refine ((blk m c t).2.2.2.2.2.1 _ _).trans ?_
  rw [gdp_vb _ _ _ (show ¬y.val < 1408 by omega) (show y.val < 1536 by omega)]
  exact congrArg (args m c).vb (congrArg (ix2 _) (Fin.ext (by show l.val = y.val - 1408; omega)))

theorem piece_gl (l : Fin 2048) (hy : y.val = 1536 + l.val) : iblk m c 11 t (ix2 r l) = Gdp (args m c) (ix2 (row t r) y) := by
  refine ((blk m c t).2.2.2.2.2.2 _ _).trans ?_
  rw [gdp_gl _ _ _ (show ¬y.val < 1536 by omega)]
  exact congrArg (args m c).gl (congrArg (ix2 _) (Fin.ext (by show l.val = y.val - 1536; omega)))

/-! ## The sums -/

theorem sum_q (hs : ∀ r h, headRow s r h = query (row t r) (args m c).qb ⟨k + h.val, by omega⟩)
    (hT : ∀ r h, headRow T r h = qrow (args m c) (row t r) ⟨k + h.val, by omega⟩) (hz : z.val = k * 64 + l.val) :
    sumV (scaled (turnV (iblk m c 7 t) (iblk m c 8 t) s)) T (ix2 0 l) = ∑ r, pq (args m c) (row t r) z := by
  rw [sumV_at]
  refine Finset.sum_congr rfl fun r _ => ?_
  rw [← headRow_self (scaled (turnV (iblk m c 7 t) (iblk m c 8 t) s)) r l, ← headRow_self T r l, scaled_row m c t k hk s r hs, hT, pq]
  rw [show (⟨k + (side l).val, by omega⟩ : Fin 8) = ⟨z.val / 64, by omega⟩ from Fin.ext (by show k + l.val / 64 = z.val / 64; omega),
    show place l = ⟨z.val % 64, by omega⟩ from Fin.ext (by show l.val % 64 = z.val % 64; omega)]

theorem sum_k (hT : ∀ r h, headRow T r h = krow (args m c) (row t r) h) :
    sumV (turnV (iblk m c 7 t) (iblk m c 8 t) (iblk m c 4 t)) T (ix2 0 l) = ∑ r, pk (args m c) (row t r) l := by
  rw [sumV_at]
  refine Finset.sum_congr rfl fun r _ => ?_
  rw [← headRow_self (turnV (iblk m c 7 t) (iblk m c 8 t) (iblk m c 4 t)) r l, ← headRow_self T r l, turned_kb, hT, pk]
end

end Cert.PrepIdeal.Value
end
-- ==== Proof.Prep.Points.lean ====
module

public import Idealize.ShloMosaic.Lib.Pipeline.ReadBack
public import proofs.«01_k».proof.Proof.Gen.PrepIdeal.Value
public import proofs.«01_k».proof.Proof.Prep.Rows
public import proofs.«01_k».proof.Proof.Common.Pieces
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.PrepIdeal.Value

open Cert.PrepIdeal Cert.PrepIdeal.Gen Cert.Prep

variable (m : (ℓ : Loc nD τ sig) → Buf (Elt Ideal) ℓ)

/-- A column that a store's box does not hold. -/
theorem not_col {o w : ℕ} {y0 : Fin 512} {y1 : Fin 3584}
    (h : ¬∀ a, (![0, o] : Fin 2 → ℕ) a ≤ ((ix2 y0 y1 : S512x3584.Idx) a).val
      ∧ ((ix2 y0 y1 : S512x3584.Idx) a).val < (![0, o] : Fin 2 → ℕ) a + (![512, w] : Fin 2 → ℕ) a) :
    y1.val < o ∨ o + w ≤ y1.val := by
  by_contra hn
  refine h fun a => ?_
  fin_cases a
  · exact ⟨Nat.zero_le _, by simpa using y0.isLt⟩
  · show o ≤ y1.val ∧ y1.val < o + w
    omega

set_option maxHeartbeats 800000 in
/-- A point leaves its rows of the projection's gradient. -/
theorem point12 (c : Dev nD) (t : Fin cfg0.N) (y : S512x3584.Idx) :
    (outsAt0 m c t.val t.isLt).1 y = Gdp (args m c) (ix2 (row t (y 0)) (y 1)) := by
  idx_vars y
  have hb := y1.isLt
  by_cases hz : t.val % 32 = 0
  on_goal 1 => rw [outsAt0_A m c t hz]
  on_goal 2 => rw [outsAt0_B m c t hz]
  all_goals
    frame_out
    iterate 13
      refine View.canon_newest _ _ _ _ _ _ _ (fun x h => ?_) (fun hn => ?_)
      on_goal 2 => replace hn := not_col hn
      on_goal 1 =>
        idx_vars x
        have h1 : y1.val = _ + x1.val := h 1
        simp at h1
        obtain rfl : y0 = x0 := Fin.ext (by simpa using h 0)
        unfold_payloads
        try simp only [shapeCast_self]
      swap
    · omega
    · exact piece_qa m c t 0 (by decide) (firsts _ _) y0 x1 y1 (firsts_row t _ 0 (by decide) _ _ (ld_qa m c t 0 (by decide) _) (ld_qa m c t 1 (by decide) _)) (by omega)
    · exact piece_qb m c t 0 (by decide) (firsts _ _) _ y0 x1 y1 (firsts_row t _ 0 (by decide) _ _ (ld_qb m c t 0 (by decide) _) (ld_qb m c t 1 (by decide) _)) (ld_q m c t 0 (by decide) 768 rfl _) (by omega)
    · exact piece_qa m c t 2 (by decide) (firsts _ _) y0 x1 y1 (firsts_row t _ 2 (by decide) _ _ (ld_qa m c t 2 (by decide) _) (ld_qa m c t 3 (by decide) _)) (by omega)
    · exact piece_qb m c t 2 (by decide) (firsts _ _) _ y0 x1 y1 (firsts_row t _ 2 (by decide) _ _ (ld_qb m c t 2 (by decide) _) (ld_qb m c t 3 (by decide) _)) (ld_q m c t 2 (by decide) 896 rfl _) (by omega)
    · exact piece_qa m c t 4 (by decide) (seconds _ _) y0 x1 y1 (seconds_row t _ 4 (by decide) _ _ (ld_qa m c t 4 (by decide) _) (ld_qa m c t 5 (by decide) _)) (by omega)
    · exact piece_qb m c t 4 (by decide) (seconds _ _) _ y0 x1 y1 (seconds_row t _ 4 (by decide) _ _ (ld_qb m c t 4 (by decide) _) (ld_qb m c t 5 (by decide) _)) (ld_q m c t 4 (by decide) 1024 rfl _) (by omega)
    · exact piece_qa m c t 6 (by decide) (seconds _ _) y0 x1 y1 (seconds_row t _ 6 (by decide) _ _ (ld_qa m c t 6 (by decide) _) (ld_qa m c t 7 (by decide) _)) (by omega)
    · exact piece_qb m c t 6 (by decide) (seconds _ _) _ y0 x1 y1 (seconds_row t _ 6 (by decide) _ _ (ld_qb m c t 6 (by decide) _) (ld_qb m c t 7 (by decide) _)) (ld_q m c t 6 (by decide) 1152 rfl _) (by omega)
    · exact piece_ka m c t y0 x1 y1 (by omega)
    · exact piece_va m c t y0 x1 y1 (by omega)
    · exact piece_kb m c t _ y0 x1 y1 (ld_k m c t _) (by omega)
    · exact piece_vb m c t y0 x1 y1 (by omega)
    · exact piece_gl m c t y0 y1 x1 (by omega)

/-- … nor these the columns of a row of the weights' gradient. -/
theorem not_lane {o w : ℕ} {y0 : Fin 1} {y1 : Fin 512}
    (h : ¬∀ a, (![0, o] : Fin 2 → ℕ) a ≤ ((ix2 y0 y1 : S1x512.Idx) a).val
      ∧ ((ix2 y0 y1 : S1x512.Idx) a).val < (![0, o] : Fin 2 → ℕ) a + (![1, w] : Fin 2 → ℕ) a) :
    y1.val < o ∨ o + w ≤ y1.val := by
  by_contra hn
  refine h fun a => ?_
  fin_cases a
  · exact ⟨Nat.zero_le _, by simp⟩
  · show o ≤ y1.val ∧ y1.val < o + w
    omega

theorem zero_5 (i : S1x512.Idx) : (k0_pay5 (F := Ideal)) i = (0 : EReal) := by
  unfold k0_pay5
  pointwise
theorem zero_6 (i : S1x128.Idx) : (k0_pay6 (F := Ideal)) i = (0 : EReal) := by
  unfold k0_pay6
  pointwise

set_option maxHeartbeats 800000 in
/-- The first point starts the gradients of the norms' weights from zero: of the queries' … -/
theorem point13A (c : Dev nD) (t : Fin cfg0.N) (hz : t.val % 32 = 0) (y : S1x512.Idx) :
    (outsAt0 m c t.val t.isLt).2.1 y = 0 + ∑ r, pq (args m c) (row t r) (y 1) := by
  idx_vars y
  have hb := y1.isLt
  rw [outsAt0_A m c t hz]
  frame_out
  simp (disch := decide) only [View.readCov_miss, View.readCov_whole]
  iterate 4
    refine View.canon_newest _ _ _ _ _ _ _ (fun x h => ?_) (fun hn => ?_)
    on_goal 2 => replace hn := not_lane hn
    on_goal 1 =>
      idx_vars x
      have h1 : y1.val = _ + x1.val := h 1
      simp at h1
      obtain rfl : x0 = 0 := Subsingleton.elim _ _
      unfold_payloads
      try simp only [shapeCast_self]
    swap
  · omega
  · exact congrArg₂ (· + ·) (zero_5 (ix2 0 y1)) (sum_q m c t 0 (by decide) (firsts _ _) _ x1 y1 (firsts_row t _ 0 (by decide) _ _ (ld_qb m c t 0 (by decide) _) (ld_qb m c t 1 (by decide) _)) (ld_q m c t 0 (by decide) 768 rfl _) (by omega))
  · exact congrArg₂ (· + ·) (zero_5 (ix2 0 y1)) (sum_q m c t 2 (by decide) (firsts _ _) _ x1 y1 (firsts_row t _ 2 (by decide) _ _ (ld_qb m c t 2 (by decide) _) (ld_qb m c t 3 (by decide) _)) (ld_q m c t 2 (by decide) 896 rfl _) (by omega))
  · exact congrArg₂ (· + ·) (zero_5 (ix2 0 y1)) (sum_q m c t 4 (by decide) (seconds _ _) _ x1 y1 (seconds_row t _ 4 (by decide) _ _ (ld_qb m c t 4 (by decide) _) (ld_qb m c t 5 (by decide) _)) (ld_q m c t 4 (by decide) 1024 rfl _) (by omega))
  · exact congrArg₂ (· + ·) (zero_5 (ix2 0 y1)) (sum_q m c t 6 (by decide) (seconds _ _) _ x1 y1 (seconds_row t _ 6 (by decide) _ _ (ld_qb m c t 6 (by decide) _) (ld_qb m c t 7 (by decide) _)) (ld_q m c t 6 (by decide) 1152 rfl _) (by omega))

set_option maxHeartbeats 800000 in
/-- … and the others add to what the point before left. -/
theorem point13B (c : Dev nD) (t : Fin cfg0.N) (hz : ¬t.val % 32 = 0) (y : S1x512.Idx) :
    (outsAt0 m c t.val t.isLt).2.1 y = (outsAt0 m c (t.val - 1) (Nat.lt_of_le_of_lt (Nat.sub_le _ _) t.isLt)).2.1 y + ∑ r, pq (args m c) (row t r) (y 1) := by
  idx_vars y
  have hb := y1.isLt
  obtain rfl : y0 = 0 := Subsingleton.elim _ _
  rw [outsAt0_B m c t hz]
  frame_out
  iterate 4
    refine View.canon_newest _ _ _ _ _ _ _ (fun x h => ?_) (fun hn => ?_)
    on_goal 2 => replace hn := not_lane hn
    on_goal 1 =>
      idx_vars x
      have h1 : y1.val = _ + x1.val := h 1
      simp at h1
      obtain rfl : x0 = 0 := Subsingleton.elim _ _
      unfold_payloads
      try simp only [shapeCast_self]
    swap
  · omega
  · exact congrArg₂ (· + ·) (View.ld_unit_apply_of _ _ _ _ _ (ix2 (0 : Fin 1) y1) fun a => by fin_cases a <;> simp <;> omega) (sum_q m c t 0 (by decide) (firsts _ _) _ x1 y1 (firsts_row t _ 0 (by decide) _ _ (ld_qb m c t 0 (by decide) _) (ld_qb m c t 1 (by decide) _)) (ld_q m c t 0 (by decide) 768 rfl _) (by omega))
  · exact congrArg₂ (· + ·) (View.ld_unit_apply_of _ _ _ _ _ (ix2 (0 : Fin 1) y1) fun a => by fin_cases a <;> simp <;> omega) (sum_q m c t 2 (by decide) (firsts _ _) _ x1 y1 (firsts_row t _ 2 (by decide) _ _ (ld_qb m c t 2 (by decide) _) (ld_qb m c t 3 (by decide) _)) (ld_q m c t 2 (by decide) 896 rfl _) (by omega))
  · exact congrArg₂ (· + ·) (View.ld_unit_apply_of _ _ _ _ _ (ix2 (0 : Fin 1) y1) fun a => by fin_cases a <;> simp <;> omega) (sum_q m c t 4 (by decide) (seconds _ _) _ x1 y1 (seconds_row t _ 4 (by decide) _ _ (ld_qb m c t 4 (by decide) _) (ld_qb m c t 5 (by decide) _)) (ld_q m c t 4 (by decide) 1024 rfl _) (by omega))
  · exact congrArg₂ (· + ·) (View.ld_unit_apply_of _ _ _ _ _ (ix2 (0 : Fin 1) y1) fun a => by fin_cases a <;> simp <;> omega) (sum_q m c t 6 (by decide) (seconds _ _) _ x1 y1 (seconds_row t _ 6 (by decide) _ _ (ld_qb m c t 6 (by decide) _) (ld_qb m c t 7 (by decide) _)) (ld_q m c t 6 (by decide) 1152 rfl _) (by omega))

/-- The same of the keys'. -/
theorem point14A (c : Dev nD) (t : Fin cfg0.N) (hz : t.val % 32 = 0) (y : S1x128.Idx) :
    (outsAt0 m c t.val t.isLt).2.2 y = 0 + ∑ r, pk (args m c) (row t r) (y 1) := by
  idx_vars y
  obtain rfl : y0 = 0 := Subsingleton.elim _ _
  rw [outsAt0_A m c t hz]
  frame_out
  rw [← zero_6 (ix2 0 y1)]
  generalize (k0_pay6 (F := Ideal)) = z
  unfold_payloads
  try simp only [shapeCast_self]
  exact congrArg (fun s : EReal => z (ix2 0 y1) + s) (sum_k m c t _ y1 (ld_k m c t _))

theorem point14B (c : Dev nD) (t : Fin cfg0.N) (hz : ¬t.val % 32 = 0) (y : S1x128.Idx) :
    (outsAt0 m c t.val t.isLt).2.2 y = (outsAt0 m c (t.val - 1) (Nat.lt_of_le_of_lt (Nat.sub_le _ _) t.isLt)).2.2 y + ∑ r, pk (args m c) (row t r) (y 1) := by
  idx_vars y
  obtain rfl : y0 = 0 := Subsingleton.elim _ _
  rw [outsAt0_B m c t hz]
  frame_out
  generalize (outsAt0 m c (t.val - 1) _).2.2 = z
  unfold_payloads
  try simp only [shapeCast_self]
  exact congrArg (fun s : EReal => z (ix2 0 y1) + s) (sum_k m c t _ y1 (ld_k m c t _))

/-! ## What the call leaves -/

/-- The gradient of the projection, … -/
theorem left12 (c : Dev nD) : (dats m 0 c).arrAt 12 cfg0.N = Gdp (args m c) := by
  refine (dats m 0 c).arrAt_eq_of_covers 12 _ (by decide +kernel) fun t hf y => ?_
  obtain ⟨-, -, -, -, -, -, -, -, -, -, -, -, i12, -, -⟩ := idx t
  blk_simp
  rw [after0_12]
  refine (point12 m c t y).trans ?_
  refine congrArg (Gdp (args m c)) (a₁ := ix2 (row t (y 0)) (y 1)) ?_
  blk_ext [i12, row]

/-- … of the weights of the queries' norm … -/
theorem left13 (c : Dev nD) : (dats m 0 c).arrAt 13 cfg0.N = Gqn (args m c) := by
  refine (dats m 0 c).arrAt_eq_of_covers 13 _ (by decide +kernel) fun t hf y => ?_
  obtain ⟨-, -, -, -, -, -, -, -, -, -, -, -, -, i13, -⟩ := idx t
  have ht := (flush0_13 t).mp hf
  have hp := points t
  blk_simp
  rw [after0_13, Pipeline.eq_sum_fin_of_reset_step_apply_of_flush (fun n h => (outsAt0 m c n h).2.1) 32 (fun _ => 0)
    (fun t (y : S1x512.Idx) => ∑ r, pq (args m c) (row t r) (y 1))
    (fun t h y => point13A m c t h y) (fun t h y => point13B m c t h y) t ht y, zero_add]
  refine (Fin.sum_mul_add_congr (S := 32) (n := 512) (f := fun n => pq (args m c) n (y 1)) fun s k hl => ?_).trans ?_
  · have e1 : row ⟨32 * (t.val / 32) + s.val, Pipeline.run_point_lt_of_flush t ht s⟩ k = ⟨s.val * 512 + k.val, hl⟩ := Fin.ext (by show (32 * (t.val / 32) + s.val) * 512 + k.val = s.val * 512 + k.val; omega)
    rw [e1]
  refine congrArg (Gqn (args m c)) (a₁ := ix2 0 (y 1)) ?_
  blk_ext [i13]

/-- … and of the keys'. -/
theorem left14 (c : Dev nD) : (dats m 0 c).arrAt 14 cfg0.N = Gkn (args m c) := by
  refine (dats m 0 c).arrAt_eq_of_covers 14 _ (by decide +kernel) fun t hf y => ?_
  obtain ⟨-, -, -, -, -, -, -, -, -, -, -, -, -, -, i14⟩ := idx t
  have ht := (flush0_14 t).mp hf
  have hp := points t
  blk_simp
  rw [after0_14, Pipeline.eq_sum_fin_of_reset_step_apply_of_flush (fun n h => (outsAt0 m c n h).2.2) 32 (fun _ => 0)
    (fun t (y : S1x128.Idx) => ∑ r, pk (args m c) (row t r) (y 1))
    (fun t h y => point14A m c t h y) (fun t h y => point14B m c t h y) t ht y, zero_add]
  refine (Fin.sum_mul_add_congr (S := 32) (n := 512) (f := fun n => pk (args m c) n (y 1)) fun s k hl => ?_).trans ?_
  · have e1 : row ⟨32 * (t.val / 32) + s.val, Pipeline.run_point_lt_of_flush t ht s⟩ k = ⟨s.val * 512 + k.val, hl⟩ := Fin.ext (by show (32 * (t.val / 32) + s.val) * 512 + k.val = s.val * 512 + k.val; omega)
    rw [e1]
  refine congrArg (Gkn (args m c)) (a₁ := ix2 0 (y 1)) ?_
  blk_ext [i14]

end Cert.PrepIdeal.Value
end
-- ==== Proof.Prep.Ref.lean ====
module

public import proofs.«01_k».proof.Proof.Prep.Terms
public import proofs.«01_k».proof.Proof.Gen.PrepRefIdeal.Read

@[expose] public section

set_option maxRecDepth 16384

noncomputable section

open Idealize.ShloMosaic Idealize.ShloMosaic.TcCoe Idealize.SL.Sem

namespace Cert.PrepRefIdeal.Read

open Cert.Prep

variable (A : Args)

/-- The reference's form of a head turned back. -/
theorem turn_nested (n : Fin 16384) (d : Fin 64 → EReal) (e : Fin 64) :
    (if h1 : e.val < 32 then
      if h2 : e.val < 16 then d ⟨16 + e.val, by omega⟩ * A.sr (ix2 n ⟨e.val, h2⟩) + d ⟨e.val, by omega⟩ * A.cr (ix2 n ⟨e.val, h2⟩)
      else d ⟨16 + (e.val - 16), by omega⟩ * A.cr (ix2 n ⟨e.val - 16, by omega⟩) + -d ⟨e.val - 16, by omega⟩ * A.sr (ix2 n ⟨e.val - 16, by omega⟩)
    else
      if h2 : e.val - 32 < 16 then d ⟨32 + (16 + (e.val - 32)), by omega⟩ * A.sc (ix2 n ⟨e.val - 32, h2⟩) + d ⟨32 + (e.val - 32), by omega⟩ * A.cc (ix2 n ⟨e.val - 32, h2⟩)
      else d ⟨32 + (16 + (e.val - 32 - 16)), by omega⟩ * A.cc (ix2 n ⟨e.val - 32 - 16, by omega⟩)
        + -d ⟨32 + (e.val - 32 - 16), by omega⟩ * A.sc (ix2 n ⟨e.val - 32 - 16, by omega⟩)) = turn A n d e := by
  unfold turn cosv sinv
  split_ifs
  all_goals first
    | (exfalso; omega)
    | skip
  all_goals
    refine congrArg₂ (· + ·) (congrArg₂ (· * ·) ?_ ?_) (congrArg₂ (· * ·) ?_ ?_)
  all_goals first
    | rfl
    | (refine congrArg d (Fin.ext ?_); dsimp only; omega)
    | (refine congrArg (fun x : EReal => -x) (congrArg d (Fin.ext ?_)); dsimp only; omega)
    | (refine congrArg A.sr (congrArg (ix2 n) (Fin.ext ?_)); dsimp only; omega)
    | (refine congrArg A.cr (congrArg (ix2 n) (Fin.ext ?_)); dsimp only; omega)
    | (refine congrArg A.sc (congrArg (ix2 n) (Fin.ext ?_)); dsimp only; omega)
    | (refine congrArg A.cc (congrArg (ix2 n) (Fin.ext ?_)); dsimp only; omega)

set_option backward.isDefEq.respectTransparency false in
theorem r_qa (n : Fin 16384) (h : Fin 8) (e : Fin 64) : val_main_v186 (F := Ideal) A.qa (ix3 n h e) = query n A.qa h e * c8 := by
  pointwise [val_main_v186, val_main_v185, val_main_v184, val_main_v183, val_main_v182, val_main_v181, val_main_cst_7, query, c8]
  refine congrArg (· * _) ?_
  split_ifs
  all_goals first
    | exact congrArg A.qa (congrArg (ix3 h · n) (Fin.ext (by show e.val = h.val / 4 * 64 + e.val; omega)))
    | (rw [show (⟨4 + (h.val - 4), by omega⟩ : Fin 8) = h from Fin.ext (by show 4 + (h.val - 4) = h.val; omega)]
       exact congrArg A.qa (congrArg (ix3 h · n) (Fin.ext (by show 64 + e.val = h.val / 4 * 64 + e.val; omega))))

set_option backward.isDefEq.respectTransparency false in
theorem r_qb (n : Fin 16384) (h : Fin 8) (e : Fin 64) : val_main_v193 (F := Ideal) A.qb (ix3 n h e) = query n A.qb h e * c8 := by
  pointwise [val_main_v193, val_main_v192, val_main_v191, val_main_v190, val_main_v189, val_main_v188, val_main_cst_8, query, c8]
  refine congrArg (· * _) ?_
  split_ifs
  all_goals first
    | exact congrArg A.qb (congrArg (ix3 h · n) (Fin.ext (by show e.val = h.val / 4 * 64 + e.val; omega)))
    | (rw [show (⟨4 + (h.val - 4), by omega⟩ : Fin 8) = h from Fin.ext (by show 4 + (h.val - 4) = h.val; omega)]
       exact congrArg A.qb (congrArg (ix3 h · n) (Fin.ext (by show 64 + e.val = h.val / 4 * 64 + e.val; omega))))

theorem r_ka (n : Fin 16384) (h : Fin 2) (e : Fin 64) : val_main_v187 (F := Ideal) A.ka (ix3 n h e) = key n A.ka h e := by
  pointwise [val_main_v187, key]

theorem r_kb (n : Fin 16384) (h : Fin 2) (e : Fin 64) : val_main_v194 (F := Ideal) A.kb (ix3 n h e) = key n A.kb h e := by
  pointwise [val_main_v194, key]

set_option backward.isDefEq.respectTransparency false in
theorem r_ta (n : Fin 16384) (h : Fin 8) (e : Fin 64) : val_main_v362 (F := Ideal) A.qa A.cr A.sr A.cc A.sc (ix3 n h e) = turn A n (query n A.qa h) e * c8 := by
  pointwise [val_main_v362, val_main_v361, val_main_v360, val_main_v359, val_main_v358, val_main_v357, val_main_v356, val_main_v355, val_main_v354, val_main_v353, val_main_v352, val_main_v351, val_main_v350, val_main_v349, val_main_v348, val_main_v347, val_main_v346, val_main_v345, val_main_v344, val_main_v343, val_main_v342, val_main_v341, val_main_v340, val_main_v339, val_main_v338, val_main_v337, val_main_v336, val_main_v335, val_main_v334, val_main_v333, val_main_v332, val_main_v14, val_main_v15, val_main_v16, val_main_v17, r_qa]
  exact (turn_nested A n (fun k => query n A.qa h k * c8) e).trans (turn_scaled A n _ e)

set_option backward.isDefEq.respectTransparency false in
theorem r_tb (n : Fin 16384) (h : Fin 8) (e : Fin 64) : val_main_v278 (F := Ideal) A.qb A.cr A.sr A.cc A.sc (ix3 n h e) = dqb A n h e := by
  pointwise [val_main_v278, val_main_v277, val_main_v276, val_main_v275, val_main_v274, val_main_v273, val_main_v272, val_main_v271, val_main_v270, val_main_v269, val_main_v268, val_main_v267, val_main_v266, val_main_v265, val_main_v264, val_main_v263, val_main_v262, val_main_v261, val_main_v260, val_main_v259, val_main_v258, val_main_v257, val_main_v256, val_main_v255, val_main_v254, val_main_v253, val_main_v252, val_main_v251, val_main_v250, val_main_v249, val_main_v248, val_main_v98, val_main_v99, val_main_v100, val_main_v101, r_qb]
  exact (turn_nested A n (fun k => query n A.qb h k * c8) e).trans (turn_scaled A n _ e)

set_option backward.isDefEq.respectTransparency false in
theorem r_sa (n : Fin 16384) (h : Fin 2) (e : Fin 64) : val_main_v330 (F := Ideal) A.ka A.cr A.sr A.cc A.sc (ix3 n h e) = turn A n (key n A.ka h) e := by
  pointwise [val_main_v330, val_main_v329, val_main_v328, val_main_v327, val_main_v326, val_main_v325, val_main_v324, val_main_v323, val_main_v322, val_main_v321, val_main_v320, val_main_v319, val_main_v318, val_main_v317, val_main_v316, val_main_v315, val_main_v314, val_main_v313, val_main_v312, val_main_v311, val_main_v310, val_main_v309, val_main_v308, val_main_v307, val_main_v306, val_main_v305, val_main_v304, val_main_v303, val_main_v302, val_main_v301, val_main_v300, val_main_v48, val_main_v49, val_main_v50, val_main_v51, r_ka]
  exact turn_nested A n (key n A.ka h) e

set_option backward.isDefEq.respectTransparency false in
theorem r_sb (n : Fin 16384) (h : Fin 2) (e : Fin 64) : val_main_v226 (F := Ideal) A.kb A.cr A.sr A.cc A.sc (ix3 n h e) = dkb A n h e := by
  pointwise [val_main_v226, val_main_v225, val_main_v224, val_main_v223, val_main_v222, val_main_v221, val_main_v220, val_main_v219, val_main_v218, val_main_v217, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_v196, val_main_v148, val_main_v149, val_main_v150, val_main_v151, r_kb]
  exact turn_nested A n (key n A.kb h) e

theorem r_q (n : Fin 16384) (h : Fin 8) (e : Fin 64) : val_main_v81 (F := Ideal) A.p (ix3 n h e) = qrow A n h e := by
  pointwise [val_main_v81, val_main_v9, qrow]

theorem r_ms (n : Fin 16384) (h : Fin 8) (o : Fin 1) : val_main_v88 (F := Ideal) A.p (ix3 n h o) = (∑ k, qrow A n h k * qrow A n h k) * c64 + eps := by
  pointwise [val_main_v88, val_main_v87, val_main_cst_1, val_main_v86, val_main_v85, val_main_cst_0, val_main_v84, val_main_v83, val_main_cst, val_main_v82, r_q]
  rw [div_64]

theorem r_root (n : Fin 16384) (h : Fin 8) (o : Fin 1) : val_main_v89 (F := Ideal) A.p (ix3 n h o) = root (qrow A n h) := by
  pointwise [val_main_v89, r_ms, root]

theorem r_dt (n : Fin 16384) (h : Fin 8) (e : Fin 64) : val_main_v298 (F := Ideal) A.qb A.p A.qn A.cr A.sr A.cc A.sc (ix3 n h e)
    = diff (qrow A n h) (dqb A n h) (fun k => A.qn (ix2 0 k)) e := by
  pointwise [val_main_v298, val_main_v297, val_main_v296, val_main_v295, val_main_v294, val_main_v293, val_main_v292, val_main_v291, val_main_v290, val_main_v289, val_main_v288, val_main_v287,
    val_main_v286, val_main_v285, val_main_v283, val_main_v282, val_main_cst_16, val_main_cst_17, val_main_cst_18, val_main_v95, val_main_v2, val_main_v1, val_main_v0,
    val_main_v92, val_main_v91, val_main_v90, val_main_cst_2, r_q, r_ms, r_root, r_tb, diff, dms]
  simp only [div_64, Finset.univ_unique, Finset.sum_singleton]

theorem r_k (n : Fin 16384) (h : Fin 2) (e : Fin 64) : val_main_v131 (F := Ideal) A.p (ix3 n h e) = krow A n h e := by
  pointwise [val_main_v131, val_main_v10, krow]

theorem r_msk (n : Fin 16384) (h : Fin 2) (o : Fin 1) : val_main_v138 (F := Ideal) A.p (ix3 n h o) = (∑ k, krow A n h k * krow A n h k) * c64 + eps := by
  pointwise [val_main_v138, val_main_v137, val_main_cst_5, val_main_v136, val_main_v135, val_main_cst_4, val_main_v134, val_main_v133, val_main_cst_3, val_main_v132, r_k]
  rw [div_64]

theorem r_rootk (n : Fin 16384) (h : Fin 2) (o : Fin 1) : val_main_v139 (F := Ideal) A.p (ix3 n h o) = root (krow A n h) := by
  pointwise [val_main_v139, r_msk, root]

theorem r_dk (n : Fin 16384) (h : Fin 2) (e : Fin 64) : val_main_v246 (F := Ideal) A.kb A.p A.kn A.cr A.sr A.cc A.sc (ix3 n h e)
    = diff (krow A n h) (dkb A n h) (fun k => A.kn (ix2 0 k)) e := by
  pointwise [val_main_v246, val_main_v245, val_main_v244, val_main_v243, val_main_v242, val_main_v241, val_main_v240, val_main_v239, val_main_v238, val_main_v237, val_main_v236, val_main_v235,
    val_main_v234, val_main_v233, val_main_v231, val_main_v230, val_main_cst_11, val_main_cst_12, val_main_cst_13, val_main_v145, val_main_v5, val_main_v4, val_main_v3,
    val_main_v142, val_main_v141, val_main_v140, val_main_cst_6, r_k, r_msk, r_rootk, r_sb, diff, dms]
  simp only [div_64, Finset.univ_unique, Finset.sum_singleton]

/-- The reference's results: the gradients of the norms' weights … -/
theorem ref_dqn : val_main_v366 (F := Ideal) A.qb A.p A.cr A.sr A.cc A.sc = Gqn A := by
  funext i
  idx_vars i
  pointwise [val_main_v366, val_main_v284, val_main_cst_15, val_main_v281, val_main_v280, val_main_cst_14, val_main_v279, val_main_v94, val_main_v93, r_q, r_root, r_tb, Gqn, pq]
  simp only [Finset.univ_unique, Finset.sum_singleton]
  exact Finset.sum_congr rfl fun n _ => (mul_comm _ _).trans (mul_assoc _ _ _).symm

theorem ref_dkn : val_main_v367 (F := Ideal) A.kb A.p A.cr A.sr A.cc A.sc = Gkn A := by
  funext i
  idx_vars i
  pointwise [val_main_v367, val_main_v232, val_main_cst_10, val_main_v229, val_main_v228, val_main_cst_9, val_main_v227, val_main_v144, val_main_v143, r_k, r_rootk, r_sb, Gkn, pk]
  simp only [Finset.univ_unique, Finset.sum_singleton]
  exact Finset.sum_congr rfl fun n _ => (mul_comm _ _).trans (mul_assoc _ _ _).symm

set_option maxHeartbeats 400000 in
set_option backward.isDefEq.respectTransparency false in
/-- … and of the projection. -/
theorem ref_dp (hS : Same A) : val_main_v365 (F := Ideal) A.qa A.ka A.va A.qb A.kb A.vb A.p A.qn A.kn A.gl A.cr A.sr A.cc A.sc = Gdp A := by
  funext i
  idx_vars i
  pointwise [val_main_v365, val_main_v364, val_main_v363, val_main_v331, val_main_v299, val_main_v247, val_main_v195, r_ta, r_sa, r_dt, r_dk]
  simp only [hS.1, hS.2]
  split_ifs
  all_goals (try (exfalso; omega))
  all_goals first
    | (rw [gdp_qa A i0 i1 (by omega)]; done)
    | (rw [gdp_ka A i0 i1 (by omega) (by omega)]
       exact congrArg₂ (fun (h : Fin 2) (e : Fin 64) => turn A i0 (key i0 A.ka h) e) (Fin.ext (by dsimp only)) (Fin.ext (by dsimp only; omega)))
    | (rw [gdp_va A i0 i1 (by omega) (by omega)]
       exact congrArg A.va (congrArg (ix2 i0) (Fin.ext (by dsimp only <;> omega))))
    | (rw [gdp_qb A i0 i1 (by omega) (by omega)]
       exact congrArg₂ (fun (h : Fin 8) (e : Fin 64) => back (qrow A i0 h) (dqb A i0 h) (fun k => A.qn (ix2 0 k)) e) (Fin.ext (by dsimp only; omega)) (Fin.ext (by dsimp only; omega)))
    | (rw [gdp_kb A i0 i1 (by omega) (by omega)]
       exact congrArg₂ (fun (h : Fin 2) (e : Fin 64) => back (krow A i0 h) (dkb A i0 h) (fun k => A.kn (ix2 0 k)) e) (Fin.ext (by dsimp only; omega)) (Fin.ext (by dsimp only; omega)))
    | (rw [gdp_vb A i0 i1 (by omega) (by omega)]
       exact congrArg A.vb (congrArg (ix2 i0) (Fin.ext (by dsimp only; omega))))
    | (rw [gdp_gl A i0 i1 (by omega)]
       exact congrArg A.gl (congrArg (ix2 i0) (Fin.ext (by dsimp only; omega))))

end Cert.PrepRefIdeal.Read
end
-- ==== Proof.Prep.Finite.lean ====
/-
  The precondition says that the arguments are finite.
-/
module

public import proofs.«01_k».proof.Pre_prep_finite
public import proofs.«01_k».proof.Proof.Common.Finite

@[expose] public section

set_option maxRecDepth 16384

noncomputable section

namespace Cert.Prep

open Idealize.ShloMosaic Idealize.ShloMosaic.TcCoe Cert.Pre_prep_finite Cert.Finite

variable [Cert.Pre_prep_finite.Facts]
open Cert.Pre_prep_finite.Facts

/-- What the precondition says: the cotangents of the normed queries and keys, the projection, the norms' weights and the tables are finite. -/
theorem finite_all (qa : FVec Ideal S8x128x16384 .f32) (ka va : FVec Ideal S16384x128 .f32) (qb : FVec Ideal S8x128x16384 .f32) (kb vb : FVec Ideal S16384x128 .f32)
    (p : FVec Ideal S16384x3584 .f32) (qn kn : FVec Ideal S1x64 .f32) (gl : FVec Ideal S16384x2048 .f32) (cr sr cc sc : FVec Ideal S16384x16 .f32)
    (h : fn (F := Ideal) qa ka va qb kb vb p qn kn gl cr sr cc sc = fun _ => 1#1) :
    (∀ i, Real' (qb i)) ∧ (∀ i, Real' (kb i)) ∧ (∀ i, Real' (p i)) ∧ (∀ i, Real' (qn i)) ∧ (∀ i, Real' (kn i)) ∧ (∀ i, Real' (cr i)) ∧ (∀ i, Real' (sr i))
      ∧ (∀ i, Real' (cc i)) ∧ (∀ i, Real' (sc i)) := by
  unfold fn fn_part1 fn_part2 at h
  dsimp only at h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h1⟩ := both h
  refine ⟨fun i => real_of_lt ?_, fun i => real_of_lt ?_, fun i => real_of_lt ?_, fun i => real_of_lt ?_, fun i => real_of_lt ?_, fun i => real_of_lt ?_, fun i => real_of_lt ?_, fun i => real_of_lt ?_, fun i => real_of_lt ?_⟩
  · exact Host.reduce_andi_all _ _ _ _ _ (congrFun h (Shape.Idx.first h_S_)) i
  · exact Host.reduce_andi_all _ _ _ _ _ (congrFun h1 (Shape.Idx.first h_S_)) i
  · exact Host.reduce_andi_all _ _ _ _ _ (congrFun h2 (Shape.Idx.first h_S_)) i
  · exact Host.reduce_andi_all _ _ _ _ _ (congrFun h3 (Shape.Idx.first h_S_)) i
  · exact Host.reduce_andi_all _ _ _ _ _ (congrFun h4 (Shape.Idx.first h_S_)) i
  · exact Host.reduce_andi_all _ _ _ _ _ (congrFun h5 (Shape.Idx.first h_S_)) i
  · exact Host.reduce_andi_all _ _ _ _ _ (congrFun h6 (Shape.Idx.first h_S_)) i
  · exact Host.reduce_andi_all _ _ _ _ _ (congrFun h7 (Shape.Idx.first h_S_)) i
  · exact Host.reduce_andi_all _ _ _ _ _ (congrFun h8 (Shape.Idx.first h_S_)) i

end Cert.Prep

end
-- ==== Proof.Prep.Claims.lean ====
module

public import proofs.«01_k».proof.Defs
public import proofs.«01_k».proof.Proof.Prep.Points
public import proofs.«01_k».proof.Proof.Prep.Ref
public import proofs.«01_k».proof.Proof.Prep.Finite
public import proofs.«01_k».proof.Proof.Gen.Prep.Frame
public import proofs.«01_k».proof.Proof.Gen.PrepRefIdeal.Run

@[expose] public section

set_option maxRecDepth 16384

noncomputable section

open Idealize.ShloMosaic Idealize.ShloMosaic.TcCoe Idealize.SL.Sem
open Idealize.ShloMosaic.StableHlo (launchContents)

namespace Cert.PrepClaims

open Cert.Prep

/-- The kernel terminates without fault, its arguments unchanged, every counter zero. -/
theorem frame : quiescent_Prep (hPrep := Cert.Prep.Gen.facts) := fun m ρ _ => Cert.Prep.Gen.frame m ρ

/-- The ideal program, likewise. -/
theorem frame_ideal : quiescent_PrepIdeal (hPrepIdeal := Cert.PrepIdeal.Gen.facts) := fun m ρ _ => Cert.PrepIdeal.Gen.frame m ρ

/-- The reference, likewise. -/
theorem frame_ref : quiescent_PrepRefIdeal (hPrepRefIdeal := Cert.PrepRefIdeal.Gen.facts) := fun m ρ _ =>
  (θ_run Cert.PrepRefIdeal.defs _ _).mono (fun r h => ⟨fun c => (h c).2.2.2, sem_eq_zero_of_no_sems (by decide) r.2⟩)
    (Cert.PrepRefIdeal.Value.run m ρ)

variable [hPre : Cert.Pre_prep_finite.Facts]

/-- The ideal program and the reference on finite arguments: as on any. -/
theorem frame_ideal_pre : quiescent_PrepIdeal_pre_prep_finite (hPrepIdeal := Cert.PrepIdeal.Gen.facts) := fun m ρ _ => frame_ideal m ρ trivial
theorem frame_ref_pre : quiescent_PrepRefIdeal_pre_prep_finite (hPrepRefIdeal := Cert.PrepRefIdeal.Gen.facts) := fun m ρ _ => frame_ref m ρ trivial

set_option maxHeartbeats 2000000 in
/-- On finite arguments kernel and reference leave the same arrays. -/
theorem value : algebraic_PrepIdeal_PrepRefIdeal_pre_prep_finite (hPrepIdeal := Cert.PrepIdeal.Gen.facts) (hPrepRefIdeal := Cert.PrepRefIdeal.Gen.facts) := by
  intro m ρ m' ρ' hpre hargs
  have same (c) : Same (Cert.PrepIdeal.Value.args m c) := by
    obtain ⟨h0, h1, h2, h3, h4, h5, h6, h7, h8⟩ := finite_all _ _ _ _ _ _ _ _ _ _ _ _ _ _ (hpre c)
    exact same _ h0 h1 h2 h3 h4 h5 h6 h7 h8
  refine ⟨fun c => Gdp (Cert.PrepIdeal.Value.args m c), fun c => Gqn (Cert.PrepIdeal.Value.args m c), fun c => Gkn (Cert.PrepIdeal.Value.args m c), ?_, ?_⟩
  · exact (θ_run Cert.PrepIdeal.defs _ _).mono (fun r h c => let ⟨h0, h1, h2, rest⟩ := h c
      ⟨h0.trans (Cert.PrepIdeal.Value.left12 m c), h1.trans (Cert.PrepIdeal.Value.left13 m c), h2.trans (Cert.PrepIdeal.Value.left14 m c), rest⟩) (Cert.PrepIdeal.Value.run_blocks (F := Ideal) m ρ)
  · refine (θ_run Cert.PrepRefIdeal.defs _ _).mono (fun r h c => let ⟨h0, h1, h2, rest⟩ := h c
      ⟨h0.trans ?_, h1.trans ?_, h2.trans ?_, rest⟩) (Cert.PrepRefIdeal.Value.run (F := Ideal) m' ρ')
    all_goals obtain ⟨a0, a1, a2, a3, a4, a5, a6, a7, a8, a9, a10, a11, a12, a13⟩ := hargs c
    · refine (Cert.PrepRefIdeal.Read.val_main_v365_eq (F := Ideal) (launchContents m' c)).trans ?_
      dsimp only [launchContents]
      rw [a0, a1, a2, a3, a4, a5, a6, a7, a8, a9, a10, a11, a12, a13]
      exact Cert.PrepRefIdeal.Read.ref_dp (Cert.PrepIdeal.Value.args m c) (same c)
    · refine (Cert.PrepRefIdeal.Read.val_main_v366_eq (F := Ideal) (launchContents m' c)).trans ?_
      dsimp only [launchContents]
      rw [a3, a6, a10, a11, a12, a13]
      exact Cert.PrepRefIdeal.Read.ref_dqn (Cert.PrepIdeal.Value.args m c)
    · refine (Cert.PrepRefIdeal.Read.val_main_v367_eq (F := Ideal) (launchContents m' c)).trans ?_
      dsimp only [launchContents]
      rw [a4, a6, a10, a11, a12, a13]
      exact Cert.PrepRefIdeal.Read.ref_dkn (Cert.PrepIdeal.Value.args m c)

end Cert.PrepClaims
end
-- ==== Proof.Act.Terms.lean ====
/-
  The gradients of the feed-forward part's gate and of the convolution's weights and bias, entry by entry.
-/
module

public import proofs.«01_k».proof.ActIdeal
public import Idealize.ShloMosaic.Lib.Pointwise

@[expose] public section

noncomputable section

open Idealize.ShloMosaic Cert.ActIdeal

namespace Cert.Act

/-- The arguments: the cotangent of the down projection, the projection, the convolution's input, its three taps and its bias. -/
structure Args where
  d : S16384x1024.Idx → EReal
  w : S2816x1024.Idx → EReal
  u : S16384x5632.Idx → EReal
  k : S3x5632.Idx → EReal
  b : S1x5632.Idx → EReal

/-- Column `q` of the gates (half 0) or of the values (half 1). -/
def col (h : ℕ) (hh : h < 2) (q : Fin 2816) : Fin 5632 := ⟨h * 2816 + q.val, by omega⟩

variable (A : Args)

/-- The row before, the row itself and the row after; zero outside. -/
def before (n : Fin 16384) (c : Fin 5632) : EReal := if h : n.val = 0 then 0 else A.u (ix2 ⟨n.val - 1, by omega⟩ c)
def after (n : Fin 16384) (c : Fin 5632) : EReal := if h : n.val = 16383 then 0 else A.u (ix2 ⟨n.val + 1, by omega⟩ c)
def tap (s : Fin 3) (n : Fin 16384) (c : Fin 5632) : EReal := if s.val = 0 then before A n c else if s.val = 1 then A.u (ix2 n c) else after A n c

/-- The convolution, … -/
def cv (n : Fin 16384) (c : Fin 5632) : EReal :=
  A.k (ix2 0 c) * before A n c + A.k (ix2 1 c) * A.u (ix2 n c) + A.k (ix2 2 c) * after A n c + A.b (ix2 0 c)
/-- … its gates and values, … -/
def gc (n : Fin 16384) (q : Fin 2816) : EReal := cv A n (col 0 (by decide) q)
def vc (n : Fin 16384) (q : Fin 2816) : EReal := cv A n (col 1 (by decide) q)
/-- … the gates' sigmoid. -/
def sg (n : Fin 16384) (q : Fin 2816) : EReal := Ideal.div 1 (1 + Ideal.exp (0 - gc A n q))
/-- The gradient of the gated values, … -/
def da (n : Fin 16384) (q : Fin 2816) : EReal := ∑ j : Fin 1024, A.d (ix2 n j) * A.w (ix2 q j)
/-- … of the gates and of the values. -/
def dgate (n : Fin 16384) (q : Fin 2816) : EReal := da A n q * vc A n q * sg A n q * (1 + gc A n q * (1 - sg A n q))
def dval (n : Fin 16384) (q : Fin 2816) : EReal := da A n q * gc A n q * sg A n q
def grad (h : Fin 2) (n : Fin 16384) (q : Fin 2816) : EReal := if h.val = 0 then dgate A n q else dval A n q

theorem grad_0 (n : Fin 16384) (q : Fin 2816) : grad A 0 n q = dgate A n q := rfl
theorem grad_1 (n : Fin 16384) (q : Fin 2816) : grad A 1 n q = dval A n q := rfl
theorem tap_0 (n : Fin 16384) (c : Fin 5632) : tap A 0 n c = before A n c := rfl
theorem tap_1 (n : Fin 16384) (c : Fin 5632) : tap A 1 n c = A.u (ix2 n c) := rfl
theorem tap_2 (n : Fin 16384) (c : Fin 5632) : tap A 2 n c = after A n c := rfl

/-- The results: the gradient of the convolution's output, of its weights and of its bias, gates' columns first. -/
def Gdc : S2x16384x2816.Idx → EReal := fun i => grad A (i 0) (i 1) (i 2)
def Gdw : S2x3x2816.Idx → EReal := fun i => ∑ n, grad A (i 0) n (i 2) * tap A (i 1) n (col (i 0).val (i 0).isLt (i 2))
def Gdb : S2x1x2816.Idx → EReal := fun i => ∑ n, grad A (i 0) n (i 2)

/-- What the derivative's two sums agree in: with finite arguments the gates' cotangent may be taken out of the silu's derivative. -/
def Same : Prop := ∀ n q, da A n q * vc A n q * sg A n q + gc A n q * (da A n q * vc A n q) * (sg A n q * (1 - sg A n q)) = dgate A n q

end Cert.Act

end
-- ==== Proof.Act.Block.lean ====
module

public import proofs.«01_k».proof.Proof.Gen.ActIdeal.Value
public import proofs.«01_k».proof.Proof.Common.Pieces
public import proofs.«01_k».proof.Proof.Act.Terms
public import Idealize.ShloMosaic.Lib.Pipeline.ReadBack
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ActIdeal.Value

open Cert.ActIdeal Cert.ActIdeal.Gen Cert.Act

variable (m : (ℓ : Loc nD τ sig) → Buf (Elt Ideal) ℓ)

abbrev args (c : Dev nD) : Args := ⟨m (c, main_arg0), m (c, main_arg1), m (c, main_arg2), m (c, main_arg3), m (c, main_arg4)⟩

theorem points (t : Fin cfg0.N) : t.val < 88 := lt_of_lt_of_eq t.isLt N_0

/-- Row `r` of point `t`'s blocks of rows is this row of the arrays, … -/
abbrev row (t : Fin cfg0.N) (r : Fin 2048) : Fin 16384 := ⟨t.val % 8 * 2048 + r.val, by omega⟩

/-- … and column `q` of its block of columns this one. -/
abbrev qol (t : Fin cfg0.N) (q : Fin 256) : Fin 2816 := ⟨t.val / 8 * 256 + q.val, by have := points t; omega⟩

/-! ## The host's lines before the call -/

theorem host_w (c : Dev nD) : ∀ i, V m c main_v0 i = m (c, main_arg1) i := by
  intro i
  idx_vars i
  simp only [V, hostOps0, List.flatten_cons, List.flatten_nil, List.append_nil, List.cons_append, List.nil_append]
  after_reads_at
  all_goals (try after_reads_at)
  all_goals (try pointwise)

theorem host_u (c : Dev nD) : ∀ i, V m c main_v2 i = m (c, main_arg2) (ix2 (i 1) (col (i 0).val (i 0).isLt (i 2))) := by
  intro i
  idx_vars i
  simp only [V, hostOps0, List.flatten_cons, List.flatten_nil, List.append_nil, List.cons_append, List.nil_append]
  after_reads_at
  all_goals (try after_reads_at)
  all_goals (try pointwise [col])

theorem host_k (c : Dev nD) : ∀ i, V m c main_v4 i = m (c, main_arg3) (ix2 (i 1) (col (i 0).val (i 0).isLt (i 2))) := by
  intro i
  idx_vars i
  simp only [V, hostOps0, List.flatten_cons, List.flatten_nil, List.append_nil, List.cons_append, List.nil_append]
  after_reads_at
  all_goals (try after_reads_at)
  all_goals (try pointwise [col])

theorem host_b (c : Dev nD) : ∀ i, V m c main_v5 i = m (c, main_arg4) (ix2 0 (col (i 0).val (i 0).isLt (i 2))) := by
  intro i
  idx_vars i
  simp only [V, hostOps0, List.flatten_cons, List.flatten_nil, List.append_nil, List.cons_append, List.nil_append]
  after_reads_at
  all_goals (try after_reads_at)
  all_goals (try pointwise [col])

/-! ## The blocks -/

theorem idx : ∀ t : Fin cfg0.N, win0_0.index t = ![t.val % 8, 0] ∧ win0_1.index t = ![t.val / 8, 0] ∧ win0_2.index t = ![0, t.val % 8, t.val / 8]
    ∧ win0_3.index t = ![0, t.val % 8 * 128 - 1, t.val / 8] ∧ win0_4.index t = ![0, min (t.val % 8 * 128 + 128) 1023, t.val / 8]
    ∧ win0_5.index t = ![0, 0, t.val / 8] ∧ win0_6.index t = ![0, 0, t.val / 8] ∧ (grid0.coords t 1).val = t.val % 8 :=
  (by decide +kernel : ∀ t : Fin grid0.N, _)

theorem idx_out : ∀ t : Fin cfg0.N, win0_7.index t = ![0, t.val % 8, t.val / 8] ∧ win0_8.index t = ![0, 0, t.val / 8] ∧ win0_9.index t = ![0, 0, t.val / 8] :=
  (by decide +kernel : ∀ t : Fin grid0.N, _)

/-- What each window's block holds. -/
theorem blk (c : Dev nD) (t : Fin cfg0.N) :
    (∀ r k, iblk m c 0 t (ix2 r k) = (args m c).d (ix2 (row t r) k))
    ∧ (∀ q k, iblk m c 1 t (ix2 q k) = (args m c).w (ix2 (qol t q) k))
    ∧ (∀ h r q, iblk m c 2 t (ix3 h r q) = (args m c).u (ix2 (row t r) (col h.val h.isLt (qol t q))))
    ∧ (∀ h s q, iblk m c 5 t (ix3 h s q) = (args m c).k (ix2 s (col h.val h.isLt (qol t q))))
    ∧ (∀ h s q, iblk m c 6 t (ix3 h s q) = (args m c).b (ix2 0 (col h.val h.isLt (qol t q)))) := by
  obtain ⟨i0, i1, i2, i3, i4, i5, i6, -⟩ := idx t
  have ht := points t
  refine ⟨fun r k => ?_, fun q k => (?_ : _ = V m c main_v0 (ix2 (qol t q) k)).trans (host_w m c _),
    fun h r q => (?_ : _ = V m c main_v2 (ix3 h (row t r) (qol t q))).trans (host_u m c _),
    fun h s q => (?_ : _ = V m c main_v4 (ix3 h s (qol t q))).trans (host_k m c _),
    fun h s q => (?_ : _ = V m c main_v5 (ix3 h s (qol t q))).trans (host_b m c _)⟩
  all_goals
    simp only [iblk]
    blk_point [i0, i1, i2, i5, i6]

/-- The rows that border on point `t`'s block of rows. -/
theorem blk_prev (c : Dev nD) (t : Fin cfg0.N) (h : Fin 2) (q : Fin 256) (ht : t.val % 8 ≠ 0) :
    iblk m c 3 t (ix3 h 15 q) = (args m c).u (ix2 ⟨t.val % 8 * 2048 - 1, by omega⟩ (col h.val h.isLt (qol t q))) := by
  obtain ⟨i0, i1, i2, i3, i4, i5, i6, -⟩ := idx t
  have hp := points t
  refine (?_ : _ = V m c main_v2 (ix3 h ⟨t.val % 8 * 2048 - 1, by omega⟩ (qol t q))).trans (host_u m c _)
  simp only [iblk]
  blk_point [i3]

theorem blk_next (c : Dev nD) (t : Fin cfg0.N) (h : Fin 2) (q : Fin 256) (ht : t.val % 8 ≠ 7) :
    iblk m c 4 t (ix3 h 0 q) = (args m c).u (ix2 ⟨t.val % 8 * 2048 + 2048, by omega⟩ (col h.val h.isLt (qol t q))) := by
  obtain ⟨i0, i1, i2, i3, i4, i5, i6, -⟩ := idx t
  have hp := points t
  refine (?_ : _ = V m c main_v2 (ix3 h ⟨t.val % 8 * 2048 + 2048, by omega⟩ (qol t q))).trans (host_u m c _)
  simp only [iblk]
  blk_point [i4]

/-- The row before, as a block reads it: of the rows above its own for its first, … -/
theorem halo_before (c : Dev nD) (t : Fin cfg0.N) (g : Fin 8) (e : g.val = t.val % 8) (h : Fin 2) (r : Fin 2048) (q : Fin 256) (hr : (r.val + 2048 - 1) % 2048 < 2048) :
    (if r.val = 0 then if g.val = 0 then (0 : EReal) else iblk m c 3 t (ix3 h 15 q)
      else m (c, main_arg2) (ix2 (row t ⟨(r.val + 2048 - 1) % 2048, hr⟩) (col h.val h.isLt (qol t q))))
      = before (args m c) (row t r) (col h.val h.isLt (qol t q)) := by
  have ht := points t
  simp only [before, row]
  split_ifs
  all_goals first
    | (exfalso; omega)
    | rfl
    | (rw [blk_prev m c t h q (by omega)]; refine congrArg (args m c).u (congrArg (ix2 · _) (Fin.ext ?_)); show t.val % 8 * 2048 - 1 = t.val % 8 * 2048 + r.val - 1; omega)
    | (refine congrArg (args m c).u (congrArg (ix2 · _) (Fin.ext ?_)); show t.val % 8 * 2048 + (r.val + 2048 - 1) % 2048 = t.val % 8 * 2048 + r.val - 1; omega)

/-- … and the row after, of the rows below its own for its last. -/
theorem halo_after (c : Dev nD) (t : Fin cfg0.N) (g : Fin 8) (e : g.val = t.val % 8) (h : Fin 2) (r : Fin 2048) (q : Fin 256) (hr : (r.val + 2048 - 2047) % 2048 < 2048) :
    (if r.val = 2047 then if g.val = 7 then (0 : EReal) else iblk m c 4 t (ix3 h 0 q)
      else m (c, main_arg2) (ix2 (row t ⟨(r.val + 2048 - 2047) % 2048, hr⟩) (col h.val h.isLt (qol t q))))
      = after (args m c) (row t r) (col h.val h.isLt (qol t q)) := by
  have ht := points t
  simp only [after, row]
  split_ifs
  all_goals first
    | (exfalso; omega)
    | rfl
    | (rw [blk_next m c t h q (by omega)]; refine congrArg (args m c).u (congrArg (ix2 · _) (Fin.ext ?_)); show t.val % 8 * 2048 + 2048 = t.val % 8 * 2048 + r.val + 1; omega)
    | (refine congrArg (args m c).u (congrArg (ix2 · _) (Fin.ext ?_)); show t.val % 8 * 2048 + (r.val + 2048 - 2047) % 2048 = t.val % 8 * 2048 + r.val + 1; omega)

/-- An index into one row of one half. -/
theorem half_of {h : Fin 2} {k : ℕ} (hk : k < 2) (e : h.val = k) : h = ⟨k, hk⟩ := Fin.ext e

/-! ## What a point stores -/

set_option maxHeartbeats 4000000 in
/-- The gradient of the convolution's output, … -/
theorem point_dc (c : Dev nD) (t : Fin cfg0.N) (y : S2x2048x256.Idx) :
    (outsAt0 m c t.val t.isLt).1 y = grad (args m c) (y 0) (row t (y 1)) (qol t (y 2)) := by
  obtain ⟨b0, b1, b2, b5, b6⟩ := blk m c t
  have e : (grid0.coords t 1 : Fin 8).val = t.val % 8 := (idx t).2.2.2.2.2.2.2
  idx_vars y
  by_cases hz : t.val % 8 = 0
  on_goal 1 => rw [outsAt0_A m c t hz]
  on_goal 2 => rw [outsAt0_B m c t hz]
  all_goals
    frame_out
    canon_tiles x h
    all_goals
      idx_vars x
      unfold_payloads
      pointwise
      simp (disch := word_cmp_side) only [hlo_ix, id_eq]
      simp only [b0, b1, b2, b5, b6]
      simp only [halo_before m c t (grid0.coords t 1) e, halo_after m c t (grid0.coords t 1) e]
      obtain rfl : y1 = x1 := Fin.ext (by simpa using h1)
      obtain rfl : y2 = x2 := Fin.ext (by simpa using h2)
      have e0 := half_of (k := y0.val) y0.isLt rfl
      simp only [grad]
      first | (rw [if_pos (by omega)]; rfl) | (rw [if_neg (by omega)]; rfl)

/-- An index that a row's box does not hold is one of another row. -/
theorem not_row {k s n : ℕ} {y0 : Fin 2} {y1 : Fin n} {y2 : Fin 256}
    (h : ¬∀ a, (![k, s, 0] : Fin 3 → ℕ) a ≤ ((ix3 y0 y1 y2 : (⟨3, ![2, n, 256]⟩ : Shape).Idx) a).val
      ∧ ((ix3 y0 y1 y2 : (⟨3, ![2, n, 256]⟩ : Shape).Idx) a).val < (![k, s, 0] : Fin 3 → ℕ) a + (![1, 1, 256] : Fin 3 → ℕ) a) :
    ¬(y0.val = k ∧ y1.val = s) := by
  rintro ⟨rfl, rfl⟩
  refine h fun a => ?_
  fin_cases a
  · exact ⟨Nat.le_refl _, Nat.lt_succ_self _⟩
  · exact ⟨Nat.le_refl _, Nat.lt_succ_self _⟩
  · exact ⟨Nat.zero_le _, by simpa using y2.isLt⟩

theorem half_cases (y : Fin 2) {P : Prop} (h0 : y.val = 0 → y = 0 → P) (h1 : y.val = 1 → y = 1 → P) : P := by
  rcases (by omega : y.val = 0 ∨ y.val = 1) with h | h
  exacts [h0 h (Fin.ext h), h1 h (Fin.ext h)]
theorem tap_cases (y : Fin 3) {P : Prop} (h0 : y.val = 0 → y = 0 → P) (h1 : y.val = 1 → y = 1 → P) (h2 : y.val = 2 → y = 2 → P) : P := by
  rcases (by omega : y.val = 0 ∨ y.val = 1 ∨ y.val = 2) with h | h | h
  exacts [h0 h (Fin.ext h), h1 h (Fin.ext h), h2 h (Fin.ext h)]

/-- A block's share of the weights' gradient, … -/
def pdw (A : Args) (t : Fin cfg0.N) (h : Fin 2) (s : Fin 3) (q : Fin 256) : EReal :=
  ∑ r : Fin 2048, grad A h (row t r) (qol t q) * tap A s (row t r) (col h.val h.isLt (qol t q))
/-- … and of the bias's. -/
def pdb (A : Args) (t : Fin cfg0.N) (h : Fin 2) (q : Fin 256) : EReal := ∑ r : Fin 2048, grad A h (row t r) (qol t q)

set_option maxHeartbeats 4000000 in
/-- … and its rows' products with the taps added to the sums: … -/
theorem point_dw_next (c : Dev nD) (t : Fin cfg0.N) (hz : ¬t.val % 8 = 0) (y : S2x3x256.Idx) :
    (outsAt0 m c t.val t.isLt).2.1 y = (outsAt0 m c (t.val - 1) (Nat.lt_of_le_of_lt (Nat.sub_le _ _) t.isLt)).2.1 y
      + pdw (args m c) t (y 0) (y 1) (y 2) := by
  obtain ⟨b0, b1, b2, b5, b6⟩ := blk m c t
  have e : (grid0.coords t 1 : Fin 8).val = t.val % 8 := (idx t).2.2.2.2.2.2.2
  idx_vars y
  rw [outsAt0_B m c t hz]
  frame_out
  canon_tiles x h
  all_goals
    idx_vars x
    unfold_payloads
    pointwise
    simp (disch := word_cmp_side) only [hlo_ix, id_eq]
    simp only [b0, b1, b2, b5, b6]
    simp only [halo_before m c t (grid0.coords t 1) e, halo_after m c t (grid0.coords t 1) e]
    obtain rfl : y2 = x2 := Fin.ext (by simpa using h2)
    refine half_cases y0 (fun q e => ?_) (fun q e => ?_)
    all_goals first | (exfalso; omega) | skip
    all_goals subst e
    refine tap_cases y1 (fun q e => ?_) (fun q e => ?_) (fun q e => ?_)
    all_goals first | (exfalso; omega) | skip
    all_goals subst e
    simp only [pdw, grad_0, grad_1, tap_0, tap_1, tap_2]
    rfl

set_option maxHeartbeats 4000000 in
theorem point_db_next (c : Dev nD) (t : Fin cfg0.N) (hz : ¬t.val % 8 = 0) (y : S2x1x256.Idx) :
    (outsAt0 m c t.val t.isLt).2.2 y = (outsAt0 m c (t.val - 1) (Nat.lt_of_le_of_lt (Nat.sub_le _ _) t.isLt)).2.2 y
      + pdb (args m c) t (y 0) (y 2) := by
  obtain ⟨b0, b1, b2, b5, b6⟩ := blk m c t
  have e : (grid0.coords t 1 : Fin 8).val = t.val % 8 := (idx t).2.2.2.2.2.2.2
  idx_vars y
  rw [outsAt0_B m c t hz]
  frame_out
  canon_tiles x h
  all_goals
    idx_vars x
    unfold_payloads
    pointwise
    simp (disch := word_cmp_side) only [hlo_ix, id_eq]
    simp only [b0, b1, b2, b5, b6]
    simp only [halo_before m c t (grid0.coords t 1) e, halo_after m c t (grid0.coords t 1) e]
    obtain rfl : y2 = x2 := Fin.ext (by simpa using h2)
    refine half_cases y0 (fun q e => ?_) (fun q e => ?_)
    all_goals first | (exfalso; omega) | skip
    all_goals subst e
    obtain rfl : y1 = 0 := Subsingleton.elim _ _
    simp only [pdb, grad_0, grad_1]
    rfl

set_option maxHeartbeats 4000000 in
/-- … to nothing at a column block's first point. -/
theorem point_dw_first (c : Dev nD) (t : Fin cfg0.N) (hz : t.val % 8 = 0) (y : S2x3x256.Idx) :
    (outsAt0 m c t.val t.isLt).2.1 y = 0 + pdw (args m c) t (y 0) (y 1) (y 2) := by
  obtain ⟨b0, b1, b2, b5, b6⟩ := blk m c t
  have e : (grid0.coords t 1 : Fin 8).val = t.val % 8 := (idx t).2.2.2.2.2.2.2
  idx_vars y
  rw [outsAt0_A m c t hz]
  frame_out
  simp (disch := decide) only [View.readCov_miss, View.readCov_whole]
  iterate 6
    refine View.canon_newest _ _ _ _ _ _ _ (fun x h => ?_) (fun hn => ?_)
    on_goal 2 => replace hn := not_row hn
    · have h2 : y2.val = _ := h 2
      idx_vars x
      have g0 : x0.val < 1 := x0.isLt
      have g1 : x1.val < 1 := x1.isLt
      have h0 : y0.val = _ + x0.val := h 0
      have h1 : y1.val = _ + x1.val := h 1
      simp only [Matrix.cons_val] at h0 h1
      unfold_payloads
      pointwise
      simp (disch := word_cmp_side) only [hlo_ix, id_eq]
      simp only [b0, b1, b2, b5, b6]
      simp only [halo_before m c t (grid0.coords t 1) e, halo_after m c t (grid0.coords t 1) e]
      obtain rfl : y2 = x2 := Fin.ext (by simpa using h2)
      refine half_cases y0 (fun q e => ?_) (fun q e => ?_)
      all_goals first | (exfalso; omega) | skip
      all_goals subst e
      refine tap_cases y1 (fun q e => ?_) (fun q e => ?_) (fun q e => ?_)
      all_goals first | (exfalso; omega) | skip
      all_goals subst e
      simp only [pdw, grad_0, grad_1, tap_0, tap_1, tap_2]
      rfl
  omega

set_option maxHeartbeats 4000000 in
theorem point_db_first (c : Dev nD) (t : Fin cfg0.N) (hz : t.val % 8 = 0) (y : S2x1x256.Idx) :
    (outsAt0 m c t.val t.isLt).2.2 y = 0 + pdb (args m c) t (y 0) (y 2) := by
  obtain ⟨b0, b1, b2, b5, b6⟩ := blk m c t
  have e : (grid0.coords t 1 : Fin 8).val = t.val % 8 := (idx t).2.2.2.2.2.2.2
  idx_vars y
  rw [outsAt0_A m c t hz]
  frame_out
  simp (disch := decide) only [View.readCov_miss, View.readCov_whole]
  iterate 2
    refine View.canon_newest _ _ _ _ _ _ _ (fun x h => ?_) (fun hn => ?_)
    on_goal 2 => replace hn := not_row hn
    · have h2 : y2.val = _ := h 2
      idx_vars x
      have g0 : x0.val < 1 := x0.isLt
      have g1 : x1.val < 1 := x1.isLt
      have h0 : y0.val = _ + x0.val := h 0
      have h1 : y1.val = _ + x1.val := h 1
      simp only [Matrix.cons_val] at h0 h1
      unfold_payloads
      pointwise
      simp (disch := word_cmp_side) only [hlo_ix, id_eq]
      simp only [b0, b1, b2, b5, b6]
      simp only [halo_before m c t (grid0.coords t 1) e, halo_after m c t (grid0.coords t 1) e]
      obtain rfl : y2 = x2 := Fin.ext (by simpa using h2)
      refine half_cases y0 (fun q e => ?_) (fun q e => ?_)
      all_goals first | (exfalso; omega) | skip
      all_goals subst e
      obtain rfl : y1 = 0 := Subsingleton.elim _ _
      simp only [pdb, grad_0, grad_1]
      rfl
  omega

end Cert.ActIdeal.Value
end
-- ==== Proof.Act.Final.lean ====
module

public import proofs.«01_k».proof.Proof.Act.Block

@[expose] public section

set_option maxRecDepth 16384

noncomputable section

open Idealize.ShloMosaic Idealize.ShloMosaic.TcCoe Idealize.SL.Sem
open Idealize.ShloMosaic.Pipeline (Dat)

namespace Cert.ActIdeal.Value

open Cert.ActIdeal Cert.ActIdeal.Gen Cert.Act

variable (m : (ℓ : Loc nD τ sig) → Buf (Elt Ideal) ℓ)

/-- What the call leaves: the gradient of the convolution's output, … -/
theorem final7 (c : Dev nD) : (dats m 0 c).arrAt 7 cfg0.N = Gdc (args m c) := by
  refine (dats m 0 c).arrAt_eq_of_covers 7 _ (by decide +kernel) fun t hf y => ?_
  blk_simp
  rw [after0_7]
  refine (point_dc m c t y).trans ?_
  refine congrArg (Gdc (args m c)) (a₁ := ix3 (y 0) (row t (y 1)) (qol t (y 2))) ?_
  blk_ext [idx_out t, row, qol]

/-- … of its weights, summed over the blocks of rows, … -/
theorem final8 (c : Dev nD) : (dats m 0 c).arrAt 8 cfg0.N = Gdw (args m c) := by
  refine (dats m 0 c).arrAt_eq_of_covers 8 _ (by decide +kernel) fun t hf y => ?_
  have ht := (flush0_8 t).mp hf
  have hp := points t
  blk_simp
  rw [after0_8, Pipeline.eq_sum_fin_of_reset_step_apply_of_flush (fun n h => (outsAt0 m c n h).2.1) 8 (fun _ => 0)
    (fun t (y : S2x3x256.Idx) => pdw (args m c) t (y 0) (y 1) (y 2))
    (fun t h y => point_dw_first m c t h y) (fun t h y => point_dw_next m c t h y) t ht y, zero_add]
  refine (Fin.sum_mul_add_congr (S := 8) (n := 2048) (f := fun n => grad (args m c) (y 0) n (qol t (y 2)) * tap (args m c) (y 1) n (col (y 0).val (y 0).isLt (qol t (y 2)))) fun s k hl => ?_).trans ?_
  · have e1 : row ⟨8 * (t.val / 8) + s.val, Pipeline.run_point_lt_of_flush t ht s⟩ k = ⟨s.val * 2048 + k.val, hl⟩ := Fin.ext (by show (8 * (t.val / 8) + s.val) % 8 * 2048 + k.val = s.val * 2048 + k.val; omega)
    have e2 : qol ⟨8 * (t.val / 8) + s.val, Pipeline.run_point_lt_of_flush t ht s⟩ (y 2) = qol t (y 2) := Fin.ext (by show (8 * (t.val / 8) + s.val) / 8 * 256 + (y 2).val = t.val / 8 * 256 + (y 2).val; omega)
    rw [e1, e2]
  refine congrArg (Gdw (args m c)) (a₁ := ix3 (y 0) (y 1) (qol t (y 2))) ?_
  blk_ext [idx_out t, qol]

/-- … and of its bias. -/
theorem final9 (c : Dev nD) : (dats m 0 c).arrAt 9 cfg0.N = Gdb (args m c) := by
  refine (dats m 0 c).arrAt_eq_of_covers 9 _ (by decide +kernel) fun t hf y => ?_
  have ht := (flush0_9 t).mp hf
  have hp := points t
  blk_simp
  rw [after0_9, Pipeline.eq_sum_fin_of_reset_step_apply_of_flush (fun n h => (outsAt0 m c n h).2.2) 8 (fun _ => 0)
    (fun t (y : S2x1x256.Idx) => pdb (args m c) t (y 0) (y 2))
    (fun t h y => point_db_first m c t h y) (fun t h y => point_db_next m c t h y) t ht y, zero_add]
  refine (Fin.sum_mul_add_congr (S := 8) (n := 2048) (f := fun n => grad (args m c) (y 0) n (qol t (y 2))) fun s k hl => ?_).trans ?_
  · have e1 : row ⟨8 * (t.val / 8) + s.val, Pipeline.run_point_lt_of_flush t ht s⟩ k = ⟨s.val * 2048 + k.val, hl⟩ := Fin.ext (by show (8 * (t.val / 8) + s.val) % 8 * 2048 + k.val = s.val * 2048 + k.val; omega)
    have e2 : qol ⟨8 * (t.val / 8) + s.val, Pipeline.run_point_lt_of_flush t ht s⟩ (y 2) = qol t (y 2) := Fin.ext (by show (8 * (t.val / 8) + s.val) / 8 * 256 + (y 2).val = t.val / 8 * 256 + (y 2).val; omega)
    rw [e1, e2]
  refine congrArg (Gdb (args m c)) (a₁ := ix3 (y 0) (y 1) (qol t (y 2))) ?_
  blk_ext [idx_out t, qol]

end Cert.ActIdeal.Value
end
-- ==== Proof.Act.Ref.lean ====
module

public import proofs.«01_k».proof.Proof.Act.Terms
public import proofs.«01_k».proof.Proof.Gen.ActRefIdeal.Read

@[expose] public section

set_option maxRecDepth 16384

noncomputable section

open Idealize.ShloMosaic Idealize.ShloMosaic.TcCoe Idealize.SL.Sem

namespace Cert.ActRefIdeal.Read

open Cert.Act

variable (A : Args)

set_option backward.isDefEq.respectTransparency false in
theorem r_before (n : Fin 16384) (j : Fin 5632) : val_main_v3 (F := Ideal) A.u (ix2 n j) = before A n j := by
  pointwise [val_main_v3, val_main_v2, val_main_v1, val_main_cst, val_main_v0, before]
  simp only [Nat.lt_one_iff]

set_option backward.isDefEq.respectTransparency false in
theorem r_after (n : Fin 16384) (j : Fin 5632) : val_main_v5 (F := Ideal) A.u (ix2 n j) = after A n j := by
  pointwise [val_main_v5, val_main_v4, val_main_v1, val_main_cst, val_main_v0, after]
  simp only [Nat.add_comm 1 n.val]
  split_ifs
  all_goals first
    | (exfalso; omega)
    | rfl

theorem r_cv (n : Fin 16384) (j : Fin 5632) : val_main_v24 (F := Ideal) A.u A.k A.b (ix2 n j) = cv A n j := by
  pointwise [val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v0, r_before, r_after, cv]

theorem r_gc (n : Fin 16384) (q : Fin 2816) : val_main_v25 (F := Ideal) A.u A.k A.b (ix2 n q) = gc A n q := by
  pointwise [val_main_v25, r_cv, gc, col]

theorem r_vc (n : Fin 16384) (q : Fin 2816) : val_main_v26 (F := Ideal) A.u A.k A.b (ix2 n q) = vc A n q := by
  pointwise [val_main_v26, r_cv, vc, col]

theorem r_sg (n : Fin 16384) (q : Fin 2816) : val_main_v27_2 (F := Ideal) A.u A.k A.b (ix2 n q) = sg A n q := by
  pointwise [val_main_v27_2, val_main_call0_v4, val_main_call0_cst_0, val_main_call0_v3, val_main_call0_v2, val_main_call0_cst, val_main_call0_v1, val_main_call0_v0, r_gc, sg, zero_sub]

theorem r_da (n : Fin 16384) (q : Fin 2816) : val_main_v31 (F := Ideal) A.d A.w (ix2 n q) = da A n q := by
  pointwise [val_main_v31, val_main_v30, da]

theorem r_gate (n : Fin 16384) (q : Fin 2816) : val_main_v34 (F := Ideal) A.d A.w A.u A.k A.b (ix2 n q)
    = da A n q * vc A n q * sg A n q + gc A n q * (da A n q * vc A n q) * (sg A n q * (1 - sg A n q)) := by
  pointwise [val_main_v34, val_main_call1_v2, val_main_call1_v1, val_main_call1_v0, val_main_v33, val_main_v27_1, val_main_call0_v7, val_main_call0_v6, val_main_call0_cst_1, r_gc, r_vc, r_sg, r_da]

theorem r_val (n : Fin 16384) (q : Fin 2816) : val_main_v32 (F := Ideal) A.d A.w A.u A.k A.b (ix2 n q) = dval A n q := by
  pointwise [val_main_v32, val_main_v27_0, r_gc, r_sg, r_da, dval]
  ac_rfl

set_option backward.isDefEq.respectTransparency false in
theorem r_grad (hS : Same A) (n : Fin 16384) (h : Fin 2) (q : Fin 2816) (j : Fin 5632) (hj : j.val = h.val * 2816 + q.val) :
    val_main_v35 (F := Ideal) A.d A.w A.u A.k A.b (ix2 n j) = grad A h n q := by
  pointwise [val_main_v35, r_gate, r_val]
  rcases (by omega : h.val = 0 ∨ h.val = 1) with e | e
  · obtain rfl : h = 0 := Fin.ext e
    rw [dif_pos (by omega), grad_0, ← hS n q]
    rw [show (⟨j.val, by omega⟩ : Fin 2816) = q from Fin.ext (by show j.val = q.val; have := Fin.val_zero 2; omega)]
  · obtain rfl : h = 1 := Fin.ext e
    rw [dif_neg (by omega), grad_1]
    exact congrArg (dval A n) (Fin.ext (by show j.val - 2816 = q.val; omega))

theorem ref_dc (hS : Same A) : val_main_v60 (F := Ideal) A.d A.w A.u A.k A.b = Gdc A := by
  funext i
  idx_vars i
  pointwise [val_main_v60, val_main_v59, val_main_v58, Gdc]
  exact r_grad A hS _ _ _ _ rfl

theorem ref_db (hS : Same A) : val_main_v64 (F := Ideal) A.d A.w A.u A.k A.b = Gdb A := by
  funext i
  idx_vars i
  pointwise [val_main_v64, val_main_v63, val_main_v37, val_main_v36, val_main_cst_0, Gdb]
  refine Finset.sum_congr rfl fun n _ => r_grad A hS _ _ _ _ rfl

/-- A column's sum of products with one of the taps. -/
def dot (s : Fin 3) (j : Fin 5632) : EReal := ∑ n, val_main_v35 (F := Ideal) A.d A.w A.u A.k A.b (ix2 n j) * tap A s n j

theorem r_dw2 (o : Fin 1) (j : Fin 5632) : val_main_v42 (F := Ideal) A.d A.w A.u A.k A.b (ix2 o j) = dot A 2 j := by
  pointwise [val_main_v42, val_main_v41, val_main_cst_2, val_main_v40, val_main_v39, val_main_cst_1, val_main_v38, r_after, dot, tap_2]
  simp only [Finset.univ_unique, Finset.sum_singleton]

theorem r_dw1 (o : Fin 1) (j : Fin 5632) : val_main_v48 (F := Ideal) A.d A.w A.u A.k A.b (ix2 o j) = dot A 1 j := by
  pointwise [val_main_v48, val_main_v47, val_main_cst_5, val_main_v46, val_main_v45, val_main_cst_4, val_main_v44, val_main_v0, dot, tap_1]
  simp only [Finset.univ_unique, Finset.sum_singleton]

theorem r_dw0 (o : Fin 1) (j : Fin 5632) : val_main_v55 (F := Ideal) A.d A.w A.u A.k A.b (ix2 o j) = dot A 0 j := by
  pointwise [val_main_v55, val_main_v54, val_main_cst_8, val_main_v53, val_main_v52, val_main_cst_7, val_main_v51, r_before, dot, tap_0]
  simp only [Finset.univ_unique, Finset.sum_singleton]

set_option backward.isDefEq.respectTransparency false in
theorem r_dw (s : Fin 3) (j : Fin 5632) : val_main_v57 (F := Ideal) A.d A.w A.u A.k A.b (ix2 s j) = dot A s j := by
  pointwise [val_main_v57, val_main_v56, val_main_cst_9, val_main_v50, val_main_v49, val_main_cst_6, val_main_v43, val_main_cst_3, r_dw0, r_dw1, r_dw2]
  rcases (by omega : s.val = 0 ∨ s.val = 1 ∨ s.val = 2) with e | e | e
  · rw [dif_neg (by omega), dif_neg (by omega), dif_pos (by omega), add_zero, zero_add, show s = 0 from Fin.ext e]
  · rw [dif_neg (by omega), dif_pos (by omega), dif_neg (by omega), add_zero, zero_add, show s = 1 from Fin.ext e]
  · rw [dif_pos (by omega), dif_neg (by omega), dif_neg (by omega), add_zero, add_zero, show s = 2 from Fin.ext e]

theorem ref_dw (hS : Same A) : val_main_v62 (F := Ideal) A.d A.w A.u A.k A.b = Gdw A := by
  funext i
  idx_vars i
  pointwise [val_main_v62, val_main_v61, r_dw, Gdw]
  exact Finset.sum_congr rfl fun n _ => congrArg (· * _) (r_grad A hS _ _ _ _ rfl)

end Cert.ActRefIdeal.Read
end
-- ==== Proof.Act.Finite.lean ====
/-
  The precondition says that the arguments are finite; with finite arguments the gates' cotangent may be taken out of the silu's derivative.
-/
module

public import proofs.«01_k».proof.Pre_act_finite
public import proofs.«01_k».proof.Proof.Act.Terms
public import proofs.«01_k».proof.Proof.Common.Finite

@[expose] public section

set_option maxRecDepth 16384

noncomputable section

namespace Cert.Act

open Idealize.ShloMosaic Idealize.ShloMosaic.TcCoe Cert.Pre_act_finite Cert.Finite

/-- The sigmoid of a number is one. -/
theorem sg_real {x : EReal} : Real' x → Real' (Ideal.div 1 (1 + Ideal.exp (0 - x))) := fun ⟨r, e⟩ => by
  have h : (1 + Real.exp (0 - r) : ℝ) ≠ 0 := by positivity
  rw [e, ← EReal.coe_zero, ← EReal.coe_sub, Ideal.exp_coe, ← EReal.coe_one, ← EReal.coe_add, Ideal.div_coe h]
  exact ⟨_, (EReal.coe_mul _ _).symm⟩

/-- With finite arguments the derivative's two sums agree. -/
theorem same (A : Args) (h0 : ∀ i, Real' (A.d i)) (h1 : ∀ i, Real' (A.w i)) (h2 : ∀ i, Real' (A.u i)) (h3 : ∀ i, Real' (A.k i)) (h4 : ∀ i, Real' (A.b i)) : Same A := by
  have zero : Real' 0 := ⟨0, rfl⟩
  have cv_real (n : Fin 16384) (j : Fin 5632) : Real' (cv A n j) := by
    have hb : Real' (before A n j) := by unfold before; split_ifs; exacts [zero, h2 _]
    have ha : Real' (after A n j) := by unfold after; split_ifs; exacts [zero, h2 _]
    exact ((((h3 _).mul hb).add ((h3 _).mul (h2 _))).add ((h3 _).mul ha)).add (h4 _)
  intro n q
  obtain ⟨p, hp⟩ : Real' (da A n q * vc A n q) := (Real'.sum fun k => (h0 _).mul (h1 _)).mul (cv_real _ _)
  obtain ⟨g, hg⟩ : Real' (gc A n q) := cv_real _ _
  obtain ⟨s, hs⟩ : Real' (sg A n q) := sg_real (cv_real _ _)
  rw [dgate, hp, hg, hs, ← EReal.coe_one]
  simp only [← EReal.coe_sub, ← EReal.coe_mul, ← EReal.coe_add]
  exact congrArg _ (by ring)

variable [Cert.Pre_act_finite.Facts]
open Cert.Pre_act_finite.Facts

/-- What the precondition says, argument by argument. -/
theorem finite_all (d : FVec Ideal S16384x1024 .bf16) (w : FVec Ideal S2816x1024 .f32) (u : FVec Ideal S16384x5632 .bf16) (k : FVec Ideal S3x5632 .f32) (b : FVec Ideal S1x5632 .f32)
    (h : fn (F := Ideal) d w u k b = fun _ => 1#1) :
    (∀ i, Real' (d i)) ∧ (∀ i, Real' (w i)) ∧ (∀ i, Real' (u i)) ∧ (∀ i, Real' (k i)) ∧ (∀ i, Real' (b i)) := by
  unfold fn fn_part1 at h
  dsimp only at h
  obtain ⟨h, h4⟩ := both h
  obtain ⟨h, h3⟩ := both h
  obtain ⟨h, h2⟩ := both h
  obtain ⟨h, h1⟩ := both h
  refine ⟨fun i => real_of_lt ?_, fun i => real_of_lt ?_, fun i => real_of_lt ?_, fun i => real_of_lt ?_, fun i => real_of_lt ?_⟩
  · exact Host.reduce_andi_all _ _ _ _ _ (congrFun h (Shape.Idx.first h_S_)) i
  · exact Host.reduce_andi_all _ _ _ _ _ (congrFun h1 (Shape.Idx.first h_S_)) i
  · exact Host.reduce_andi_all _ _ _ _ _ (congrFun h2 (Shape.Idx.first h_S_)) i
  · exact Host.reduce_andi_all _ _ _ _ _ (congrFun h3 (Shape.Idx.first h_S_)) i
  · exact Host.reduce_andi_all _ _ _ _ _ (congrFun h4 (Shape.Idx.first h_S_)) i

end Cert.Act

end
-- ==== Proof.Act.Claims.lean ====
module

public import proofs.«01_k».proof.Defs
public import proofs.«01_k».proof.Proof.Act.Final
public import proofs.«01_k».proof.Proof.Act.Ref
public import proofs.«01_k».proof.Proof.Act.Finite
public import proofs.«01_k».proof.Proof.Gen.Act.Frame
public import proofs.«01_k».proof.Proof.Gen.ActRefIdeal.Run

@[expose] public section

set_option maxRecDepth 16384

noncomputable section

open Idealize.ShloMosaic Idealize.ShloMosaic.TcCoe Idealize.SL.Sem

namespace Cert.ActClaims

open Cert.Act

/-- The kernel terminates without fault, its arguments unchanged, every counter zero. -/
theorem frame : quiescent_Act (hAct := Cert.Act.Gen.facts) := fun m ρ _ => Cert.Act.Gen.frame m ρ

/-- The ideal program, likewise. -/
theorem frame_ideal : quiescent_ActIdeal (hActIdeal := Cert.ActIdeal.Gen.facts) := fun m ρ _ => Cert.ActIdeal.Gen.frame m ρ

/-- The reference, likewise. -/
theorem frame_ref : quiescent_ActRefIdeal (hActRefIdeal := Cert.ActRefIdeal.Gen.facts) := fun m ρ _ =>
  (θ_run Cert.ActRefIdeal.defs _ _).mono (fun r h => ⟨fun c => (h c).2.2.2, sem_eq_zero_of_no_sems (by decide) r.2⟩)
    (Cert.ActRefIdeal.Value.run m ρ)

variable [hPre : Cert.Pre_act_finite.Facts]

/-- The ideal program and the reference on finite arguments: as on any. -/
theorem frame_ideal_pre : quiescent_ActIdeal_pre_act_finite (hActIdeal := Cert.ActIdeal.Gen.facts) := fun m ρ _ => frame_ideal m ρ trivial
theorem frame_ref_pre : quiescent_ActRefIdeal_pre_act_finite (hActRefIdeal := Cert.ActRefIdeal.Gen.facts) := fun m ρ _ => frame_ref m ρ trivial

/-- On finite arguments kernel and reference leave the same arrays. -/
theorem value : algebraic_ActIdeal_ActRefIdeal_pre_act_finite (hActIdeal := Cert.ActIdeal.Gen.facts) (hActRefIdeal := Cert.ActRefIdeal.Gen.facts) := by
  intro m ρ m' ρ' hpre hargs
  have same (c) : Same (Cert.ActIdeal.Value.args m c) := by
    obtain ⟨h0, h1, h2, h3, h4⟩ := finite_all _ _ _ _ _ (hpre c)
    exact same _ h0 h1 h2 h3 h4
  refine ⟨fun c => Gdc (Cert.ActIdeal.Value.args m c), fun c => Gdw (Cert.ActIdeal.Value.args m c), fun c => Gdb (Cert.ActIdeal.Value.args m c), ?_, ?_⟩
  · exact (θ_run Cert.ActIdeal.defs _ _).mono (fun r h c => let ⟨h0, h1, h2, rest⟩ := h c
      ⟨h0.trans (Cert.ActIdeal.Value.final7 m c), h1.trans (Cert.ActIdeal.Value.final8 m c), h2.trans (Cert.ActIdeal.Value.final9 m c), rest⟩) (Cert.ActIdeal.Value.run_blocks (F := Ideal) m ρ)
  · refine (θ_run Cert.ActRefIdeal.defs _ _).mono (fun r h c => let ⟨h0, h1, h2, rest⟩ := h c
      ⟨h0.trans ?_, h1.trans ?_, h2.trans ?_, rest⟩) (Cert.ActRefIdeal.Value.run (F := Ideal) m' ρ')
    all_goals obtain ⟨a0, a1, a2, a3, a4⟩ := hargs c
    · refine (Cert.ActRefIdeal.Read.val_main_v60_eq (F := Ideal) m' c).trans ?_
      rw [a0, a1, a2, a3, a4]
      exact Cert.ActRefIdeal.Read.ref_dc (Cert.ActIdeal.Value.args m c) (same c)
    · refine (Cert.ActRefIdeal.Read.val_main_v62_eq (F := Ideal) m' c).trans ?_
      rw [a0, a1, a2, a3, a4]
      exact Cert.ActRefIdeal.Read.ref_dw (Cert.ActIdeal.Value.args m c) (same c)
    · refine (Cert.ActRefIdeal.Read.val_main_v64_eq (F := Ideal) m' c).trans ?_
      rw [a0, a1, a2, a3, a4]
      exact Cert.ActRefIdeal.Read.ref_db (Cert.ActIdeal.Value.args m c) (same c)

end Cert.ActClaims
end
-- ==== Proof.DwMod.Block.lean ====
module

public import proofs.«01_k».proof.Proof.Gen.DwModIdeal.Value
public import proofs.«01_k».proof.Proof.Gen.DwModRefIdeal.Read
public import proofs.«01_k».proof.Pre_dwmod_finite
public import proofs.«01_k».proof.Proof.Common.Finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DwModIdeal.Value

open Cert.DwModIdeal Cert.DwModIdeal.Gen Cert.Finite

/-- The silu. -/
def silu (x : EReal) : EReal := x * Ideal.div 1 (1 + Ideal.exp (0 - x))

/-- The gradient of the weights: the silu of the conditions times the cotangent, summed over the conditions. -/
def Gdw (c : S16x1024.Idx → EReal) (d : S16x1536.Idx → EReal) : S1024x1536.Idx → EReal := fun i =>
  ∑ n : Fin 16, silu (c (ix2 n (i 0))) * d (ix2 n (i 1))

/-- The silu of a number is one. -/
theorem silu_real {x : EReal} : Real' x → Real' (silu x) := fun ⟨r, e⟩ => by
  have h : (1 + Real.exp (0 - r) : ℝ) ≠ 0 := by positivity
  refine Real'.mul ⟨r, e⟩ ?_
  rw [e, ← EReal.coe_zero, ← EReal.coe_sub, Ideal.exp_coe, ← EReal.coe_one, ← EReal.coe_add, Ideal.div_coe h]
  exact ⟨_, (EReal.coe_mul _ _).symm⟩

/-- The rest that a rounded number leaves is zero where nothing is rounded: the number less itself. -/
theorem rest {x : EReal} : Real' x → x - x = 0 := fun ⟨r, e⟩ => by
  rw [e, ← EReal.coe_sub, sub_self, EReal.coe_zero]

set_option maxHeartbeats 2000000 in
/-- What the point stores, on finite arguments. -/
theorem point (c : S16x1024.Idx → EReal) (d : S16x1536.Idx → EReal) (hc : ∀ i, Real' (c i)) (hd : ∀ i, Real' (d i)) : G2 (F := Ideal) c d = Gdw c d := by
  funext i
  idx_vars i
  have h : ∀ n, Real' (silu (c (ix2 n i0))) := fun n => silu_real (hc _)
  unfold silu at h
  unfold G2
  unfold_payloads
  pointwise [Gdw, silu]
  simp only [rest (h _), rest (hd _), mul_zero, zero_mul, Finset.sum_const_zero, add_zero]

end Cert.DwModIdeal.Value

namespace Cert.DwModRefIdeal.Read

open Cert.DwModIdeal.Value

/-- The reference's result. -/
theorem ref_dw (c : S16x1024.Idx → EReal) (d : S16x1536.Idx → EReal) : val_main_v4 (F := Ideal) c d = Gdw c d := by
  funext i
  idx_vars i
  pointwise [val_main_v4, val_main_v3, val_main_v1, val_main_call0_v5, val_main_call0_v4, val_main_call0_cst_0, val_main_call0_v3, val_main_call0_v2, val_main_call0_cst,
    val_main_call0_v1, val_main_call0_v0, Gdw, silu, zero_sub]
  exact Finset.sum_congr rfl fun n _ => mul_comm _ _

end Cert.DwModRefIdeal.Read
end
-- ==== Proof.DwMod.Claims.lean ====
module

public import proofs.«01_k».proof.Defs
public import proofs.«01_k».proof.Proof.DwMod.Block
public import proofs.«01_k».proof.Proof.Gen.DwMod.Frame
public import proofs.«01_k».proof.Proof.Gen.DwModRefIdeal.Run

@[expose] public section

noncomputable section

open Idealize.ShloMosaic Idealize.ShloMosaic.TcCoe Idealize.SL.Sem Cert.Finite

namespace Cert.DwModClaims

/-- The kernel terminates without fault, its arguments unchanged, every counter zero. -/
theorem frame : quiescent_DwMod (hDwMod := Cert.DwMod.Gen.facts) := fun m ρ _ => Cert.DwMod.Gen.frame m ρ

/-- The ideal program, likewise. -/
theorem frame_ideal : quiescent_DwModIdeal (hDwModIdeal := Cert.DwModIdeal.Gen.facts) := fun m ρ _ => Cert.DwModIdeal.Gen.frame m ρ

/-- The reference, likewise. -/
theorem frame_ref : quiescent_DwModRefIdeal (hDwModRefIdeal := Cert.DwModRefIdeal.Gen.facts) := fun m ρ _ =>
  (θ_run Cert.DwModRefIdeal.defs _ _).mono (fun r h => ⟨fun c => (h c).2, sem_eq_zero_of_no_sems (by decide) r.2⟩)
    (Cert.DwModRefIdeal.Value.run m ρ)

variable [hPre : Cert.Pre_dwmod_finite.Facts]
open Cert.Pre_dwmod_finite Cert.Pre_dwmod_finite.Facts

/-- What the precondition says, argument by argument. -/
theorem finite_all (a : FVec Ideal S16x1024 .f32) (d : FVec Ideal S16x1536 .f32) (h : fn (F := Ideal) a d = fun _ => 1#1) :
    (∀ i, Real' (a i)) ∧ ∀ i, Real' (d i) := by
  unfold fn at h
  dsimp only at h
  obtain ⟨h, h1⟩ := both h
  exact ⟨fun i => real_of_lt (Host.reduce_andi_all _ _ _ _ _ (congrFun h (Shape.Idx.first h_S_)) i),
    fun i => real_of_lt (Host.reduce_andi_all _ _ _ _ _ (congrFun h1 (Shape.Idx.first h_S_)) i)⟩

/-- The ideal program and the reference on finite arguments: as on any. -/
theorem frame_ideal_pre : quiescent_DwModIdeal_pre_dwmod_finite (hDwModIdeal := Cert.DwModIdeal.Gen.facts) := fun m ρ _ => frame_ideal m ρ trivial
theorem frame_ref_pre : quiescent_DwModRefIdeal_pre_dwmod_finite (hDwModRefIdeal := Cert.DwModRefIdeal.Gen.facts) := fun m ρ _ => frame_ref m ρ trivial

/-- On finite arguments kernel and reference leave the same array. -/
theorem value : algebraic_DwModIdeal_DwModRefIdeal_pre_dwmod_finite (hDwModIdeal := Cert.DwModIdeal.Gen.facts) (hDwModRefIdeal := Cert.DwModRefIdeal.Gen.facts) := by
  intro m ρ m' ρ' hpre hargs
  refine ⟨fun c => Cert.DwModIdeal.Value.Gdw (m (c, Cert.DwModIdeal.main_arg0)) (m (c, Cert.DwModIdeal.main_arg1)), ?_, ?_⟩
  · refine (θ_run Cert.DwModIdeal.defs _ _).mono (fun r h c => let ⟨h0, rest⟩ := h c
      ⟨h0.trans ?_, rest⟩) (Cert.DwModIdeal.Value.run (F := Ideal) m ρ)
    obtain ⟨f0, f1⟩ := finite_all _ _ (hpre c)
    exact Cert.DwModIdeal.Value.point _ _ f0 f1
  · refine (θ_run Cert.DwModRefIdeal.defs _ _).mono (fun r h c => let ⟨h0, rest⟩ := h c
      ⟨h0.trans ?_, rest⟩) (Cert.DwModRefIdeal.Value.run (F := Ideal) m' ρ')
    obtain ⟨a0, a1⟩ := hargs c
    refine (Cert.DwModRefIdeal.Read.val_main_v4_eq (F := Ideal) _ _).trans ?_
    rw [a0, a1]
    exact Cert.DwModRefIdeal.Read.ref_dw _ _

end Cert.DwModClaims
end
-- ==== Proof.DwIn.Block.lean ====
module

public import proofs.«01_k».proof.Proof.Gen.DwInIdeal.Value
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.DwInIdeal.Value

open Cert.DwInIdeal Cert.DwInIdeal.Gen

/-! ## The gradients, entry by entry

`x` is the input, `d` the cotangent of the projection, `b` the shift and `s` the scale. -/

/-- A term of the weights' gradient: the modulated input times the cotangent. -/
abbrev term (x : S16384x1024.Idx → EReal) (d : S16384x3584.Idx → EReal) (b s : S1x1024.Idx → EReal) (j : Fin 1024) (q : Fin 3584) (n : Fin 16384) : EReal :=
  (x (ix2 n j) * (1 + s (ix2 0 j)) + b (ix2 0 j)) * d (ix2 n q)

theorem col_lt {k q : Nat} (hk : k < 4) (hq : q < 896) : k * 896 + q < 3584 := by omega

/-- The gradient of the weights: block `k` holds the columns `896 k` to `896 k + 895`. -/
def Gdw (x : S16384x1024.Idx → EReal) (d : S16384x3584.Idx → EReal) (b s : S1x1024.Idx → EReal) : S4x1024x896.Idx → EReal := fun i =>
  ∑ n, term x d b s (i 1) ⟨(i 0).val * 896 + (i 2).val, col_lt (i 0).isLt (i 2).isLt⟩ n

/-- A term of the bias's. -/
abbrev term' (d : S16384x3584.Idx → EReal) (q : Fin 3584) (n : Fin 16384) : EReal := d (ix2 n q)

/-- The gradient of the bias, eight rows alike. -/
def Gdb (d : S16384x3584.Idx → EReal) : S8x3584.Idx → EReal := fun i => ∑ n, term' d (i 1) n

variable (m : (ℓ : Loc nD τ sig) → Buf (Elt Ideal) ℓ)

theorem points (t : Fin cfg0.N) : t.val < 32 := lt_of_lt_of_eq t.isLt N_0

/-- Row `r` of point `t`'s block of rows is this row of the arrays, … -/
abbrev row (t : Fin cfg0.N) (r : Fin 2048) : Fin 16384 := ⟨t.val % 8 * 2048 + r.val, by omega⟩

/-- … and column `q` of its block of columns this one. -/
abbrev col (t : Fin cfg0.N) (q : Fin 896) : Fin 3584 := ⟨t.val / 8 * 896 + q.val, by have := points t; omega⟩

theorem idx : ∀ t : Fin cfg0.N, win0_0.index t = ![t.val % 8, 0] ∧ win0_1.index t = ![t.val % 8, t.val / 8]
    ∧ win0_2.index t = ![0, 0] ∧ win0_3.index t = ![0, 0]
    ∧ win0_4.index t = ![t.val / 8, 0, 0] ∧ win0_5.index t = ![0, t.val / 8] :=
  (by decide +kernel : ∀ t : Fin grid0.N, _)

/-- What each window's block holds. -/
theorem blk (c : Dev nD) (t : Fin cfg0.N) :
    (∀ r k, iblk m c 0 t (ix2 r k) = m (c, main_arg0) (ix2 (row t r) k))
    ∧ (∀ r k, iblk m c 1 t (ix2 r k) = m (c, main_arg1) (ix2 (row t r) (col t k)))
    ∧ (∀ r k, iblk m c 2 t (ix2 r k) = m (c, main_arg2) (ix2 0 k))
    ∧ (∀ r k, iblk m c 3 t (ix2 r k) = m (c, main_arg3) (ix2 0 k)) := by
  obtain ⟨i0, i1, i2, i3, -⟩ := idx t
  refine ⟨fun r k => ?_, fun r k => ?_, fun r k => ?_, fun r k => ?_⟩
  all_goals
    simp only [iblk]
    blk_point [i0, i1, i2, i3]

/-! ## The sums over the blocks of rows -/

/-- What point `t` adds to the weights' gradient: its block of rows. -/
def part (x : S16384x1024.Idx → EReal) (d : S16384x3584.Idx → EReal) (b s : S1x1024.Idx → EReal) (t : Fin cfg0.N) (j : Fin 1024) (q : Fin 896) : EReal :=
  ∑ r : Fin 2048, term x d b s j (col t q) (row t r)

/-- What it adds to the bias's. -/
def part' (d : S16384x3584.Idx → EReal) (t : Fin cfg0.N) (q : Fin 896) : EReal := ∑ r : Fin 2048, term' d (col t q) (row t r)

abbrev before (t : Fin cfg0.N) : t.val - 1 < cfg0.N := Nat.lt_of_le_of_lt (Nat.sub_le _ _) t.isLt

set_option maxHeartbeats 2000000 in
/-- A run's first point starts the sums at zero, … -/
theorem first (c : Dev nD) (t : Fin cfg0.N) (h : t.val % 8 = 0) :
    (∀ y, (outsAt0 m c t.val t.isLt).1 y = 0 + part (m (c, main_arg0)) (m (c, main_arg1)) (m (c, main_arg2)) (m (c, main_arg3)) t (y 1) (y 2))
    ∧ ∀ y, (outsAt0 m c t.val t.isLt).2 y = 0 + part' (m (c, main_arg1)) t (y 1) := by
  obtain ⟨b0, b1, b2, b3⟩ := blk m c t
  rw [outsAt0_A m c t h]
  constructor
  all_goals
    intro y
    idx_vars y
    frame_out
    unfold_payloads
    pointwise [part, part']
    simp only [b0, b1, b2, b3]

set_option maxHeartbeats 2000000 in
/-- … and each further one adds its block of rows. -/
theorem next (c : Dev nD) (t : Fin cfg0.N) (h : ¬t.val % 8 = 0) :
    (∀ y, (outsAt0 m c t.val t.isLt).1 y = (outsAt0 m c (t.val - 1) (before t)).1 y
      + part (m (c, main_arg0)) (m (c, main_arg1)) (m (c, main_arg2)) (m (c, main_arg3)) t (y 1) (y 2))
    ∧ ∀ y, (outsAt0 m c t.val t.isLt).2 y = (outsAt0 m c (t.val - 1) (before t)).2 y + part' (m (c, main_arg1)) t (y 1) := by
  obtain ⟨b0, b1, b2, b3⟩ := blk m c t
  rw [outsAt0_B m c t h]
  constructor
  all_goals
    intro y
    idx_vars y
    frame_out
    unfold_payloads
    pointwise [part, part']
    simp only [b0, b1, b2, b3]
    try rw [Subsingleton.elim (α := Fin 1) y0 0]

/-- The blocks of rows together are all rows. -/
theorem rows {t : Fin cfg0.N} (h : t.val % 8 = 7) (f : Fin 16384 → Fin 3584 → EReal) (q : Fin 896) (b : ∀ s : Fin 8, 8 * (t.val / 8) + s.val < cfg0.N) :
    ∑ s : Fin 8, ∑ r : Fin 2048, f (row ⟨8 * (t.val / 8) + s.val, b s⟩ r) (col ⟨8 * (t.val / 8) + s.val, b s⟩ q) = ∑ n, f n (col t q) := by
  refine Fin.sum_mul_add_congr (S := 8) (n := 2048) (f := fun n => f n (col t q)) fun s k hl => ?_
  have e1 : (8 * (t.val / 8) + s.val) / 8 = t.val / 8 := by omega
  have e2 : (8 * (t.val / 8) + s.val) % 8 = s.val := by omega
  simp only [row, col, e1, e2]

theorem last4 (c : Dev nD) (t : Fin cfg0.N) (h : t.val % 8 = 7) (y : S1x1024x896.Idx) :
    (outsAt0 m c t.val t.isLt).1 y = ∑ n, term (m (c, main_arg0)) (m (c, main_arg1)) (m (c, main_arg2)) (m (c, main_arg3)) (y 1) (col t (y 2)) n := by
  rw [Pipeline.eq_sum_fin_of_reset_step_apply_of_flush (fun n h => (outsAt0 m c n h).1) 8 (fun _ => 0) _
    (fun t h y => (first m c t h).1 y) (fun t h y => (next m c t h).1 y) t h y, zero_add]
  exact rows h (fun n q => term (m (c, main_arg0)) (m (c, main_arg1)) (m (c, main_arg2)) (m (c, main_arg3)) (y 1) q n) (y 2) _

theorem last5 (c : Dev nD) (t : Fin cfg0.N) (h : t.val % 8 = 7) (y : S8x896.Idx) :
    (outsAt0 m c t.val t.isLt).2 y = ∑ n, term' (m (c, main_arg1)) (col t (y 1)) n := by
  rw [Pipeline.eq_sum_fin_of_reset_step_apply_of_flush (fun n h => (outsAt0 m c n h).2) 8 (fun _ => 0) _
    (fun t h y => (first m c t h).2 y) (fun t h y => (next m c t h).2 y) t h y, zero_add]
  exact rows h (fun n q => term' (m (c, main_arg1)) q n) (y 1) _

/-! ## What the kernel leaves -/

theorem left4 (c : Dev nD) : (dats m 0 c).arrAt 4 cfg0.N = Gdw (m (c, main_arg0)) (m (c, main_arg1)) (m (c, main_arg2)) (m (c, main_arg3)) := by
  refine (dats m 0 c).arrAt_eq_of_covers 4 _ (by decide +kernel) fun t hf y => ?_
  blk_simp
  rw [after0_4]
  refine (last4 m c t ((flush0_4 t).mp hf) y).trans (congrArg (Gdw _ _ _ _) (a₁ := ix3 ⟨t.val / 8, by have := points t; omega⟩ (y 1) (y 2)) ?_)
  blk_ext [(idx t).2.2.2.2.1]

theorem left5 (c : Dev nD) : (dats m 0 c).arrAt 5 cfg0.N = Gdb (m (c, main_arg1)) := by
  refine (dats m 0 c).arrAt_eq_of_covers 5 _ (by decide +kernel) fun t hf y => ?_
  blk_simp
  rw [after0_5]
  refine (last5 m c t ((flush0_5 t).mp hf) y).trans (congrArg (Gdb _) (a₁ := ix2 (y 0) (col t (y 1))) ?_)
  blk_ext [(idx t).2.2.2.2.2]

end Cert.DwInIdeal.Value
end
-- ==== Proof.DwIn.Ref.lean ====
module

public import proofs.«01_k».proof.Proof.DwIn.Block
public import proofs.«01_k».proof.Proof.Gen.DwInRefIdeal.Read

@[expose] public section

set_option maxRecDepth 16384

noncomputable section

open Idealize.ShloMosaic Idealize.ShloMosaic.TcCoe Idealize.SL.Sem

namespace Cert.DwInRefIdeal.Read

open Cert.DwInIdeal.Value (Gdw Gdb term)

variable (x : S16384x1024.Idx → EReal) (d : S16384x3584.Idx → EReal) (b s : S1x1024.Idx → EReal)

/-- The weights' gradient before it is cut into blocks. -/
theorem d_w (j : Fin 1024) (q : Fin 3584) : val_main_v15 (F := Ideal) x d b s (ix2 j q) = ∑ n, term x d b s j q n := by
  pointwise [val_main_v15, val_main_v14, val_main_v11, val_main_v7, val_main_v6, val_main_v5, val_main_v4, val_main_v3, val_main_v2, val_main_cst_1]
  exact Finset.sum_congr rfl fun n _ => mul_comm _ _

set_option backward.isDefEq.respectTransparency false in
/-- The reference's results: the gradient of the weights … -/
theorem ref_dw : val_main_v24 (F := Ideal) x d b s = Gdw x d b s := by
  funext i
  idx_vars i
  pointwise [val_main_v24, val_main_v23, val_main_v22, val_main_v21, val_main_v20, val_main_v19, val_main_v18, val_main_v17, val_main_v16, d_w, Gdw]
  split_ifs
  all_goals
    refine congrArg (fun q => ∑ n, term x d b s i1 q n) (Fin.ext ?_)
    dsimp only
    omega

/-- … and of the bias. -/
theorem ref_db : val_main_v27 (F := Ideal) d = Gdb d := by
  funext i
  idx_vars i
  pointwise [val_main_v27, val_main_v26, val_main_v25, val_main_v13, val_main_v12, val_main_v11, val_main_cst_2, Gdb]

end Cert.DwInRefIdeal.Read
end
-- ==== Proof.DwIn.Claims.lean ====
module

public import proofs.«01_k».proof.Defs
public import proofs.«01_k».proof.Proof.DwIn.Ref
public import proofs.«01_k».proof.Proof.Gen.DwIn.Frame
public import proofs.«01_k».proof.Proof.Gen.DwInRefIdeal.Run

@[expose] public section

noncomputable section

open Idealize.ShloMosaic Idealize.ShloMosaic.TcCoe Idealize.SL.Sem

namespace Cert.DwInClaims

/-- The kernel terminates without fault, its arguments unchanged, every counter zero. -/
theorem frame : quiescent_DwIn (hDwIn := Cert.DwIn.Gen.facts) := fun m ρ _ => Cert.DwIn.Gen.frame m ρ

/-- The ideal program, likewise. -/
theorem frame_ideal : quiescent_DwInIdeal (hDwInIdeal := Cert.DwInIdeal.Gen.facts) := fun m ρ _ => Cert.DwInIdeal.Gen.frame m ρ

/-- The reference, likewise. -/
theorem frame_ref : quiescent_DwInRefIdeal (hDwInRefIdeal := Cert.DwInRefIdeal.Gen.facts) := fun m ρ _ =>
  (θ_run Cert.DwInRefIdeal.defs _ _).mono (fun r h => ⟨fun c => (h c).2.2, sem_eq_zero_of_no_sems (by decide) r.2⟩)
    (Cert.DwInRefIdeal.Value.run m ρ)

/-- Kernel and reference leave the same arrays. -/
theorem value : algebraic_DwInIdeal_DwInRefIdeal (hDwInIdeal := Cert.DwInIdeal.Gen.facts) (hDwInRefIdeal := Cert.DwInRefIdeal.Gen.facts) := by
  intro m ρ m' ρ' _ hargs
  refine ⟨fun c => Cert.DwInIdeal.Value.Gdw (m (c, Cert.DwInIdeal.main_arg0)) (m (c, Cert.DwInIdeal.main_arg1)) (m (c, Cert.DwInIdeal.main_arg2)) (m (c, Cert.DwInIdeal.main_arg3)),
    fun c => Cert.DwInIdeal.Value.Gdb (m (c, Cert.DwInIdeal.main_arg1)), ?_, ?_⟩
  · exact (θ_run Cert.DwInIdeal.defs _ _).mono (fun r h c => let ⟨h0, h1, rest⟩ := h c
      ⟨h0.trans (Cert.DwInIdeal.Value.left4 m c), h1.trans (Cert.DwInIdeal.Value.left5 m c), rest⟩)
      (Cert.DwInIdeal.Value.run_blocks (F := Ideal) m ρ)
  · refine (θ_run Cert.DwInRefIdeal.defs _ _).mono (fun r h c => let ⟨h0, h1, rest⟩ := h c
      ⟨h0.trans ?_, h1.trans ?_, rest⟩) (Cert.DwInRefIdeal.Value.run (F := Ideal) m' ρ')
    all_goals obtain ⟨a0, a1, a2, a3⟩ := hargs c
    · refine (Cert.DwInRefIdeal.Read.val_main_v24_eq (F := Ideal) _ _ _ _).trans ?_
      rw [a0, a1, a2, a3]
      exact Cert.DwInRefIdeal.Read.ref_dw _ _ _ _
    · refine (Cert.DwInRefIdeal.Read.val_main_v27_eq (F := Ideal) _).trans ?_
      rw [a1]
      exact Cert.DwInRefIdeal.Read.ref_db _

end Cert.DwInClaims
end
-- ==== Proof.DwUp.Block.lean ====
module

public import proofs.«01_k».proof.Proof.Gen.DwUpIdeal.Value
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.DwUpIdeal.Value

open Cert.DwUpIdeal Cert.DwUpIdeal.Gen

/-- A term of the weights' gradient: the modulated input times the cotangent. -/
abbrev term (x : S16384x1024.Idx → EReal) (d : S16384x5632.Idx → EReal) (b s : S1x1024.Idx → EReal) (j : Fin 1024) (q : Fin 5632) (n : Fin 16384) : EReal :=
  (x (ix2 n j) * (1 + s (ix2 0 j)) + b (ix2 0 j)) * d (ix2 n q)

theorem col_lt {k q : Nat} (hk : k < 4) (hq : q < 1408) : k * 1408 + q < 5632 := by omega
theorem half_lt {k q : Nat} (hk : k < 2) (hq : q < 2816) : k * 2816 + q < 5632 := by omega

/-- The gradient of the weights: block `k` holds the columns `1408 k` to `1408 k + 1407`. -/
def Gdw (x : S16384x1024.Idx → EReal) (d : S16384x5632.Idx → EReal) (b s : S1x1024.Idx → EReal) : S4x1024x1408.Idx → EReal := fun i =>
  ∑ n, term x d b s (i 1) ⟨(i 0).val * 1408 + (i 2).val, col_lt (i 0).isLt (i 2).isLt⟩ n

variable (m : (ℓ : Loc nD τ sig) → Buf (Elt Ideal) ℓ)

theorem points (t : Fin cfg0.N) : t.val < 32 := lt_of_lt_of_eq t.isLt N_0

/-- Row `r` of point `t`'s block of rows is this row of the arrays, … -/
abbrev row (t : Fin cfg0.N) (r : Fin 2048) : Fin 16384 := ⟨t.val % 8 * 2048 + r.val, by omega⟩

/-- … and column `q` of its block of columns this one. -/
abbrev col (t : Fin cfg0.N) (q : Fin 1408) : Fin 5632 := ⟨t.val / 8 * 1408 + q.val, by have := points t; omega⟩

/-- The host's halves of the cotangent. -/
theorem host_d (c : Dev nD) (i : S2x16384x2816.Idx) :
    V m c main_v1 i = m (c, main_arg1) (ix2 (i 1) ⟨(i 0).val * 2816 + (i 2).val, half_lt (i 0).isLt (i 2).isLt⟩) := by
  idx_vars i
  entry_read
  pointwise

theorem idx : ∀ t : Fin cfg0.N, win0_0.index t = ![t.val % 8, 0] ∧ win0_1.index t = ![t.val / 16, t.val % 8, t.val / 8 % 2]
    ∧ win0_2.index t = ![0, 0] ∧ win0_3.index t = ![0, 0] ∧ win0_4.index t = ![t.val / 8, 0, 0] :=
  (by decide +kernel : ∀ t : Fin grid0.N, _)

/-- What each window's block holds. -/
theorem blk (c : Dev nD) (t : Fin cfg0.N) :
    (∀ r k, iblk m c 0 t (ix2 r k) = m (c, main_arg0) (ix2 (row t r) k))
    ∧ (∀ h r k, iblk m c 1 t (ix3 h r k) = m (c, main_arg1) (ix2 (row t r) (col t k)))
    ∧ (∀ r k, iblk m c 2 t (ix2 r k) = m (c, main_arg2) (ix2 0 k))
    ∧ (∀ r k, iblk m c 3 t (ix2 r k) = m (c, main_arg3) (ix2 0 k)) := by
  have ht := points t
  obtain ⟨i0, i1, i2, i3, -⟩ := idx t
  refine ⟨fun r k => ?_, fun h r k => (?_ : _ = V m c main_v1 (ix3 ⟨t.val / 16, by omega⟩ (row t r) ⟨t.val / 8 % 2 * 1408 + k.val, by omega⟩)).trans ((host_d m c _).trans
    (congrArg (fun q => m (c, main_arg1) (ix2 (row t r) q)) (Fin.ext (?_ : t.val / 16 * 2816 + (t.val / 8 % 2 * 1408 + k.val) = t.val / 8 * 1408 + k.val)))),
    fun r k => ?_, fun r k => ?_⟩
  on_goal 3 => omega
  all_goals
    simp only [iblk]
    blk_point [i0, i1, i2, i3]

/-- What point `t` adds to the gradient: its block of rows. -/
def part (x : S16384x1024.Idx → EReal) (d : S16384x5632.Idx → EReal) (b s : S1x1024.Idx → EReal) (t : Fin cfg0.N) (j : Fin 1024) (q : Fin 1408) : EReal :=
  ∑ r : Fin 2048, term x d b s j (col t q) (row t r)

abbrev before (t : Fin cfg0.N) : t.val - 1 < cfg0.N := Nat.lt_of_le_of_lt (Nat.sub_le _ _) t.isLt

set_option maxHeartbeats 2000000 in
/-- A run's first point starts the sums at zero, … -/
theorem first (c : Dev nD) (t : Fin cfg0.N) (h : t.val % 8 = 0) (y : S1x1024x1408.Idx) :
    outsAt0 m c t.val t.isLt y = 0 + part (m (c, main_arg0)) (m (c, main_arg1)) (m (c, main_arg2)) (m (c, main_arg3)) t (y 1) (y 2) := by
  obtain ⟨b0, b1, b2, b3⟩ := blk m c t
  rw [outsAt0_A m c t h]
  idx_vars y
  frame_out
  unfold_payloads
  pointwise [part]
  simp only [b0, b1, b2, b3]

set_option maxHeartbeats 2000000 in
/-- … and each further one adds its block of rows. -/
theorem next (c : Dev nD) (t : Fin cfg0.N) (h : ¬t.val % 8 = 0) (y : S1x1024x1408.Idx) :
    outsAt0 m c t.val t.isLt y = outsAt0 m c (t.val - 1) (before t) y
      + part (m (c, main_arg0)) (m (c, main_arg1)) (m (c, main_arg2)) (m (c, main_arg3)) t (y 1) (y 2) := by
  obtain ⟨b0, b1, b2, b3⟩ := blk m c t
  rw [outsAt0_B m c t h]
  idx_vars y
  frame_out
  unfold_payloads
  pointwise [part]
  simp only [b0, b1, b2, b3]
  rw [Subsingleton.elim (α := Fin 1) y0 0]

theorem last (c : Dev nD) (t : Fin cfg0.N) (h : t.val % 8 = 7) (y : S1x1024x1408.Idx) :
    outsAt0 m c t.val t.isLt y = ∑ n, term (m (c, main_arg0)) (m (c, main_arg1)) (m (c, main_arg2)) (m (c, main_arg3)) (y 1) (col t (y 2)) n := by
  rw [Pipeline.eq_sum_fin_of_reset_step_apply_of_flush (fun n h => outsAt0 m c n h) 8 (fun _ => 0) _
    (fun t h y => first m c t h y) (fun t h y => next m c t h y) t h y, zero_add]
  refine Fin.sum_mul_add_congr (S := 8) (n := 2048)
    (f := fun n => term (m (c, main_arg0)) (m (c, main_arg1)) (m (c, main_arg2)) (m (c, main_arg3)) (y 1) (col t (y 2)) n) fun s k hl => ?_
  have e1 : (8 * (t.val / 8) + s.val) / 8 = t.val / 8 := by omega
  have e2 : (8 * (t.val / 8) + s.val) % 8 = s.val := by omega
  simp only [row, col, e1, e2]

/-- What the kernel leaves. -/
theorem left (c : Dev nD) : (dats m 0 c).arrAt 4 cfg0.N = Gdw (m (c, main_arg0)) (m (c, main_arg1)) (m (c, main_arg2)) (m (c, main_arg3)) := by
  refine (dats m 0 c).arrAt_eq_of_covers 4 _ (by decide +kernel) fun t hf y => ?_
  blk_simp
  rw [after0_4]
  refine (last m c t ((flush0_4 t).mp hf) y).trans (congrArg (Gdw _ _ _ _) (a₁ := ix3 ⟨t.val / 8, by have := points t; omega⟩ (y 1) (y 2)) ?_)
  blk_ext [(idx t).2.2.2.2]

end Cert.DwUpIdeal.Value
end
-- ==== Proof.DwUp.Claims.lean ====
module

public import proofs.«01_k».proof.Defs
public import proofs.«01_k».proof.Proof.DwUp.Block
public import proofs.«01_k».proof.Proof.Gen.DwUpRefIdeal.Read
public import proofs.«01_k».proof.Proof.Gen.DwUp.Frame
public import proofs.«01_k».proof.Proof.Gen.DwUpRefIdeal.Run

@[expose] public section

set_option maxRecDepth 16384

noncomputable section

open Idealize.ShloMosaic Idealize.ShloMosaic.TcCoe Idealize.SL.Sem

namespace Cert.DwUpRefIdeal.Read

open Cert.DwUpIdeal.Value (Gdw term)

variable (x : S16384x1024.Idx → EReal) (d : S16384x5632.Idx → EReal) (b s : S1x1024.Idx → EReal)

/-- The reference's gradient before it is cut into blocks … -/
theorem d_w (j : Fin 1024) (q : Fin 5632) : val_main_v10 (F := Ideal) x d b s (ix2 j q) = ∑ n, term x d b s j q n := by
  pointwise [val_main_v10, val_main_v9, val_main_v8, val_main_v6, val_main_v5, val_main_v4, val_main_v3, val_main_v2, val_main_v1, val_main_cst_0]
  exact Finset.sum_congr rfl fun n _ => mul_comm _ _

set_option backward.isDefEq.respectTransparency false in
/-- … and after. -/
theorem ref_dw : val_main_v19 (F := Ideal) x d b s = Gdw x d b s := by
  funext i
  idx_vars i
  pointwise [val_main_v19, val_main_v18, val_main_v17, val_main_v16, val_main_v15, val_main_v14, val_main_v13, val_main_v12, val_main_v11, d_w, Gdw]
  split_ifs
  all_goals
    refine congrArg (fun q => ∑ n, term x d b s i1 q n) (Fin.ext ?_)
    dsimp only
    omega

end Cert.DwUpRefIdeal.Read

namespace Cert.DwUpClaims

/-- The kernel terminates without fault, its arguments unchanged, every counter zero. -/
theorem frame : quiescent_DwUp (hDwUp := Cert.DwUp.Gen.facts) := fun m ρ _ => Cert.DwUp.Gen.frame m ρ

/-- The ideal program, likewise. -/
theorem frame_ideal : quiescent_DwUpIdeal (hDwUpIdeal := Cert.DwUpIdeal.Gen.facts) := fun m ρ _ => Cert.DwUpIdeal.Gen.frame m ρ

/-- The reference, likewise. -/
theorem frame_ref : quiescent_DwUpRefIdeal (hDwUpRefIdeal := Cert.DwUpRefIdeal.Gen.facts) := fun m ρ _ =>
  (θ_run Cert.DwUpRefIdeal.defs _ _).mono (fun r h => ⟨fun c => (h c).2, sem_eq_zero_of_no_sems (by decide) r.2⟩)
    (Cert.DwUpRefIdeal.Value.run m ρ)

/-- Kernel and reference leave the same array. -/
theorem value : algebraic_DwUpIdeal_DwUpRefIdeal (hDwUpIdeal := Cert.DwUpIdeal.Gen.facts) (hDwUpRefIdeal := Cert.DwUpRefIdeal.Gen.facts) := by
  intro m ρ m' ρ' _ hargs
  refine ⟨fun c => Cert.DwUpIdeal.Value.Gdw (m (c, Cert.DwUpIdeal.main_arg0)) (m (c, Cert.DwUpIdeal.main_arg1)) (m (c, Cert.DwUpIdeal.main_arg2)) (m (c, Cert.DwUpIdeal.main_arg3)), ?_, ?_⟩
  · exact (θ_run Cert.DwUpIdeal.defs _ _).mono (fun r h c => let ⟨h0, rest⟩ := h c
      ⟨h0.trans (Cert.DwUpIdeal.Value.left m c), rest⟩) (Cert.DwUpIdeal.Value.run_blocks (F := Ideal) m ρ)
  · refine (θ_run Cert.DwUpRefIdeal.defs _ _).mono (fun r h c => let ⟨h0, rest⟩ := h c
      ⟨h0.trans ?_, rest⟩) (Cert.DwUpRefIdeal.Value.run (F := Ideal) m' ρ')
    obtain ⟨a0, a1, a2, a3⟩ := hargs c
    refine (Cert.DwUpRefIdeal.Read.val_main_v19_eq (F := Ideal) _ _ _ _).trans ?_
    rw [a0, a1, a2, a3]
    exact Cert.DwUpRefIdeal.Read.ref_dw _ _ _ _

end Cert.DwUpClaims
end
-- ==== Proof.DwCtx.Block.lean ====
module

public import proofs.«01_k».proof.Proof.Gen.DwCtxIdeal.Value
public import proofs.«01_k».proof.Proof.Gen.DwCtxRefIdeal.Read
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.DwCtxIdeal.Value

open Cert.DwCtxIdeal Cert.DwCtxIdeal.Gen

/-- The weights' gradient: what the latents left, and the modulated context times the cotangent. -/
def dw (x : S256x1024.Idx → EReal) (d : S256x3584.Idx → EReal) (b s : S1x1024.Idx → EReal) (w : S1024x3584.Idx → EReal) (j : Fin 1024) (q : Fin 3584) : EReal :=
  w (ix2 j q) + ∑ n : Fin 256, (x (ix2 n j) * (1 + s (ix2 0 j)) + b (ix2 0 j)) * d (ix2 n q)

theorem col_lt {k q : Nat} (hk : k < 4) (hq : q < 896) : k * 896 + q < 3584 := by omega

/-- Block `k` of it holds the columns `896 k` to `896 k + 895`. -/
def Gdw (x : S256x1024.Idx → EReal) (d : S256x3584.Idx → EReal) (b s : S1x1024.Idx → EReal) (w : S1024x3584.Idx → EReal) : S4x1024x896.Idx → EReal := fun i =>
  dw x d b s w (i 1) ⟨(i 0).val * 896 + (i 2).val, col_lt (i 0).isLt (i 2).isLt⟩

/-- The gradient of the bias, eight rows alike. -/
def Gdb (d : S256x3584.Idx → EReal) : S8x3584.Idx → EReal := fun i => ∑ n : Fin 256, d (ix2 n (i 1))

variable (m : (ℓ : Loc nD τ sig) → Buf (Elt Ideal) ℓ)

theorem points (t : Fin cfg0.N) : t.val < 4 := lt_of_lt_of_eq t.isLt N_0

/-- Column `q` of point `t`'s block of columns is this column of the arrays. -/
abbrev col (t : Fin cfg0.N) (q : Fin 896) : Fin 3584 := ⟨t.val * 896 + q.val, by have := points t; omega⟩

/-- The host's blocks of columns of what the latents left. -/
theorem host_w (c : Dev nD) (i : S4x1024x896.Idx) :
    V m c main_v1 i = m (c, main_arg4) (ix2 (i 1) ⟨(i 0).val * 896 + (i 2).val, col_lt (i 0).isLt (i 2).isLt⟩) := by
  idx_vars i
  entry_read
  pointwise

theorem idx : ∀ t : Fin cfg0.N, win0_0.index t = ![0, 0] ∧ win0_1.index t = ![0, t.val]
    ∧ win0_2.index t = ![0, 0] ∧ win0_3.index t = ![0, 0] ∧ win0_4.index t = ![t.val, 0, 0]
    ∧ win0_5.index t = ![t.val, 0, 0] ∧ win0_6.index t = ![0, t.val] :=
  (by decide +kernel : ∀ t : Fin grid0.N, _)

/-- What each window's block holds. -/
theorem blk (c : Dev nD) (t : Fin cfg0.N) :
    (∀ r k, iblk m c 0 t (ix2 r k) = m (c, main_arg0) (ix2 r k))
    ∧ (∀ r k, iblk m c 1 t (ix2 r k) = m (c, main_arg1) (ix2 r (col t k)))
    ∧ (∀ r k, iblk m c 2 t (ix2 r k) = m (c, main_arg2) (ix2 0 k))
    ∧ (∀ r k, iblk m c 3 t (ix2 r k) = m (c, main_arg3) (ix2 0 k))
    ∧ (∀ h r k, iblk m c 4 t (ix3 h r k) = m (c, main_arg4) (ix2 r (col t k))) := by
  obtain ⟨i0, i1, i2, i3, i4, -⟩ := idx t
  refine ⟨fun r k => ?_, fun r k => ?_, fun r k => ?_, fun r k => ?_, fun h r k => (?_ : _ = V m c main_v1 (ix3 ⟨t.val, points t⟩ r k)).trans (host_w m c _)⟩
  all_goals
    simp only [iblk]
    blk_point [i0, i1, i2, i3, i4]

set_option maxHeartbeats 2000000 in
/-- What a point stores: its block of columns of the two gradients. -/
theorem point (c : Dev nD) (t : Fin cfg0.N) :
    (∀ y, (outsAt0 m c t).1 y = dw (m (c, main_arg0)) (m (c, main_arg1)) (m (c, main_arg2)) (m (c, main_arg3)) (m (c, main_arg4)) (y 1) (col t (y 2)))
    ∧ ∀ y, (outsAt0 m c t).2 y = Gdb (m (c, main_arg1)) (ix2 (y 0) (col t (y 1))) := by
  obtain ⟨b0, b1, b2, b3, b4⟩ := blk m c t
  unfold outsAt0
  constructor
  all_goals
    intro y
    idx_vars y
    frame_out
    unfold_payloads
    pointwise [dw, Gdb]
    simp only [b0, b1, b2, b3, b4]
    try rw [zero_add]

theorem left5 (c : Dev nD) : (dats m 0 c).arrAt 5 cfg0.N
    = Gdw (m (c, main_arg0)) (m (c, main_arg1)) (m (c, main_arg2)) (m (c, main_arg3)) (m (c, main_arg4)) := by
  refine (dats m 0 c).arrAt_eq_of_covers 5 _ (by decide +kernel) fun t hf y => ?_
  blk_simp
  rw [after0_5]
  refine ((point m c t).1 y).trans (congrArg (Gdw _ _ _ _ _) (a₁ := ix3 ⟨t.val, points t⟩ (y 1) (y 2)) ?_)
  blk_ext [(idx t).2.2.2.2.2.1]

theorem left6 (c : Dev nD) : (dats m 0 c).arrAt 6 cfg0.N = Gdb (m (c, main_arg1)) := by
  refine (dats m 0 c).arrAt_eq_of_covers 6 _ (by decide +kernel) fun t hf y => ?_
  blk_simp
  rw [after0_6]
  refine ((point m c t).2 y).trans (congrArg (Gdb _) ?_)
  blk_ext [(idx t).2.2.2.2.2.2]

end Cert.DwCtxIdeal.Value

namespace Cert.DwCtxRefIdeal.Read

open Cert.DwCtxIdeal.Value (Gdw Gdb dw)

variable (x : S256x1024.Idx → EReal) (d : S256x3584.Idx → EReal) (b s : S1x1024.Idx → EReal) (w : S1024x3584.Idx → EReal)

/-- The reference's gradient of the weights before it is cut into blocks, … -/
theorem d_w (j : Fin 1024) (q : Fin 3584) : val_main_v16 (F := Ideal) x d b s w (ix2 j q) = dw x d b s w j q := by
  pointwise [val_main_v16, val_main_v15, val_main_v14, val_main_v11, val_main_v7, val_main_v6, val_main_v5, val_main_v4, val_main_v3, val_main_v2, val_main_cst_1, dw]
  exact congrArg (_ + ·) (Finset.sum_congr rfl fun n _ => mul_comm _ _)

set_option backward.isDefEq.respectTransparency false in
/-- … after, … -/
theorem ref_dw : val_main_v25 (F := Ideal) x d b s w = Gdw x d b s w := by
  funext i
  idx_vars i
  pointwise [val_main_v25, val_main_v24, val_main_v23, val_main_v22, val_main_v21, val_main_v20, val_main_v19, val_main_v18, val_main_v17, d_w, Gdw]
  split_ifs
  all_goals
    refine congrArg (dw x d b s w i1) (Fin.ext ?_)
    dsimp only
    omega

/-- … and of the bias. -/
theorem ref_db : val_main_v28 (F := Ideal) d = Gdb d := by
  funext i
  idx_vars i
  pointwise [val_main_v28, val_main_v27, val_main_v26, val_main_v13, val_main_v12, val_main_v11, val_main_cst_2, Gdb]

end Cert.DwCtxRefIdeal.Read
end
-- ==== Proof.DwCtx.Claims.lean ====
module

public import proofs.«01_k».proof.Defs
public import proofs.«01_k».proof.Proof.DwCtx.Block
public import proofs.«01_k».proof.Proof.Gen.DwCtx.Frame
public import proofs.«01_k».proof.Proof.Gen.DwCtxRefIdeal.Run

@[expose] public section

noncomputable section

open Idealize.ShloMosaic Idealize.ShloMosaic.TcCoe Idealize.SL.Sem

namespace Cert.DwCtxClaims

/-- The kernel terminates without fault, its arguments unchanged, every counter zero. -/
theorem frame : quiescent_DwCtx (hDwCtx := Cert.DwCtx.Gen.facts) := fun m ρ _ => Cert.DwCtx.Gen.frame m ρ

/-- The ideal program, likewise. -/
theorem frame_ideal : quiescent_DwCtxIdeal (hDwCtxIdeal := Cert.DwCtxIdeal.Gen.facts) := fun m ρ _ => Cert.DwCtxIdeal.Gen.frame m ρ

/-- The reference, likewise. -/
theorem frame_ref : quiescent_DwCtxRefIdeal (hDwCtxRefIdeal := Cert.DwCtxRefIdeal.Gen.facts) := fun m ρ _ =>
  (θ_run Cert.DwCtxRefIdeal.defs _ _).mono (fun r h => ⟨fun c => (h c).2.2, sem_eq_zero_of_no_sems (by decide) r.2⟩)
    (Cert.DwCtxRefIdeal.Value.run m ρ)

/-- Kernel and reference leave the same arrays. -/
theorem value : algebraic_DwCtxIdeal_DwCtxRefIdeal (hDwCtxIdeal := Cert.DwCtxIdeal.Gen.facts) (hDwCtxRefIdeal := Cert.DwCtxRefIdeal.Gen.facts) := by
  intro m ρ m' ρ' _ hargs
  refine ⟨fun c => Cert.DwCtxIdeal.Value.Gdw (m (c, Cert.DwCtxIdeal.main_arg0)) (m (c, Cert.DwCtxIdeal.main_arg1)) (m (c, Cert.DwCtxIdeal.main_arg2)) (m (c, Cert.DwCtxIdeal.main_arg3)) (m (c, Cert.DwCtxIdeal.main_arg4)),
    fun c => Cert.DwCtxIdeal.Value.Gdb (m (c, Cert.DwCtxIdeal.main_arg1)), ?_, ?_⟩
  · exact (θ_run Cert.DwCtxIdeal.defs _ _).mono (fun r h c => let ⟨h0, h1, rest⟩ := h c
      ⟨h0.trans (Cert.DwCtxIdeal.Value.left5 m c), h1.trans (Cert.DwCtxIdeal.Value.left6 m c), rest⟩)
      (Cert.DwCtxIdeal.Value.run_blocks (F := Ideal) m ρ)
  · refine (θ_run Cert.DwCtxRefIdeal.defs _ _).mono (fun r h c => let ⟨h0, h1, rest⟩ := h c
      ⟨h0.trans ?_, h1.trans ?_, rest⟩) (Cert.DwCtxRefIdeal.Value.run (F := Ideal) m' ρ')
    all_goals obtain ⟨a0, a1, a2, a3, a4⟩ := hargs c
    · refine (Cert.DwCtxRefIdeal.Read.val_main_v25_eq (F := Ideal) _ _ _ _ _).trans ?_
      rw [a0, a1, a2, a3, a4]
      exact Cert.DwCtxRefIdeal.Read.ref_dw _ _ _ _ _
    · refine (Cert.DwCtxRefIdeal.Read.val_main_v28_eq (F := Ideal) _).trans ?_
      rw [a1]
      exact Cert.DwCtxRefIdeal.Read.ref_db _

end Cert.DwCtxClaims
end
-- ==== Proof.ModCtx.Block.lean ====
module

public import Idealize.ShloMosaic.Lib.Pipeline.ReadBack
public import proofs.«01_k».proof.Proof.Gen.ModCtxIdeal.Value
public import proofs.«01_k».proof.Proof.Gen.ModCtxRefIdeal.Read
public import proofs.«01_k».proof.Proof.Common.Pieces
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ModCtxIdeal.Value

open Cert.ModCtxIdeal Cert.ModCtxIdeal.Gen

/-- One product of its sum. -/
abbrev term' (dp : S256x3584.Idx → EReal) (w : S1024x3584.Idx → EReal) (n : Fin 256) (j : Fin 1024) (k : Fin 3584) : EReal :=
  dp (ix2 n k) * w (ix2 j k)

/-- The gradient of the modulated context. -/
def dh (dp : S256x3584.Idx → EReal) (w : S1024x3584.Idx → EReal) (n : Fin 256) (j : Fin 1024) : EReal :=
  ∑ k : Fin 3584, dp (ix2 n k) * w (ix2 j k)

/-- The gradient of the context. -/
def Gdx (dp : S256x3584.Idx → EReal) (w : S1024x3584.Idx → EReal) (s : S1x1024.Idx → EReal) : S256x1024.Idx → EReal := fun i =>
  dh dp w (i 0) (i 1) * (1 + s (ix2 0 (i 1)))

/-- The gradient of the scale. -/
def Gds (dp : S256x3584.Idx → EReal) (w : S1024x3584.Idx → EReal) (x : S256x1024.Idx → EReal) : S1x1024.Idx → EReal := fun i =>
  ∑ n : Fin 256, dh dp w n (i 1) * x (ix2 n (i 1))

/-- The gradient of the shift. -/
def Gdt (dp : S256x3584.Idx → EReal) (w : S1024x3584.Idx → EReal) : S1x1024.Idx → EReal := fun i => ∑ n : Fin 256, dh dp w n (i 1)

variable (m : (ℓ : Loc nD τ sig) → Buf (Elt Ideal) ℓ)

theorem points (t : Fin cfg0.N) : t.val < 4 := lt_of_lt_of_eq t.isLt N_0

/-- Column `q` of point `t`'s block of columns is this column of the arrays. -/
abbrev col (t : Fin cfg0.N) (q : Fin 896) : Fin 3584 := ⟨t.val * 896 + q.val, by have := points t; omega⟩

/-- The host's blocks of the projection's columns … -/
theorem host_w (c : Dev nD) : ∀ i, V m c main_v2 i = m (c, main_arg1) (ix2 (i 1) ⟨(i 0).val * 896 + (i 2).val, by
    have h0 : (i 0).val < 4 := (i 0).isLt; have h2 : (i 2).val < 896 := (i 2).isLt; omega⟩) := by
  intro i
  idx_vars i
  simp only [V, hostOps0, List.flatten_cons, List.flatten_nil, List.append_nil, List.cons_append, List.nil_append]
  after_reads_at
  all_goals (try after_reads_at)
  all_goals (try pointwise)

/-- … and its zeros. -/
theorem host_0 (c : Dev nD) : ∀ i, V m c main_v3 i = (0 : EReal) := by
  intro i
  idx_vars i
  simp only [V, hostOps0, List.flatten_cons, List.flatten_nil, List.append_nil, List.cons_append, List.nil_append]
  after_reads_at
  all_goals (try after_reads_at)
  all_goals (try pointwise)

theorem idx : ∀ t : Fin cfg0.N, win0_0.index t = ![0, t.val] ∧ win0_1.index t = ![t.val, 0, 0]
    ∧ win0_2.index t = ![0, 0] ∧ win0_3.index t = ![0, 0] ∧ win0_4.index t = ![0, 0]
    ∧ win0_5.index t = ![0, 0] ∧ win0_6.index t = ![0, 0] ∧ win0_7.index t = ![0, 0] :=
  (by decide +kernel : ∀ t : Fin grid0.N, _)

/-- What each window's block holds. -/
theorem blk (c : Dev nD) (t : Fin cfg0.N) :
    (∀ r k, iblk m c 0 t (ix2 r k) = m (c, main_arg0) (ix2 r (col t k)))
    ∧ (∀ h r k, iblk m c 1 t (ix3 h r k) = m (c, main_arg1) (ix2 r (col t k)))
    ∧ (∀ r k, iblk m c 2 t (ix2 r k) = (0 : EReal))
    ∧ (∀ r k, iblk m c 3 t (ix2 r k) = m (c, main_arg2) (ix2 r k))
    ∧ (∀ r k, iblk m c 4 t (ix2 r k) = m (c, main_arg3) (ix2 0 k)) := by
  obtain ⟨i0, i1, i2, i3, i4, -⟩ := idx t
  refine ⟨fun r k => ?_, fun h r k => (?_ : _ = V m c main_v2 (ix3 ⟨t.val, points t⟩ r k)).trans (host_w m c _),
    fun r k => (?_ : _ = V m c main_v3 (ix2 r k)).trans (host_0 m c _), fun r k => ?_, fun r k => ?_⟩
  all_goals
    simp only [iblk]
    blk_point [i0, i1, i2, i3, i4]

/-! ## The accumulator -/

/-- What point `t` adds: its block of columns. -/
def part (dp : S256x3584.Idx → EReal) (w : S1024x3584.Idx → EReal) (t : Fin cfg0.N) (r : Fin 256) (j : Fin 1024) : EReal :=
  ∑ q : Fin 896, dp (ix2 r (col t q)) * w (ix2 j (col t q))

abbrev before (t : Fin cfg0.N) : t.val - 1 < cfg0.N := Nat.lt_of_le_of_lt (Nat.sub_le _ _) t.isLt

set_option maxHeartbeats 2000000 in
theorem acc_first (c : Dev nD) (t : Fin cfg0.N) (h : t.val % 4 = 0) (y : S256x1024.Idx) :
    (outsAt0 m c t.val t.isLt).2.2.2 y = 0 + part (m (c, main_arg0)) (m (c, main_arg1)) t (y 0) (y 1) := by
  obtain ⟨b0, b1, -⟩ := blk m c t
  idx_vars y
  rw [outsAt0_A m c t h h (by omega)]
  frame_out
  unfold_payloads
  pointwise [part]
  simp only [b0, b1]

set_option maxHeartbeats 2000000 in
theorem acc_next (c : Dev nD) (t : Fin cfg0.N) (h : ¬t.val % 4 = 0) (y : S256x1024.Idx) :
    (outsAt0 m c t.val t.isLt).2.2.2 y = (outsAt0 m c (t.val - 1) (before t)).2.2.2 y
      + part (m (c, main_arg0)) (m (c, main_arg1)) t (y 0) (y 1) := by
  obtain ⟨b0, b1, -⟩ := blk m c t
  idx_vars y
  by_cases hz : t.val % 4 = 3
  on_goal 1 => rw [outsAt0_C m c t h h hz]
  on_goal 2 => rw [outsAt0_B m c t h h hz]
  all_goals
    frame_out
    unfold_payloads
    pointwise [part]
    simp only [b0, b1]
    rw [read_unread_whole]

/-- After the last point the accumulator holds the whole products. -/
theorem acc_last (c : Dev nD) (t : Fin cfg0.N) (h : t.val % 4 = 3) (y : S256x1024.Idx) :
    (outsAt0 m c t.val t.isLt).2.2.2 y = dh (m (c, main_arg0)) (m (c, main_arg1)) (y 0) (y 1) := by
  rw [Pipeline.eq_sum_fin_of_reset_step_apply_of_flush (fun n h => (outsAt0 m c n h).2.2.2) 4 (fun _ => 0) _
    (fun t h y => acc_first m c t h y) (fun t h y => acc_next m c t h y) t h y, zero_add]
  refine Fin.sum_mul_add_congr (S := 4) (n := 896) (f := fun k => term' (m (c, main_arg0)) (m (c, main_arg1)) (y 0) (y 1) k) fun s k hl => ?_
  have ht := points t
  have e : 4 * (t.val / 4) + s.val = s.val := by omega
  simp only [col, e]

/-! ## What the last point stores -/

/-- The first point clears the sums, the next two keep them. -/
theorem sums_before (c : Dev nD) (t : Fin cfg0.N) (h : t.val % 4 = 3) :
    (∀ y, (outsAt0 m c (t.val - 1) (before t)).2.1 y = 0) ∧ ∀ y, (outsAt0 m c (t.val - 1) (before t)).2.2.1 y = 0 := by
  have key : ∀ n (hn : n < cfg0.N), n < 3 → (∀ y, (outsAt0 m c n hn).2.1 y = 0) ∧ ∀ y, (outsAt0 m c n hn).2.2.1 y = 0 := by
    intro n
    induction n with
    | zero =>
      intro hn _
      rw [outsAt0_A m c ⟨0, hn⟩ (Nat.zero_mod _) (Nat.zero_mod _) (by show ¬0 % 4 = 3; omega)]
      constructor
      all_goals
        intro y
        frame_out
        unfold_payloads
        pointwise
    | succ n ih =>
      intro hn h3
      rw [outsAt0_B m c ⟨n + 1, hn⟩ (by show ¬(n + 1) % 4 = 0; omega) (by show ¬(n + 1) % 4 = 0; omega) (by show ¬(n + 1) % 4 = 3; omega)]
      exact ih (Nat.lt_of_succ_lt hn) (by omega)
  exact key _ _ (by have := points t; omega)

set_option maxHeartbeats 2000000 in
theorem point (c : Dev nD) (t : Fin cfg0.N) (h : t.val % 4 = 3) :
    (∀ y, (outsAt0 m c t.val t.isLt).1 y = Gdx (m (c, main_arg0)) (m (c, main_arg1)) (m (c, main_arg3)) y)
    ∧ (∀ y, (outsAt0 m c t.val t.isLt).2.1 y = Gds (m (c, main_arg0)) (m (c, main_arg1)) (m (c, main_arg2)) y)
    ∧ ∀ y, (outsAt0 m c t.val t.isLt).2.2.1 y = Gdt (m (c, main_arg0)) (m (c, main_arg1)) y := by
  obtain ⟨b0, b1, b2, b3, b4⟩ := blk m c t
  obtain ⟨z6, z7⟩ := sums_before m c t h
  have e : ∀ r j, (outsAt0 m c (t.val - 1) (before t)).2.2.2 (ix2 r j) + part (m (c, main_arg0)) (m (c, main_arg1)) t r j
      = dh (m (c, main_arg0)) (m (c, main_arg1)) r j := fun r j => (acc_next m c t (by omega) (ix2 r j)).symm.trans (acc_last m c t h _)
  unfold part at e
  rw [outsAt0_C m c t (by omega) (by omega) h]
  refine ⟨?_, ?_, ?_⟩
  all_goals
    intro y
    idx_vars y
    frame_out
    unfold_payloads
    pointwise [Gdx, Gds, Gdt]
    simp only [b0, b1, b2, b3, b4]
    simp only [read_unread_whole, e, z6, z7, zero_add]

theorem left5 (c : Dev nD) : (dats m 0 c).arrAt 5 cfg0.N = Gdx (m (c, main_arg0)) (m (c, main_arg1)) (m (c, main_arg3)) := by
  refine (dats m 0 c).arrAt_eq_of_covers 5 _ (by decide +kernel) fun t hf y => ?_
  blk_simp
  rw [after0_5]
  refine ((point m c t ((flush0_5 t).mp hf)).1 y).trans (congrArg (Gdx _ _ _) ?_)
  blk_ext [(idx t).2.2.2.2.2.1]

theorem left6 (c : Dev nD) : (dats m 0 c).arrAt 6 cfg0.N = Gds (m (c, main_arg0)) (m (c, main_arg1)) (m (c, main_arg2)) := by
  refine (dats m 0 c).arrAt_eq_of_covers 6 _ (by decide +kernel) fun t hf y => ?_
  blk_simp
  rw [after0_6]
  refine ((point m c t ((flush0_6 t).mp hf)).2.1 y).trans (congrArg (Gds _ _ _) ?_)
  blk_ext [(idx t).2.2.2.2.2.2.1]

theorem left7 (c : Dev nD) : (dats m 0 c).arrAt 7 cfg0.N = Gdt (m (c, main_arg0)) (m (c, main_arg1)) := by
  refine (dats m 0 c).arrAt_eq_of_covers 7 _ (by decide +kernel) fun t hf y => ?_
  blk_simp
  rw [after0_7]
  refine ((point m c t ((flush0_7 t).mp hf)).2.2 y).trans (congrArg (Gdt _ _) ?_)
  blk_ext [(idx t).2.2.2.2.2.2.2]

end Cert.ModCtxIdeal.Value

namespace Cert.ModCtxRefIdeal.Read

open Cert.ModCtxIdeal.Value (Gdx Gds Gdt dh)

variable (dp : S256x3584.Idx → EReal) (w : S1024x3584.Idx → EReal) (x : S256x1024.Idx → EReal) (s : S1x1024.Idx → EReal)

theorem d_h (n : Fin 256) (j : Fin 1024) : val_main_v9 (F := Ideal) dp w (ix2 n j) = dh dp w n j := by
  pointwise [val_main_v9, val_main_v8, dh]

/-- The reference's results: the gradient of the context, … -/
theorem ref_dx : val_main_v16 (F := Ideal) dp w s = Gdx dp w s := by
  funext i
  idx_vars i
  pointwise [val_main_v16, val_main_v15, val_main_v2, val_main_v1, val_main_cst_0, d_h, Gdx]

/-- … of the scale … -/
theorem ref_ds : val_main_v14 (F := Ideal) dp w x = Gds dp w x := by
  funext i
  idx_vars i
  pointwise [val_main_v14, val_main_v13, val_main_v12, val_main_cst_2, d_h, Gds]
  simp only [mul_comm]

/-- … and of the shift. -/
theorem ref_dt : val_main_v11 (F := Ideal) dp w = Gdt dp w := by
  funext i
  idx_vars i
  pointwise [val_main_v11, val_main_v10, val_main_cst_1, d_h, Gdt]

end Cert.ModCtxRefIdeal.Read
end
-- ==== Proof.ModCtx.Claims.lean ====
module

public import proofs.«01_k».proof.Defs
public import proofs.«01_k».proof.Proof.ModCtx.Block
public import proofs.«01_k».proof.Proof.Gen.ModCtx.Frame
public import proofs.«01_k».proof.Proof.Gen.ModCtxRefIdeal.Run

@[expose] public section

noncomputable section

open Idealize.ShloMosaic Idealize.ShloMosaic.TcCoe Idealize.SL.Sem

namespace Cert.ModCtxClaims

/-- The kernel terminates without fault, its arguments unchanged, every counter zero. -/
theorem frame : quiescent_ModCtx (hModCtx := Cert.ModCtx.Gen.facts) := fun m ρ _ => Cert.ModCtx.Gen.frame m ρ

/-- The ideal program, likewise. -/
theorem frame_ideal : quiescent_ModCtxIdeal (hModCtxIdeal := Cert.ModCtxIdeal.Gen.facts) := fun m ρ _ => Cert.ModCtxIdeal.Gen.frame m ρ

/-- The reference, likewise. -/
theorem frame_ref : quiescent_ModCtxRefIdeal (hModCtxRefIdeal := Cert.ModCtxRefIdeal.Gen.facts) := fun m ρ _ =>
  (θ_run Cert.ModCtxRefIdeal.defs _ _).mono (fun r h => ⟨fun c => (h c).2.2.2, sem_eq_zero_of_no_sems (by decide) r.2⟩)
    (Cert.ModCtxRefIdeal.Value.run m ρ)

/-- Kernel and reference leave the same arrays. -/
theorem value : algebraic_ModCtxIdeal_ModCtxRefIdeal (hModCtxIdeal := Cert.ModCtxIdeal.Gen.facts) (hModCtxRefIdeal := Cert.ModCtxRefIdeal.Gen.facts) := by
  intro m ρ m' ρ' _ hargs
  refine ⟨fun c => Cert.ModCtxIdeal.Value.Gdx (m (c, Cert.ModCtxIdeal.main_arg0)) (m (c, Cert.ModCtxIdeal.main_arg1)) (m (c, Cert.ModCtxIdeal.main_arg3)),
    fun c => Cert.ModCtxIdeal.Value.Gds (m (c, Cert.ModCtxIdeal.main_arg0)) (m (c, Cert.ModCtxIdeal.main_arg1)) (m (c, Cert.ModCtxIdeal.main_arg2)),
    fun c => Cert.ModCtxIdeal.Value.Gdt (m (c, Cert.ModCtxIdeal.main_arg0)) (m (c, Cert.ModCtxIdeal.main_arg1)), ?_, ?_⟩
  · exact (θ_run Cert.ModCtxIdeal.defs _ _).mono (fun r h c => let ⟨h0, h1, h2, rest⟩ := h c
      ⟨h0.trans (Cert.ModCtxIdeal.Value.left5 m c), h1.trans (Cert.ModCtxIdeal.Value.left6 m c), h2.trans (Cert.ModCtxIdeal.Value.left7 m c), rest⟩)
      (Cert.ModCtxIdeal.Value.run_blocks (F := Ideal) m ρ)
  · refine (θ_run Cert.ModCtxRefIdeal.defs _ _).mono (fun r h c => let ⟨h0, h1, h2, rest⟩ := h c
      ⟨h0.trans ?_, h1.trans ?_, h2.trans ?_, rest⟩) (Cert.ModCtxRefIdeal.Value.run (F := Ideal) m' ρ')
    all_goals obtain ⟨a0, a1, a2, a3⟩ := hargs c
    · refine (Cert.ModCtxRefIdeal.Read.val_main_v16_eq (F := Ideal) _ _ _).trans ?_
      rw [a0, a1, a3]
      exact Cert.ModCtxRefIdeal.Read.ref_dx _ _ _
    · refine (Cert.ModCtxRefIdeal.Read.val_main_v14_eq (F := Ideal) _ _ _).trans ?_
      rw [a0, a1, a2]
      exact Cert.ModCtxRefIdeal.Read.ref_ds _ _ _
    · refine (Cert.ModCtxRefIdeal.Read.val_main_v11_eq (F := Ideal) _ _).trans ?_
      rw [a0, a1]
      exact Cert.ModCtxRefIdeal.Read.ref_dt _ _

end Cert.ModCtxClaims
end
-- ==== Proof.CCtx.Block.lean ====
/-
  The gradient of the context's condition: what the call adds up over its four blocks of columns, and what the host makes of the first row.
-/
module

public import Idealize.ShloMosaic.Lib.Pipeline.ReadBack
public import proofs.«01_k».proof.Proof.Gen.CCtxIdeal.Frame
public import proofs.«01_k».proof.Proof.Common.Pieces
public import Idealize.ShloMosaic.Lib.Pipeline.ValueKit
public import Idealize.ShloMosaic.Lib.Pointwise
public import Idealize.ShloMosaic.Lib.Claim
public import Idealize.ShloMosaic.Lib.WordCmp
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.CCtxIdeal.Value

open Cert.CCtxIdeal Cert.CCtxIdeal.Gen

/-- One product of its sum. -/
abbrev term' (dp : S8x6144.Idx → EReal) (w : S1024x6144.Idx → EReal) (n : Fin 8) (j : Fin 1024) (k : Fin 6144) : EReal :=
  dp (ix2 n k) * w (ix2 j k)

/-- The products of the padded rows with the projection. -/
def dh (dp : S8x6144.Idx → EReal) (w : S1024x6144.Idx → EReal) (n : Fin 8) (j : Fin 1024) : EReal :=
  ∑ k : Fin 6144, dp (ix2 n k) * w (ix2 j k)

/-- The gradient of the condition after its silu. -/
def ds (d : S1x2048.Idx → EReal) (w : S1024x6144.Idx → EReal) (j : Fin 1024) : EReal :=
  ∑ k : Fin 2048, d (ix2 0 k) * w (ix2 j ⟨k.val, by omega⟩)

/-- The sigmoid. -/
def sg (x : EReal) : EReal := Ideal.div 1 (1 + Ideal.exp (-x))

/-- A gradient taken back through the silu. -/
def back (e x : EReal) : EReal := e * sg x * (1 + x * (1 - sg x))

/-- The gradient of the condition. -/
def Gdc (d : S1x2048.Idx → EReal) (w : S1024x6144.Idx → EReal) (x : S1x1024.Idx → EReal) : S1x1024.Idx → EReal := fun i =>
  back (ds d w (i 1)) (x (ix2 0 (i 1)))

variable (m : (ℓ : Loc nD τ sig) → Buf (Elt Ideal) ℓ)

theorem points (t : Fin cfg0.N) : t.val < 4 := lt_of_lt_of_eq t.isLt N_0

/-- Column `q` of point `t`'s block of columns is this column of the arrays. -/
abbrev col (t : Fin cfg0.N) (q : Fin 1536) : Fin 6144 := ⟨t.val * 1536 + q.val, by have := points t; omega⟩

/-- The host's blocks of the projection's columns … -/
theorem host_w (c : Dev nD) : ∀ i, V m c main_v2 i = m (c, main_arg1) (ix2 (i 1) ⟨(i 0).val * 1536 + (i 2).val, by
    have h0 : (i 0).val < 4 := (i 0).isLt; have h2 : (i 2).val < 1536 := (i 2).isLt; omega⟩) := by
  intro i
  idx_vars i
  simp only [V, hostOps0, hostOps0_1, hostOps0_2, List.flatten_cons, List.flatten_nil, List.append_nil, List.cons_append, List.nil_append]
  after_reads_at
  all_goals (try after_reads_at)
  all_goals (try pointwise)

/-- … its zeros … -/
theorem host_0 (c : Dev nD) : ∀ i, V m c main_v12 i = (0 : EReal) := by
  intro i
  idx_vars i
  simp only [V, hostOps0, hostOps0_1, hostOps0_2, List.flatten_cons, List.flatten_nil, List.append_nil, List.cons_append, List.nil_append]
  after_reads_at
  all_goals (try after_reads_at)
  all_goals (try pointwise)
theorem host_s (c : Dev nD) : ∀ i, V m c main_v3 i = (0 : EReal) := by
  intro i
  idx_vars i
  simp only [V, hostOps0, hostOps0_1, hostOps0_2, List.flatten_cons, List.flatten_nil, List.append_nil, List.cons_append, List.nil_append]
  after_reads_at
  all_goals (try after_reads_at)
  all_goals (try pointwise)

/-- … and the padded rows' first: the cotangent, then zeros. -/
theorem host_d (c : Dev nD) (k : Fin 6144) : V m c main_v11 (ix2 0 k) = if h : k.val < 2048 then m (c, main_arg0) (ix2 0 ⟨k.val, h⟩) else (0 : EReal) := by
  simp only [V, hostOps0, hostOps0_1, hostOps0_2, List.flatten_cons, List.flatten_nil, List.append_nil, List.cons_append, List.nil_append]
  after_reads_at
  all_goals (try after_reads_at)
  all_goals (try pointwise)

theorem idx : ∀ t : Fin cfg0.N, win0_0.index t = ![0, t.val] ∧ win0_1.index t = ![t.val, 0, 0]
    ∧ win0_2.index t = ![0, 0] ∧ win0_3.index t = ![0, 0] ∧ win0_4.index t = ![0, 0]
    ∧ win0_5.index t = ![0, 0] :=
  (by decide +kernel : ∀ t : Fin grid0.N, _)

/-- What each window's block holds. -/
theorem blk (c : Dev nD) (t : Fin cfg0.N) :
    (∀ r k, iblk m c 0 t (ix2 r k) = V m c main_v11 (ix2 r (col t k)))
    ∧ (∀ h r k, iblk m c 1 t (ix3 h r k) = m (c, main_arg1) (ix2 r (col t k)))
    ∧ (∀ r k, iblk m c 2 t (ix2 r k) = (0 : EReal))
    ∧ (∀ r k, iblk m c 4 t (ix2 r k) = (0 : EReal)) := by
  obtain ⟨i0, i1, i2, i3, i4, -⟩ := idx t
  refine ⟨fun r k => ?_, fun h r k => (?_ : _ = V m c main_v2 (ix3 ⟨t.val, points t⟩ r k)).trans (host_w m c _),
    fun r k => (?_ : _ = V m c main_v12 (ix2 r k)).trans (host_0 m c _), fun r k => (?_ : _ = V m c main_v3 (ix2 0 k)).trans (host_s m c _)⟩
  all_goals
    simp only [iblk]
    blk_point [i0, i1, i2, i3, i4]

/-! ## The accumulator -/

/-- What point `t` adds: its block of columns. -/
def part (dp : S8x6144.Idx → EReal) (w : S1024x6144.Idx → EReal) (t : Fin cfg0.N) (r : Fin 8) (j : Fin 1024) : EReal :=
  ∑ q : Fin 1536, dp (ix2 r (col t q)) * w (ix2 j (col t q))

abbrev before (t : Fin cfg0.N) : t.val - 1 < cfg0.N := Nat.lt_of_le_of_lt (Nat.sub_le _ _) t.isLt

set_option maxHeartbeats 2000000 in
theorem acc_first (c : Dev nD) (t : Fin cfg0.N) (h : t.val % 4 = 0) (y : S8x1024.Idx) :
    (outsAt0 m c t.val t.isLt).2.2.2 y = 0 + part (V m c main_v11) (m (c, main_arg1)) t (y 0) (y 1) := by
  obtain ⟨b0, b1, -⟩ := blk m c t
  idx_vars y
  rw [outsAt0_A m c t h h (by omega)]
  frame_out
  unfold_payloads
  pointwise [part]
  simp only [b0, b1]

set_option maxHeartbeats 2000000 in
theorem acc_next (c : Dev nD) (t : Fin cfg0.N) (h : ¬t.val % 4 = 0) (y : S8x1024.Idx) :
    (outsAt0 m c t.val t.isLt).2.2.2 y = (outsAt0 m c (t.val - 1) (before t)).2.2.2 y
      + part (V m c main_v11) (m (c, main_arg1)) t (y 0) (y 1) := by
  obtain ⟨b0, b1, -⟩ := blk m c t
  idx_vars y
  by_cases hz : t.val % 4 = 3
  on_goal 1 => rw [outsAt0_C m c t h h hz]
  on_goal 2 => rw [outsAt0_B m c t h h hz]
  all_goals
    frame_out
    unfold_payloads
    pointwise [part]
    simp only [b0, b1]
    rw [read_unread_whole]

/-- After the last point the accumulator holds the whole products. -/
theorem acc_last (c : Dev nD) (t : Fin cfg0.N) (h : t.val % 4 = 3) (y : S8x1024.Idx) :
    (outsAt0 m c t.val t.isLt).2.2.2 y = dh (V m c main_v11) (m (c, main_arg1)) (y 0) (y 1) := by
  rw [Pipeline.eq_sum_fin_of_reset_step_apply_of_flush (fun n h => (outsAt0 m c n h).2.2.2) 4 (fun _ => 0) _
    (fun t h y => acc_first m c t h y) (fun t h y => acc_next m c t h y) t h y, zero_add]
  refine Fin.sum_mul_add_congr (S := 4) (n := 1536) (f := fun k => term' (V m c main_v11) (m (c, main_arg1)) (y 0) (y 1) k) fun s k hl => ?_
  have ht := points t
  have e : 4 * (t.val / 4) + s.val = s.val := by omega
  simp only [col, e]

set_option maxHeartbeats 2000000 in
/-- What the last point stores: no residual, no scale. -/
theorem point (c : Dev nD) (t : Fin cfg0.N) (h : t.val % 4 = 3) (y : S8x1024.Idx) :
    (outsAt0 m c t.val t.isLt).1 y = dh (V m c main_v11) (m (c, main_arg1)) (y 0) (y 1) := by
  obtain ⟨b0, b1, b2, b4⟩ := blk m c t
  have e : ∀ r j, (outsAt0 m c (t.val - 1) (before t)).2.2.2 (ix2 r j) + part (V m c main_v11) (m (c, main_arg1)) t r j
      = dh (V m c main_v11) (m (c, main_arg1)) r j := fun r j => (acc_next m c t (by omega) (ix2 r j)).symm.trans (acc_last m c t h _)
  unfold part at e
  rw [outsAt0_C m c t (by omega) (by omega) h]
  idx_vars y
  frame_out
  unfold_payloads
  pointwise
  simp only [b0, b1, b2, b4]
  rw [read_unread_whole, e, zero_add, add_zero, mul_one]

theorem left5 (c : Dev nD) : (dats m 0 c).arrAt 5 cfg0.N = fun i => dh (V m c main_v11) (m (c, main_arg1)) (i 0) (i 1) := by
  refine (dats m 0 c).arrAt_eq_of_covers 5 _ (by decide +kernel) fun t hf y => ?_
  blk_simp
  rw [after0_5]
  refine (point m c t ((flush0_5 t).mp hf) y).trans (congrArg (fun i : S8x1024.Idx => dh (V m c main_v11) (m (c, main_arg1)) (i 0) (i 1)) ?_)
  blk_ext [(idx t).2.2.2.2.2]

/-- The padding's zeros add nothing. -/
theorem padded (dp : S8x6144.Idx → EReal) (d : S1x2048.Idx → EReal) (w : S1024x6144.Idx → EReal)
    (h : ∀ k : Fin 6144, dp (ix2 0 k) = if h : k.val < 2048 then d (ix2 0 ⟨k.val, h⟩) else 0) (j : Fin 1024) : dh dp w 0 j = ds d w j := by
  refine (Fin.sum_univ_add (a := 2048) (b := 4096) (fun k : Fin 6144 => dp (ix2 0 k) * w (ix2 j k))).trans ?_
  have z : ∀ k : Fin 4096, dp (ix2 0 (Fin.natAdd 2048 k)) * w (ix2 j (Fin.natAdd 2048 k)) = 0 := fun k => by
    rw [h, dif_neg (by simp), zero_mul]
  rw [Finset.sum_eq_zero fun k _ => z k, add_zero]
  refine Finset.sum_congr rfl fun k _ => ?_
  have e : dp (ix2 0 (Fin.castAdd 4096 k)) = d (ix2 0 k) := (h _).trans (dif_pos k.isLt)
  exact congrArg (· * _) e

theorem first_row (c : Dev nD) (j : Fin 1024) : dh (V m c main_v11) (m (c, main_arg1)) 0 j = ds (m (c, main_arg0)) (m (c, main_arg1)) j :=
  padded _ _ _ (host_d m c) j

/-- The host's lines after the call: the silu's derivative. -/
theorem tail (W : Valuation τ sig (Elt Ideal)) (X : S8x1024.Idx → EReal) (x : S1x1024.Idx → EReal)
    (hX : W (Proc.devRef .tc main_v13_0) = X) (hx : W (Proc.devRef .tc main_arg2) = x) (j : Fin 1024) :
    (StableHlo.after (List.flatten [hostOps1]) W (Proc.devRef .tc main_v27) : S1x1024.Idx → EReal) (ix2 0 j)
      = back (X (ix2 0 j)) (x (ix2 0 j)) := by
  simp only [hostOps1, List.flatten_cons, List.flatten_nil, List.append_nil, List.cons_append, List.nil_append]
  after_reads_at
  all_goals (try pointwise [back, sg])
  all_goals (try simp only [hX, hx])

end Cert.CCtxIdeal.Value
end
-- ==== Proof.CCtx.Claims.lean ====
/-
  The claims of the gradient of the context's condition.
-/
module

public import proofs.«01_k».proof.Defs
public import proofs.«01_k».proof.Pre_cctx_finite
public import proofs.«01_k».proof.Proof.Common.Finite
public import proofs.«01_k».proof.Proof.CCtx.Block
public import proofs.«01_k».proof.Proof.Gen.CCtx.Frame
public import proofs.«01_k».proof.Proof.Gen.CCtxRefIdeal.Run
public import proofs.«01_k».proof.Proof.Gen.CCtxRefIdeal.Read

@[expose] public section

set_option maxRecDepth 16384

noncomputable section

open Idealize.ShloMosaic Idealize.ShloMosaic.TcCoe Idealize.SL.Sem

namespace Cert.CCtxClaims

open Cert.CCtxIdeal.Value (Gdc ds sg)
open Cert.Finite

/-- The kernel terminates without fault, its arguments unchanged, every counter zero. -/
theorem frame : quiescent_CCtx (hCCtx := Cert.CCtx.Gen.facts) := fun m ρ _ => Cert.CCtx.Gen.frame m ρ

/-- The ideal program, likewise. -/
theorem frame_ideal : quiescent_CCtxIdeal (hCCtxIdeal := Cert.CCtxIdeal.Gen.facts) := fun m ρ _ => Cert.CCtxIdeal.Gen.frame m ρ

/-- The reference, likewise. -/
theorem frame_ref : quiescent_CCtxRefIdeal (hCCtxRefIdeal := Cert.CCtxRefIdeal.Gen.facts) := fun m ρ _ =>
  (θ_run Cert.CCtxRefIdeal.defs _ _).mono (fun r h => ⟨fun c => (h c).2, sem_eq_zero_of_no_sems (by decide) r.2⟩)
    (Cert.CCtxRefIdeal.Value.run m ρ)

section
open Cert.CCtxIdeal Cert.CCtxIdeal.Gen

/-- The kernel leaves the gradient of the condition. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v27) = Gdc (m (c, main_arg0)) (m (c, main_arg1)) (m (c, main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨((h.2 c).2 main_v27 (by decide)).trans ?_, h.1 c⟩) (θ_run_and (unchanged m ρ) (run_main m ρ))
  unfold Pipeline.afterTail₀
  funext i
  obtain ⟨j, rfl⟩ : ∃ j, i = ix2 0 j := ⟨i 1, by idx_vars i; exact congrArg (ix2 · i1) (Subsingleton.elim (α := Fin 1) _ _)⟩
  refine (Cert.CCtxIdeal.Value.tail _ _ (m (c, main_arg2)) ((Pipeline.withArrays_arr_shared spec0 c _ _ (Pipeline.Dat.arrAt_sharedIn (dats m 0 c) (by decide) (V0 m c) (A_eq m c) cfg0.N) 5).trans (Cert.CCtxIdeal.Value.left5 m c))
    ((Pipeline.withArrays_of_ne spec0 c _ _ main_arg2 (by decide)).trans (V_main_arg2 m c)) j).trans ?_
  exact congrArg (Cert.CCtxIdeal.Value.back · (m (c, main_arg2) (ix2 0 j)))
    (Cert.CCtxIdeal.Value.first_row m c j)
end

/-- The sigmoid of a number is one. -/
theorem sg_real {x : EReal} : Real' x → Real' (sg x) := fun ⟨r, e⟩ => by
  have h : (1 + Real.exp (-r) : ℝ) ≠ 0 := by positivity
  rw [sg, e, ← EReal.coe_neg, Ideal.exp_coe, ← EReal.coe_one, ← EReal.coe_add, Ideal.div_coe h]
  exact ⟨_, (EReal.coe_mul _ _).symm⟩

section
open Cert.CCtxRefIdeal Cert.CCtxRefIdeal.Read
variable (d : S1x2048.Idx → EReal) (w : S1024x6144.Idx → EReal) (x : S1x1024.Idx → EReal)

theorem r_ds (j : Fin 1024) : val_main_v3 (F := Ideal) d w (ix2 0 j) = ds d w j := by
  pointwise [val_main_v3, val_main_v1, ds]

theorem r_sg (j : Fin 1024) : val_main_v0_2 (F := Ideal) x (ix2 0 j) = sg (x (ix2 0 j)) := by
  pointwise [val_main_v0_2, val_main_call0_v4, val_main_call0_cst_0, val_main_call0_v3, val_main_call0_v2, val_main_call0_cst, val_main_call0_v1, val_main_call0_v0, sg]

/-- On finite arguments the reference's result is the gradient. -/
theorem ref_dc (h0 : ∀ i, Real' (d i)) (h1 : ∀ i, Real' (w i)) (h2 : ∀ i, Real' (x i)) : val_main_v4 (F := Ideal) d w x = Gdc d w x := by
  funext i
  obtain ⟨j, rfl⟩ : ∃ j, i = ix2 0 j := ⟨i 1, by idx_vars i; exact congrArg (ix2 · i1) (Subsingleton.elim (α := Fin 1) _ _)⟩
  have e : val_main_v4 (F := Ideal) d w x (ix2 0 j)
      = ds d w j * sg (x (ix2 0 j)) + x (ix2 0 j) * ds d w j * (sg (x (ix2 0 j)) * (1 - sg (x (ix2 0 j)))) := by
    pointwise [val_main_v4, val_main_call1_v2, val_main_call1_v1, val_main_call1_v0, val_main_v0_1, val_main_call0_v7, val_main_call0_v6, val_main_call0_cst_1, r_ds, r_sg]
  have g : Gdc d w x (ix2 0 j) = ds d w j * sg (x (ix2 0 j)) * (1 + x (ix2 0 j) * (1 - sg (x (ix2 0 j)))) := rfl
  obtain ⟨p, hp⟩ : Real' (ds d w j) := Real'.sum fun k => (h0 _).mul (h1 _)
  obtain ⟨s, hs⟩ : Real' (sg (x (ix2 0 j))) := sg_real (h2 _)
  obtain ⟨a, ha⟩ := h2 (ix2 0 j)
  rw [e, g, hp, hs, ha, ← EReal.coe_one]
  simp only [← EReal.coe_sub, ← EReal.coe_mul, ← EReal.coe_add]
  exact congrArg _ (by ring)
end

section
open Cert.Pre_cctx_finite
variable [Cert.Pre_cctx_finite.Facts]
open Cert.Pre_cctx_finite.Facts

/-- What the precondition says, argument by argument. -/
theorem finite_all (d : FVec Ideal S1x2048 .f32) (w : FVec Ideal S1024x6144 .f32) (x : FVec Ideal S1x1024 .f32) (h : fn (F := Ideal) d w x = fun _ => 1#1) :
    (∀ i, Real' (d i)) ∧ (∀ i, Real' (w i)) ∧ (∀ i, Real' (x i)) := by
  unfold fn at h
  dsimp only at h
  obtain ⟨h, h2⟩ := both h
  obtain ⟨h, h1⟩ := both h
  refine ⟨fun i => real_of_lt ?_, fun i => real_of_lt ?_, fun i => real_of_lt ?_⟩
  · exact Host.reduce_andi_all _ _ _ _ _ (congrFun h (Shape.Idx.first h_S_)) i
  · exact Host.reduce_andi_all _ _ _ _ _ (congrFun h1 (Shape.Idx.first h_S_)) i
  · exact Host.reduce_andi_all _ _ _ _ _ (congrFun h2 (Shape.Idx.first h_S_)) i
end

variable [hPre : Cert.Pre_cctx_finite.Facts]

/-- The ideal program and the reference on finite arguments: as on any. -/
theorem frame_ideal_pre : quiescent_CCtxIdeal_pre_cctx_finite (hCCtxIdeal := Cert.CCtxIdeal.Gen.facts) := fun m ρ _ => frame_ideal m ρ trivial
theorem frame_ref_pre : quiescent_CCtxRefIdeal_pre_cctx_finite (hCCtxRefIdeal := Cert.CCtxRefIdeal.Gen.facts) := fun m ρ _ => frame_ref m ρ trivial

/-- On finite arguments kernel and reference leave the same array. -/
theorem value : algebraic_CCtxIdeal_CCtxRefIdeal_pre_cctx_finite (hCCtxIdeal := Cert.CCtxIdeal.Gen.facts) (hCCtxRefIdeal := Cert.CCtxRefIdeal.Gen.facts) := by
  intro m ρ m' ρ' hpre hargs
  refine ⟨fun c => Gdc (m (c, Cert.CCtxIdeal.main_arg0)) (m (c, Cert.CCtxIdeal.main_arg1)) (m (c, Cert.CCtxIdeal.main_arg2)), run m ρ, ?_⟩
  refine (θ_run Cert.CCtxRefIdeal.defs _ _).mono (fun r h c => ⟨(h c).1.trans ?_, (h c).2⟩) (Cert.CCtxRefIdeal.Value.run (F := Ideal) m' ρ')
  obtain ⟨a0, a1, a2⟩ := hargs c
  obtain ⟨h0, h1, h2⟩ := finite_all _ _ _ (hpre c)
  refine (Cert.CCtxRefIdeal.Read.val_main_v4_eq (F := Ideal) _ _ _).trans ?_
  rw [a0, a1, a2]
  exact ref_dc _ _ _ h0 h1 h2

end Cert.CCtxClaims
end
-- ==== Proof.PrepCtx.Claims.lean ====
/-
  The frames of the gradient of the norm and the rotation of the context's keys.
-/
module

public import proofs.«01_k».proof.Defs
public import proofs.«01_k».proof.Proof.Gen.PrepCtx.Frame
public import proofs.«01_k».proof.Proof.Gen.PrepCtxIdeal.Frame
public import proofs.«01_k».proof.Proof.Gen.PrepCtxRefIdeal.Run

@[expose] public section

noncomputable section

open Idealize.ShloMosaic Idealize.ShloMosaic.TcCoe Idealize.SL.Sem

namespace Cert.PrepCtxClaims

/-- The kernel terminates without fault, its arguments unchanged, every counter zero. -/
theorem frame : quiescent_PrepCtx (hPrepCtx := Cert.PrepCtx.Gen.facts) := fun m ρ _ => Cert.PrepCtx.Gen.frame m ρ

/-- The ideal program, likewise. -/
theorem frame_ideal : quiescent_PrepCtxIdeal (hPrepCtxIdeal := Cert.PrepCtxIdeal.Gen.facts) := fun m ρ _ => Cert.PrepCtxIdeal.Gen.frame m ρ

/-- The reference, likewise. -/
theorem frame_ref : quiescent_PrepCtxRefIdeal (hPrepCtxRefIdeal := Cert.PrepCtxRefIdeal.Gen.facts) := fun m ρ _ =>
  (θ_run Cert.PrepCtxRefIdeal.defs _ _).mono (fun r h => ⟨fun c => (h c).2.2, sem_eq_zero_of_no_sems (by decide) r.2⟩)
    (Cert.PrepCtxRefIdeal.Value.run m ρ)

end Cert.PrepCtxClaims
end
-- ==== Proof.lean ====
module

public import proofs.«01_k».proof.Defs
public import proofs.«01_k».proof.Proof.ConvIn.Claims
public import proofs.«01_k».proof.Proof.Merge.Claims
public import proofs.«01_k».proof.Proof.Glob.Claims
public import proofs.«01_k».proof.Proof.Mod.Claims
public import proofs.«01_k».proof.Proof.Up.Claims
public import proofs.«01_k».proof.Proof.Down.Claims
public import proofs.«01_k».proof.Proof.Prep.Claims
public import proofs.«01_k».proof.Proof.Act.Claims
public import proofs.«01_k».proof.Proof.DwMod.Claims
public import proofs.«01_k».proof.Proof.DwIn.Claims
public import proofs.«01_k».proof.Proof.DwUp.Claims
public import proofs.«01_k».proof.Proof.DwCtx.Claims
public import proofs.«01_k».proof.Proof.ModCtx.Claims
public import proofs.«01_k».proof.Proof.CCtx.Claims
public import proofs.«01_k».proof.Proof.PrepCtx.Claims
public import proofs.«01_k».proof.Proof.Gen.ConvInIdeal.Value
public import proofs.«01_k».proof.Proof.Gen.ConvInRefIdeal.Run
public import proofs.«01_k».proof.Proof.Gen.ConvInRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Glob
public import proofs.«01_k».proof.Proof.Gen.GlobIdeal
public import proofs.«01_k».proof.Proof.Gen.GlobIdeal.Frame
public import proofs.«01_k».proof.Proof.Gen.GlobIdeal.Loops
public import proofs.«01_k».proof.Proof.Gen.GlobIdeal.Skeleton
public import proofs.«01_k».proof.Proof.Gen.GlobIdeal.Launch
public import proofs.«01_k».proof.Proof.Gen.GlobIdeal.Points
public import proofs.«01_k».proof.Proof.Gen.GlobRefIdeal
public import proofs.«01_k».proof.Proof.Gen.GlobRefIdeal.Run
public import proofs.«01_k».proof.Proof.Gen.GlobRefIdeal.Read
public import proofs.«01_k».proof.Proof.Gen.Pre_glob_finite
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Value
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.ModRefIdeal.Run
public import proofs.«01_k».proof.Proof.Gen.ModRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Value
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Value
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.DownRefIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Value
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Pre_prep_finite
public import proofs.«01_k».proof.Proof.Gen.Pre_up_finite
public import proofs.«01_k».proof.Proof.Gen.Pre_down_finite
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Value
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActRefIdeal
public import proofs.«01_k».proof.Proof.Gen.ActRefIdeal.Run
public import proofs.«01_k».proof.Proof.Gen.ActRefIdeal.Read
public import proofs.«01_k».proof.Proof.Gen.Pre_act_finite
public import proofs.«01_k».proof.Proof.Gen.DwMod
public import proofs.«01_k».proof.Proof.Gen.DwMod.Skeleton
public import proofs.«01_k».proof.Proof.Gen.DwMod.Launch
public import proofs.«01_k».proof.Proof.Gen.DwMod.Points
public import proofs.«01_k».proof.Proof.Gen.DwMod.Frame
public import proofs.«01_k».proof.Proof.Gen.DwModIdeal
public import proofs.«01_k».proof.Proof.Gen.DwModIdeal.Value
public import proofs.«01_k».proof.Proof.Gen.DwModIdeal.Skeleton
public import proofs.«01_k».proof.Proof.Gen.DwModIdeal.Launch
public import proofs.«01_k».proof.Proof.Gen.DwModIdeal.Points
public import proofs.«01_k».proof.Proof.Gen.DwModIdeal.Frame
public import proofs.«01_k».proof.Proof.Gen.DwModRefIdeal
public import proofs.«01_k».proof.Proof.Gen.DwModRefIdeal.Run
public import proofs.«01_k».proof.Proof.Gen.DwModRefIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Value
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Value
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.DwUpRefIdeal.Run
public import proofs.«01_k».proof.Proof.Gen.DwUpRefIdeal.Read
public import proofs.«01_k».proof.Proof.Gen.DwCtx
public import proofs.«01_k».proof.Proof.Gen.DwCtx.Skeleton
public import proofs.«01_k».proof.Proof.Gen.DwCtx.Launch
public import proofs.«01_k».proof.Proof.Gen.DwCtx.Points
public import proofs.«01_k».proof.Proof.Gen.DwCtx.Frame
public import proofs.«01_k».proof.Proof.Gen.DwCtxIdeal
public import proofs.«01_k».proof.Proof.Gen.DwCtxIdeal.Value
public import proofs.«01_k».proof.Proof.Gen.DwCtxIdeal.Skeleton
public import proofs.«01_k».proof.Proof.Gen.DwCtxIdeal.Launch
public import proofs.«01_k».proof.Proof.Gen.DwCtxIdeal.Points
public import proofs.«01_k».proof.Proof.Gen.DwCtxIdeal.Frame
public import proofs.«01_k».proof.Proof.Gen.DwCtxRefIdeal
public import proofs.«01_k».proof.Proof.Gen.DwCtxRefIdeal.Run
public import proofs.«01_k».proof.Proof.Gen.DwCtxRefIdeal.Read
public import proofs.«01_k».proof.Proof.Gen.Pre_dwmod_finite
public import proofs.«01_k».proof.Proof.Gen.ModCtx
public import proofs.«01_k».proof.Proof.Gen.ModCtx.Skeleton
public import proofs.«01_k».proof.Proof.Gen.ModCtx.Launch
public import proofs.«01_k».proof.Proof.Gen.ModCtx.Points
public import proofs.«01_k».proof.Proof.Gen.ModCtx.Frame
public import proofs.«01_k».proof.Proof.Gen.ModCtxIdeal
public import proofs.«01_k».proof.Proof.Gen.ModCtxIdeal.Value
public import proofs.«01_k».proof.Proof.Gen.ModCtxIdeal.Skeleton
public import proofs.«01_k».proof.Proof.Gen.ModCtxIdeal.Launch
public import proofs.«01_k».proof.Proof.Gen.ModCtxIdeal.Points
public import proofs.«01_k».proof.Proof.Gen.ModCtxIdeal.Frame
public import proofs.«01_k».proof.Proof.Gen.ModCtxRefIdeal
public import proofs.«01_k».proof.Proof.Gen.ModCtxRefIdeal.Run
public import proofs.«01_k».proof.Proof.Gen.ModCtxRefIdeal.Read
public import proofs.«01_k».proof.Proof.Gen.Pre_cctx_finite
public import Idealize.ShloMosaic.Adequacy
public import Idealize.ShloMosaic.Init

@[expose] public section

noncomputable section

namespace Cert.Proof

open Idealize.ShloMosaic Idealize.SL.Sem

theorem claim : Cert.Claim := ⟨Cert.ConvIn.Gen.facts, Cert.ConvInIdeal.Gen.facts, Cert.ConvInRefIdeal.Gen.facts, Cert.Merge.Gen.facts, Cert.MergeIdeal.Gen.facts, Cert.MergeRefIdeal.Gen.facts, Cert.Glob.Gen.facts, Cert.GlobIdeal.Gen.facts, Cert.GlobRefIdeal.Gen.facts, Cert.Mod.Gen.facts, Cert.ModIdeal.Gen.facts, Cert.ModRefIdeal.Gen.facts, Cert.Up.Gen.facts, Cert.UpIdeal.Gen.facts, Cert.UpRefIdeal.Gen.facts, Cert.Down.Gen.facts, Cert.DownIdeal.Gen.facts, Cert.DownRefIdeal.Gen.facts, Cert.Prep.Gen.facts, Cert.PrepIdeal.Gen.facts, Cert.PrepRefIdeal.Gen.facts, Cert.Act.Gen.facts, Cert.ActIdeal.Gen.facts, Cert.ActRefIdeal.Gen.facts, Cert.DwMod.Gen.facts, Cert.DwModIdeal.Gen.facts, Cert.DwModRefIdeal.Gen.facts, Cert.DwIn.Gen.facts, Cert.DwInIdeal.Gen.facts, Cert.DwInRefIdeal.Gen.facts, Cert.DwUp.Gen.facts, Cert.DwUpIdeal.Gen.facts, Cert.DwUpRefIdeal.Gen.facts, Cert.DwCtx.Gen.facts, Cert.DwCtxIdeal.Gen.facts, Cert.DwCtxRefIdeal.Gen.facts, Cert.ModCtx.Gen.facts, Cert.ModCtxIdeal.Gen.facts, Cert.ModCtxRefIdeal.Gen.facts, Cert.CCtx.Gen.facts, Cert.CCtxIdeal.Gen.facts, Cert.CCtxRefIdeal.Gen.facts, Cert.PrepCtx.Gen.facts, Cert.PrepCtxIdeal.Gen.facts, Cert.PrepCtxRefIdeal.Gen.facts, Cert.Pre_glob_finite.Gen.facts, Cert.Pre_up_finite.Gen.facts, Cert.Pre_down_finite.Gen.facts, Cert.Pre_prep_finite.Gen.facts, Cert.Pre_act_finite.Gen.facts, Cert.Pre_dwmod_finite.Gen.facts, Cert.Pre_cctx_finite.Gen.facts,
  ConvInClaims.frame, ConvInClaims.frame_ideal, ConvInClaims.frame_ref,
  MergeClaims.frame, MergeClaims.frame_ideal, MergeClaims.frame_ref,
  GlobClaims.frame, GlobClaims.frame_ideal, GlobClaims.frame_ideal_pre, GlobClaims.frame_ref, GlobClaims.frame_ref_pre,
  ModClaims.frame, ModClaims.frame_ideal, ModClaims.frame_ref,
  UpClaims.frame, UpClaims.frame_ideal, UpClaims.frame_ideal_pre, UpClaims.frame_ref, UpClaims.frame_ref_pre,
  DownClaims.frame, DownClaims.frame_ideal, DownClaims.frame_ideal_pre, DownClaims.frame_ref, DownClaims.frame_ref_pre,
  PrepClaims.frame, PrepClaims.frame_ideal, PrepClaims.frame_ideal_pre, PrepClaims.frame_ref, PrepClaims.frame_ref_pre,
  ActClaims.frame, ActClaims.frame_ideal, ActClaims.frame_ideal_pre, ActClaims.frame_ref, ActClaims.frame_ref_pre,
  DwModClaims.frame, DwModClaims.frame_ideal, DwModClaims.frame_ideal_pre, DwModClaims.frame_ref, DwModClaims.frame_ref_pre,
  DwInClaims.frame, DwInClaims.frame_ideal, DwInClaims.frame_ref,
  DwUpClaims.frame, DwUpClaims.frame_ideal, DwUpClaims.frame_ref,
  DwCtxClaims.frame, DwCtxClaims.frame_ideal, DwCtxClaims.frame_ref,
  ModCtxClaims.frame, ModCtxClaims.frame_ideal, ModCtxClaims.frame_ref,
  CCtxClaims.frame, CCtxClaims.frame_ideal, CCtxClaims.frame_ideal_pre, CCtxClaims.frame_ref, CCtxClaims.frame_ref_pre,
  PrepCtxClaims.frame, PrepCtxClaims.frame_ideal, PrepCtxClaims.frame_ref,
  trivial, ConvInClaims.value,
  trivial, MergeClaims.value,
  trivial, GlobClaims.value,
  trivial, ModClaims.value,
  trivial, UpClaims.value,
  trivial, DownClaims.value,
  trivial, PrepClaims.value,
  trivial, ActClaims.value,
  trivial, DwModClaims.value,
  trivial, DwInClaims.value,
  trivial, DwUpClaims.value,
  trivial, DwCtxClaims.value,
  trivial, ModCtxClaims.value,
  trivial, CCtxClaims.value,
  trivial⟩

end Cert.Proof

end
